-- ==== Defs.lean ====
def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_AllToAll (m : (ℓ : Loc Cert.AllToAll.nD Cert.AllToAll.τ Cert.AllToAll.sig) → Buf (Elt Bits) ℓ) : Prop :=
  True

def Pre_AllToAllIdeal (m : (ℓ : Loc Cert.AllToAllIdeal.nD Cert.AllToAllIdeal.τ Cert.AllToAllIdeal.sig) → Buf (Elt Ideal) ℓ) : Prop :=
  True

def Pre_AllToAllRefIdeal (m : (ℓ : Loc Cert.AllToAllRefIdeal.nD Cert.AllToAllRefIdeal.τ Cert.AllToAllRefIdeal.sig) → Buf (Elt Ideal) ℓ) : Prop :=
  True

def Pre_AllToAllRef (m : (ℓ : Loc Cert.AllToAllRef.nD Cert.AllToAllRef.τ Cert.AllToAllRef.sig) → Buf (Elt Bits) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_PairRef (m : (ℓ : Loc Cert.PairRef.nD Cert.PairRef.τ Cert.PairRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Add (m : (ℓ : Loc Cert.Add.nD Cert.Add.τ Cert.Add.sig) → Buf (Elt Bits) ℓ) : Prop :=
  True

def Pre_AddIdeal (m : (ℓ : Loc Cert.AddIdeal.nD Cert.AddIdeal.τ Cert.AddIdeal.sig) → Buf (Elt Ideal) ℓ) : Prop :=
  True

def Pre_AddRefIdeal (m : (ℓ : Loc Cert.AddRefIdeal.nD Cert.AddRefIdeal.τ Cert.AddRefIdeal.sig) → Buf (Elt Ideal) ℓ) : Prop :=
  True

def Pre_AddRef (m : (ℓ : Loc Cert.AddRef.nD Cert.AddRef.τ Cert.AddRef.sig) → Buf (Elt Bits) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_AdamWNorm (m : (ℓ : Loc Cert.AdamWNorm.nD Cert.AdamWNorm.τ Cert.AdamWNorm.sig) → Buf (Elt Bits) ℓ) : Prop :=
  True

def Pre_AdamWNormIdeal (m : (ℓ : Loc Cert.AdamWNormIdeal.nD Cert.AdamWNormIdeal.τ Cert.AdamWNormIdeal.sig) → Buf (Elt Ideal) ℓ) : Prop :=
  True

def Pre_AdamWNormRefIdeal (m : (ℓ : Loc Cert.AdamWNormRefIdeal.nD Cert.AdamWNormRefIdeal.τ Cert.AdamWNormRefIdeal.sig) → Buf (Elt Ideal) ℓ) : Prop :=
  True

def Pre_AdamWFinal (m : (ℓ : Loc Cert.AdamWFinal.nD Cert.AdamWFinal.τ Cert.AdamWFinal.sig) → Buf (Elt Bits) ℓ) : Prop :=
  True

def Pre_AdamWFinalIdeal (m : (ℓ : Loc Cert.AdamWFinalIdeal.nD Cert.AdamWFinalIdeal.τ Cert.AdamWFinalIdeal.sig) → Buf (Elt Ideal) ℓ) : Prop :=
  True

def Pre_AdamWFinalRefIdeal (m : (ℓ : Loc Cert.AdamWFinalRefIdeal.nD Cert.AdamWFinalRefIdeal.τ Cert.AdamWFinalRefIdeal.sig) → Buf (Elt Ideal) ℓ) : Prop :=
  True

def Pre_AdamWChannel (m : (ℓ : Loc Cert.AdamWChannel.nD Cert.AdamWChannel.τ Cert.AdamWChannel.sig) → Buf (Elt Bits) ℓ) : Prop :=
  True

def Pre_AdamWChannelIdeal (m : (ℓ : Loc Cert.AdamWChannelIdeal.nD Cert.AdamWChannelIdeal.τ Cert.AdamWChannelIdeal.sig) → Buf (Elt Ideal) ℓ) : Prop :=
  True

def Pre_AdamWChannelRefIdeal (m : (ℓ : Loc Cert.AdamWChannelRefIdeal.nD Cert.AdamWChannelRefIdeal.τ Cert.AdamWChannelRefIdeal.sig) → Buf (Elt Ideal) ℓ) : Prop :=
  True

def Pre_AdamWConvA (m : (ℓ : Loc Cert.AdamWConvA.nD Cert.AdamWConvA.τ Cert.AdamWConvA.sig) → Buf (Elt Bits) ℓ) : Prop :=
  True

def Pre_AdamWConvAIdeal (m : (ℓ : Loc Cert.AdamWConvAIdeal.nD Cert.AdamWConvAIdeal.τ Cert.AdamWConvAIdeal.sig) → Buf (Elt Ideal) ℓ) : Prop :=
  True

def Pre_AdamWConvARefIdeal (m : (ℓ : Loc Cert.AdamWConvARefIdeal.nD Cert.AdamWConvARefIdeal.τ Cert.AdamWConvARefIdeal.sig) → Buf (Elt Ideal) ℓ) : Prop :=
  True

def Pre_AdamWConvB (m : (ℓ : Loc Cert.AdamWConvB.nD Cert.AdamWConvB.τ Cert.AdamWConvB.sig) → Buf (Elt Bits) ℓ) : Prop :=
  True

def Pre_AdamWConvBIdeal (m : (ℓ : Loc Cert.AdamWConvBIdeal.nD Cert.AdamWConvBIdeal.τ Cert.AdamWConvBIdeal.sig) → Buf (Elt Ideal) ℓ) : Prop :=
  True

def Pre_AdamWConvBRefIdeal (m : (ℓ : Loc Cert.AdamWConvBRefIdeal.nD Cert.AdamWConvBRefIdeal.τ Cert.AdamWConvBRefIdeal.sig) → Buf (Elt Ideal) ℓ) : Prop :=
  True

def Pre_AdamWGate (m : (ℓ : Loc Cert.AdamWGate.nD Cert.AdamWGate.τ Cert.AdamWGate.sig) → Buf (Elt Bits) ℓ) : Prop :=
  True

def Pre_AdamWGateIdeal (m : (ℓ : Loc Cert.AdamWGateIdeal.nD Cert.AdamWGateIdeal.τ Cert.AdamWGateIdeal.sig) → Buf (Elt Ideal) ℓ) : Prop :=
  True

def Pre_AdamWGateRefIdeal (m : (ℓ : Loc Cert.AdamWGateRefIdeal.nD Cert.AdamWGateRefIdeal.τ Cert.AdamWGateRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWQkv (m : (ℓ : Loc Cert.AdamWQkv.nD Cert.AdamWQkv.τ Cert.AdamWQkv.sig) → Buf (Elt Bits) ℓ) : Prop :=
  True

def Pre_AdamWQkvIdeal (m : (ℓ : Loc Cert.AdamWQkvIdeal.nD Cert.AdamWQkvIdeal.τ Cert.AdamWQkvIdeal.sig) → Buf (Elt Ideal) ℓ) : Prop :=
  True

def Pre_AdamWQkvRefIdeal (m : (ℓ : Loc Cert.AdamWQkvRefIdeal.nD Cert.AdamWQkvRefIdeal.τ Cert.AdamWQkvRefIdeal.sig) → Buf (Elt Ideal) ℓ) : Prop :=
  True

def Pre_AdamWMlp (m : (ℓ : Loc Cert.AdamWMlp.nD Cert.AdamWMlp.τ Cert.AdamWMlp.sig) → Buf (Elt Bits) ℓ) : Prop :=
  True

def Pre_AdamWMlpIdeal (m : (ℓ : Loc Cert.AdamWMlpIdeal.nD Cert.AdamWMlpIdeal.τ Cert.AdamWMlpIdeal.sig) → Buf (Elt Ideal) ℓ) : Prop :=
  True

def Pre_AdamWMlpRefIdeal (m : (ℓ : Loc Cert.AdamWMlpRefIdeal.nD Cert.AdamWMlpRefIdeal.τ Cert.AdamWMlpRefIdeal.sig) → Buf (Elt Ideal) ℓ) : Prop :=
  True

def Pre_AdamWProj (m : (ℓ : Loc Cert.AdamWProj.nD Cert.AdamWProj.τ Cert.AdamWProj.sig) → Buf (Elt Bits) ℓ) : Prop :=
  True

def Pre_AdamWProjIdeal (m : (ℓ : Loc Cert.AdamWProjIdeal.nD Cert.AdamWProjIdeal.τ Cert.AdamWProjIdeal.sig) → Buf (Elt Ideal) ℓ) : Prop :=
  True

def Pre_AdamWProjRefIdeal (m : (ℓ : Loc Cert.AdamWProjRefIdeal.nD Cert.AdamWProjRefIdeal.τ Cert.AdamWProjRefIdeal.sig) → Buf (Elt Ideal) ℓ) : Prop :=
  True

def Pre_AdamWPle (m : (ℓ : Loc Cert.AdamWPle.nD Cert.AdamWPle.τ Cert.AdamWPle.sig) → Buf (Elt Bits) ℓ) : Prop :=
  True

def Pre_AdamWPleIdeal (m : (ℓ : Loc Cert.AdamWPleIdeal.nD Cert.AdamWPleIdeal.τ Cert.AdamWPleIdeal.sig) → Buf (Elt Ideal) ℓ) : Prop :=
  True

def Pre_AdamWPleRefIdeal (m : (ℓ : Loc Cert.AdamWPleRefIdeal.nD Cert.AdamWPleRefIdeal.τ Cert.AdamWPleRefIdeal.sig) → Buf (Elt Ideal) ℓ) : Prop :=
  True

def Pre_NnIn (m : (ℓ : Loc Cert.NnIn.nD Cert.NnIn.τ Cert.NnIn.sig) → Buf (Elt Bits) ℓ) : Prop :=
  True

def Pre_NnInIdeal (m : (ℓ : Loc Cert.NnInIdeal.nD Cert.NnInIdeal.τ Cert.NnInIdeal.sig) → Buf (Elt Ideal) ℓ) : Prop :=
  True

def Pre_NnInRefIdeal (m : (ℓ : Loc Cert.NnInRefIdeal.nD Cert.NnInRefIdeal.τ Cert.NnInRefIdeal.sig) → Buf (Elt Ideal) ℓ) : Prop :=
  True

def Pre_NtIn (m : (ℓ : Loc Cert.NtIn.nD Cert.NtIn.τ Cert.NtIn.sig) → Buf (Elt Bits) ℓ) : Prop :=
  True

def Pre_NtInIdeal (m : (ℓ : Loc Cert.NtInIdeal.nD Cert.NtInIdeal.τ Cert.NtInIdeal.sig) → Buf (Elt Ideal) ℓ) : Prop :=
  True

def Pre_NtInRefIdeal (m : (ℓ : Loc Cert.NtInRefIdeal.nD Cert.NtInRefIdeal.τ Cert.NtInRefIdeal.sig) → Buf (Elt Ideal) ℓ) : Prop :=
  True

def Pre_TnIn (m : (ℓ : Loc Cert.TnIn.nD Cert.TnIn.τ Cert.TnIn.sig) → Buf (Elt Bits) ℓ) : Prop :=
  True

def Pre_TnInIdeal (m : (ℓ : Loc Cert.TnInIdeal.nD Cert.TnInIdeal.τ Cert.TnInIdeal.sig) → Buf (Elt Ideal) ℓ) : Prop :=
  True

def Pre_TnInRefIdeal (m : (ℓ : Loc Cert.TnInRefIdeal.nD Cert.TnInRefIdeal.τ Cert.TnInRefIdeal.sig) → Buf (Elt Ideal) ℓ) : Prop :=
  True

def Pre_NnSquare (m : (ℓ : Loc Cert.NnSquare.nD Cert.NnSquare.τ Cert.NnSquare.sig) → Buf (Elt Bits) ℓ) : Prop :=
  True

def Pre_NnSquareIdeal (m : (ℓ : Loc Cert.NnSquareIdeal.nD Cert.NnSquareIdeal.τ Cert.NnSquareIdeal.sig) → Buf (Elt Ideal) ℓ) : Prop :=
  True

def Pre_NnSquareRefIdeal (m : (ℓ : Loc Cert.NnSquareRefIdeal.nD Cert.NnSquareRefIdeal.τ Cert.NnSquareRefIdeal.sig) → Buf (Elt Ideal) ℓ) : Prop :=
  True

def Pre_NtSquare (m : (ℓ : Loc Cert.NtSquare.nD Cert.NtSquare.τ Cert.NtSquare.sig) → Buf (Elt Bits) ℓ) : Prop :=
  True

def Pre_NtSquareIdeal (m : (ℓ : Loc Cert.NtSquareIdeal.nD Cert.NtSquareIdeal.τ Cert.NtSquareIdeal.sig) → Buf (Elt Ideal) ℓ) : Prop :=
  True

def Pre_NtSquareRefIdeal (m : (ℓ : Loc Cert.NtSquareRefIdeal.nD Cert.NtSquareRefIdeal.τ Cert.NtSquareRefIdeal.sig) → Buf (Elt Ideal) ℓ) : Prop :=
  True

def Pre_TnSquare (m : (ℓ : Loc Cert.TnSquare.nD Cert.TnSquare.τ Cert.TnSquare.sig) → Buf (Elt Bits) ℓ) : Prop :=
  True

def Pre_TnSquareIdeal (m : (ℓ : Loc Cert.TnSquareIdeal.nD Cert.TnSquareIdeal.τ Cert.TnSquareIdeal.sig) → Buf (Elt Ideal) ℓ) : Prop :=
  True

def Pre_TnSquareRefIdeal (m : (ℓ : Loc Cert.TnSquareRefIdeal.nD Cert.TnSquareRefIdeal.τ Cert.TnSquareRefIdeal.sig) → Buf (Elt Ideal) ℓ) : Prop :=
  True

def Pre_NnQkv (m : (ℓ : Loc Cert.NnQkv.nD Cert.NnQkv.τ Cert.NnQkv.sig) → Buf (Elt Bits) ℓ) : Prop :=
  True

def Pre_NnQkvIdeal (m : (ℓ : Loc Cert.NnQkvIdeal.nD Cert.NnQkvIdeal.τ Cert.NnQkvIdeal.sig) → Buf (Elt Ideal) ℓ) : Prop :=
  True

def Pre_NnQkvRefIdeal (m : (ℓ : Loc Cert.NnQkvRefIdeal.nD Cert.NnQkvRefIdeal.τ Cert.NnQkvRefIdeal.sig) → Buf (Elt Ideal) ℓ) : Prop :=
  True

def Pre_NtQkv (m : (ℓ : Loc Cert.NtQkv.nD Cert.NtQkv.τ Cert.NtQkv.sig) → Buf (Elt Bits) ℓ) : Prop :=
  True

def Pre_NtQkvIdeal (m : (ℓ : Loc Cert.NtQkvIdeal.nD Cert.NtQkvIdeal.τ Cert.NtQkvIdeal.sig) → Buf (Elt Ideal) ℓ) : Prop :=
  True

def Pre_NtQkvRefIdeal (m : (ℓ : Loc Cert.NtQkvRefIdeal.nD Cert.NtQkvRefIdeal.τ Cert.NtQkvRefIdeal.sig) → Buf (Elt Ideal) ℓ) : Prop :=
  True

def Pre_TnQkv (m : (ℓ : Loc Cert.TnQkv.nD Cert.TnQkv.τ Cert.TnQkv.sig) → Buf (Elt Bits) ℓ) : Prop :=
  True

def Pre_TnQkvIdeal (m : (ℓ : Loc Cert.TnQkvIdeal.nD Cert.TnQkvIdeal.τ Cert.TnQkvIdeal.sig) → Buf (Elt Ideal) ℓ) : Prop :=
  True

def Pre_TnQkvRefIdeal (m : (ℓ : Loc Cert.TnQkvRefIdeal.nD Cert.TnQkvRefIdeal.τ Cert.TnQkvRefIdeal.sig) → Buf (Elt Ideal) ℓ) : Prop :=
  True

def Pre_NnUp (m : (ℓ : Loc Cert.NnUp.nD Cert.NnUp.τ Cert.NnUp.sig) → Buf (Elt Bits) ℓ) : Prop :=
  True

def Pre_NnUpIdeal (m : (ℓ : Loc Cert.NnUpIdeal.nD Cert.NnUpIdeal.τ Cert.NnUpIdeal.sig) → Buf (Elt Ideal) ℓ) : Prop :=
  True

def Pre_NnUpRefIdeal (m : (ℓ : Loc Cert.NnUpRefIdeal.nD Cert.NnUpRefIdeal.τ Cert.NnUpRefIdeal.sig) → Buf (Elt Ideal) ℓ) : Prop :=
  True

def Pre_NtUp (m : (ℓ : Loc Cert.NtUp.nD Cert.NtUp.τ Cert.NtUp.sig) → Buf (Elt Bits) ℓ) : Prop :=
  True

def Pre_NtUpIdeal (m : (ℓ : Loc Cert.NtUpIdeal.nD Cert.NtUpIdeal.τ Cert.NtUpIdeal.sig) → Buf (Elt Ideal) ℓ) : Prop :=
  True

def Pre_NtUpRefIdeal (m : (ℓ : Loc Cert.NtUpRefIdeal.nD Cert.NtUpRefIdeal.τ Cert.NtUpRefIdeal.sig) → Buf (Elt Ideal) ℓ) : Prop :=
  True

def Pre_TnUp (m : (ℓ : Loc Cert.TnUp.nD Cert.TnUp.τ Cert.TnUp.sig) → Buf (Elt Bits) ℓ) : Prop :=
  True

def Pre_TnUpIdeal (m : (ℓ : Loc Cert.TnUpIdeal.nD Cert.TnUpIdeal.τ Cert.TnUpIdeal.sig) → Buf (Elt Ideal) ℓ) : Prop :=
  True

def Pre_TnUpRefIdeal (m : (ℓ : Loc Cert.TnUpRefIdeal.nD Cert.TnUpRefIdeal.τ Cert.TnUpRefIdeal.sig) → Buf (Elt Ideal) ℓ) : Prop :=
  True

def Pre_NnDown (m : (ℓ : Loc Cert.NnDown.nD Cert.NnDown.τ Cert.NnDown.sig) → Buf (Elt Bits) ℓ) : Prop :=
  True

def Pre_NnDownIdeal (m : (ℓ : Loc Cert.NnDownIdeal.nD Cert.NnDownIdeal.τ Cert.NnDownIdeal.sig) → Buf (Elt Ideal) ℓ) : Prop :=
  True

def Pre_NnDownRefIdeal (m : (ℓ : Loc Cert.NnDownRefIdeal.nD Cert.NnDownRefIdeal.τ Cert.NnDownRefIdeal.sig) → Buf (Elt Ideal) ℓ) : Prop :=
  True

def Pre_NtDown (m : (ℓ : Loc Cert.NtDown.nD Cert.NtDown.τ Cert.NtDown.sig) → Buf (Elt Bits) ℓ) : Prop :=
  True

def Pre_NtDownIdeal (m : (ℓ : Loc Cert.NtDownIdeal.nD Cert.NtDownIdeal.τ Cert.NtDownIdeal.sig) → Buf (Elt Ideal) ℓ) : Prop :=
  True

def Pre_NtDownRefIdeal (m : (ℓ : Loc Cert.NtDownRefIdeal.nD Cert.NtDownRefIdeal.τ Cert.NtDownRefIdeal.sig) → Buf (Elt Ideal) ℓ) : Prop :=
  True

def Pre_TnDown (m : (ℓ : Loc Cert.TnDown.nD Cert.TnDown.τ Cert.TnDown.sig) → Buf (Elt Bits) ℓ) : Prop :=
  True

def Pre_TnDownIdeal (m : (ℓ : Loc Cert.TnDownIdeal.nD Cert.TnDownIdeal.τ Cert.TnDownIdeal.sig) → Buf (Elt Ideal) ℓ) : Prop :=
  True

def Pre_TnDownRefIdeal (m : (ℓ : Loc Cert.TnDownRefIdeal.nD Cert.TnDownRefIdeal.τ Cert.TnDownRefIdeal.sig) → Buf (Elt Ideal) ℓ) : Prop :=
  True

def Pre_TnProj (m : (ℓ : Loc Cert.TnProj.nD Cert.TnProj.τ Cert.TnProj.sig) → Buf (Elt Bits) ℓ) : Prop :=
  True

def Pre_TnProjIdeal (m : (ℓ : Loc Cert.TnProjIdeal.nD Cert.TnProjIdeal.τ Cert.TnProjIdeal.sig) → Buf (Elt Ideal) ℓ) : Prop :=
  True

def Pre_TnProjRefIdeal (m : (ℓ : Loc Cert.TnProjRefIdeal.nD Cert.TnProjRefIdeal.τ Cert.TnProjRefIdeal.sig) → Buf (Elt Ideal) ℓ) : Prop :=
  True

def Pre_NtAttn (m : (ℓ : Loc Cert.NtAttn.nD Cert.NtAttn.τ Cert.NtAttn.sig) → Buf (Elt Bits) ℓ) : Prop :=
  True

def Pre_NtAttnIdeal (m : (ℓ : Loc Cert.NtAttnIdeal.nD Cert.NtAttnIdeal.τ Cert.NtAttnIdeal.sig) → Buf (Elt Ideal) ℓ) : Prop :=
  True

def Pre_NtAttnRefIdeal (m : (ℓ : Loc Cert.NtAttnRefIdeal.nD Cert.NtAttnRefIdeal.τ Cert.NtAttnRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_AddNormBack (m : (ℓ : Loc Cert.AddNormBack.nD Cert.AddNormBack.τ Cert.AddNormBack.sig) → Buf (Elt Bits) ℓ) : Prop :=
  True

def Pre_AddNormBackIdeal (m : (ℓ : Loc Cert.AddNormBackIdeal.nD Cert.AddNormBackIdeal.τ Cert.AddNormBackIdeal.sig) → Buf (Elt Ideal) ℓ) : Prop :=
  True

def Pre_AddNormBackRefIdeal (m : (ℓ : Loc Cert.AddNormBackRefIdeal.nD Cert.AddNormBackRefIdeal.τ Cert.AddNormBackRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_HeadsBack (m : (ℓ : Loc Cert.HeadsBack.nD Cert.HeadsBack.τ Cert.HeadsBack.sig) → Buf (Elt Bits) ℓ) : Prop :=
  True

def Pre_HeadsBackIdeal (m : (ℓ : Loc Cert.HeadsBackIdeal.nD Cert.HeadsBackIdeal.τ Cert.HeadsBackIdeal.sig) → Buf (Elt Ideal) ℓ) : Prop :=
  True

def Pre_HeadsBackRefIdeal (m : (ℓ : Loc Cert.HeadsBackRefIdeal.nD Cert.HeadsBackRefIdeal.τ Cert.HeadsBackRefIdeal.sig) → Buf (Elt Ideal) ℓ) : Prop :=
  True

def Pre_NormForward (m : (ℓ : Loc Cert.NormForward.nD Cert.NormForward.τ Cert.NormForward.sig) → Buf (Elt Bits) ℓ) : Prop :=
  True

def Pre_NormForwardIdeal (m : (ℓ : Loc Cert.NormForwardIdeal.nD Cert.NormForwardIdeal.τ Cert.NormForwardIdeal.sig) → Buf (Elt Ideal) ℓ) : Prop :=
  True

def Pre_NormForwardRefIdeal (m : (ℓ : Loc Cert.NormForwardRefIdeal.nD Cert.NormForwardRefIdeal.τ Cert.NormForwardRefIdeal.sig) → Buf (Elt Ideal) ℓ) : Prop :=
  True

def Pre_AddNormForward (m : (ℓ : Loc Cert.AddNormForward.nD Cert.AddNormForward.τ Cert.AddNormForward.sig) → Buf (Elt Bits) ℓ) : Prop :=
  True

def Pre_AddNormForwardIdeal (m : (ℓ : Loc Cert.AddNormForwardIdeal.nD Cert.AddNormForwardIdeal.τ Cert.AddNormForwardIdeal.sig) → Buf (Elt Ideal) ℓ) : Prop :=
  True

def Pre_AddNormForwardRefIdeal (m : (ℓ : Loc Cert.AddNormForwardRefIdeal.nD Cert.AddNormForwardRefIdeal.τ Cert.AddNormForwardRefIdeal.sig) → Buf (Elt Ideal) ℓ) : Prop :=
  True

def Pre_SquareForward (m : (ℓ : Loc Cert.SquareForward.nD Cert.SquareForward.τ Cert.SquareForward.sig) → Buf (Elt Bits) ℓ) : Prop :=
  True

def Pre_SquareForwardIdeal (m : (ℓ : Loc Cert.SquareForwardIdeal.nD Cert.SquareForwardIdeal.τ Cert.SquareForwardIdeal.sig) → Buf (Elt Ideal) ℓ) : Prop :=
  True

def Pre_SquareForwardRefIdeal (m : (ℓ : Loc Cert.SquareForwardRefIdeal.nD Cert.SquareForwardRefIdeal.τ Cert.SquareForwardRefIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_ConvBackRefIdeal (m : (ℓ : Loc Cert.ConvBackRefIdeal.nD Cert.ConvBackRefIdeal.τ Cert.ConvBackRefIdeal.sig) → Buf (Elt Ideal) ℓ) : Prop :=
  True

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_AllToAll [hAllToAll : Cert.AllToAll.Facts] : Prop :=
  ∀ (m : (ℓ : Loc Cert.AllToAll.nD Cert.AllToAll.τ Cert.AllToAll.sig) → Buf (Elt Bits) ℓ) (g : Dev Cert.AllToAll.nD → PrngReg), Pre_AllToAll m →
    θ_run (Cert.AllToAll.defs (F := Bits)) (onTc (τ := Cert.AllToAll.τ) (Cert.AllToAll.main (F := Bits))) ⟨m, fun _ => 0, g⟩ (fun r => (∀ c : Dev Cert.AllToAll.nD,
      r.2.mem ((c.tc : Thread Cert.AllToAll.nD Cert.AllToAll.τ).loc Cert.AllToAll.main_arg0) = m ((c.tc : Thread Cert.AllToAll.nD Cert.AllToAll.τ).loc Cert.AllToAll.main_arg0))
      ∧ r.2.sem = fun _ => 0)

def quiescent_AllToAllIdeal [hAllToAllIdeal : Cert.AllToAllIdeal.Facts] : Prop :=
  ∀ (m : (ℓ : Loc Cert.AllToAllIdeal.nD Cert.AllToAllIdeal.τ Cert.AllToAllIdeal.sig) → Buf (Elt Ideal) ℓ) (g : Dev Cert.AllToAllIdeal.nD → PrngReg), Pre_AllToAllIdeal m →
    θ_run (Cert.AllToAllIdeal.defs (F := Ideal)) (onTc (τ := Cert.AllToAllIdeal.τ) (Cert.AllToAllIdeal.main (F := Ideal))) ⟨m, fun _ => 0, g⟩ (fun r => (∀ c : Dev Cert.AllToAllIdeal.nD,
      r.2.mem ((c.tc : Thread Cert.AllToAllIdeal.nD Cert.AllToAllIdeal.τ).loc Cert.AllToAllIdeal.main_arg0) = m ((c.tc : Thread Cert.AllToAllIdeal.nD Cert.AllToAllIdeal.τ).loc Cert.AllToAllIdeal.main_arg0))
      ∧ r.2.sem = fun _ => 0)

def quiescent_AllToAllRefIdeal [hAllToAllRefIdeal : Cert.AllToAllRefIdeal.Facts] : Prop :=
  ∀ (m : (ℓ : Loc Cert.AllToAllRefIdeal.nD Cert.AllToAllRefIdeal.τ Cert.AllToAllRefIdeal.sig) → Buf (Elt Ideal) ℓ) (g : Dev Cert.AllToAllRefIdeal.nD → PrngReg), Pre_AllToAllRefIdeal m →
    θ_run (Cert.AllToAllRefIdeal.defs (F := Ideal)) (onTc (τ := Cert.AllToAllRefIdeal.τ) (Cert.AllToAllRefIdeal.main (F := Ideal))) ⟨m, fun _ => 0, g⟩ (fun r => (∀ c : Dev Cert.AllToAllRefIdeal.nD,
      r.2.mem ((c.tc : Thread Cert.AllToAllRefIdeal.nD Cert.AllToAllRefIdeal.τ).loc Cert.AllToAllRefIdeal.main_arg0) = m ((c.tc : Thread Cert.AllToAllRefIdeal.nD Cert.AllToAllRefIdeal.τ).loc Cert.AllToAllRefIdeal.main_arg0))
      ∧ r.2.sem = fun _ => 0)

def quiescent_AllToAllRef [hAllToAllRef : Cert.AllToAllRef.Facts] : Prop :=
  ∀ (m : (ℓ : Loc Cert.AllToAllRef.nD Cert.AllToAllRef.τ Cert.AllToAllRef.sig) → Buf (Elt Bits) ℓ) (g : Dev Cert.AllToAllRef.nD → PrngReg), Pre_AllToAllRef m →
    θ_run (Cert.AllToAllRef.defs (F := Bits)) (onTc (τ := Cert.AllToAllRef.τ) (Cert.AllToAllRef.main (F := Bits))) ⟨m, fun _ => 0, g⟩ (fun r => (∀ c : Dev Cert.AllToAllRef.nD,
      r.2.mem ((c.tc : Thread Cert.AllToAllRef.nD Cert.AllToAllRef.τ).loc Cert.AllToAllRef.main_arg0) = m ((c.tc : Thread Cert.AllToAllRef.nD Cert.AllToAllRef.τ).loc Cert.AllToAllRef.main_arg0))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0))
      ∧ r.2.sem = fun _ => 0)

def quiescent_PairRef [hPairRef : Cert.PairRef.Facts] : Prop :=
  ∀ (m : (ℓ : Loc Cert.PairRef.nD Cert.PairRef.τ Cert.PairRef.sig) → Buf (Elt Bits) ℓ) (g : Dev Cert.PairRef.nD → PrngReg), Pre_PairRef m →
    θ_run (Cert.PairRef.defs (F := Bits)) (onTc (τ := Cert.PairRef.τ) (Cert.PairRef.main (F := Bits))) ⟨m, fun _ => 0, g⟩ (fun r => (∀ c : Dev Cert.PairRef.nD,
      r.2.mem ((c.tc : Thread Cert.PairRef.nD Cert.PairRef.τ).loc Cert.PairRef.main_arg0) = m ((c.tc : Thread Cert.PairRef.nD Cert.PairRef.τ).loc Cert.PairRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Add [hAdd : Cert.Add.Facts] : Prop :=
  ∀ (m : (ℓ : Loc Cert.Add.nD Cert.Add.τ Cert.Add.sig) → Buf (Elt Bits) ℓ) (g : Dev Cert.Add.nD → PrngReg), Pre_Add m →
    θ_run (Cert.Add.defs (F := Bits)) (onTc (τ := Cert.Add.τ) (Cert.Add.main (F := Bits))) ⟨m, fun _ => 0, g⟩ (fun r => (∀ c : Dev Cert.Add.nD,
      r.2.mem ((c.tc : Thread Cert.Add.nD Cert.Add.τ).loc Cert.Add.main_arg0) = m ((c.tc : Thread Cert.Add.nD Cert.Add.τ).loc Cert.Add.main_arg0)
      ∧ r.2.mem ((c.tc : Thread Cert.Add.nD Cert.Add.τ).loc Cert.Add.main_arg1) = m ((c.tc : Thread Cert.Add.nD Cert.Add.τ).loc Cert.Add.main_arg1))
      ∧ r.2.sem = fun _ => 0)

def quiescent_AddIdeal [hAddIdeal : Cert.AddIdeal.Facts] : Prop :=
  ∀ (m : (ℓ : Loc Cert.AddIdeal.nD Cert.AddIdeal.τ Cert.AddIdeal.sig) → Buf (Elt Ideal) ℓ) (g : Dev Cert.AddIdeal.nD → PrngReg), Pre_AddIdeal m →
    θ_run (Cert.AddIdeal.defs (F := Ideal)) (onTc (τ := Cert.AddIdeal.τ) (Cert.AddIdeal.main (F := Ideal))) ⟨m, fun _ => 0, g⟩ (fun r => (∀ c : Dev Cert.AddIdeal.nD,
      r.2.mem ((c.tc : Thread Cert.AddIdeal.nD Cert.AddIdeal.τ).loc Cert.AddIdeal.main_arg0) = m ((c.tc : Thread Cert.AddIdeal.nD Cert.AddIdeal.τ).loc Cert.AddIdeal.main_arg0)
      ∧ r.2.mem ((c.tc : Thread Cert.AddIdeal.nD Cert.AddIdeal.τ).loc Cert.AddIdeal.main_arg1) = m ((c.tc : Thread Cert.AddIdeal.nD Cert.AddIdeal.τ).loc Cert.AddIdeal.main_arg1))
      ∧ r.2.sem = fun _ => 0)

def quiescent_AddRefIdeal [hAddRefIdeal : Cert.AddRefIdeal.Facts] : Prop :=
  ∀ (m : (ℓ : Loc Cert.AddRefIdeal.nD Cert.AddRefIdeal.τ Cert.AddRefIdeal.sig) → Buf (Elt Ideal) ℓ) (g : Dev Cert.AddRefIdeal.nD → PrngReg), Pre_AddRefIdeal m →
    θ_run (Cert.AddRefIdeal.defs (F := Ideal)) (onTc (τ := Cert.AddRefIdeal.τ) (Cert.AddRefIdeal.main (F := Ideal))) ⟨m, fun _ => 0, g⟩ (fun r => (∀ c : Dev Cert.AddRefIdeal.nD,
      r.2.mem ((c.tc : Thread Cert.AddRefIdeal.nD Cert.AddRefIdeal.τ).loc Cert.AddRefIdeal.main_arg0) = m ((c.tc : Thread Cert.AddRefIdeal.nD Cert.AddRefIdeal.τ).loc Cert.AddRefIdeal.main_arg0)
      ∧ r.2.mem ((c.tc : Thread Cert.AddRefIdeal.nD Cert.AddRefIdeal.τ).loc Cert.AddRefIdeal.main_arg1) = m ((c.tc : Thread Cert.AddRefIdeal.nD Cert.AddRefIdeal.τ).loc Cert.AddRefIdeal.main_arg1))
      ∧ r.2.sem = fun _ => 0)

def quiescent_AddRef [hAddRef : Cert.AddRef.Facts] : Prop :=
  ∀ (m : (ℓ : Loc Cert.AddRef.nD Cert.AddRef.τ Cert.AddRef.sig) → Buf (Elt Bits) ℓ) (g : Dev Cert.AddRef.nD → PrngReg), Pre_AddRef m →
    θ_run (Cert.AddRef.defs (F := Bits)) (onTc (τ := Cert.AddRef.τ) (Cert.AddRef.main (F := Bits))) ⟨m, fun _ => 0, g⟩ (fun r => (∀ c : Dev Cert.AddRef.nD,
      r.2.mem ((c.tc : Thread Cert.AddRef.nD Cert.AddRef.τ).loc Cert.AddRef.main_arg0) = m ((c.tc : Thread Cert.AddRef.nD Cert.AddRef.τ).loc Cert.AddRef.main_arg0)
      ∧ r.2.mem ((c.tc : Thread Cert.AddRef.nD Cert.AddRef.τ).loc Cert.AddRef.main_arg1) = m ((c.tc : Thread Cert.AddRef.nD Cert.AddRef.τ).loc Cert.AddRef.main_arg1))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_AdamWNorm [hAdamWNorm : Cert.AdamWNorm.Facts] : Prop :=
  ∀ (m : (ℓ : Loc Cert.AdamWNorm.nD Cert.AdamWNorm.τ Cert.AdamWNorm.sig) → Buf (Elt Bits) ℓ) (g : Dev Cert.AdamWNorm.nD → PrngReg), Pre_AdamWNorm m →
    θ_run (Cert.AdamWNorm.defs (F := Bits)) (onTc (τ := Cert.AdamWNorm.τ) (Cert.AdamWNorm.main (F := Bits))) ⟨m, fun _ => 0, g⟩ (fun r => (∀ c : Dev Cert.AdamWNorm.nD,
      r.2.mem ((c.tc : Thread Cert.AdamWNorm.nD Cert.AdamWNorm.τ).loc Cert.AdamWNorm.main_arg0) = m ((c.tc : Thread Cert.AdamWNorm.nD Cert.AdamWNorm.τ).loc Cert.AdamWNorm.main_arg0)
      ∧ r.2.mem ((c.tc : Thread Cert.AdamWNorm.nD Cert.AdamWNorm.τ).loc Cert.AdamWNorm.main_arg1) = m ((c.tc : Thread Cert.AdamWNorm.nD Cert.AdamWNorm.τ).loc Cert.AdamWNorm.main_arg1)
      ∧ r.2.mem ((c.tc : Thread Cert.AdamWNorm.nD Cert.AdamWNorm.τ).loc Cert.AdamWNorm.main_arg2) = m ((c.tc : Thread Cert.AdamWNorm.nD Cert.AdamWNorm.τ).loc Cert.AdamWNorm.main_arg2)
      ∧ r.2.mem ((c.tc : Thread Cert.AdamWNorm.nD Cert.AdamWNorm.τ).loc Cert.AdamWNorm.main_arg3) = m ((c.tc : Thread Cert.AdamWNorm.nD Cert.AdamWNorm.τ).loc Cert.AdamWNorm.main_arg3))
      ∧ r.2.sem = fun _ => 0)

def quiescent_AdamWNormIdeal [hAdamWNormIdeal : Cert.AdamWNormIdeal.Facts] : Prop :=
  ∀ (m : (ℓ : Loc Cert.AdamWNormIdeal.nD Cert.AdamWNormIdeal.τ Cert.AdamWNormIdeal.sig) → Buf (Elt Ideal) ℓ) (g : Dev Cert.AdamWNormIdeal.nD → PrngReg), Pre_AdamWNormIdeal m →
    θ_run (Cert.AdamWNormIdeal.defs (F := Ideal)) (onTc (τ := Cert.AdamWNormIdeal.τ) (Cert.AdamWNormIdeal.main (F := Ideal))) ⟨m, fun _ => 0, g⟩ (fun r => (∀ c : Dev Cert.AdamWNormIdeal.nD,
      r.2.mem ((c.tc : Thread Cert.AdamWNormIdeal.nD Cert.AdamWNormIdeal.τ).loc Cert.AdamWNormIdeal.main_arg0) = m ((c.tc : Thread Cert.AdamWNormIdeal.nD Cert.AdamWNormIdeal.τ).loc Cert.AdamWNormIdeal.main_arg0)
      ∧ r.2.mem ((c.tc : Thread Cert.AdamWNormIdeal.nD Cert.AdamWNormIdeal.τ).loc Cert.AdamWNormIdeal.main_arg1) = m ((c.tc : Thread Cert.AdamWNormIdeal.nD Cert.AdamWNormIdeal.τ).loc Cert.AdamWNormIdeal.main_arg1)
      ∧ r.2.mem ((c.tc : Thread Cert.AdamWNormIdeal.nD Cert.AdamWNormIdeal.τ).loc Cert.AdamWNormIdeal.main_arg2) = m ((c.tc : Thread Cert.AdamWNormIdeal.nD Cert.AdamWNormIdeal.τ).loc Cert.AdamWNormIdeal.main_arg2)
      ∧ r.2.mem ((c.tc : Thread Cert.AdamWNormIdeal.nD Cert.AdamWNormIdeal.τ).loc Cert.AdamWNormIdeal.main_arg3) = m ((c.tc : Thread Cert.AdamWNormIdeal.nD Cert.AdamWNormIdeal.τ).loc Cert.AdamWNormIdeal.main_arg3))
      ∧ r.2.sem = fun _ => 0)

def quiescent_AdamWNormRefIdeal [hAdamWNormRefIdeal : Cert.AdamWNormRefIdeal.Facts] : Prop :=
  ∀ (m : (ℓ : Loc Cert.AdamWNormRefIdeal.nD Cert.AdamWNormRefIdeal.τ Cert.AdamWNormRefIdeal.sig) → Buf (Elt Ideal) ℓ) (g : Dev Cert.AdamWNormRefIdeal.nD → PrngReg), Pre_AdamWNormRefIdeal m →
    θ_run (Cert.AdamWNormRefIdeal.defs (F := Ideal)) (onTc (τ := Cert.AdamWNormRefIdeal.τ) (Cert.AdamWNormRefIdeal.main (F := Ideal))) ⟨m, fun _ => 0, g⟩ (fun r => (∀ c : Dev Cert.AdamWNormRefIdeal.nD,
      r.2.mem ((c.tc : Thread Cert.AdamWNormRefIdeal.nD Cert.AdamWNormRefIdeal.τ).loc Cert.AdamWNormRefIdeal.main_arg0) = m ((c.tc : Thread Cert.AdamWNormRefIdeal.nD Cert.AdamWNormRefIdeal.τ).loc Cert.AdamWNormRefIdeal.main_arg0)
      ∧ r.2.mem ((c.tc : Thread Cert.AdamWNormRefIdeal.nD Cert.AdamWNormRefIdeal.τ).loc Cert.AdamWNormRefIdeal.main_arg1) = m ((c.tc : Thread Cert.AdamWNormRefIdeal.nD Cert.AdamWNormRefIdeal.τ).loc Cert.AdamWNormRefIdeal.main_arg1)
      ∧ r.2.mem ((c.tc : Thread Cert.AdamWNormRefIdeal.nD Cert.AdamWNormRefIdeal.τ).loc Cert.AdamWNormRefIdeal.main_arg2) = m ((c.tc : Thread Cert.AdamWNormRefIdeal.nD Cert.AdamWNormRefIdeal.τ).loc Cert.AdamWNormRefIdeal.main_arg2)
      ∧ r.2.mem ((c.tc : Thread Cert.AdamWNormRefIdeal.nD Cert.AdamWNormRefIdeal.τ).loc Cert.AdamWNormRefIdeal.main_arg3) = m ((c.tc : Thread Cert.AdamWNormRefIdeal.nD Cert.AdamWNormRefIdeal.τ).loc Cert.AdamWNormRefIdeal.main_arg3))
      ∧ r.2.sem = fun _ => 0)

def quiescent_AdamWFinal [hAdamWFinal : Cert.AdamWFinal.Facts] : Prop :=
  ∀ (m : (ℓ : Loc Cert.AdamWFinal.nD Cert.AdamWFinal.τ Cert.AdamWFinal.sig) → Buf (Elt Bits) ℓ) (g : Dev Cert.AdamWFinal.nD → PrngReg), Pre_AdamWFinal m →
    θ_run (Cert.AdamWFinal.defs (F := Bits)) (onTc (τ := Cert.AdamWFinal.τ) (Cert.AdamWFinal.main (F := Bits))) ⟨m, fun _ => 0, g⟩ (fun r => (∀ c : Dev Cert.AdamWFinal.nD,
      r.2.mem ((c.tc : Thread Cert.AdamWFinal.nD Cert.AdamWFinal.τ).loc Cert.AdamWFinal.main_arg0) = m ((c.tc : Thread Cert.AdamWFinal.nD Cert.AdamWFinal.τ).loc Cert.AdamWFinal.main_arg0)
      ∧ r.2.mem ((c.tc : Thread Cert.AdamWFinal.nD Cert.AdamWFinal.τ).loc Cert.AdamWFinal.main_arg1) = m ((c.tc : Thread Cert.AdamWFinal.nD Cert.AdamWFinal.τ).loc Cert.AdamWFinal.main_arg1)
      ∧ r.2.mem ((c.tc : Thread Cert.AdamWFinal.nD Cert.AdamWFinal.τ).loc Cert.AdamWFinal.main_arg2) = m ((c.tc : Thread Cert.AdamWFinal.nD Cert.AdamWFinal.τ).loc Cert.AdamWFinal.main_arg2)
      ∧ r.2.mem ((c.tc : Thread Cert.AdamWFinal.nD Cert.AdamWFinal.τ).loc Cert.AdamWFinal.main_arg3) = m ((c.tc : Thread Cert.AdamWFinal.nD Cert.AdamWFinal.τ).loc Cert.AdamWFinal.main_arg3))
      ∧ r.2.sem = fun _ => 0)

def quiescent_AdamWFinalIdeal [hAdamWFinalIdeal : Cert.AdamWFinalIdeal.Facts] : Prop :=
  ∀ (m : (ℓ : Loc Cert.AdamWFinalIdeal.nD Cert.AdamWFinalIdeal.τ Cert.AdamWFinalIdeal.sig) → Buf (Elt Ideal) ℓ) (g : Dev Cert.AdamWFinalIdeal.nD → PrngReg), Pre_AdamWFinalIdeal m →
    θ_run (Cert.AdamWFinalIdeal.defs (F := Ideal)) (onTc (τ := Cert.AdamWFinalIdeal.τ) (Cert.AdamWFinalIdeal.main (F := Ideal))) ⟨m, fun _ => 0, g⟩ (fun r => (∀ c : Dev Cert.AdamWFinalIdeal.nD,
      r.2.mem ((c.tc : Thread Cert.AdamWFinalIdeal.nD Cert.AdamWFinalIdeal.τ).loc Cert.AdamWFinalIdeal.main_arg0) = m ((c.tc : Thread Cert.AdamWFinalIdeal.nD Cert.AdamWFinalIdeal.τ).loc Cert.AdamWFinalIdeal.main_arg0)
      ∧ r.2.mem ((c.tc : Thread Cert.AdamWFinalIdeal.nD Cert.AdamWFinalIdeal.τ).loc Cert.AdamWFinalIdeal.main_arg1) = m ((c.tc : Thread Cert.AdamWFinalIdeal.nD Cert.AdamWFinalIdeal.τ).loc Cert.AdamWFinalIdeal.main_arg1)
      ∧ r.2.mem ((c.tc : Thread Cert.AdamWFinalIdeal.nD Cert.AdamWFinalIdeal.τ).loc Cert.AdamWFinalIdeal.main_arg2) = m ((c.tc : Thread Cert.AdamWFinalIdeal.nD Cert.AdamWFinalIdeal.τ).loc Cert.AdamWFinalIdeal.main_arg2)
      ∧ r.2.mem ((c.tc : Thread Cert.AdamWFinalIdeal.nD Cert.AdamWFinalIdeal.τ).loc Cert.AdamWFinalIdeal.main_arg3) = m ((c.tc : Thread Cert.AdamWFinalIdeal.nD Cert.AdamWFinalIdeal.τ).loc Cert.AdamWFinalIdeal.main_arg3))
      ∧ r.2.sem = fun _ => 0)

def quiescent_AdamWFinalRefIdeal [hAdamWFinalRefIdeal : Cert.AdamWFinalRefIdeal.Facts] : Prop :=
  ∀ (m : (ℓ : Loc Cert.AdamWFinalRefIdeal.nD Cert.AdamWFinalRefIdeal.τ Cert.AdamWFinalRefIdeal.sig) → Buf (Elt Ideal) ℓ) (g : Dev Cert.AdamWFinalRefIdeal.nD → PrngReg), Pre_AdamWFinalRefIdeal m →
    θ_run (Cert.AdamWFinalRefIdeal.defs (F := Ideal)) (onTc (τ := Cert.AdamWFinalRefIdeal.τ) (Cert.AdamWFinalRefIdeal.main (F := Ideal))) ⟨m, fun _ => 0, g⟩ (fun r => (∀ c : Dev Cert.AdamWFinalRefIdeal.nD,
      r.2.mem ((c.tc : Thread Cert.AdamWFinalRefIdeal.nD Cert.AdamWFinalRefIdeal.τ).loc Cert.AdamWFinalRefIdeal.main_arg0) = m ((c.tc : Thread Cert.AdamWFinalRefIdeal.nD Cert.AdamWFinalRefIdeal.τ).loc Cert.AdamWFinalRefIdeal.main_arg0)
      ∧ r.2.mem ((c.tc : Thread Cert.AdamWFinalRefIdeal.nD Cert.AdamWFinalRefIdeal.τ).loc Cert.AdamWFinalRefIdeal.main_arg1) = m ((c.tc : Thread Cert.AdamWFinalRefIdeal.nD Cert.AdamWFinalRefIdeal.τ).loc Cert.AdamWFinalRefIdeal.main_arg1)
      ∧ r.2.mem ((c.tc : Thread Cert.AdamWFinalRefIdeal.nD Cert.AdamWFinalRefIdeal.τ).loc Cert.AdamWFinalRefIdeal.main_arg2) = m ((c.tc : Thread Cert.AdamWFinalRefIdeal.nD Cert.AdamWFinalRefIdeal.τ).loc Cert.AdamWFinalRefIdeal.main_arg2)
      ∧ r.2.mem ((c.tc : Thread Cert.AdamWFinalRefIdeal.nD Cert.AdamWFinalRefIdeal.τ).loc Cert.AdamWFinalRefIdeal.main_arg3) = m ((c.tc : Thread Cert.AdamWFinalRefIdeal.nD Cert.AdamWFinalRefIdeal.τ).loc Cert.AdamWFinalRefIdeal.main_arg3))
      ∧ r.2.sem = fun _ => 0)

def quiescent_AdamWChannel [hAdamWChannel : Cert.AdamWChannel.Facts] : Prop :=
  ∀ (m : (ℓ : Loc Cert.AdamWChannel.nD Cert.AdamWChannel.τ Cert.AdamWChannel.sig) → Buf (Elt Bits) ℓ) (g : Dev Cert.AdamWChannel.nD → PrngReg), Pre_AdamWChannel m →
    θ_run (Cert.AdamWChannel.defs (F := Bits)) (onTc (τ := Cert.AdamWChannel.τ) (Cert.AdamWChannel.main (F := Bits))) ⟨m, fun _ => 0, g⟩ (fun r => (∀ c : Dev Cert.AdamWChannel.nD,
      r.2.mem ((c.tc : Thread Cert.AdamWChannel.nD Cert.AdamWChannel.τ).loc Cert.AdamWChannel.main_arg0) = m ((c.tc : Thread Cert.AdamWChannel.nD Cert.AdamWChannel.τ).loc Cert.AdamWChannel.main_arg0)
      ∧ r.2.mem ((c.tc : Thread Cert.AdamWChannel.nD Cert.AdamWChannel.τ).loc Cert.AdamWChannel.main_arg1) = m ((c.tc : Thread Cert.AdamWChannel.nD Cert.AdamWChannel.τ).loc Cert.AdamWChannel.main_arg1)
      ∧ r.2.mem ((c.tc : Thread Cert.AdamWChannel.nD Cert.AdamWChannel.τ).loc Cert.AdamWChannel.main_arg2) = m ((c.tc : Thread Cert.AdamWChannel.nD Cert.AdamWChannel.τ).loc Cert.AdamWChannel.main_arg2)
      ∧ r.2.mem ((c.tc : Thread Cert.AdamWChannel.nD Cert.AdamWChannel.τ).loc Cert.AdamWChannel.main_arg3) = m ((c.tc : Thread Cert.AdamWChannel.nD Cert.AdamWChannel.τ).loc Cert.AdamWChannel.main_arg3))
      ∧ r.2.sem = fun _ => 0)

def quiescent_AdamWChannelIdeal [hAdamWChannelIdeal : Cert.AdamWChannelIdeal.Facts] : Prop :=
  ∀ (m : (ℓ : Loc Cert.AdamWChannelIdeal.nD Cert.AdamWChannelIdeal.τ Cert.AdamWChannelIdeal.sig) → Buf (Elt Ideal) ℓ) (g : Dev Cert.AdamWChannelIdeal.nD → PrngReg), Pre_AdamWChannelIdeal m →
    θ_run (Cert.AdamWChannelIdeal.defs (F := Ideal)) (onTc (τ := Cert.AdamWChannelIdeal.τ) (Cert.AdamWChannelIdeal.main (F := Ideal))) ⟨m, fun _ => 0, g⟩ (fun r => (∀ c : Dev Cert.AdamWChannelIdeal.nD,
      r.2.mem ((c.tc : Thread Cert.AdamWChannelIdeal.nD Cert.AdamWChannelIdeal.τ).loc Cert.AdamWChannelIdeal.main_arg0) = m ((c.tc : Thread Cert.AdamWChannelIdeal.nD Cert.AdamWChannelIdeal.τ).loc Cert.AdamWChannelIdeal.main_arg0)
      ∧ r.2.mem ((c.tc : Thread Cert.AdamWChannelIdeal.nD Cert.AdamWChannelIdeal.τ).loc Cert.AdamWChannelIdeal.main_arg1) = m ((c.tc : Thread Cert.AdamWChannelIdeal.nD Cert.AdamWChannelIdeal.τ).loc Cert.AdamWChannelIdeal.main_arg1)
      ∧ r.2.mem ((c.tc : Thread Cert.AdamWChannelIdeal.nD Cert.AdamWChannelIdeal.τ).loc Cert.AdamWChannelIdeal.main_arg2) = m ((c.tc : Thread Cert.AdamWChannelIdeal.nD Cert.AdamWChannelIdeal.τ).loc Cert.AdamWChannelIdeal.main_arg2)
      ∧ r.2.mem ((c.tc : Thread Cert.AdamWChannelIdeal.nD Cert.AdamWChannelIdeal.τ).loc Cert.AdamWChannelIdeal.main_arg3) = m ((c.tc : Thread Cert.AdamWChannelIdeal.nD Cert.AdamWChannelIdeal.τ).loc Cert.AdamWChannelIdeal.main_arg3))
      ∧ r.2.sem = fun _ => 0)

def quiescent_AdamWChannelRefIdeal [hAdamWChannelRefIdeal : Cert.AdamWChannelRefIdeal.Facts] : Prop :=
  ∀ (m : (ℓ : Loc Cert.AdamWChannelRefIdeal.nD Cert.AdamWChannelRefIdeal.τ Cert.AdamWChannelRefIdeal.sig) → Buf (Elt Ideal) ℓ) (g : Dev Cert.AdamWChannelRefIdeal.nD → PrngReg), Pre_AdamWChannelRefIdeal m →
    θ_run (Cert.AdamWChannelRefIdeal.defs (F := Ideal)) (onTc (τ := Cert.AdamWChannelRefIdeal.τ) (Cert.AdamWChannelRefIdeal.main (F := Ideal))) ⟨m, fun _ => 0, g⟩ (fun r => (∀ c : Dev Cert.AdamWChannelRefIdeal.nD,
      r.2.mem ((c.tc : Thread Cert.AdamWChannelRefIdeal.nD Cert.AdamWChannelRefIdeal.τ).loc Cert.AdamWChannelRefIdeal.main_arg0) = m ((c.tc : Thread Cert.AdamWChannelRefIdeal.nD Cert.AdamWChannelRefIdeal.τ).loc Cert.AdamWChannelRefIdeal.main_arg0)
      ∧ r.2.mem ((c.tc : Thread Cert.AdamWChannelRefIdeal.nD Cert.AdamWChannelRefIdeal.τ).loc Cert.AdamWChannelRefIdeal.main_arg1) = m ((c.tc : Thread Cert.AdamWChannelRefIdeal.nD Cert.AdamWChannelRefIdeal.τ).loc Cert.AdamWChannelRefIdeal.main_arg1)
      ∧ r.2.mem ((c.tc : Thread Cert.AdamWChannelRefIdeal.nD Cert.AdamWChannelRefIdeal.τ).loc Cert.AdamWChannelRefIdeal.main_arg2) = m ((c.tc : Thread Cert.AdamWChannelRefIdeal.nD Cert.AdamWChannelRefIdeal.τ).loc Cert.AdamWChannelRefIdeal.main_arg2)
      ∧ r.2.mem ((c.tc : Thread Cert.AdamWChannelRefIdeal.nD Cert.AdamWChannelRefIdeal.τ).loc Cert.AdamWChannelRefIdeal.main_arg3) = m ((c.tc : Thread Cert.AdamWChannelRefIdeal.nD Cert.AdamWChannelRefIdeal.τ).loc Cert.AdamWChannelRefIdeal.main_arg3))
      ∧ r.2.sem = fun _ => 0)

def quiescent_AdamWConvA [hAdamWConvA : Cert.AdamWConvA.Facts] : Prop :=
  ∀ (m : (ℓ : Loc Cert.AdamWConvA.nD Cert.AdamWConvA.τ Cert.AdamWConvA.sig) → Buf (Elt Bits) ℓ) (g : Dev Cert.AdamWConvA.nD → PrngReg), Pre_AdamWConvA m →
    θ_run (Cert.AdamWConvA.defs (F := Bits)) (onTc (τ := Cert.AdamWConvA.τ) (Cert.AdamWConvA.main (F := Bits))) ⟨m, fun _ => 0, g⟩ (fun r => (∀ c : Dev Cert.AdamWConvA.nD,
      r.2.mem ((c.tc : Thread Cert.AdamWConvA.nD Cert.AdamWConvA.τ).loc Cert.AdamWConvA.main_arg0) = m ((c.tc : Thread Cert.AdamWConvA.nD Cert.AdamWConvA.τ).loc Cert.AdamWConvA.main_arg0)
      ∧ r.2.mem ((c.tc : Thread Cert.AdamWConvA.nD Cert.AdamWConvA.τ).loc Cert.AdamWConvA.main_arg1) = m ((c.tc : Thread Cert.AdamWConvA.nD Cert.AdamWConvA.τ).loc Cert.AdamWConvA.main_arg1)
      ∧ r.2.mem ((c.tc : Thread Cert.AdamWConvA.nD Cert.AdamWConvA.τ).loc Cert.AdamWConvA.main_arg2) = m ((c.tc : Thread Cert.AdamWConvA.nD Cert.AdamWConvA.τ).loc Cert.AdamWConvA.main_arg2)
      ∧ r.2.mem ((c.tc : Thread Cert.AdamWConvA.nD Cert.AdamWConvA.τ).loc Cert.AdamWConvA.main_arg3) = m ((c.tc : Thread Cert.AdamWConvA.nD Cert.AdamWConvA.τ).loc Cert.AdamWConvA.main_arg3))
      ∧ r.2.sem = fun _ => 0)

def quiescent_AdamWConvAIdeal [hAdamWConvAIdeal : Cert.AdamWConvAIdeal.Facts] : Prop :=
  ∀ (m : (ℓ : Loc Cert.AdamWConvAIdeal.nD Cert.AdamWConvAIdeal.τ Cert.AdamWConvAIdeal.sig) → Buf (Elt Ideal) ℓ) (g : Dev Cert.AdamWConvAIdeal.nD → PrngReg), Pre_AdamWConvAIdeal m →
    θ_run (Cert.AdamWConvAIdeal.defs (F := Ideal)) (onTc (τ := Cert.AdamWConvAIdeal.τ) (Cert.AdamWConvAIdeal.main (F := Ideal))) ⟨m, fun _ => 0, g⟩ (fun r => (∀ c : Dev Cert.AdamWConvAIdeal.nD,
      r.2.mem ((c.tc : Thread Cert.AdamWConvAIdeal.nD Cert.AdamWConvAIdeal.τ).loc Cert.AdamWConvAIdeal.main_arg0) = m ((c.tc : Thread Cert.AdamWConvAIdeal.nD Cert.AdamWConvAIdeal.τ).loc Cert.AdamWConvAIdeal.main_arg0)
      ∧ r.2.mem ((c.tc : Thread Cert.AdamWConvAIdeal.nD Cert.AdamWConvAIdeal.τ).loc Cert.AdamWConvAIdeal.main_arg1) = m ((c.tc : Thread Cert.AdamWConvAIdeal.nD Cert.AdamWConvAIdeal.τ).loc Cert.AdamWConvAIdeal.main_arg1)
      ∧ r.2.mem ((c.tc : Thread Cert.AdamWConvAIdeal.nD Cert.AdamWConvAIdeal.τ).loc Cert.AdamWConvAIdeal.main_arg2) = m ((c.tc : Thread Cert.AdamWConvAIdeal.nD Cert.AdamWConvAIdeal.τ).loc Cert.AdamWConvAIdeal.main_arg2)
      ∧ r.2.mem ((c.tc : Thread Cert.AdamWConvAIdeal.nD Cert.AdamWConvAIdeal.τ).loc Cert.AdamWConvAIdeal.main_arg3) = m ((c.tc : Thread Cert.AdamWConvAIdeal.nD Cert.AdamWConvAIdeal.τ).loc Cert.AdamWConvAIdeal.main_arg3))
      ∧ r.2.sem = fun _ => 0)

def quiescent_AdamWConvARefIdeal [hAdamWConvARefIdeal : Cert.AdamWConvARefIdeal.Facts] : Prop :=
  ∀ (m : (ℓ : Loc Cert.AdamWConvARefIdeal.nD Cert.AdamWConvARefIdeal.τ Cert.AdamWConvARefIdeal.sig) → Buf (Elt Ideal) ℓ) (g : Dev Cert.AdamWConvARefIdeal.nD → PrngReg), Pre_AdamWConvARefIdeal m →
    θ_run (Cert.AdamWConvARefIdeal.defs (F := Ideal)) (onTc (τ := Cert.AdamWConvARefIdeal.τ) (Cert.AdamWConvARefIdeal.main (F := Ideal))) ⟨m, fun _ => 0, g⟩ (fun r => (∀ c : Dev Cert.AdamWConvARefIdeal.nD,
      r.2.mem ((c.tc : Thread Cert.AdamWConvARefIdeal.nD Cert.AdamWConvARefIdeal.τ).loc Cert.AdamWConvARefIdeal.main_arg0) = m ((c.tc : Thread Cert.AdamWConvARefIdeal.nD Cert.AdamWConvARefIdeal.τ).loc Cert.AdamWConvARefIdeal.main_arg0)
      ∧ r.2.mem ((c.tc : Thread Cert.AdamWConvARefIdeal.nD Cert.AdamWConvARefIdeal.τ).loc Cert.AdamWConvARefIdeal.main_arg1) = m ((c.tc : Thread Cert.AdamWConvARefIdeal.nD Cert.AdamWConvARefIdeal.τ).loc Cert.AdamWConvARefIdeal.main_arg1)
      ∧ r.2.mem ((c.tc : Thread Cert.AdamWConvARefIdeal.nD Cert.AdamWConvARefIdeal.τ).loc Cert.AdamWConvARefIdeal.main_arg2) = m ((c.tc : Thread Cert.AdamWConvARefIdeal.nD Cert.AdamWConvARefIdeal.τ).loc Cert.AdamWConvARefIdeal.main_arg2)
      ∧ r.2.mem ((c.tc : Thread Cert.AdamWConvARefIdeal.nD Cert.AdamWConvARefIdeal.τ).loc Cert.AdamWConvARefIdeal.main_arg3) = m ((c.tc : Thread Cert.AdamWConvARefIdeal.nD Cert.AdamWConvARefIdeal.τ).loc Cert.AdamWConvARefIdeal.main_arg3))
      ∧ r.2.sem = fun _ => 0)

def quiescent_AdamWConvB [hAdamWConvB : Cert.AdamWConvB.Facts] : Prop :=
  ∀ (m : (ℓ : Loc Cert.AdamWConvB.nD Cert.AdamWConvB.τ Cert.AdamWConvB.sig) → Buf (Elt Bits) ℓ) (g : Dev Cert.AdamWConvB.nD → PrngReg), Pre_AdamWConvB m →
    θ_run (Cert.AdamWConvB.defs (F := Bits)) (onTc (τ := Cert.AdamWConvB.τ) (Cert.AdamWConvB.main (F := Bits))) ⟨m, fun _ => 0, g⟩ (fun r => (∀ c : Dev Cert.AdamWConvB.nD,
      r.2.mem ((c.tc : Thread Cert.AdamWConvB.nD Cert.AdamWConvB.τ).loc Cert.AdamWConvB.main_arg0) = m ((c.tc : Thread Cert.AdamWConvB.nD Cert.AdamWConvB.τ).loc Cert.AdamWConvB.main_arg0)
      ∧ r.2.mem ((c.tc : Thread Cert.AdamWConvB.nD Cert.AdamWConvB.τ).loc Cert.AdamWConvB.main_arg1) = m ((c.tc : Thread Cert.AdamWConvB.nD Cert.AdamWConvB.τ).loc Cert.AdamWConvB.main_arg1)
      ∧ r.2.mem ((c.tc : Thread Cert.AdamWConvB.nD Cert.AdamWConvB.τ).loc Cert.AdamWConvB.main_arg2) = m ((c.tc : Thread Cert.AdamWConvB.nD Cert.AdamWConvB.τ).loc Cert.AdamWConvB.main_arg2)
      ∧ r.2.mem ((c.tc : Thread Cert.AdamWConvB.nD Cert.AdamWConvB.τ).loc Cert.AdamWConvB.main_arg3) = m ((c.tc : Thread Cert.AdamWConvB.nD Cert.AdamWConvB.τ).loc Cert.AdamWConvB.main_arg3))
      ∧ r.2.sem = fun _ => 0)

def quiescent_AdamWConvBIdeal [hAdamWConvBIdeal : Cert.AdamWConvBIdeal.Facts] : Prop :=
  ∀ (m : (ℓ : Loc Cert.AdamWConvBIdeal.nD Cert.AdamWConvBIdeal.τ Cert.AdamWConvBIdeal.sig) → Buf (Elt Ideal) ℓ) (g : Dev Cert.AdamWConvBIdeal.nD → PrngReg), Pre_AdamWConvBIdeal m →
    θ_run (Cert.AdamWConvBIdeal.defs (F := Ideal)) (onTc (τ := Cert.AdamWConvBIdeal.τ) (Cert.AdamWConvBIdeal.main (F := Ideal))) ⟨m, fun _ => 0, g⟩ (fun r => (∀ c : Dev Cert.AdamWConvBIdeal.nD,
      r.2.mem ((c.tc : Thread Cert.AdamWConvBIdeal.nD Cert.AdamWConvBIdeal.τ).loc Cert.AdamWConvBIdeal.main_arg0) = m ((c.tc : Thread Cert.AdamWConvBIdeal.nD Cert.AdamWConvBIdeal.τ).loc Cert.AdamWConvBIdeal.main_arg0)
      ∧ r.2.mem ((c.tc : Thread Cert.AdamWConvBIdeal.nD Cert.AdamWConvBIdeal.τ).loc Cert.AdamWConvBIdeal.main_arg1) = m ((c.tc : Thread Cert.AdamWConvBIdeal.nD Cert.AdamWConvBIdeal.τ).loc Cert.AdamWConvBIdeal.main_arg1)
      ∧ r.2.mem ((c.tc : Thread Cert.AdamWConvBIdeal.nD Cert.AdamWConvBIdeal.τ).loc Cert.AdamWConvBIdeal.main_arg2) = m ((c.tc : Thread Cert.AdamWConvBIdeal.nD Cert.AdamWConvBIdeal.τ).loc Cert.AdamWConvBIdeal.main_arg2)
      ∧ r.2.mem ((c.tc : Thread Cert.AdamWConvBIdeal.nD Cert.AdamWConvBIdeal.τ).loc Cert.AdamWConvBIdeal.main_arg3) = m ((c.tc : Thread Cert.AdamWConvBIdeal.nD Cert.AdamWConvBIdeal.τ).loc Cert.AdamWConvBIdeal.main_arg3))
      ∧ r.2.sem = fun _ => 0)

def quiescent_AdamWConvBRefIdeal [hAdamWConvBRefIdeal : Cert.AdamWConvBRefIdeal.Facts] : Prop :=
  ∀ (m : (ℓ : Loc Cert.AdamWConvBRefIdeal.nD Cert.AdamWConvBRefIdeal.τ Cert.AdamWConvBRefIdeal.sig) → Buf (Elt Ideal) ℓ) (g : Dev Cert.AdamWConvBRefIdeal.nD → PrngReg), Pre_AdamWConvBRefIdeal m →
    θ_run (Cert.AdamWConvBRefIdeal.defs (F := Ideal)) (onTc (τ := Cert.AdamWConvBRefIdeal.τ) (Cert.AdamWConvBRefIdeal.main (F := Ideal))) ⟨m, fun _ => 0, g⟩ (fun r => (∀ c : Dev Cert.AdamWConvBRefIdeal.nD,
      r.2.mem ((c.tc : Thread Cert.AdamWConvBRefIdeal.nD Cert.AdamWConvBRefIdeal.τ).loc Cert.AdamWConvBRefIdeal.main_arg0) = m ((c.tc : Thread Cert.AdamWConvBRefIdeal.nD Cert.AdamWConvBRefIdeal.τ).loc Cert.AdamWConvBRefIdeal.main_arg0)
      ∧ r.2.mem ((c.tc : Thread Cert.AdamWConvBRefIdeal.nD Cert.AdamWConvBRefIdeal.τ).loc Cert.AdamWConvBRefIdeal.main_arg1) = m ((c.tc : Thread Cert.AdamWConvBRefIdeal.nD Cert.AdamWConvBRefIdeal.τ).loc Cert.AdamWConvBRefIdeal.main_arg1)
      ∧ r.2.mem ((c.tc : Thread Cert.AdamWConvBRefIdeal.nD Cert.AdamWConvBRefIdeal.τ).loc Cert.AdamWConvBRefIdeal.main_arg2) = m ((c.tc : Thread Cert.AdamWConvBRefIdeal.nD Cert.AdamWConvBRefIdeal.τ).loc Cert.AdamWConvBRefIdeal.main_arg2)
      ∧ r.2.mem ((c.tc : Thread Cert.AdamWConvBRefIdeal.nD Cert.AdamWConvBRefIdeal.τ).loc Cert.AdamWConvBRefIdeal.main_arg3) = m ((c.tc : Thread Cert.AdamWConvBRefIdeal.nD Cert.AdamWConvBRefIdeal.τ).loc Cert.AdamWConvBRefIdeal.main_arg3))
      ∧ r.2.sem = fun _ => 0)

def quiescent_AdamWGate [hAdamWGate : Cert.AdamWGate.Facts] : Prop :=
  ∀ (m : (ℓ : Loc Cert.AdamWGate.nD Cert.AdamWGate.τ Cert.AdamWGate.sig) → Buf (Elt Bits) ℓ) (g : Dev Cert.AdamWGate.nD → PrngReg), Pre_AdamWGate m →
    θ_run (Cert.AdamWGate.defs (F := Bits)) (onTc (τ := Cert.AdamWGate.τ) (Cert.AdamWGate.main (F := Bits))) ⟨m, fun _ => 0, g⟩ (fun r => (∀ c : Dev Cert.AdamWGate.nD,
      r.2.mem ((c.tc : Thread Cert.AdamWGate.nD Cert.AdamWGate.τ).loc Cert.AdamWGate.main_arg0) = m ((c.tc : Thread Cert.AdamWGate.nD Cert.AdamWGate.τ).loc Cert.AdamWGate.main_arg0)
      ∧ r.2.mem ((c.tc : Thread Cert.AdamWGate.nD Cert.AdamWGate.τ).loc Cert.AdamWGate.main_arg1) = m ((c.tc : Thread Cert.AdamWGate.nD Cert.AdamWGate.τ).loc Cert.AdamWGate.main_arg1)
      ∧ r.2.mem ((c.tc : Thread Cert.AdamWGate.nD Cert.AdamWGate.τ).loc Cert.AdamWGate.main_arg2) = m ((c.tc : Thread Cert.AdamWGate.nD Cert.AdamWGate.τ).loc Cert.AdamWGate.main_arg2)
      ∧ r.2.mem ((c.tc : Thread Cert.AdamWGate.nD Cert.AdamWGate.τ).loc Cert.AdamWGate.main_arg3) = m ((c.tc : Thread Cert.AdamWGate.nD Cert.AdamWGate.τ).loc Cert.AdamWGate.main_arg3))
      ∧ r.2.sem = fun _ => 0)

def quiescent_AdamWGateIdeal [hAdamWGateIdeal : Cert.AdamWGateIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg), Pre_AdamWGateIdeal m →
    θ_run (Cert.AdamWGateIdeal.defs (F := Ideal)) (onTc (τ := Cert.AdamWGateIdeal.τ) (Cert.AdamWGateIdeal.main (F := Ideal))) ⟨m, fun _ => 0, g⟩ (fun r => (∀ c : Dev Cert.AdamWGateIdeal.nD,
      r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
      ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
      ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
      ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ r.2.sem = fun _ => 0)

def quiescent_AdamWGateRefIdeal [hAdamWGateRefIdeal : Cert.AdamWGateRefIdeal.Facts] : Prop :=
  ∀ (m : (ℓ : Loc Cert.AdamWGateRefIdeal.nD Cert.AdamWGateRefIdeal.τ Cert.AdamWGateRefIdeal.sig) → Buf (Elt Ideal) ℓ) (g : Dev Cert.AdamWGateRefIdeal.nD → PrngReg), Pre_AdamWGateRefIdeal m →
    θ_run (Cert.AdamWGateRefIdeal.defs (F := Ideal)) (onTc (τ := Cert.AdamWGateRefIdeal.τ) (Cert.AdamWGateRefIdeal.main (F := Ideal))) ⟨m, fun _ => 0, g⟩ (fun r => (∀ c : Dev Cert.AdamWGateRefIdeal.nD,
      r.2.mem ((c.tc : Thread Cert.AdamWGateRefIdeal.nD Cert.AdamWGateRefIdeal.τ).loc Cert.AdamWGateRefIdeal.main_arg0) = m ((c.tc : Thread Cert.AdamWGateRefIdeal.nD Cert.AdamWGateRefIdeal.τ).loc Cert.AdamWGateRefIdeal.main_arg0)
      ∧ r.2.mem ((c.tc : Thread Cert.AdamWGateRefIdeal.nD Cert.AdamWGateRefIdeal.τ).loc Cert.AdamWGateRefIdeal.main_arg1) = m ((c.tc : Thread Cert.AdamWGateRefIdeal.nD Cert.AdamWGateRefIdeal.τ).loc Cert.AdamWGateRefIdeal.main_arg1)
      ∧ r.2.mem ((c.tc : Thread Cert.AdamWGateRefIdeal.nD Cert.AdamWGateRefIdeal.τ).loc Cert.AdamWGateRefIdeal.main_arg2) = m ((c.tc : Thread Cert.AdamWGateRefIdeal.nD Cert.AdamWGateRefIdeal.τ).loc Cert.AdamWGateRefIdeal.main_arg2)
      ∧ r.2.mem ((c.tc : Thread Cert.AdamWGateRefIdeal.nD Cert.AdamWGateRefIdeal.τ).loc Cert.AdamWGateRefIdeal.main_arg3) = m ((c.tc : Thread Cert.AdamWGateRefIdeal.nD Cert.AdamWGateRefIdeal.τ).loc Cert.AdamWGateRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWQkv [hAdamWQkv : Cert.AdamWQkv.Facts] : Prop :=
  ∀ (m : (ℓ : Loc Cert.AdamWQkv.nD Cert.AdamWQkv.τ Cert.AdamWQkv.sig) → Buf (Elt Bits) ℓ) (g : Dev Cert.AdamWQkv.nD → PrngReg), Pre_AdamWQkv m →
    θ_run (Cert.AdamWQkv.defs (F := Bits)) (onTc (τ := Cert.AdamWQkv.τ) (Cert.AdamWQkv.main (F := Bits))) ⟨m, fun _ => 0, g⟩ (fun r => (∀ c : Dev Cert.AdamWQkv.nD,
      r.2.mem ((c.tc : Thread Cert.AdamWQkv.nD Cert.AdamWQkv.τ).loc Cert.AdamWQkv.main_arg0) = m ((c.tc : Thread Cert.AdamWQkv.nD Cert.AdamWQkv.τ).loc Cert.AdamWQkv.main_arg0)
      ∧ r.2.mem ((c.tc : Thread Cert.AdamWQkv.nD Cert.AdamWQkv.τ).loc Cert.AdamWQkv.main_arg1) = m ((c.tc : Thread Cert.AdamWQkv.nD Cert.AdamWQkv.τ).loc Cert.AdamWQkv.main_arg1)
      ∧ r.2.mem ((c.tc : Thread Cert.AdamWQkv.nD Cert.AdamWQkv.τ).loc Cert.AdamWQkv.main_arg2) = m ((c.tc : Thread Cert.AdamWQkv.nD Cert.AdamWQkv.τ).loc Cert.AdamWQkv.main_arg2)
      ∧ r.2.mem ((c.tc : Thread Cert.AdamWQkv.nD Cert.AdamWQkv.τ).loc Cert.AdamWQkv.main_arg3) = m ((c.tc : Thread Cert.AdamWQkv.nD Cert.AdamWQkv.τ).loc Cert.AdamWQkv.main_arg3))
      ∧ r.2.sem = fun _ => 0)

def quiescent_AdamWQkvIdeal [hAdamWQkvIdeal : Cert.AdamWQkvIdeal.Facts] : Prop :=
  ∀ (m : (ℓ : Loc Cert.AdamWQkvIdeal.nD Cert.AdamWQkvIdeal.τ Cert.AdamWQkvIdeal.sig) → Buf (Elt Ideal) ℓ) (g : Dev Cert.AdamWQkvIdeal.nD → PrngReg), Pre_AdamWQkvIdeal m →
    θ_run (Cert.AdamWQkvIdeal.defs (F := Ideal)) (onTc (τ := Cert.AdamWQkvIdeal.τ) (Cert.AdamWQkvIdeal.main (F := Ideal))) ⟨m, fun _ => 0, g⟩ (fun r => (∀ c : Dev Cert.AdamWQkvIdeal.nD,
      r.2.mem ((c.tc : Thread Cert.AdamWQkvIdeal.nD Cert.AdamWQkvIdeal.τ).loc Cert.AdamWQkvIdeal.main_arg0) = m ((c.tc : Thread Cert.AdamWQkvIdeal.nD Cert.AdamWQkvIdeal.τ).loc Cert.AdamWQkvIdeal.main_arg0)
      ∧ r.2.mem ((c.tc : Thread Cert.AdamWQkvIdeal.nD Cert.AdamWQkvIdeal.τ).loc Cert.AdamWQkvIdeal.main_arg1) = m ((c.tc : Thread Cert.AdamWQkvIdeal.nD Cert.AdamWQkvIdeal.τ).loc Cert.AdamWQkvIdeal.main_arg1)
      ∧ r.2.mem ((c.tc : Thread Cert.AdamWQkvIdeal.nD Cert.AdamWQkvIdeal.τ).loc Cert.AdamWQkvIdeal.main_arg2) = m ((c.tc : Thread Cert.AdamWQkvIdeal.nD Cert.AdamWQkvIdeal.τ).loc Cert.AdamWQkvIdeal.main_arg2)
      ∧ r.2.mem ((c.tc : Thread Cert.AdamWQkvIdeal.nD Cert.AdamWQkvIdeal.τ).loc Cert.AdamWQkvIdeal.main_arg3) = m ((c.tc : Thread Cert.AdamWQkvIdeal.nD Cert.AdamWQkvIdeal.τ).loc Cert.AdamWQkvIdeal.main_arg3))
      ∧ r.2.sem = fun _ => 0)

def quiescent_AdamWQkvRefIdeal [hAdamWQkvRefIdeal : Cert.AdamWQkvRefIdeal.Facts] : Prop :=
  ∀ (m : (ℓ : Loc Cert.AdamWQkvRefIdeal.nD Cert.AdamWQkvRefIdeal.τ Cert.AdamWQkvRefIdeal.sig) → Buf (Elt Ideal) ℓ) (g : Dev Cert.AdamWQkvRefIdeal.nD → PrngReg), Pre_AdamWQkvRefIdeal m →
    θ_run (Cert.AdamWQkvRefIdeal.defs (F := Ideal)) (onTc (τ := Cert.AdamWQkvRefIdeal.τ) (Cert.AdamWQkvRefIdeal.main (F := Ideal))) ⟨m, fun _ => 0, g⟩ (fun r => (∀ c : Dev Cert.AdamWQkvRefIdeal.nD,
      r.2.mem ((c.tc : Thread Cert.AdamWQkvRefIdeal.nD Cert.AdamWQkvRefIdeal.τ).loc Cert.AdamWQkvRefIdeal.main_arg0) = m ((c.tc : Thread Cert.AdamWQkvRefIdeal.nD Cert.AdamWQkvRefIdeal.τ).loc Cert.AdamWQkvRefIdeal.main_arg0)
      ∧ r.2.mem ((c.tc : Thread Cert.AdamWQkvRefIdeal.nD Cert.AdamWQkvRefIdeal.τ).loc Cert.AdamWQkvRefIdeal.main_arg1) = m ((c.tc : Thread Cert.AdamWQkvRefIdeal.nD Cert.AdamWQkvRefIdeal.τ).loc Cert.AdamWQkvRefIdeal.main_arg1)
      ∧ r.2.mem ((c.tc : Thread Cert.AdamWQkvRefIdeal.nD Cert.AdamWQkvRefIdeal.τ).loc Cert.AdamWQkvRefIdeal.main_arg2) = m ((c.tc : Thread Cert.AdamWQkvRefIdeal.nD Cert.AdamWQkvRefIdeal.τ).loc Cert.AdamWQkvRefIdeal.main_arg2)
      ∧ r.2.mem ((c.tc : Thread Cert.AdamWQkvRefIdeal.nD Cert.AdamWQkvRefIdeal.τ).loc Cert.AdamWQkvRefIdeal.main_arg3) = m ((c.tc : Thread Cert.AdamWQkvRefIdeal.nD Cert.AdamWQkvRefIdeal.τ).loc Cert.AdamWQkvRefIdeal.main_arg3))
      ∧ r.2.sem = fun _ => 0)

def quiescent_AdamWMlp [hAdamWMlp : Cert.AdamWMlp.Facts] : Prop :=
  ∀ (m : (ℓ : Loc Cert.AdamWMlp.nD Cert.AdamWMlp.τ Cert.AdamWMlp.sig) → Buf (Elt Bits) ℓ) (g : Dev Cert.AdamWMlp.nD → PrngReg), Pre_AdamWMlp m →
    θ_run (Cert.AdamWMlp.defs (F := Bits)) (onTc (τ := Cert.AdamWMlp.τ) (Cert.AdamWMlp.main (F := Bits))) ⟨m, fun _ => 0, g⟩ (fun r => (∀ c : Dev Cert.AdamWMlp.nD,
      r.2.mem ((c.tc : Thread Cert.AdamWMlp.nD Cert.AdamWMlp.τ).loc Cert.AdamWMlp.main_arg0) = m ((c.tc : Thread Cert.AdamWMlp.nD Cert.AdamWMlp.τ).loc Cert.AdamWMlp.main_arg0)
      ∧ r.2.mem ((c.tc : Thread Cert.AdamWMlp.nD Cert.AdamWMlp.τ).loc Cert.AdamWMlp.main_arg1) = m ((c.tc : Thread Cert.AdamWMlp.nD Cert.AdamWMlp.τ).loc Cert.AdamWMlp.main_arg1)
      ∧ r.2.mem ((c.tc : Thread Cert.AdamWMlp.nD Cert.AdamWMlp.τ).loc Cert.AdamWMlp.main_arg2) = m ((c.tc : Thread Cert.AdamWMlp.nD Cert.AdamWMlp.τ).loc Cert.AdamWMlp.main_arg2)
      ∧ r.2.mem ((c.tc : Thread Cert.AdamWMlp.nD Cert.AdamWMlp.τ).loc Cert.AdamWMlp.main_arg3) = m ((c.tc : Thread Cert.AdamWMlp.nD Cert.AdamWMlp.τ).loc Cert.AdamWMlp.main_arg3))
      ∧ r.2.sem = fun _ => 0)

def quiescent_AdamWMlpIdeal [hAdamWMlpIdeal : Cert.AdamWMlpIdeal.Facts] : Prop :=
  ∀ (m : (ℓ : Loc Cert.AdamWMlpIdeal.nD Cert.AdamWMlpIdeal.τ Cert.AdamWMlpIdeal.sig) → Buf (Elt Ideal) ℓ) (g : Dev Cert.AdamWMlpIdeal.nD → PrngReg), Pre_AdamWMlpIdeal m →
    θ_run (Cert.AdamWMlpIdeal.defs (F := Ideal)) (onTc (τ := Cert.AdamWMlpIdeal.τ) (Cert.AdamWMlpIdeal.main (F := Ideal))) ⟨m, fun _ => 0, g⟩ (fun r => (∀ c : Dev Cert.AdamWMlpIdeal.nD,
      r.2.mem ((c.tc : Thread Cert.AdamWMlpIdeal.nD Cert.AdamWMlpIdeal.τ).loc Cert.AdamWMlpIdeal.main_arg0) = m ((c.tc : Thread Cert.AdamWMlpIdeal.nD Cert.AdamWMlpIdeal.τ).loc Cert.AdamWMlpIdeal.main_arg0)
      ∧ r.2.mem ((c.tc : Thread Cert.AdamWMlpIdeal.nD Cert.AdamWMlpIdeal.τ).loc Cert.AdamWMlpIdeal.main_arg1) = m ((c.tc : Thread Cert.AdamWMlpIdeal.nD Cert.AdamWMlpIdeal.τ).loc Cert.AdamWMlpIdeal.main_arg1)
      ∧ r.2.mem ((c.tc : Thread Cert.AdamWMlpIdeal.nD Cert.AdamWMlpIdeal.τ).loc Cert.AdamWMlpIdeal.main_arg2) = m ((c.tc : Thread Cert.AdamWMlpIdeal.nD Cert.AdamWMlpIdeal.τ).loc Cert.AdamWMlpIdeal.main_arg2)
      ∧ r.2.mem ((c.tc : Thread Cert.AdamWMlpIdeal.nD Cert.AdamWMlpIdeal.τ).loc Cert.AdamWMlpIdeal.main_arg3) = m ((c.tc : Thread Cert.AdamWMlpIdeal.nD Cert.AdamWMlpIdeal.τ).loc Cert.AdamWMlpIdeal.main_arg3))
      ∧ r.2.sem = fun _ => 0)

def quiescent_AdamWMlpRefIdeal [hAdamWMlpRefIdeal : Cert.AdamWMlpRefIdeal.Facts] : Prop :=
  ∀ (m : (ℓ : Loc Cert.AdamWMlpRefIdeal.nD Cert.AdamWMlpRefIdeal.τ Cert.AdamWMlpRefIdeal.sig) → Buf (Elt Ideal) ℓ) (g : Dev Cert.AdamWMlpRefIdeal.nD → PrngReg), Pre_AdamWMlpRefIdeal m →
    θ_run (Cert.AdamWMlpRefIdeal.defs (F := Ideal)) (onTc (τ := Cert.AdamWMlpRefIdeal.τ) (Cert.AdamWMlpRefIdeal.main (F := Ideal))) ⟨m, fun _ => 0, g⟩ (fun r => (∀ c : Dev Cert.AdamWMlpRefIdeal.nD,
      r.2.mem ((c.tc : Thread Cert.AdamWMlpRefIdeal.nD Cert.AdamWMlpRefIdeal.τ).loc Cert.AdamWMlpRefIdeal.main_arg0) = m ((c.tc : Thread Cert.AdamWMlpRefIdeal.nD Cert.AdamWMlpRefIdeal.τ).loc Cert.AdamWMlpRefIdeal.main_arg0)
      ∧ r.2.mem ((c.tc : Thread Cert.AdamWMlpRefIdeal.nD Cert.AdamWMlpRefIdeal.τ).loc Cert.AdamWMlpRefIdeal.main_arg1) = m ((c.tc : Thread Cert.AdamWMlpRefIdeal.nD Cert.AdamWMlpRefIdeal.τ).loc Cert.AdamWMlpRefIdeal.main_arg1)
      ∧ r.2.mem ((c.tc : Thread Cert.AdamWMlpRefIdeal.nD Cert.AdamWMlpRefIdeal.τ).loc Cert.AdamWMlpRefIdeal.main_arg2) = m ((c.tc : Thread Cert.AdamWMlpRefIdeal.nD Cert.AdamWMlpRefIdeal.τ).loc Cert.AdamWMlpRefIdeal.main_arg2)
      ∧ r.2.mem ((c.tc : Thread Cert.AdamWMlpRefIdeal.nD Cert.AdamWMlpRefIdeal.τ).loc Cert.AdamWMlpRefIdeal.main_arg3) = m ((c.tc : Thread Cert.AdamWMlpRefIdeal.nD Cert.AdamWMlpRefIdeal.τ).loc Cert.AdamWMlpRefIdeal.main_arg3))
      ∧ r.2.sem = fun _ => 0)

def quiescent_AdamWProj [hAdamWProj : Cert.AdamWProj.Facts] : Prop :=
  ∀ (m : (ℓ : Loc Cert.AdamWProj.nD Cert.AdamWProj.τ Cert.AdamWProj.sig) → Buf (Elt Bits) ℓ) (g : Dev Cert.AdamWProj.nD → PrngReg), Pre_AdamWProj m →
    θ_run (Cert.AdamWProj.defs (F := Bits)) (onTc (τ := Cert.AdamWProj.τ) (Cert.AdamWProj.main (F := Bits))) ⟨m, fun _ => 0, g⟩ (fun r => (∀ c : Dev Cert.AdamWProj.nD,
      r.2.mem ((c.tc : Thread Cert.AdamWProj.nD Cert.AdamWProj.τ).loc Cert.AdamWProj.main_arg0) = m ((c.tc : Thread Cert.AdamWProj.nD Cert.AdamWProj.τ).loc Cert.AdamWProj.main_arg0)
      ∧ r.2.mem ((c.tc : Thread Cert.AdamWProj.nD Cert.AdamWProj.τ).loc Cert.AdamWProj.main_arg1) = m ((c.tc : Thread Cert.AdamWProj.nD Cert.AdamWProj.τ).loc Cert.AdamWProj.main_arg1)
      ∧ r.2.mem ((c.tc : Thread Cert.AdamWProj.nD Cert.AdamWProj.τ).loc Cert.AdamWProj.main_arg2) = m ((c.tc : Thread Cert.AdamWProj.nD Cert.AdamWProj.τ).loc Cert.AdamWProj.main_arg2)
      ∧ r.2.mem ((c.tc : Thread Cert.AdamWProj.nD Cert.AdamWProj.τ).loc Cert.AdamWProj.main_arg3) = m ((c.tc : Thread Cert.AdamWProj.nD Cert.AdamWProj.τ).loc Cert.AdamWProj.main_arg3))
      ∧ r.2.sem = fun _ => 0)

def quiescent_AdamWProjIdeal [hAdamWProjIdeal : Cert.AdamWProjIdeal.Facts] : Prop :=
  ∀ (m : (ℓ : Loc Cert.AdamWProjIdeal.nD Cert.AdamWProjIdeal.τ Cert.AdamWProjIdeal.sig) → Buf (Elt Ideal) ℓ) (g : Dev Cert.AdamWProjIdeal.nD → PrngReg), Pre_AdamWProjIdeal m →
    θ_run (Cert.AdamWProjIdeal.defs (F := Ideal)) (onTc (τ := Cert.AdamWProjIdeal.τ) (Cert.AdamWProjIdeal.main (F := Ideal))) ⟨m, fun _ => 0, g⟩ (fun r => (∀ c : Dev Cert.AdamWProjIdeal.nD,
      r.2.mem ((c.tc : Thread Cert.AdamWProjIdeal.nD Cert.AdamWProjIdeal.τ).loc Cert.AdamWProjIdeal.main_arg0) = m ((c.tc : Thread Cert.AdamWProjIdeal.nD Cert.AdamWProjIdeal.τ).loc Cert.AdamWProjIdeal.main_arg0)
      ∧ r.2.mem ((c.tc : Thread Cert.AdamWProjIdeal.nD Cert.AdamWProjIdeal.τ).loc Cert.AdamWProjIdeal.main_arg1) = m ((c.tc : Thread Cert.AdamWProjIdeal.nD Cert.AdamWProjIdeal.τ).loc Cert.AdamWProjIdeal.main_arg1)
      ∧ r.2.mem ((c.tc : Thread Cert.AdamWProjIdeal.nD Cert.AdamWProjIdeal.τ).loc Cert.AdamWProjIdeal.main_arg2) = m ((c.tc : Thread Cert.AdamWProjIdeal.nD Cert.AdamWProjIdeal.τ).loc Cert.AdamWProjIdeal.main_arg2)
      ∧ r.2.mem ((c.tc : Thread Cert.AdamWProjIdeal.nD Cert.AdamWProjIdeal.τ).loc Cert.AdamWProjIdeal.main_arg3) = m ((c.tc : Thread Cert.AdamWProjIdeal.nD Cert.AdamWProjIdeal.τ).loc Cert.AdamWProjIdeal.main_arg3))
      ∧ r.2.sem = fun _ => 0)

def quiescent_AdamWProjRefIdeal [hAdamWProjRefIdeal : Cert.AdamWProjRefIdeal.Facts] : Prop :=
  ∀ (m : (ℓ : Loc Cert.AdamWProjRefIdeal.nD Cert.AdamWProjRefIdeal.τ Cert.AdamWProjRefIdeal.sig) → Buf (Elt Ideal) ℓ) (g : Dev Cert.AdamWProjRefIdeal.nD → PrngReg), Pre_AdamWProjRefIdeal m →
    θ_run (Cert.AdamWProjRefIdeal.defs (F := Ideal)) (onTc (τ := Cert.AdamWProjRefIdeal.τ) (Cert.AdamWProjRefIdeal.main (F := Ideal))) ⟨m, fun _ => 0, g⟩ (fun r => (∀ c : Dev Cert.AdamWProjRefIdeal.nD,
      r.2.mem ((c.tc : Thread Cert.AdamWProjRefIdeal.nD Cert.AdamWProjRefIdeal.τ).loc Cert.AdamWProjRefIdeal.main_arg0) = m ((c.tc : Thread Cert.AdamWProjRefIdeal.nD Cert.AdamWProjRefIdeal.τ).loc Cert.AdamWProjRefIdeal.main_arg0)
      ∧ r.2.mem ((c.tc : Thread Cert.AdamWProjRefIdeal.nD Cert.AdamWProjRefIdeal.τ).loc Cert.AdamWProjRefIdeal.main_arg1) = m ((c.tc : Thread Cert.AdamWProjRefIdeal.nD Cert.AdamWProjRefIdeal.τ).loc Cert.AdamWProjRefIdeal.main_arg1)
      ∧ r.2.mem ((c.tc : Thread Cert.AdamWProjRefIdeal.nD Cert.AdamWProjRefIdeal.τ).loc Cert.AdamWProjRefIdeal.main_arg2) = m ((c.tc : Thread Cert.AdamWProjRefIdeal.nD Cert.AdamWProjRefIdeal.τ).loc Cert.AdamWProjRefIdeal.main_arg2)
      ∧ r.2.mem ((c.tc : Thread Cert.AdamWProjRefIdeal.nD Cert.AdamWProjRefIdeal.τ).loc Cert.AdamWProjRefIdeal.main_arg3) = m ((c.tc : Thread Cert.AdamWProjRefIdeal.nD Cert.AdamWProjRefIdeal.τ).loc Cert.AdamWProjRefIdeal.main_arg3))
      ∧ r.2.sem = fun _ => 0)

def quiescent_AdamWPle [hAdamWPle : Cert.AdamWPle.Facts] : Prop :=
  ∀ (m : (ℓ : Loc Cert.AdamWPle.nD Cert.AdamWPle.τ Cert.AdamWPle.sig) → Buf (Elt Bits) ℓ) (g : Dev Cert.AdamWPle.nD → PrngReg), Pre_AdamWPle m →
    θ_run (Cert.AdamWPle.defs (F := Bits)) (onTc (τ := Cert.AdamWPle.τ) (Cert.AdamWPle.main (F := Bits))) ⟨m, fun _ => 0, g⟩ (fun r => (∀ c : Dev Cert.AdamWPle.nD,
      r.2.mem ((c.tc : Thread Cert.AdamWPle.nD Cert.AdamWPle.τ).loc Cert.AdamWPle.main_arg0) = m ((c.tc : Thread Cert.AdamWPle.nD Cert.AdamWPle.τ).loc Cert.AdamWPle.main_arg0)
      ∧ r.2.mem ((c.tc : Thread Cert.AdamWPle.nD Cert.AdamWPle.τ).loc Cert.AdamWPle.main_arg1) = m ((c.tc : Thread Cert.AdamWPle.nD Cert.AdamWPle.τ).loc Cert.AdamWPle.main_arg1)
      ∧ r.2.mem ((c.tc : Thread Cert.AdamWPle.nD Cert.AdamWPle.τ).loc Cert.AdamWPle.main_arg2) = m ((c.tc : Thread Cert.AdamWPle.nD Cert.AdamWPle.τ).loc Cert.AdamWPle.main_arg2)
      ∧ r.2.mem ((c.tc : Thread Cert.AdamWPle.nD Cert.AdamWPle.τ).loc Cert.AdamWPle.main_arg3) = m ((c.tc : Thread Cert.AdamWPle.nD Cert.AdamWPle.τ).loc Cert.AdamWPle.main_arg3))
      ∧ r.2.sem = fun _ => 0)

def quiescent_AdamWPleIdeal [hAdamWPleIdeal : Cert.AdamWPleIdeal.Facts] : Prop :=
  ∀ (m : (ℓ : Loc Cert.AdamWPleIdeal.nD Cert.AdamWPleIdeal.τ Cert.AdamWPleIdeal.sig) → Buf (Elt Ideal) ℓ) (g : Dev Cert.AdamWPleIdeal.nD → PrngReg), Pre_AdamWPleIdeal m →
    θ_run (Cert.AdamWPleIdeal.defs (F := Ideal)) (onTc (τ := Cert.AdamWPleIdeal.τ) (Cert.AdamWPleIdeal.main (F := Ideal))) ⟨m, fun _ => 0, g⟩ (fun r => (∀ c : Dev Cert.AdamWPleIdeal.nD,
      r.2.mem ((c.tc : Thread Cert.AdamWPleIdeal.nD Cert.AdamWPleIdeal.τ).loc Cert.AdamWPleIdeal.main_arg0) = m ((c.tc : Thread Cert.AdamWPleIdeal.nD Cert.AdamWPleIdeal.τ).loc Cert.AdamWPleIdeal.main_arg0)
      ∧ r.2.mem ((c.tc : Thread Cert.AdamWPleIdeal.nD Cert.AdamWPleIdeal.τ).loc Cert.AdamWPleIdeal.main_arg1) = m ((c.tc : Thread Cert.AdamWPleIdeal.nD Cert.AdamWPleIdeal.τ).loc Cert.AdamWPleIdeal.main_arg1)
      ∧ r.2.mem ((c.tc : Thread Cert.AdamWPleIdeal.nD Cert.AdamWPleIdeal.τ).loc Cert.AdamWPleIdeal.main_arg2) = m ((c.tc : Thread Cert.AdamWPleIdeal.nD Cert.AdamWPleIdeal.τ).loc Cert.AdamWPleIdeal.main_arg2)
      ∧ r.2.mem ((c.tc : Thread Cert.AdamWPleIdeal.nD Cert.AdamWPleIdeal.τ).loc Cert.AdamWPleIdeal.main_arg3) = m ((c.tc : Thread Cert.AdamWPleIdeal.nD Cert.AdamWPleIdeal.τ).loc Cert.AdamWPleIdeal.main_arg3))
      ∧ r.2.sem = fun _ => 0)

def quiescent_AdamWPleRefIdeal [hAdamWPleRefIdeal : Cert.AdamWPleRefIdeal.Facts] : Prop :=
  ∀ (m : (ℓ : Loc Cert.AdamWPleRefIdeal.nD Cert.AdamWPleRefIdeal.τ Cert.AdamWPleRefIdeal.sig) → Buf (Elt Ideal) ℓ) (g : Dev Cert.AdamWPleRefIdeal.nD → PrngReg), Pre_AdamWPleRefIdeal m →
    θ_run (Cert.AdamWPleRefIdeal.defs (F := Ideal)) (onTc (τ := Cert.AdamWPleRefIdeal.τ) (Cert.AdamWPleRefIdeal.main (F := Ideal))) ⟨m, fun _ => 0, g⟩ (fun r => (∀ c : Dev Cert.AdamWPleRefIdeal.nD,
      r.2.mem ((c.tc : Thread Cert.AdamWPleRefIdeal.nD Cert.AdamWPleRefIdeal.τ).loc Cert.AdamWPleRefIdeal.main_arg0) = m ((c.tc : Thread Cert.AdamWPleRefIdeal.nD Cert.AdamWPleRefIdeal.τ).loc Cert.AdamWPleRefIdeal.main_arg0)
      ∧ r.2.mem ((c.tc : Thread Cert.AdamWPleRefIdeal.nD Cert.AdamWPleRefIdeal.τ).loc Cert.AdamWPleRefIdeal.main_arg1) = m ((c.tc : Thread Cert.AdamWPleRefIdeal.nD Cert.AdamWPleRefIdeal.τ).loc Cert.AdamWPleRefIdeal.main_arg1)
      ∧ r.2.mem ((c.tc : Thread Cert.AdamWPleRefIdeal.nD Cert.AdamWPleRefIdeal.τ).loc Cert.AdamWPleRefIdeal.main_arg2) = m ((c.tc : Thread Cert.AdamWPleRefIdeal.nD Cert.AdamWPleRefIdeal.τ).loc Cert.AdamWPleRefIdeal.main_arg2)
      ∧ r.2.mem ((c.tc : Thread Cert.AdamWPleRefIdeal.nD Cert.AdamWPleRefIdeal.τ).loc Cert.AdamWPleRefIdeal.main_arg3) = m ((c.tc : Thread Cert.AdamWPleRefIdeal.nD Cert.AdamWPleRefIdeal.τ).loc Cert.AdamWPleRefIdeal.main_arg3))
      ∧ r.2.sem = fun _ => 0)

def quiescent_NnIn [hNnIn : Cert.NnIn.Facts] : Prop :=
  ∀ (m : (ℓ : Loc Cert.NnIn.nD Cert.NnIn.τ Cert.NnIn.sig) → Buf (Elt Bits) ℓ) (g : Dev Cert.NnIn.nD → PrngReg), Pre_NnIn m →
    θ_run (Cert.NnIn.defs (F := Bits)) (onTc (τ := Cert.NnIn.τ) (Cert.NnIn.main (F := Bits))) ⟨m, fun _ => 0, g⟩ (fun r => (∀ c : Dev Cert.NnIn.nD,
      r.2.mem ((c.tc : Thread Cert.NnIn.nD Cert.NnIn.τ).loc Cert.NnIn.main_arg0) = m ((c.tc : Thread Cert.NnIn.nD Cert.NnIn.τ).loc Cert.NnIn.main_arg0)
      ∧ r.2.mem ((c.tc : Thread Cert.NnIn.nD Cert.NnIn.τ).loc Cert.NnIn.main_arg1) = m ((c.tc : Thread Cert.NnIn.nD Cert.NnIn.τ).loc Cert.NnIn.main_arg1))
      ∧ r.2.sem = fun _ => 0)

def quiescent_NnInIdeal [hNnInIdeal : Cert.NnInIdeal.Facts] : Prop :=
  ∀ (m : (ℓ : Loc Cert.NnInIdeal.nD Cert.NnInIdeal.τ Cert.NnInIdeal.sig) → Buf (Elt Ideal) ℓ) (g : Dev Cert.NnInIdeal.nD → PrngReg), Pre_NnInIdeal m →
    θ_run (Cert.NnInIdeal.defs (F := Ideal)) (onTc (τ := Cert.NnInIdeal.τ) (Cert.NnInIdeal.main (F := Ideal))) ⟨m, fun _ => 0, g⟩ (fun r => (∀ c : Dev Cert.NnInIdeal.nD,
      r.2.mem ((c.tc : Thread Cert.NnInIdeal.nD Cert.NnInIdeal.τ).loc Cert.NnInIdeal.main_arg0) = m ((c.tc : Thread Cert.NnInIdeal.nD Cert.NnInIdeal.τ).loc Cert.NnInIdeal.main_arg0)
      ∧ r.2.mem ((c.tc : Thread Cert.NnInIdeal.nD Cert.NnInIdeal.τ).loc Cert.NnInIdeal.main_arg1) = m ((c.tc : Thread Cert.NnInIdeal.nD Cert.NnInIdeal.τ).loc Cert.NnInIdeal.main_arg1))
      ∧ r.2.sem = fun _ => 0)

def quiescent_NnInRefIdeal [hNnInRefIdeal : Cert.NnInRefIdeal.Facts] : Prop :=
  ∀ (m : (ℓ : Loc Cert.NnInRefIdeal.nD Cert.NnInRefIdeal.τ Cert.NnInRefIdeal.sig) → Buf (Elt Ideal) ℓ) (g : Dev Cert.NnInRefIdeal.nD → PrngReg), Pre_NnInRefIdeal m →
    θ_run (Cert.NnInRefIdeal.defs (F := Ideal)) (onTc (τ := Cert.NnInRefIdeal.τ) (Cert.NnInRefIdeal.main (F := Ideal))) ⟨m, fun _ => 0, g⟩ (fun r => (∀ c : Dev Cert.NnInRefIdeal.nD,
      r.2.mem ((c.tc : Thread Cert.NnInRefIdeal.nD Cert.NnInRefIdeal.τ).loc Cert.NnInRefIdeal.main_arg0) = m ((c.tc : Thread Cert.NnInRefIdeal.nD Cert.NnInRefIdeal.τ).loc Cert.NnInRefIdeal.main_arg0)
      ∧ r.2.mem ((c.tc : Thread Cert.NnInRefIdeal.nD Cert.NnInRefIdeal.τ).loc Cert.NnInRefIdeal.main_arg1) = m ((c.tc : Thread Cert.NnInRefIdeal.nD Cert.NnInRefIdeal.τ).loc Cert.NnInRefIdeal.main_arg1))
      ∧ r.2.sem = fun _ => 0)

def quiescent_NtIn [hNtIn : Cert.NtIn.Facts] : Prop :=
  ∀ (m : (ℓ : Loc Cert.NtIn.nD Cert.NtIn.τ Cert.NtIn.sig) → Buf (Elt Bits) ℓ) (g : Dev Cert.NtIn.nD → PrngReg), Pre_NtIn m →
    θ_run (Cert.NtIn.defs (F := Bits)) (onTc (τ := Cert.NtIn.τ) (Cert.NtIn.main (F := Bits))) ⟨m, fun _ => 0, g⟩ (fun r => (∀ c : Dev Cert.NtIn.nD,
      r.2.mem ((c.tc : Thread Cert.NtIn.nD Cert.NtIn.τ).loc Cert.NtIn.main_arg0) = m ((c.tc : Thread Cert.NtIn.nD Cert.NtIn.τ).loc Cert.NtIn.main_arg0)
      ∧ r.2.mem ((c.tc : Thread Cert.NtIn.nD Cert.NtIn.τ).loc Cert.NtIn.main_arg1) = m ((c.tc : Thread Cert.NtIn.nD Cert.NtIn.τ).loc Cert.NtIn.main_arg1))
      ∧ r.2.sem = fun _ => 0)

def quiescent_NtInIdeal [hNtInIdeal : Cert.NtInIdeal.Facts] : Prop :=
  ∀ (m : (ℓ : Loc Cert.NtInIdeal.nD Cert.NtInIdeal.τ Cert.NtInIdeal.sig) → Buf (Elt Ideal) ℓ) (g : Dev Cert.NtInIdeal.nD → PrngReg), Pre_NtInIdeal m →
    θ_run (Cert.NtInIdeal.defs (F := Ideal)) (onTc (τ := Cert.NtInIdeal.τ) (Cert.NtInIdeal.main (F := Ideal))) ⟨m, fun _ => 0, g⟩ (fun r => (∀ c : Dev Cert.NtInIdeal.nD,
      r.2.mem ((c.tc : Thread Cert.NtInIdeal.nD Cert.NtInIdeal.τ).loc Cert.NtInIdeal.main_arg0) = m ((c.tc : Thread Cert.NtInIdeal.nD Cert.NtInIdeal.τ).loc Cert.NtInIdeal.main_arg0)
      ∧ r.2.mem ((c.tc : Thread Cert.NtInIdeal.nD Cert.NtInIdeal.τ).loc Cert.NtInIdeal.main_arg1) = m ((c.tc : Thread Cert.NtInIdeal.nD Cert.NtInIdeal.τ).loc Cert.NtInIdeal.main_arg1))
      ∧ r.2.sem = fun _ => 0)

def quiescent_NtInRefIdeal [hNtInRefIdeal : Cert.NtInRefIdeal.Facts] : Prop :=
  ∀ (m : (ℓ : Loc Cert.NtInRefIdeal.nD Cert.NtInRefIdeal.τ Cert.NtInRefIdeal.sig) → Buf (Elt Ideal) ℓ) (g : Dev Cert.NtInRefIdeal.nD → PrngReg), Pre_NtInRefIdeal m →
    θ_run (Cert.NtInRefIdeal.defs (F := Ideal)) (onTc (τ := Cert.NtInRefIdeal.τ) (Cert.NtInRefIdeal.main (F := Ideal))) ⟨m, fun _ => 0, g⟩ (fun r => (∀ c : Dev Cert.NtInRefIdeal.nD,
      r.2.mem ((c.tc : Thread Cert.NtInRefIdeal.nD Cert.NtInRefIdeal.τ).loc Cert.NtInRefIdeal.main_arg0) = m ((c.tc : Thread Cert.NtInRefIdeal.nD Cert.NtInRefIdeal.τ).loc Cert.NtInRefIdeal.main_arg0)
      ∧ r.2.mem ((c.tc : Thread Cert.NtInRefIdeal.nD Cert.NtInRefIdeal.τ).loc Cert.NtInRefIdeal.main_arg1) = m ((c.tc : Thread Cert.NtInRefIdeal.nD Cert.NtInRefIdeal.τ).loc Cert.NtInRefIdeal.main_arg1))
      ∧ r.2.sem = fun _ => 0)

def quiescent_TnIn [hTnIn : Cert.TnIn.Facts] : Prop :=
  ∀ (m : (ℓ : Loc Cert.TnIn.nD Cert.TnIn.τ Cert.TnIn.sig) → Buf (Elt Bits) ℓ) (g : Dev Cert.TnIn.nD → PrngReg), Pre_TnIn m →
    θ_run (Cert.TnIn.defs (F := Bits)) (onTc (τ := Cert.TnIn.τ) (Cert.TnIn.main (F := Bits))) ⟨m, fun _ => 0, g⟩ (fun r => (∀ c : Dev Cert.TnIn.nD,
      r.2.mem ((c.tc : Thread Cert.TnIn.nD Cert.TnIn.τ).loc Cert.TnIn.main_arg0) = m ((c.tc : Thread Cert.TnIn.nD Cert.TnIn.τ).loc Cert.TnIn.main_arg0)
      ∧ r.2.mem ((c.tc : Thread Cert.TnIn.nD Cert.TnIn.τ).loc Cert.TnIn.main_arg1) = m ((c.tc : Thread Cert.TnIn.nD Cert.TnIn.τ).loc Cert.TnIn.main_arg1))
      ∧ r.2.sem = fun _ => 0)

def quiescent_TnInIdeal [hTnInIdeal : Cert.TnInIdeal.Facts] : Prop :=
  ∀ (m : (ℓ : Loc Cert.TnInIdeal.nD Cert.TnInIdeal.τ Cert.TnInIdeal.sig) → Buf (Elt Ideal) ℓ) (g : Dev Cert.TnInIdeal.nD → PrngReg), Pre_TnInIdeal m →
    θ_run (Cert.TnInIdeal.defs (F := Ideal)) (onTc (τ := Cert.TnInIdeal.τ) (Cert.TnInIdeal.main (F := Ideal))) ⟨m, fun _ => 0, g⟩ (fun r => (∀ c : Dev Cert.TnInIdeal.nD,
      r.2.mem ((c.tc : Thread Cert.TnInIdeal.nD Cert.TnInIdeal.τ).loc Cert.TnInIdeal.main_arg0) = m ((c.tc : Thread Cert.TnInIdeal.nD Cert.TnInIdeal.τ).loc Cert.TnInIdeal.main_arg0)
      ∧ r.2.mem ((c.tc : Thread Cert.TnInIdeal.nD Cert.TnInIdeal.τ).loc Cert.TnInIdeal.main_arg1) = m ((c.tc : Thread Cert.TnInIdeal.nD Cert.TnInIdeal.τ).loc Cert.TnInIdeal.main_arg1))
      ∧ r.2.sem = fun _ => 0)

def quiescent_TnInRefIdeal [hTnInRefIdeal : Cert.TnInRefIdeal.Facts] : Prop :=
  ∀ (m : (ℓ : Loc Cert.TnInRefIdeal.nD Cert.TnInRefIdeal.τ Cert.TnInRefIdeal.sig) → Buf (Elt Ideal) ℓ) (g : Dev Cert.TnInRefIdeal.nD → PrngReg), Pre_TnInRefIdeal m →
    θ_run (Cert.TnInRefIdeal.defs (F := Ideal)) (onTc (τ := Cert.TnInRefIdeal.τ) (Cert.TnInRefIdeal.main (F := Ideal))) ⟨m, fun _ => 0, g⟩ (fun r => (∀ c : Dev Cert.TnInRefIdeal.nD,
      r.2.mem ((c.tc : Thread Cert.TnInRefIdeal.nD Cert.TnInRefIdeal.τ).loc Cert.TnInRefIdeal.main_arg0) = m ((c.tc : Thread Cert.TnInRefIdeal.nD Cert.TnInRefIdeal.τ).loc Cert.TnInRefIdeal.main_arg0)
      ∧ r.2.mem ((c.tc : Thread Cert.TnInRefIdeal.nD Cert.TnInRefIdeal.τ).loc Cert.TnInRefIdeal.main_arg1) = m ((c.tc : Thread Cert.TnInRefIdeal.nD Cert.TnInRefIdeal.τ).loc Cert.TnInRefIdeal.main_arg1))
      ∧ r.2.sem = fun _ => 0)

def quiescent_NnSquare [hNnSquare : Cert.NnSquare.Facts] : Prop :=
  ∀ (m : (ℓ : Loc Cert.NnSquare.nD Cert.NnSquare.τ Cert.NnSquare.sig) → Buf (Elt Bits) ℓ) (g : Dev Cert.NnSquare.nD → PrngReg), Pre_NnSquare m →
    θ_run (Cert.NnSquare.defs (F := Bits)) (onTc (τ := Cert.NnSquare.τ) (Cert.NnSquare.main (F := Bits))) ⟨m, fun _ => 0, g⟩ (fun r => (∀ c : Dev Cert.NnSquare.nD,
      r.2.mem ((c.tc : Thread Cert.NnSquare.nD Cert.NnSquare.τ).loc Cert.NnSquare.main_arg0) = m ((c.tc : Thread Cert.NnSquare.nD Cert.NnSquare.τ).loc Cert.NnSquare.main_arg0)
      ∧ r.2.mem ((c.tc : Thread Cert.NnSquare.nD Cert.NnSquare.τ).loc Cert.NnSquare.main_arg1) = m ((c.tc : Thread Cert.NnSquare.nD Cert.NnSquare.τ).loc Cert.NnSquare.main_arg1))
      ∧ r.2.sem = fun _ => 0)

def quiescent_NnSquareIdeal [hNnSquareIdeal : Cert.NnSquareIdeal.Facts] : Prop :=
  ∀ (m : (ℓ : Loc Cert.NnSquareIdeal.nD Cert.NnSquareIdeal.τ Cert.NnSquareIdeal.sig) → Buf (Elt Ideal) ℓ) (g : Dev Cert.NnSquareIdeal.nD → PrngReg), Pre_NnSquareIdeal m →
    θ_run (Cert.NnSquareIdeal.defs (F := Ideal)) (onTc (τ := Cert.NnSquareIdeal.τ) (Cert.NnSquareIdeal.main (F := Ideal))) ⟨m, fun _ => 0, g⟩ (fun r => (∀ c : Dev Cert.NnSquareIdeal.nD,
      r.2.mem ((c.tc : Thread Cert.NnSquareIdeal.nD Cert.NnSquareIdeal.τ).loc Cert.NnSquareIdeal.main_arg0) = m ((c.tc : Thread Cert.NnSquareIdeal.nD Cert.NnSquareIdeal.τ).loc Cert.NnSquareIdeal.main_arg0)
      ∧ r.2.mem ((c.tc : Thread Cert.NnSquareIdeal.nD Cert.NnSquareIdeal.τ).loc Cert.NnSquareIdeal.main_arg1) = m ((c.tc : Thread Cert.NnSquareIdeal.nD Cert.NnSquareIdeal.τ).loc Cert.NnSquareIdeal.main_arg1))
      ∧ r.2.sem = fun _ => 0)

def quiescent_NnSquareRefIdeal [hNnSquareRefIdeal : Cert.NnSquareRefIdeal.Facts] : Prop :=
  ∀ (m : (ℓ : Loc Cert.NnSquareRefIdeal.nD Cert.NnSquareRefIdeal.τ Cert.NnSquareRefIdeal.sig) → Buf (Elt Ideal) ℓ) (g : Dev Cert.NnSquareRefIdeal.nD → PrngReg), Pre_NnSquareRefIdeal m →
    θ_run (Cert.NnSquareRefIdeal.defs (F := Ideal)) (onTc (τ := Cert.NnSquareRefIdeal.τ) (Cert.NnSquareRefIdeal.main (F := Ideal))) ⟨m, fun _ => 0, g⟩ (fun r => (∀ c : Dev Cert.NnSquareRefIdeal.nD,
      r.2.mem ((c.tc : Thread Cert.NnSquareRefIdeal.nD Cert.NnSquareRefIdeal.τ).loc Cert.NnSquareRefIdeal.main_arg0) = m ((c.tc : Thread Cert.NnSquareRefIdeal.nD Cert.NnSquareRefIdeal.τ).loc Cert.NnSquareRefIdeal.main_arg0)
      ∧ r.2.mem ((c.tc : Thread Cert.NnSquareRefIdeal.nD Cert.NnSquareRefIdeal.τ).loc Cert.NnSquareRefIdeal.main_arg1) = m ((c.tc : Thread Cert.NnSquareRefIdeal.nD Cert.NnSquareRefIdeal.τ).loc Cert.NnSquareRefIdeal.main_arg1))
      ∧ r.2.sem = fun _ => 0)

def quiescent_NtSquare [hNtSquare : Cert.NtSquare.Facts] : Prop :=
  ∀ (m : (ℓ : Loc Cert.NtSquare.nD Cert.NtSquare.τ Cert.NtSquare.sig) → Buf (Elt Bits) ℓ) (g : Dev Cert.NtSquare.nD → PrngReg), Pre_NtSquare m →
    θ_run (Cert.NtSquare.defs (F := Bits)) (onTc (τ := Cert.NtSquare.τ) (Cert.NtSquare.main (F := Bits))) ⟨m, fun _ => 0, g⟩ (fun r => (∀ c : Dev Cert.NtSquare.nD,
      r.2.mem ((c.tc : Thread Cert.NtSquare.nD Cert.NtSquare.τ).loc Cert.NtSquare.main_arg0) = m ((c.tc : Thread Cert.NtSquare.nD Cert.NtSquare.τ).loc Cert.NtSquare.main_arg0)
      ∧ r.2.mem ((c.tc : Thread Cert.NtSquare.nD Cert.NtSquare.τ).loc Cert.NtSquare.main_arg1) = m ((c.tc : Thread Cert.NtSquare.nD Cert.NtSquare.τ).loc Cert.NtSquare.main_arg1))
      ∧ r.2.sem = fun _ => 0)

def quiescent_NtSquareIdeal [hNtSquareIdeal : Cert.NtSquareIdeal.Facts] : Prop :=
  ∀ (m : (ℓ : Loc Cert.NtSquareIdeal.nD Cert.NtSquareIdeal.τ Cert.NtSquareIdeal.sig) → Buf (Elt Ideal) ℓ) (g : Dev Cert.NtSquareIdeal.nD → PrngReg), Pre_NtSquareIdeal m →
    θ_run (Cert.NtSquareIdeal.defs (F := Ideal)) (onTc (τ := Cert.NtSquareIdeal.τ) (Cert.NtSquareIdeal.main (F := Ideal))) ⟨m, fun _ => 0, g⟩ (fun r => (∀ c : Dev Cert.NtSquareIdeal.nD,
      r.2.mem ((c.tc : Thread Cert.NtSquareIdeal.nD Cert.NtSquareIdeal.τ).loc Cert.NtSquareIdeal.main_arg0) = m ((c.tc : Thread Cert.NtSquareIdeal.nD Cert.NtSquareIdeal.τ).loc Cert.NtSquareIdeal.main_arg0)
      ∧ r.2.mem ((c.tc : Thread Cert.NtSquareIdeal.nD Cert.NtSquareIdeal.τ).loc Cert.NtSquareIdeal.main_arg1) = m ((c.tc : Thread Cert.NtSquareIdeal.nD Cert.NtSquareIdeal.τ).loc Cert.NtSquareIdeal.main_arg1))
      ∧ r.2.sem = fun _ => 0)

def quiescent_NtSquareRefIdeal [hNtSquareRefIdeal : Cert.NtSquareRefIdeal.Facts] : Prop :=
  ∀ (m : (ℓ : Loc Cert.NtSquareRefIdeal.nD Cert.NtSquareRefIdeal.τ Cert.NtSquareRefIdeal.sig) → Buf (Elt Ideal) ℓ) (g : Dev Cert.NtSquareRefIdeal.nD → PrngReg), Pre_NtSquareRefIdeal m →
    θ_run (Cert.NtSquareRefIdeal.defs (F := Ideal)) (onTc (τ := Cert.NtSquareRefIdeal.τ) (Cert.NtSquareRefIdeal.main (F := Ideal))) ⟨m, fun _ => 0, g⟩ (fun r => (∀ c : Dev Cert.NtSquareRefIdeal.nD,
      r.2.mem ((c.tc : Thread Cert.NtSquareRefIdeal.nD Cert.NtSquareRefIdeal.τ).loc Cert.NtSquareRefIdeal.main_arg0) = m ((c.tc : Thread Cert.NtSquareRefIdeal.nD Cert.NtSquareRefIdeal.τ).loc Cert.NtSquareRefIdeal.main_arg0)
      ∧ r.2.mem ((c.tc : Thread Cert.NtSquareRefIdeal.nD Cert.NtSquareRefIdeal.τ).loc Cert.NtSquareRefIdeal.main_arg1) = m ((c.tc : Thread Cert.NtSquareRefIdeal.nD Cert.NtSquareRefIdeal.τ).loc Cert.NtSquareRefIdeal.main_arg1))
      ∧ r.2.sem = fun _ => 0)

def quiescent_TnSquare [hTnSquare : Cert.TnSquare.Facts] : Prop :=
  ∀ (m : (ℓ : Loc Cert.TnSquare.nD Cert.TnSquare.τ Cert.TnSquare.sig) → Buf (Elt Bits) ℓ) (g : Dev Cert.TnSquare.nD → PrngReg), Pre_TnSquare m →
    θ_run (Cert.TnSquare.defs (F := Bits)) (onTc (τ := Cert.TnSquare.τ) (Cert.TnSquare.main (F := Bits))) ⟨m, fun _ => 0, g⟩ (fun r => (∀ c : Dev Cert.TnSquare.nD,
      r.2.mem ((c.tc : Thread Cert.TnSquare.nD Cert.TnSquare.τ).loc Cert.TnSquare.main_arg0) = m ((c.tc : Thread Cert.TnSquare.nD Cert.TnSquare.τ).loc Cert.TnSquare.main_arg0)
      ∧ r.2.mem ((c.tc : Thread Cert.TnSquare.nD Cert.TnSquare.τ).loc Cert.TnSquare.main_arg1) = m ((c.tc : Thread Cert.TnSquare.nD Cert.TnSquare.τ).loc Cert.TnSquare.main_arg1))
      ∧ r.2.sem = fun _ => 0)

def quiescent_TnSquareIdeal [hTnSquareIdeal : Cert.TnSquareIdeal.Facts] : Prop :=
  ∀ (m : (ℓ : Loc Cert.TnSquareIdeal.nD Cert.TnSquareIdeal.τ Cert.TnSquareIdeal.sig) → Buf (Elt Ideal) ℓ) (g : Dev Cert.TnSquareIdeal.nD → PrngReg), Pre_TnSquareIdeal m →
    θ_run (Cert.TnSquareIdeal.defs (F := Ideal)) (onTc (τ := Cert.TnSquareIdeal.τ) (Cert.TnSquareIdeal.main (F := Ideal))) ⟨m, fun _ => 0, g⟩ (fun r => (∀ c : Dev Cert.TnSquareIdeal.nD,
      r.2.mem ((c.tc : Thread Cert.TnSquareIdeal.nD Cert.TnSquareIdeal.τ).loc Cert.TnSquareIdeal.main_arg0) = m ((c.tc : Thread Cert.TnSquareIdeal.nD Cert.TnSquareIdeal.τ).loc Cert.TnSquareIdeal.main_arg0)
      ∧ r.2.mem ((c.tc : Thread Cert.TnSquareIdeal.nD Cert.TnSquareIdeal.τ).loc Cert.TnSquareIdeal.main_arg1) = m ((c.tc : Thread Cert.TnSquareIdeal.nD Cert.TnSquareIdeal.τ).loc Cert.TnSquareIdeal.main_arg1))
      ∧ r.2.sem = fun _ => 0)

def quiescent_TnSquareRefIdeal [hTnSquareRefIdeal : Cert.TnSquareRefIdeal.Facts] : Prop :=
  ∀ (m : (ℓ : Loc Cert.TnSquareRefIdeal.nD Cert.TnSquareRefIdeal.τ Cert.TnSquareRefIdeal.sig) → Buf (Elt Ideal) ℓ) (g : Dev Cert.TnSquareRefIdeal.nD → PrngReg), Pre_TnSquareRefIdeal m →
    θ_run (Cert.TnSquareRefIdeal.defs (F := Ideal)) (onTc (τ := Cert.TnSquareRefIdeal.τ) (Cert.TnSquareRefIdeal.main (F := Ideal))) ⟨m, fun _ => 0, g⟩ (fun r => (∀ c : Dev Cert.TnSquareRefIdeal.nD,
      r.2.mem ((c.tc : Thread Cert.TnSquareRefIdeal.nD Cert.TnSquareRefIdeal.τ).loc Cert.TnSquareRefIdeal.main_arg0) = m ((c.tc : Thread Cert.TnSquareRefIdeal.nD Cert.TnSquareRefIdeal.τ).loc Cert.TnSquareRefIdeal.main_arg0)
      ∧ r.2.mem ((c.tc : Thread Cert.TnSquareRefIdeal.nD Cert.TnSquareRefIdeal.τ).loc Cert.TnSquareRefIdeal.main_arg1) = m ((c.tc : Thread Cert.TnSquareRefIdeal.nD Cert.TnSquareRefIdeal.τ).loc Cert.TnSquareRefIdeal.main_arg1))
      ∧ r.2.sem = fun _ => 0)

def quiescent_NnQkv [hNnQkv : Cert.NnQkv.Facts] : Prop :=
  ∀ (m : (ℓ : Loc Cert.NnQkv.nD Cert.NnQkv.τ Cert.NnQkv.sig) → Buf (Elt Bits) ℓ) (g : Dev Cert.NnQkv.nD → PrngReg), Pre_NnQkv m →
    θ_run (Cert.NnQkv.defs (F := Bits)) (onTc (τ := Cert.NnQkv.τ) (Cert.NnQkv.main (F := Bits))) ⟨m, fun _ => 0, g⟩ (fun r => (∀ c : Dev Cert.NnQkv.nD,
      r.2.mem ((c.tc : Thread Cert.NnQkv.nD Cert.NnQkv.τ).loc Cert.NnQkv.main_arg0) = m ((c.tc : Thread Cert.NnQkv.nD Cert.NnQkv.τ).loc Cert.NnQkv.main_arg0)
      ∧ r.2.mem ((c.tc : Thread Cert.NnQkv.nD Cert.NnQkv.τ).loc Cert.NnQkv.main_arg1) = m ((c.tc : Thread Cert.NnQkv.nD Cert.NnQkv.τ).loc Cert.NnQkv.main_arg1))
      ∧ r.2.sem = fun _ => 0)

def quiescent_NnQkvIdeal [hNnQkvIdeal : Cert.NnQkvIdeal.Facts] : Prop :=
  ∀ (m : (ℓ : Loc Cert.NnQkvIdeal.nD Cert.NnQkvIdeal.τ Cert.NnQkvIdeal.sig) → Buf (Elt Ideal) ℓ) (g : Dev Cert.NnQkvIdeal.nD → PrngReg), Pre_NnQkvIdeal m →
    θ_run (Cert.NnQkvIdeal.defs (F := Ideal)) (onTc (τ := Cert.NnQkvIdeal.τ) (Cert.NnQkvIdeal.main (F := Ideal))) ⟨m, fun _ => 0, g⟩ (fun r => (∀ c : Dev Cert.NnQkvIdeal.nD,
      r.2.mem ((c.tc : Thread Cert.NnQkvIdeal.nD Cert.NnQkvIdeal.τ).loc Cert.NnQkvIdeal.main_arg0) = m ((c.tc : Thread Cert.NnQkvIdeal.nD Cert.NnQkvIdeal.τ).loc Cert.NnQkvIdeal.main_arg0)
      ∧ r.2.mem ((c.tc : Thread Cert.NnQkvIdeal.nD Cert.NnQkvIdeal.τ).loc Cert.NnQkvIdeal.main_arg1) = m ((c.tc : Thread Cert.NnQkvIdeal.nD Cert.NnQkvIdeal.τ).loc Cert.NnQkvIdeal.main_arg1))
      ∧ r.2.sem = fun _ => 0)

def quiescent_NnQkvRefIdeal [hNnQkvRefIdeal : Cert.NnQkvRefIdeal.Facts] : Prop :=
  ∀ (m : (ℓ : Loc Cert.NnQkvRefIdeal.nD Cert.NnQkvRefIdeal.τ Cert.NnQkvRefIdeal.sig) → Buf (Elt Ideal) ℓ) (g : Dev Cert.NnQkvRefIdeal.nD → PrngReg), Pre_NnQkvRefIdeal m →
    θ_run (Cert.NnQkvRefIdeal.defs (F := Ideal)) (onTc (τ := Cert.NnQkvRefIdeal.τ) (Cert.NnQkvRefIdeal.main (F := Ideal))) ⟨m, fun _ => 0, g⟩ (fun r => (∀ c : Dev Cert.NnQkvRefIdeal.nD,
      r.2.mem ((c.tc : Thread Cert.NnQkvRefIdeal.nD Cert.NnQkvRefIdeal.τ).loc Cert.NnQkvRefIdeal.main_arg0) = m ((c.tc : Thread Cert.NnQkvRefIdeal.nD Cert.NnQkvRefIdeal.τ).loc Cert.NnQkvRefIdeal.main_arg0)
      ∧ r.2.mem ((c.tc : Thread Cert.NnQkvRefIdeal.nD Cert.NnQkvRefIdeal.τ).loc Cert.NnQkvRefIdeal.main_arg1) = m ((c.tc : Thread Cert.NnQkvRefIdeal.nD Cert.NnQkvRefIdeal.τ).loc Cert.NnQkvRefIdeal.main_arg1))
      ∧ r.2.sem = fun _ => 0)

def quiescent_NtQkv [hNtQkv : Cert.NtQkv.Facts] : Prop :=
  ∀ (m : (ℓ : Loc Cert.NtQkv.nD Cert.NtQkv.τ Cert.NtQkv.sig) → Buf (Elt Bits) ℓ) (g : Dev Cert.NtQkv.nD → PrngReg), Pre_NtQkv m →
    θ_run (Cert.NtQkv.defs (F := Bits)) (onTc (τ := Cert.NtQkv.τ) (Cert.NtQkv.main (F := Bits))) ⟨m, fun _ => 0, g⟩ (fun r => (∀ c : Dev Cert.NtQkv.nD,
      r.2.mem ((c.tc : Thread Cert.NtQkv.nD Cert.NtQkv.τ).loc Cert.NtQkv.main_arg0) = m ((c.tc : Thread Cert.NtQkv.nD Cert.NtQkv.τ).loc Cert.NtQkv.main_arg0)
      ∧ r.2.mem ((c.tc : Thread Cert.NtQkv.nD Cert.NtQkv.τ).loc Cert.NtQkv.main_arg1) = m ((c.tc : Thread Cert.NtQkv.nD Cert.NtQkv.τ).loc Cert.NtQkv.main_arg1))
      ∧ r.2.sem = fun _ => 0)

def quiescent_NtQkvIdeal [hNtQkvIdeal : Cert.NtQkvIdeal.Facts] : Prop :=
  ∀ (m : (ℓ : Loc Cert.NtQkvIdeal.nD Cert.NtQkvIdeal.τ Cert.NtQkvIdeal.sig) → Buf (Elt Ideal) ℓ) (g : Dev Cert.NtQkvIdeal.nD → PrngReg), Pre_NtQkvIdeal m →
    θ_run (Cert.NtQkvIdeal.defs (F := Ideal)) (onTc (τ := Cert.NtQkvIdeal.τ) (Cert.NtQkvIdeal.main (F := Ideal))) ⟨m, fun _ => 0, g⟩ (fun r => (∀ c : Dev Cert.NtQkvIdeal.nD,
      r.2.mem ((c.tc : Thread Cert.NtQkvIdeal.nD Cert.NtQkvIdeal.τ).loc Cert.NtQkvIdeal.main_arg0) = m ((c.tc : Thread Cert.NtQkvIdeal.nD Cert.NtQkvIdeal.τ).loc Cert.NtQkvIdeal.main_arg0)
      ∧ r.2.mem ((c.tc : Thread Cert.NtQkvIdeal.nD Cert.NtQkvIdeal.τ).loc Cert.NtQkvIdeal.main_arg1) = m ((c.tc : Thread Cert.NtQkvIdeal.nD Cert.NtQkvIdeal.τ).loc Cert.NtQkvIdeal.main_arg1))
      ∧ r.2.sem = fun _ => 0)

def quiescent_NtQkvRefIdeal [hNtQkvRefIdeal : Cert.NtQkvRefIdeal.Facts] : Prop :=
  ∀ (m : (ℓ : Loc Cert.NtQkvRefIdeal.nD Cert.NtQkvRefIdeal.τ Cert.NtQkvRefIdeal.sig) → Buf (Elt Ideal) ℓ) (g : Dev Cert.NtQkvRefIdeal.nD → PrngReg), Pre_NtQkvRefIdeal m →
    θ_run (Cert.NtQkvRefIdeal.defs (F := Ideal)) (onTc (τ := Cert.NtQkvRefIdeal.τ) (Cert.NtQkvRefIdeal.main (F := Ideal))) ⟨m, fun _ => 0, g⟩ (fun r => (∀ c : Dev Cert.NtQkvRefIdeal.nD,
      r.2.mem ((c.tc : Thread Cert.NtQkvRefIdeal.nD Cert.NtQkvRefIdeal.τ).loc Cert.NtQkvRefIdeal.main_arg0) = m ((c.tc : Thread Cert.NtQkvRefIdeal.nD Cert.NtQkvRefIdeal.τ).loc Cert.NtQkvRefIdeal.main_arg0)
      ∧ r.2.mem ((c.tc : Thread Cert.NtQkvRefIdeal.nD Cert.NtQkvRefIdeal.τ).loc Cert.NtQkvRefIdeal.main_arg1) = m ((c.tc : Thread Cert.NtQkvRefIdeal.nD Cert.NtQkvRefIdeal.τ).loc Cert.NtQkvRefIdeal.main_arg1))
      ∧ r.2.sem = fun _ => 0)

def quiescent_TnQkv [hTnQkv : Cert.TnQkv.Facts] : Prop :=
  ∀ (m : (ℓ : Loc Cert.TnQkv.nD Cert.TnQkv.τ Cert.TnQkv.sig) → Buf (Elt Bits) ℓ) (g : Dev Cert.TnQkv.nD → PrngReg), Pre_TnQkv m →
    θ_run (Cert.TnQkv.defs (F := Bits)) (onTc (τ := Cert.TnQkv.τ) (Cert.TnQkv.main (F := Bits))) ⟨m, fun _ => 0, g⟩ (fun r => (∀ c : Dev Cert.TnQkv.nD,
      r.2.mem ((c.tc : Thread Cert.TnQkv.nD Cert.TnQkv.τ).loc Cert.TnQkv.main_arg0) = m ((c.tc : Thread Cert.TnQkv.nD Cert.TnQkv.τ).loc Cert.TnQkv.main_arg0)
      ∧ r.2.mem ((c.tc : Thread Cert.TnQkv.nD Cert.TnQkv.τ).loc Cert.TnQkv.main_arg1) = m ((c.tc : Thread Cert.TnQkv.nD Cert.TnQkv.τ).loc Cert.TnQkv.main_arg1))
      ∧ r.2.sem = fun _ => 0)

def quiescent_TnQkvIdeal [hTnQkvIdeal : Cert.TnQkvIdeal.Facts] : Prop :=
  ∀ (m : (ℓ : Loc Cert.TnQkvIdeal.nD Cert.TnQkvIdeal.τ Cert.TnQkvIdeal.sig) → Buf (Elt Ideal) ℓ) (g : Dev Cert.TnQkvIdeal.nD → PrngReg), Pre_TnQkvIdeal m →
    θ_run (Cert.TnQkvIdeal.defs (F := Ideal)) (onTc (τ := Cert.TnQkvIdeal.τ) (Cert.TnQkvIdeal.main (F := Ideal))) ⟨m, fun _ => 0, g⟩ (fun r => (∀ c : Dev Cert.TnQkvIdeal.nD,
      r.2.mem ((c.tc : Thread Cert.TnQkvIdeal.nD Cert.TnQkvIdeal.τ).loc Cert.TnQkvIdeal.main_arg0) = m ((c.tc : Thread Cert.TnQkvIdeal.nD Cert.TnQkvIdeal.τ).loc Cert.TnQkvIdeal.main_arg0)
      ∧ r.2.mem ((c.tc : Thread Cert.TnQkvIdeal.nD Cert.TnQkvIdeal.τ).loc Cert.TnQkvIdeal.main_arg1) = m ((c.tc : Thread Cert.TnQkvIdeal.nD Cert.TnQkvIdeal.τ).loc Cert.TnQkvIdeal.main_arg1))
      ∧ r.2.sem = fun _ => 0)

def quiescent_TnQkvRefIdeal [hTnQkvRefIdeal : Cert.TnQkvRefIdeal.Facts] : Prop :=
  ∀ (m : (ℓ : Loc Cert.TnQkvRefIdeal.nD Cert.TnQkvRefIdeal.τ Cert.TnQkvRefIdeal.sig) → Buf (Elt Ideal) ℓ) (g : Dev Cert.TnQkvRefIdeal.nD → PrngReg), Pre_TnQkvRefIdeal m →
    θ_run (Cert.TnQkvRefIdeal.defs (F := Ideal)) (onTc (τ := Cert.TnQkvRefIdeal.τ) (Cert.TnQkvRefIdeal.main (F := Ideal))) ⟨m, fun _ => 0, g⟩ (fun r => (∀ c : Dev Cert.TnQkvRefIdeal.nD,
      r.2.mem ((c.tc : Thread Cert.TnQkvRefIdeal.nD Cert.TnQkvRefIdeal.τ).loc Cert.TnQkvRefIdeal.main_arg0) = m ((c.tc : Thread Cert.TnQkvRefIdeal.nD Cert.TnQkvRefIdeal.τ).loc Cert.TnQkvRefIdeal.main_arg0)
      ∧ r.2.mem ((c.tc : Thread Cert.TnQkvRefIdeal.nD Cert.TnQkvRefIdeal.τ).loc Cert.TnQkvRefIdeal.main_arg1) = m ((c.tc : Thread Cert.TnQkvRefIdeal.nD Cert.TnQkvRefIdeal.τ).loc Cert.TnQkvRefIdeal.main_arg1))
      ∧ r.2.sem = fun _ => 0)

def quiescent_NnUp [hNnUp : Cert.NnUp.Facts] : Prop :=
  ∀ (m : (ℓ : Loc Cert.NnUp.nD Cert.NnUp.τ Cert.NnUp.sig) → Buf (Elt Bits) ℓ) (g : Dev Cert.NnUp.nD → PrngReg), Pre_NnUp m →
    θ_run (Cert.NnUp.defs (F := Bits)) (onTc (τ := Cert.NnUp.τ) (Cert.NnUp.main (F := Bits))) ⟨m, fun _ => 0, g⟩ (fun r => (∀ c : Dev Cert.NnUp.nD,
      r.2.mem ((c.tc : Thread Cert.NnUp.nD Cert.NnUp.τ).loc Cert.NnUp.main_arg0) = m ((c.tc : Thread Cert.NnUp.nD Cert.NnUp.τ).loc Cert.NnUp.main_arg0)
      ∧ r.2.mem ((c.tc : Thread Cert.NnUp.nD Cert.NnUp.τ).loc Cert.NnUp.main_arg1) = m ((c.tc : Thread Cert.NnUp.nD Cert.NnUp.τ).loc Cert.NnUp.main_arg1))
      ∧ r.2.sem = fun _ => 0)

def quiescent_NnUpIdeal [hNnUpIdeal : Cert.NnUpIdeal.Facts] : Prop :=
  ∀ (m : (ℓ : Loc Cert.NnUpIdeal.nD Cert.NnUpIdeal.τ Cert.NnUpIdeal.sig) → Buf (Elt Ideal) ℓ) (g : Dev Cert.NnUpIdeal.nD → PrngReg), Pre_NnUpIdeal m →
    θ_run (Cert.NnUpIdeal.defs (F := Ideal)) (onTc (τ := Cert.NnUpIdeal.τ) (Cert.NnUpIdeal.main (F := Ideal))) ⟨m, fun _ => 0, g⟩ (fun r => (∀ c : Dev Cert.NnUpIdeal.nD,
      r.2.mem ((c.tc : Thread Cert.NnUpIdeal.nD Cert.NnUpIdeal.τ).loc Cert.NnUpIdeal.main_arg0) = m ((c.tc : Thread Cert.NnUpIdeal.nD Cert.NnUpIdeal.τ).loc Cert.NnUpIdeal.main_arg0)
      ∧ r.2.mem ((c.tc : Thread Cert.NnUpIdeal.nD Cert.NnUpIdeal.τ).loc Cert.NnUpIdeal.main_arg1) = m ((c.tc : Thread Cert.NnUpIdeal.nD Cert.NnUpIdeal.τ).loc Cert.NnUpIdeal.main_arg1))
      ∧ r.2.sem = fun _ => 0)

def quiescent_NnUpRefIdeal [hNnUpRefIdeal : Cert.NnUpRefIdeal.Facts] : Prop :=
  ∀ (m : (ℓ : Loc Cert.NnUpRefIdeal.nD Cert.NnUpRefIdeal.τ Cert.NnUpRefIdeal.sig) → Buf (Elt Ideal) ℓ) (g : Dev Cert.NnUpRefIdeal.nD → PrngReg), Pre_NnUpRefIdeal m →
    θ_run (Cert.NnUpRefIdeal.defs (F := Ideal)) (onTc (τ := Cert.NnUpRefIdeal.τ) (Cert.NnUpRefIdeal.main (F := Ideal))) ⟨m, fun _ => 0, g⟩ (fun r => (∀ c : Dev Cert.NnUpRefIdeal.nD,
      r.2.mem ((c.tc : Thread Cert.NnUpRefIdeal.nD Cert.NnUpRefIdeal.τ).loc Cert.NnUpRefIdeal.main_arg0) = m ((c.tc : Thread Cert.NnUpRefIdeal.nD Cert.NnUpRefIdeal.τ).loc Cert.NnUpRefIdeal.main_arg0)
      ∧ r.2.mem ((c.tc : Thread Cert.NnUpRefIdeal.nD Cert.NnUpRefIdeal.τ).loc Cert.NnUpRefIdeal.main_arg1) = m ((c.tc : Thread Cert.NnUpRefIdeal.nD Cert.NnUpRefIdeal.τ).loc Cert.NnUpRefIdeal.main_arg1))
      ∧ r.2.sem = fun _ => 0)

def quiescent_NtUp [hNtUp : Cert.NtUp.Facts] : Prop :=
  ∀ (m : (ℓ : Loc Cert.NtUp.nD Cert.NtUp.τ Cert.NtUp.sig) → Buf (Elt Bits) ℓ) (g : Dev Cert.NtUp.nD → PrngReg), Pre_NtUp m →
    θ_run (Cert.NtUp.defs (F := Bits)) (onTc (τ := Cert.NtUp.τ) (Cert.NtUp.main (F := Bits))) ⟨m, fun _ => 0, g⟩ (fun r => (∀ c : Dev Cert.NtUp.nD,
      r.2.mem ((c.tc : Thread Cert.NtUp.nD Cert.NtUp.τ).loc Cert.NtUp.main_arg0) = m ((c.tc : Thread Cert.NtUp.nD Cert.NtUp.τ).loc Cert.NtUp.main_arg0)
      ∧ r.2.mem ((c.tc : Thread Cert.NtUp.nD Cert.NtUp.τ).loc Cert.NtUp.main_arg1) = m ((c.tc : Thread Cert.NtUp.nD Cert.NtUp.τ).loc Cert.NtUp.main_arg1))
      ∧ r.2.sem = fun _ => 0)

def quiescent_NtUpIdeal [hNtUpIdeal : Cert.NtUpIdeal.Facts] : Prop :=
  ∀ (m : (ℓ : Loc Cert.NtUpIdeal.nD Cert.NtUpIdeal.τ Cert.NtUpIdeal.sig) → Buf (Elt Ideal) ℓ) (g : Dev Cert.NtUpIdeal.nD → PrngReg), Pre_NtUpIdeal m →
    θ_run (Cert.NtUpIdeal.defs (F := Ideal)) (onTc (τ := Cert.NtUpIdeal.τ) (Cert.NtUpIdeal.main (F := Ideal))) ⟨m, fun _ => 0, g⟩ (fun r => (∀ c : Dev Cert.NtUpIdeal.nD,
      r.2.mem ((c.tc : Thread Cert.NtUpIdeal.nD Cert.NtUpIdeal.τ).loc Cert.NtUpIdeal.main_arg0) = m ((c.tc : Thread Cert.NtUpIdeal.nD Cert.NtUpIdeal.τ).loc Cert.NtUpIdeal.main_arg0)
      ∧ r.2.mem ((c.tc : Thread Cert.NtUpIdeal.nD Cert.NtUpIdeal.τ).loc Cert.NtUpIdeal.main_arg1) = m ((c.tc : Thread Cert.NtUpIdeal.nD Cert.NtUpIdeal.τ).loc Cert.NtUpIdeal.main_arg1))
      ∧ r.2.sem = fun _ => 0)

def quiescent_NtUpRefIdeal [hNtUpRefIdeal : Cert.NtUpRefIdeal.Facts] : Prop :=
  ∀ (m : (ℓ : Loc Cert.NtUpRefIdeal.nD Cert.NtUpRefIdeal.τ Cert.NtUpRefIdeal.sig) → Buf (Elt Ideal) ℓ) (g : Dev Cert.NtUpRefIdeal.nD → PrngReg), Pre_NtUpRefIdeal m →
    θ_run (Cert.NtUpRefIdeal.defs (F := Ideal)) (onTc (τ := Cert.NtUpRefIdeal.τ) (Cert.NtUpRefIdeal.main (F := Ideal))) ⟨m, fun _ => 0, g⟩ (fun r => (∀ c : Dev Cert.NtUpRefIdeal.nD,
      r.2.mem ((c.tc : Thread Cert.NtUpRefIdeal.nD Cert.NtUpRefIdeal.τ).loc Cert.NtUpRefIdeal.main_arg0) = m ((c.tc : Thread Cert.NtUpRefIdeal.nD Cert.NtUpRefIdeal.τ).loc Cert.NtUpRefIdeal.main_arg0)
      ∧ r.2.mem ((c.tc : Thread Cert.NtUpRefIdeal.nD Cert.NtUpRefIdeal.τ).loc Cert.NtUpRefIdeal.main_arg1) = m ((c.tc : Thread Cert.NtUpRefIdeal.nD Cert.NtUpRefIdeal.τ).loc Cert.NtUpRefIdeal.main_arg1))
      ∧ r.2.sem = fun _ => 0)

def quiescent_TnUp [hTnUp : Cert.TnUp.Facts] : Prop :=
  ∀ (m : (ℓ : Loc Cert.TnUp.nD Cert.TnUp.τ Cert.TnUp.sig) → Buf (Elt Bits) ℓ) (g : Dev Cert.TnUp.nD → PrngReg), Pre_TnUp m →
    θ_run (Cert.TnUp.defs (F := Bits)) (onTc (τ := Cert.TnUp.τ) (Cert.TnUp.main (F := Bits))) ⟨m, fun _ => 0, g⟩ (fun r => (∀ c : Dev Cert.TnUp.nD,
      r.2.mem ((c.tc : Thread Cert.TnUp.nD Cert.TnUp.τ).loc Cert.TnUp.main_arg0) = m ((c.tc : Thread Cert.TnUp.nD Cert.TnUp.τ).loc Cert.TnUp.main_arg0)
      ∧ r.2.mem ((c.tc : Thread Cert.TnUp.nD Cert.TnUp.τ).loc Cert.TnUp.main_arg1) = m ((c.tc : Thread Cert.TnUp.nD Cert.TnUp.τ).loc Cert.TnUp.main_arg1))
      ∧ r.2.sem = fun _ => 0)

def quiescent_TnUpIdeal [hTnUpIdeal : Cert.TnUpIdeal.Facts] : Prop :=
  ∀ (m : (ℓ : Loc Cert.TnUpIdeal.nD Cert.TnUpIdeal.τ Cert.TnUpIdeal.sig) → Buf (Elt Ideal) ℓ) (g : Dev Cert.TnUpIdeal.nD → PrngReg), Pre_TnUpIdeal m →
    θ_run (Cert.TnUpIdeal.defs (F := Ideal)) (onTc (τ := Cert.TnUpIdeal.τ) (Cert.TnUpIdeal.main (F := Ideal))) ⟨m, fun _ => 0, g⟩ (fun r => (∀ c : Dev Cert.TnUpIdeal.nD,
      r.2.mem ((c.tc : Thread Cert.TnUpIdeal.nD Cert.TnUpIdeal.τ).loc Cert.TnUpIdeal.main_arg0) = m ((c.tc : Thread Cert.TnUpIdeal.nD Cert.TnUpIdeal.τ).loc Cert.TnUpIdeal.main_arg0)
      ∧ r.2.mem ((c.tc : Thread Cert.TnUpIdeal.nD Cert.TnUpIdeal.τ).loc Cert.TnUpIdeal.main_arg1) = m ((c.tc : Thread Cert.TnUpIdeal.nD Cert.TnUpIdeal.τ).loc Cert.TnUpIdeal.main_arg1))
      ∧ r.2.sem = fun _ => 0)

def quiescent_TnUpRefIdeal [hTnUpRefIdeal : Cert.TnUpRefIdeal.Facts] : Prop :=
  ∀ (m : (ℓ : Loc Cert.TnUpRefIdeal.nD Cert.TnUpRefIdeal.τ Cert.TnUpRefIdeal.sig) → Buf (Elt Ideal) ℓ) (g : Dev Cert.TnUpRefIdeal.nD → PrngReg), Pre_TnUpRefIdeal m →
    θ_run (Cert.TnUpRefIdeal.defs (F := Ideal)) (onTc (τ := Cert.TnUpRefIdeal.τ) (Cert.TnUpRefIdeal.main (F := Ideal))) ⟨m, fun _ => 0, g⟩ (fun r => (∀ c : Dev Cert.TnUpRefIdeal.nD,
      r.2.mem ((c.tc : Thread Cert.TnUpRefIdeal.nD Cert.TnUpRefIdeal.τ).loc Cert.TnUpRefIdeal.main_arg0) = m ((c.tc : Thread Cert.TnUpRefIdeal.nD Cert.TnUpRefIdeal.τ).loc Cert.TnUpRefIdeal.main_arg0)
      ∧ r.2.mem ((c.tc : Thread Cert.TnUpRefIdeal.nD Cert.TnUpRefIdeal.τ).loc Cert.TnUpRefIdeal.main_arg1) = m ((c.tc : Thread Cert.TnUpRefIdeal.nD Cert.TnUpRefIdeal.τ).loc Cert.TnUpRefIdeal.main_arg1))
      ∧ r.2.sem = fun _ => 0)

def quiescent_NnDown [hNnDown : Cert.NnDown.Facts] : Prop :=
  ∀ (m : (ℓ : Loc Cert.NnDown.nD Cert.NnDown.τ Cert.NnDown.sig) → Buf (Elt Bits) ℓ) (g : Dev Cert.NnDown.nD → PrngReg), Pre_NnDown m →
    θ_run (Cert.NnDown.defs (F := Bits)) (onTc (τ := Cert.NnDown.τ) (Cert.NnDown.main (F := Bits))) ⟨m, fun _ => 0, g⟩ (fun r => (∀ c : Dev Cert.NnDown.nD,
      r.2.mem ((c.tc : Thread Cert.NnDown.nD Cert.NnDown.τ).loc Cert.NnDown.main_arg0) = m ((c.tc : Thread Cert.NnDown.nD Cert.NnDown.τ).loc Cert.NnDown.main_arg0)
      ∧ r.2.mem ((c.tc : Thread Cert.NnDown.nD Cert.NnDown.τ).loc Cert.NnDown.main_arg1) = m ((c.tc : Thread Cert.NnDown.nD Cert.NnDown.τ).loc Cert.NnDown.main_arg1))
      ∧ r.2.sem = fun _ => 0)

def quiescent_NnDownIdeal [hNnDownIdeal : Cert.NnDownIdeal.Facts] : Prop :=
  ∀ (m : (ℓ : Loc Cert.NnDownIdeal.nD Cert.NnDownIdeal.τ Cert.NnDownIdeal.sig) → Buf (Elt Ideal) ℓ) (g : Dev Cert.NnDownIdeal.nD → PrngReg), Pre_NnDownIdeal m →
    θ_run (Cert.NnDownIdeal.defs (F := Ideal)) (onTc (τ := Cert.NnDownIdeal.τ) (Cert.NnDownIdeal.main (F := Ideal))) ⟨m, fun _ => 0, g⟩ (fun r => (∀ c : Dev Cert.NnDownIdeal.nD,
      r.2.mem ((c.tc : Thread Cert.NnDownIdeal.nD Cert.NnDownIdeal.τ).loc Cert.NnDownIdeal.main_arg0) = m ((c.tc : Thread Cert.NnDownIdeal.nD Cert.NnDownIdeal.τ).loc Cert.NnDownIdeal.main_arg0)
      ∧ r.2.mem ((c.tc : Thread Cert.NnDownIdeal.nD Cert.NnDownIdeal.τ).loc Cert.NnDownIdeal.main_arg1) = m ((c.tc : Thread Cert.NnDownIdeal.nD Cert.NnDownIdeal.τ).loc Cert.NnDownIdeal.main_arg1))
      ∧ r.2.sem = fun _ => 0)

def quiescent_NnDownRefIdeal [hNnDownRefIdeal : Cert.NnDownRefIdeal.Facts] : Prop :=
  ∀ (m : (ℓ : Loc Cert.NnDownRefIdeal.nD Cert.NnDownRefIdeal.τ Cert.NnDownRefIdeal.sig) → Buf (Elt Ideal) ℓ) (g : Dev Cert.NnDownRefIdeal.nD → PrngReg), Pre_NnDownRefIdeal m →
    θ_run (Cert.NnDownRefIdeal.defs (F := Ideal)) (onTc (τ := Cert.NnDownRefIdeal.τ) (Cert.NnDownRefIdeal.main (F := Ideal))) ⟨m, fun _ => 0, g⟩ (fun r => (∀ c : Dev Cert.NnDownRefIdeal.nD,
      r.2.mem ((c.tc : Thread Cert.NnDownRefIdeal.nD Cert.NnDownRefIdeal.τ).loc Cert.NnDownRefIdeal.main_arg0) = m ((c.tc : Thread Cert.NnDownRefIdeal.nD Cert.NnDownRefIdeal.τ).loc Cert.NnDownRefIdeal.main_arg0)
      ∧ r.2.mem ((c.tc : Thread Cert.NnDownRefIdeal.nD Cert.NnDownRefIdeal.τ).loc Cert.NnDownRefIdeal.main_arg1) = m ((c.tc : Thread Cert.NnDownRefIdeal.nD Cert.NnDownRefIdeal.τ).loc Cert.NnDownRefIdeal.main_arg1))
      ∧ r.2.sem = fun _ => 0)

def quiescent_NtDown [hNtDown : Cert.NtDown.Facts] : Prop :=
  ∀ (m : (ℓ : Loc Cert.NtDown.nD Cert.NtDown.τ Cert.NtDown.sig) → Buf (Elt Bits) ℓ) (g : Dev Cert.NtDown.nD → PrngReg), Pre_NtDown m →
    θ_run (Cert.NtDown.defs (F := Bits)) (onTc (τ := Cert.NtDown.τ) (Cert.NtDown.main (F := Bits))) ⟨m, fun _ => 0, g⟩ (fun r => (∀ c : Dev Cert.NtDown.nD,
      r.2.mem ((c.tc : Thread Cert.NtDown.nD Cert.NtDown.τ).loc Cert.NtDown.main_arg0) = m ((c.tc : Thread Cert.NtDown.nD Cert.NtDown.τ).loc Cert.NtDown.main_arg0)
      ∧ r.2.mem ((c.tc : Thread Cert.NtDown.nD Cert.NtDown.τ).loc Cert.NtDown.main_arg1) = m ((c.tc : Thread Cert.NtDown.nD Cert.NtDown.τ).loc Cert.NtDown.main_arg1))
      ∧ r.2.sem = fun _ => 0)

def quiescent_NtDownIdeal [hNtDownIdeal : Cert.NtDownIdeal.Facts] : Prop :=
  ∀ (m : (ℓ : Loc Cert.NtDownIdeal.nD Cert.NtDownIdeal.τ Cert.NtDownIdeal.sig) → Buf (Elt Ideal) ℓ) (g : Dev Cert.NtDownIdeal.nD → PrngReg), Pre_NtDownIdeal m →
    θ_run (Cert.NtDownIdeal.defs (F := Ideal)) (onTc (τ := Cert.NtDownIdeal.τ) (Cert.NtDownIdeal.main (F := Ideal))) ⟨m, fun _ => 0, g⟩ (fun r => (∀ c : Dev Cert.NtDownIdeal.nD,
      r.2.mem ((c.tc : Thread Cert.NtDownIdeal.nD Cert.NtDownIdeal.τ).loc Cert.NtDownIdeal.main_arg0) = m ((c.tc : Thread Cert.NtDownIdeal.nD Cert.NtDownIdeal.τ).loc Cert.NtDownIdeal.main_arg0)
      ∧ r.2.mem ((c.tc : Thread Cert.NtDownIdeal.nD Cert.NtDownIdeal.τ).loc Cert.NtDownIdeal.main_arg1) = m ((c.tc : Thread Cert.NtDownIdeal.nD Cert.NtDownIdeal.τ).loc Cert.NtDownIdeal.main_arg1))
      ∧ r.2.sem = fun _ => 0)

def quiescent_NtDownRefIdeal [hNtDownRefIdeal : Cert.NtDownRefIdeal.Facts] : Prop :=
  ∀ (m : (ℓ : Loc Cert.NtDownRefIdeal.nD Cert.NtDownRefIdeal.τ Cert.NtDownRefIdeal.sig) → Buf (Elt Ideal) ℓ) (g : Dev Cert.NtDownRefIdeal.nD → PrngReg), Pre_NtDownRefIdeal m →
    θ_run (Cert.NtDownRefIdeal.defs (F := Ideal)) (onTc (τ := Cert.NtDownRefIdeal.τ) (Cert.NtDownRefIdeal.main (F := Ideal))) ⟨m, fun _ => 0, g⟩ (fun r => (∀ c : Dev Cert.NtDownRefIdeal.nD,
      r.2.mem ((c.tc : Thread Cert.NtDownRefIdeal.nD Cert.NtDownRefIdeal.τ).loc Cert.NtDownRefIdeal.main_arg0) = m ((c.tc : Thread Cert.NtDownRefIdeal.nD Cert.NtDownRefIdeal.τ).loc Cert.NtDownRefIdeal.main_arg0)
      ∧ r.2.mem ((c.tc : Thread Cert.NtDownRefIdeal.nD Cert.NtDownRefIdeal.τ).loc Cert.NtDownRefIdeal.main_arg1) = m ((c.tc : Thread Cert.NtDownRefIdeal.nD Cert.NtDownRefIdeal.τ).loc Cert.NtDownRefIdeal.main_arg1))
      ∧ r.2.sem = fun _ => 0)

def quiescent_TnDown [hTnDown : Cert.TnDown.Facts] : Prop :=
  ∀ (m : (ℓ : Loc Cert.TnDown.nD Cert.TnDown.τ Cert.TnDown.sig) → Buf (Elt Bits) ℓ) (g : Dev Cert.TnDown.nD → PrngReg), Pre_TnDown m →
    θ_run (Cert.TnDown.defs (F := Bits)) (onTc (τ := Cert.TnDown.τ) (Cert.TnDown.main (F := Bits))) ⟨m, fun _ => 0, g⟩ (fun r => (∀ c : Dev Cert.TnDown.nD,
      r.2.mem ((c.tc : Thread Cert.TnDown.nD Cert.TnDown.τ).loc Cert.TnDown.main_arg0) = m ((c.tc : Thread Cert.TnDown.nD Cert.TnDown.τ).loc Cert.TnDown.main_arg0)
      ∧ r.2.mem ((c.tc : Thread Cert.TnDown.nD Cert.TnDown.τ).loc Cert.TnDown.main_arg1) = m ((c.tc : Thread Cert.TnDown.nD Cert.TnDown.τ).loc Cert.TnDown.main_arg1))
      ∧ r.2.sem = fun _ => 0)

def quiescent_TnDownIdeal [hTnDownIdeal : Cert.TnDownIdeal.Facts] : Prop :=
  ∀ (m : (ℓ : Loc Cert.TnDownIdeal.nD Cert.TnDownIdeal.τ Cert.TnDownIdeal.sig) → Buf (Elt Ideal) ℓ) (g : Dev Cert.TnDownIdeal.nD → PrngReg), Pre_TnDownIdeal m →
    θ_run (Cert.TnDownIdeal.defs (F := Ideal)) (onTc (τ := Cert.TnDownIdeal.τ) (Cert.TnDownIdeal.main (F := Ideal))) ⟨m, fun _ => 0, g⟩ (fun r => (∀ c : Dev Cert.TnDownIdeal.nD,
      r.2.mem ((c.tc : Thread Cert.TnDownIdeal.nD Cert.TnDownIdeal.τ).loc Cert.TnDownIdeal.main_arg0) = m ((c.tc : Thread Cert.TnDownIdeal.nD Cert.TnDownIdeal.τ).loc Cert.TnDownIdeal.main_arg0)
      ∧ r.2.mem ((c.tc : Thread Cert.TnDownIdeal.nD Cert.TnDownIdeal.τ).loc Cert.TnDownIdeal.main_arg1) = m ((c.tc : Thread Cert.TnDownIdeal.nD Cert.TnDownIdeal.τ).loc Cert.TnDownIdeal.main_arg1))
      ∧ r.2.sem = fun _ => 0)

def quiescent_TnDownRefIdeal [hTnDownRefIdeal : Cert.TnDownRefIdeal.Facts] : Prop :=
  ∀ (m : (ℓ : Loc Cert.TnDownRefIdeal.nD Cert.TnDownRefIdeal.τ Cert.TnDownRefIdeal.sig) → Buf (Elt Ideal) ℓ) (g : Dev Cert.TnDownRefIdeal.nD → PrngReg), Pre_TnDownRefIdeal m →
    θ_run (Cert.TnDownRefIdeal.defs (F := Ideal)) (onTc (τ := Cert.TnDownRefIdeal.τ) (Cert.TnDownRefIdeal.main (F := Ideal))) ⟨m, fun _ => 0, g⟩ (fun r => (∀ c : Dev Cert.TnDownRefIdeal.nD,
      r.2.mem ((c.tc : Thread Cert.TnDownRefIdeal.nD Cert.TnDownRefIdeal.τ).loc Cert.TnDownRefIdeal.main_arg0) = m ((c.tc : Thread Cert.TnDownRefIdeal.nD Cert.TnDownRefIdeal.τ).loc Cert.TnDownRefIdeal.main_arg0)
      ∧ r.2.mem ((c.tc : Thread Cert.TnDownRefIdeal.nD Cert.TnDownRefIdeal.τ).loc Cert.TnDownRefIdeal.main_arg1) = m ((c.tc : Thread Cert.TnDownRefIdeal.nD Cert.TnDownRefIdeal.τ).loc Cert.TnDownRefIdeal.main_arg1))
      ∧ r.2.sem = fun _ => 0)

def quiescent_TnProj [hTnProj : Cert.TnProj.Facts] : Prop :=
  ∀ (m : (ℓ : Loc Cert.TnProj.nD Cert.TnProj.τ Cert.TnProj.sig) → Buf (Elt Bits) ℓ) (g : Dev Cert.TnProj.nD → PrngReg), Pre_TnProj m →
    θ_run (Cert.TnProj.defs (F := Bits)) (onTc (τ := Cert.TnProj.τ) (Cert.TnProj.main (F := Bits))) ⟨m, fun _ => 0, g⟩ (fun r => (∀ c : Dev Cert.TnProj.nD,
      r.2.mem ((c.tc : Thread Cert.TnProj.nD Cert.TnProj.τ).loc Cert.TnProj.main_arg0) = m ((c.tc : Thread Cert.TnProj.nD Cert.TnProj.τ).loc Cert.TnProj.main_arg0)
      ∧ r.2.mem ((c.tc : Thread Cert.TnProj.nD Cert.TnProj.τ).loc Cert.TnProj.main_arg1) = m ((c.tc : Thread Cert.TnProj.nD Cert.TnProj.τ).loc Cert.TnProj.main_arg1))
      ∧ r.2.sem = fun _ => 0)

def quiescent_TnProjIdeal [hTnProjIdeal : Cert.TnProjIdeal.Facts] : Prop :=
  ∀ (m : (ℓ : Loc Cert.TnProjIdeal.nD Cert.TnProjIdeal.τ Cert.TnProjIdeal.sig) → Buf (Elt Ideal) ℓ) (g : Dev Cert.TnProjIdeal.nD → PrngReg), Pre_TnProjIdeal m →
    θ_run (Cert.TnProjIdeal.defs (F := Ideal)) (onTc (τ := Cert.TnProjIdeal.τ) (Cert.TnProjIdeal.main (F := Ideal))) ⟨m, fun _ => 0, g⟩ (fun r => (∀ c : Dev Cert.TnProjIdeal.nD,
      r.2.mem ((c.tc : Thread Cert.TnProjIdeal.nD Cert.TnProjIdeal.τ).loc Cert.TnProjIdeal.main_arg0) = m ((c.tc : Thread Cert.TnProjIdeal.nD Cert.TnProjIdeal.τ).loc Cert.TnProjIdeal.main_arg0)
      ∧ r.2.mem ((c.tc : Thread Cert.TnProjIdeal.nD Cert.TnProjIdeal.τ).loc Cert.TnProjIdeal.main_arg1) = m ((c.tc : Thread Cert.TnProjIdeal.nD Cert.TnProjIdeal.τ).loc Cert.TnProjIdeal.main_arg1))
      ∧ r.2.sem = fun _ => 0)

def quiescent_TnProjRefIdeal [hTnProjRefIdeal : Cert.TnProjRefIdeal.Facts] : Prop :=
  ∀ (m : (ℓ : Loc Cert.TnProjRefIdeal.nD Cert.TnProjRefIdeal.τ Cert.TnProjRefIdeal.sig) → Buf (Elt Ideal) ℓ) (g : Dev Cert.TnProjRefIdeal.nD → PrngReg), Pre_TnProjRefIdeal m →
    θ_run (Cert.TnProjRefIdeal.defs (F := Ideal)) (onTc (τ := Cert.TnProjRefIdeal.τ) (Cert.TnProjRefIdeal.main (F := Ideal))) ⟨m, fun _ => 0, g⟩ (fun r => (∀ c : Dev Cert.TnProjRefIdeal.nD,
      r.2.mem ((c.tc : Thread Cert.TnProjRefIdeal.nD Cert.TnProjRefIdeal.τ).loc Cert.TnProjRefIdeal.main_arg0) = m ((c.tc : Thread Cert.TnProjRefIdeal.nD Cert.TnProjRefIdeal.τ).loc Cert.TnProjRefIdeal.main_arg0)
      ∧ r.2.mem ((c.tc : Thread Cert.TnProjRefIdeal.nD Cert.TnProjRefIdeal.τ).loc Cert.TnProjRefIdeal.main_arg1) = m ((c.tc : Thread Cert.TnProjRefIdeal.nD Cert.TnProjRefIdeal.τ).loc Cert.TnProjRefIdeal.main_arg1))
      ∧ r.2.sem = fun _ => 0)

def quiescent_NtAttn [hNtAttn : Cert.NtAttn.Facts] : Prop :=
  ∀ (m : (ℓ : Loc Cert.NtAttn.nD Cert.NtAttn.τ Cert.NtAttn.sig) → Buf (Elt Bits) ℓ) (g : Dev Cert.NtAttn.nD → PrngReg), Pre_NtAttn m →
    θ_run (Cert.NtAttn.defs (F := Bits)) (onTc (τ := Cert.NtAttn.τ) (Cert.NtAttn.main (F := Bits))) ⟨m, fun _ => 0, g⟩ (fun r => (∀ c : Dev Cert.NtAttn.nD,
      r.2.mem ((c.tc : Thread Cert.NtAttn.nD Cert.NtAttn.τ).loc Cert.NtAttn.main_arg0) = m ((c.tc : Thread Cert.NtAttn.nD Cert.NtAttn.τ).loc Cert.NtAttn.main_arg0)
      ∧ r.2.mem ((c.tc : Thread Cert.NtAttn.nD Cert.NtAttn.τ).loc Cert.NtAttn.main_arg1) = m ((c.tc : Thread Cert.NtAttn.nD Cert.NtAttn.τ).loc Cert.NtAttn.main_arg1))
      ∧ r.2.sem = fun _ => 0)

def quiescent_NtAttnIdeal [hNtAttnIdeal : Cert.NtAttnIdeal.Facts] : Prop :=
  ∀ (m : (ℓ : Loc Cert.NtAttnIdeal.nD Cert.NtAttnIdeal.τ Cert.NtAttnIdeal.sig) → Buf (Elt Ideal) ℓ) (g : Dev Cert.NtAttnIdeal.nD → PrngReg), Pre_NtAttnIdeal m →
    θ_run (Cert.NtAttnIdeal.defs (F := Ideal)) (onTc (τ := Cert.NtAttnIdeal.τ) (Cert.NtAttnIdeal.main (F := Ideal))) ⟨m, fun _ => 0, g⟩ (fun r => (∀ c : Dev Cert.NtAttnIdeal.nD,
      r.2.mem ((c.tc : Thread Cert.NtAttnIdeal.nD Cert.NtAttnIdeal.τ).loc Cert.NtAttnIdeal.main_arg0) = m ((c.tc : Thread Cert.NtAttnIdeal.nD Cert.NtAttnIdeal.τ).loc Cert.NtAttnIdeal.main_arg0)
      ∧ r.2.mem ((c.tc : Thread Cert.NtAttnIdeal.nD Cert.NtAttnIdeal.τ).loc Cert.NtAttnIdeal.main_arg1) = m ((c.tc : Thread Cert.NtAttnIdeal.nD Cert.NtAttnIdeal.τ).loc Cert.NtAttnIdeal.main_arg1))
      ∧ r.2.sem = fun _ => 0)

def quiescent_NtAttnRefIdeal [hNtAttnRefIdeal : Cert.NtAttnRefIdeal.Facts] : Prop :=
  ∀ (m : (ℓ : Loc Cert.NtAttnRefIdeal.nD Cert.NtAttnRefIdeal.τ Cert.NtAttnRefIdeal.sig) → Buf (Elt Ideal) ℓ) (g : Dev Cert.NtAttnRefIdeal.nD → PrngReg), Pre_NtAttnRefIdeal m →
    θ_run (Cert.NtAttnRefIdeal.defs (F := Ideal)) (onTc (τ := Cert.NtAttnRefIdeal.τ) (Cert.NtAttnRefIdeal.main (F := Ideal))) ⟨m, fun _ => 0, g⟩ (fun r => (∀ c : Dev Cert.NtAttnRefIdeal.nD,
      r.2.mem ((c.tc : Thread Cert.NtAttnRefIdeal.nD Cert.NtAttnRefIdeal.τ).loc Cert.NtAttnRefIdeal.main_arg0) = m ((c.tc : Thread Cert.NtAttnRefIdeal.nD Cert.NtAttnRefIdeal.τ).loc Cert.NtAttnRefIdeal.main_arg0)
      ∧ r.2.mem ((c.tc : Thread Cert.NtAttnRefIdeal.nD Cert.NtAttnRefIdeal.τ).loc Cert.NtAttnRefIdeal.main_arg1) = m ((c.tc : Thread Cert.NtAttnRefIdeal.nD Cert.NtAttnRefIdeal.τ).loc Cert.NtAttnRefIdeal.main_arg1))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3))
      ∧ r.2.sem = fun _ => 0)

def quiescent_AddNormBack [hAddNormBack : Cert.AddNormBack.Facts] : Prop :=
  ∀ (m : (ℓ : Loc Cert.AddNormBack.nD Cert.AddNormBack.τ Cert.AddNormBack.sig) → Buf (Elt Bits) ℓ) (g : Dev Cert.AddNormBack.nD → PrngReg), Pre_AddNormBack m →
    θ_run (Cert.AddNormBack.defs (F := Bits)) (onTc (τ := Cert.AddNormBack.τ) (Cert.AddNormBack.main (F := Bits))) ⟨m, fun _ => 0, g⟩ (fun r => (∀ c : Dev Cert.AddNormBack.nD,
      r.2.mem ((c.tc : Thread Cert.AddNormBack.nD Cert.AddNormBack.τ).loc Cert.AddNormBack.main_arg0) = m ((c.tc : Thread Cert.AddNormBack.nD Cert.AddNormBack.τ).loc Cert.AddNormBack.main_arg0)
      ∧ r.2.mem ((c.tc : Thread Cert.AddNormBack.nD Cert.AddNormBack.τ).loc Cert.AddNormBack.main_arg1) = m ((c.tc : Thread Cert.AddNormBack.nD Cert.AddNormBack.τ).loc Cert.AddNormBack.main_arg1)
      ∧ r.2.mem ((c.tc : Thread Cert.AddNormBack.nD Cert.AddNormBack.τ).loc Cert.AddNormBack.main_arg2) = m ((c.tc : Thread Cert.AddNormBack.nD Cert.AddNormBack.τ).loc Cert.AddNormBack.main_arg2)
      ∧ r.2.mem ((c.tc : Thread Cert.AddNormBack.nD Cert.AddNormBack.τ).loc Cert.AddNormBack.main_arg3) = m ((c.tc : Thread Cert.AddNormBack.nD Cert.AddNormBack.τ).loc Cert.AddNormBack.main_arg3)
      ∧ r.2.mem ((c.tc : Thread Cert.AddNormBack.nD Cert.AddNormBack.τ).loc Cert.AddNormBack.main_arg4) = m ((c.tc : Thread Cert.AddNormBack.nD Cert.AddNormBack.τ).loc Cert.AddNormBack.main_arg4))
      ∧ r.2.sem = fun _ => 0)

def quiescent_AddNormBackIdeal [hAddNormBackIdeal : Cert.AddNormBackIdeal.Facts] : Prop :=
  ∀ (m : (ℓ : Loc Cert.AddNormBackIdeal.nD Cert.AddNormBackIdeal.τ Cert.AddNormBackIdeal.sig) → Buf (Elt Ideal) ℓ) (g : Dev Cert.AddNormBackIdeal.nD → PrngReg), Pre_AddNormBackIdeal m →
    θ_run (Cert.AddNormBackIdeal.defs (F := Ideal)) (onTc (τ := Cert.AddNormBackIdeal.τ) (Cert.AddNormBackIdeal.main (F := Ideal))) ⟨m, fun _ => 0, g⟩ (fun r => (∀ c : Dev Cert.AddNormBackIdeal.nD,
      r.2.mem ((c.tc : Thread Cert.AddNormBackIdeal.nD Cert.AddNormBackIdeal.τ).loc Cert.AddNormBackIdeal.main_arg0) = m ((c.tc : Thread Cert.AddNormBackIdeal.nD Cert.AddNormBackIdeal.τ).loc Cert.AddNormBackIdeal.main_arg0)
      ∧ r.2.mem ((c.tc : Thread Cert.AddNormBackIdeal.nD Cert.AddNormBackIdeal.τ).loc Cert.AddNormBackIdeal.main_arg1) = m ((c.tc : Thread Cert.AddNormBackIdeal.nD Cert.AddNormBackIdeal.τ).loc Cert.AddNormBackIdeal.main_arg1)
      ∧ r.2.mem ((c.tc : Thread Cert.AddNormBackIdeal.nD Cert.AddNormBackIdeal.τ).loc Cert.AddNormBackIdeal.main_arg2) = m ((c.tc : Thread Cert.AddNormBackIdeal.nD Cert.AddNormBackIdeal.τ).loc Cert.AddNormBackIdeal.main_arg2)
      ∧ r.2.mem ((c.tc : Thread Cert.AddNormBackIdeal.nD Cert.AddNormBackIdeal.τ).loc Cert.AddNormBackIdeal.main_arg3) = m ((c.tc : Thread Cert.AddNormBackIdeal.nD Cert.AddNormBackIdeal.τ).loc Cert.AddNormBackIdeal.main_arg3)
      ∧ r.2.mem ((c.tc : Thread Cert.AddNormBackIdeal.nD Cert.AddNormBackIdeal.τ).loc Cert.AddNormBackIdeal.main_arg4) = m ((c.tc : Thread Cert.AddNormBackIdeal.nD Cert.AddNormBackIdeal.τ).loc Cert.AddNormBackIdeal.main_arg4))
      ∧ r.2.sem = fun _ => 0)

def quiescent_AddNormBackRefIdeal [hAddNormBackRefIdeal : Cert.AddNormBackRefIdeal.Facts] : Prop :=
  ∀ (m : (ℓ : Loc Cert.AddNormBackRefIdeal.nD Cert.AddNormBackRefIdeal.τ Cert.AddNormBackRefIdeal.sig) → Buf (Elt Ideal) ℓ) (g : Dev Cert.AddNormBackRefIdeal.nD → PrngReg), Pre_AddNormBackRefIdeal m →
    θ_run (Cert.AddNormBackRefIdeal.defs (F := Ideal)) (onTc (τ := Cert.AddNormBackRefIdeal.τ) (Cert.AddNormBackRefIdeal.main (F := Ideal))) ⟨m, fun _ => 0, g⟩ (fun r => (∀ c : Dev Cert.AddNormBackRefIdeal.nD,
      r.2.mem ((c.tc : Thread Cert.AddNormBackRefIdeal.nD Cert.AddNormBackRefIdeal.τ).loc Cert.AddNormBackRefIdeal.main_arg0) = m ((c.tc : Thread Cert.AddNormBackRefIdeal.nD Cert.AddNormBackRefIdeal.τ).loc Cert.AddNormBackRefIdeal.main_arg0)
      ∧ r.2.mem ((c.tc : Thread Cert.AddNormBackRefIdeal.nD Cert.AddNormBackRefIdeal.τ).loc Cert.AddNormBackRefIdeal.main_arg1) = m ((c.tc : Thread Cert.AddNormBackRefIdeal.nD Cert.AddNormBackRefIdeal.τ).loc Cert.AddNormBackRefIdeal.main_arg1)
      ∧ r.2.mem ((c.tc : Thread Cert.AddNormBackRefIdeal.nD Cert.AddNormBackRefIdeal.τ).loc Cert.AddNormBackRefIdeal.main_arg2) = m ((c.tc : Thread Cert.AddNormBackRefIdeal.nD Cert.AddNormBackRefIdeal.τ).loc Cert.AddNormBackRefIdeal.main_arg2)
      ∧ r.2.mem ((c.tc : Thread Cert.AddNormBackRefIdeal.nD Cert.AddNormBackRefIdeal.τ).loc Cert.AddNormBackRefIdeal.main_arg3) = m ((c.tc : Thread Cert.AddNormBackRefIdeal.nD Cert.AddNormBackRefIdeal.τ).loc Cert.AddNormBackRefIdeal.main_arg3)
      ∧ r.2.mem ((c.tc : Thread Cert.AddNormBackRefIdeal.nD Cert.AddNormBackRefIdeal.τ).loc Cert.AddNormBackRefIdeal.main_arg4) = m ((c.tc : Thread Cert.AddNormBackRefIdeal.nD Cert.AddNormBackRefIdeal.τ).loc Cert.AddNormBackRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_HeadsBack [hHeadsBack : Cert.HeadsBack.Facts] : Prop :=
  ∀ (m : (ℓ : Loc Cert.HeadsBack.nD Cert.HeadsBack.τ Cert.HeadsBack.sig) → Buf (Elt Bits) ℓ) (g : Dev Cert.HeadsBack.nD → PrngReg), Pre_HeadsBack m →
    θ_run (Cert.HeadsBack.defs (F := Bits)) (onTc (τ := Cert.HeadsBack.τ) (Cert.HeadsBack.main (F := Bits))) ⟨m, fun _ => 0, g⟩ (fun r => (∀ c : Dev Cert.HeadsBack.nD,
      r.2.mem ((c.tc : Thread Cert.HeadsBack.nD Cert.HeadsBack.τ).loc Cert.HeadsBack.main_arg0) = m ((c.tc : Thread Cert.HeadsBack.nD Cert.HeadsBack.τ).loc Cert.HeadsBack.main_arg0)
      ∧ r.2.mem ((c.tc : Thread Cert.HeadsBack.nD Cert.HeadsBack.τ).loc Cert.HeadsBack.main_arg1) = m ((c.tc : Thread Cert.HeadsBack.nD Cert.HeadsBack.τ).loc Cert.HeadsBack.main_arg1))
      ∧ r.2.sem = fun _ => 0)

def quiescent_HeadsBackIdeal [hHeadsBackIdeal : Cert.HeadsBackIdeal.Facts] : Prop :=
  ∀ (m : (ℓ : Loc Cert.HeadsBackIdeal.nD Cert.HeadsBackIdeal.τ Cert.HeadsBackIdeal.sig) → Buf (Elt Ideal) ℓ) (g : Dev Cert.HeadsBackIdeal.nD → PrngReg), Pre_HeadsBackIdeal m →
    θ_run (Cert.HeadsBackIdeal.defs (F := Ideal)) (onTc (τ := Cert.HeadsBackIdeal.τ) (Cert.HeadsBackIdeal.main (F := Ideal))) ⟨m, fun _ => 0, g⟩ (fun r => (∀ c : Dev Cert.HeadsBackIdeal.nD,
      r.2.mem ((c.tc : Thread Cert.HeadsBackIdeal.nD Cert.HeadsBackIdeal.τ).loc Cert.HeadsBackIdeal.main_arg0) = m ((c.tc : Thread Cert.HeadsBackIdeal.nD Cert.HeadsBackIdeal.τ).loc Cert.HeadsBackIdeal.main_arg0)
      ∧ r.2.mem ((c.tc : Thread Cert.HeadsBackIdeal.nD Cert.HeadsBackIdeal.τ).loc Cert.HeadsBackIdeal.main_arg1) = m ((c.tc : Thread Cert.HeadsBackIdeal.nD Cert.HeadsBackIdeal.τ).loc Cert.HeadsBackIdeal.main_arg1))
      ∧ r.2.sem = fun _ => 0)

def quiescent_HeadsBackRefIdeal [hHeadsBackRefIdeal : Cert.HeadsBackRefIdeal.Facts] : Prop :=
  ∀ (m : (ℓ : Loc Cert.HeadsBackRefIdeal.nD Cert.HeadsBackRefIdeal.τ Cert.HeadsBackRefIdeal.sig) → Buf (Elt Ideal) ℓ) (g : Dev Cert.HeadsBackRefIdeal.nD → PrngReg), Pre_HeadsBackRefIdeal m →
    θ_run (Cert.HeadsBackRefIdeal.defs (F := Ideal)) (onTc (τ := Cert.HeadsBackRefIdeal.τ) (Cert.HeadsBackRefIdeal.main (F := Ideal))) ⟨m, fun _ => 0, g⟩ (fun r => (∀ c : Dev Cert.HeadsBackRefIdeal.nD,
      r.2.mem ((c.tc : Thread Cert.HeadsBackRefIdeal.nD Cert.HeadsBackRefIdeal.τ).loc Cert.HeadsBackRefIdeal.main_arg0) = m ((c.tc : Thread Cert.HeadsBackRefIdeal.nD Cert.HeadsBackRefIdeal.τ).loc Cert.HeadsBackRefIdeal.main_arg0)
      ∧ r.2.mem ((c.tc : Thread Cert.HeadsBackRefIdeal.nD Cert.HeadsBackRefIdeal.τ).loc Cert.HeadsBackRefIdeal.main_arg1) = m ((c.tc : Thread Cert.HeadsBackRefIdeal.nD Cert.HeadsBackRefIdeal.τ).loc Cert.HeadsBackRefIdeal.main_arg1))
      ∧ r.2.sem = fun _ => 0)

def quiescent_NormForward [hNormForward : Cert.NormForward.Facts] : Prop :=
  ∀ (m : (ℓ : Loc Cert.NormForward.nD Cert.NormForward.τ Cert.NormForward.sig) → Buf (Elt Bits) ℓ) (g : Dev Cert.NormForward.nD → PrngReg), Pre_NormForward m →
    θ_run (Cert.NormForward.defs (F := Bits)) (onTc (τ := Cert.NormForward.τ) (Cert.NormForward.main (F := Bits))) ⟨m, fun _ => 0, g⟩ (fun r => (∀ c : Dev Cert.NormForward.nD,
      r.2.mem ((c.tc : Thread Cert.NormForward.nD Cert.NormForward.τ).loc Cert.NormForward.main_arg0) = m ((c.tc : Thread Cert.NormForward.nD Cert.NormForward.τ).loc Cert.NormForward.main_arg0)
      ∧ r.2.mem ((c.tc : Thread Cert.NormForward.nD Cert.NormForward.τ).loc Cert.NormForward.main_arg1) = m ((c.tc : Thread Cert.NormForward.nD Cert.NormForward.τ).loc Cert.NormForward.main_arg1))
      ∧ r.2.sem = fun _ => 0)

def quiescent_NormForwardIdeal [hNormForwardIdeal : Cert.NormForwardIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg), Pre_NormForwardIdeal m →
    θ_run (Cert.NormForwardIdeal.defs (F := Ideal)) (onTc (τ := Cert.NormForwardIdeal.τ) (Cert.NormForwardIdeal.main (F := Ideal))) ⟨m, fun _ => 0, g⟩ (fun r => (∀ c : Dev Cert.NormForwardIdeal.nD,
      r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
      ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1))
      ∧ r.2.sem = fun _ => 0)

def quiescent_NormForwardRefIdeal [hNormForwardRefIdeal : Cert.NormForwardRefIdeal.Facts] : Prop :=
  ∀ (m : (ℓ : Loc Cert.NormForwardRefIdeal.nD Cert.NormForwardRefIdeal.τ Cert.NormForwardRefIdeal.sig) → Buf (Elt Ideal) ℓ) (g : Dev Cert.NormForwardRefIdeal.nD → PrngReg), Pre_NormForwardRefIdeal m →
    θ_run (Cert.NormForwardRefIdeal.defs (F := Ideal)) (onTc (τ := Cert.NormForwardRefIdeal.τ) (Cert.NormForwardRefIdeal.main (F := Ideal))) ⟨m, fun _ => 0, g⟩ (fun r => (∀ c : Dev Cert.NormForwardRefIdeal.nD,
      r.2.mem ((c.tc : Thread Cert.NormForwardRefIdeal.nD Cert.NormForwardRefIdeal.τ).loc Cert.NormForwardRefIdeal.main_arg0) = m ((c.tc : Thread Cert.NormForwardRefIdeal.nD Cert.NormForwardRefIdeal.τ).loc Cert.NormForwardRefIdeal.main_arg0)
      ∧ r.2.mem ((c.tc : Thread Cert.NormForwardRefIdeal.nD Cert.NormForwardRefIdeal.τ).loc Cert.NormForwardRefIdeal.main_arg1) = m ((c.tc : Thread Cert.NormForwardRefIdeal.nD Cert.NormForwardRefIdeal.τ).loc Cert.NormForwardRefIdeal.main_arg1))
      ∧ r.2.sem = fun _ => 0)

def quiescent_AddNormForward [hAddNormForward : Cert.AddNormForward.Facts] : Prop :=
  ∀ (m : (ℓ : Loc Cert.AddNormForward.nD Cert.AddNormForward.τ Cert.AddNormForward.sig) → Buf (Elt Bits) ℓ) (g : Dev Cert.AddNormForward.nD → PrngReg), Pre_AddNormForward m →
    θ_run (Cert.AddNormForward.defs (F := Bits)) (onTc (τ := Cert.AddNormForward.τ) (Cert.AddNormForward.main (F := Bits))) ⟨m, fun _ => 0, g⟩ (fun r => (∀ c : Dev Cert.AddNormForward.nD,
      r.2.mem ((c.tc : Thread Cert.AddNormForward.nD Cert.AddNormForward.τ).loc Cert.AddNormForward.main_arg0) = m ((c.tc : Thread Cert.AddNormForward.nD Cert.AddNormForward.τ).loc Cert.AddNormForward.main_arg0)
      ∧ r.2.mem ((c.tc : Thread Cert.AddNormForward.nD Cert.AddNormForward.τ).loc Cert.AddNormForward.main_arg1) = m ((c.tc : Thread Cert.AddNormForward.nD Cert.AddNormForward.τ).loc Cert.AddNormForward.main_arg1)
      ∧ r.2.mem ((c.tc : Thread Cert.AddNormForward.nD Cert.AddNormForward.τ).loc Cert.AddNormForward.main_arg2) = m ((c.tc : Thread Cert.AddNormForward.nD Cert.AddNormForward.τ).loc Cert.AddNormForward.main_arg2))
      ∧ r.2.sem = fun _ => 0)

def quiescent_AddNormForwardIdeal [hAddNormForwardIdeal : Cert.AddNormForwardIdeal.Facts] : Prop :=
  ∀ (m : (ℓ : Loc Cert.AddNormForwardIdeal.nD Cert.AddNormForwardIdeal.τ Cert.AddNormForwardIdeal.sig) → Buf (Elt Ideal) ℓ) (g : Dev Cert.AddNormForwardIdeal.nD → PrngReg), Pre_AddNormForwardIdeal m →
    θ_run (Cert.AddNormForwardIdeal.defs (F := Ideal)) (onTc (τ := Cert.AddNormForwardIdeal.τ) (Cert.AddNormForwardIdeal.main (F := Ideal))) ⟨m, fun _ => 0, g⟩ (fun r => (∀ c : Dev Cert.AddNormForwardIdeal.nD,
      r.2.mem ((c.tc : Thread Cert.AddNormForwardIdeal.nD Cert.AddNormForwardIdeal.τ).loc Cert.AddNormForwardIdeal.main_arg0) = m ((c.tc : Thread Cert.AddNormForwardIdeal.nD Cert.AddNormForwardIdeal.τ).loc Cert.AddNormForwardIdeal.main_arg0)
      ∧ r.2.mem ((c.tc : Thread Cert.AddNormForwardIdeal.nD Cert.AddNormForwardIdeal.τ).loc Cert.AddNormForwardIdeal.main_arg1) = m ((c.tc : Thread Cert.AddNormForwardIdeal.nD Cert.AddNormForwardIdeal.τ).loc Cert.AddNormForwardIdeal.main_arg1)
      ∧ r.2.mem ((c.tc : Thread Cert.AddNormForwardIdeal.nD Cert.AddNormForwardIdeal.τ).loc Cert.AddNormForwardIdeal.main_arg2) = m ((c.tc : Thread Cert.AddNormForwardIdeal.nD Cert.AddNormForwardIdeal.τ).loc Cert.AddNormForwardIdeal.main_arg2))
      ∧ r.2.sem = fun _ => 0)

def quiescent_AddNormForwardRefIdeal [hAddNormForwardRefIdeal : Cert.AddNormForwardRefIdeal.Facts] : Prop :=
  ∀ (m : (ℓ : Loc Cert.AddNormForwardRefIdeal.nD Cert.AddNormForwardRefIdeal.τ Cert.AddNormForwardRefIdeal.sig) → Buf (Elt Ideal) ℓ) (g : Dev Cert.AddNormForwardRefIdeal.nD → PrngReg), Pre_AddNormForwardRefIdeal m →
    θ_run (Cert.AddNormForwardRefIdeal.defs (F := Ideal)) (onTc (τ := Cert.AddNormForwardRefIdeal.τ) (Cert.AddNormForwardRefIdeal.main (F := Ideal))) ⟨m, fun _ => 0, g⟩ (fun r => (∀ c : Dev Cert.AddNormForwardRefIdeal.nD,
      r.2.mem ((c.tc : Thread Cert.AddNormForwardRefIdeal.nD Cert.AddNormForwardRefIdeal.τ).loc Cert.AddNormForwardRefIdeal.main_arg0) = m ((c.tc : Thread Cert.AddNormForwardRefIdeal.nD Cert.AddNormForwardRefIdeal.τ).loc Cert.AddNormForwardRefIdeal.main_arg0)
      ∧ r.2.mem ((c.tc : Thread Cert.AddNormForwardRefIdeal.nD Cert.AddNormForwardRefIdeal.τ).loc Cert.AddNormForwardRefIdeal.main_arg1) = m ((c.tc : Thread Cert.AddNormForwardRefIdeal.nD Cert.AddNormForwardRefIdeal.τ).loc Cert.AddNormForwardRefIdeal.main_arg1)
      ∧ r.2.mem ((c.tc : Thread Cert.AddNormForwardRefIdeal.nD Cert.AddNormForwardRefIdeal.τ).loc Cert.AddNormForwardRefIdeal.main_arg2) = m ((c.tc : Thread Cert.AddNormForwardRefIdeal.nD Cert.AddNormForwardRefIdeal.τ).loc Cert.AddNormForwardRefIdeal.main_arg2))
      ∧ r.2.sem = fun _ => 0)

def quiescent_SquareForward [hSquareForward : Cert.SquareForward.Facts] : Prop :=
  ∀ (m : (ℓ : Loc Cert.SquareForward.nD Cert.SquareForward.τ Cert.SquareForward.sig) → Buf (Elt Bits) ℓ) (g : Dev Cert.SquareForward.nD → PrngReg), Pre_SquareForward m →
    θ_run (Cert.SquareForward.defs (F := Bits)) (onTc (τ := Cert.SquareForward.τ) (Cert.SquareForward.main (F := Bits))) ⟨m, fun _ => 0, g⟩ (fun r => (∀ c : Dev Cert.SquareForward.nD,
      r.2.mem ((c.tc : Thread Cert.SquareForward.nD Cert.SquareForward.τ).loc Cert.SquareForward.main_arg0) = m ((c.tc : Thread Cert.SquareForward.nD Cert.SquareForward.τ).loc Cert.SquareForward.main_arg0))
      ∧ r.2.sem = fun _ => 0)

def quiescent_SquareForwardIdeal [hSquareForwardIdeal : Cert.SquareForwardIdeal.Facts] : Prop :=
  ∀ (m : (ℓ : Loc Cert.SquareForwardIdeal.nD Cert.SquareForwardIdeal.τ Cert.SquareForwardIdeal.sig) → Buf (Elt Ideal) ℓ) (g : Dev Cert.SquareForwardIdeal.nD → PrngReg), Pre_SquareForwardIdeal m →
    θ_run (Cert.SquareForwardIdeal.defs (F := Ideal)) (onTc (τ := Cert.SquareForwardIdeal.τ) (Cert.SquareForwardIdeal.main (F := Ideal))) ⟨m, fun _ => 0, g⟩ (fun r => (∀ c : Dev Cert.SquareForwardIdeal.nD,
      r.2.mem ((c.tc : Thread Cert.SquareForwardIdeal.nD Cert.SquareForwardIdeal.τ).loc Cert.SquareForwardIdeal.main_arg0) = m ((c.tc : Thread Cert.SquareForwardIdeal.nD Cert.SquareForwardIdeal.τ).loc Cert.SquareForwardIdeal.main_arg0))
      ∧ r.2.sem = fun _ => 0)

def quiescent_SquareForwardRefIdeal [hSquareForwardRefIdeal : Cert.SquareForwardRefIdeal.Facts] : Prop :=
  ∀ (m : (ℓ : Loc Cert.SquareForwardRefIdeal.nD Cert.SquareForwardRefIdeal.τ Cert.SquareForwardRefIdeal.sig) → Buf (Elt Ideal) ℓ) (g : Dev Cert.SquareForwardRefIdeal.nD → PrngReg), Pre_SquareForwardRefIdeal m →
    θ_run (Cert.SquareForwardRefIdeal.defs (F := Ideal)) (onTc (τ := Cert.SquareForwardRefIdeal.τ) (Cert.SquareForwardRefIdeal.main (F := Ideal))) ⟨m, fun _ => 0, g⟩ (fun r => (∀ c : Dev Cert.SquareForwardRefIdeal.nD,
      r.2.mem ((c.tc : Thread Cert.SquareForwardRefIdeal.nD Cert.SquareForwardRefIdeal.τ).loc Cert.SquareForwardRefIdeal.main_arg0) = m ((c.tc : Thread Cert.SquareForwardRefIdeal.nD Cert.SquareForwardRefIdeal.τ).loc Cert.SquareForwardRefIdeal.main_arg0))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1))
      ∧ r.2.sem = fun _ => 0)

def quiescent_ConvBackRefIdeal [hConvBackRefIdeal : Cert.ConvBackRefIdeal.Facts] : Prop :=
  ∀ (m : (ℓ : Loc Cert.ConvBackRefIdeal.nD Cert.ConvBackRefIdeal.τ Cert.ConvBackRefIdeal.sig) → Buf (Elt Ideal) ℓ) (g : Dev Cert.ConvBackRefIdeal.nD → PrngReg), Pre_ConvBackRefIdeal m →
    θ_run (Cert.ConvBackRefIdeal.defs (F := Ideal)) (onTc (τ := Cert.ConvBackRefIdeal.τ) (Cert.ConvBackRefIdeal.main (F := Ideal))) ⟨m, fun _ => 0, g⟩ (fun r => (∀ c : Dev Cert.ConvBackRefIdeal.nD,
      r.2.mem ((c.tc : Thread Cert.ConvBackRefIdeal.nD Cert.ConvBackRefIdeal.τ).loc Cert.ConvBackRefIdeal.main_arg0) = m ((c.tc : Thread Cert.ConvBackRefIdeal.nD Cert.ConvBackRefIdeal.τ).loc Cert.ConvBackRefIdeal.main_arg0)
      ∧ r.2.mem ((c.tc : Thread Cert.ConvBackRefIdeal.nD Cert.ConvBackRefIdeal.τ).loc Cert.ConvBackRefIdeal.main_arg1) = m ((c.tc : Thread Cert.ConvBackRefIdeal.nD Cert.ConvBackRefIdeal.τ).loc Cert.ConvBackRefIdeal.main_arg1))
      ∧ r.2.sem = fun _ => 0)

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![4, 2, 13440, 512]⟩ ⟨4, ![32, 2, 13440, 512]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 13440, 512]⟩ ⟨3, ![32, 13440, 512]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨4, ![4, 2, 13440, 512]⟩ ⟨4, ![32, 2, 13440, 512]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 13440, 512]⟩ ⟨3, ![32, 13440, 512]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_AllToAll_AllToAllIdeal : Prop :=
  True

def algebraic_AllToAllIdeal_AllToAllRefIdeal [hAllToAllIdeal : Cert.AllToAllIdeal.Facts] [hAllToAllRefIdeal : Cert.AllToAllRefIdeal.Facts] : Prop :=
  ∀ (m : (ℓ : Loc Cert.AllToAllIdeal.nD Cert.AllToAllIdeal.τ Cert.AllToAllIdeal.sig) → Buf (Elt Ideal) ℓ) (g : Dev Cert.AllToAllIdeal.nD → PrngReg)
    (m' : (ℓ : Loc Cert.AllToAllRefIdeal.nD Cert.AllToAllRefIdeal.τ Cert.AllToAllRefIdeal.sig) → Buf (Elt Ideal) ℓ) (g' : Dev Cert.AllToAllRefIdeal.nD → PrngReg), Pre_AllToAllIdeal m →
    (∀ c : Dev Cert.AllToAllIdeal.nD,
      m ((c.tc : Thread Cert.AllToAllIdeal.nD Cert.AllToAllIdeal.τ).loc Cert.AllToAllIdeal.main_arg0) = Layout.block ⟨3, ![4, 13440, 512]⟩ ⟨3, ![32, 13440, 512]⟩ 0 8 c (m' (((0 : Dev Cert.AllToAllRefIdeal.nD).tc : Thread Cert.AllToAllRefIdeal.nD Cert.AllToAllRefIdeal.τ).loc Cert.AllToAllRefIdeal.main_arg0))) →
    ∃ (v0 : Buf (Elt Ideal) (((0 : Dev Cert.AllToAllRefIdeal.nD).tc : Thread Cert.AllToAllRefIdeal.nD Cert.AllToAllRefIdeal.τ).loc Cert.AllToAllRefIdeal.main_v2)),
      θ_run (Cert.AllToAllIdeal.defs (F := Ideal)) (onTc (τ := Cert.AllToAllIdeal.τ) (Cert.AllToAllIdeal.main (F := Ideal))) ⟨m, fun _ => 0, g⟩ (fun r => ∀ c : Dev Cert.AllToAllIdeal.nD,
          r.2.mem ((c.tc : Thread Cert.AllToAllIdeal.nD Cert.AllToAllIdeal.τ).loc Cert.AllToAllIdeal.main_v1) = Layout.block ⟨3, ![4, 13440, 512]⟩ ⟨3, ![32, 13440, 512]⟩ 0 8 c v0
          ∧ r.2.mem ((c.tc : Thread Cert.AllToAllIdeal.nD Cert.AllToAllIdeal.τ).loc Cert.AllToAllIdeal.main_arg0) = m ((c.tc : Thread Cert.AllToAllIdeal.nD Cert.AllToAllIdeal.τ).loc Cert.AllToAllIdeal.main_arg0))
      ∧ θ_run (Cert.AllToAllRefIdeal.defs (F := Ideal)) (onTc (τ := Cert.AllToAllRefIdeal.τ) (Cert.AllToAllRefIdeal.main (F := Ideal))) ⟨m', fun _ => 0, g'⟩ (fun r =>
          r.2.mem (((0 : Dev Cert.AllToAllRefIdeal.nD).tc : Thread Cert.AllToAllRefIdeal.nD Cert.AllToAllRefIdeal.τ).loc Cert.AllToAllRefIdeal.main_v2) = v0
          ∧ r.2.mem (((0 : Dev Cert.AllToAllRefIdeal.nD).tc : Thread Cert.AllToAllRefIdeal.nD Cert.AllToAllRefIdeal.τ).loc Cert.AllToAllRefIdeal.main_arg0) = m' (((0 : Dev Cert.AllToAllRefIdeal.nD).tc : Thread Cert.AllToAllRefIdeal.nD Cert.AllToAllRefIdeal.τ).loc Cert.AllToAllRefIdeal.main_arg0))

def bitexact_AllToAll_AllToAllRef [hAllToAll : Cert.AllToAll.Facts] [hAllToAllRef : Cert.AllToAllRef.Facts] : Prop :=
  ∀ (m : (ℓ : Loc Cert.AllToAll.nD Cert.AllToAll.τ Cert.AllToAll.sig) → Buf (Elt Bits) ℓ) (g : Dev Cert.AllToAll.nD → PrngReg)
    (m' : (ℓ : Loc Cert.AllToAllRef.nD Cert.AllToAllRef.τ Cert.AllToAllRef.sig) → Buf (Elt Bits) ℓ) (g' : Dev Cert.AllToAllRef.nD → PrngReg), Pre_AllToAll m →
    (∀ c : Dev Cert.AllToAll.nD,
      m ((c.tc : Thread Cert.AllToAll.nD Cert.AllToAll.τ).loc Cert.AllToAll.main_arg0) = Layout.block ⟨3, ![4, 13440, 512]⟩ ⟨3, ![32, 13440, 512]⟩ 0 8 c (m' (((0 : Dev Cert.AllToAllRef.nD).tc : Thread Cert.AllToAllRef.nD Cert.AllToAllRef.τ).loc Cert.AllToAllRef.main_arg0))) →
    ∃ (v0 : Buf (Elt Bits) (((0 : Dev Cert.AllToAllRef.nD).tc : Thread Cert.AllToAllRef.nD Cert.AllToAllRef.τ).loc Cert.AllToAllRef.main_v2)),
      θ_run (Cert.AllToAll.defs (F := Bits)) (onTc (τ := Cert.AllToAll.τ) (Cert.AllToAll.main (F := Bits))) ⟨m, fun _ => 0, g⟩ (fun r => ∀ c : Dev Cert.AllToAll.nD,
          r.2.mem ((c.tc : Thread Cert.AllToAll.nD Cert.AllToAll.τ).loc Cert.AllToAll.main_v1) = Layout.block ⟨3, ![4, 13440, 512]⟩ ⟨3, ![32, 13440, 512]⟩ 0 8 c v0
          ∧ r.2.mem ((c.tc : Thread Cert.AllToAll.nD Cert.AllToAll.τ).loc Cert.AllToAll.main_arg0) = m ((c.tc : Thread Cert.AllToAll.nD Cert.AllToAll.τ).loc Cert.AllToAll.main_arg0))
      ∧ θ_run (Cert.AllToAllRef.defs (F := Bits)) (onTc (τ := Cert.AllToAllRef.τ) (Cert.AllToAllRef.main (F := Bits))) ⟨m', fun _ => 0, g'⟩ (fun r =>
          r.2.mem (((0 : Dev Cert.AllToAllRef.nD).tc : Thread Cert.AllToAllRef.nD Cert.AllToAllRef.τ).loc Cert.AllToAllRef.main_v2) = v0
          ∧ r.2.mem (((0 : Dev Cert.AllToAllRef.nD).tc : Thread Cert.AllToAllRef.nD Cert.AllToAllRef.τ).loc Cert.AllToAllRef.main_arg0) = m' (((0 : Dev Cert.AllToAllRef.nD).tc : Thread Cert.AllToAllRef.nD Cert.AllToAllRef.τ).loc Cert.AllToAllRef.main_arg0))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m ((c.tc : Thread Cert.PairIdeal.nD Cert.PairIdeal.τ).loc Cert.PairIdeal.main_arg0) = Layout.block ⟨2, ![13440, 512]⟩ ⟨2, ![107520, 512]⟩ 0 8 c (m' (((0 : Dev Cert.PairRefIdeal.nD).tc : Thread Cert.PairRefIdeal.nD Cert.PairRefIdeal.τ).loc Cert.PairRefIdeal.main_arg0))) →
    ∃ (v0 : Buf (Elt Ideal) (((0 : Dev Cert.PairRefIdeal.nD).tc : Thread Cert.PairRefIdeal.nD Cert.PairRefIdeal.τ).loc Cert.PairRefIdeal.main_v0)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v1) = Layout.blockN ⟨3, ![2, 13440, 512]⟩ ⟨3, ![8, 13440, 512]⟩ (Layout.meshBlock [2, 2, 2] ![[0, 1], [], []] c) v0
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ θ_run (Cert.PairRefIdeal.defs (F := Ideal)) (onTc (τ := Cert.PairRefIdeal.τ) (Cert.PairRefIdeal.main (F := Ideal))) ⟨m', fun _ => 0, g'⟩ (fun r =>
          r.2.mem (((0 : Dev Cert.PairRefIdeal.nD).tc : Thread Cert.PairRefIdeal.nD Cert.PairRefIdeal.τ).loc Cert.PairRefIdeal.main_v0) = v0
          ∧ r.2.mem (((0 : Dev Cert.PairRefIdeal.nD).tc : Thread Cert.PairRefIdeal.nD Cert.PairRefIdeal.τ).loc Cert.PairRefIdeal.main_arg0) = m' (((0 : Dev Cert.PairRefIdeal.nD).tc : Thread Cert.PairRefIdeal.nD Cert.PairRefIdeal.τ).loc Cert.PairRefIdeal.main_arg0))

def bitexact_Pair_PairRef [hPair : Cert.Pair.Facts] [hPairRef : Cert.PairRef.Facts] : Prop :=
  ∀ (m : (ℓ : Loc Cert.Pair.nD Cert.Pair.τ Cert.Pair.sig) → Buf (Elt Bits) ℓ) (g : Dev Cert.Pair.nD → PrngReg)
    (m' : (ℓ : Loc Cert.PairRef.nD Cert.PairRef.τ Cert.PairRef.sig) → Buf (Elt Bits) ℓ) (g' : Dev Cert.PairRef.nD → PrngReg), Pre_Pair m →
    (∀ c : Dev Cert.Pair.nD,
      m ((c.tc : Thread Cert.Pair.nD Cert.Pair.τ).loc Cert.Pair.main_arg0) = Layout.block ⟨2, ![13440, 512]⟩ ⟨2, ![107520, 512]⟩ 0 8 c (m' (((0 : Dev Cert.PairRef.nD).tc : Thread Cert.PairRef.nD Cert.PairRef.τ).loc Cert.PairRef.main_arg0))) →
    ∃ (v0 : Buf (Elt Bits) (((0 : Dev Cert.PairRef.nD).tc : Thread Cert.PairRef.nD Cert.PairRef.τ).loc Cert.PairRef.main_v0)),
      θ_run (Cert.Pair.defs (F := Bits)) (onTc (τ := Cert.Pair.τ) (Cert.Pair.main (F := Bits))) ⟨m, fun _ => 0, g⟩ (fun r => ∀ c : Dev Cert.Pair.nD,
          r.2.mem ((c.tc : Thread Cert.Pair.nD Cert.Pair.τ).loc Cert.Pair.main_v1) = Layout.blockN ⟨3, ![2, 13440, 512]⟩ ⟨3, ![8, 13440, 512]⟩ (Layout.meshBlock [2, 2, 2] ![[0, 1], [], []] c) v0
          ∧ r.2.mem ((c.tc : Thread Cert.Pair.nD Cert.Pair.τ).loc Cert.Pair.main_arg0) = m ((c.tc : Thread Cert.Pair.nD Cert.Pair.τ).loc Cert.Pair.main_arg0))
      ∧ θ_run (Cert.PairRef.defs (F := Bits)) (onTc (τ := Cert.PairRef.τ) (Cert.PairRef.main (F := Bits))) ⟨m', fun _ => 0, g'⟩ (fun r =>
          r.2.mem (((0 : Dev Cert.PairRef.nD).tc : Thread Cert.PairRef.nD Cert.PairRef.τ).loc Cert.PairRef.main_v0) = v0
          ∧ r.2.mem (((0 : Dev Cert.PairRef.nD).tc : Thread Cert.PairRef.nD Cert.PairRef.τ).loc Cert.PairRef.main_arg0) = m' (((0 : Dev Cert.PairRef.nD).tc : Thread Cert.PairRef.nD Cert.PairRef.τ).loc Cert.PairRef.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![26880, 512]⟩ ⟨2, ![107520, 512]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_arg0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_arg0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![26880, 512]⟩ ⟨2, ![107520, 512]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_arg0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_arg0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Add_AddIdeal : Prop :=
  True

def algebraic_AddIdeal_AddRefIdeal [hAddIdeal : Cert.AddIdeal.Facts] [hAddRefIdeal : Cert.AddRefIdeal.Facts] : Prop :=
  ∀ (m : (ℓ : Loc Cert.AddIdeal.nD Cert.AddIdeal.τ Cert.AddIdeal.sig) → Buf (Elt Ideal) ℓ) (g : Dev Cert.AddIdeal.nD → PrngReg)
    (m' : (ℓ : Loc Cert.AddRefIdeal.nD Cert.AddRefIdeal.τ Cert.AddRefIdeal.sig) → Buf (Elt Ideal) ℓ) (g' : Dev Cert.AddRefIdeal.nD → PrngReg), Pre_AddIdeal m →
    (∀ c : Dev Cert.AddIdeal.nD,
      m' ((c.tc : Thread Cert.AddRefIdeal.nD Cert.AddRefIdeal.τ).loc Cert.AddRefIdeal.main_arg0) = m ((c.tc : Thread Cert.AddIdeal.nD Cert.AddIdeal.τ).loc Cert.AddIdeal.main_arg0)
      ∧ m' ((c.tc : Thread Cert.AddRefIdeal.nD Cert.AddRefIdeal.τ).loc Cert.AddRefIdeal.main_arg1) = m ((c.tc : Thread Cert.AddIdeal.nD Cert.AddIdeal.τ).loc Cert.AddIdeal.main_arg1)) →
    ∃ (v0 : (c : Dev Cert.AddIdeal.nD) → Buf (Elt Ideal) ((c.tc : Thread Cert.AddIdeal.nD Cert.AddIdeal.τ).loc Cert.AddIdeal.main_v0)),
      θ_run (Cert.AddIdeal.defs (F := Ideal)) (onTc (τ := Cert.AddIdeal.τ) (Cert.AddIdeal.main (F := Ideal))) ⟨m, fun _ => 0, g⟩ (fun r => ∀ c : Dev Cert.AddIdeal.nD,
          r.2.mem ((c.tc : Thread Cert.AddIdeal.nD Cert.AddIdeal.τ).loc Cert.AddIdeal.main_v0) = v0 c
          ∧ r.2.mem ((c.tc : Thread Cert.AddIdeal.nD Cert.AddIdeal.τ).loc Cert.AddIdeal.main_arg0) = m ((c.tc : Thread Cert.AddIdeal.nD Cert.AddIdeal.τ).loc Cert.AddIdeal.main_arg0)
          ∧ r.2.mem ((c.tc : Thread Cert.AddIdeal.nD Cert.AddIdeal.τ).loc Cert.AddIdeal.main_arg1) = m ((c.tc : Thread Cert.AddIdeal.nD Cert.AddIdeal.τ).loc Cert.AddIdeal.main_arg1))
      ∧ θ_run (Cert.AddRefIdeal.defs (F := Ideal)) (onTc (τ := Cert.AddRefIdeal.τ) (Cert.AddRefIdeal.main (F := Ideal))) ⟨m', fun _ => 0, g'⟩ (fun r => ∀ c : Dev Cert.AddRefIdeal.nD,
          r.2.mem ((c.tc : Thread Cert.AddRefIdeal.nD Cert.AddRefIdeal.τ).loc Cert.AddRefIdeal.main_v0) = v0 c
          ∧ r.2.mem ((c.tc : Thread Cert.AddRefIdeal.nD Cert.AddRefIdeal.τ).loc Cert.AddRefIdeal.main_arg0) = m' ((c.tc : Thread Cert.AddRefIdeal.nD Cert.AddRefIdeal.τ).loc Cert.AddRefIdeal.main_arg0)
          ∧ r.2.mem ((c.tc : Thread Cert.AddRefIdeal.nD Cert.AddRefIdeal.τ).loc Cert.AddRefIdeal.main_arg1) = m' ((c.tc : Thread Cert.AddRefIdeal.nD Cert.AddRefIdeal.τ).loc Cert.AddRefIdeal.main_arg1))

def bitexact_Add_AddRef [hAdd : Cert.Add.Facts] [hAddRef : Cert.AddRef.Facts] : Prop :=
  ∀ (m : (ℓ : Loc Cert.Add.nD Cert.Add.τ Cert.Add.sig) → Buf (Elt Bits) ℓ) (g : Dev Cert.Add.nD → PrngReg)
    (m' : (ℓ : Loc Cert.AddRef.nD Cert.AddRef.τ Cert.AddRef.sig) → Buf (Elt Bits) ℓ) (g' : Dev Cert.AddRef.nD → PrngReg), Pre_Add m →
    (∀ c : Dev Cert.Add.nD,
      m' ((c.tc : Thread Cert.AddRef.nD Cert.AddRef.τ).loc Cert.AddRef.main_arg0) = m ((c.tc : Thread Cert.Add.nD Cert.Add.τ).loc Cert.Add.main_arg0)
      ∧ m' ((c.tc : Thread Cert.AddRef.nD Cert.AddRef.τ).loc Cert.AddRef.main_arg1) = m ((c.tc : Thread Cert.Add.nD Cert.Add.τ).loc Cert.Add.main_arg1)) →
    ∃ (v0 : (c : Dev Cert.Add.nD) → Buf (Elt Bits) ((c.tc : Thread Cert.Add.nD Cert.Add.τ).loc Cert.Add.main_v0)),
      θ_run (Cert.Add.defs (F := Bits)) (onTc (τ := Cert.Add.τ) (Cert.Add.main (F := Bits))) ⟨m, fun _ => 0, g⟩ (fun r => ∀ c : Dev Cert.Add.nD,
          r.2.mem ((c.tc : Thread Cert.Add.nD Cert.Add.τ).loc Cert.Add.main_v0) = v0 c
          ∧ r.2.mem ((c.tc : Thread Cert.Add.nD Cert.Add.τ).loc Cert.Add.main_arg0) = m ((c.tc : Thread Cert.Add.nD Cert.Add.τ).loc Cert.Add.main_arg0)
          ∧ r.2.mem ((c.tc : Thread Cert.Add.nD Cert.Add.τ).loc Cert.Add.main_arg1) = m ((c.tc : Thread Cert.Add.nD Cert.Add.τ).loc Cert.Add.main_arg1))
      ∧ θ_run (Cert.AddRef.defs (F := Bits)) (onTc (τ := Cert.AddRef.τ) (Cert.AddRef.main (F := Bits))) ⟨m', fun _ => 0, g'⟩ (fun r => ∀ c : Dev Cert.AddRef.nD,
          r.2.mem ((c.tc : Thread Cert.AddRef.nD Cert.AddRef.τ).loc Cert.AddRef.main_v0) = v0 c
          ∧ r.2.mem ((c.tc : Thread Cert.AddRef.nD Cert.AddRef.τ).loc Cert.AddRef.main_arg0) = m' ((c.tc : Thread Cert.AddRef.nD Cert.AddRef.τ).loc Cert.AddRef.main_arg0)
          ∧ r.2.mem ((c.tc : Thread Cert.AddRef.nD Cert.AddRef.τ).loc Cert.AddRef.main_arg1) = m' ((c.tc : Thread Cert.AddRef.nD Cert.AddRef.τ).loc Cert.AddRef.main_arg1))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_AdamWNorm_AdamWNormIdeal : Prop :=
  True

def algebraic_AdamWNormIdeal_AdamWNormRefIdeal [hAdamWNormIdeal : Cert.AdamWNormIdeal.Facts] [hAdamWNormRefIdeal : Cert.AdamWNormRefIdeal.Facts] : Prop :=
  ∀ (m : (ℓ : Loc Cert.AdamWNormIdeal.nD Cert.AdamWNormIdeal.τ Cert.AdamWNormIdeal.sig) → Buf (Elt Ideal) ℓ) (g : Dev Cert.AdamWNormIdeal.nD → PrngReg)
    (m' : (ℓ : Loc Cert.AdamWNormRefIdeal.nD Cert.AdamWNormRefIdeal.τ Cert.AdamWNormRefIdeal.sig) → Buf (Elt Ideal) ℓ) (g' : Dev Cert.AdamWNormRefIdeal.nD → PrngReg), Pre_AdamWNormIdeal m →
    (∀ c : Dev Cert.AdamWNormIdeal.nD,
      m' ((c.tc : Thread Cert.AdamWNormRefIdeal.nD Cert.AdamWNormRefIdeal.τ).loc Cert.AdamWNormRefIdeal.main_arg0) = m ((c.tc : Thread Cert.AdamWNormIdeal.nD Cert.AdamWNormIdeal.τ).loc Cert.AdamWNormIdeal.main_arg0)
      ∧ m' ((c.tc : Thread Cert.AdamWNormRefIdeal.nD Cert.AdamWNormRefIdeal.τ).loc Cert.AdamWNormRefIdeal.main_arg1) = m ((c.tc : Thread Cert.AdamWNormIdeal.nD Cert.AdamWNormIdeal.τ).loc Cert.AdamWNormIdeal.main_arg1)
      ∧ m' ((c.tc : Thread Cert.AdamWNormRefIdeal.nD Cert.AdamWNormRefIdeal.τ).loc Cert.AdamWNormRefIdeal.main_arg2) = m ((c.tc : Thread Cert.AdamWNormIdeal.nD Cert.AdamWNormIdeal.τ).loc Cert.AdamWNormIdeal.main_arg2)
      ∧ m' ((c.tc : Thread Cert.AdamWNormRefIdeal.nD Cert.AdamWNormRefIdeal.τ).loc Cert.AdamWNormRefIdeal.main_arg3) = m ((c.tc : Thread Cert.AdamWNormIdeal.nD Cert.AdamWNormIdeal.τ).loc Cert.AdamWNormIdeal.main_arg3)) →
    ∃ (v0 : (c : Dev Cert.AdamWNormIdeal.nD) → Buf (Elt Ideal) ((c.tc : Thread Cert.AdamWNormIdeal.nD Cert.AdamWNormIdeal.τ).loc Cert.AdamWNormIdeal.main_v0_0)) (v1 : (c : Dev Cert.AdamWNormIdeal.nD) → Buf (Elt Ideal) ((c.tc : Thread Cert.AdamWNormIdeal.nD Cert.AdamWNormIdeal.τ).loc Cert.AdamWNormIdeal.main_v0_1)) (v2 : (c : Dev Cert.AdamWNormIdeal.nD) → Buf (Elt Ideal) ((c.tc : Thread Cert.AdamWNormIdeal.nD Cert.AdamWNormIdeal.τ).loc Cert.AdamWNormIdeal.main_v0_2)),
      θ_run (Cert.AdamWNormIdeal.defs (F := Ideal)) (onTc (τ := Cert.AdamWNormIdeal.τ) (Cert.AdamWNormIdeal.main (F := Ideal))) ⟨m, fun _ => 0, g⟩ (fun r => ∀ c : Dev Cert.AdamWNormIdeal.nD,
          r.2.mem ((c.tc : Thread Cert.AdamWNormIdeal.nD Cert.AdamWNormIdeal.τ).loc Cert.AdamWNormIdeal.main_v0_0) = v0 c
          ∧ r.2.mem ((c.tc : Thread Cert.AdamWNormIdeal.nD Cert.AdamWNormIdeal.τ).loc Cert.AdamWNormIdeal.main_v0_1) = v1 c
          ∧ r.2.mem ((c.tc : Thread Cert.AdamWNormIdeal.nD Cert.AdamWNormIdeal.τ).loc Cert.AdamWNormIdeal.main_v0_2) = v2 c
          ∧ r.2.mem ((c.tc : Thread Cert.AdamWNormIdeal.nD Cert.AdamWNormIdeal.τ).loc Cert.AdamWNormIdeal.main_arg0) = m ((c.tc : Thread Cert.AdamWNormIdeal.nD Cert.AdamWNormIdeal.τ).loc Cert.AdamWNormIdeal.main_arg0)
          ∧ r.2.mem ((c.tc : Thread Cert.AdamWNormIdeal.nD Cert.AdamWNormIdeal.τ).loc Cert.AdamWNormIdeal.main_arg1) = m ((c.tc : Thread Cert.AdamWNormIdeal.nD Cert.AdamWNormIdeal.τ).loc Cert.AdamWNormIdeal.main_arg1)
          ∧ r.2.mem ((c.tc : Thread Cert.AdamWNormIdeal.nD Cert.AdamWNormIdeal.τ).loc Cert.AdamWNormIdeal.main_arg2) = m ((c.tc : Thread Cert.AdamWNormIdeal.nD Cert.AdamWNormIdeal.τ).loc Cert.AdamWNormIdeal.main_arg2)
          ∧ r.2.mem ((c.tc : Thread Cert.AdamWNormIdeal.nD Cert.AdamWNormIdeal.τ).loc Cert.AdamWNormIdeal.main_arg3) = m ((c.tc : Thread Cert.AdamWNormIdeal.nD Cert.AdamWNormIdeal.τ).loc Cert.AdamWNormIdeal.main_arg3))
      ∧ θ_run (Cert.AdamWNormRefIdeal.defs (F := Ideal)) (onTc (τ := Cert.AdamWNormRefIdeal.τ) (Cert.AdamWNormRefIdeal.main (F := Ideal))) ⟨m', fun _ => 0, g'⟩ (fun r => ∀ c : Dev Cert.AdamWNormRefIdeal.nD,
          r.2.mem ((c.tc : Thread Cert.AdamWNormRefIdeal.nD Cert.AdamWNormRefIdeal.τ).loc Cert.AdamWNormRefIdeal.main_v23) = v0 c
          ∧ r.2.mem ((c.tc : Thread Cert.AdamWNormRefIdeal.nD Cert.AdamWNormRefIdeal.τ).loc Cert.AdamWNormRefIdeal.main_v4) = v1 c
          ∧ r.2.mem ((c.tc : Thread Cert.AdamWNormRefIdeal.nD Cert.AdamWNormRefIdeal.τ).loc Cert.AdamWNormRefIdeal.main_v10) = v2 c
          ∧ r.2.mem ((c.tc : Thread Cert.AdamWNormRefIdeal.nD Cert.AdamWNormRefIdeal.τ).loc Cert.AdamWNormRefIdeal.main_arg0) = m' ((c.tc : Thread Cert.AdamWNormRefIdeal.nD Cert.AdamWNormRefIdeal.τ).loc Cert.AdamWNormRefIdeal.main_arg0)
          ∧ r.2.mem ((c.tc : Thread Cert.AdamWNormRefIdeal.nD Cert.AdamWNormRefIdeal.τ).loc Cert.AdamWNormRefIdeal.main_arg1) = m' ((c.tc : Thread Cert.AdamWNormRefIdeal.nD Cert.AdamWNormRefIdeal.τ).loc Cert.AdamWNormRefIdeal.main_arg1)
          ∧ r.2.mem ((c.tc : Thread Cert.AdamWNormRefIdeal.nD Cert.AdamWNormRefIdeal.τ).loc Cert.AdamWNormRefIdeal.main_arg2) = m' ((c.tc : Thread Cert.AdamWNormRefIdeal.nD Cert.AdamWNormRefIdeal.τ).loc Cert.AdamWNormRefIdeal.main_arg2)
          ∧ r.2.mem ((c.tc : Thread Cert.AdamWNormRefIdeal.nD Cert.AdamWNormRefIdeal.τ).loc Cert.AdamWNormRefIdeal.main_arg3) = m' ((c.tc : Thread Cert.AdamWNormRefIdeal.nD Cert.AdamWNormRefIdeal.τ).loc Cert.AdamWNormRefIdeal.main_arg3))

def preserves_AdamWFinal_AdamWFinalIdeal : Prop :=
  True

def algebraic_AdamWFinalIdeal_AdamWFinalRefIdeal [hAdamWFinalIdeal : Cert.AdamWFinalIdeal.Facts] [hAdamWFinalRefIdeal : Cert.AdamWFinalRefIdeal.Facts] : Prop :=
  ∀ (m : (ℓ : Loc Cert.AdamWFinalIdeal.nD Cert.AdamWFinalIdeal.τ Cert.AdamWFinalIdeal.sig) → Buf (Elt Ideal) ℓ) (g : Dev Cert.AdamWFinalIdeal.nD → PrngReg)
    (m' : (ℓ : Loc Cert.AdamWFinalRefIdeal.nD Cert.AdamWFinalRefIdeal.τ Cert.AdamWFinalRefIdeal.sig) → Buf (Elt Ideal) ℓ) (g' : Dev Cert.AdamWFinalRefIdeal.nD → PrngReg), Pre_AdamWFinalIdeal m →
    (∀ c : Dev Cert.AdamWFinalIdeal.nD,
      m' ((c.tc : Thread Cert.AdamWFinalRefIdeal.nD Cert.AdamWFinalRefIdeal.τ).loc Cert.AdamWFinalRefIdeal.main_arg0) = m ((c.tc : Thread Cert.AdamWFinalIdeal.nD Cert.AdamWFinalIdeal.τ).loc Cert.AdamWFinalIdeal.main_arg0)
      ∧ m' ((c.tc : Thread Cert.AdamWFinalRefIdeal.nD Cert.AdamWFinalRefIdeal.τ).loc Cert.AdamWFinalRefIdeal.main_arg1) = m ((c.tc : Thread Cert.AdamWFinalIdeal.nD Cert.AdamWFinalIdeal.τ).loc Cert.AdamWFinalIdeal.main_arg1)
      ∧ m' ((c.tc : Thread Cert.AdamWFinalRefIdeal.nD Cert.AdamWFinalRefIdeal.τ).loc Cert.AdamWFinalRefIdeal.main_arg2) = m ((c.tc : Thread Cert.AdamWFinalIdeal.nD Cert.AdamWFinalIdeal.τ).loc Cert.AdamWFinalIdeal.main_arg2)
      ∧ m' ((c.tc : Thread Cert.AdamWFinalRefIdeal.nD Cert.AdamWFinalRefIdeal.τ).loc Cert.AdamWFinalRefIdeal.main_arg3) = m ((c.tc : Thread Cert.AdamWFinalIdeal.nD Cert.AdamWFinalIdeal.τ).loc Cert.AdamWFinalIdeal.main_arg3)) →
    ∃ (v0 : (c : Dev Cert.AdamWFinalIdeal.nD) → Buf (Elt Ideal) ((c.tc : Thread Cert.AdamWFinalIdeal.nD Cert.AdamWFinalIdeal.τ).loc Cert.AdamWFinalIdeal.main_v0_0)) (v1 : (c : Dev Cert.AdamWFinalIdeal.nD) → Buf (Elt Ideal) ((c.tc : Thread Cert.AdamWFinalIdeal.nD Cert.AdamWFinalIdeal.τ).loc Cert.AdamWFinalIdeal.main_v0_1)) (v2 : (c : Dev Cert.AdamWFinalIdeal.nD) → Buf (Elt Ideal) ((c.tc : Thread Cert.AdamWFinalIdeal.nD Cert.AdamWFinalIdeal.τ).loc Cert.AdamWFinalIdeal.main_v0_2)),
      θ_run (Cert.AdamWFinalIdeal.defs (F := Ideal)) (onTc (τ := Cert.AdamWFinalIdeal.τ) (Cert.AdamWFinalIdeal.main (F := Ideal))) ⟨m, fun _ => 0, g⟩ (fun r => ∀ c : Dev Cert.AdamWFinalIdeal.nD,
          r.2.mem ((c.tc : Thread Cert.AdamWFinalIdeal.nD Cert.AdamWFinalIdeal.τ).loc Cert.AdamWFinalIdeal.main_v0_0) = v0 c
          ∧ r.2.mem ((c.tc : Thread Cert.AdamWFinalIdeal.nD Cert.AdamWFinalIdeal.τ).loc Cert.AdamWFinalIdeal.main_v0_1) = v1 c
          ∧ r.2.mem ((c.tc : Thread Cert.AdamWFinalIdeal.nD Cert.AdamWFinalIdeal.τ).loc Cert.AdamWFinalIdeal.main_v0_2) = v2 c
          ∧ r.2.mem ((c.tc : Thread Cert.AdamWFinalIdeal.nD Cert.AdamWFinalIdeal.τ).loc Cert.AdamWFinalIdeal.main_arg0) = m ((c.tc : Thread Cert.AdamWFinalIdeal.nD Cert.AdamWFinalIdeal.τ).loc Cert.AdamWFinalIdeal.main_arg0)
          ∧ r.2.mem ((c.tc : Thread Cert.AdamWFinalIdeal.nD Cert.AdamWFinalIdeal.τ).loc Cert.AdamWFinalIdeal.main_arg1) = m ((c.tc : Thread Cert.AdamWFinalIdeal.nD Cert.AdamWFinalIdeal.τ).loc Cert.AdamWFinalIdeal.main_arg1)
          ∧ r.2.mem ((c.tc : Thread Cert.AdamWFinalIdeal.nD Cert.AdamWFinalIdeal.τ).loc Cert.AdamWFinalIdeal.main_arg2) = m ((c.tc : Thread Cert.AdamWFinalIdeal.nD Cert.AdamWFinalIdeal.τ).loc Cert.AdamWFinalIdeal.main_arg2)
          ∧ r.2.mem ((c.tc : Thread Cert.AdamWFinalIdeal.nD Cert.AdamWFinalIdeal.τ).loc Cert.AdamWFinalIdeal.main_arg3) = m ((c.tc : Thread Cert.AdamWFinalIdeal.nD Cert.AdamWFinalIdeal.τ).loc Cert.AdamWFinalIdeal.main_arg3))
      ∧ θ_run (Cert.AdamWFinalRefIdeal.defs (F := Ideal)) (onTc (τ := Cert.AdamWFinalRefIdeal.τ) (Cert.AdamWFinalRefIdeal.main (F := Ideal))) ⟨m', fun _ => 0, g'⟩ (fun r => ∀ c : Dev Cert.AdamWFinalRefIdeal.nD,
          r.2.mem ((c.tc : Thread Cert.AdamWFinalRefIdeal.nD Cert.AdamWFinalRefIdeal.τ).loc Cert.AdamWFinalRefIdeal.main_v23) = v0 c
          ∧ r.2.mem ((c.tc : Thread Cert.AdamWFinalRefIdeal.nD Cert.AdamWFinalRefIdeal.τ).loc Cert.AdamWFinalRefIdeal.main_v4) = v1 c
          ∧ r.2.mem ((c.tc : Thread Cert.AdamWFinalRefIdeal.nD Cert.AdamWFinalRefIdeal.τ).loc Cert.AdamWFinalRefIdeal.main_v10) = v2 c
          ∧ r.2.mem ((c.tc : Thread Cert.AdamWFinalRefIdeal.nD Cert.AdamWFinalRefIdeal.τ).loc Cert.AdamWFinalRefIdeal.main_arg0) = m' ((c.tc : Thread Cert.AdamWFinalRefIdeal.nD Cert.AdamWFinalRefIdeal.τ).loc Cert.AdamWFinalRefIdeal.main_arg0)
          ∧ r.2.mem ((c.tc : Thread Cert.AdamWFinalRefIdeal.nD Cert.AdamWFinalRefIdeal.τ).loc Cert.AdamWFinalRefIdeal.main_arg1) = m' ((c.tc : Thread Cert.AdamWFinalRefIdeal.nD Cert.AdamWFinalRefIdeal.τ).loc Cert.AdamWFinalRefIdeal.main_arg1)
          ∧ r.2.mem ((c.tc : Thread Cert.AdamWFinalRefIdeal.nD Cert.AdamWFinalRefIdeal.τ).loc Cert.AdamWFinalRefIdeal.main_arg2) = m' ((c.tc : Thread Cert.AdamWFinalRefIdeal.nD Cert.AdamWFinalRefIdeal.τ).loc Cert.AdamWFinalRefIdeal.main_arg2)
          ∧ r.2.mem ((c.tc : Thread Cert.AdamWFinalRefIdeal.nD Cert.AdamWFinalRefIdeal.τ).loc Cert.AdamWFinalRefIdeal.main_arg3) = m' ((c.tc : Thread Cert.AdamWFinalRefIdeal.nD Cert.AdamWFinalRefIdeal.τ).loc Cert.AdamWFinalRefIdeal.main_arg3))

def preserves_AdamWChannel_AdamWChannelIdeal : Prop :=
  True

def algebraic_AdamWChannelIdeal_AdamWChannelRefIdeal [hAdamWChannelIdeal : Cert.AdamWChannelIdeal.Facts] [hAdamWChannelRefIdeal : Cert.AdamWChannelRefIdeal.Facts] : Prop :=
  ∀ (m : (ℓ : Loc Cert.AdamWChannelIdeal.nD Cert.AdamWChannelIdeal.τ Cert.AdamWChannelIdeal.sig) → Buf (Elt Ideal) ℓ) (g : Dev Cert.AdamWChannelIdeal.nD → PrngReg)
    (m' : (ℓ : Loc Cert.AdamWChannelRefIdeal.nD Cert.AdamWChannelRefIdeal.τ Cert.AdamWChannelRefIdeal.sig) → Buf (Elt Ideal) ℓ) (g' : Dev Cert.AdamWChannelRefIdeal.nD → PrngReg), Pre_AdamWChannelIdeal m →
    (∀ c : Dev Cert.AdamWChannelIdeal.nD,
      m' ((c.tc : Thread Cert.AdamWChannelRefIdeal.nD Cert.AdamWChannelRefIdeal.τ).loc Cert.AdamWChannelRefIdeal.main_arg0) = m ((c.tc : Thread Cert.AdamWChannelIdeal.nD Cert.AdamWChannelIdeal.τ).loc Cert.AdamWChannelIdeal.main_arg0)
      ∧ m' ((c.tc : Thread Cert.AdamWChannelRefIdeal.nD Cert.AdamWChannelRefIdeal.τ).loc Cert.AdamWChannelRefIdeal.main_arg1) = m ((c.tc : Thread Cert.AdamWChannelIdeal.nD Cert.AdamWChannelIdeal.τ).loc Cert.AdamWChannelIdeal.main_arg1)
      ∧ m' ((c.tc : Thread Cert.AdamWChannelRefIdeal.nD Cert.AdamWChannelRefIdeal.τ).loc Cert.AdamWChannelRefIdeal.main_arg2) = m ((c.tc : Thread Cert.AdamWChannelIdeal.nD Cert.AdamWChannelIdeal.τ).loc Cert.AdamWChannelIdeal.main_arg2)
      ∧ m' ((c.tc : Thread Cert.AdamWChannelRefIdeal.nD Cert.AdamWChannelRefIdeal.τ).loc Cert.AdamWChannelRefIdeal.main_arg3) = m ((c.tc : Thread Cert.AdamWChannelIdeal.nD Cert.AdamWChannelIdeal.τ).loc Cert.AdamWChannelIdeal.main_arg3)) →
    ∃ (v0 : (c : Dev Cert.AdamWChannelIdeal.nD) → Buf (Elt Ideal) ((c.tc : Thread Cert.AdamWChannelIdeal.nD Cert.AdamWChannelIdeal.τ).loc Cert.AdamWChannelIdeal.main_v0_0)) (v1 : (c : Dev Cert.AdamWChannelIdeal.nD) → Buf (Elt Ideal) ((c.tc : Thread Cert.AdamWChannelIdeal.nD Cert.AdamWChannelIdeal.τ).loc Cert.AdamWChannelIdeal.main_v0_1)) (v2 : (c : Dev Cert.AdamWChannelIdeal.nD) → Buf (Elt Ideal) ((c.tc : Thread Cert.AdamWChannelIdeal.nD Cert.AdamWChannelIdeal.τ).loc Cert.AdamWChannelIdeal.main_v0_2)),
      θ_run (Cert.AdamWChannelIdeal.defs (F := Ideal)) (onTc (τ := Cert.AdamWChannelIdeal.τ) (Cert.AdamWChannelIdeal.main (F := Ideal))) ⟨m, fun _ => 0, g⟩ (fun r => ∀ c : Dev Cert.AdamWChannelIdeal.nD,
          r.2.mem ((c.tc : Thread Cert.AdamWChannelIdeal.nD Cert.AdamWChannelIdeal.τ).loc Cert.AdamWChannelIdeal.main_v0_0) = v0 c
          ∧ r.2.mem ((c.tc : Thread Cert.AdamWChannelIdeal.nD Cert.AdamWChannelIdeal.τ).loc Cert.AdamWChannelIdeal.main_v0_1) = v1 c
          ∧ r.2.mem ((c.tc : Thread Cert.AdamWChannelIdeal.nD Cert.AdamWChannelIdeal.τ).loc Cert.AdamWChannelIdeal.main_v0_2) = v2 c
          ∧ r.2.mem ((c.tc : Thread Cert.AdamWChannelIdeal.nD Cert.AdamWChannelIdeal.τ).loc Cert.AdamWChannelIdeal.main_arg0) = m ((c.tc : Thread Cert.AdamWChannelIdeal.nD Cert.AdamWChannelIdeal.τ).loc Cert.AdamWChannelIdeal.main_arg0)
          ∧ r.2.mem ((c.tc : Thread Cert.AdamWChannelIdeal.nD Cert.AdamWChannelIdeal.τ).loc Cert.AdamWChannelIdeal.main_arg1) = m ((c.tc : Thread Cert.AdamWChannelIdeal.nD Cert.AdamWChannelIdeal.τ).loc Cert.AdamWChannelIdeal.main_arg1)
          ∧ r.2.mem ((c.tc : Thread Cert.AdamWChannelIdeal.nD Cert.AdamWChannelIdeal.τ).loc Cert.AdamWChannelIdeal.main_arg2) = m ((c.tc : Thread Cert.AdamWChannelIdeal.nD Cert.AdamWChannelIdeal.τ).loc Cert.AdamWChannelIdeal.main_arg2)
          ∧ r.2.mem ((c.tc : Thread Cert.AdamWChannelIdeal.nD Cert.AdamWChannelIdeal.τ).loc Cert.AdamWChannelIdeal.main_arg3) = m ((c.tc : Thread Cert.AdamWChannelIdeal.nD Cert.AdamWChannelIdeal.τ).loc Cert.AdamWChannelIdeal.main_arg3))
      ∧ θ_run (Cert.AdamWChannelRefIdeal.defs (F := Ideal)) (onTc (τ := Cert.AdamWChannelRefIdeal.τ) (Cert.AdamWChannelRefIdeal.main (F := Ideal))) ⟨m', fun _ => 0, g'⟩ (fun r => ∀ c : Dev Cert.AdamWChannelRefIdeal.nD,
          r.2.mem ((c.tc : Thread Cert.AdamWChannelRefIdeal.nD Cert.AdamWChannelRefIdeal.τ).loc Cert.AdamWChannelRefIdeal.main_v23) = v0 c
          ∧ r.2.mem ((c.tc : Thread Cert.AdamWChannelRefIdeal.nD Cert.AdamWChannelRefIdeal.τ).loc Cert.AdamWChannelRefIdeal.main_v4) = v1 c
          ∧ r.2.mem ((c.tc : Thread Cert.AdamWChannelRefIdeal.nD Cert.AdamWChannelRefIdeal.τ).loc Cert.AdamWChannelRefIdeal.main_v10) = v2 c
          ∧ r.2.mem ((c.tc : Thread Cert.AdamWChannelRefIdeal.nD Cert.AdamWChannelRefIdeal.τ).loc Cert.AdamWChannelRefIdeal.main_arg0) = m' ((c.tc : Thread Cert.AdamWChannelRefIdeal.nD Cert.AdamWChannelRefIdeal.τ).loc Cert.AdamWChannelRefIdeal.main_arg0)
          ∧ r.2.mem ((c.tc : Thread Cert.AdamWChannelRefIdeal.nD Cert.AdamWChannelRefIdeal.τ).loc Cert.AdamWChannelRefIdeal.main_arg1) = m' ((c.tc : Thread Cert.AdamWChannelRefIdeal.nD Cert.AdamWChannelRefIdeal.τ).loc Cert.AdamWChannelRefIdeal.main_arg1)
          ∧ r.2.mem ((c.tc : Thread Cert.AdamWChannelRefIdeal.nD Cert.AdamWChannelRefIdeal.τ).loc Cert.AdamWChannelRefIdeal.main_arg2) = m' ((c.tc : Thread Cert.AdamWChannelRefIdeal.nD Cert.AdamWChannelRefIdeal.τ).loc Cert.AdamWChannelRefIdeal.main_arg2)
          ∧ r.2.mem ((c.tc : Thread Cert.AdamWChannelRefIdeal.nD Cert.AdamWChannelRefIdeal.τ).loc Cert.AdamWChannelRefIdeal.main_arg3) = m' ((c.tc : Thread Cert.AdamWChannelRefIdeal.nD Cert.AdamWChannelRefIdeal.τ).loc Cert.AdamWChannelRefIdeal.main_arg3))

def preserves_AdamWConvA_AdamWConvAIdeal : Prop :=
  True

def algebraic_AdamWConvAIdeal_AdamWConvARefIdeal [hAdamWConvAIdeal : Cert.AdamWConvAIdeal.Facts] [hAdamWConvARefIdeal : Cert.AdamWConvARefIdeal.Facts] : Prop :=
  ∀ (m : (ℓ : Loc Cert.AdamWConvAIdeal.nD Cert.AdamWConvAIdeal.τ Cert.AdamWConvAIdeal.sig) → Buf (Elt Ideal) ℓ) (g : Dev Cert.AdamWConvAIdeal.nD → PrngReg)
    (m' : (ℓ : Loc Cert.AdamWConvARefIdeal.nD Cert.AdamWConvARefIdeal.τ Cert.AdamWConvARefIdeal.sig) → Buf (Elt Ideal) ℓ) (g' : Dev Cert.AdamWConvARefIdeal.nD → PrngReg), Pre_AdamWConvAIdeal m →
    (∀ c : Dev Cert.AdamWConvAIdeal.nD,
      m' ((c.tc : Thread Cert.AdamWConvARefIdeal.nD Cert.AdamWConvARefIdeal.τ).loc Cert.AdamWConvARefIdeal.main_arg0) = m ((c.tc : Thread Cert.AdamWConvAIdeal.nD Cert.AdamWConvAIdeal.τ).loc Cert.AdamWConvAIdeal.main_arg0)
      ∧ m' ((c.tc : Thread Cert.AdamWConvARefIdeal.nD Cert.AdamWConvARefIdeal.τ).loc Cert.AdamWConvARefIdeal.main_arg1) = m ((c.tc : Thread Cert.AdamWConvAIdeal.nD Cert.AdamWConvAIdeal.τ).loc Cert.AdamWConvAIdeal.main_arg1)
      ∧ m' ((c.tc : Thread Cert.AdamWConvARefIdeal.nD Cert.AdamWConvARefIdeal.τ).loc Cert.AdamWConvARefIdeal.main_arg2) = m ((c.tc : Thread Cert.AdamWConvAIdeal.nD Cert.AdamWConvAIdeal.τ).loc Cert.AdamWConvAIdeal.main_arg2)
      ∧ m' ((c.tc : Thread Cert.AdamWConvARefIdeal.nD Cert.AdamWConvARefIdeal.τ).loc Cert.AdamWConvARefIdeal.main_arg3) = m ((c.tc : Thread Cert.AdamWConvAIdeal.nD Cert.AdamWConvAIdeal.τ).loc Cert.AdamWConvAIdeal.main_arg3)) →
    ∃ (v0 : (c : Dev Cert.AdamWConvAIdeal.nD) → Buf (Elt Ideal) ((c.tc : Thread Cert.AdamWConvAIdeal.nD Cert.AdamWConvAIdeal.τ).loc Cert.AdamWConvAIdeal.main_v0_0)) (v1 : (c : Dev Cert.AdamWConvAIdeal.nD) → Buf (Elt Ideal) ((c.tc : Thread Cert.AdamWConvAIdeal.nD Cert.AdamWConvAIdeal.τ).loc Cert.AdamWConvAIdeal.main_v0_1)) (v2 : (c : Dev Cert.AdamWConvAIdeal.nD) → Buf (Elt Ideal) ((c.tc : Thread Cert.AdamWConvAIdeal.nD Cert.AdamWConvAIdeal.τ).loc Cert.AdamWConvAIdeal.main_v0_2)),
      θ_run (Cert.AdamWConvAIdeal.defs (F := Ideal)) (onTc (τ := Cert.AdamWConvAIdeal.τ) (Cert.AdamWConvAIdeal.main (F := Ideal))) ⟨m, fun _ => 0, g⟩ (fun r => ∀ c : Dev Cert.AdamWConvAIdeal.nD,
          r.2.mem ((c.tc : Thread Cert.AdamWConvAIdeal.nD Cert.AdamWConvAIdeal.τ).loc Cert.AdamWConvAIdeal.main_v0_0) = v0 c
          ∧ r.2.mem ((c.tc : Thread Cert.AdamWConvAIdeal.nD Cert.AdamWConvAIdeal.τ).loc Cert.AdamWConvAIdeal.main_v0_1) = v1 c
          ∧ r.2.mem ((c.tc : Thread Cert.AdamWConvAIdeal.nD Cert.AdamWConvAIdeal.τ).loc Cert.AdamWConvAIdeal.main_v0_2) = v2 c
          ∧ r.2.mem ((c.tc : Thread Cert.AdamWConvAIdeal.nD Cert.AdamWConvAIdeal.τ).loc Cert.AdamWConvAIdeal.main_arg0) = m ((c.tc : Thread Cert.AdamWConvAIdeal.nD Cert.AdamWConvAIdeal.τ).loc Cert.AdamWConvAIdeal.main_arg0)
          ∧ r.2.mem ((c.tc : Thread Cert.AdamWConvAIdeal.nD Cert.AdamWConvAIdeal.τ).loc Cert.AdamWConvAIdeal.main_arg1) = m ((c.tc : Thread Cert.AdamWConvAIdeal.nD Cert.AdamWConvAIdeal.τ).loc Cert.AdamWConvAIdeal.main_arg1)
          ∧ r.2.mem ((c.tc : Thread Cert.AdamWConvAIdeal.nD Cert.AdamWConvAIdeal.τ).loc Cert.AdamWConvAIdeal.main_arg2) = m ((c.tc : Thread Cert.AdamWConvAIdeal.nD Cert.AdamWConvAIdeal.τ).loc Cert.AdamWConvAIdeal.main_arg2)
          ∧ r.2.mem ((c.tc : Thread Cert.AdamWConvAIdeal.nD Cert.AdamWConvAIdeal.τ).loc Cert.AdamWConvAIdeal.main_arg3) = m ((c.tc : Thread Cert.AdamWConvAIdeal.nD Cert.AdamWConvAIdeal.τ).loc Cert.AdamWConvAIdeal.main_arg3))
      ∧ θ_run (Cert.AdamWConvARefIdeal.defs (F := Ideal)) (onTc (τ := Cert.AdamWConvARefIdeal.τ) (Cert.AdamWConvARefIdeal.main (F := Ideal))) ⟨m', fun _ => 0, g'⟩ (fun r => ∀ c : Dev Cert.AdamWConvARefIdeal.nD,
          r.2.mem ((c.tc : Thread Cert.AdamWConvARefIdeal.nD Cert.AdamWConvARefIdeal.τ).loc Cert.AdamWConvARefIdeal.main_v23) = v0 c
          ∧ r.2.mem ((c.tc : Thread Cert.AdamWConvARefIdeal.nD Cert.AdamWConvARefIdeal.τ).loc Cert.AdamWConvARefIdeal.main_v4) = v1 c
          ∧ r.2.mem ((c.tc : Thread Cert.AdamWConvARefIdeal.nD Cert.AdamWConvARefIdeal.τ).loc Cert.AdamWConvARefIdeal.main_v10) = v2 c
          ∧ r.2.mem ((c.tc : Thread Cert.AdamWConvARefIdeal.nD Cert.AdamWConvARefIdeal.τ).loc Cert.AdamWConvARefIdeal.main_arg0) = m' ((c.tc : Thread Cert.AdamWConvARefIdeal.nD Cert.AdamWConvARefIdeal.τ).loc Cert.AdamWConvARefIdeal.main_arg0)
          ∧ r.2.mem ((c.tc : Thread Cert.AdamWConvARefIdeal.nD Cert.AdamWConvARefIdeal.τ).loc Cert.AdamWConvARefIdeal.main_arg1) = m' ((c.tc : Thread Cert.AdamWConvARefIdeal.nD Cert.AdamWConvARefIdeal.τ).loc Cert.AdamWConvARefIdeal.main_arg1)
          ∧ r.2.mem ((c.tc : Thread Cert.AdamWConvARefIdeal.nD Cert.AdamWConvARefIdeal.τ).loc Cert.AdamWConvARefIdeal.main_arg2) = m' ((c.tc : Thread Cert.AdamWConvARefIdeal.nD Cert.AdamWConvARefIdeal.τ).loc Cert.AdamWConvARefIdeal.main_arg2)
          ∧ r.2.mem ((c.tc : Thread Cert.AdamWConvARefIdeal.nD Cert.AdamWConvARefIdeal.τ).loc Cert.AdamWConvARefIdeal.main_arg3) = m' ((c.tc : Thread Cert.AdamWConvARefIdeal.nD Cert.AdamWConvARefIdeal.τ).loc Cert.AdamWConvARefIdeal.main_arg3))

def preserves_AdamWConvB_AdamWConvBIdeal : Prop :=
  True

def algebraic_AdamWConvBIdeal_AdamWConvBRefIdeal [hAdamWConvBIdeal : Cert.AdamWConvBIdeal.Facts] [hAdamWConvBRefIdeal : Cert.AdamWConvBRefIdeal.Facts] : Prop :=
  ∀ (m : (ℓ : Loc Cert.AdamWConvBIdeal.nD Cert.AdamWConvBIdeal.τ Cert.AdamWConvBIdeal.sig) → Buf (Elt Ideal) ℓ) (g : Dev Cert.AdamWConvBIdeal.nD → PrngReg)
    (m' : (ℓ : Loc Cert.AdamWConvBRefIdeal.nD Cert.AdamWConvBRefIdeal.τ Cert.AdamWConvBRefIdeal.sig) → Buf (Elt Ideal) ℓ) (g' : Dev Cert.AdamWConvBRefIdeal.nD → PrngReg), Pre_AdamWConvBIdeal m →
    (∀ c : Dev Cert.AdamWConvBIdeal.nD,
      m' ((c.tc : Thread Cert.AdamWConvBRefIdeal.nD Cert.AdamWConvBRefIdeal.τ).loc Cert.AdamWConvBRefIdeal.main_arg0) = m ((c.tc : Thread Cert.AdamWConvBIdeal.nD Cert.AdamWConvBIdeal.τ).loc Cert.AdamWConvBIdeal.main_arg0)
      ∧ m' ((c.tc : Thread Cert.AdamWConvBRefIdeal.nD Cert.AdamWConvBRefIdeal.τ).loc Cert.AdamWConvBRefIdeal.main_arg1) = m ((c.tc : Thread Cert.AdamWConvBIdeal.nD Cert.AdamWConvBIdeal.τ).loc Cert.AdamWConvBIdeal.main_arg1)
      ∧ m' ((c.tc : Thread Cert.AdamWConvBRefIdeal.nD Cert.AdamWConvBRefIdeal.τ).loc Cert.AdamWConvBRefIdeal.main_arg2) = m ((c.tc : Thread Cert.AdamWConvBIdeal.nD Cert.AdamWConvBIdeal.τ).loc Cert.AdamWConvBIdeal.main_arg2)
      ∧ m' ((c.tc : Thread Cert.AdamWConvBRefIdeal.nD Cert.AdamWConvBRefIdeal.τ).loc Cert.AdamWConvBRefIdeal.main_arg3) = m ((c.tc : Thread Cert.AdamWConvBIdeal.nD Cert.AdamWConvBIdeal.τ).loc Cert.AdamWConvBIdeal.main_arg3)) →
    ∃ (v0 : (c : Dev Cert.AdamWConvBIdeal.nD) → Buf (Elt Ideal) ((c.tc : Thread Cert.AdamWConvBIdeal.nD Cert.AdamWConvBIdeal.τ).loc Cert.AdamWConvBIdeal.main_v0_0)) (v1 : (c : Dev Cert.AdamWConvBIdeal.nD) → Buf (Elt Ideal) ((c.tc : Thread Cert.AdamWConvBIdeal.nD Cert.AdamWConvBIdeal.τ).loc Cert.AdamWConvBIdeal.main_v0_1)) (v2 : (c : Dev Cert.AdamWConvBIdeal.nD) → Buf (Elt Ideal) ((c.tc : Thread Cert.AdamWConvBIdeal.nD Cert.AdamWConvBIdeal.τ).loc Cert.AdamWConvBIdeal.main_v0_2)),
      θ_run (Cert.AdamWConvBIdeal.defs (F := Ideal)) (onTc (τ := Cert.AdamWConvBIdeal.τ) (Cert.AdamWConvBIdeal.main (F := Ideal))) ⟨m, fun _ => 0, g⟩ (fun r => ∀ c : Dev Cert.AdamWConvBIdeal.nD,
          r.2.mem ((c.tc : Thread Cert.AdamWConvBIdeal.nD Cert.AdamWConvBIdeal.τ).loc Cert.AdamWConvBIdeal.main_v0_0) = v0 c
          ∧ r.2.mem ((c.tc : Thread Cert.AdamWConvBIdeal.nD Cert.AdamWConvBIdeal.τ).loc Cert.AdamWConvBIdeal.main_v0_1) = v1 c
          ∧ r.2.mem ((c.tc : Thread Cert.AdamWConvBIdeal.nD Cert.AdamWConvBIdeal.τ).loc Cert.AdamWConvBIdeal.main_v0_2) = v2 c
          ∧ r.2.mem ((c.tc : Thread Cert.AdamWConvBIdeal.nD Cert.AdamWConvBIdeal.τ).loc Cert.AdamWConvBIdeal.main_arg0) = m ((c.tc : Thread Cert.AdamWConvBIdeal.nD Cert.AdamWConvBIdeal.τ).loc Cert.AdamWConvBIdeal.main_arg0)
          ∧ r.2.mem ((c.tc : Thread Cert.AdamWConvBIdeal.nD Cert.AdamWConvBIdeal.τ).loc Cert.AdamWConvBIdeal.main_arg1) = m ((c.tc : Thread Cert.AdamWConvBIdeal.nD Cert.AdamWConvBIdeal.τ).loc Cert.AdamWConvBIdeal.main_arg1)
          ∧ r.2.mem ((c.tc : Thread Cert.AdamWConvBIdeal.nD Cert.AdamWConvBIdeal.τ).loc Cert.AdamWConvBIdeal.main_arg2) = m ((c.tc : Thread Cert.AdamWConvBIdeal.nD Cert.AdamWConvBIdeal.τ).loc Cert.AdamWConvBIdeal.main_arg2)
          ∧ r.2.mem ((c.tc : Thread Cert.AdamWConvBIdeal.nD Cert.AdamWConvBIdeal.τ).loc Cert.AdamWConvBIdeal.main_arg3) = m ((c.tc : Thread Cert.AdamWConvBIdeal.nD Cert.AdamWConvBIdeal.τ).loc Cert.AdamWConvBIdeal.main_arg3))
      ∧ θ_run (Cert.AdamWConvBRefIdeal.defs (F := Ideal)) (onTc (τ := Cert.AdamWConvBRefIdeal.τ) (Cert.AdamWConvBRefIdeal.main (F := Ideal))) ⟨m', fun _ => 0, g'⟩ (fun r => ∀ c : Dev Cert.AdamWConvBRefIdeal.nD,
          r.2.mem ((c.tc : Thread Cert.AdamWConvBRefIdeal.nD Cert.AdamWConvBRefIdeal.τ).loc Cert.AdamWConvBRefIdeal.main_v23) = v0 c
          ∧ r.2.mem ((c.tc : Thread Cert.AdamWConvBRefIdeal.nD Cert.AdamWConvBRefIdeal.τ).loc Cert.AdamWConvBRefIdeal.main_v4) = v1 c
          ∧ r.2.mem ((c.tc : Thread Cert.AdamWConvBRefIdeal.nD Cert.AdamWConvBRefIdeal.τ).loc Cert.AdamWConvBRefIdeal.main_v10) = v2 c
          ∧ r.2.mem ((c.tc : Thread Cert.AdamWConvBRefIdeal.nD Cert.AdamWConvBRefIdeal.τ).loc Cert.AdamWConvBRefIdeal.main_arg0) = m' ((c.tc : Thread Cert.AdamWConvBRefIdeal.nD Cert.AdamWConvBRefIdeal.τ).loc Cert.AdamWConvBRefIdeal.main_arg0)
          ∧ r.2.mem ((c.tc : Thread Cert.AdamWConvBRefIdeal.nD Cert.AdamWConvBRefIdeal.τ).loc Cert.AdamWConvBRefIdeal.main_arg1) = m' ((c.tc : Thread Cert.AdamWConvBRefIdeal.nD Cert.AdamWConvBRefIdeal.τ).loc Cert.AdamWConvBRefIdeal.main_arg1)
          ∧ r.2.mem ((c.tc : Thread Cert.AdamWConvBRefIdeal.nD Cert.AdamWConvBRefIdeal.τ).loc Cert.AdamWConvBRefIdeal.main_arg2) = m' ((c.tc : Thread Cert.AdamWConvBRefIdeal.nD Cert.AdamWConvBRefIdeal.τ).loc Cert.AdamWConvBRefIdeal.main_arg2)
          ∧ r.2.mem ((c.tc : Thread Cert.AdamWConvBRefIdeal.nD Cert.AdamWConvBRefIdeal.τ).loc Cert.AdamWConvBRefIdeal.main_arg3) = m' ((c.tc : Thread Cert.AdamWConvBRefIdeal.nD Cert.AdamWConvBRefIdeal.τ).loc Cert.AdamWConvBRefIdeal.main_arg3))

def preserves_AdamWGate_AdamWGateIdeal : Prop :=
  True

def algebraic_AdamWGateIdeal_AdamWGateRefIdeal [hAdamWGateIdeal : Cert.AdamWGateIdeal.Facts] [hAdamWGateRefIdeal : Cert.AdamWGateRefIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg)
    (m' : (ℓ : Loc Cert.AdamWGateRefIdeal.nD Cert.AdamWGateRefIdeal.τ Cert.AdamWGateRefIdeal.sig) → Buf (Elt Ideal) ℓ) (g' : Dev Cert.AdamWGateRefIdeal.nD → PrngReg), Pre_AdamWGateIdeal m →
    (∀ c : Dev Cert.AdamWGateIdeal.nD,
      m' ((c.tc : Thread Cert.AdamWGateRefIdeal.nD Cert.AdamWGateRefIdeal.τ).loc Cert.AdamWGateRefIdeal.main_arg0) = m ((c.tc : Thread Cert.AdamWGateIdeal.nD Cert.AdamWGateIdeal.τ).loc Cert.AdamWGateIdeal.main_arg0)
      ∧ m' ((c.tc : Thread Cert.AdamWGateRefIdeal.nD Cert.AdamWGateRefIdeal.τ).loc Cert.AdamWGateRefIdeal.main_arg1) = m ((c.tc : Thread Cert.AdamWGateIdeal.nD Cert.AdamWGateIdeal.τ).loc Cert.AdamWGateIdeal.main_arg1)
      ∧ m' ((c.tc : Thread Cert.AdamWGateRefIdeal.nD Cert.AdamWGateRefIdeal.τ).loc Cert.AdamWGateRefIdeal.main_arg2) = m ((c.tc : Thread Cert.AdamWGateIdeal.nD Cert.AdamWGateIdeal.τ).loc Cert.AdamWGateIdeal.main_arg2)
      ∧ m' ((c.tc : Thread Cert.AdamWGateRefIdeal.nD Cert.AdamWGateRefIdeal.τ).loc Cert.AdamWGateRefIdeal.main_arg3) = m ((c.tc : Thread Cert.AdamWGateIdeal.nD Cert.AdamWGateIdeal.τ).loc Cert.AdamWGateIdeal.main_arg3)) →
    ∃ (v0 : (c : Dev Cert.AdamWGateIdeal.nD) → Buf (Elt Ideal) ((c.tc : Thread Cert.AdamWGateIdeal.nD Cert.AdamWGateIdeal.τ).loc Cert.AdamWGateIdeal.main_v0_0)) (v1 : (c : Dev Cert.AdamWGateIdeal.nD) → Buf (Elt Ideal) ((c.tc : Thread Cert.AdamWGateIdeal.nD Cert.AdamWGateIdeal.τ).loc Cert.AdamWGateIdeal.main_v0_1)) (v2 : (c : Dev Cert.AdamWGateIdeal.nD) → Buf (Elt Ideal) ((c.tc : Thread Cert.AdamWGateIdeal.nD Cert.AdamWGateIdeal.τ).loc Cert.AdamWGateIdeal.main_v0_2)),
      θ_run (Cert.AdamWGateIdeal.defs (F := Ideal)) (onTc (τ := Cert.AdamWGateIdeal.τ) (Cert.AdamWGateIdeal.main (F := Ideal))) ⟨m, fun _ => 0, g⟩ (fun r => ∀ c : Dev Cert.AdamWGateIdeal.nD,
          r.2.mem ((c.tc : Thread Cert.AdamWGateIdeal.nD Cert.AdamWGateIdeal.τ).loc Cert.AdamWGateIdeal.main_v0_0) = v0 c
          ∧ r.2.mem ((c.tc : Thread Cert.AdamWGateIdeal.nD Cert.AdamWGateIdeal.τ).loc Cert.AdamWGateIdeal.main_v0_1) = v1 c
          ∧ r.2.mem ((c.tc : Thread Cert.AdamWGateIdeal.nD Cert.AdamWGateIdeal.τ).loc Cert.AdamWGateIdeal.main_v0_2) = v2 c
          ∧ r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
          ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
          ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
          ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ θ_run (Cert.AdamWGateRefIdeal.defs (F := Ideal)) (onTc (τ := Cert.AdamWGateRefIdeal.τ) (Cert.AdamWGateRefIdeal.main (F := Ideal))) ⟨m', fun _ => 0, g'⟩ (fun r => ∀ c : Dev Cert.AdamWGateRefIdeal.nD,
          r.2.mem ((c.tc : Thread Cert.AdamWGateRefIdeal.nD Cert.AdamWGateRefIdeal.τ).loc Cert.AdamWGateRefIdeal.main_v23) = v0 c
          ∧ r.2.mem ((c.tc : Thread Cert.AdamWGateRefIdeal.nD Cert.AdamWGateRefIdeal.τ).loc Cert.AdamWGateRefIdeal.main_v4) = v1 c
          ∧ r.2.mem ((c.tc : Thread Cert.AdamWGateRefIdeal.nD Cert.AdamWGateRefIdeal.τ).loc Cert.AdamWGateRefIdeal.main_v10) = v2 c
          ∧ r.2.mem ((c.tc : Thread Cert.AdamWGateRefIdeal.nD Cert.AdamWGateRefIdeal.τ).loc Cert.AdamWGateRefIdeal.main_arg0) = m' ((c.tc : Thread Cert.AdamWGateRefIdeal.nD Cert.AdamWGateRefIdeal.τ).loc Cert.AdamWGateRefIdeal.main_arg0)
          ∧ r.2.mem ((c.tc : Thread Cert.AdamWGateRefIdeal.nD Cert.AdamWGateRefIdeal.τ).loc Cert.AdamWGateRefIdeal.main_arg1) = m' ((c.tc : Thread Cert.AdamWGateRefIdeal.nD Cert.AdamWGateRefIdeal.τ).loc Cert.AdamWGateRefIdeal.main_arg1)
          ∧ r.2.mem ((c.tc : Thread Cert.AdamWGateRefIdeal.nD Cert.AdamWGateRefIdeal.τ).loc Cert.AdamWGateRefIdeal.main_arg2) = m' ((c.tc : Thread Cert.AdamWGateRefIdeal.nD Cert.AdamWGateRefIdeal.τ).loc Cert.AdamWGateRefIdeal.main_arg2)
          ∧ r.2.mem ((c.tc : Thread Cert.AdamWGateRefIdeal.nD Cert.AdamWGateRefIdeal.τ).loc Cert.AdamWGateRefIdeal.main_arg3) = m' ((c.tc : Thread Cert.AdamWGateRefIdeal.nD Cert.AdamWGateRefIdeal.τ).loc Cert.AdamWGateRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v23) = v0 c
          ∧ r.2.mem ((c.tc : Thread Cert.AdamWOutRefIdeal.nD Cert.AdamWOutRefIdeal.τ).loc Cert.AdamWOutRefIdeal.main_v4) = v1 c
          ∧ r.2.mem ((c.tc : Thread Cert.AdamWOutRefIdeal.nD Cert.AdamWOutRefIdeal.τ).loc Cert.AdamWOutRefIdeal.main_v10) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWQkv_AdamWQkvIdeal : Prop :=
  True

def algebraic_AdamWQkvIdeal_AdamWQkvRefIdeal [hAdamWQkvIdeal : Cert.AdamWQkvIdeal.Facts] [hAdamWQkvRefIdeal : Cert.AdamWQkvRefIdeal.Facts] : Prop :=
  ∀ (m : (ℓ : Loc Cert.AdamWQkvIdeal.nD Cert.AdamWQkvIdeal.τ Cert.AdamWQkvIdeal.sig) → Buf (Elt Ideal) ℓ) (g : Dev Cert.AdamWQkvIdeal.nD → PrngReg)
    (m' : (ℓ : Loc Cert.AdamWQkvRefIdeal.nD Cert.AdamWQkvRefIdeal.τ Cert.AdamWQkvRefIdeal.sig) → Buf (Elt Ideal) ℓ) (g' : Dev Cert.AdamWQkvRefIdeal.nD → PrngReg), Pre_AdamWQkvIdeal m →
    (∀ c : Dev Cert.AdamWQkvIdeal.nD,
      m' ((c.tc : Thread Cert.AdamWQkvRefIdeal.nD Cert.AdamWQkvRefIdeal.τ).loc Cert.AdamWQkvRefIdeal.main_arg0) = m ((c.tc : Thread Cert.AdamWQkvIdeal.nD Cert.AdamWQkvIdeal.τ).loc Cert.AdamWQkvIdeal.main_arg0)
      ∧ m' ((c.tc : Thread Cert.AdamWQkvRefIdeal.nD Cert.AdamWQkvRefIdeal.τ).loc Cert.AdamWQkvRefIdeal.main_arg1) = m ((c.tc : Thread Cert.AdamWQkvIdeal.nD Cert.AdamWQkvIdeal.τ).loc Cert.AdamWQkvIdeal.main_arg1)
      ∧ m' ((c.tc : Thread Cert.AdamWQkvRefIdeal.nD Cert.AdamWQkvRefIdeal.τ).loc Cert.AdamWQkvRefIdeal.main_arg2) = m ((c.tc : Thread Cert.AdamWQkvIdeal.nD Cert.AdamWQkvIdeal.τ).loc Cert.AdamWQkvIdeal.main_arg2)
      ∧ m' ((c.tc : Thread Cert.AdamWQkvRefIdeal.nD Cert.AdamWQkvRefIdeal.τ).loc Cert.AdamWQkvRefIdeal.main_arg3) = m ((c.tc : Thread Cert.AdamWQkvIdeal.nD Cert.AdamWQkvIdeal.τ).loc Cert.AdamWQkvIdeal.main_arg3)) →
    ∃ (v0 : (c : Dev Cert.AdamWQkvIdeal.nD) → Buf (Elt Ideal) ((c.tc : Thread Cert.AdamWQkvIdeal.nD Cert.AdamWQkvIdeal.τ).loc Cert.AdamWQkvIdeal.main_v0_0)) (v1 : (c : Dev Cert.AdamWQkvIdeal.nD) → Buf (Elt Ideal) ((c.tc : Thread Cert.AdamWQkvIdeal.nD Cert.AdamWQkvIdeal.τ).loc Cert.AdamWQkvIdeal.main_v0_1)) (v2 : (c : Dev Cert.AdamWQkvIdeal.nD) → Buf (Elt Ideal) ((c.tc : Thread Cert.AdamWQkvIdeal.nD Cert.AdamWQkvIdeal.τ).loc Cert.AdamWQkvIdeal.main_v0_2)),
      θ_run (Cert.AdamWQkvIdeal.defs (F := Ideal)) (onTc (τ := Cert.AdamWQkvIdeal.τ) (Cert.AdamWQkvIdeal.main (F := Ideal))) ⟨m, fun _ => 0, g⟩ (fun r => ∀ c : Dev Cert.AdamWQkvIdeal.nD,
          r.2.mem ((c.tc : Thread Cert.AdamWQkvIdeal.nD Cert.AdamWQkvIdeal.τ).loc Cert.AdamWQkvIdeal.main_v0_0) = v0 c
          ∧ r.2.mem ((c.tc : Thread Cert.AdamWQkvIdeal.nD Cert.AdamWQkvIdeal.τ).loc Cert.AdamWQkvIdeal.main_v0_1) = v1 c
          ∧ r.2.mem ((c.tc : Thread Cert.AdamWQkvIdeal.nD Cert.AdamWQkvIdeal.τ).loc Cert.AdamWQkvIdeal.main_v0_2) = v2 c
          ∧ r.2.mem ((c.tc : Thread Cert.AdamWQkvIdeal.nD Cert.AdamWQkvIdeal.τ).loc Cert.AdamWQkvIdeal.main_arg0) = m ((c.tc : Thread Cert.AdamWQkvIdeal.nD Cert.AdamWQkvIdeal.τ).loc Cert.AdamWQkvIdeal.main_arg0)
          ∧ r.2.mem ((c.tc : Thread Cert.AdamWQkvIdeal.nD Cert.AdamWQkvIdeal.τ).loc Cert.AdamWQkvIdeal.main_arg1) = m ((c.tc : Thread Cert.AdamWQkvIdeal.nD Cert.AdamWQkvIdeal.τ).loc Cert.AdamWQkvIdeal.main_arg1)
          ∧ r.2.mem ((c.tc : Thread Cert.AdamWQkvIdeal.nD Cert.AdamWQkvIdeal.τ).loc Cert.AdamWQkvIdeal.main_arg2) = m ((c.tc : Thread Cert.AdamWQkvIdeal.nD Cert.AdamWQkvIdeal.τ).loc Cert.AdamWQkvIdeal.main_arg2)
          ∧ r.2.mem ((c.tc : Thread Cert.AdamWQkvIdeal.nD Cert.AdamWQkvIdeal.τ).loc Cert.AdamWQkvIdeal.main_arg3) = m ((c.tc : Thread Cert.AdamWQkvIdeal.nD Cert.AdamWQkvIdeal.τ).loc Cert.AdamWQkvIdeal.main_arg3))
      ∧ θ_run (Cert.AdamWQkvRefIdeal.defs (F := Ideal)) (onTc (τ := Cert.AdamWQkvRefIdeal.τ) (Cert.AdamWQkvRefIdeal.main (F := Ideal))) ⟨m', fun _ => 0, g'⟩ (fun r => ∀ c : Dev Cert.AdamWQkvRefIdeal.nD,
          r.2.mem ((c.tc : Thread Cert.AdamWQkvRefIdeal.nD Cert.AdamWQkvRefIdeal.τ).loc Cert.AdamWQkvRefIdeal.main_v23) = v0 c
          ∧ r.2.mem ((c.tc : Thread Cert.AdamWQkvRefIdeal.nD Cert.AdamWQkvRefIdeal.τ).loc Cert.AdamWQkvRefIdeal.main_v4) = v1 c
          ∧ r.2.mem ((c.tc : Thread Cert.AdamWQkvRefIdeal.nD Cert.AdamWQkvRefIdeal.τ).loc Cert.AdamWQkvRefIdeal.main_v10) = v2 c
          ∧ r.2.mem ((c.tc : Thread Cert.AdamWQkvRefIdeal.nD Cert.AdamWQkvRefIdeal.τ).loc Cert.AdamWQkvRefIdeal.main_arg0) = m' ((c.tc : Thread Cert.AdamWQkvRefIdeal.nD Cert.AdamWQkvRefIdeal.τ).loc Cert.AdamWQkvRefIdeal.main_arg0)
          ∧ r.2.mem ((c.tc : Thread Cert.AdamWQkvRefIdeal.nD Cert.AdamWQkvRefIdeal.τ).loc Cert.AdamWQkvRefIdeal.main_arg1) = m' ((c.tc : Thread Cert.AdamWQkvRefIdeal.nD Cert.AdamWQkvRefIdeal.τ).loc Cert.AdamWQkvRefIdeal.main_arg1)
          ∧ r.2.mem ((c.tc : Thread Cert.AdamWQkvRefIdeal.nD Cert.AdamWQkvRefIdeal.τ).loc Cert.AdamWQkvRefIdeal.main_arg2) = m' ((c.tc : Thread Cert.AdamWQkvRefIdeal.nD Cert.AdamWQkvRefIdeal.τ).loc Cert.AdamWQkvRefIdeal.main_arg2)
          ∧ r.2.mem ((c.tc : Thread Cert.AdamWQkvRefIdeal.nD Cert.AdamWQkvRefIdeal.τ).loc Cert.AdamWQkvRefIdeal.main_arg3) = m' ((c.tc : Thread Cert.AdamWQkvRefIdeal.nD Cert.AdamWQkvRefIdeal.τ).loc Cert.AdamWQkvRefIdeal.main_arg3))

def preserves_AdamWMlp_AdamWMlpIdeal : Prop :=
  True

def algebraic_AdamWMlpIdeal_AdamWMlpRefIdeal [hAdamWMlpIdeal : Cert.AdamWMlpIdeal.Facts] [hAdamWMlpRefIdeal : Cert.AdamWMlpRefIdeal.Facts] : Prop :=
  ∀ (m : (ℓ : Loc Cert.AdamWMlpIdeal.nD Cert.AdamWMlpIdeal.τ Cert.AdamWMlpIdeal.sig) → Buf (Elt Ideal) ℓ) (g : Dev Cert.AdamWMlpIdeal.nD → PrngReg)
    (m' : (ℓ : Loc Cert.AdamWMlpRefIdeal.nD Cert.AdamWMlpRefIdeal.τ Cert.AdamWMlpRefIdeal.sig) → Buf (Elt Ideal) ℓ) (g' : Dev Cert.AdamWMlpRefIdeal.nD → PrngReg), Pre_AdamWMlpIdeal m →
    (∀ c : Dev Cert.AdamWMlpIdeal.nD,
      m' ((c.tc : Thread Cert.AdamWMlpRefIdeal.nD Cert.AdamWMlpRefIdeal.τ).loc Cert.AdamWMlpRefIdeal.main_arg0) = m ((c.tc : Thread Cert.AdamWMlpIdeal.nD Cert.AdamWMlpIdeal.τ).loc Cert.AdamWMlpIdeal.main_arg0)
      ∧ m' ((c.tc : Thread Cert.AdamWMlpRefIdeal.nD Cert.AdamWMlpRefIdeal.τ).loc Cert.AdamWMlpRefIdeal.main_arg1) = m ((c.tc : Thread Cert.AdamWMlpIdeal.nD Cert.AdamWMlpIdeal.τ).loc Cert.AdamWMlpIdeal.main_arg1)
      ∧ m' ((c.tc : Thread Cert.AdamWMlpRefIdeal.nD Cert.AdamWMlpRefIdeal.τ).loc Cert.AdamWMlpRefIdeal.main_arg2) = m ((c.tc : Thread Cert.AdamWMlpIdeal.nD Cert.AdamWMlpIdeal.τ).loc Cert.AdamWMlpIdeal.main_arg2)
      ∧ m' ((c.tc : Thread Cert.AdamWMlpRefIdeal.nD Cert.AdamWMlpRefIdeal.τ).loc Cert.AdamWMlpRefIdeal.main_arg3) = m ((c.tc : Thread Cert.AdamWMlpIdeal.nD Cert.AdamWMlpIdeal.τ).loc Cert.AdamWMlpIdeal.main_arg3)) →
    ∃ (v0 : (c : Dev Cert.AdamWMlpIdeal.nD) → Buf (Elt Ideal) ((c.tc : Thread Cert.AdamWMlpIdeal.nD Cert.AdamWMlpIdeal.τ).loc Cert.AdamWMlpIdeal.main_v0_0)) (v1 : (c : Dev Cert.AdamWMlpIdeal.nD) → Buf (Elt Ideal) ((c.tc : Thread Cert.AdamWMlpIdeal.nD Cert.AdamWMlpIdeal.τ).loc Cert.AdamWMlpIdeal.main_v0_1)) (v2 : (c : Dev Cert.AdamWMlpIdeal.nD) → Buf (Elt Ideal) ((c.tc : Thread Cert.AdamWMlpIdeal.nD Cert.AdamWMlpIdeal.τ).loc Cert.AdamWMlpIdeal.main_v0_2)),
      θ_run (Cert.AdamWMlpIdeal.defs (F := Ideal)) (onTc (τ := Cert.AdamWMlpIdeal.τ) (Cert.AdamWMlpIdeal.main (F := Ideal))) ⟨m, fun _ => 0, g⟩ (fun r => ∀ c : Dev Cert.AdamWMlpIdeal.nD,
          r.2.mem ((c.tc : Thread Cert.AdamWMlpIdeal.nD Cert.AdamWMlpIdeal.τ).loc Cert.AdamWMlpIdeal.main_v0_0) = v0 c
          ∧ r.2.mem ((c.tc : Thread Cert.AdamWMlpIdeal.nD Cert.AdamWMlpIdeal.τ).loc Cert.AdamWMlpIdeal.main_v0_1) = v1 c
          ∧ r.2.mem ((c.tc : Thread Cert.AdamWMlpIdeal.nD Cert.AdamWMlpIdeal.τ).loc Cert.AdamWMlpIdeal.main_v0_2) = v2 c
          ∧ r.2.mem ((c.tc : Thread Cert.AdamWMlpIdeal.nD Cert.AdamWMlpIdeal.τ).loc Cert.AdamWMlpIdeal.main_arg0) = m ((c.tc : Thread Cert.AdamWMlpIdeal.nD Cert.AdamWMlpIdeal.τ).loc Cert.AdamWMlpIdeal.main_arg0)
          ∧ r.2.mem ((c.tc : Thread Cert.AdamWMlpIdeal.nD Cert.AdamWMlpIdeal.τ).loc Cert.AdamWMlpIdeal.main_arg1) = m ((c.tc : Thread Cert.AdamWMlpIdeal.nD Cert.AdamWMlpIdeal.τ).loc Cert.AdamWMlpIdeal.main_arg1)
          ∧ r.2.mem ((c.tc : Thread Cert.AdamWMlpIdeal.nD Cert.AdamWMlpIdeal.τ).loc Cert.AdamWMlpIdeal.main_arg2) = m ((c.tc : Thread Cert.AdamWMlpIdeal.nD Cert.AdamWMlpIdeal.τ).loc Cert.AdamWMlpIdeal.main_arg2)
          ∧ r.2.mem ((c.tc : Thread Cert.AdamWMlpIdeal.nD Cert.AdamWMlpIdeal.τ).loc Cert.AdamWMlpIdeal.main_arg3) = m ((c.tc : Thread Cert.AdamWMlpIdeal.nD Cert.AdamWMlpIdeal.τ).loc Cert.AdamWMlpIdeal.main_arg3))
      ∧ θ_run (Cert.AdamWMlpRefIdeal.defs (F := Ideal)) (onTc (τ := Cert.AdamWMlpRefIdeal.τ) (Cert.AdamWMlpRefIdeal.main (F := Ideal))) ⟨m', fun _ => 0, g'⟩ (fun r => ∀ c : Dev Cert.AdamWMlpRefIdeal.nD,
          r.2.mem ((c.tc : Thread Cert.AdamWMlpRefIdeal.nD Cert.AdamWMlpRefIdeal.τ).loc Cert.AdamWMlpRefIdeal.main_v23) = v0 c
          ∧ r.2.mem ((c.tc : Thread Cert.AdamWMlpRefIdeal.nD Cert.AdamWMlpRefIdeal.τ).loc Cert.AdamWMlpRefIdeal.main_v4) = v1 c
          ∧ r.2.mem ((c.tc : Thread Cert.AdamWMlpRefIdeal.nD Cert.AdamWMlpRefIdeal.τ).loc Cert.AdamWMlpRefIdeal.main_v10) = v2 c
          ∧ r.2.mem ((c.tc : Thread Cert.AdamWMlpRefIdeal.nD Cert.AdamWMlpRefIdeal.τ).loc Cert.AdamWMlpRefIdeal.main_arg0) = m' ((c.tc : Thread Cert.AdamWMlpRefIdeal.nD Cert.AdamWMlpRefIdeal.τ).loc Cert.AdamWMlpRefIdeal.main_arg0)
          ∧ r.2.mem ((c.tc : Thread Cert.AdamWMlpRefIdeal.nD Cert.AdamWMlpRefIdeal.τ).loc Cert.AdamWMlpRefIdeal.main_arg1) = m' ((c.tc : Thread Cert.AdamWMlpRefIdeal.nD Cert.AdamWMlpRefIdeal.τ).loc Cert.AdamWMlpRefIdeal.main_arg1)
          ∧ r.2.mem ((c.tc : Thread Cert.AdamWMlpRefIdeal.nD Cert.AdamWMlpRefIdeal.τ).loc Cert.AdamWMlpRefIdeal.main_arg2) = m' ((c.tc : Thread Cert.AdamWMlpRefIdeal.nD Cert.AdamWMlpRefIdeal.τ).loc Cert.AdamWMlpRefIdeal.main_arg2)
          ∧ r.2.mem ((c.tc : Thread Cert.AdamWMlpRefIdeal.nD Cert.AdamWMlpRefIdeal.τ).loc Cert.AdamWMlpRefIdeal.main_arg3) = m' ((c.tc : Thread Cert.AdamWMlpRefIdeal.nD Cert.AdamWMlpRefIdeal.τ).loc Cert.AdamWMlpRefIdeal.main_arg3))

def preserves_AdamWProj_AdamWProjIdeal : Prop :=
  True

def algebraic_AdamWProjIdeal_AdamWProjRefIdeal [hAdamWProjIdeal : Cert.AdamWProjIdeal.Facts] [hAdamWProjRefIdeal : Cert.AdamWProjRefIdeal.Facts] : Prop :=
  ∀ (m : (ℓ : Loc Cert.AdamWProjIdeal.nD Cert.AdamWProjIdeal.τ Cert.AdamWProjIdeal.sig) → Buf (Elt Ideal) ℓ) (g : Dev Cert.AdamWProjIdeal.nD → PrngReg)
    (m' : (ℓ : Loc Cert.AdamWProjRefIdeal.nD Cert.AdamWProjRefIdeal.τ Cert.AdamWProjRefIdeal.sig) → Buf (Elt Ideal) ℓ) (g' : Dev Cert.AdamWProjRefIdeal.nD → PrngReg), Pre_AdamWProjIdeal m →
    (∀ c : Dev Cert.AdamWProjIdeal.nD,
      m' ((c.tc : Thread Cert.AdamWProjRefIdeal.nD Cert.AdamWProjRefIdeal.τ).loc Cert.AdamWProjRefIdeal.main_arg0) = m ((c.tc : Thread Cert.AdamWProjIdeal.nD Cert.AdamWProjIdeal.τ).loc Cert.AdamWProjIdeal.main_arg0)
      ∧ m' ((c.tc : Thread Cert.AdamWProjRefIdeal.nD Cert.AdamWProjRefIdeal.τ).loc Cert.AdamWProjRefIdeal.main_arg1) = m ((c.tc : Thread Cert.AdamWProjIdeal.nD Cert.AdamWProjIdeal.τ).loc Cert.AdamWProjIdeal.main_arg1)
      ∧ m' ((c.tc : Thread Cert.AdamWProjRefIdeal.nD Cert.AdamWProjRefIdeal.τ).loc Cert.AdamWProjRefIdeal.main_arg2) = m ((c.tc : Thread Cert.AdamWProjIdeal.nD Cert.AdamWProjIdeal.τ).loc Cert.AdamWProjIdeal.main_arg2)
      ∧ m' ((c.tc : Thread Cert.AdamWProjRefIdeal.nD Cert.AdamWProjRefIdeal.τ).loc Cert.AdamWProjRefIdeal.main_arg3) = m ((c.tc : Thread Cert.AdamWProjIdeal.nD Cert.AdamWProjIdeal.τ).loc Cert.AdamWProjIdeal.main_arg3)) →
    ∃ (v0 : (c : Dev Cert.AdamWProjIdeal.nD) → Buf (Elt Ideal) ((c.tc : Thread Cert.AdamWProjIdeal.nD Cert.AdamWProjIdeal.τ).loc Cert.AdamWProjIdeal.main_v0_0)) (v1 : (c : Dev Cert.AdamWProjIdeal.nD) → Buf (Elt Ideal) ((c.tc : Thread Cert.AdamWProjIdeal.nD Cert.AdamWProjIdeal.τ).loc Cert.AdamWProjIdeal.main_v0_1)) (v2 : (c : Dev Cert.AdamWProjIdeal.nD) → Buf (Elt Ideal) ((c.tc : Thread Cert.AdamWProjIdeal.nD Cert.AdamWProjIdeal.τ).loc Cert.AdamWProjIdeal.main_v0_2)),
      θ_run (Cert.AdamWProjIdeal.defs (F := Ideal)) (onTc (τ := Cert.AdamWProjIdeal.τ) (Cert.AdamWProjIdeal.main (F := Ideal))) ⟨m, fun _ => 0, g⟩ (fun r => ∀ c : Dev Cert.AdamWProjIdeal.nD,
          r.2.mem ((c.tc : Thread Cert.AdamWProjIdeal.nD Cert.AdamWProjIdeal.τ).loc Cert.AdamWProjIdeal.main_v0_0) = v0 c
          ∧ r.2.mem ((c.tc : Thread Cert.AdamWProjIdeal.nD Cert.AdamWProjIdeal.τ).loc Cert.AdamWProjIdeal.main_v0_1) = v1 c
          ∧ r.2.mem ((c.tc : Thread Cert.AdamWProjIdeal.nD Cert.AdamWProjIdeal.τ).loc Cert.AdamWProjIdeal.main_v0_2) = v2 c
          ∧ r.2.mem ((c.tc : Thread Cert.AdamWProjIdeal.nD Cert.AdamWProjIdeal.τ).loc Cert.AdamWProjIdeal.main_arg0) = m ((c.tc : Thread Cert.AdamWProjIdeal.nD Cert.AdamWProjIdeal.τ).loc Cert.AdamWProjIdeal.main_arg0)
          ∧ r.2.mem ((c.tc : Thread Cert.AdamWProjIdeal.nD Cert.AdamWProjIdeal.τ).loc Cert.AdamWProjIdeal.main_arg1) = m ((c.tc : Thread Cert.AdamWProjIdeal.nD Cert.AdamWProjIdeal.τ).loc Cert.AdamWProjIdeal.main_arg1)
          ∧ r.2.mem ((c.tc : Thread Cert.AdamWProjIdeal.nD Cert.AdamWProjIdeal.τ).loc Cert.AdamWProjIdeal.main_arg2) = m ((c.tc : Thread Cert.AdamWProjIdeal.nD Cert.AdamWProjIdeal.τ).loc Cert.AdamWProjIdeal.main_arg2)
          ∧ r.2.mem ((c.tc : Thread Cert.AdamWProjIdeal.nD Cert.AdamWProjIdeal.τ).loc Cert.AdamWProjIdeal.main_arg3) = m ((c.tc : Thread Cert.AdamWProjIdeal.nD Cert.AdamWProjIdeal.τ).loc Cert.AdamWProjIdeal.main_arg3))
      ∧ θ_run (Cert.AdamWProjRefIdeal.defs (F := Ideal)) (onTc (τ := Cert.AdamWProjRefIdeal.τ) (Cert.AdamWProjRefIdeal.main (F := Ideal))) ⟨m', fun _ => 0, g'⟩ (fun r => ∀ c : Dev Cert.AdamWProjRefIdeal.nD,
          r.2.mem ((c.tc : Thread Cert.AdamWProjRefIdeal.nD Cert.AdamWProjRefIdeal.τ).loc Cert.AdamWProjRefIdeal.main_v23) = v0 c
          ∧ r.2.mem ((c.tc : Thread Cert.AdamWProjRefIdeal.nD Cert.AdamWProjRefIdeal.τ).loc Cert.AdamWProjRefIdeal.main_v4) = v1 c
          ∧ r.2.mem ((c.tc : Thread Cert.AdamWProjRefIdeal.nD Cert.AdamWProjRefIdeal.τ).loc Cert.AdamWProjRefIdeal.main_v10) = v2 c
          ∧ r.2.mem ((c.tc : Thread Cert.AdamWProjRefIdeal.nD Cert.AdamWProjRefIdeal.τ).loc Cert.AdamWProjRefIdeal.main_arg0) = m' ((c.tc : Thread Cert.AdamWProjRefIdeal.nD Cert.AdamWProjRefIdeal.τ).loc Cert.AdamWProjRefIdeal.main_arg0)
          ∧ r.2.mem ((c.tc : Thread Cert.AdamWProjRefIdeal.nD Cert.AdamWProjRefIdeal.τ).loc Cert.AdamWProjRefIdeal.main_arg1) = m' ((c.tc : Thread Cert.AdamWProjRefIdeal.nD Cert.AdamWProjRefIdeal.τ).loc Cert.AdamWProjRefIdeal.main_arg1)
          ∧ r.2.mem ((c.tc : Thread Cert.AdamWProjRefIdeal.nD Cert.AdamWProjRefIdeal.τ).loc Cert.AdamWProjRefIdeal.main_arg2) = m' ((c.tc : Thread Cert.AdamWProjRefIdeal.nD Cert.AdamWProjRefIdeal.τ).loc Cert.AdamWProjRefIdeal.main_arg2)
          ∧ r.2.mem ((c.tc : Thread Cert.AdamWProjRefIdeal.nD Cert.AdamWProjRefIdeal.τ).loc Cert.AdamWProjRefIdeal.main_arg3) = m' ((c.tc : Thread Cert.AdamWProjRefIdeal.nD Cert.AdamWProjRefIdeal.τ).loc Cert.AdamWProjRefIdeal.main_arg3))

def preserves_AdamWPle_AdamWPleIdeal : Prop :=
  True

def algebraic_AdamWPleIdeal_AdamWPleRefIdeal [hAdamWPleIdeal : Cert.AdamWPleIdeal.Facts] [hAdamWPleRefIdeal : Cert.AdamWPleRefIdeal.Facts] : Prop :=
  ∀ (m : (ℓ : Loc Cert.AdamWPleIdeal.nD Cert.AdamWPleIdeal.τ Cert.AdamWPleIdeal.sig) → Buf (Elt Ideal) ℓ) (g : Dev Cert.AdamWPleIdeal.nD → PrngReg)
    (m' : (ℓ : Loc Cert.AdamWPleRefIdeal.nD Cert.AdamWPleRefIdeal.τ Cert.AdamWPleRefIdeal.sig) → Buf (Elt Ideal) ℓ) (g' : Dev Cert.AdamWPleRefIdeal.nD → PrngReg), Pre_AdamWPleIdeal m →
    (∀ c : Dev Cert.AdamWPleIdeal.nD,
      m' ((c.tc : Thread Cert.AdamWPleRefIdeal.nD Cert.AdamWPleRefIdeal.τ).loc Cert.AdamWPleRefIdeal.main_arg0) = m ((c.tc : Thread Cert.AdamWPleIdeal.nD Cert.AdamWPleIdeal.τ).loc Cert.AdamWPleIdeal.main_arg0)
      ∧ m' ((c.tc : Thread Cert.AdamWPleRefIdeal.nD Cert.AdamWPleRefIdeal.τ).loc Cert.AdamWPleRefIdeal.main_arg1) = m ((c.tc : Thread Cert.AdamWPleIdeal.nD Cert.AdamWPleIdeal.τ).loc Cert.AdamWPleIdeal.main_arg1)
      ∧ m' ((c.tc : Thread Cert.AdamWPleRefIdeal.nD Cert.AdamWPleRefIdeal.τ).loc Cert.AdamWPleRefIdeal.main_arg2) = m ((c.tc : Thread Cert.AdamWPleIdeal.nD Cert.AdamWPleIdeal.τ).loc Cert.AdamWPleIdeal.main_arg2)
      ∧ m' ((c.tc : Thread Cert.AdamWPleRefIdeal.nD Cert.AdamWPleRefIdeal.τ).loc Cert.AdamWPleRefIdeal.main_arg3) = m ((c.tc : Thread Cert.AdamWPleIdeal.nD Cert.AdamWPleIdeal.τ).loc Cert.AdamWPleIdeal.main_arg3)) →
    ∃ (v0 : (c : Dev Cert.AdamWPleIdeal.nD) → Buf (Elt Ideal) ((c.tc : Thread Cert.AdamWPleIdeal.nD Cert.AdamWPleIdeal.τ).loc Cert.AdamWPleIdeal.main_v0_0)) (v1 : (c : Dev Cert.AdamWPleIdeal.nD) → Buf (Elt Ideal) ((c.tc : Thread Cert.AdamWPleIdeal.nD Cert.AdamWPleIdeal.τ).loc Cert.AdamWPleIdeal.main_v0_1)) (v2 : (c : Dev Cert.AdamWPleIdeal.nD) → Buf (Elt Ideal) ((c.tc : Thread Cert.AdamWPleIdeal.nD Cert.AdamWPleIdeal.τ).loc Cert.AdamWPleIdeal.main_v0_2)),
      θ_run (Cert.AdamWPleIdeal.defs (F := Ideal)) (onTc (τ := Cert.AdamWPleIdeal.τ) (Cert.AdamWPleIdeal.main (F := Ideal))) ⟨m, fun _ => 0, g⟩ (fun r => ∀ c : Dev Cert.AdamWPleIdeal.nD,
          r.2.mem ((c.tc : Thread Cert.AdamWPleIdeal.nD Cert.AdamWPleIdeal.τ).loc Cert.AdamWPleIdeal.main_v0_0) = v0 c
          ∧ r.2.mem ((c.tc : Thread Cert.AdamWPleIdeal.nD Cert.AdamWPleIdeal.τ).loc Cert.AdamWPleIdeal.main_v0_1) = v1 c
          ∧ r.2.mem ((c.tc : Thread Cert.AdamWPleIdeal.nD Cert.AdamWPleIdeal.τ).loc Cert.AdamWPleIdeal.main_v0_2) = v2 c
          ∧ r.2.mem ((c.tc : Thread Cert.AdamWPleIdeal.nD Cert.AdamWPleIdeal.τ).loc Cert.AdamWPleIdeal.main_arg0) = m ((c.tc : Thread Cert.AdamWPleIdeal.nD Cert.AdamWPleIdeal.τ).loc Cert.AdamWPleIdeal.main_arg0)
          ∧ r.2.mem ((c.tc : Thread Cert.AdamWPleIdeal.nD Cert.AdamWPleIdeal.τ).loc Cert.AdamWPleIdeal.main_arg1) = m ((c.tc : Thread Cert.AdamWPleIdeal.nD Cert.AdamWPleIdeal.τ).loc Cert.AdamWPleIdeal.main_arg1)
          ∧ r.2.mem ((c.tc : Thread Cert.AdamWPleIdeal.nD Cert.AdamWPleIdeal.τ).loc Cert.AdamWPleIdeal.main_arg2) = m ((c.tc : Thread Cert.AdamWPleIdeal.nD Cert.AdamWPleIdeal.τ).loc Cert.AdamWPleIdeal.main_arg2)
          ∧ r.2.mem ((c.tc : Thread Cert.AdamWPleIdeal.nD Cert.AdamWPleIdeal.τ).loc Cert.AdamWPleIdeal.main_arg3) = m ((c.tc : Thread Cert.AdamWPleIdeal.nD Cert.AdamWPleIdeal.τ).loc Cert.AdamWPleIdeal.main_arg3))
      ∧ θ_run (Cert.AdamWPleRefIdeal.defs (F := Ideal)) (onTc (τ := Cert.AdamWPleRefIdeal.τ) (Cert.AdamWPleRefIdeal.main (F := Ideal))) ⟨m', fun _ => 0, g'⟩ (fun r => ∀ c : Dev Cert.AdamWPleRefIdeal.nD,
          r.2.mem ((c.tc : Thread Cert.AdamWPleRefIdeal.nD Cert.AdamWPleRefIdeal.τ).loc Cert.AdamWPleRefIdeal.main_v23) = v0 c
          ∧ r.2.mem ((c.tc : Thread Cert.AdamWPleRefIdeal.nD Cert.AdamWPleRefIdeal.τ).loc Cert.AdamWPleRefIdeal.main_v4) = v1 c
          ∧ r.2.mem ((c.tc : Thread Cert.AdamWPleRefIdeal.nD Cert.AdamWPleRefIdeal.τ).loc Cert.AdamWPleRefIdeal.main_v10) = v2 c
          ∧ r.2.mem ((c.tc : Thread Cert.AdamWPleRefIdeal.nD Cert.AdamWPleRefIdeal.τ).loc Cert.AdamWPleRefIdeal.main_arg0) = m' ((c.tc : Thread Cert.AdamWPleRefIdeal.nD Cert.AdamWPleRefIdeal.τ).loc Cert.AdamWPleRefIdeal.main_arg0)
          ∧ r.2.mem ((c.tc : Thread Cert.AdamWPleRefIdeal.nD Cert.AdamWPleRefIdeal.τ).loc Cert.AdamWPleRefIdeal.main_arg1) = m' ((c.tc : Thread Cert.AdamWPleRefIdeal.nD Cert.AdamWPleRefIdeal.τ).loc Cert.AdamWPleRefIdeal.main_arg1)
          ∧ r.2.mem ((c.tc : Thread Cert.AdamWPleRefIdeal.nD Cert.AdamWPleRefIdeal.τ).loc Cert.AdamWPleRefIdeal.main_arg2) = m' ((c.tc : Thread Cert.AdamWPleRefIdeal.nD Cert.AdamWPleRefIdeal.τ).loc Cert.AdamWPleRefIdeal.main_arg2)
          ∧ r.2.mem ((c.tc : Thread Cert.AdamWPleRefIdeal.nD Cert.AdamWPleRefIdeal.τ).loc Cert.AdamWPleRefIdeal.main_arg3) = m' ((c.tc : Thread Cert.AdamWPleRefIdeal.nD Cert.AdamWPleRefIdeal.τ).loc Cert.AdamWPleRefIdeal.main_arg3))

def preserves_NnIn_NnInIdeal : Prop :=
  True

def algebraic_NnInIdeal_NnInRefIdeal [hNnInIdeal : Cert.NnInIdeal.Facts] [hNnInRefIdeal : Cert.NnInRefIdeal.Facts] : Prop :=
  ∀ (m : (ℓ : Loc Cert.NnInIdeal.nD Cert.NnInIdeal.τ Cert.NnInIdeal.sig) → Buf (Elt Ideal) ℓ) (g : Dev Cert.NnInIdeal.nD → PrngReg)
    (m' : (ℓ : Loc Cert.NnInRefIdeal.nD Cert.NnInRefIdeal.τ Cert.NnInRefIdeal.sig) → Buf (Elt Ideal) ℓ) (g' : Dev Cert.NnInRefIdeal.nD → PrngReg), Pre_NnInIdeal m →
    (∀ c : Dev Cert.NnInIdeal.nD,
      m' ((c.tc : Thread Cert.NnInRefIdeal.nD Cert.NnInRefIdeal.τ).loc Cert.NnInRefIdeal.main_arg0) = m ((c.tc : Thread Cert.NnInIdeal.nD Cert.NnInIdeal.τ).loc Cert.NnInIdeal.main_arg0)
      ∧ m' ((c.tc : Thread Cert.NnInRefIdeal.nD Cert.NnInRefIdeal.τ).loc Cert.NnInRefIdeal.main_arg1) = m ((c.tc : Thread Cert.NnInIdeal.nD Cert.NnInIdeal.τ).loc Cert.NnInIdeal.main_arg1)) →
    ∃ (v0 : (c : Dev Cert.NnInIdeal.nD) → Buf (Elt Ideal) ((c.tc : Thread Cert.NnInIdeal.nD Cert.NnInIdeal.τ).loc Cert.NnInIdeal.main_v0)),
      θ_run (Cert.NnInIdeal.defs (F := Ideal)) (onTc (τ := Cert.NnInIdeal.τ) (Cert.NnInIdeal.main (F := Ideal))) ⟨m, fun _ => 0, g⟩ (fun r => ∀ c : Dev Cert.NnInIdeal.nD,
          r.2.mem ((c.tc : Thread Cert.NnInIdeal.nD Cert.NnInIdeal.τ).loc Cert.NnInIdeal.main_v0) = v0 c
          ∧ r.2.mem ((c.tc : Thread Cert.NnInIdeal.nD Cert.NnInIdeal.τ).loc Cert.NnInIdeal.main_arg0) = m ((c.tc : Thread Cert.NnInIdeal.nD Cert.NnInIdeal.τ).loc Cert.NnInIdeal.main_arg0)
          ∧ r.2.mem ((c.tc : Thread Cert.NnInIdeal.nD Cert.NnInIdeal.τ).loc Cert.NnInIdeal.main_arg1) = m ((c.tc : Thread Cert.NnInIdeal.nD Cert.NnInIdeal.τ).loc Cert.NnInIdeal.main_arg1))
      ∧ θ_run (Cert.NnInRefIdeal.defs (F := Ideal)) (onTc (τ := Cert.NnInRefIdeal.τ) (Cert.NnInRefIdeal.main (F := Ideal))) ⟨m', fun _ => 0, g'⟩ (fun r => ∀ c : Dev Cert.NnInRefIdeal.nD,
          r.2.mem ((c.tc : Thread Cert.NnInRefIdeal.nD Cert.NnInRefIdeal.τ).loc Cert.NnInRefIdeal.main_v4) = v0 c
          ∧ r.2.mem ((c.tc : Thread Cert.NnInRefIdeal.nD Cert.NnInRefIdeal.τ).loc Cert.NnInRefIdeal.main_arg0) = m' ((c.tc : Thread Cert.NnInRefIdeal.nD Cert.NnInRefIdeal.τ).loc Cert.NnInRefIdeal.main_arg0)
          ∧ r.2.mem ((c.tc : Thread Cert.NnInRefIdeal.nD Cert.NnInRefIdeal.τ).loc Cert.NnInRefIdeal.main_arg1) = m' ((c.tc : Thread Cert.NnInRefIdeal.nD Cert.NnInRefIdeal.τ).loc Cert.NnInRefIdeal.main_arg1))

def preserves_NtIn_NtInIdeal : Prop :=
  True

def algebraic_NtInIdeal_NtInRefIdeal [hNtInIdeal : Cert.NtInIdeal.Facts] [hNtInRefIdeal : Cert.NtInRefIdeal.Facts] : Prop :=
  ∀ (m : (ℓ : Loc Cert.NtInIdeal.nD Cert.NtInIdeal.τ Cert.NtInIdeal.sig) → Buf (Elt Ideal) ℓ) (g : Dev Cert.NtInIdeal.nD → PrngReg)
    (m' : (ℓ : Loc Cert.NtInRefIdeal.nD Cert.NtInRefIdeal.τ Cert.NtInRefIdeal.sig) → Buf (Elt Ideal) ℓ) (g' : Dev Cert.NtInRefIdeal.nD → PrngReg), Pre_NtInIdeal m →
    (∀ c : Dev Cert.NtInIdeal.nD,
      m' ((c.tc : Thread Cert.NtInRefIdeal.nD Cert.NtInRefIdeal.τ).loc Cert.NtInRefIdeal.main_arg0) = m ((c.tc : Thread Cert.NtInIdeal.nD Cert.NtInIdeal.τ).loc Cert.NtInIdeal.main_arg0)
      ∧ m' ((c.tc : Thread Cert.NtInRefIdeal.nD Cert.NtInRefIdeal.τ).loc Cert.NtInRefIdeal.main_arg1) = m ((c.tc : Thread Cert.NtInIdeal.nD Cert.NtInIdeal.τ).loc Cert.NtInIdeal.main_arg1)) →
    ∃ (v0 : (c : Dev Cert.NtInIdeal.nD) → Buf (Elt Ideal) ((c.tc : Thread Cert.NtInIdeal.nD Cert.NtInIdeal.τ).loc Cert.NtInIdeal.main_v0)),
      θ_run (Cert.NtInIdeal.defs (F := Ideal)) (onTc (τ := Cert.NtInIdeal.τ) (Cert.NtInIdeal.main (F := Ideal))) ⟨m, fun _ => 0, g⟩ (fun r => ∀ c : Dev Cert.NtInIdeal.nD,
          r.2.mem ((c.tc : Thread Cert.NtInIdeal.nD Cert.NtInIdeal.τ).loc Cert.NtInIdeal.main_v0) = v0 c
          ∧ r.2.mem ((c.tc : Thread Cert.NtInIdeal.nD Cert.NtInIdeal.τ).loc Cert.NtInIdeal.main_arg0) = m ((c.tc : Thread Cert.NtInIdeal.nD Cert.NtInIdeal.τ).loc Cert.NtInIdeal.main_arg0)
          ∧ r.2.mem ((c.tc : Thread Cert.NtInIdeal.nD Cert.NtInIdeal.τ).loc Cert.NtInIdeal.main_arg1) = m ((c.tc : Thread Cert.NtInIdeal.nD Cert.NtInIdeal.τ).loc Cert.NtInIdeal.main_arg1))
      ∧ θ_run (Cert.NtInRefIdeal.defs (F := Ideal)) (onTc (τ := Cert.NtInRefIdeal.τ) (Cert.NtInRefIdeal.main (F := Ideal))) ⟨m', fun _ => 0, g'⟩ (fun r => ∀ c : Dev Cert.NtInRefIdeal.nD,
          r.2.mem ((c.tc : Thread Cert.NtInRefIdeal.nD Cert.NtInRefIdeal.τ).loc Cert.NtInRefIdeal.main_v5) = v0 c
          ∧ r.2.mem ((c.tc : Thread Cert.NtInRefIdeal.nD Cert.NtInRefIdeal.τ).loc Cert.NtInRefIdeal.main_arg0) = m' ((c.tc : Thread Cert.NtInRefIdeal.nD Cert.NtInRefIdeal.τ).loc Cert.NtInRefIdeal.main_arg0)
          ∧ r.2.mem ((c.tc : Thread Cert.NtInRefIdeal.nD Cert.NtInRefIdeal.τ).loc Cert.NtInRefIdeal.main_arg1) = m' ((c.tc : Thread Cert.NtInRefIdeal.nD Cert.NtInRefIdeal.τ).loc Cert.NtInRefIdeal.main_arg1))

def preserves_TnIn_TnInIdeal : Prop :=
  True

def algebraic_TnInIdeal_TnInRefIdeal [hTnInIdeal : Cert.TnInIdeal.Facts] [hTnInRefIdeal : Cert.TnInRefIdeal.Facts] : Prop :=
  ∀ (m : (ℓ : Loc Cert.TnInIdeal.nD Cert.TnInIdeal.τ Cert.TnInIdeal.sig) → Buf (Elt Ideal) ℓ) (g : Dev Cert.TnInIdeal.nD → PrngReg)
    (m' : (ℓ : Loc Cert.TnInRefIdeal.nD Cert.TnInRefIdeal.τ Cert.TnInRefIdeal.sig) → Buf (Elt Ideal) ℓ) (g' : Dev Cert.TnInRefIdeal.nD → PrngReg), Pre_TnInIdeal m →
    (∀ c : Dev Cert.TnInIdeal.nD,
      m' ((c.tc : Thread Cert.TnInRefIdeal.nD Cert.TnInRefIdeal.τ).loc Cert.TnInRefIdeal.main_arg0) = m ((c.tc : Thread Cert.TnInIdeal.nD Cert.TnInIdeal.τ).loc Cert.TnInIdeal.main_arg0)
      ∧ m' ((c.tc : Thread Cert.TnInRefIdeal.nD Cert.TnInRefIdeal.τ).loc Cert.TnInRefIdeal.main_arg1) = m ((c.tc : Thread Cert.TnInIdeal.nD Cert.TnInIdeal.τ).loc Cert.TnInIdeal.main_arg1)) →
    ∃ (v0 : (c : Dev Cert.TnInIdeal.nD) → Buf (Elt Ideal) ((c.tc : Thread Cert.TnInIdeal.nD Cert.TnInIdeal.τ).loc Cert.TnInIdeal.main_v0)),
      θ_run (Cert.TnInIdeal.defs (F := Ideal)) (onTc (τ := Cert.TnInIdeal.τ) (Cert.TnInIdeal.main (F := Ideal))) ⟨m, fun _ => 0, g⟩ (fun r => ∀ c : Dev Cert.TnInIdeal.nD,
          r.2.mem ((c.tc : Thread Cert.TnInIdeal.nD Cert.TnInIdeal.τ).loc Cert.TnInIdeal.main_v0) = v0 c
          ∧ r.2.mem ((c.tc : Thread Cert.TnInIdeal.nD Cert.TnInIdeal.τ).loc Cert.TnInIdeal.main_arg0) = m ((c.tc : Thread Cert.TnInIdeal.nD Cert.TnInIdeal.τ).loc Cert.TnInIdeal.main_arg0)
          ∧ r.2.mem ((c.tc : Thread Cert.TnInIdeal.nD Cert.TnInIdeal.τ).loc Cert.TnInIdeal.main_arg1) = m ((c.tc : Thread Cert.TnInIdeal.nD Cert.TnInIdeal.τ).loc Cert.TnInIdeal.main_arg1))
      ∧ θ_run (Cert.TnInRefIdeal.defs (F := Ideal)) (onTc (τ := Cert.TnInRefIdeal.τ) (Cert.TnInRefIdeal.main (F := Ideal))) ⟨m', fun _ => 0, g'⟩ (fun r => ∀ c : Dev Cert.TnInRefIdeal.nD,
          r.2.mem ((c.tc : Thread Cert.TnInRefIdeal.nD Cert.TnInRefIdeal.τ).loc Cert.TnInRefIdeal.main_v5) = v0 c
          ∧ r.2.mem ((c.tc : Thread Cert.TnInRefIdeal.nD Cert.TnInRefIdeal.τ).loc Cert.TnInRefIdeal.main_arg0) = m' ((c.tc : Thread Cert.TnInRefIdeal.nD Cert.TnInRefIdeal.τ).loc Cert.TnInRefIdeal.main_arg0)
          ∧ r.2.mem ((c.tc : Thread Cert.TnInRefIdeal.nD Cert.TnInRefIdeal.τ).loc Cert.TnInRefIdeal.main_arg1) = m' ((c.tc : Thread Cert.TnInRefIdeal.nD Cert.TnInRefIdeal.τ).loc Cert.TnInRefIdeal.main_arg1))

def preserves_NnSquare_NnSquareIdeal : Prop :=
  True

def algebraic_NnSquareIdeal_NnSquareRefIdeal [hNnSquareIdeal : Cert.NnSquareIdeal.Facts] [hNnSquareRefIdeal : Cert.NnSquareRefIdeal.Facts] : Prop :=
  ∀ (m : (ℓ : Loc Cert.NnSquareIdeal.nD Cert.NnSquareIdeal.τ Cert.NnSquareIdeal.sig) → Buf (Elt Ideal) ℓ) (g : Dev Cert.NnSquareIdeal.nD → PrngReg)
    (m' : (ℓ : Loc Cert.NnSquareRefIdeal.nD Cert.NnSquareRefIdeal.τ Cert.NnSquareRefIdeal.sig) → Buf (Elt Ideal) ℓ) (g' : Dev Cert.NnSquareRefIdeal.nD → PrngReg), Pre_NnSquareIdeal m →
    (∀ c : Dev Cert.NnSquareIdeal.nD,
      m' ((c.tc : Thread Cert.NnSquareRefIdeal.nD Cert.NnSquareRefIdeal.τ).loc Cert.NnSquareRefIdeal.main_arg0) = m ((c.tc : Thread Cert.NnSquareIdeal.nD Cert.NnSquareIdeal.τ).loc Cert.NnSquareIdeal.main_arg0)
      ∧ m' ((c.tc : Thread Cert.NnSquareRefIdeal.nD Cert.NnSquareRefIdeal.τ).loc Cert.NnSquareRefIdeal.main_arg1) = m ((c.tc : Thread Cert.NnSquareIdeal.nD Cert.NnSquareIdeal.τ).loc Cert.NnSquareIdeal.main_arg1)) →
    ∃ (v0 : (c : Dev Cert.NnSquareIdeal.nD) → Buf (Elt Ideal) ((c.tc : Thread Cert.NnSquareIdeal.nD Cert.NnSquareIdeal.τ).loc Cert.NnSquareIdeal.main_v0)),
      θ_run (Cert.NnSquareIdeal.defs (F := Ideal)) (onTc (τ := Cert.NnSquareIdeal.τ) (Cert.NnSquareIdeal.main (F := Ideal))) ⟨m, fun _ => 0, g⟩ (fun r => ∀ c : Dev Cert.NnSquareIdeal.nD,
          r.2.mem ((c.tc : Thread Cert.NnSquareIdeal.nD Cert.NnSquareIdeal.τ).loc Cert.NnSquareIdeal.main_v0) = v0 c
          ∧ r.2.mem ((c.tc : Thread Cert.NnSquareIdeal.nD Cert.NnSquareIdeal.τ).loc Cert.NnSquareIdeal.main_arg0) = m ((c.tc : Thread Cert.NnSquareIdeal.nD Cert.NnSquareIdeal.τ).loc Cert.NnSquareIdeal.main_arg0)
          ∧ r.2.mem ((c.tc : Thread Cert.NnSquareIdeal.nD Cert.NnSquareIdeal.τ).loc Cert.NnSquareIdeal.main_arg1) = m ((c.tc : Thread Cert.NnSquareIdeal.nD Cert.NnSquareIdeal.τ).loc Cert.NnSquareIdeal.main_arg1))
      ∧ θ_run (Cert.NnSquareRefIdeal.defs (F := Ideal)) (onTc (τ := Cert.NnSquareRefIdeal.τ) (Cert.NnSquareRefIdeal.main (F := Ideal))) ⟨m', fun _ => 0, g'⟩ (fun r => ∀ c : Dev Cert.NnSquareRefIdeal.nD,
          r.2.mem ((c.tc : Thread Cert.NnSquareRefIdeal.nD Cert.NnSquareRefIdeal.τ).loc Cert.NnSquareRefIdeal.main_v4) = v0 c
          ∧ r.2.mem ((c.tc : Thread Cert.NnSquareRefIdeal.nD Cert.NnSquareRefIdeal.τ).loc Cert.NnSquareRefIdeal.main_arg0) = m' ((c.tc : Thread Cert.NnSquareRefIdeal.nD Cert.NnSquareRefIdeal.τ).loc Cert.NnSquareRefIdeal.main_arg0)
          ∧ r.2.mem ((c.tc : Thread Cert.NnSquareRefIdeal.nD Cert.NnSquareRefIdeal.τ).loc Cert.NnSquareRefIdeal.main_arg1) = m' ((c.tc : Thread Cert.NnSquareRefIdeal.nD Cert.NnSquareRefIdeal.τ).loc Cert.NnSquareRefIdeal.main_arg1))

def preserves_NtSquare_NtSquareIdeal : Prop :=
  True

def algebraic_NtSquareIdeal_NtSquareRefIdeal [hNtSquareIdeal : Cert.NtSquareIdeal.Facts] [hNtSquareRefIdeal : Cert.NtSquareRefIdeal.Facts] : Prop :=
  ∀ (m : (ℓ : Loc Cert.NtSquareIdeal.nD Cert.NtSquareIdeal.τ Cert.NtSquareIdeal.sig) → Buf (Elt Ideal) ℓ) (g : Dev Cert.NtSquareIdeal.nD → PrngReg)
    (m' : (ℓ : Loc Cert.NtSquareRefIdeal.nD Cert.NtSquareRefIdeal.τ Cert.NtSquareRefIdeal.sig) → Buf (Elt Ideal) ℓ) (g' : Dev Cert.NtSquareRefIdeal.nD → PrngReg), Pre_NtSquareIdeal m →
    (∀ c : Dev Cert.NtSquareIdeal.nD,
      m' ((c.tc : Thread Cert.NtSquareRefIdeal.nD Cert.NtSquareRefIdeal.τ).loc Cert.NtSquareRefIdeal.main_arg0) = m ((c.tc : Thread Cert.NtSquareIdeal.nD Cert.NtSquareIdeal.τ).loc Cert.NtSquareIdeal.main_arg0)
      ∧ m' ((c.tc : Thread Cert.NtSquareRefIdeal.nD Cert.NtSquareRefIdeal.τ).loc Cert.NtSquareRefIdeal.main_arg1) = m ((c.tc : Thread Cert.NtSquareIdeal.nD Cert.NtSquareIdeal.τ).loc Cert.NtSquareIdeal.main_arg1)) →
    ∃ (v0 : (c : Dev Cert.NtSquareIdeal.nD) → Buf (Elt Ideal) ((c.tc : Thread Cert.NtSquareIdeal.nD Cert.NtSquareIdeal.τ).loc Cert.NtSquareIdeal.main_v0)),
      θ_run (Cert.NtSquareIdeal.defs (F := Ideal)) (onTc (τ := Cert.NtSquareIdeal.τ) (Cert.NtSquareIdeal.main (F := Ideal))) ⟨m, fun _ => 0, g⟩ (fun r => ∀ c : Dev Cert.NtSquareIdeal.nD,
          r.2.mem ((c.tc : Thread Cert.NtSquareIdeal.nD Cert.NtSquareIdeal.τ).loc Cert.NtSquareIdeal.main_v0) = v0 c
          ∧ r.2.mem ((c.tc : Thread Cert.NtSquareIdeal.nD Cert.NtSquareIdeal.τ).loc Cert.NtSquareIdeal.main_arg0) = m ((c.tc : Thread Cert.NtSquareIdeal.nD Cert.NtSquareIdeal.τ).loc Cert.NtSquareIdeal.main_arg0)
          ∧ r.2.mem ((c.tc : Thread Cert.NtSquareIdeal.nD Cert.NtSquareIdeal.τ).loc Cert.NtSquareIdeal.main_arg1) = m ((c.tc : Thread Cert.NtSquareIdeal.nD Cert.NtSquareIdeal.τ).loc Cert.NtSquareIdeal.main_arg1))
      ∧ θ_run (Cert.NtSquareRefIdeal.defs (F := Ideal)) (onTc (τ := Cert.NtSquareRefIdeal.τ) (Cert.NtSquareRefIdeal.main (F := Ideal))) ⟨m', fun _ => 0, g'⟩ (fun r => ∀ c : Dev Cert.NtSquareRefIdeal.nD,
          r.2.mem ((c.tc : Thread Cert.NtSquareRefIdeal.nD Cert.NtSquareRefIdeal.τ).loc Cert.NtSquareRefIdeal.main_v5) = v0 c
          ∧ r.2.mem ((c.tc : Thread Cert.NtSquareRefIdeal.nD Cert.NtSquareRefIdeal.τ).loc Cert.NtSquareRefIdeal.main_arg0) = m' ((c.tc : Thread Cert.NtSquareRefIdeal.nD Cert.NtSquareRefIdeal.τ).loc Cert.NtSquareRefIdeal.main_arg0)
          ∧ r.2.mem ((c.tc : Thread Cert.NtSquareRefIdeal.nD Cert.NtSquareRefIdeal.τ).loc Cert.NtSquareRefIdeal.main_arg1) = m' ((c.tc : Thread Cert.NtSquareRefIdeal.nD Cert.NtSquareRefIdeal.τ).loc Cert.NtSquareRefIdeal.main_arg1))

def preserves_TnSquare_TnSquareIdeal : Prop :=
  True

def algebraic_TnSquareIdeal_TnSquareRefIdeal [hTnSquareIdeal : Cert.TnSquareIdeal.Facts] [hTnSquareRefIdeal : Cert.TnSquareRefIdeal.Facts] : Prop :=
  ∀ (m : (ℓ : Loc Cert.TnSquareIdeal.nD Cert.TnSquareIdeal.τ Cert.TnSquareIdeal.sig) → Buf (Elt Ideal) ℓ) (g : Dev Cert.TnSquareIdeal.nD → PrngReg)
    (m' : (ℓ : Loc Cert.TnSquareRefIdeal.nD Cert.TnSquareRefIdeal.τ Cert.TnSquareRefIdeal.sig) → Buf (Elt Ideal) ℓ) (g' : Dev Cert.TnSquareRefIdeal.nD → PrngReg), Pre_TnSquareIdeal m →
    (∀ c : Dev Cert.TnSquareIdeal.nD,
      m' ((c.tc : Thread Cert.TnSquareRefIdeal.nD Cert.TnSquareRefIdeal.τ).loc Cert.TnSquareRefIdeal.main_arg0) = m ((c.tc : Thread Cert.TnSquareIdeal.nD Cert.TnSquareIdeal.τ).loc Cert.TnSquareIdeal.main_arg0)
      ∧ m' ((c.tc : Thread Cert.TnSquareRefIdeal.nD Cert.TnSquareRefIdeal.τ).loc Cert.TnSquareRefIdeal.main_arg1) = m ((c.tc : Thread Cert.TnSquareIdeal.nD Cert.TnSquareIdeal.τ).loc Cert.TnSquareIdeal.main_arg1)) →
    ∃ (v0 : (c : Dev Cert.TnSquareIdeal.nD) → Buf (Elt Ideal) ((c.tc : Thread Cert.TnSquareIdeal.nD Cert.TnSquareIdeal.τ).loc Cert.TnSquareIdeal.main_v0)),
      θ_run (Cert.TnSquareIdeal.defs (F := Ideal)) (onTc (τ := Cert.TnSquareIdeal.τ) (Cert.TnSquareIdeal.main (F := Ideal))) ⟨m, fun _ => 0, g⟩ (fun r => ∀ c : Dev Cert.TnSquareIdeal.nD,
          r.2.mem ((c.tc : Thread Cert.TnSquareIdeal.nD Cert.TnSquareIdeal.τ).loc Cert.TnSquareIdeal.main_v0) = v0 c
          ∧ r.2.mem ((c.tc : Thread Cert.TnSquareIdeal.nD Cert.TnSquareIdeal.τ).loc Cert.TnSquareIdeal.main_arg0) = m ((c.tc : Thread Cert.TnSquareIdeal.nD Cert.TnSquareIdeal.τ).loc Cert.TnSquareIdeal.main_arg0)
          ∧ r.2.mem ((c.tc : Thread Cert.TnSquareIdeal.nD Cert.TnSquareIdeal.τ).loc Cert.TnSquareIdeal.main_arg1) = m ((c.tc : Thread Cert.TnSquareIdeal.nD Cert.TnSquareIdeal.τ).loc Cert.TnSquareIdeal.main_arg1))
      ∧ θ_run (Cert.TnSquareRefIdeal.defs (F := Ideal)) (onTc (τ := Cert.TnSquareRefIdeal.τ) (Cert.TnSquareRefIdeal.main (F := Ideal))) ⟨m', fun _ => 0, g'⟩ (fun r => ∀ c : Dev Cert.TnSquareRefIdeal.nD,
          r.2.mem ((c.tc : Thread Cert.TnSquareRefIdeal.nD Cert.TnSquareRefIdeal.τ).loc Cert.TnSquareRefIdeal.main_v5) = v0 c
          ∧ r.2.mem ((c.tc : Thread Cert.TnSquareRefIdeal.nD Cert.TnSquareRefIdeal.τ).loc Cert.TnSquareRefIdeal.main_arg0) = m' ((c.tc : Thread Cert.TnSquareRefIdeal.nD Cert.TnSquareRefIdeal.τ).loc Cert.TnSquareRefIdeal.main_arg0)
          ∧ r.2.mem ((c.tc : Thread Cert.TnSquareRefIdeal.nD Cert.TnSquareRefIdeal.τ).loc Cert.TnSquareRefIdeal.main_arg1) = m' ((c.tc : Thread Cert.TnSquareRefIdeal.nD Cert.TnSquareRefIdeal.τ).loc Cert.TnSquareRefIdeal.main_arg1))

def preserves_NnQkv_NnQkvIdeal : Prop :=
  True

def algebraic_NnQkvIdeal_NnQkvRefIdeal [hNnQkvIdeal : Cert.NnQkvIdeal.Facts] [hNnQkvRefIdeal : Cert.NnQkvRefIdeal.Facts] : Prop :=
  ∀ (m : (ℓ : Loc Cert.NnQkvIdeal.nD Cert.NnQkvIdeal.τ Cert.NnQkvIdeal.sig) → Buf (Elt Ideal) ℓ) (g : Dev Cert.NnQkvIdeal.nD → PrngReg)
    (m' : (ℓ : Loc Cert.NnQkvRefIdeal.nD Cert.NnQkvRefIdeal.τ Cert.NnQkvRefIdeal.sig) → Buf (Elt Ideal) ℓ) (g' : Dev Cert.NnQkvRefIdeal.nD → PrngReg), Pre_NnQkvIdeal m →
    (∀ c : Dev Cert.NnQkvIdeal.nD,
      m' ((c.tc : Thread Cert.NnQkvRefIdeal.nD Cert.NnQkvRefIdeal.τ).loc Cert.NnQkvRefIdeal.main_arg0) = m ((c.tc : Thread Cert.NnQkvIdeal.nD Cert.NnQkvIdeal.τ).loc Cert.NnQkvIdeal.main_arg0)
      ∧ m' ((c.tc : Thread Cert.NnQkvRefIdeal.nD Cert.NnQkvRefIdeal.τ).loc Cert.NnQkvRefIdeal.main_arg1) = m ((c.tc : Thread Cert.NnQkvIdeal.nD Cert.NnQkvIdeal.τ).loc Cert.NnQkvIdeal.main_arg1)) →
    ∃ (v0 : (c : Dev Cert.NnQkvIdeal.nD) → Buf (Elt Ideal) ((c.tc : Thread Cert.NnQkvIdeal.nD Cert.NnQkvIdeal.τ).loc Cert.NnQkvIdeal.main_v0)),
      θ_run (Cert.NnQkvIdeal.defs (F := Ideal)) (onTc (τ := Cert.NnQkvIdeal.τ) (Cert.NnQkvIdeal.main (F := Ideal))) ⟨m, fun _ => 0, g⟩ (fun r => ∀ c : Dev Cert.NnQkvIdeal.nD,
          r.2.mem ((c.tc : Thread Cert.NnQkvIdeal.nD Cert.NnQkvIdeal.τ).loc Cert.NnQkvIdeal.main_v0) = v0 c
          ∧ r.2.mem ((c.tc : Thread Cert.NnQkvIdeal.nD Cert.NnQkvIdeal.τ).loc Cert.NnQkvIdeal.main_arg0) = m ((c.tc : Thread Cert.NnQkvIdeal.nD Cert.NnQkvIdeal.τ).loc Cert.NnQkvIdeal.main_arg0)
          ∧ r.2.mem ((c.tc : Thread Cert.NnQkvIdeal.nD Cert.NnQkvIdeal.τ).loc Cert.NnQkvIdeal.main_arg1) = m ((c.tc : Thread Cert.NnQkvIdeal.nD Cert.NnQkvIdeal.τ).loc Cert.NnQkvIdeal.main_arg1))
      ∧ θ_run (Cert.NnQkvRefIdeal.defs (F := Ideal)) (onTc (τ := Cert.NnQkvRefIdeal.τ) (Cert.NnQkvRefIdeal.main (F := Ideal))) ⟨m', fun _ => 0, g'⟩ (fun r => ∀ c : Dev Cert.NnQkvRefIdeal.nD,
          r.2.mem ((c.tc : Thread Cert.NnQkvRefIdeal.nD Cert.NnQkvRefIdeal.τ).loc Cert.NnQkvRefIdeal.main_v5) = v0 c
          ∧ r.2.mem ((c.tc : Thread Cert.NnQkvRefIdeal.nD Cert.NnQkvRefIdeal.τ).loc Cert.NnQkvRefIdeal.main_arg0) = m' ((c.tc : Thread Cert.NnQkvRefIdeal.nD Cert.NnQkvRefIdeal.τ).loc Cert.NnQkvRefIdeal.main_arg0)
          ∧ r.2.mem ((c.tc : Thread Cert.NnQkvRefIdeal.nD Cert.NnQkvRefIdeal.τ).loc Cert.NnQkvRefIdeal.main_arg1) = m' ((c.tc : Thread Cert.NnQkvRefIdeal.nD Cert.NnQkvRefIdeal.τ).loc Cert.NnQkvRefIdeal.main_arg1))

def preserves_NtQkv_NtQkvIdeal : Prop :=
  True

def algebraic_NtQkvIdeal_NtQkvRefIdeal [hNtQkvIdeal : Cert.NtQkvIdeal.Facts] [hNtQkvRefIdeal : Cert.NtQkvRefIdeal.Facts] : Prop :=
  ∀ (m : (ℓ : Loc Cert.NtQkvIdeal.nD Cert.NtQkvIdeal.τ Cert.NtQkvIdeal.sig) → Buf (Elt Ideal) ℓ) (g : Dev Cert.NtQkvIdeal.nD → PrngReg)
    (m' : (ℓ : Loc Cert.NtQkvRefIdeal.nD Cert.NtQkvRefIdeal.τ Cert.NtQkvRefIdeal.sig) → Buf (Elt Ideal) ℓ) (g' : Dev Cert.NtQkvRefIdeal.nD → PrngReg), Pre_NtQkvIdeal m →
    (∀ c : Dev Cert.NtQkvIdeal.nD,
      m' ((c.tc : Thread Cert.NtQkvRefIdeal.nD Cert.NtQkvRefIdeal.τ).loc Cert.NtQkvRefIdeal.main_arg0) = m ((c.tc : Thread Cert.NtQkvIdeal.nD Cert.NtQkvIdeal.τ).loc Cert.NtQkvIdeal.main_arg0)
      ∧ m' ((c.tc : Thread Cert.NtQkvRefIdeal.nD Cert.NtQkvRefIdeal.τ).loc Cert.NtQkvRefIdeal.main_arg1) = m ((c.tc : Thread Cert.NtQkvIdeal.nD Cert.NtQkvIdeal.τ).loc Cert.NtQkvIdeal.main_arg1)) →
    ∃ (v0 : (c : Dev Cert.NtQkvIdeal.nD) → Buf (Elt Ideal) ((c.tc : Thread Cert.NtQkvIdeal.nD Cert.NtQkvIdeal.τ).loc Cert.NtQkvIdeal.main_v0)),
      θ_run (Cert.NtQkvIdeal.defs (F := Ideal)) (onTc (τ := Cert.NtQkvIdeal.τ) (Cert.NtQkvIdeal.main (F := Ideal))) ⟨m, fun _ => 0, g⟩ (fun r => ∀ c : Dev Cert.NtQkvIdeal.nD,
          r.2.mem ((c.tc : Thread Cert.NtQkvIdeal.nD Cert.NtQkvIdeal.τ).loc Cert.NtQkvIdeal.main_v0) = v0 c
          ∧ r.2.mem ((c.tc : Thread Cert.NtQkvIdeal.nD Cert.NtQkvIdeal.τ).loc Cert.NtQkvIdeal.main_arg0) = m ((c.tc : Thread Cert.NtQkvIdeal.nD Cert.NtQkvIdeal.τ).loc Cert.NtQkvIdeal.main_arg0)
          ∧ r.2.mem ((c.tc : Thread Cert.NtQkvIdeal.nD Cert.NtQkvIdeal.τ).loc Cert.NtQkvIdeal.main_arg1) = m ((c.tc : Thread Cert.NtQkvIdeal.nD Cert.NtQkvIdeal.τ).loc Cert.NtQkvIdeal.main_arg1))
      ∧ θ_run (Cert.NtQkvRefIdeal.defs (F := Ideal)) (onTc (τ := Cert.NtQkvRefIdeal.τ) (Cert.NtQkvRefIdeal.main (F := Ideal))) ⟨m', fun _ => 0, g'⟩ (fun r => ∀ c : Dev Cert.NtQkvRefIdeal.nD,
          r.2.mem ((c.tc : Thread Cert.NtQkvRefIdeal.nD Cert.NtQkvRefIdeal.τ).loc Cert.NtQkvRefIdeal.main_v5) = v0 c
          ∧ r.2.mem ((c.tc : Thread Cert.NtQkvRefIdeal.nD Cert.NtQkvRefIdeal.τ).loc Cert.NtQkvRefIdeal.main_arg0) = m' ((c.tc : Thread Cert.NtQkvRefIdeal.nD Cert.NtQkvRefIdeal.τ).loc Cert.NtQkvRefIdeal.main_arg0)
          ∧ r.2.mem ((c.tc : Thread Cert.NtQkvRefIdeal.nD Cert.NtQkvRefIdeal.τ).loc Cert.NtQkvRefIdeal.main_arg1) = m' ((c.tc : Thread Cert.NtQkvRefIdeal.nD Cert.NtQkvRefIdeal.τ).loc Cert.NtQkvRefIdeal.main_arg1))

def preserves_TnQkv_TnQkvIdeal : Prop :=
  True

def algebraic_TnQkvIdeal_TnQkvRefIdeal [hTnQkvIdeal : Cert.TnQkvIdeal.Facts] [hTnQkvRefIdeal : Cert.TnQkvRefIdeal.Facts] : Prop :=
  ∀ (m : (ℓ : Loc Cert.TnQkvIdeal.nD Cert.TnQkvIdeal.τ Cert.TnQkvIdeal.sig) → Buf (Elt Ideal) ℓ) (g : Dev Cert.TnQkvIdeal.nD → PrngReg)
    (m' : (ℓ : Loc Cert.TnQkvRefIdeal.nD Cert.TnQkvRefIdeal.τ Cert.TnQkvRefIdeal.sig) → Buf (Elt Ideal) ℓ) (g' : Dev Cert.TnQkvRefIdeal.nD → PrngReg), Pre_TnQkvIdeal m →
    (∀ c : Dev Cert.TnQkvIdeal.nD,
      m' ((c.tc : Thread Cert.TnQkvRefIdeal.nD Cert.TnQkvRefIdeal.τ).loc Cert.TnQkvRefIdeal.main_arg0) = m ((c.tc : Thread Cert.TnQkvIdeal.nD Cert.TnQkvIdeal.τ).loc Cert.TnQkvIdeal.main_arg0)
      ∧ m' ((c.tc : Thread Cert.TnQkvRefIdeal.nD Cert.TnQkvRefIdeal.τ).loc Cert.TnQkvRefIdeal.main_arg1) = m ((c.tc : Thread Cert.TnQkvIdeal.nD Cert.TnQkvIdeal.τ).loc Cert.TnQkvIdeal.main_arg1)) →
    ∃ (v0 : (c : Dev Cert.TnQkvIdeal.nD) → Buf (Elt Ideal) ((c.tc : Thread Cert.TnQkvIdeal.nD Cert.TnQkvIdeal.τ).loc Cert.TnQkvIdeal.main_v0)),
      θ_run (Cert.TnQkvIdeal.defs (F := Ideal)) (onTc (τ := Cert.TnQkvIdeal.τ) (Cert.TnQkvIdeal.main (F := Ideal))) ⟨m, fun _ => 0, g⟩ (fun r => ∀ c : Dev Cert.TnQkvIdeal.nD,
          r.2.mem ((c.tc : Thread Cert.TnQkvIdeal.nD Cert.TnQkvIdeal.τ).loc Cert.TnQkvIdeal.main_v0) = v0 c
          ∧ r.2.mem ((c.tc : Thread Cert.TnQkvIdeal.nD Cert.TnQkvIdeal.τ).loc Cert.TnQkvIdeal.main_arg0) = m ((c.tc : Thread Cert.TnQkvIdeal.nD Cert.TnQkvIdeal.τ).loc Cert.TnQkvIdeal.main_arg0)
          ∧ r.2.mem ((c.tc : Thread Cert.TnQkvIdeal.nD Cert.TnQkvIdeal.τ).loc Cert.TnQkvIdeal.main_arg1) = m ((c.tc : Thread Cert.TnQkvIdeal.nD Cert.TnQkvIdeal.τ).loc Cert.TnQkvIdeal.main_arg1))
      ∧ θ_run (Cert.TnQkvRefIdeal.defs (F := Ideal)) (onTc (τ := Cert.TnQkvRefIdeal.τ) (Cert.TnQkvRefIdeal.main (F := Ideal))) ⟨m', fun _ => 0, g'⟩ (fun r => ∀ c : Dev Cert.TnQkvRefIdeal.nD,
          r.2.mem ((c.tc : Thread Cert.TnQkvRefIdeal.nD Cert.TnQkvRefIdeal.τ).loc Cert.TnQkvRefIdeal.main_v5) = v0 c
          ∧ r.2.mem ((c.tc : Thread Cert.TnQkvRefIdeal.nD Cert.TnQkvRefIdeal.τ).loc Cert.TnQkvRefIdeal.main_arg0) = m' ((c.tc : Thread Cert.TnQkvRefIdeal.nD Cert.TnQkvRefIdeal.τ).loc Cert.TnQkvRefIdeal.main_arg0)
          ∧ r.2.mem ((c.tc : Thread Cert.TnQkvRefIdeal.nD Cert.TnQkvRefIdeal.τ).loc Cert.TnQkvRefIdeal.main_arg1) = m' ((c.tc : Thread Cert.TnQkvRefIdeal.nD Cert.TnQkvRefIdeal.τ).loc Cert.TnQkvRefIdeal.main_arg1))

def preserves_NnUp_NnUpIdeal : Prop :=
  True

def algebraic_NnUpIdeal_NnUpRefIdeal [hNnUpIdeal : Cert.NnUpIdeal.Facts] [hNnUpRefIdeal : Cert.NnUpRefIdeal.Facts] : Prop :=
  ∀ (m : (ℓ : Loc Cert.NnUpIdeal.nD Cert.NnUpIdeal.τ Cert.NnUpIdeal.sig) → Buf (Elt Ideal) ℓ) (g : Dev Cert.NnUpIdeal.nD → PrngReg)
    (m' : (ℓ : Loc Cert.NnUpRefIdeal.nD Cert.NnUpRefIdeal.τ Cert.NnUpRefIdeal.sig) → Buf (Elt Ideal) ℓ) (g' : Dev Cert.NnUpRefIdeal.nD → PrngReg), Pre_NnUpIdeal m →
    (∀ c : Dev Cert.NnUpIdeal.nD,
      m' ((c.tc : Thread Cert.NnUpRefIdeal.nD Cert.NnUpRefIdeal.τ).loc Cert.NnUpRefIdeal.main_arg0) = m ((c.tc : Thread Cert.NnUpIdeal.nD Cert.NnUpIdeal.τ).loc Cert.NnUpIdeal.main_arg0)
      ∧ m' ((c.tc : Thread Cert.NnUpRefIdeal.nD Cert.NnUpRefIdeal.τ).loc Cert.NnUpRefIdeal.main_arg1) = m ((c.tc : Thread Cert.NnUpIdeal.nD Cert.NnUpIdeal.τ).loc Cert.NnUpIdeal.main_arg1)) →
    ∃ (v0 : (c : Dev Cert.NnUpIdeal.nD) → Buf (Elt Ideal) ((c.tc : Thread Cert.NnUpIdeal.nD Cert.NnUpIdeal.τ).loc Cert.NnUpIdeal.main_v0)),
      θ_run (Cert.NnUpIdeal.defs (F := Ideal)) (onTc (τ := Cert.NnUpIdeal.τ) (Cert.NnUpIdeal.main (F := Ideal))) ⟨m, fun _ => 0, g⟩ (fun r => ∀ c : Dev Cert.NnUpIdeal.nD,
          r.2.mem ((c.tc : Thread Cert.NnUpIdeal.nD Cert.NnUpIdeal.τ).loc Cert.NnUpIdeal.main_v0) = v0 c
          ∧ r.2.mem ((c.tc : Thread Cert.NnUpIdeal.nD Cert.NnUpIdeal.τ).loc Cert.NnUpIdeal.main_arg0) = m ((c.tc : Thread Cert.NnUpIdeal.nD Cert.NnUpIdeal.τ).loc Cert.NnUpIdeal.main_arg0)
          ∧ r.2.mem ((c.tc : Thread Cert.NnUpIdeal.nD Cert.NnUpIdeal.τ).loc Cert.NnUpIdeal.main_arg1) = m ((c.tc : Thread Cert.NnUpIdeal.nD Cert.NnUpIdeal.τ).loc Cert.NnUpIdeal.main_arg1))
      ∧ θ_run (Cert.NnUpRefIdeal.defs (F := Ideal)) (onTc (τ := Cert.NnUpRefIdeal.τ) (Cert.NnUpRefIdeal.main (F := Ideal))) ⟨m', fun _ => 0, g'⟩ (fun r => ∀ c : Dev Cert.NnUpRefIdeal.nD,
          r.2.mem ((c.tc : Thread Cert.NnUpRefIdeal.nD Cert.NnUpRefIdeal.τ).loc Cert.NnUpRefIdeal.main_v4) = v0 c
          ∧ r.2.mem ((c.tc : Thread Cert.NnUpRefIdeal.nD Cert.NnUpRefIdeal.τ).loc Cert.NnUpRefIdeal.main_arg0) = m' ((c.tc : Thread Cert.NnUpRefIdeal.nD Cert.NnUpRefIdeal.τ).loc Cert.NnUpRefIdeal.main_arg0)
          ∧ r.2.mem ((c.tc : Thread Cert.NnUpRefIdeal.nD Cert.NnUpRefIdeal.τ).loc Cert.NnUpRefIdeal.main_arg1) = m' ((c.tc : Thread Cert.NnUpRefIdeal.nD Cert.NnUpRefIdeal.τ).loc Cert.NnUpRefIdeal.main_arg1))

def preserves_NtUp_NtUpIdeal : Prop :=
  True

def algebraic_NtUpIdeal_NtUpRefIdeal [hNtUpIdeal : Cert.NtUpIdeal.Facts] [hNtUpRefIdeal : Cert.NtUpRefIdeal.Facts] : Prop :=
  ∀ (m : (ℓ : Loc Cert.NtUpIdeal.nD Cert.NtUpIdeal.τ Cert.NtUpIdeal.sig) → Buf (Elt Ideal) ℓ) (g : Dev Cert.NtUpIdeal.nD → PrngReg)
    (m' : (ℓ : Loc Cert.NtUpRefIdeal.nD Cert.NtUpRefIdeal.τ Cert.NtUpRefIdeal.sig) → Buf (Elt Ideal) ℓ) (g' : Dev Cert.NtUpRefIdeal.nD → PrngReg), Pre_NtUpIdeal m →
    (∀ c : Dev Cert.NtUpIdeal.nD,
      m' ((c.tc : Thread Cert.NtUpRefIdeal.nD Cert.NtUpRefIdeal.τ).loc Cert.NtUpRefIdeal.main_arg0) = m ((c.tc : Thread Cert.NtUpIdeal.nD Cert.NtUpIdeal.τ).loc Cert.NtUpIdeal.main_arg0)
      ∧ m' ((c.tc : Thread Cert.NtUpRefIdeal.nD Cert.NtUpRefIdeal.τ).loc Cert.NtUpRefIdeal.main_arg1) = m ((c.tc : Thread Cert.NtUpIdeal.nD Cert.NtUpIdeal.τ).loc Cert.NtUpIdeal.main_arg1)) →
    ∃ (v0 : (c : Dev Cert.NtUpIdeal.nD) → Buf (Elt Ideal) ((c.tc : Thread Cert.NtUpIdeal.nD Cert.NtUpIdeal.τ).loc Cert.NtUpIdeal.main_v0)),
      θ_run (Cert.NtUpIdeal.defs (F := Ideal)) (onTc (τ := Cert.NtUpIdeal.τ) (Cert.NtUpIdeal.main (F := Ideal))) ⟨m, fun _ => 0, g⟩ (fun r => ∀ c : Dev Cert.NtUpIdeal.nD,
          r.2.mem ((c.tc : Thread Cert.NtUpIdeal.nD Cert.NtUpIdeal.τ).loc Cert.NtUpIdeal.main_v0) = v0 c
          ∧ r.2.mem ((c.tc : Thread Cert.NtUpIdeal.nD Cert.NtUpIdeal.τ).loc Cert.NtUpIdeal.main_arg0) = m ((c.tc : Thread Cert.NtUpIdeal.nD Cert.NtUpIdeal.τ).loc Cert.NtUpIdeal.main_arg0)
          ∧ r.2.mem ((c.tc : Thread Cert.NtUpIdeal.nD Cert.NtUpIdeal.τ).loc Cert.NtUpIdeal.main_arg1) = m ((c.tc : Thread Cert.NtUpIdeal.nD Cert.NtUpIdeal.τ).loc Cert.NtUpIdeal.main_arg1))
      ∧ θ_run (Cert.NtUpRefIdeal.defs (F := Ideal)) (onTc (τ := Cert.NtUpRefIdeal.τ) (Cert.NtUpRefIdeal.main (F := Ideal))) ⟨m', fun _ => 0, g'⟩ (fun r => ∀ c : Dev Cert.NtUpRefIdeal.nD,
          r.2.mem ((c.tc : Thread Cert.NtUpRefIdeal.nD Cert.NtUpRefIdeal.τ).loc Cert.NtUpRefIdeal.main_v5) = v0 c
          ∧ r.2.mem ((c.tc : Thread Cert.NtUpRefIdeal.nD Cert.NtUpRefIdeal.τ).loc Cert.NtUpRefIdeal.main_arg0) = m' ((c.tc : Thread Cert.NtUpRefIdeal.nD Cert.NtUpRefIdeal.τ).loc Cert.NtUpRefIdeal.main_arg0)
          ∧ r.2.mem ((c.tc : Thread Cert.NtUpRefIdeal.nD Cert.NtUpRefIdeal.τ).loc Cert.NtUpRefIdeal.main_arg1) = m' ((c.tc : Thread Cert.NtUpRefIdeal.nD Cert.NtUpRefIdeal.τ).loc Cert.NtUpRefIdeal.main_arg1))

def preserves_TnUp_TnUpIdeal : Prop :=
  True

def algebraic_TnUpIdeal_TnUpRefIdeal [hTnUpIdeal : Cert.TnUpIdeal.Facts] [hTnUpRefIdeal : Cert.TnUpRefIdeal.Facts] : Prop :=
  ∀ (m : (ℓ : Loc Cert.TnUpIdeal.nD Cert.TnUpIdeal.τ Cert.TnUpIdeal.sig) → Buf (Elt Ideal) ℓ) (g : Dev Cert.TnUpIdeal.nD → PrngReg)
    (m' : (ℓ : Loc Cert.TnUpRefIdeal.nD Cert.TnUpRefIdeal.τ Cert.TnUpRefIdeal.sig) → Buf (Elt Ideal) ℓ) (g' : Dev Cert.TnUpRefIdeal.nD → PrngReg), Pre_TnUpIdeal m →
    (∀ c : Dev Cert.TnUpIdeal.nD,
      m' ((c.tc : Thread Cert.TnUpRefIdeal.nD Cert.TnUpRefIdeal.τ).loc Cert.TnUpRefIdeal.main_arg0) = m ((c.tc : Thread Cert.TnUpIdeal.nD Cert.TnUpIdeal.τ).loc Cert.TnUpIdeal.main_arg0)
      ∧ m' ((c.tc : Thread Cert.TnUpRefIdeal.nD Cert.TnUpRefIdeal.τ).loc Cert.TnUpRefIdeal.main_arg1) = m ((c.tc : Thread Cert.TnUpIdeal.nD Cert.TnUpIdeal.τ).loc Cert.TnUpIdeal.main_arg1)) →
    ∃ (v0 : (c : Dev Cert.TnUpIdeal.nD) → Buf (Elt Ideal) ((c.tc : Thread Cert.TnUpIdeal.nD Cert.TnUpIdeal.τ).loc Cert.TnUpIdeal.main_v0)),
      θ_run (Cert.TnUpIdeal.defs (F := Ideal)) (onTc (τ := Cert.TnUpIdeal.τ) (Cert.TnUpIdeal.main (F := Ideal))) ⟨m, fun _ => 0, g⟩ (fun r => ∀ c : Dev Cert.TnUpIdeal.nD,
          r.2.mem ((c.tc : Thread Cert.TnUpIdeal.nD Cert.TnUpIdeal.τ).loc Cert.TnUpIdeal.main_v0) = v0 c
          ∧ r.2.mem ((c.tc : Thread Cert.TnUpIdeal.nD Cert.TnUpIdeal.τ).loc Cert.TnUpIdeal.main_arg0) = m ((c.tc : Thread Cert.TnUpIdeal.nD Cert.TnUpIdeal.τ).loc Cert.TnUpIdeal.main_arg0)
          ∧ r.2.mem ((c.tc : Thread Cert.TnUpIdeal.nD Cert.TnUpIdeal.τ).loc Cert.TnUpIdeal.main_arg1) = m ((c.tc : Thread Cert.TnUpIdeal.nD Cert.TnUpIdeal.τ).loc Cert.TnUpIdeal.main_arg1))
      ∧ θ_run (Cert.TnUpRefIdeal.defs (F := Ideal)) (onTc (τ := Cert.TnUpRefIdeal.τ) (Cert.TnUpRefIdeal.main (F := Ideal))) ⟨m', fun _ => 0, g'⟩ (fun r => ∀ c : Dev Cert.TnUpRefIdeal.nD,
          r.2.mem ((c.tc : Thread Cert.TnUpRefIdeal.nD Cert.TnUpRefIdeal.τ).loc Cert.TnUpRefIdeal.main_v5) = v0 c
          ∧ r.2.mem ((c.tc : Thread Cert.TnUpRefIdeal.nD Cert.TnUpRefIdeal.τ).loc Cert.TnUpRefIdeal.main_arg0) = m' ((c.tc : Thread Cert.TnUpRefIdeal.nD Cert.TnUpRefIdeal.τ).loc Cert.TnUpRefIdeal.main_arg0)
          ∧ r.2.mem ((c.tc : Thread Cert.TnUpRefIdeal.nD Cert.TnUpRefIdeal.τ).loc Cert.TnUpRefIdeal.main_arg1) = m' ((c.tc : Thread Cert.TnUpRefIdeal.nD Cert.TnUpRefIdeal.τ).loc Cert.TnUpRefIdeal.main_arg1))

def preserves_NnDown_NnDownIdeal : Prop :=
  True

def algebraic_NnDownIdeal_NnDownRefIdeal [hNnDownIdeal : Cert.NnDownIdeal.Facts] [hNnDownRefIdeal : Cert.NnDownRefIdeal.Facts] : Prop :=
  ∀ (m : (ℓ : Loc Cert.NnDownIdeal.nD Cert.NnDownIdeal.τ Cert.NnDownIdeal.sig) → Buf (Elt Ideal) ℓ) (g : Dev Cert.NnDownIdeal.nD → PrngReg)
    (m' : (ℓ : Loc Cert.NnDownRefIdeal.nD Cert.NnDownRefIdeal.τ Cert.NnDownRefIdeal.sig) → Buf (Elt Ideal) ℓ) (g' : Dev Cert.NnDownRefIdeal.nD → PrngReg), Pre_NnDownIdeal m →
    (∀ c : Dev Cert.NnDownIdeal.nD,
      m' ((c.tc : Thread Cert.NnDownRefIdeal.nD Cert.NnDownRefIdeal.τ).loc Cert.NnDownRefIdeal.main_arg0) = m ((c.tc : Thread Cert.NnDownIdeal.nD Cert.NnDownIdeal.τ).loc Cert.NnDownIdeal.main_arg0)
      ∧ m' ((c.tc : Thread Cert.NnDownRefIdeal.nD Cert.NnDownRefIdeal.τ).loc Cert.NnDownRefIdeal.main_arg1) = m ((c.tc : Thread Cert.NnDownIdeal.nD Cert.NnDownIdeal.τ).loc Cert.NnDownIdeal.main_arg1)) →
    ∃ (v0 : (c : Dev Cert.NnDownIdeal.nD) → Buf (Elt Ideal) ((c.tc : Thread Cert.NnDownIdeal.nD Cert.NnDownIdeal.τ).loc Cert.NnDownIdeal.main_v0)),
      θ_run (Cert.NnDownIdeal.defs (F := Ideal)) (onTc (τ := Cert.NnDownIdeal.τ) (Cert.NnDownIdeal.main (F := Ideal))) ⟨m, fun _ => 0, g⟩ (fun r => ∀ c : Dev Cert.NnDownIdeal.nD,
          r.2.mem ((c.tc : Thread Cert.NnDownIdeal.nD Cert.NnDownIdeal.τ).loc Cert.NnDownIdeal.main_v0) = v0 c
          ∧ r.2.mem ((c.tc : Thread Cert.NnDownIdeal.nD Cert.NnDownIdeal.τ).loc Cert.NnDownIdeal.main_arg0) = m ((c.tc : Thread Cert.NnDownIdeal.nD Cert.NnDownIdeal.τ).loc Cert.NnDownIdeal.main_arg0)
          ∧ r.2.mem ((c.tc : Thread Cert.NnDownIdeal.nD Cert.NnDownIdeal.τ).loc Cert.NnDownIdeal.main_arg1) = m ((c.tc : Thread Cert.NnDownIdeal.nD Cert.NnDownIdeal.τ).loc Cert.NnDownIdeal.main_arg1))
      ∧ θ_run (Cert.NnDownRefIdeal.defs (F := Ideal)) (onTc (τ := Cert.NnDownRefIdeal.τ) (Cert.NnDownRefIdeal.main (F := Ideal))) ⟨m', fun _ => 0, g'⟩ (fun r => ∀ c : Dev Cert.NnDownRefIdeal.nD,
          r.2.mem ((c.tc : Thread Cert.NnDownRefIdeal.nD Cert.NnDownRefIdeal.τ).loc Cert.NnDownRefIdeal.main_v4) = v0 c
          ∧ r.2.mem ((c.tc : Thread Cert.NnDownRefIdeal.nD Cert.NnDownRefIdeal.τ).loc Cert.NnDownRefIdeal.main_arg0) = m' ((c.tc : Thread Cert.NnDownRefIdeal.nD Cert.NnDownRefIdeal.τ).loc Cert.NnDownRefIdeal.main_arg0)
          ∧ r.2.mem ((c.tc : Thread Cert.NnDownRefIdeal.nD Cert.NnDownRefIdeal.τ).loc Cert.NnDownRefIdeal.main_arg1) = m' ((c.tc : Thread Cert.NnDownRefIdeal.nD Cert.NnDownRefIdeal.τ).loc Cert.NnDownRefIdeal.main_arg1))

def preserves_NtDown_NtDownIdeal : Prop :=
  True

def algebraic_NtDownIdeal_NtDownRefIdeal [hNtDownIdeal : Cert.NtDownIdeal.Facts] [hNtDownRefIdeal : Cert.NtDownRefIdeal.Facts] : Prop :=
  ∀ (m : (ℓ : Loc Cert.NtDownIdeal.nD Cert.NtDownIdeal.τ Cert.NtDownIdeal.sig) → Buf (Elt Ideal) ℓ) (g : Dev Cert.NtDownIdeal.nD → PrngReg)
    (m' : (ℓ : Loc Cert.NtDownRefIdeal.nD Cert.NtDownRefIdeal.τ Cert.NtDownRefIdeal.sig) → Buf (Elt Ideal) ℓ) (g' : Dev Cert.NtDownRefIdeal.nD → PrngReg), Pre_NtDownIdeal m →
    (∀ c : Dev Cert.NtDownIdeal.nD,
      m' ((c.tc : Thread Cert.NtDownRefIdeal.nD Cert.NtDownRefIdeal.τ).loc Cert.NtDownRefIdeal.main_arg0) = m ((c.tc : Thread Cert.NtDownIdeal.nD Cert.NtDownIdeal.τ).loc Cert.NtDownIdeal.main_arg0)
      ∧ m' ((c.tc : Thread Cert.NtDownRefIdeal.nD Cert.NtDownRefIdeal.τ).loc Cert.NtDownRefIdeal.main_arg1) = m ((c.tc : Thread Cert.NtDownIdeal.nD Cert.NtDownIdeal.τ).loc Cert.NtDownIdeal.main_arg1)) →
    ∃ (v0 : (c : Dev Cert.NtDownIdeal.nD) → Buf (Elt Ideal) ((c.tc : Thread Cert.NtDownIdeal.nD Cert.NtDownIdeal.τ).loc Cert.NtDownIdeal.main_v0)),
      θ_run (Cert.NtDownIdeal.defs (F := Ideal)) (onTc (τ := Cert.NtDownIdeal.τ) (Cert.NtDownIdeal.main (F := Ideal))) ⟨m, fun _ => 0, g⟩ (fun r => ∀ c : Dev Cert.NtDownIdeal.nD,
          r.2.mem ((c.tc : Thread Cert.NtDownIdeal.nD Cert.NtDownIdeal.τ).loc Cert.NtDownIdeal.main_v0) = v0 c
          ∧ r.2.mem ((c.tc : Thread Cert.NtDownIdeal.nD Cert.NtDownIdeal.τ).loc Cert.NtDownIdeal.main_arg0) = m ((c.tc : Thread Cert.NtDownIdeal.nD Cert.NtDownIdeal.τ).loc Cert.NtDownIdeal.main_arg0)
          ∧ r.2.mem ((c.tc : Thread Cert.NtDownIdeal.nD Cert.NtDownIdeal.τ).loc Cert.NtDownIdeal.main_arg1) = m ((c.tc : Thread Cert.NtDownIdeal.nD Cert.NtDownIdeal.τ).loc Cert.NtDownIdeal.main_arg1))
      ∧ θ_run (Cert.NtDownRefIdeal.defs (F := Ideal)) (onTc (τ := Cert.NtDownRefIdeal.τ) (Cert.NtDownRefIdeal.main (F := Ideal))) ⟨m', fun _ => 0, g'⟩ (fun r => ∀ c : Dev Cert.NtDownRefIdeal.nD,
          r.2.mem ((c.tc : Thread Cert.NtDownRefIdeal.nD Cert.NtDownRefIdeal.τ).loc Cert.NtDownRefIdeal.main_v5) = v0 c
          ∧ r.2.mem ((c.tc : Thread Cert.NtDownRefIdeal.nD Cert.NtDownRefIdeal.τ).loc Cert.NtDownRefIdeal.main_arg0) = m' ((c.tc : Thread Cert.NtDownRefIdeal.nD Cert.NtDownRefIdeal.τ).loc Cert.NtDownRefIdeal.main_arg0)
          ∧ r.2.mem ((c.tc : Thread Cert.NtDownRefIdeal.nD Cert.NtDownRefIdeal.τ).loc Cert.NtDownRefIdeal.main_arg1) = m' ((c.tc : Thread Cert.NtDownRefIdeal.nD Cert.NtDownRefIdeal.τ).loc Cert.NtDownRefIdeal.main_arg1))

def preserves_TnDown_TnDownIdeal : Prop :=
  True

def algebraic_TnDownIdeal_TnDownRefIdeal [hTnDownIdeal : Cert.TnDownIdeal.Facts] [hTnDownRefIdeal : Cert.TnDownRefIdeal.Facts] : Prop :=
  ∀ (m : (ℓ : Loc Cert.TnDownIdeal.nD Cert.TnDownIdeal.τ Cert.TnDownIdeal.sig) → Buf (Elt Ideal) ℓ) (g : Dev Cert.TnDownIdeal.nD → PrngReg)
    (m' : (ℓ : Loc Cert.TnDownRefIdeal.nD Cert.TnDownRefIdeal.τ Cert.TnDownRefIdeal.sig) → Buf (Elt Ideal) ℓ) (g' : Dev Cert.TnDownRefIdeal.nD → PrngReg), Pre_TnDownIdeal m →
    (∀ c : Dev Cert.TnDownIdeal.nD,
      m' ((c.tc : Thread Cert.TnDownRefIdeal.nD Cert.TnDownRefIdeal.τ).loc Cert.TnDownRefIdeal.main_arg0) = m ((c.tc : Thread Cert.TnDownIdeal.nD Cert.TnDownIdeal.τ).loc Cert.TnDownIdeal.main_arg0)
      ∧ m' ((c.tc : Thread Cert.TnDownRefIdeal.nD Cert.TnDownRefIdeal.τ).loc Cert.TnDownRefIdeal.main_arg1) = m ((c.tc : Thread Cert.TnDownIdeal.nD Cert.TnDownIdeal.τ).loc Cert.TnDownIdeal.main_arg1)) →
    ∃ (v0 : (c : Dev Cert.TnDownIdeal.nD) → Buf (Elt Ideal) ((c.tc : Thread Cert.TnDownIdeal.nD Cert.TnDownIdeal.τ).loc Cert.TnDownIdeal.main_v0)),
      θ_run (Cert.TnDownIdeal.defs (F := Ideal)) (onTc (τ := Cert.TnDownIdeal.τ) (Cert.TnDownIdeal.main (F := Ideal))) ⟨m, fun _ => 0, g⟩ (fun r => ∀ c : Dev Cert.TnDownIdeal.nD,
          r.2.mem ((c.tc : Thread Cert.TnDownIdeal.nD Cert.TnDownIdeal.τ).loc Cert.TnDownIdeal.main_v0) = v0 c
          ∧ r.2.mem ((c.tc : Thread Cert.TnDownIdeal.nD Cert.TnDownIdeal.τ).loc Cert.TnDownIdeal.main_arg0) = m ((c.tc : Thread Cert.TnDownIdeal.nD Cert.TnDownIdeal.τ).loc Cert.TnDownIdeal.main_arg0)
          ∧ r.2.mem ((c.tc : Thread Cert.TnDownIdeal.nD Cert.TnDownIdeal.τ).loc Cert.TnDownIdeal.main_arg1) = m ((c.tc : Thread Cert.TnDownIdeal.nD Cert.TnDownIdeal.τ).loc Cert.TnDownIdeal.main_arg1))
      ∧ θ_run (Cert.TnDownRefIdeal.defs (F := Ideal)) (onTc (τ := Cert.TnDownRefIdeal.τ) (Cert.TnDownRefIdeal.main (F := Ideal))) ⟨m', fun _ => 0, g'⟩ (fun r => ∀ c : Dev Cert.TnDownRefIdeal.nD,
          r.2.mem ((c.tc : Thread Cert.TnDownRefIdeal.nD Cert.TnDownRefIdeal.τ).loc Cert.TnDownRefIdeal.main_v5) = v0 c
          ∧ r.2.mem ((c.tc : Thread Cert.TnDownRefIdeal.nD Cert.TnDownRefIdeal.τ).loc Cert.TnDownRefIdeal.main_arg0) = m' ((c.tc : Thread Cert.TnDownRefIdeal.nD Cert.TnDownRefIdeal.τ).loc Cert.TnDownRefIdeal.main_arg0)
          ∧ r.2.mem ((c.tc : Thread Cert.TnDownRefIdeal.nD Cert.TnDownRefIdeal.τ).loc Cert.TnDownRefIdeal.main_arg1) = m' ((c.tc : Thread Cert.TnDownRefIdeal.nD Cert.TnDownRefIdeal.τ).loc Cert.TnDownRefIdeal.main_arg1))

def preserves_TnProj_TnProjIdeal : Prop :=
  True

def algebraic_TnProjIdeal_TnProjRefIdeal [hTnProjIdeal : Cert.TnProjIdeal.Facts] [hTnProjRefIdeal : Cert.TnProjRefIdeal.Facts] : Prop :=
  ∀ (m : (ℓ : Loc Cert.TnProjIdeal.nD Cert.TnProjIdeal.τ Cert.TnProjIdeal.sig) → Buf (Elt Ideal) ℓ) (g : Dev Cert.TnProjIdeal.nD → PrngReg)
    (m' : (ℓ : Loc Cert.TnProjRefIdeal.nD Cert.TnProjRefIdeal.τ Cert.TnProjRefIdeal.sig) → Buf (Elt Ideal) ℓ) (g' : Dev Cert.TnProjRefIdeal.nD → PrngReg), Pre_TnProjIdeal m →
    (∀ c : Dev Cert.TnProjIdeal.nD,
      m' ((c.tc : Thread Cert.TnProjRefIdeal.nD Cert.TnProjRefIdeal.τ).loc Cert.TnProjRefIdeal.main_arg0) = m ((c.tc : Thread Cert.TnProjIdeal.nD Cert.TnProjIdeal.τ).loc Cert.TnProjIdeal.main_arg0)
      ∧ m' ((c.tc : Thread Cert.TnProjRefIdeal.nD Cert.TnProjRefIdeal.τ).loc Cert.TnProjRefIdeal.main_arg1) = m ((c.tc : Thread Cert.TnProjIdeal.nD Cert.TnProjIdeal.τ).loc Cert.TnProjIdeal.main_arg1)) →
    ∃ (v0 : (c : Dev Cert.TnProjIdeal.nD) → Buf (Elt Ideal) ((c.tc : Thread Cert.TnProjIdeal.nD Cert.TnProjIdeal.τ).loc Cert.TnProjIdeal.main_v0)),
      θ_run (Cert.TnProjIdeal.defs (F := Ideal)) (onTc (τ := Cert.TnProjIdeal.τ) (Cert.TnProjIdeal.main (F := Ideal))) ⟨m, fun _ => 0, g⟩ (fun r => ∀ c : Dev Cert.TnProjIdeal.nD,
          r.2.mem ((c.tc : Thread Cert.TnProjIdeal.nD Cert.TnProjIdeal.τ).loc Cert.TnProjIdeal.main_v0) = v0 c
          ∧ r.2.mem ((c.tc : Thread Cert.TnProjIdeal.nD Cert.TnProjIdeal.τ).loc Cert.TnProjIdeal.main_arg0) = m ((c.tc : Thread Cert.TnProjIdeal.nD Cert.TnProjIdeal.τ).loc Cert.TnProjIdeal.main_arg0)
          ∧ r.2.mem ((c.tc : Thread Cert.TnProjIdeal.nD Cert.TnProjIdeal.τ).loc Cert.TnProjIdeal.main_arg1) = m ((c.tc : Thread Cert.TnProjIdeal.nD Cert.TnProjIdeal.τ).loc Cert.TnProjIdeal.main_arg1))
      ∧ θ_run (Cert.TnProjRefIdeal.defs (F := Ideal)) (onTc (τ := Cert.TnProjRefIdeal.τ) (Cert.TnProjRefIdeal.main (F := Ideal))) ⟨m', fun _ => 0, g'⟩ (fun r => ∀ c : Dev Cert.TnProjRefIdeal.nD,
          r.2.mem ((c.tc : Thread Cert.TnProjRefIdeal.nD Cert.TnProjRefIdeal.τ).loc Cert.TnProjRefIdeal.main_v5) = v0 c
          ∧ r.2.mem ((c.tc : Thread Cert.TnProjRefIdeal.nD Cert.TnProjRefIdeal.τ).loc Cert.TnProjRefIdeal.main_arg0) = m' ((c.tc : Thread Cert.TnProjRefIdeal.nD Cert.TnProjRefIdeal.τ).loc Cert.TnProjRefIdeal.main_arg0)
          ∧ r.2.mem ((c.tc : Thread Cert.TnProjRefIdeal.nD Cert.TnProjRefIdeal.τ).loc Cert.TnProjRefIdeal.main_arg1) = m' ((c.tc : Thread Cert.TnProjRefIdeal.nD Cert.TnProjRefIdeal.τ).loc Cert.TnProjRefIdeal.main_arg1))

def preserves_NtAttn_NtAttnIdeal : Prop :=
  True

def algebraic_NtAttnIdeal_NtAttnRefIdeal [hNtAttnIdeal : Cert.NtAttnIdeal.Facts] [hNtAttnRefIdeal : Cert.NtAttnRefIdeal.Facts] : Prop :=
  ∀ (m : (ℓ : Loc Cert.NtAttnIdeal.nD Cert.NtAttnIdeal.τ Cert.NtAttnIdeal.sig) → Buf (Elt Ideal) ℓ) (g : Dev Cert.NtAttnIdeal.nD → PrngReg)
    (m' : (ℓ : Loc Cert.NtAttnRefIdeal.nD Cert.NtAttnRefIdeal.τ Cert.NtAttnRefIdeal.sig) → Buf (Elt Ideal) ℓ) (g' : Dev Cert.NtAttnRefIdeal.nD → PrngReg), Pre_NtAttnIdeal m →
    (∀ c : Dev Cert.NtAttnIdeal.nD,
      m' ((c.tc : Thread Cert.NtAttnRefIdeal.nD Cert.NtAttnRefIdeal.τ).loc Cert.NtAttnRefIdeal.main_arg0) = m ((c.tc : Thread Cert.NtAttnIdeal.nD Cert.NtAttnIdeal.τ).loc Cert.NtAttnIdeal.main_arg0)
      ∧ m' ((c.tc : Thread Cert.NtAttnRefIdeal.nD Cert.NtAttnRefIdeal.τ).loc Cert.NtAttnRefIdeal.main_arg1) = m ((c.tc : Thread Cert.NtAttnIdeal.nD Cert.NtAttnIdeal.τ).loc Cert.NtAttnIdeal.main_arg1)) →
    ∃ (v0 : (c : Dev Cert.NtAttnIdeal.nD) → Buf (Elt Ideal) ((c.tc : Thread Cert.NtAttnIdeal.nD Cert.NtAttnIdeal.τ).loc Cert.NtAttnIdeal.main_v0)),
      θ_run (Cert.NtAttnIdeal.defs (F := Ideal)) (onTc (τ := Cert.NtAttnIdeal.τ) (Cert.NtAttnIdeal.main (F := Ideal))) ⟨m, fun _ => 0, g⟩ (fun r => ∀ c : Dev Cert.NtAttnIdeal.nD,
          r.2.mem ((c.tc : Thread Cert.NtAttnIdeal.nD Cert.NtAttnIdeal.τ).loc Cert.NtAttnIdeal.main_v0) = v0 c
          ∧ r.2.mem ((c.tc : Thread Cert.NtAttnIdeal.nD Cert.NtAttnIdeal.τ).loc Cert.NtAttnIdeal.main_arg0) = m ((c.tc : Thread Cert.NtAttnIdeal.nD Cert.NtAttnIdeal.τ).loc Cert.NtAttnIdeal.main_arg0)
          ∧ r.2.mem ((c.tc : Thread Cert.NtAttnIdeal.nD Cert.NtAttnIdeal.τ).loc Cert.NtAttnIdeal.main_arg1) = m ((c.tc : Thread Cert.NtAttnIdeal.nD Cert.NtAttnIdeal.τ).loc Cert.NtAttnIdeal.main_arg1))
      ∧ θ_run (Cert.NtAttnRefIdeal.defs (F := Ideal)) (onTc (τ := Cert.NtAttnRefIdeal.τ) (Cert.NtAttnRefIdeal.main (F := Ideal))) ⟨m', fun _ => 0, g'⟩ (fun r => ∀ c : Dev Cert.NtAttnRefIdeal.nD,
          r.2.mem ((c.tc : Thread Cert.NtAttnRefIdeal.nD Cert.NtAttnRefIdeal.τ).loc Cert.NtAttnRefIdeal.main_v6) = v0 c
          ∧ r.2.mem ((c.tc : Thread Cert.NtAttnRefIdeal.nD Cert.NtAttnRefIdeal.τ).loc Cert.NtAttnRefIdeal.main_arg0) = m' ((c.tc : Thread Cert.NtAttnRefIdeal.nD Cert.NtAttnRefIdeal.τ).loc Cert.NtAttnRefIdeal.main_arg0)
          ∧ r.2.mem ((c.tc : Thread Cert.NtAttnRefIdeal.nD Cert.NtAttnRefIdeal.τ).loc Cert.NtAttnRefIdeal.main_arg1) = m' ((c.tc : Thread Cert.NtAttnRefIdeal.nD Cert.NtAttnRefIdeal.τ).loc Cert.NtAttnRefIdeal.main_arg1))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v34) = v0 c
          ∧ r.2.mem ((c.tc : Thread Cert.NormBackRefIdeal.nD Cert.NormBackRefIdeal.τ).loc Cert.NormBackRefIdeal.main_v17) = v1 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3))

def preserves_AddNormBack_AddNormBackIdeal : Prop :=
  True

def algebraic_AddNormBackIdeal_AddNormBackRefIdeal [hAddNormBackIdeal : Cert.AddNormBackIdeal.Facts] [hAddNormBackRefIdeal : Cert.AddNormBackRefIdeal.Facts] : Prop :=
  ∀ (m : (ℓ : Loc Cert.AddNormBackIdeal.nD Cert.AddNormBackIdeal.τ Cert.AddNormBackIdeal.sig) → Buf (Elt Ideal) ℓ) (g : Dev Cert.AddNormBackIdeal.nD → PrngReg)
    (m' : (ℓ : Loc Cert.AddNormBackRefIdeal.nD Cert.AddNormBackRefIdeal.τ Cert.AddNormBackRefIdeal.sig) → Buf (Elt Ideal) ℓ) (g' : Dev Cert.AddNormBackRefIdeal.nD → PrngReg), Pre_AddNormBackIdeal m →
    (∀ c : Dev Cert.AddNormBackIdeal.nD,
      m' ((c.tc : Thread Cert.AddNormBackRefIdeal.nD Cert.AddNormBackRefIdeal.τ).loc Cert.AddNormBackRefIdeal.main_arg0) = m ((c.tc : Thread Cert.AddNormBackIdeal.nD Cert.AddNormBackIdeal.τ).loc Cert.AddNormBackIdeal.main_arg0)
      ∧ m' ((c.tc : Thread Cert.AddNormBackRefIdeal.nD Cert.AddNormBackRefIdeal.τ).loc Cert.AddNormBackRefIdeal.main_arg1) = m ((c.tc : Thread Cert.AddNormBackIdeal.nD Cert.AddNormBackIdeal.τ).loc Cert.AddNormBackIdeal.main_arg1)
      ∧ m' ((c.tc : Thread Cert.AddNormBackRefIdeal.nD Cert.AddNormBackRefIdeal.τ).loc Cert.AddNormBackRefIdeal.main_arg2) = m ((c.tc : Thread Cert.AddNormBackIdeal.nD Cert.AddNormBackIdeal.τ).loc Cert.AddNormBackIdeal.main_arg2)
      ∧ m' ((c.tc : Thread Cert.AddNormBackRefIdeal.nD Cert.AddNormBackRefIdeal.τ).loc Cert.AddNormBackRefIdeal.main_arg3) = m ((c.tc : Thread Cert.AddNormBackIdeal.nD Cert.AddNormBackIdeal.τ).loc Cert.AddNormBackIdeal.main_arg3)
      ∧ m' ((c.tc : Thread Cert.AddNormBackRefIdeal.nD Cert.AddNormBackRefIdeal.τ).loc Cert.AddNormBackRefIdeal.main_arg4) = m ((c.tc : Thread Cert.AddNormBackIdeal.nD Cert.AddNormBackIdeal.τ).loc Cert.AddNormBackIdeal.main_arg4)) →
    ∃ (v0 : (c : Dev Cert.AddNormBackIdeal.nD) → Buf (Elt Ideal) ((c.tc : Thread Cert.AddNormBackIdeal.nD Cert.AddNormBackIdeal.τ).loc Cert.AddNormBackIdeal.main_v0_0)) (v1 : (c : Dev Cert.AddNormBackIdeal.nD) → Buf (Elt Ideal) ((c.tc : Thread Cert.AddNormBackIdeal.nD Cert.AddNormBackIdeal.τ).loc Cert.AddNormBackIdeal.main_v0_1)) (v2 : (c : Dev Cert.AddNormBackIdeal.nD) → Buf (Elt Ideal) ((c.tc : Thread Cert.AddNormBackIdeal.nD Cert.AddNormBackIdeal.τ).loc Cert.AddNormBackIdeal.main_v0_2)),
      θ_run (Cert.AddNormBackIdeal.defs (F := Ideal)) (onTc (τ := Cert.AddNormBackIdeal.τ) (Cert.AddNormBackIdeal.main (F := Ideal))) ⟨m, fun _ => 0, g⟩ (fun r => ∀ c : Dev Cert.AddNormBackIdeal.nD,
          r.2.mem ((c.tc : Thread Cert.AddNormBackIdeal.nD Cert.AddNormBackIdeal.τ).loc Cert.AddNormBackIdeal.main_v0_0) = v0 c
          ∧ r.2.mem ((c.tc : Thread Cert.AddNormBackIdeal.nD Cert.AddNormBackIdeal.τ).loc Cert.AddNormBackIdeal.main_v0_1) = v1 c
          ∧ r.2.mem ((c.tc : Thread Cert.AddNormBackIdeal.nD Cert.AddNormBackIdeal.τ).loc Cert.AddNormBackIdeal.main_v0_2) = v2 c
          ∧ r.2.mem ((c.tc : Thread Cert.AddNormBackIdeal.nD Cert.AddNormBackIdeal.τ).loc Cert.AddNormBackIdeal.main_arg0) = m ((c.tc : Thread Cert.AddNormBackIdeal.nD Cert.AddNormBackIdeal.τ).loc Cert.AddNormBackIdeal.main_arg0)
          ∧ r.2.mem ((c.tc : Thread Cert.AddNormBackIdeal.nD Cert.AddNormBackIdeal.τ).loc Cert.AddNormBackIdeal.main_arg1) = m ((c.tc : Thread Cert.AddNormBackIdeal.nD Cert.AddNormBackIdeal.τ).loc Cert.AddNormBackIdeal.main_arg1)
          ∧ r.2.mem ((c.tc : Thread Cert.AddNormBackIdeal.nD Cert.AddNormBackIdeal.τ).loc Cert.AddNormBackIdeal.main_arg2) = m ((c.tc : Thread Cert.AddNormBackIdeal.nD Cert.AddNormBackIdeal.τ).loc Cert.AddNormBackIdeal.main_arg2)
          ∧ r.2.mem ((c.tc : Thread Cert.AddNormBackIdeal.nD Cert.AddNormBackIdeal.τ).loc Cert.AddNormBackIdeal.main_arg3) = m ((c.tc : Thread Cert.AddNormBackIdeal.nD Cert.AddNormBackIdeal.τ).loc Cert.AddNormBackIdeal.main_arg3)
          ∧ r.2.mem ((c.tc : Thread Cert.AddNormBackIdeal.nD Cert.AddNormBackIdeal.τ).loc Cert.AddNormBackIdeal.main_arg4) = m ((c.tc : Thread Cert.AddNormBackIdeal.nD Cert.AddNormBackIdeal.τ).loc Cert.AddNormBackIdeal.main_arg4))
      ∧ θ_run (Cert.AddNormBackRefIdeal.defs (F := Ideal)) (onTc (τ := Cert.AddNormBackRefIdeal.τ) (Cert.AddNormBackRefIdeal.main (F := Ideal))) ⟨m', fun _ => 0, g'⟩ (fun r => ∀ c : Dev Cert.AddNormBackRefIdeal.nD,
          r.2.mem ((c.tc : Thread Cert.AddNormBackRefIdeal.nD Cert.AddNormBackRefIdeal.τ).loc Cert.AddNormBackRefIdeal.main_v35) = v0 c
          ∧ r.2.mem ((c.tc : Thread Cert.AddNormBackRefIdeal.nD Cert.AddNormBackRefIdeal.τ).loc Cert.AddNormBackRefIdeal.main_v36) = v1 c
          ∧ r.2.mem ((c.tc : Thread Cert.AddNormBackRefIdeal.nD Cert.AddNormBackRefIdeal.τ).loc Cert.AddNormBackRefIdeal.main_v18) = v2 c
          ∧ r.2.mem ((c.tc : Thread Cert.AddNormBackRefIdeal.nD Cert.AddNormBackRefIdeal.τ).loc Cert.AddNormBackRefIdeal.main_arg0) = m' ((c.tc : Thread Cert.AddNormBackRefIdeal.nD Cert.AddNormBackRefIdeal.τ).loc Cert.AddNormBackRefIdeal.main_arg0)
          ∧ r.2.mem ((c.tc : Thread Cert.AddNormBackRefIdeal.nD Cert.AddNormBackRefIdeal.τ).loc Cert.AddNormBackRefIdeal.main_arg1) = m' ((c.tc : Thread Cert.AddNormBackRefIdeal.nD Cert.AddNormBackRefIdeal.τ).loc Cert.AddNormBackRefIdeal.main_arg1)
          ∧ r.2.mem ((c.tc : Thread Cert.AddNormBackRefIdeal.nD Cert.AddNormBackRefIdeal.τ).loc Cert.AddNormBackRefIdeal.main_arg2) = m' ((c.tc : Thread Cert.AddNormBackRefIdeal.nD Cert.AddNormBackRefIdeal.τ).loc Cert.AddNormBackRefIdeal.main_arg2)
          ∧ r.2.mem ((c.tc : Thread Cert.AddNormBackRefIdeal.nD Cert.AddNormBackRefIdeal.τ).loc Cert.AddNormBackRefIdeal.main_arg3) = m' ((c.tc : Thread Cert.AddNormBackRefIdeal.nD Cert.AddNormBackRefIdeal.τ).loc Cert.AddNormBackRefIdeal.main_arg3)
          ∧ r.2.mem ((c.tc : Thread Cert.AddNormBackRefIdeal.nD Cert.AddNormBackRefIdeal.τ).loc Cert.AddNormBackRefIdeal.main_arg4) = m' ((c.tc : Thread Cert.AddNormBackRefIdeal.nD Cert.AddNormBackRefIdeal.τ).loc Cert.AddNormBackRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_HeadsBack_HeadsBackIdeal : Prop :=
  True

def algebraic_HeadsBackIdeal_HeadsBackRefIdeal [hHeadsBackIdeal : Cert.HeadsBackIdeal.Facts] [hHeadsBackRefIdeal : Cert.HeadsBackRefIdeal.Facts] : Prop :=
  ∀ (m : (ℓ : Loc Cert.HeadsBackIdeal.nD Cert.HeadsBackIdeal.τ Cert.HeadsBackIdeal.sig) → Buf (Elt Ideal) ℓ) (g : Dev Cert.HeadsBackIdeal.nD → PrngReg)
    (m' : (ℓ : Loc Cert.HeadsBackRefIdeal.nD Cert.HeadsBackRefIdeal.τ Cert.HeadsBackRefIdeal.sig) → Buf (Elt Ideal) ℓ) (g' : Dev Cert.HeadsBackRefIdeal.nD → PrngReg), Pre_HeadsBackIdeal m →
    (∀ c : Dev Cert.HeadsBackIdeal.nD,
      m' ((c.tc : Thread Cert.HeadsBackRefIdeal.nD Cert.HeadsBackRefIdeal.τ).loc Cert.HeadsBackRefIdeal.main_arg0) = m ((c.tc : Thread Cert.HeadsBackIdeal.nD Cert.HeadsBackIdeal.τ).loc Cert.HeadsBackIdeal.main_arg0)
      ∧ m' ((c.tc : Thread Cert.HeadsBackRefIdeal.nD Cert.HeadsBackRefIdeal.τ).loc Cert.HeadsBackRefIdeal.main_arg1) = m ((c.tc : Thread Cert.HeadsBackIdeal.nD Cert.HeadsBackIdeal.τ).loc Cert.HeadsBackIdeal.main_arg1)) →
    ∃ (v0 : (c : Dev Cert.HeadsBackIdeal.nD) → Buf (Elt Ideal) ((c.tc : Thread Cert.HeadsBackIdeal.nD Cert.HeadsBackIdeal.τ).loc Cert.HeadsBackIdeal.main_v0)),
      θ_run (Cert.HeadsBackIdeal.defs (F := Ideal)) (onTc (τ := Cert.HeadsBackIdeal.τ) (Cert.HeadsBackIdeal.main (F := Ideal))) ⟨m, fun _ => 0, g⟩ (fun r => ∀ c : Dev Cert.HeadsBackIdeal.nD,
          r.2.mem ((c.tc : Thread Cert.HeadsBackIdeal.nD Cert.HeadsBackIdeal.τ).loc Cert.HeadsBackIdeal.main_v0) = v0 c
          ∧ r.2.mem ((c.tc : Thread Cert.HeadsBackIdeal.nD Cert.HeadsBackIdeal.τ).loc Cert.HeadsBackIdeal.main_arg0) = m ((c.tc : Thread Cert.HeadsBackIdeal.nD Cert.HeadsBackIdeal.τ).loc Cert.HeadsBackIdeal.main_arg0)
          ∧ r.2.mem ((c.tc : Thread Cert.HeadsBackIdeal.nD Cert.HeadsBackIdeal.τ).loc Cert.HeadsBackIdeal.main_arg1) = m ((c.tc : Thread Cert.HeadsBackIdeal.nD Cert.HeadsBackIdeal.τ).loc Cert.HeadsBackIdeal.main_arg1))
      ∧ θ_run (Cert.HeadsBackRefIdeal.defs (F := Ideal)) (onTc (τ := Cert.HeadsBackRefIdeal.τ) (Cert.HeadsBackRefIdeal.main (F := Ideal))) ⟨m', fun _ => 0, g'⟩ (fun r => ∀ c : Dev Cert.HeadsBackRefIdeal.nD,
          r.2.mem ((c.tc : Thread Cert.HeadsBackRefIdeal.nD Cert.HeadsBackRefIdeal.τ).loc Cert.HeadsBackRefIdeal.main_v3) = v0 c
          ∧ r.2.mem ((c.tc : Thread Cert.HeadsBackRefIdeal.nD Cert.HeadsBackRefIdeal.τ).loc Cert.HeadsBackRefIdeal.main_arg0) = m' ((c.tc : Thread Cert.HeadsBackRefIdeal.nD Cert.HeadsBackRefIdeal.τ).loc Cert.HeadsBackRefIdeal.main_arg0)
          ∧ r.2.mem ((c.tc : Thread Cert.HeadsBackRefIdeal.nD Cert.HeadsBackRefIdeal.τ).loc Cert.HeadsBackRefIdeal.main_arg1) = m' ((c.tc : Thread Cert.HeadsBackRefIdeal.nD Cert.HeadsBackRefIdeal.τ).loc Cert.HeadsBackRefIdeal.main_arg1))

def preserves_NormForward_NormForwardIdeal : Prop :=
  True

def algebraic_NormForwardIdeal_NormForwardRefIdeal [hNormForwardIdeal : Cert.NormForwardIdeal.Facts] [hNormForwardRefIdeal : Cert.NormForwardRefIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg)
    (m' : (ℓ : Loc Cert.NormForwardRefIdeal.nD Cert.NormForwardRefIdeal.τ Cert.NormForwardRefIdeal.sig) → Buf (Elt Ideal) ℓ) (g' : Dev Cert.NormForwardRefIdeal.nD → PrngReg), Pre_NormForwardIdeal m →
    (∀ c : Dev Cert.NormForwardIdeal.nD,
      m' ((c.tc : Thread Cert.NormForwardRefIdeal.nD Cert.NormForwardRefIdeal.τ).loc Cert.NormForwardRefIdeal.main_arg0) = m ((c.tc : Thread Cert.NormForwardIdeal.nD Cert.NormForwardIdeal.τ).loc Cert.NormForwardIdeal.main_arg0)
      ∧ m' ((c.tc : Thread Cert.NormForwardRefIdeal.nD Cert.NormForwardRefIdeal.τ).loc Cert.NormForwardRefIdeal.main_arg1) = m ((c.tc : Thread Cert.NormForwardIdeal.nD Cert.NormForwardIdeal.τ).loc Cert.NormForwardIdeal.main_arg1)) →
    ∃ (v0 : (c : Dev Cert.NormForwardIdeal.nD) → Buf (Elt Ideal) ((c.tc : Thread Cert.NormForwardIdeal.nD Cert.NormForwardIdeal.τ).loc Cert.NormForwardIdeal.main_v0)),
      θ_run (Cert.NormForwardIdeal.defs (F := Ideal)) (onTc (τ := Cert.NormForwardIdeal.τ) (Cert.NormForwardIdeal.main (F := Ideal))) ⟨m, fun _ => 0, g⟩ (fun r => ∀ c : Dev Cert.NormForwardIdeal.nD,
          r.2.mem ((c.tc : Thread Cert.NormForwardIdeal.nD Cert.NormForwardIdeal.τ).loc Cert.NormForwardIdeal.main_v0) = v0 c
          ∧ r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
          ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1))
      ∧ θ_run (Cert.NormForwardRefIdeal.defs (F := Ideal)) (onTc (τ := Cert.NormForwardRefIdeal.τ) (Cert.NormForwardRefIdeal.main (F := Ideal))) ⟨m', fun _ => 0, g'⟩ (fun r => ∀ c : Dev Cert.NormForwardRefIdeal.nD,
          r.2.mem ((c.tc : Thread Cert.NormForwardRefIdeal.nD Cert.NormForwardRefIdeal.τ).loc Cert.NormForwardRefIdeal.main_v12) = v0 c
          ∧ r.2.mem ((c.tc : Thread Cert.NormForwardRefIdeal.nD Cert.NormForwardRefIdeal.τ).loc Cert.NormForwardRefIdeal.main_arg0) = m' ((c.tc : Thread Cert.NormForwardRefIdeal.nD Cert.NormForwardRefIdeal.τ).loc Cert.NormForwardRefIdeal.main_arg0)
          ∧ r.2.mem ((c.tc : Thread Cert.NormForwardRefIdeal.nD Cert.NormForwardRefIdeal.τ).loc Cert.NormForwardRefIdeal.main_arg1) = m' ((c.tc : Thread Cert.NormForwardRefIdeal.nD Cert.NormForwardRefIdeal.τ).loc Cert.NormForwardRefIdeal.main_arg1))

def preserves_AddNormForward_AddNormForwardIdeal : Prop :=
  True

def algebraic_AddNormForwardIdeal_AddNormForwardRefIdeal [hAddNormForwardIdeal : Cert.AddNormForwardIdeal.Facts] [hAddNormForwardRefIdeal : Cert.AddNormForwardRefIdeal.Facts] : Prop :=
  ∀ (m : (ℓ : Loc Cert.AddNormForwardIdeal.nD Cert.AddNormForwardIdeal.τ Cert.AddNormForwardIdeal.sig) → Buf (Elt Ideal) ℓ) (g : Dev Cert.AddNormForwardIdeal.nD → PrngReg)
    (m' : (ℓ : Loc Cert.AddNormForwardRefIdeal.nD Cert.AddNormForwardRefIdeal.τ Cert.AddNormForwardRefIdeal.sig) → Buf (Elt Ideal) ℓ) (g' : Dev Cert.AddNormForwardRefIdeal.nD → PrngReg), Pre_AddNormForwardIdeal m →
    (∀ c : Dev Cert.AddNormForwardIdeal.nD,
      m' ((c.tc : Thread Cert.AddNormForwardRefIdeal.nD Cert.AddNormForwardRefIdeal.τ).loc Cert.AddNormForwardRefIdeal.main_arg0) = m ((c.tc : Thread Cert.AddNormForwardIdeal.nD Cert.AddNormForwardIdeal.τ).loc Cert.AddNormForwardIdeal.main_arg0)
      ∧ m' ((c.tc : Thread Cert.AddNormForwardRefIdeal.nD Cert.AddNormForwardRefIdeal.τ).loc Cert.AddNormForwardRefIdeal.main_arg1) = m ((c.tc : Thread Cert.AddNormForwardIdeal.nD Cert.AddNormForwardIdeal.τ).loc Cert.AddNormForwardIdeal.main_arg1)
      ∧ m' ((c.tc : Thread Cert.AddNormForwardRefIdeal.nD Cert.AddNormForwardRefIdeal.τ).loc Cert.AddNormForwardRefIdeal.main_arg2) = m ((c.tc : Thread Cert.AddNormForwardIdeal.nD Cert.AddNormForwardIdeal.τ).loc Cert.AddNormForwardIdeal.main_arg2)) →
    ∃ (v0 : (c : Dev Cert.AddNormForwardIdeal.nD) → Buf (Elt Ideal) ((c.tc : Thread Cert.AddNormForwardIdeal.nD Cert.AddNormForwardIdeal.τ).loc Cert.AddNormForwardIdeal.main_v0_0)) (v1 : (c : Dev Cert.AddNormForwardIdeal.nD) → Buf (Elt Ideal) ((c.tc : Thread Cert.AddNormForwardIdeal.nD Cert.AddNormForwardIdeal.τ).loc Cert.AddNormForwardIdeal.main_v0_1)),
      θ_run (Cert.AddNormForwardIdeal.defs (F := Ideal)) (onTc (τ := Cert.AddNormForwardIdeal.τ) (Cert.AddNormForwardIdeal.main (F := Ideal))) ⟨m, fun _ => 0, g⟩ (fun r => ∀ c : Dev Cert.AddNormForwardIdeal.nD,
          r.2.mem ((c.tc : Thread Cert.AddNormForwardIdeal.nD Cert.AddNormForwardIdeal.τ).loc Cert.AddNormForwardIdeal.main_v0_0) = v0 c
          ∧ r.2.mem ((c.tc : Thread Cert.AddNormForwardIdeal.nD Cert.AddNormForwardIdeal.τ).loc Cert.AddNormForwardIdeal.main_v0_1) = v1 c
          ∧ r.2.mem ((c.tc : Thread Cert.AddNormForwardIdeal.nD Cert.AddNormForwardIdeal.τ).loc Cert.AddNormForwardIdeal.main_arg0) = m ((c.tc : Thread Cert.AddNormForwardIdeal.nD Cert.AddNormForwardIdeal.τ).loc Cert.AddNormForwardIdeal.main_arg0)
          ∧ r.2.mem ((c.tc : Thread Cert.AddNormForwardIdeal.nD Cert.AddNormForwardIdeal.τ).loc Cert.AddNormForwardIdeal.main_arg1) = m ((c.tc : Thread Cert.AddNormForwardIdeal.nD Cert.AddNormForwardIdeal.τ).loc Cert.AddNormForwardIdeal.main_arg1)
          ∧ r.2.mem ((c.tc : Thread Cert.AddNormForwardIdeal.nD Cert.AddNormForwardIdeal.τ).loc Cert.AddNormForwardIdeal.main_arg2) = m ((c.tc : Thread Cert.AddNormForwardIdeal.nD Cert.AddNormForwardIdeal.τ).loc Cert.AddNormForwardIdeal.main_arg2))
      ∧ θ_run (Cert.AddNormForwardRefIdeal.defs (F := Ideal)) (onTc (τ := Cert.AddNormForwardRefIdeal.τ) (Cert.AddNormForwardRefIdeal.main (F := Ideal))) ⟨m', fun _ => 0, g'⟩ (fun r => ∀ c : Dev Cert.AddNormForwardRefIdeal.nD,
          r.2.mem ((c.tc : Thread Cert.AddNormForwardRefIdeal.nD Cert.AddNormForwardRefIdeal.τ).loc Cert.AddNormForwardRefIdeal.main_v0) = v0 c
          ∧ r.2.mem ((c.tc : Thread Cert.AddNormForwardRefIdeal.nD Cert.AddNormForwardRefIdeal.τ).loc Cert.AddNormForwardRefIdeal.main_v13) = v1 c
          ∧ r.2.mem ((c.tc : Thread Cert.AddNormForwardRefIdeal.nD Cert.AddNormForwardRefIdeal.τ).loc Cert.AddNormForwardRefIdeal.main_arg0) = m' ((c.tc : Thread Cert.AddNormForwardRefIdeal.nD Cert.AddNormForwardRefIdeal.τ).loc Cert.AddNormForwardRefIdeal.main_arg0)
          ∧ r.2.mem ((c.tc : Thread Cert.AddNormForwardRefIdeal.nD Cert.AddNormForwardRefIdeal.τ).loc Cert.AddNormForwardRefIdeal.main_arg1) = m' ((c.tc : Thread Cert.AddNormForwardRefIdeal.nD Cert.AddNormForwardRefIdeal.τ).loc Cert.AddNormForwardRefIdeal.main_arg1)
          ∧ r.2.mem ((c.tc : Thread Cert.AddNormForwardRefIdeal.nD Cert.AddNormForwardRefIdeal.τ).loc Cert.AddNormForwardRefIdeal.main_arg2) = m' ((c.tc : Thread Cert.AddNormForwardRefIdeal.nD Cert.AddNormForwardRefIdeal.τ).loc Cert.AddNormForwardRefIdeal.main_arg2))

def preserves_SquareForward_SquareForwardIdeal : Prop :=
  True

def algebraic_SquareForwardIdeal_SquareForwardRefIdeal [hSquareForwardIdeal : Cert.SquareForwardIdeal.Facts] [hSquareForwardRefIdeal : Cert.SquareForwardRefIdeal.Facts] : Prop :=
  ∀ (m : (ℓ : Loc Cert.SquareForwardIdeal.nD Cert.SquareForwardIdeal.τ Cert.SquareForwardIdeal.sig) → Buf (Elt Ideal) ℓ) (g : Dev Cert.SquareForwardIdeal.nD → PrngReg)
    (m' : (ℓ : Loc Cert.SquareForwardRefIdeal.nD Cert.SquareForwardRefIdeal.τ Cert.SquareForwardRefIdeal.sig) → Buf (Elt Ideal) ℓ) (g' : Dev Cert.SquareForwardRefIdeal.nD → PrngReg), Pre_SquareForwardIdeal m →
    (∀ c : Dev Cert.SquareForwardIdeal.nD,
      m' ((c.tc : Thread Cert.SquareForwardRefIdeal.nD Cert.SquareForwardRefIdeal.τ).loc Cert.SquareForwardRefIdeal.main_arg0) = m ((c.tc : Thread Cert.SquareForwardIdeal.nD Cert.SquareForwardIdeal.τ).loc Cert.SquareForwardIdeal.main_arg0)) →
    ∃ (v0 : (c : Dev Cert.SquareForwardIdeal.nD) → Buf (Elt Ideal) ((c.tc : Thread Cert.SquareForwardIdeal.nD Cert.SquareForwardIdeal.τ).loc Cert.SquareForwardIdeal.main_v0)),
      θ_run (Cert.SquareForwardIdeal.defs (F := Ideal)) (onTc (τ := Cert.SquareForwardIdeal.τ) (Cert.SquareForwardIdeal.main (F := Ideal))) ⟨m, fun _ => 0, g⟩ (fun r => ∀ c : Dev Cert.SquareForwardIdeal.nD,
          r.2.mem ((c.tc : Thread Cert.SquareForwardIdeal.nD Cert.SquareForwardIdeal.τ).loc Cert.SquareForwardIdeal.main_v0) = v0 c
          ∧ r.2.mem ((c.tc : Thread Cert.SquareForwardIdeal.nD Cert.SquareForwardIdeal.τ).loc Cert.SquareForwardIdeal.main_arg0) = m ((c.tc : Thread Cert.SquareForwardIdeal.nD Cert.SquareForwardIdeal.τ).loc Cert.SquareForwardIdeal.main_arg0))
      ∧ θ_run (Cert.SquareForwardRefIdeal.defs (F := Ideal)) (onTc (τ := Cert.SquareForwardRefIdeal.τ) (Cert.SquareForwardRefIdeal.main (F := Ideal))) ⟨m', fun _ => 0, g'⟩ (fun r => ∀ c : Dev Cert.SquareForwardRefIdeal.nD,
          r.2.mem ((c.tc : Thread Cert.SquareForwardRefIdeal.nD Cert.SquareForwardRefIdeal.τ).loc Cert.SquareForwardRefIdeal.main_v2) = v0 c
          ∧ r.2.mem ((c.tc : Thread Cert.SquareForwardRefIdeal.nD Cert.SquareForwardRefIdeal.τ).loc Cert.SquareForwardRefIdeal.main_arg0) = m' ((c.tc : Thread Cert.SquareForwardRefIdeal.nD Cert.SquareForwardRefIdeal.τ).loc Cert.SquareForwardRefIdeal.main_arg0))

def preserves_ConvBack_ConvBackIdeal : Prop :=
  True

def algebraic_ConvBackIdeal_ConvBackRefIdeal [hConvBackIdeal : Cert.ConvBackIdeal.Facts] [hConvBackRefIdeal : Cert.ConvBackRefIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.ConvBackRefIdeal.nD Cert.ConvBackRefIdeal.τ Cert.ConvBackRefIdeal.sig) → Buf (Elt Ideal) ℓ) (g' : Dev Cert.ConvBackRefIdeal.nD → PrngReg), Pre_ConvBackIdeal m →
    (∀ c : Dev Cert.ConvBackIdeal.nD,
      m' ((c.tc : Thread Cert.ConvBackRefIdeal.nD Cert.ConvBackRefIdeal.τ).loc Cert.ConvBackRefIdeal.main_arg0) = m ((c.tc : Thread Cert.ConvBackIdeal.nD Cert.ConvBackIdeal.τ).loc Cert.ConvBackIdeal.main_arg0)
      ∧ m' ((c.tc : Thread Cert.ConvBackRefIdeal.nD Cert.ConvBackRefIdeal.τ).loc Cert.ConvBackRefIdeal.main_arg1) = m ((c.tc : Thread Cert.ConvBackIdeal.nD Cert.ConvBackIdeal.τ).loc Cert.ConvBackIdeal.main_arg1)) →
    ∃ (v0 : (c : Dev Cert.ConvBackIdeal.nD) → Buf (Elt Ideal) ((c.tc : Thread Cert.ConvBackIdeal.nD Cert.ConvBackIdeal.τ).loc Cert.ConvBackIdeal.main_v0_0)) (v1 : (c : Dev Cert.ConvBackIdeal.nD) → Buf (Elt Ideal) ((c.tc : Thread Cert.ConvBackIdeal.nD Cert.ConvBackIdeal.τ).loc Cert.ConvBackIdeal.main_v0_1)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          r.2.mem ((c.tc : Thread Cert.ConvBackIdeal.nD Cert.ConvBackIdeal.τ).loc Cert.ConvBackIdeal.main_v0_0) = v0 c
          ∧ r.2.mem ((c.tc : Thread Cert.ConvBackIdeal.nD Cert.ConvBackIdeal.τ).loc Cert.ConvBackIdeal.main_v0_1) = v1 c
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1))
      ∧ θ_run (Cert.ConvBackRefIdeal.defs (F := Ideal)) (onTc (τ := Cert.ConvBackRefIdeal.τ) (Cert.ConvBackRefIdeal.main (F := Ideal))) ⟨m', fun _ => 0, g'⟩ (fun r => ∀ c : Dev Cert.ConvBackRefIdeal.nD,
          r.2.mem ((c.tc : Thread Cert.ConvBackRefIdeal.nD Cert.ConvBackRefIdeal.τ).loc Cert.ConvBackRefIdeal.main_v17) = v0 c
          ∧ r.2.mem ((c.tc : Thread Cert.ConvBackRefIdeal.nD Cert.ConvBackRefIdeal.τ).loc Cert.ConvBackRefIdeal.main_v18) = v1 c
          ∧ r.2.mem ((c.tc : Thread Cert.ConvBackRefIdeal.nD Cert.ConvBackRefIdeal.τ).loc Cert.ConvBackRefIdeal.main_arg0) = m' ((c.tc : Thread Cert.ConvBackRefIdeal.nD Cert.ConvBackRefIdeal.τ).loc Cert.ConvBackRefIdeal.main_arg0)
          ∧ r.2.mem ((c.tc : Thread Cert.ConvBackRefIdeal.nD Cert.ConvBackRefIdeal.τ).loc Cert.ConvBackRefIdeal.main_arg1) = m' ((c.tc : Thread Cert.ConvBackRefIdeal.nD Cert.ConvBackRefIdeal.τ).loc Cert.ConvBackRefIdeal.main_arg1))

def Claim : Prop :=
  ∃ (hSwap : Cert.Swap.Facts) (hSwapIdeal : Cert.SwapIdeal.Facts) (hSwapRefIdeal : Cert.SwapRefIdeal.Facts) (hSwapRef : Cert.SwapRef.Facts) (hAllToAll : Cert.AllToAll.Facts) (hAllToAllIdeal : Cert.AllToAllIdeal.Facts) (hAllToAllRefIdeal : Cert.AllToAllRefIdeal.Facts) (hAllToAllRef : Cert.AllToAllRef.Facts) (hPair : Cert.Pair.Facts) (hPairIdeal : Cert.PairIdeal.Facts) (hPairRefIdeal : Cert.PairRefIdeal.Facts) (hPairRef : Cert.PairRef.Facts) (hGather : Cert.Gather.Facts) (hGatherIdeal : Cert.GatherIdeal.Facts) (hGatherRefIdeal : Cert.GatherRefIdeal.Facts) (hGatherRef : Cert.GatherRef.Facts) (hAdd : Cert.Add.Facts) (hAddIdeal : Cert.AddIdeal.Facts) (hAddRefIdeal : Cert.AddRefIdeal.Facts) (hAddRef : Cert.AddRef.Facts) (hSum : Cert.Sum.Facts) (hSumIdeal : Cert.SumIdeal.Facts) (hSumRefIdeal : Cert.SumRefIdeal.Facts) (hAdamWNorm : Cert.AdamWNorm.Facts) (hAdamWNormIdeal : Cert.AdamWNormIdeal.Facts) (hAdamWNormRefIdeal : Cert.AdamWNormRefIdeal.Facts) (hAdamWFinal : Cert.AdamWFinal.Facts) (hAdamWFinalIdeal : Cert.AdamWFinalIdeal.Facts) (hAdamWFinalRefIdeal : Cert.AdamWFinalRefIdeal.Facts) (hAdamWChannel : Cert.AdamWChannel.Facts) (hAdamWChannelIdeal : Cert.AdamWChannelIdeal.Facts) (hAdamWChannelRefIdeal : Cert.AdamWChannelRefIdeal.Facts) (hAdamWConvA : Cert.AdamWConvA.Facts) (hAdamWConvAIdeal : Cert.AdamWConvAIdeal.Facts) (hAdamWConvARefIdeal : Cert.AdamWConvARefIdeal.Facts) (hAdamWConvB : Cert.AdamWConvB.Facts) (hAdamWConvBIdeal : Cert.AdamWConvBIdeal.Facts) (hAdamWConvBRefIdeal : Cert.AdamWConvBRefIdeal.Facts) (hAdamWGate : Cert.AdamWGate.Facts) (hAdamWGateIdeal : Cert.AdamWGateIdeal.Facts) (hAdamWGateRefIdeal : Cert.AdamWGateRefIdeal.Facts) (hAdamWIn : Cert.AdamWIn.Facts) (hAdamWInIdeal : Cert.AdamWInIdeal.Facts) (hAdamWInRefIdeal : Cert.AdamWInRefIdeal.Facts) (hAdamWOut : Cert.AdamWOut.Facts) (hAdamWOutIdeal : Cert.AdamWOutIdeal.Facts) (hAdamWOutRefIdeal : Cert.AdamWOutRefIdeal.Facts) (hAdamWQkv : Cert.AdamWQkv.Facts) (hAdamWQkvIdeal : Cert.AdamWQkvIdeal.Facts) (hAdamWQkvRefIdeal : Cert.AdamWQkvRefIdeal.Facts) (hAdamWMlp : Cert.AdamWMlp.Facts) (hAdamWMlpIdeal : Cert.AdamWMlpIdeal.Facts) (hAdamWMlpRefIdeal : Cert.AdamWMlpRefIdeal.Facts) (hAdamWProj : Cert.AdamWProj.Facts) (hAdamWProjIdeal : Cert.AdamWProjIdeal.Facts) (hAdamWProjRefIdeal : Cert.AdamWProjRefIdeal.Facts) (hAdamWPle : Cert.AdamWPle.Facts) (hAdamWPleIdeal : Cert.AdamWPleIdeal.Facts) (hAdamWPleRefIdeal : Cert.AdamWPleRefIdeal.Facts) (hNnIn : Cert.NnIn.Facts) (hNnInIdeal : Cert.NnInIdeal.Facts) (hNnInRefIdeal : Cert.NnInRefIdeal.Facts) (hNtIn : Cert.NtIn.Facts) (hNtInIdeal : Cert.NtInIdeal.Facts) (hNtInRefIdeal : Cert.NtInRefIdeal.Facts) (hTnIn : Cert.TnIn.Facts) (hTnInIdeal : Cert.TnInIdeal.Facts) (hTnInRefIdeal : Cert.TnInRefIdeal.Facts) (hNnSquare : Cert.NnSquare.Facts) (hNnSquareIdeal : Cert.NnSquareIdeal.Facts) (hNnSquareRefIdeal : Cert.NnSquareRefIdeal.Facts) (hNtSquare : Cert.NtSquare.Facts) (hNtSquareIdeal : Cert.NtSquareIdeal.Facts) (hNtSquareRefIdeal : Cert.NtSquareRefIdeal.Facts) (hTnSquare : Cert.TnSquare.Facts) (hTnSquareIdeal : Cert.TnSquareIdeal.Facts) (hTnSquareRefIdeal : Cert.TnSquareRefIdeal.Facts) (hNnQkv : Cert.NnQkv.Facts) (hNnQkvIdeal : Cert.NnQkvIdeal.Facts) (hNnQkvRefIdeal : Cert.NnQkvRefIdeal.Facts) (hNtQkv : Cert.NtQkv.Facts) (hNtQkvIdeal : Cert.NtQkvIdeal.Facts) (hNtQkvRefIdeal : Cert.NtQkvRefIdeal.Facts) (hTnQkv : Cert.TnQkv.Facts) (hTnQkvIdeal : Cert.TnQkvIdeal.Facts) (hTnQkvRefIdeal : Cert.TnQkvRefIdeal.Facts) (hNnUp : Cert.NnUp.Facts) (hNnUpIdeal : Cert.NnUpIdeal.Facts) (hNnUpRefIdeal : Cert.NnUpRefIdeal.Facts) (hNtUp : Cert.NtUp.Facts) (hNtUpIdeal : Cert.NtUpIdeal.Facts) (hNtUpRefIdeal : Cert.NtUpRefIdeal.Facts) (hTnUp : Cert.TnUp.Facts) (hTnUpIdeal : Cert.TnUpIdeal.Facts) (hTnUpRefIdeal : Cert.TnUpRefIdeal.Facts) (hNnDown : Cert.NnDown.Facts) (hNnDownIdeal : Cert.NnDownIdeal.Facts) (hNnDownRefIdeal : Cert.NnDownRefIdeal.Facts) (hNtDown : Cert.NtDown.Facts) (hNtDownIdeal : Cert.NtDownIdeal.Facts) (hNtDownRefIdeal : Cert.NtDownRefIdeal.Facts) (hTnDown : Cert.TnDown.Facts) (hTnDownIdeal : Cert.TnDownIdeal.Facts) (hTnDownRefIdeal : Cert.TnDownRefIdeal.Facts) (hTnProj : Cert.TnProj.Facts) (hTnProjIdeal : Cert.TnProjIdeal.Facts) (hTnProjRefIdeal : Cert.TnProjRefIdeal.Facts) (hNtAttn : Cert.NtAttn.Facts) (hNtAttnIdeal : Cert.NtAttnIdeal.Facts) (hNtAttnRefIdeal : Cert.NtAttnRefIdeal.Facts) (hNormBack : Cert.NormBack.Facts) (hNormBackIdeal : Cert.NormBackIdeal.Facts) (hNormBackRefIdeal : Cert.NormBackRefIdeal.Facts) (hAddNormBack : Cert.AddNormBack.Facts) (hAddNormBackIdeal : Cert.AddNormBackIdeal.Facts) (hAddNormBackRefIdeal : Cert.AddNormBackRefIdeal.Facts) (hLossHead : Cert.LossHead.Facts) (hLossHeadIdeal : Cert.LossHeadIdeal.Facts) (hLossHeadRefIdeal : Cert.LossHeadRefIdeal.Facts) (hHeadsBack : Cert.HeadsBack.Facts) (hHeadsBackIdeal : Cert.HeadsBackIdeal.Facts) (hHeadsBackRefIdeal : Cert.HeadsBackRefIdeal.Facts) (hNormForward : Cert.NormForward.Facts) (hNormForwardIdeal : Cert.NormForwardIdeal.Facts) (hNormForwardRefIdeal : Cert.NormForwardRefIdeal.Facts) (hAddNormForward : Cert.AddNormForward.Facts) (hAddNormForwardIdeal : Cert.AddNormForwardIdeal.Facts) (hAddNormForwardRefIdeal : Cert.AddNormForwardRefIdeal.Facts) (hSquareForward : Cert.SquareForward.Facts) (hSquareForwardIdeal : Cert.SquareForwardIdeal.Facts) (hSquareForwardRefIdeal : Cert.SquareForwardRefIdeal.Facts) (hConvBack : Cert.ConvBack.Facts) (hConvBackIdeal : Cert.ConvBackIdeal.Facts) (hConvBackRefIdeal : Cert.ConvBackRefIdeal.Facts),
    quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_AllToAll (hAllToAll := hAllToAll)
    ∧ quiescent_AllToAllIdeal (hAllToAllIdeal := hAllToAllIdeal)
    ∧ quiescent_AllToAllRefIdeal (hAllToAllRefIdeal := hAllToAllRefIdeal)
    ∧ quiescent_AllToAllRef (hAllToAllRef := hAllToAllRef)
    ∧ quiescent_Pair (hPair := hPair)
    ∧ quiescent_PairIdeal (hPairIdeal := hPairIdeal)
    ∧ quiescent_PairRefIdeal (hPairRefIdeal := hPairRefIdeal)
    ∧ quiescent_PairRef (hPairRef := hPairRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Add (hAdd := hAdd)
    ∧ quiescent_AddIdeal (hAddIdeal := hAddIdeal)
    ∧ quiescent_AddRefIdeal (hAddRefIdeal := hAddRefIdeal)
    ∧ quiescent_AddRef (hAddRef := hAddRef)
    ∧ quiescent_Sum (hSum := hSum)
    ∧ quiescent_SumIdeal (hSumIdeal := hSumIdeal)
    ∧ quiescent_SumRefIdeal (hSumRefIdeal := hSumRefIdeal)
    ∧ quiescent_AdamWNorm (hAdamWNorm := hAdamWNorm)
    ∧ quiescent_AdamWNormIdeal (hAdamWNormIdeal := hAdamWNormIdeal)
    ∧ quiescent_AdamWNormRefIdeal (hAdamWNormRefIdeal := hAdamWNormRefIdeal)
    ∧ quiescent_AdamWFinal (hAdamWFinal := hAdamWFinal)
    ∧ quiescent_AdamWFinalIdeal (hAdamWFinalIdeal := hAdamWFinalIdeal)
    ∧ quiescent_AdamWFinalRefIdeal (hAdamWFinalRefIdeal := hAdamWFinalRefIdeal)
    ∧ quiescent_AdamWChannel (hAdamWChannel := hAdamWChannel)
    ∧ quiescent_AdamWChannelIdeal (hAdamWChannelIdeal := hAdamWChannelIdeal)
    ∧ quiescent_AdamWChannelRefIdeal (hAdamWChannelRefIdeal := hAdamWChannelRefIdeal)
    ∧ quiescent_AdamWConvA (hAdamWConvA := hAdamWConvA)
    ∧ quiescent_AdamWConvAIdeal (hAdamWConvAIdeal := hAdamWConvAIdeal)
    ∧ quiescent_AdamWConvARefIdeal (hAdamWConvARefIdeal := hAdamWConvARefIdeal)
    ∧ quiescent_AdamWConvB (hAdamWConvB := hAdamWConvB)
    ∧ quiescent_AdamWConvBIdeal (hAdamWConvBIdeal := hAdamWConvBIdeal)
    ∧ quiescent_AdamWConvBRefIdeal (hAdamWConvBRefIdeal := hAdamWConvBRefIdeal)
    ∧ quiescent_AdamWGate (hAdamWGate := hAdamWGate)
    ∧ quiescent_AdamWGateIdeal (hAdamWGateIdeal := hAdamWGateIdeal)
    ∧ quiescent_AdamWGateRefIdeal (hAdamWGateRefIdeal := hAdamWGateRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWQkv (hAdamWQkv := hAdamWQkv)
    ∧ quiescent_AdamWQkvIdeal (hAdamWQkvIdeal := hAdamWQkvIdeal)
    ∧ quiescent_AdamWQkvRefIdeal (hAdamWQkvRefIdeal := hAdamWQkvRefIdeal)
    ∧ quiescent_AdamWMlp (hAdamWMlp := hAdamWMlp)
    ∧ quiescent_AdamWMlpIdeal (hAdamWMlpIdeal := hAdamWMlpIdeal)
    ∧ quiescent_AdamWMlpRefIdeal (hAdamWMlpRefIdeal := hAdamWMlpRefIdeal)
    ∧ quiescent_AdamWProj (hAdamWProj := hAdamWProj)
    ∧ quiescent_AdamWProjIdeal (hAdamWProjIdeal := hAdamWProjIdeal)
    ∧ quiescent_AdamWProjRefIdeal (hAdamWProjRefIdeal := hAdamWProjRefIdeal)
    ∧ quiescent_AdamWPle (hAdamWPle := hAdamWPle)
    ∧ quiescent_AdamWPleIdeal (hAdamWPleIdeal := hAdamWPleIdeal)
    ∧ quiescent_AdamWPleRefIdeal (hAdamWPleRefIdeal := hAdamWPleRefIdeal)
    ∧ quiescent_NnIn (hNnIn := hNnIn)
    ∧ quiescent_NnInIdeal (hNnInIdeal := hNnInIdeal)
    ∧ quiescent_NnInRefIdeal (hNnInRefIdeal := hNnInRefIdeal)
    ∧ quiescent_NtIn (hNtIn := hNtIn)
    ∧ quiescent_NtInIdeal (hNtInIdeal := hNtInIdeal)
    ∧ quiescent_NtInRefIdeal (hNtInRefIdeal := hNtInRefIdeal)
    ∧ quiescent_TnIn (hTnIn := hTnIn)
    ∧ quiescent_TnInIdeal (hTnInIdeal := hTnInIdeal)
    ∧ quiescent_TnInRefIdeal (hTnInRefIdeal := hTnInRefIdeal)
    ∧ quiescent_NnSquare (hNnSquare := hNnSquare)
    ∧ quiescent_NnSquareIdeal (hNnSquareIdeal := hNnSquareIdeal)
    ∧ quiescent_NnSquareRefIdeal (hNnSquareRefIdeal := hNnSquareRefIdeal)
    ∧ quiescent_NtSquare (hNtSquare := hNtSquare)
    ∧ quiescent_NtSquareIdeal (hNtSquareIdeal := hNtSquareIdeal)
    ∧ quiescent_NtSquareRefIdeal (hNtSquareRefIdeal := hNtSquareRefIdeal)
    ∧ quiescent_TnSquare (hTnSquare := hTnSquare)
    ∧ quiescent_TnSquareIdeal (hTnSquareIdeal := hTnSquareIdeal)
    ∧ quiescent_TnSquareRefIdeal (hTnSquareRefIdeal := hTnSquareRefIdeal)
    ∧ quiescent_NnQkv (hNnQkv := hNnQkv)
    ∧ quiescent_NnQkvIdeal (hNnQkvIdeal := hNnQkvIdeal)
    ∧ quiescent_NnQkvRefIdeal (hNnQkvRefIdeal := hNnQkvRefIdeal)
    ∧ quiescent_NtQkv (hNtQkv := hNtQkv)
    ∧ quiescent_NtQkvIdeal (hNtQkvIdeal := hNtQkvIdeal)
    ∧ quiescent_NtQkvRefIdeal (hNtQkvRefIdeal := hNtQkvRefIdeal)
    ∧ quiescent_TnQkv (hTnQkv := hTnQkv)
    ∧ quiescent_TnQkvIdeal (hTnQkvIdeal := hTnQkvIdeal)
    ∧ quiescent_TnQkvRefIdeal (hTnQkvRefIdeal := hTnQkvRefIdeal)
    ∧ quiescent_NnUp (hNnUp := hNnUp)
    ∧ quiescent_NnUpIdeal (hNnUpIdeal := hNnUpIdeal)
    ∧ quiescent_NnUpRefIdeal (hNnUpRefIdeal := hNnUpRefIdeal)
    ∧ quiescent_NtUp (hNtUp := hNtUp)
    ∧ quiescent_NtUpIdeal (hNtUpIdeal := hNtUpIdeal)
    ∧ quiescent_NtUpRefIdeal (hNtUpRefIdeal := hNtUpRefIdeal)
    ∧ quiescent_TnUp (hTnUp := hTnUp)
    ∧ quiescent_TnUpIdeal (hTnUpIdeal := hTnUpIdeal)
    ∧ quiescent_TnUpRefIdeal (hTnUpRefIdeal := hTnUpRefIdeal)
    ∧ quiescent_NnDown (hNnDown := hNnDown)
    ∧ quiescent_NnDownIdeal (hNnDownIdeal := hNnDownIdeal)
    ∧ quiescent_NnDownRefIdeal (hNnDownRefIdeal := hNnDownRefIdeal)
    ∧ quiescent_NtDown (hNtDown := hNtDown)
    ∧ quiescent_NtDownIdeal (hNtDownIdeal := hNtDownIdeal)
    ∧ quiescent_NtDownRefIdeal (hNtDownRefIdeal := hNtDownRefIdeal)
    ∧ quiescent_TnDown (hTnDown := hTnDown)
    ∧ quiescent_TnDownIdeal (hTnDownIdeal := hTnDownIdeal)
    ∧ quiescent_TnDownRefIdeal (hTnDownRefIdeal := hTnDownRefIdeal)
    ∧ quiescent_TnProj (hTnProj := hTnProj)
    ∧ quiescent_TnProjIdeal (hTnProjIdeal := hTnProjIdeal)
    ∧ quiescent_TnProjRefIdeal (hTnProjRefIdeal := hTnProjRefIdeal)
    ∧ quiescent_NtAttn (hNtAttn := hNtAttn)
    ∧ quiescent_NtAttnIdeal (hNtAttnIdeal := hNtAttnIdeal)
    ∧ quiescent_NtAttnRefIdeal (hNtAttnRefIdeal := hNtAttnRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_AddNormBack (hAddNormBack := hAddNormBack)
    ∧ quiescent_AddNormBackIdeal (hAddNormBackIdeal := hAddNormBackIdeal)
    ∧ quiescent_AddNormBackRefIdeal (hAddNormBackRefIdeal := hAddNormBackRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_HeadsBack (hHeadsBack := hHeadsBack)
    ∧ quiescent_HeadsBackIdeal (hHeadsBackIdeal := hHeadsBackIdeal)
    ∧ quiescent_HeadsBackRefIdeal (hHeadsBackRefIdeal := hHeadsBackRefIdeal)
    ∧ quiescent_NormForward (hNormForward := hNormForward)
    ∧ quiescent_NormForwardIdeal (hNormForwardIdeal := hNormForwardIdeal)
    ∧ quiescent_NormForwardRefIdeal (hNormForwardRefIdeal := hNormForwardRefIdeal)
    ∧ quiescent_AddNormForward (hAddNormForward := hAddNormForward)
    ∧ quiescent_AddNormForwardIdeal (hAddNormForwardIdeal := hAddNormForwardIdeal)
    ∧ quiescent_AddNormForwardRefIdeal (hAddNormForwardRefIdeal := hAddNormForwardRefIdeal)
    ∧ quiescent_SquareForward (hSquareForward := hSquareForward)
    ∧ quiescent_SquareForwardIdeal (hSquareForwardIdeal := hSquareForwardIdeal)
    ∧ quiescent_SquareForwardRefIdeal (hSquareForwardRefIdeal := hSquareForwardRefIdeal)
    ∧ quiescent_ConvBack (hConvBack := hConvBack)
    ∧ quiescent_ConvBackIdeal (hConvBackIdeal := hConvBackIdeal)
    ∧ quiescent_ConvBackRefIdeal (hConvBackRefIdeal := hConvBackRefIdeal)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_AllToAll_AllToAllIdeal
    ∧ algebraic_AllToAllIdeal_AllToAllRefIdeal (hAllToAllIdeal := hAllToAllIdeal) (hAllToAllRefIdeal := hAllToAllRefIdeal)
    ∧ bitexact_AllToAll_AllToAllRef (hAllToAll := hAllToAll) (hAllToAllRef := hAllToAllRef)
    ∧ preserves_Pair_PairIdeal
    ∧ algebraic_PairIdeal_PairRefIdeal (hPairIdeal := hPairIdeal) (hPairRefIdeal := hPairRefIdeal)
    ∧ bitexact_Pair_PairRef (hPair := hPair) (hPairRef := hPairRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Add_AddIdeal
    ∧ algebraic_AddIdeal_AddRefIdeal (hAddIdeal := hAddIdeal) (hAddRefIdeal := hAddRefIdeal)
    ∧ bitexact_Add_AddRef (hAdd := hAdd) (hAddRef := hAddRef)
    ∧ preserves_Sum_SumIdeal
    ∧ algebraic_SumIdeal_SumRefIdeal (hSumIdeal := hSumIdeal) (hSumRefIdeal := hSumRefIdeal)
    ∧ preserves_AdamWNorm_AdamWNormIdeal
    ∧ algebraic_AdamWNormIdeal_AdamWNormRefIdeal (hAdamWNormIdeal := hAdamWNormIdeal) (hAdamWNormRefIdeal := hAdamWNormRefIdeal)
    ∧ preserves_AdamWFinal_AdamWFinalIdeal
    ∧ algebraic_AdamWFinalIdeal_AdamWFinalRefIdeal (hAdamWFinalIdeal := hAdamWFinalIdeal) (hAdamWFinalRefIdeal := hAdamWFinalRefIdeal)
    ∧ preserves_AdamWChannel_AdamWChannelIdeal
    ∧ algebraic_AdamWChannelIdeal_AdamWChannelRefIdeal (hAdamWChannelIdeal := hAdamWChannelIdeal) (hAdamWChannelRefIdeal := hAdamWChannelRefIdeal)
    ∧ preserves_AdamWConvA_AdamWConvAIdeal
    ∧ algebraic_AdamWConvAIdeal_AdamWConvARefIdeal (hAdamWConvAIdeal := hAdamWConvAIdeal) (hAdamWConvARefIdeal := hAdamWConvARefIdeal)
    ∧ preserves_AdamWConvB_AdamWConvBIdeal
    ∧ algebraic_AdamWConvBIdeal_AdamWConvBRefIdeal (hAdamWConvBIdeal := hAdamWConvBIdeal) (hAdamWConvBRefIdeal := hAdamWConvBRefIdeal)
    ∧ preserves_AdamWGate_AdamWGateIdeal
    ∧ algebraic_AdamWGateIdeal_AdamWGateRefIdeal (hAdamWGateIdeal := hAdamWGateIdeal) (hAdamWGateRefIdeal := hAdamWGateRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWQkv_AdamWQkvIdeal
    ∧ algebraic_AdamWQkvIdeal_AdamWQkvRefIdeal (hAdamWQkvIdeal := hAdamWQkvIdeal) (hAdamWQkvRefIdeal := hAdamWQkvRefIdeal)
    ∧ preserves_AdamWMlp_AdamWMlpIdeal
    ∧ algebraic_AdamWMlpIdeal_AdamWMlpRefIdeal (hAdamWMlpIdeal := hAdamWMlpIdeal) (hAdamWMlpRefIdeal := hAdamWMlpRefIdeal)
    ∧ preserves_AdamWProj_AdamWProjIdeal
    ∧ algebraic_AdamWProjIdeal_AdamWProjRefIdeal (hAdamWProjIdeal := hAdamWProjIdeal) (hAdamWProjRefIdeal := hAdamWProjRefIdeal)
    ∧ preserves_AdamWPle_AdamWPleIdeal
    ∧ algebraic_AdamWPleIdeal_AdamWPleRefIdeal (hAdamWPleIdeal := hAdamWPleIdeal) (hAdamWPleRefIdeal := hAdamWPleRefIdeal)
    ∧ preserves_NnIn_NnInIdeal
    ∧ algebraic_NnInIdeal_NnInRefIdeal (hNnInIdeal := hNnInIdeal) (hNnInRefIdeal := hNnInRefIdeal)
    ∧ preserves_NtIn_NtInIdeal
    ∧ algebraic_NtInIdeal_NtInRefIdeal (hNtInIdeal := hNtInIdeal) (hNtInRefIdeal := hNtInRefIdeal)
    ∧ preserves_TnIn_TnInIdeal
    ∧ algebraic_TnInIdeal_TnInRefIdeal (hTnInIdeal := hTnInIdeal) (hTnInRefIdeal := hTnInRefIdeal)
    ∧ preserves_NnSquare_NnSquareIdeal
    ∧ algebraic_NnSquareIdeal_NnSquareRefIdeal (hNnSquareIdeal := hNnSquareIdeal) (hNnSquareRefIdeal := hNnSquareRefIdeal)
    ∧ preserves_NtSquare_NtSquareIdeal
    ∧ algebraic_NtSquareIdeal_NtSquareRefIdeal (hNtSquareIdeal := hNtSquareIdeal) (hNtSquareRefIdeal := hNtSquareRefIdeal)
    ∧ preserves_TnSquare_TnSquareIdeal
    ∧ algebraic_TnSquareIdeal_TnSquareRefIdeal (hTnSquareIdeal := hTnSquareIdeal) (hTnSquareRefIdeal := hTnSquareRefIdeal)
    ∧ preserves_NnQkv_NnQkvIdeal
    ∧ algebraic_NnQkvIdeal_NnQkvRefIdeal (hNnQkvIdeal := hNnQkvIdeal) (hNnQkvRefIdeal := hNnQkvRefIdeal)
    ∧ preserves_NtQkv_NtQkvIdeal
    ∧ algebraic_NtQkvIdeal_NtQkvRefIdeal (hNtQkvIdeal := hNtQkvIdeal) (hNtQkvRefIdeal := hNtQkvRefIdeal)
    ∧ preserves_TnQkv_TnQkvIdeal
    ∧ algebraic_TnQkvIdeal_TnQkvRefIdeal (hTnQkvIdeal := hTnQkvIdeal) (hTnQkvRefIdeal := hTnQkvRefIdeal)
    ∧ preserves_NnUp_NnUpIdeal
    ∧ algebraic_NnUpIdeal_NnUpRefIdeal (hNnUpIdeal := hNnUpIdeal) (hNnUpRefIdeal := hNnUpRefIdeal)
    ∧ preserves_NtUp_NtUpIdeal
    ∧ algebraic_NtUpIdeal_NtUpRefIdeal (hNtUpIdeal := hNtUpIdeal) (hNtUpRefIdeal := hNtUpRefIdeal)
    ∧ preserves_TnUp_TnUpIdeal
    ∧ algebraic_TnUpIdeal_TnUpRefIdeal (hTnUpIdeal := hTnUpIdeal) (hTnUpRefIdeal := hTnUpRefIdeal)
    ∧ preserves_NnDown_NnDownIdeal
    ∧ algebraic_NnDownIdeal_NnDownRefIdeal (hNnDownIdeal := hNnDownIdeal) (hNnDownRefIdeal := hNnDownRefIdeal)
    ∧ preserves_NtDown_NtDownIdeal
    ∧ algebraic_NtDownIdeal_NtDownRefIdeal (hNtDownIdeal := hNtDownIdeal) (hNtDownRefIdeal := hNtDownRefIdeal)
    ∧ preserves_TnDown_TnDownIdeal
    ∧ algebraic_TnDownIdeal_TnDownRefIdeal (hTnDownIdeal := hTnDownIdeal) (hTnDownRefIdeal := hTnDownRefIdeal)
    ∧ preserves_TnProj_TnProjIdeal
    ∧ algebraic_TnProjIdeal_TnProjRefIdeal (hTnProjIdeal := hTnProjIdeal) (hTnProjRefIdeal := hTnProjRefIdeal)
    ∧ preserves_NtAttn_NtAttnIdeal
    ∧ algebraic_NtAttnIdeal_NtAttnRefIdeal (hNtAttnIdeal := hNtAttnIdeal) (hNtAttnRefIdeal := hNtAttnRefIdeal)
    ∧ preserves_NormBack_NormBackIdeal
    ∧ algebraic_NormBackIdeal_NormBackRefIdeal (hNormBackIdeal := hNormBackIdeal) (hNormBackRefIdeal := hNormBackRefIdeal)
    ∧ preserves_AddNormBack_AddNormBackIdeal
    ∧ algebraic_AddNormBackIdeal_AddNormBackRefIdeal (hAddNormBackIdeal := hAddNormBackIdeal) (hAddNormBackRefIdeal := hAddNormBackRefIdeal)
    ∧ preserves_LossHead_LossHeadIdeal
    ∧ algebraic_LossHeadIdeal_LossHeadRefIdeal (hLossHeadIdeal := hLossHeadIdeal) (hLossHeadRefIdeal := hLossHeadRefIdeal)
    ∧ preserves_HeadsBack_HeadsBackIdeal
    ∧ algebraic_HeadsBackIdeal_HeadsBackRefIdeal (hHeadsBackIdeal := hHeadsBackIdeal) (hHeadsBackRefIdeal := hHeadsBackRefIdeal)
    ∧ preserves_NormForward_NormForwardIdeal
    ∧ algebraic_NormForwardIdeal_NormForwardRefIdeal (hNormForwardIdeal := hNormForwardIdeal) (hNormForwardRefIdeal := hNormForwardRefIdeal)
    ∧ preserves_AddNormForward_AddNormForwardIdeal
    ∧ algebraic_AddNormForwardIdeal_AddNormForwardRefIdeal (hAddNormForwardIdeal := hAddNormForwardIdeal) (hAddNormForwardRefIdeal := hAddNormForwardRefIdeal)
    ∧ preserves_SquareForward_SquareForwardIdeal
    ∧ algebraic_SquareForwardIdeal_SquareForwardRefIdeal (hSquareForwardIdeal := hSquareForwardIdeal) (hSquareForwardRefIdeal := hSquareForwardRefIdeal)
    ∧ preserves_ConvBack_ConvBackIdeal
    ∧ algebraic_ConvBackIdeal_ConvBackRefIdeal (hConvBackIdeal := hConvBackIdeal) (hConvBackRefIdeal := hConvBackRefIdeal)
-- ==== Swap.lean ====
abbrev S4x2x13440x512 : Shape := ⟨4, ![4, 2, 13440, 512]⟩
abbrev S4x13440x512 : Shape := ⟨3, ![4, 13440, 512]⟩
abbrev S4 : Shape := ⟨1, ![4]⟩
abbrev S1 : Shape := ⟨1, ![1]⟩
abbrev S_ : Shape := ⟨0, ![]⟩
abbrev S1x13440x512 : Shape := ⟨3, ![1, 13440, 512]⟩
abbrev S13440x512 : Shape := ⟨2, ![13440, 512]⟩
abbrev S1x1x13440x512 : Shape := ⟨4, ![1, 1, 13440, 512]⟩

abbrev nBuf : Space → Nat
  | .hbm => 2
  | .vmem => 0
  | .smem => 0
  | _ => 0

abbrev bufTy : (tb : Table) → Fin (tcTables nBuf tb) → BufTy
  | .hbm, ⟨0, _⟩ => ⟨S4x2x13440x512, .f32⟩
  | .hbm, ⟨1, _⟩ => ⟨S4x13440x512, .f32⟩
  | _, _ => ⟨S4x2x13440x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_20 : BitVec 32 := 0#32
  let c0_i32_21 : BitVec 32 := 0#32
  ![0, v9.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_17 : BitVec 32 := 1#32
  let v21 : BitVec 32 := Scalar.muli v10 c1_i32_17
  let v22 : BitVec 32 := Scalar.addi v20 v21
  v22.toNat
def k0_off2 (d0 : Dev nD) : Fin 4 → Nat :=
  let c1_i32_22 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![1, v11.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v31 : BitVec 32 := Scalar.muli v2 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_29 : BitVec 32 := 1#32
  let v35 : BitVec 32 := Scalar.muli v12 c1_i32_29
  let v36 : BitVec 32 := Scalar.addi v34 v35
  v36.toNat
def k0_off3 (d0 : Dev nD) : Fin 4 → Nat :=
  let c2_i32_34 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_44 : BitVec 32 := 0#32
  let c0_i32_45 : BitVec 32 := 0#32
  ![2, v13.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v45 : BitVec 32 := Scalar.muli v2 c4_i32_38
  let v46 : BitVec 32 := Scalar.addi c0_i32_39 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v47 : BitVec 32 := Scalar.muli v5 c2_i32_40
  let v48 : BitVec 32 := Scalar.addi v46 v47
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v49 : BitVec 32 := Scalar.muli v14 c1_i32_41
  let v50 : BitVec 32 := Scalar.addi v48 v49
  v50.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_55 : BitVec 32 := 0#32
  let c0_i32_56 : BitVec 32 := 0#32
  ![3, v15.toNat, 0, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v59 : BitVec 32 := Scalar.muli v2 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v61 : BitVec 32 := Scalar.muli v5 c2_i32_51
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_52 : BitVec 32 := 1#32
  let v63 : BitVec 32 := Scalar.muli v16 c1_i32_52
  let v64 : BitVec 32 := Scalar.addi v62 v63
  v64.toNat
-- ==== SwapRef.lean ====
abbrev S32x2x13440x512 : Shape := ⟨4, ![32, 2, 13440, 512]⟩
abbrev S4x2x4x2x13440x512 : Shape := ⟨6, ![4, 2, 4, 2, 13440, 512]⟩
abbrev S4x1x4x1x13440x512 : Shape := ⟨6, ![4, 1, 4, 1, 13440, 512]⟩
abbrev S4x4x13440x512 : Shape := ⟨4, ![4, 4, 13440, 512]⟩
abbrev S4x1x4x13440x512 : Shape := ⟨5, ![4, 1, 4, 13440, 512]⟩
abbrev S4x2x4x13440x512 : Shape := ⟨5, ![4, 2, 4, 13440, 512]⟩
abbrev S32x13440x512 : Shape := ⟨3, ![32, 13440, 512]⟩

abbrev nBuf : Space → Nat
  | .hbm => 10
  | .vmem => 0
  | .smem => 0
  | _ => 0

abbrev bufTy : (tb : Table) → Fin (tcTables nBuf tb) → BufTy
  | .hbm, ⟨0, _⟩ => ⟨S32x2x13440x512, .f32⟩
  | .hbm, ⟨1, _⟩ => ⟨S4x2x4x2x13440x512, .f32⟩
  | .hbm, ⟨2, _⟩ => ⟨S4x1x4x1x13440x512, .f32⟩
  | .hbm, ⟨3, _⟩ => ⟨S4x4x13440x512, .f32⟩
  | .hbm, ⟨4, _⟩ => ⟨S4x1x4x1x13440x512, .f32⟩
  | .hbm, ⟨5, _⟩ => ⟨S4x4x13440x512, .f32⟩
  | .hbm, ⟨6, _⟩ => ⟨S4x1x4x13440x512, .f32⟩
  | .hbm, ⟨7, _⟩ => ⟨S4x1x4x13440x512, .f32⟩
  | .hbm, ⟨8, _⟩ => ⟨S4x2x4x13440x512, .f32⟩
  | .hbm, ⟨9, _⟩ => ⟨S32x13440x512, .f32⟩
  | _, _ => ⟨S32x2x13440x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== AllToAll.lean ====
abbrev S4x13440x512 : Shape := ⟨3, ![4, 13440, 512]⟩
abbrev S3 : Shape := ⟨1, ![3]⟩
abbrev S_ : Shape := ⟨0, ![]⟩
abbrev S1x13440x512 : Shape := ⟨3, ![1, 13440, 512]⟩
abbrev S13440x512 : Shape := ⟨2, ![13440, 512]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x13440x512, .f32⟩
  | .hbm, ⟨1, _⟩ => ⟨S4x13440x512, .f32⟩
  | _, _ => ⟨S4x13440x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_8 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v17 : BitVec 32 := Scalar.addi v16 v15
  let c0_i32_22 : BitVec 32 := 0#32
  let c0_i32_23 : BitVec 32 := 0#32
  ![v17.toNat, 0, 0]
def k0_dev1 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_18 : BitVec 32 := 2#32
  let v27 : BitVec 32 := Scalar.muli v15 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v19 : BitVec 32 := Scalar.muli c2_i32_10 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_32 : BitVec 32 := 0#32
  let c0_i32_33 : BitVec 32 := 0#32
  ![v20.toNat, 0, 0]
def k0_dev2 (d0 : Dev nD) : Nat :=
  let c0_i32_27 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_26 : BitVec 32 := 4#32
  let v39 : BitVec 32 := Scalar.muli v18 c4_i32_26
  let v40 : BitVec 32 := Scalar.addi c0_i32_27 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v41 : BitVec 32 := Scalar.muli v5 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let v23 : BitVec 32 := Scalar.muli c2_i32_13 v21
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v24 : BitVec 32 := Scalar.addi v23 v22
  let c0_i32_42 : BitVec 32 := 0#32
  let c0_i32_43 : BitVec 32 := 0#32
  ![v24.toNat, 0, 0]
def k0_dev3 (d0 : Dev nD) : Nat :=
  let c0_i32_37 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_36 : BitVec 32 := 4#32
  let v53 : BitVec 32 := Scalar.muli v21 c4_i32_36
  let v54 : BitVec 32 := Scalar.addi c0_i32_37 v53
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_38 : BitVec 32 := 2#32
  let v55 : BitVec 32 := Scalar.muli v22 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== AllToAllRef.lean ====
abbrev S32x13440x512 : Shape := ⟨3, ![32, 13440, 512]⟩
abbrev S4x2x4x13440x512 : Shape := ⟨5, ![4, 2, 4, 13440, 512]⟩

abbrev nBuf : Space → Nat
  | .hbm => 4
  | .vmem => 0
  | .smem => 0
  | _ => 0

abbrev bufTy : (tb : Table) → Fin (tcTables nBuf tb) → BufTy
  | .hbm, ⟨0, _⟩ => ⟨S32x13440x512, .f32⟩
  | .hbm, ⟨1, _⟩ => ⟨S4x2x4x13440x512, .f32⟩
  | .hbm, ⟨2, _⟩ => ⟨S4x2x4x13440x512, .f32⟩
  | .hbm, ⟨3, _⟩ => ⟨S32x13440x512, .f32⟩
  | _, _ => ⟨S32x13440x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Pair.lean ====
abbrev S13440x512 : Shape := ⟨2, ![13440, 512]⟩
abbrev S2x13440x512 : Shape := ⟨3, ![2, 13440, 512]⟩
abbrev S_ : Shape := ⟨0, ![]⟩
abbrev S1x13440x512 : Shape := ⟨3, ![1, 13440, 512]⟩

abbrev nBuf : Space → Nat
  | .hbm => 2
  | .vmem => 0
  | .smem => 0
  | _ => 0

abbrev bufTy : (tb : Table) → Fin (tcTables nBuf tb) → BufTy
  | .hbm, ⟨0, _⟩ => ⟨S13440x512, .f32⟩
  | .hbm, ⟨1, _⟩ => ⟨S2x13440x512, .f32⟩
  | _, _ => ⟨S13440x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_4 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v16 : BitVec 32 := Scalar.muli v9 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_16 : BitVec 32 := 0#32
  let c0_i32_17 : BitVec 32 := 0#32
  ![v20.toNat, 0, 0]
-- ==== PairRef.lean ====
abbrev S107520x512 : Shape := ⟨2, ![107520, 512]⟩
abbrev S8x13440x512 : Shape := ⟨3, ![8, 13440, 512]⟩

abbrev nBuf : Space → Nat
  | .hbm => 2
  | .vmem => 0
  | .smem => 0
  | _ => 0

abbrev bufTy : (tb : Table) → Fin (tcTables nBuf tb) → BufTy
  | .hbm, ⟨0, _⟩ => ⟨S107520x512, .f32⟩
  | .hbm, ⟨1, _⟩ => ⟨S8x13440x512, .f32⟩
  | _, _ => ⟨S107520x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Gather.lean ====
abbrev S26880x512 : Shape := ⟨2, ![26880, 512]⟩
abbrev S107520x512 : Shape := ⟨2, ![107520, 512]⟩
abbrev S6 : Shape := ⟨1, ![6]⟩
abbrev S_ : Shape := ⟨0, ![]⟩
abbrev S1 : Shape := ⟨1, ![1]⟩
abbrev S13440x512 : Shape := ⟨2, ![13440, 512]⟩

abbrev nBuf : Space → Nat
  | .hbm => 2
  | .vmem => 0
  | .smem => 0
  | _ => 0

abbrev bufTy : (tb : Table) → Fin (tcTables nBuf tb) → BufTy
  | .hbm, ⟨0, _⟩ => ⟨S26880x512, .bf16⟩
  | .hbm, ⟨1, _⟩ => ⟨S107520x512, .bf16⟩
  | _, _ => ⟨S26880x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let c13440_i32 : BitVec 32 := 13440#32
  let v17 : BitVec 32 := Scalar.muli v16 c13440_i32
  let c0_i32 : BitVec 32 := 0#32
  ![v17.toNat, 0]
def k0_off2 (d0 : Dev nD) : Fin 2 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c4_i32_11 v2
  let c2_i32_12 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.muli c2_i32_12 v5
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.addi v22 v8
  let c13440_i32_13 : BitVec 32 := 13440#32
  let v24 : BitVec 32 := Scalar.muli v23 c13440_i32_13
  let c0_i32_26 : BitVec 32 := 0#32
  ![v24.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c13440_i32_10 : BitVec 32 := 13440#32
  let v19 : BitVec 32 := Scalar.muli v8 c13440_i32_10
  let c0_i32_27 : BitVec 32 := 0#32
  ![v19.toNat, 0]
def k0_dev1 (d0 : Dev nD) : Nat :=
  let c0_i32_23 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_22 : BitVec 32 := 4#32
  let v35 : BitVec 32 := Scalar.muli v10 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_dev2 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v47 : BitVec 32 := Scalar.muli v2 c4_i32_30
  let v48 : BitVec 32 := Scalar.addi c0_i32_31 v47
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_32 : BitVec 32 := 2#32
  let v49 : BitVec 32 := Scalar.muli v11 c2_i32_32
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v51 : BitVec 32 := Scalar.muli v8 c1_i32_33
  let v52 : BitVec 32 := Scalar.addi v50 v51
  v52.toNat
def k0_dev3 (d0 : Dev nD) : Nat :=
  let c0_i32_39 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_38 : BitVec 32 := 4#32
  let v59 : BitVec 32 := Scalar.muli v12 c4_i32_38
  let v60 : BitVec 32 := Scalar.addi c0_i32_39 v59
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_40 : BitVec 32 := 2#32
  let v61 : BitVec 32 := Scalar.muli v13 c2_i32_40
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v63 : BitVec 32 := Scalar.muli v8 c1_i32_41
  let v64 : BitVec 32 := Scalar.addi v62 v63
  v64.toNat
def k0_off4 (d0 : Dev nD) : Fin 2 → Nat :=
  let c4_i32_62 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v101 : BitVec 32 := Scalar.muli c4_i32_62 v10
  let c2_i32_63 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v102 : BitVec 32 := Scalar.muli c2_i32_63 v5
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v104 : BitVec 32 := Scalar.addi v103 v8
  let c13440_i32_64 : BitVec 32 := 13440#32
  let v105 : BitVec 32 := Scalar.muli v104 c13440_i32_64
  let c0_i32_71 : BitVec 32 := 0#32
  ![v105.toNat, 0]
def k0_dev4 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v116 : BitVec 32 := Scalar.muli v2 c4_i32_74
  let v117 : BitVec 32 := Scalar.addi c0_i32_75 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v118 : BitVec 32 := Scalar.muli v5 c2_i32_76
  let v119 : BitVec 32 := Scalar.addi v117 v118
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_77 : BitVec 32 := 1#32
  let v120 : BitVec 32 := Scalar.muli v9 c1_i32_77
  let v121 : BitVec 32 := Scalar.addi v119 v120
  v121.toNat
def k0_off5 (d0 : Dev nD) : Fin 2 → Nat :=
  let c4_i32_80 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.muli c4_i32_80 v2
  let c2_i32_81 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v129 : BitVec 32 := Scalar.muli c2_i32_81 v11
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.addi v130 v8
  let c13440_i32_82 : BitVec 32 := 13440#32
  let v132 : BitVec 32 := Scalar.muli v131 c13440_i32_82
  let c0_i32_89 : BitVec 32 := 0#32
  ![v132.toNat, 0]
def k0_dev5 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v143 : BitVec 32 := Scalar.muli v2 c4_i32_93
  let v144 : BitVec 32 := Scalar.addi c0_i32_94 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v145 : BitVec 32 := Scalar.muli v5 c2_i32_95
  let v146 : BitVec 32 := Scalar.addi v144 v145
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_96 : BitVec 32 := 1#32
  let v147 : BitVec 32 := Scalar.muli v9 c1_i32_96
  let v148 : BitVec 32 := Scalar.addi v146 v147
  v148.toNat
def k0_off6 (d0 : Dev nD) : Fin 2 → Nat :=
  let c4_i32_99 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v155 : BitVec 32 := Scalar.muli c4_i32_99 v12
  let c2_i32_100 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v156 : BitVec 32 := Scalar.muli c2_i32_100 v13
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v158 : BitVec 32 := Scalar.addi v157 v8
  let c13440_i32_101 : BitVec 32 := 13440#32
  let v159 : BitVec 32 := Scalar.muli v158 c13440_i32_101
  let c0_i32_108 : BitVec 32 := 0#32
  ![v159.toNat, 0]
def k0_dev6 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v170 : BitVec 32 := Scalar.muli v2 c4_i32_111
  let v171 : BitVec 32 := Scalar.addi c0_i32_112 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v172 : BitVec 32 := Scalar.muli v5 c2_i32_113
  let v173 : BitVec 32 := Scalar.addi v171 v172
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_114 : BitVec 32 := 1#32
  let v174 : BitVec 32 := Scalar.muli v9 c1_i32_114
  let v175 : BitVec 32 := Scalar.addi v173 v174
  v175.toNat
def k0_off7 (d0 : Dev nD) : Fin 2 → Nat :=
  let c4_i32_118 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v183 : BitVec 32 := Scalar.muli c4_i32_118 v10
  let c2_i32_119 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v184 : BitVec 32 := Scalar.muli c2_i32_119 v5
  let v185 : BitVec 32 := Scalar.addi v183 v184
  let c1_i32_117 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v182 : BitVec 32 := Scalar.subi c1_i32_117 v8
  let v186 : BitVec 32 := Scalar.addi v185 v182
  let c13440_i32_120 : BitVec 32 := 13440#32
  let v187 : BitVec 32 := Scalar.muli v186 c13440_i32_120
  let c0_i32_127 : BitVec 32 := 0#32
  ![v187.toNat, 0]
def k0_off8 (d0 : Dev nD) : Fin 2 → Nat :=
  let c4_i32_130 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v199 : BitVec 32 := Scalar.muli c4_i32_130 v2
  let c2_i32_131 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v200 : BitVec 32 := Scalar.muli c2_i32_131 v11
  let v201 : BitVec 32 := Scalar.addi v199 v200
  let c1_i32_129 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v198 : BitVec 32 := Scalar.subi c1_i32_129 v8
  let v202 : BitVec 32 := Scalar.addi v201 v198
  let c13440_i32_132 : BitVec 32 := 13440#32
  let v203 : BitVec 32 := Scalar.muli v202 c13440_i32_132
  let c0_i32_139 : BitVec 32 := 0#32
  ![v203.toNat, 0]
def k0_off9 (d0 : Dev nD) : Fin 2 → Nat :=
  let c4_i32_142 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v215 : BitVec 32 := Scalar.muli c4_i32_142 v12
  let c2_i32_143 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v216 : BitVec 32 := Scalar.muli c2_i32_143 v13
  let v217 : BitVec 32 := Scalar.addi v215 v216
  let c1_i32_141 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v214 : BitVec 32 := Scalar.subi c1_i32_141 v8
  let v218 : BitVec 32 := Scalar.addi v217 v214
  let c13440_i32_144 : BitVec 32 := 13440#32
  let v219 : BitVec 32 := Scalar.muli v218 c13440_i32_144
  let c0_i32_151 : BitVec 32 := 0#32
  ![v219.toNat, 0]
-- ==== GatherRef.lean ====
abbrev S107520x512 : Shape := ⟨2, ![107520, 512]⟩

abbrev nBuf : Space → Nat
  | .hbm => 1
  | .vmem => 0
  | .smem => 0
  | _ => 0

abbrev bufTy : (tb : Table) → Fin (tcTables nBuf tb) → BufTy
  | .hbm, ⟨0, _⟩ => ⟨S107520x512, .bf16⟩
  | _, _ => ⟨S107520x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Add.lean ====
abbrev S4x13440x512 : Shape := ⟨3, ![4, 13440, 512]⟩
abbrev S1x128x512 : Shape := ⟨3, ![1, 128, 512]⟩
abbrev S128x512 : Shape := ⟨2, ![128, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x13440x512, .f32⟩
  | .hbm, ⟨1, _⟩ => ⟨S4x13440x512, .f32⟩
  | .hbm, ⟨2, _⟩ => ⟨S4x13440x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | _, _ => ⟨S4x13440x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 105], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddRef.lean ====
abbrev S4x13440x512 : Shape := ⟨3, ![4, 13440, 512]⟩

abbrev nBuf : Space → Nat
  | .hbm => 3
  | .vmem => 0
  | .smem => 0
  | _ => 0

abbrev bufTy : (tb : Table) → Fin (tcTables nBuf tb) → BufTy
  | .hbm, ⟨0, _⟩ => ⟨S4x13440x512, .f32⟩
  | .hbm, ⟨1, _⟩ => ⟨S4x13440x512, .f32⟩
  | .hbm, ⟨2, _⟩ => ⟨S4x13440x512, .f32⟩
  | _, _ => ⟨S4x13440x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Sum.lean ====
abbrev S4x13440x512 : Shape := ⟨3, ![4, 13440, 512]⟩
abbrev S13440x512 : Shape := ⟨2, ![13440, 512]⟩
abbrev S4x128x512 : Shape := ⟨3, ![4, 128, 512]⟩
abbrev S128x512 : Shape := ⟨2, ![128, 512]⟩
abbrev S1x128x512 : Shape := ⟨3, ![1, 128, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x13440x512, .f32⟩
  | .hbm, ⟨1, _⟩ => ⟨S13440x512, .f32⟩
  | .local _ .vmem, ⟨0, _⟩ => ⟨S4x128x512, .f32⟩
  | .local _ .vmem, ⟨1, _⟩ => ⟨S4x128x512, .f32⟩
  | .local _ .vmem, ⟨2, _⟩ => ⟨S128x512, .f32⟩
  | .local _ .vmem, ⟨3, _⟩ => ⟨S128x512, .f32⟩
  | _, _ => ⟨S4x13440x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![105], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRefIdeal.lean ====
abbrev S4x13440x512 : Shape := ⟨3, ![4, 13440, 512]⟩
abbrev S_ : Shape := ⟨0, ![]⟩
abbrev S13440x512 : Shape := ⟨2, ![13440, 512]⟩

abbrev nBuf : Space → Nat
  | .hbm => 3
  | .vmem => 0
  | .smem => 0
  | _ => 0

abbrev bufTy : (tb : Table) → Fin (tcTables nBuf tb) → BufTy
  | .hbm, ⟨0, _⟩ => ⟨S4x13440x512, .f32⟩
  | .hbm, ⟨1, _⟩ => ⟨S_, .f32⟩
  | .hbm, ⟨2, _⟩ => ⟨S13440x512, .f32⟩
  | _, _ => ⟨S4x13440x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamWNorm.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWNormIdeal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWNormRefIdeal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWFinal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWFinalIdeal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWFinalRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWChannel.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWChannelIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWChannelRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWConvA.lean ====
abbrev S62x256 : Shape := ⟨2, ![62, 256]⟩

abbrev nBuf : Space → Nat
  | .hbm => 7
  | .vmem => 7
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWConvAIdeal.lean ====
abbrev S62x256 : Shape := ⟨2, ![62, 256]⟩

abbrev nBuf : Space → Nat
  | .hbm => 7
  | .vmem => 7
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWConvARefIdeal.lean ====
abbrev S62x256 : Shape := ⟨2, ![62, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S_, .f32⟩
  | .hbm, ⟨5, _⟩ => ⟨S62x256, .f32⟩
  | .hbm, ⟨6, _⟩ => ⟨S62x256, .f32⟩
  | .hbm, ⟨7, _⟩ => ⟨S_, .f32⟩
  | .hbm, ⟨8, _⟩ => ⟨S62x256, .f32⟩
  | .hbm, ⟨9, _⟩ => ⟨S62x256, .f32⟩
  | .hbm, ⟨10, _⟩ => ⟨S62x256, .f32⟩
  | .hbm, ⟨11, _⟩ => ⟨S_, .f32⟩
  | .hbm, ⟨12, _⟩ => ⟨S62x256, .f32⟩
  | .hbm, ⟨13, _⟩ => ⟨S62x256, .f32⟩
  | .hbm, ⟨14, _⟩ => ⟨S62x256, .f32⟩
  | .hbm, ⟨15, _⟩ => ⟨S_, .f32⟩
  | .hbm, ⟨16, _⟩ => ⟨S62x256, .f32⟩
  | .hbm, ⟨17, _⟩ => ⟨S62x256, .f32⟩
  | .hbm, ⟨18, _⟩ => ⟨S62x256, .f32⟩
  | .hbm, ⟨19, _⟩ => ⟨S_, .f32⟩
  | .hbm, ⟨20, _⟩ => ⟨S62x256, .f32⟩
  | .hbm, ⟨21, _⟩ => ⟨S62x256, .f32⟩
  | .hbm, ⟨22, _⟩ => ⟨S_, .f32⟩
  | .hbm, ⟨23, _⟩ => ⟨S62x256, .f32⟩
  | .hbm, ⟨24, _⟩ => ⟨S62x256, .f32⟩
  | .hbm, ⟨25, _⟩ => ⟨S62x256, .f32⟩
  | .hbm, ⟨26, _⟩ => ⟨S_, .f32⟩
  | .hbm, ⟨27, _⟩ => ⟨S62x256, .f32⟩
  | .hbm, ⟨28, _⟩ => ⟨S62x256, .f32⟩
  | .hbm, ⟨29, _⟩ => ⟨S62x256, .f32⟩
  | .hbm, ⟨30, _⟩ => ⟨S_, .f32⟩
  | .hbm, ⟨31, _⟩ => ⟨S62x256, .f32⟩
  | .hbm, ⟨32, _⟩ => ⟨S62x256, .f32⟩
  | .hbm, ⟨33, _⟩ => ⟨S62x256, .f32⟩
  | .hbm, ⟨34, _⟩ => ⟨S_, .f32⟩
  | .hbm, ⟨35, _⟩ => ⟨S62x256, .f32⟩
  | .hbm, ⟨36, _⟩ => ⟨S62x256, .f32⟩
  | _, _ => ⟨S62x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWConvB.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWConvBIdeal.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWConvBRefIdeal.lean ====
abbrev S8x256 : Shape := ⟨2, ![8, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8x256, .f32⟩
  | .hbm, ⟨21, _⟩ => ⟨S8x256, .f32⟩
  | .hbm, ⟨22, _⟩ => ⟨S_, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S_, .f32⟩
  | .hbm, ⟨35, _⟩ => ⟨S8x256, .f32⟩
  | .hbm, ⟨36, _⟩ => ⟨S8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWGate.lean ====
abbrev S2048x128 : Shape := ⟨2, ![2048, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWGateIdeal.lean ====
abbrev S2048x128 : Shape := ⟨2, ![2048, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWGateRefIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWIn.lean ====
abbrev S4096x1024 : Shape := ⟨2, ![4096, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S4096x1024 : Shape := ⟨2, ![4096, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S1024x2048 : Shape := ⟨2, ![1024, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutIdeal.lean ====
abbrev S1024x2048 : Shape := ⟨2, ![1024, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutRefIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWQkv.lean ====
abbrev S4096x1536 : Shape := ⟨2, ![4096, 1536]⟩
abbrev S64x1536 : Shape := ⟨2, ![64, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWQkvIdeal.lean ====
abbrev S4096x1536 : Shape := ⟨2, ![4096, 1536]⟩
abbrev S64x1536 : Shape := ⟨2, ![64, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S64x1536, .f32⟩
  | .local _ .vmem, ⟨1, _⟩ => ⟨S64x1536, .f32⟩
  | .local _ .vmem, ⟨2, _⟩ => ⟨S64x1536, .f32⟩
  | .local _ .vmem, ⟨3, _⟩ => ⟨S64x1536, .f32⟩
  | .local _ .vmem, ⟨4, _⟩ => ⟨S64x1536, .f32⟩
  | .local _ .vmem, ⟨5, _⟩ => ⟨S64x1536, .f32⟩
  | .local _ .vmem, ⟨6, _⟩ => ⟨S64x1536, .f32⟩
  | .local _ .vmem, ⟨7, _⟩ => ⟨S64x1536, .f32⟩
  | .local _ .vmem, ⟨8, _⟩ => ⟨S64x1536, .f32⟩
  | .local _ .vmem, ⟨9, _⟩ => ⟨S64x1536, .f32⟩
  | .local _ .vmem, ⟨10, _⟩ => ⟨S64x1536, .f32⟩
  | .local _ .vmem, ⟨11, _⟩ => ⟨S64x1536, .f32⟩
  | .local _ .vmem, ⟨12, _⟩ => ⟨S64x1536, .f32⟩
  | .local _ .vmem, ⟨13, _⟩ => ⟨S64x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWQkvRefIdeal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWMlp.lean ====
abbrev S8192x2048 : Shape := ⟨2, ![8192, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWMlpIdeal.lean ====
abbrev S8192x2048 : Shape := ⟨2, ![8192, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWMlpRefIdeal.lean ====
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWProj.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWProjIdeal.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWProjRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWPle.lean ====
abbrev S2048x2048 : Shape := ⟨2, ![2048, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWPleRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NnIn.lean ====
abbrev S8192x2048 : Shape := ⟨2, ![8192, 2048]⟩
abbrev S4x2048x1024 : Shape := ⟨3, ![4, 2048, 1024]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x1024, .bf16⟩
  | .hbm, ⟨2, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnInIdeal.lean ====
abbrev S8192x2048 : Shape := ⟨2, ![8192, 2048]⟩
abbrev S4x2048x1024 : Shape := ⟨3, ![4, 2048, 1024]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x1024, .bf16⟩
  | .hbm, ⟨2, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnInRefIdeal.lean ====
abbrev S8192x2048 : Shape := ⟨2, ![8192, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1024, .bf16⟩
  | .hbm, ⟨2, _⟩ => ⟨S8192x2048, .f32⟩
  | .hbm, ⟨3, _⟩ => ⟨S2048x4x1024, .bf16⟩
  | .hbm, ⟨4, _⟩ => ⟨S2048x4096, .bf16⟩
  | .hbm, ⟨5, _⟩ => ⟨S2048x4096, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NtIn.lean ====
abbrev S8192x4096 : Shape := ⟨2, ![8192, 4096]⟩
abbrev S4x2048x1024 : Shape := ⟨3, ![4, 2048, 1024]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtInIdeal.lean ====
abbrev S8192x4096 : Shape := ⟨2, ![8192, 4096]⟩
abbrev S4x2048x1024 : Shape := ⟨3, ![4, 2048, 1024]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtInRefIdeal.lean ====
abbrev S8192x4096 : Shape := ⟨2, ![8192, 4096]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S4096x2048 : Shape := ⟨2, ![4096, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x2048x1024, .bf16⟩
  | .hbm, ⟨2, _⟩ => ⟨S8192x4096, .f32⟩
  | .hbm, ⟨3, _⟩ => ⟨S2048x4x1024, .bf16⟩
  | .hbm, ⟨4, _⟩ => ⟨S2048x4096, .bf16⟩
  | .hbm, ⟨5, _⟩ => ⟨S2048x4096, .f32⟩
  | .hbm, ⟨6, _⟩ => ⟨S4096x2048, .f32⟩
  | .hbm, ⟨7, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== TnIn.lean ====
abbrev S8192x2048 : Shape := ⟨2, ![8192, 2048]⟩
abbrev S8192x4096 : Shape := ⟨2, ![8192, 4096]⟩
abbrev S4x2048x1024 : Shape := ⟨3, ![4, 2048, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnInIdeal.lean ====
abbrev S8192x2048 : Shape := ⟨2, ![8192, 2048]⟩
abbrev S8192x4096 : Shape := ⟨2, ![8192, 4096]⟩
abbrev S4x2048x1024 : Shape := ⟨3, ![4, 2048, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnInRefIdeal.lean ====
abbrev S8192x2048 : Shape := ⟨2, ![8192, 2048]⟩
abbrev S8192x4096 : Shape := ⟨2, ![8192, 4096]⟩
abbrev S2048x8192 : Shape := ⟨2, ![2048, 8192]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .f32⟩
  | .hbm, ⟨3, _⟩ => ⟨S2048x8192, .f32⟩
  | .hbm, ⟨4, _⟩ => ⟨S8192x4096, .f32⟩
  | .hbm, ⟨5, _⟩ => ⟨S2048x4096, .f32⟩
  | .hbm, ⟨6, _⟩ => ⟨S2048x4x1024, .f32⟩
  | .hbm, ⟨7, _⟩ => ⟨S4x2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NnSquare.lean ====
abbrev S8192x2048 : Shape := ⟨2, ![8192, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnSquareIdeal.lean ====
abbrev S8192x2048 : Shape := ⟨2, ![8192, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnSquareRefIdeal.lean ====
abbrev S8192x2048 : Shape := ⟨2, ![8192, 2048]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048x1x2048, .bf16⟩
  | .hbm, ⟨4, _⟩ => ⟨S2048x2048, .bf16⟩
  | .hbm, ⟨5, _⟩ => ⟨S2048x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NtSquare.lean ====
abbrev S8192x2048 : Shape := ⟨2, ![8192, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtSquareIdeal.lean ====
abbrev S8192x2048 : Shape := ⟨2, ![8192, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtSquareRefIdeal.lean ====
abbrev S8192x2048 : Shape := ⟨2, ![8192, 2048]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048x1x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== TnSquare.lean ====
abbrev S8192x2048 : Shape := ⟨2, ![8192, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnSquareIdeal.lean ====
abbrev S8192x2048 : Shape := ⟨2, ![8192, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnSquareRefIdeal.lean ====
abbrev S8192x2048 : Shape := ⟨2, ![8192, 2048]⟩
abbrev S2048x8192 : Shape := ⟨2, ![2048, 8192]⟩
abbrev S2048x2048 : Shape := ⟨2, ![2048, 2048]⟩
abbrev S2048x1x2048 : Shape := ⟨3, ![2048, 1, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x1x2048, .f32⟩
  | .hbm, ⟨7, _⟩ => ⟨S1x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NnQkv.lean ====
abbrev S8192x2048 : Shape := ⟨2, ![8192, 2048]⟩
abbrev S4x2048x1536 : Shape := ⟨3, ![4, 2048, 1536]⟩
abbrev S8192x6144 : Shape := ⟨2, ![8192, 6144]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x1536, .bf16⟩
  | .hbm, ⟨2, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnQkvIdeal.lean ====
abbrev S8192x2048 : Shape := ⟨2, ![8192, 2048]⟩
abbrev S4x2048x1536 : Shape := ⟨3, ![4, 2048, 1536]⟩
abbrev S8192x6144 : Shape := ⟨2, ![8192, 6144]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x1536, .bf16⟩
  | .hbm, ⟨2, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnQkvRefIdeal.lean ====
abbrev S8192x2048 : Shape := ⟨2, ![8192, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1536, .bf16⟩
  | .hbm, ⟨2, _⟩ => ⟨S8192x2048, .f32⟩
  | .hbm, ⟨3, _⟩ => ⟨S2048x4x1536, .bf16⟩
  | .hbm, ⟨4, _⟩ => ⟨S2048x6144, .bf16⟩
  | .hbm, ⟨5, _⟩ => ⟨S2048x6144, .f32⟩
  | .hbm, ⟨6, _⟩ => ⟨S8192x6144, .f32⟩
  | .hbm, ⟨7, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NtQkv.lean ====
abbrev S8192x6144 : Shape := ⟨2, ![8192, 6144]⟩
abbrev S4x2048x1536 : Shape := ⟨3, ![4, 2048, 1536]⟩
abbrev S8192x2048 : Shape := ⟨2, ![8192, 2048]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S4x2048x1536, .bf16⟩
  | .hbm, ⟨2, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtQkvIdeal.lean ====
abbrev S8192x6144 : Shape := ⟨2, ![8192, 6144]⟩
abbrev S4x2048x1536 : Shape := ⟨3, ![4, 2048, 1536]⟩
abbrev S8192x2048 : Shape := ⟨2, ![8192, 2048]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S4x2048x1536, .bf16⟩
  | .hbm, ⟨2, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtQkvRefIdeal.lean ====
abbrev S8192x6144 : Shape := ⟨2, ![8192, 6144]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S6144x2048 : Shape := ⟨2, ![6144, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x2048x1536, .bf16⟩
  | .hbm, ⟨2, _⟩ => ⟨S8192x6144, .f32⟩
  | .hbm, ⟨3, _⟩ => ⟨S2048x4x1536, .bf16⟩
  | .hbm, ⟨4, _⟩ => ⟨S2048x6144, .bf16⟩
  | .hbm, ⟨5, _⟩ => ⟨S2048x6144, .f32⟩
  | .hbm, ⟨6, _⟩ => ⟨S6144x2048, .f32⟩
  | .hbm, ⟨7, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== TnQkv.lean ====
abbrev S8192x2048 : Shape := ⟨2, ![8192, 2048]⟩
abbrev S8192x6144 : Shape := ⟨2, ![8192, 6144]⟩
abbrev S4x2048x1536 : Shape := ⟨3, ![4, 2048, 1536]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S4x2048x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .f32⟩
  | .local _ .vmem, ⟨5, _⟩ => ⟨S1x1024x768, .f32⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnQkvIdeal.lean ====
abbrev S8192x2048 : Shape := ⟨2, ![8192, 2048]⟩
abbrev S8192x6144 : Shape := ⟨2, ![8192, 6144]⟩
abbrev S4x2048x1536 : Shape := ⟨3, ![4, 2048, 1536]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S4x2048x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .f32⟩
  | .local _ .vmem, ⟨5, _⟩ => ⟨S1x1024x768, .f32⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnQkvRefIdeal.lean ====
abbrev S8192x2048 : Shape := ⟨2, ![8192, 2048]⟩
abbrev S8192x6144 : Shape := ⟨2, ![8192, 6144]⟩
abbrev S2048x8192 : Shape := ⟨2, ![2048, 8192]⟩
abbrev S2048x6144 : Shape := ⟨2, ![2048, 6144]⟩
abbrev S2048x4x1536 : Shape := ⟨3, ![2048, 4, 1536]⟩
abbrev S4x2048x1536 : Shape := ⟨3, ![4, 2048, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S8192x2048, .f32⟩
  | .hbm, ⟨3, _⟩ => ⟨S2048x8192, .f32⟩
  | .hbm, ⟨4, _⟩ => ⟨S8192x6144, .f32⟩
  | .hbm, ⟨5, _⟩ => ⟨S2048x6144, .f32⟩
  | .hbm, ⟨6, _⟩ => ⟨S2048x4x1536, .f32⟩
  | .hbm, ⟨7, _⟩ => ⟨S4x2048x1536, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NnUp.lean ====
abbrev S8192x2048 : Shape := ⟨2, ![8192, 2048]⟩
abbrev S4x2048x2048 : Shape := ⟨3, ![4, 2048, 2048]⟩
abbrev S8192x8192 : Shape := ⟨2, ![8192, 8192]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnUpIdeal.lean ====
abbrev S8192x2048 : Shape := ⟨2, ![8192, 2048]⟩
abbrev S4x2048x2048 : Shape := ⟨3, ![4, 2048, 2048]⟩
abbrev S8192x8192 : Shape := ⟨2, ![8192, 8192]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnUpRefIdeal.lean ====
abbrev S8192x2048 : Shape := ⟨2, ![8192, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NtUp.lean ====
abbrev S8192x8192 : Shape := ⟨2, ![8192, 8192]⟩
abbrev S4x2048x2048 : Shape := ⟨3, ![4, 2048, 2048]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtUpIdeal.lean ====
abbrev S8192x8192 : Shape := ⟨2, ![8192, 8192]⟩
abbrev S4x2048x2048 : Shape := ⟨3, ![4, 2048, 2048]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtUpRefIdeal.lean ====
abbrev S8192x8192 : Shape := ⟨2, ![8192, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x8192, .f32⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S8192x2048, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== TnUp.lean ====
abbrev S8192x2048 : Shape := ⟨2, ![8192, 2048]⟩
abbrev S8192x8192 : Shape := ⟨2, ![8192, 8192]⟩
abbrev S4x2048x2048 : Shape := ⟨3, ![4, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnUpIdeal.lean ====
abbrev S8192x2048 : Shape := ⟨2, ![8192, 2048]⟩
abbrev S8192x8192 : Shape := ⟨2, ![8192, 8192]⟩
abbrev S4x2048x2048 : Shape := ⟨3, ![4, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnUpRefIdeal.lean ====
abbrev S8192x2048 : Shape := ⟨2, ![8192, 2048]⟩
abbrev S8192x8192 : Shape := ⟨2, ![8192, 8192]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S2048x8192, .f32⟩
  | .hbm, ⟨6, _⟩ => ⟨S2048x4x2048, .f32⟩
  | .hbm, ⟨7, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NnDown.lean ====
abbrev S8192x8192 : Shape := ⟨2, ![8192, 8192]⟩
abbrev S1x8192x2048 : Shape := ⟨3, ![1, 8192, 2048]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnDownIdeal.lean ====
abbrev S8192x8192 : Shape := ⟨2, ![8192, 8192]⟩
abbrev S1x8192x2048 : Shape := ⟨3, ![1, 8192, 2048]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NnDownRefIdeal.lean ====
abbrev S8192x8192 : Shape := ⟨2, ![8192, 8192]⟩
abbrev S1x8192x2048 : Shape := ⟨3, ![1, 8192, 2048]⟩
abbrev S8192x1x2048 : Shape := ⟨3, ![8192, 1, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x8192, .f32⟩
  | .hbm, ⟨3, _⟩ => ⟨S8192x1x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NtDown.lean ====
abbrev S8192x2048 : Shape := ⟨2, ![8192, 2048]⟩
abbrev S1x8192x2048 : Shape := ⟨3, ![1, 8192, 2048]⟩
abbrev S8192x8192 : Shape := ⟨2, ![8192, 8192]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x8192x2048, .bf16⟩
  | .hbm, ⟨2, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtDownIdeal.lean ====
abbrev S8192x2048 : Shape := ⟨2, ![8192, 2048]⟩
abbrev S1x8192x2048 : Shape := ⟨3, ![1, 8192, 2048]⟩
abbrev S8192x8192 : Shape := ⟨2, ![8192, 8192]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x8192x2048, .bf16⟩
  | .hbm, ⟨2, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtDownRefIdeal.lean ====
abbrev S8192x2048 : Shape := ⟨2, ![8192, 2048]⟩
abbrev S1x8192x2048 : Shape := ⟨3, ![1, 8192, 2048]⟩
abbrev S8192x1x2048 : Shape := ⟨3, ![8192, 1, 2048]⟩
abbrev S2048x8192 : Shape := ⟨2, ![2048, 8192]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x8192x2048, .bf16⟩
  | .hbm, ⟨2, _⟩ => ⟨S8192x2048, .f32⟩
  | .hbm, ⟨3, _⟩ => ⟨S8192x1x2048, .bf16⟩
  | .hbm, ⟨4, _⟩ => ⟨S8192x2048, .bf16⟩
  | .hbm, ⟨5, _⟩ => ⟨S8192x2048, .f32⟩
  | .hbm, ⟨6, _⟩ => ⟨S2048x8192, .f32⟩
  | .hbm, ⟨7, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== TnDown.lean ====
abbrev S8192x8192 : Shape := ⟨2, ![8192, 8192]⟩
abbrev S8192x2048 : Shape := ⟨2, ![8192, 2048]⟩
abbrev S1x8192x2048 : Shape := ⟨3, ![1, 8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S1x8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnDownIdeal.lean ====
abbrev S8192x8192 : Shape := ⟨2, ![8192, 8192]⟩
abbrev S8192x2048 : Shape := ⟨2, ![8192, 2048]⟩
abbrev S1x8192x2048 : Shape := ⟨3, ![1, 8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S1x8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnDownRefIdeal.lean ====
abbrev S8192x8192 : Shape := ⟨2, ![8192, 8192]⟩
abbrev S8192x2048 : Shape := ⟨2, ![8192, 2048]⟩
abbrev S8192x1x2048 : Shape := ⟨3, ![8192, 1, 2048]⟩
abbrev S1x8192x2048 : Shape := ⟨3, ![1, 8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x8192, .f32⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S8192x1x2048, .f32⟩
  | .hbm, ⟨7, _⟩ => ⟨S1x8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== TnProj.lean ====
abbrev S8192x256 : Shape := ⟨2, ![8192, 256]⟩
abbrev S8192x2048 : Shape := ⟨2, ![8192, 2048]⟩
abbrev S4x256x512 : Shape := ⟨3, ![4, 256, 512]⟩
abbrev S1024x256 : Shape := ⟨2, ![1024, 256]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S4x256x512, .f32⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnProjIdeal.lean ====
abbrev S8192x256 : Shape := ⟨2, ![8192, 256]⟩
abbrev S8192x2048 : Shape := ⟨2, ![8192, 2048]⟩
abbrev S4x256x512 : Shape := ⟨3, ![4, 256, 512]⟩
abbrev S1024x256 : Shape := ⟨2, ![1024, 256]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S4x256x512, .f32⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnProjRefIdeal.lean ====
abbrev S8192x256 : Shape := ⟨2, ![8192, 256]⟩
abbrev S8192x2048 : Shape := ⟨2, ![8192, 2048]⟩
abbrev S256x8192 : Shape := ⟨2, ![256, 8192]⟩
abbrev S256x2048 : Shape := ⟨2, ![256, 2048]⟩
abbrev S256x4x512 : Shape := ⟨3, ![256, 4, 512]⟩
abbrev S4x256x512 : Shape := ⟨3, ![4, 256, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S8192x256, .f32⟩
  | .hbm, ⟨3, _⟩ => ⟨S256x8192, .f32⟩
  | .hbm, ⟨4, _⟩ => ⟨S8192x2048, .f32⟩
  | .hbm, ⟨5, _⟩ => ⟨S256x2048, .f32⟩
  | .hbm, ⟨6, _⟩ => ⟨S256x4x512, .f32⟩
  | .hbm, ⟨7, _⟩ => ⟨S4x256x512, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NtAttn.lean ====
abbrev S8192x2048 : Shape := ⟨2, ![8192, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtAttnRefIdeal.lean ====
abbrev S8192x2048 : Shape := ⟨2, ![8192, 2048]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048x1x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== NormBack.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBackRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== AddNormBack.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .bf16⟩
  | .local _ .vmem, ⟨12, _⟩ => ⟨S128x2048, .bf16⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AddNormBackRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== LossHead.lean ====
abbrev S8192x2048 : Shape := ⟨2, ![8192, 2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S2048 : Shape := ⟨1, ![2048]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x128, .f32⟩
  | .hbm, ⟨4, _⟩ => ⟨S8192x2048, .f32⟩
  | .hbm, ⟨5, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x128, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== HeadsBack.lean ====
abbrev S8192x1024 : Shape := ⟨2, ![8192, 1024]⟩
abbrev S8x128x128 : Shape := ⟨3, ![8, 128, 128]⟩
abbrev S1024x128 : Shape := ⟨2, ![1024, 128]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8x128x128, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1x128x128, .f32⟩
  | .local _ .vmem, ⟨5, _⟩ => ⟨S1x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== HeadsBackRefIdeal.lean ====
abbrev S8192x1024 : Shape := ⟨2, ![8192, 1024]⟩
abbrev S8192x8x128 : Shape := ⟨3, ![8192, 8, 128]⟩
abbrev S8x128x128 : Shape := ⟨3, ![8, 128, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x8x128, .f32⟩
  | .hbm, ⟨3, _⟩ => ⟨S8192x1024, .f32⟩
  | .hbm, ⟨4, _⟩ => ⟨S8192x8x128, .f32⟩
  | .hbm, ⟨5, _⟩ => ⟨S8x128x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormForward.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormForwardRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AddNormForward.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .bf16⟩
  | .local _ .vmem, ⟨8, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AddNormForwardRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== SquareForward.lean ====
abbrev S8192x8192 : Shape := ⟨2, ![8192, 8192]⟩
abbrev S32x8192 : Shape := ⟨2, ![32, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .bf16⟩
  | .local _ .vmem, ⟨0, _⟩ => ⟨S32x8192, .f32⟩
  | .local _ .vmem, ⟨1, _⟩ => ⟨S32x8192, .f32⟩
  | .local _ .vmem, ⟨2, _⟩ => ⟨S32x8192, .bf16⟩
  | .local _ .vmem, ⟨3, _⟩ => ⟨S32x8192, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SquareForwardRefIdeal.lean ====
abbrev S8192x8192 : Shape := ⟨2, ![8192, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ConvBack.lean ====
abbrev S8192x8x128 : Shape := ⟨3, ![8192, 8, 128]⟩
abbrev S4x8x128 : Shape := ⟨3, ![4, 8, 128]⟩
abbrev S8x128 : Shape := ⟨2, ![8, 128]⟩
abbrev S256x8x128 : Shape := ⟨3, ![256, 8, 128]⟩
abbrev S32x8x128 : Shape := ⟨3, ![32, 8, 128]⟩
abbrev S288x8x128 : Shape := ⟨3, ![288, 8, 128]⟩
abbrev S8x8x128 : Shape := ⟨3, ![8, 8, 128]⟩
abbrev S1x8x128 : Shape := ⟨3, ![1, 8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S4x8x128, .f32⟩
  | .hbm, ⟨3, _⟩ => ⟨S8x128, .f32⟩
  | .local _ .vmem, ⟨0, _⟩ => ⟨S256x8x128, .f32⟩
  | .local _ .vmem, ⟨1, _⟩ => ⟨S256x8x128, .f32⟩
  | .local _ .vmem, ⟨2, _⟩ => ⟨S256x8x128, .f32⟩
  | .local _ .vmem, ⟨3, _⟩ => ⟨S256x8x128, .f32⟩
  | .local _ .vmem, ⟨4, _⟩ => ⟨S32x8x128, .f32⟩
  | .local _ .vmem, ⟨5, _⟩ => ⟨S32x8x128, .f32⟩
  | .local _ .vmem, ⟨6, _⟩ => ⟨S4x8x128, .f32⟩
  | .local _ .vmem, ⟨7, _⟩ => ⟨S8x128, .f32⟩
  | .local _ .vmem, ⟨8, _⟩ => ⟨S288x8x128, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_13 : BitVec 32 := 0#32
  let c32_i32 : BitVec 32 := 32#32
  let v15 : BitVec 32 := Scalar.addi c0_i32_13 c32_i32
  let c1_i32 : BitVec 32 := 1#32
  ⟨c0_i32_13, v15, c1_i32⟩
def k0_mult1 (k0_t1 : Fin k0_t1_loop.trips) : BitVec 32 :=
  let c0_i32_13 : BitVec 32 := 0#32
  let c1_i32 : BitVec 32 := 1#32
  let arg7 : BitVec 32 := Scf.iv c0_i32_13 c1_i32 k0_t1
  let c8_i32 : BitVec 32 := 8#32
  let v45 : BitVec 32 := Scalar.muli arg7 c8_i32
  v45
def k0_off1 (k0_t1 : Fin k0_t1_loop.trips) : Fin 3 → Nat :=
  let c0_i32_13 : BitVec 32 := 0#32
  let c1_i32 : BitVec 32 := 1#32
  let arg7 : BitVec 32 := Scf.iv c0_i32_13 c1_i32 k0_t1
  let c8_i32 : BitVec 32 := 8#32
  let v45 : BitVec 32 := Scalar.muli arg7 c8_i32
  let v46 : BitVec 32 := v45
  let v47 : Index := Scalar.indexCast v46
  let c0_40 : Index := 0#32
  let c0_41 : Index := 0#32
  ![v47.toNat, 0, 0]
def k0_off2 (k0_t1 : Fin k0_t1_loop.trips) (c0_i32_43 : BitVec 32) : Fin 3 → Nat :=
  let c0_i32_13 : BitVec 32 := 0#32
  let c1_i32 : BitVec 32 := 1#32
  let arg7 : BitVec 32 := Scf.iv c0_i32_13 c1_i32 k0_t1
  let c8_i32 : BitVec 32 := 8#32
  let v45 : BitVec 32 := Scalar.muli arg7 c8_i32
  let v46 : BitVec 32 := v45
  let c32_i32_42 : BitVec 32 := 32#32
  let v49 : BitVec 32 := Scalar.addi v46 c32_i32_42
  let c3_i32 : BitVec 32 := 3#32
  let v50 : BitVec 32 := Scalar.subi v49 c3_i32
  let v51 : BitVec 32 := Scalar.addi v50 c0_i32_43
  let v52 : Index := Scalar.indexCast v51
  let c0_44 : Index := 0#32
  let c0_45 : Index := 0#32
  ![v52.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ConvBackRefIdeal.lean ====
abbrev S8192x8x128 : Shape := ⟨3, ![8192, 8, 128]⟩
abbrev S_ : Shape := ⟨0, ![]⟩
abbrev S8195x8x128 : Shape := ⟨3, ![8195, 8, 128]⟩
abbrev S8x128 : Shape := ⟨2, ![8, 128]⟩
abbrev S1x8x128 : Shape := ⟨3, ![1, 8, 128]⟩
abbrev S4x8x128 : Shape := ⟨3, ![4, 8, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S_, .i32⟩
  | .hbm, ⟨3, _⟩ => ⟨S_, .f32⟩
  | .hbm, ⟨4, _⟩ => ⟨S8195x8x128, .f32⟩
  | .hbm, ⟨5, _⟩ => ⟨S8192x8x128, .f32⟩
  | .hbm, ⟨6, _⟩ => ⟨S8192x8x128, .f32⟩
  | .hbm, ⟨7, _⟩ => ⟨S_, .f32⟩
  | .hbm, ⟨8, _⟩ => ⟨S8x128, .f32⟩
  | .hbm, ⟨9, _⟩ => ⟨S8192x8x128, .f32⟩
  | .hbm, ⟨10, _⟩ => ⟨S8192x8x128, .f32⟩
  | .hbm, ⟨11, _⟩ => ⟨S_, .f32⟩
  | .hbm, ⟨12, _⟩ => ⟨S8x128, .f32⟩
  | .hbm, ⟨13, _⟩ => ⟨S8192x8x128, .f32⟩
  | .hbm, ⟨14, _⟩ => ⟨S8192x8x128, .f32⟩
  | .hbm, ⟨15, _⟩ => ⟨S_, .f32⟩
  | .hbm, ⟨16, _⟩ => ⟨S8x128, .f32⟩
  | .hbm, ⟨17, _⟩ => ⟨S8192x8x128, .f32⟩
  | .hbm, ⟨18, _⟩ => ⟨S8192x8x128, .f32⟩
  | .hbm, ⟨19, _⟩ => ⟨S_, .f32⟩
  | .hbm, ⟨20, _⟩ => ⟨S8x128, .f32⟩
  | .hbm, ⟨21, _⟩ => ⟨S1x8x128, .f32⟩
  | .hbm, ⟨22, _⟩ => ⟨S1x8x128, .f32⟩
  | .hbm, ⟨23, _⟩ => ⟨S1x8x128, .f32⟩
  | .hbm, ⟨24, _⟩ => ⟨S1x8x128, .f32⟩
  | .hbm, ⟨25, _⟩ => ⟨S4x8x128, .f32⟩
  | .hbm, ⟨26, _⟩ => ⟨S_, .f32⟩
  | .hbm, ⟨27, _⟩ => ⟨S8x128, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Start.lean ====
/-
The launch of a program whose first operation is a kernel that exchanges data with no handshake.

Such a kernel starts by writing into the result arrays of other devices and by crediting their receive semaphores. So
the device that will write a piece of another device's result must hold that piece, and the right to credit the
semaphore, before either device has run a step. The theorem here hands BOTH the kernel's own semaphores and the arrays
of every device to one step (`hdeal`) that deals them out before the run; the region, and whatever local operations
follow it, are then run core by core.
-/
module

public import Idealize.ShloMosaic.Lib.Pipeline.Regions
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Pipeline.PerCore

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {P : Type} [Fintype P]

local notation "𝕄" => MT nD τ sig Ix Val Name U Lvl

/-- The level facts of the TensorCores' cells, assigned once for the whole machine. -/
theorem assign_levels (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hall : (levAts L lv : sProp 𝕄)
      = iprop((bigSep Finset.univ fun d : Dev nD => coreLevAts (d.tc : Thread nD τ) L lv)
          ∗ bigSep Finset.univ fun d : Dev nD => bigSep (Finset.univ.erase Proc.tc) fun p => (coreLevAts ((d, p) : Thread nD τ) L lv : sProp 𝕄)) :=
    (bigSep_univ_prod fun g : GSem nD τ sig => bigSep (L g) fun ι => levAt g ι (lv g ι)).trans
      (bigSep_threads (fun c : Thread nD τ => coreLevAts c L lv))
  have hno (d : Dev nD) (p : Proc τ) (hp : p ∈ Finset.univ.erase Proc.tc) : (coreLevAts ((d, p) : Thread nD τ) L lv : sProp 𝕄) = BI.emp :=
    (bigSep_congr fun sm _ => by rw [hL (((d, p) : Thread nD τ), sm) (Finset.ne_of_mem_erase hp)]; exact BI.bigSep_empty).trans (BI.bigSep_emp_const _)
  have hsc : (bigSep Finset.univ fun d : Dev nD => bigSep (Finset.univ.erase Proc.tc) fun p => (coreLevAts ((d, p) : Thread nD τ) L lv : sProp 𝕄)) = BI.emp :=
    (bigSep_congr fun d _ => (bigSep_congr (hno d)).trans (BI.bigSep_emp_const _)).trans (BI.bigSep_emp_const _)
  rw [hall, hsc]
  refine (bigSep_mono fun c _ => lev_assign_cells (c.tc : Thread nD τ) L lv).trans ((BI.bigSep_bupd _ _).trans (BI.bupd_mono ?_))
  have hend : iprop((bigSep Finset.univ fun c : Dev nD => (bigSep Finset.univ fun sm : SemLoc sig => (levels ((c.tc : Thread nD τ), sm) (L ((c.tc : Thread nD τ), sm)) : sProp 𝕄)))
        ∗ bigSep Finset.univ fun c : Dev nD => (coreLevAts (c.tc : Thread nD τ) L lv : sProp 𝕄))
      ⊢ iprop((bigSep Finset.univ fun c : Dev nD => (coreLevAts (c.tc : Thread nD τ) L lv : sProp 𝕄)) ∗ BI.emp) := by
    iintro ⟨-, H⟩
    isplitl [H]; · iexact H
    iempintro
  rw [bigSep_sep']
  exact hend

section Run

variable (pcs : P → PCfg sig Λ₀ Val) (a : Dev nD → (p : P) → (pcs p).Adm)
  (pdats : (p : P) → (c : Dev nD) → Dat τ Val Ix Name U Lvl (pinD pcs a c p) c) (ι : Ix)
  (phinj : Function.Injective (cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

include phinj hw ho in
/-- The run of `main c = customCall (entry p) (); k c`, the kernel of pipeline `p` having no window array and no
    prefetched table: from the body obligation, the deal `hdeal` of every device's own semaphores, arrays, launch credit
    and ghost state, and the run `hk` of what follows the region. -/
theorem run_exchange [DecidableEq P] [Preorder Lvl] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (k : Dev nD → PUnit → Prog (TpuEff nD τ sig Val (Sig Λ₀ P fun p => (pcs p).Adm) .tc) PUnit)
    (hmain : ∀ c, main c = .op (.customCall (entry p) ()) (k c))
    (hbody : ∀ c, BodyObligationLoose (pdats p c) defs₀ 𝒱₀ ι Set.univ)
    (hne : ∀ w : Fin (pcs p).W, 0 < ((pcs p).spec w).block.numel)
    (hstage : ∀ w s, (((pcs p).spec w).stage s).IsWhole)
    (harr : ∀ c, (BI.emp : sProp 𝕄) ⊢ (pdats p c).arrays (pdats p c).A)
    (hpf : ∀ c, (BI.emp : sProp 𝕄) ⊢ prefHeld (pcs p).pre c (fun _ => fullShare) (a c p).1)
    (O₀ : Dev nD → CellTallies nD τ sig Ix) (howed₀ : ∀ c, (pdats p c).owed 0 = O₀ c) (howedN : ∀ c, (pdats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ cellsWaits (pinD pcs a) pdats ι p c)
    (G : Dev nD → sProp 𝕄) (u₀ : U)
    (hu₀ : (ownU u₀ : sProp 𝕄)
      ⊢ |={Set.univ}=> iprop(BI.own (EP (initOf (cells (pinD pcs a) phinj) (launchToks (pinD pcs a) phinj))) ∗ bigSep Finset.univ G))
    (X Y Z T : Dev nD → sProp 𝕄)
    (hdeal : iprop((bigSep Finset.univ fun c : Dev nD => iprop(ownSems0 osem c ∗ unscopedBufs c (fun b => m ((c.tc : Thread nD τ).loc b))
          ∗ launchCred O₀ c ∗ G c)) ∗ levAts L lv)
      ⊢ |={Set.univ}=> bigSep Finset.univ fun c : Dev nD => iprop(X c ∗ Z c))
    (hin : ∀ c, iprop(X c ∗ scopedRest (pinD pcs a c p).spec c) ⊢ (pdats p c).Φ 0)
    (hout : ∀ c, (pdats p c).Φ (Fin.last (pinD pcs a c p).N) ⊢ iprop(Y c ∗ ownSems0 osem c ∗ scopedRest (pinD pcs a c p).spec c))
    (hk : ∀ c (Q : PUnit → sProp 𝕄),
      iprop((iprop(boundary (c.tc : Thread nD τ) ∗ T c ∗ ∃ W, owes (c.tc : Thread nD τ) (0 : CellTallies nD τ sig Ix) W) -∗ Q ⟨⟩)
          ∗ boundary (c.tc : Thread nD τ) ∗ (Y c ∗ Z c ∗ ∃ W, owes (c.tc : Thread nD τ) (0 : CellTallies nD τ sig Ix) W)
          ∗ levAts L lv ∗ ghostOn pcs a EP (Finset.univ.erase p) c)
        ⊢ wp frame (wpE 𝔻 𝕍 (c.tc : Thread nD τ) none) Set.univ (k c ⟨⟩) Q)
    (QY : Dev nD → MemSt nD τ sig Val → Prop)
    (hfin : ∀ c (s' : Phys nD τ sig Val), iprop(T c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hss := fun c : Dev nD => scopedSems0_split (pinD pcs a) phinj p (fun _ => hw) (fun _ => ho) (Ix := Ix) (Val := Val) (Name := Name) (U := U) (Lvl := Lvl) c
  have hsb := fun c : Dev nD => scopedBufs_split (pinD pcs a) p c hw.stage_scoped hw.stage_inj hstage (nD := nD) (τ := τ) (Ix := Ix) (Val := Val) (Name := Name) (U := U) (Lvl := Lvl)
  -- what a core keeps of its boundary while its own semaphores are dealt with
  let kept : Dev nD → sProp 𝕄 := fun c => iprop(scopedBufs (c.tc : Thread nD τ) ∗ cellsSems0 (pinD pcs a) p c
    ∗ idleSems0 (pinD pcs a) phinj p (fun _ => ho) c ∗ opIdle (c.tc : Thread nD τ))
  let pre : Dev nD → sProp 𝕄 := fun c => iprop(kept c ∗ owes (c.tc : Thread nD τ) (O₀ c) ∅ ∗ levAts L lv
    ∗ ghostOn pcs a EP Finset.univ c ∗ (X c ∗ Z c))
  let fin : Dev nD → sProp 𝕄 := fun c => iprop(T c ∗ scopedSems0 (c.tc : Thread nD τ))
  have hcore (c : Dev nD) :
      coreInit (Ix := Ix) (Name := Name) (U := U) (Lvl := Lvl) (owing O₀) 0 (⟨m, fun _ => 0, g⟩ : MemSt nD τ sig Val) (c.tc : Thread nD τ)
        ⊢ iprop(kept c ∗ owes (c.tc : Thread nD τ) (O₀ c) ∅ ∗ levels0 c
            ∗ ownSems0 osem c ∗ unscopedBufs c (fun b => m ((c.tc : Thread nD τ).loc b)) ∗ launchCred O₀ c) := by
    refine (coreInit_boundary_owing O₀ m g c).trans ?_
    unfold boundary
    rw [hss c]
    iintro ⟨⟨Hsc, ⟨⟨Hce, Hos⟩, Hid⟩, Hop⟩, Hub, -, HL, Hlv, -, Hcr⟩
    isplitl [Hsc Hce Hid Hop]
    · isplitl [Hsc]; · iexact Hsc
      isplitl [Hce]; · iexact Hce
      isplitl [Hid] <;> iassumption
    isplitl [HL]; · iexact HL
    isplitl [Hlv]; · iexact Hlv
    isplitl [Hos]; · iexact Hos
    isplitl [Hub] <;> iassumption
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- before the run: the levels, the ghost state, and the deal
    have hghost : iprop((bigSep Finset.univ fun c : Dev nD => bigSep Finset.univ fun p' => (cellsGhost (pinD pcs a) EP p' c : sProp 𝕄))
          ∗ bigSep Finset.univ fun c : Dev nD => bigSep Finset.univ fun p' => (toksInit (pinD pcs a) EP p' c : sProp 𝕄))
        ⊢ bigSep Finset.univ fun c : Dev nD => ghostOn pcs a EP Finset.univ c := by
      unfold PerCore.ghostOn; simp only [bigSep_sep']; exact BI.Entails.refl _
    have hcores : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop((bigSep Finset.univ kept) ∗ (bigSep Finset.univ fun c : Dev nD => owes (c.tc : Thread nD τ) (O₀ c) ∅)
            ∗ (bigSep Finset.univ fun c : Dev nD => levels0 (Ix := Ix) (Val := Val) (Name := Name) (U := U) (Lvl := Lvl) (τ := τ) (sig := sig) c)
            ∗ (bigSep Finset.univ fun c : Dev nD => ownSems0 (Ix := Ix) (Name := Name) (U := U) (Lvl := Lvl) (Val := Val) (τ := τ) osem c)
            ∗ (bigSep Finset.univ fun c : Dev nD => unscopedBufs c fun b => m ((c.tc : Thread nD τ).loc b))
            ∗ (bigSep Finset.univ fun c : Dev nD => launchCred (Name := Name) (U := U) (Lvl := Lvl) (Val := Val) O₀ c) : sProp 𝕄) := by
      refine (bigSep_mono fun c _ => hcore c).trans ?_
      simp only [bigSep_sep']
      exact BI.Entails.refl _
    have hpre : iprop((bigSep Finset.univ kept) ∗ (bigSep Finset.univ fun c : Dev nD => owes (c.tc : Thread nD τ) (O₀ c) ∅)
            ∗ (bigSep Finset.univ fun _ : Dev nD => levAts L lv) ∗ (bigSep Finset.univ fun c : Dev nD => PerCore.ghostOn pcs a EP Finset.univ c)
            ∗ bigSep Finset.univ fun c : Dev nD => iprop(X c ∗ Z c))
        ⊢ (bigSep Finset.univ pre : sProp 𝕄) := by
      simp only [pre, bigSep_sep']
      exact BI.Entails.refl _
    iintro ⟨Hcores, Hu⟩
    ihave Hc := hcores $$ Hcores
    icases Hc with ⟨Hkept, HL, Hlv, Hos, Hub, Hcr⟩
    imod (assign_levels L lv hL) $$ Hlv with #Hla
    imod hu₀ $$ Hu with ⟨HP, HG⟩
    imod (fund_ghost (pinD pcs a) EP phinj) $$ HP with Hg
    ihave Hg := hghost $$ Hg
    imod hdeal $$ [Hos Hub Hcr HG] with HXZ
    · isplitl
      · simp only [bigSep_sep']
        isplitl [Hos]; · iexact Hos
        isplitl [Hub]; · iexact Hub
        isplitl [Hcr] <;> iassumption
      · iexact Hla
    imodintro
    iexists ()
    isplitl
    · iapply hpre
      isplitl [Hkept]; · iexact Hkept
      isplitl [HL]; · iexact HL
      isplitr; · iapply (BI.bigSep_intro_persistent (S := Finset.univ) fun (c : Dev nD) _ => (BI.Entails.refl (levAts L lv : sProp 𝕄))); iexact Hla
      isplitl [Hg] <;> iassumption
    · iempintro
  · -- a core's run: the region, then the continuation
    have hout' : iprop((pdats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [hss c, hsb c]
      iintro ⟨HΦ, Hce, Hst, Hid⟩
      ihave H := (hout c) $$ HΦ
      icases H with ⟨HY, Hos, Hrest⟩
      isplitl [HY]; · iexact HY
      isplitr [Hst Hrest]
      · isplitr [Hid]; · isplitl [Hce] <;> iassumption
        iexact Hid
      isplitl [Hst] <;> iassumption
    have hin' : iprop(X c ∗ prefHeld (pcs p).pre c (fun _ => fullShare) (a c p).1 ∗ scopedRest (pinD pcs a c p).spec c) ⊢ (pdats p c).Φ 0 := by
      iintro ⟨HX, -, HR⟩
      iapply (hin c)
      isplitl [HX] <;> iassumption
    simp only [pre, kept]
    rw [hmain c, ghostOn_erase pcs a EP (Finset.mem_univ p)]
    iintro ⟨⟨Hsc, Hce, Hid, Hop⟩, HL, #Hla, ⟨⟨Hg, Ht⟩, Hgr⟩, HX, HZ⟩
    ihave Hw := (hwaits c) $$ Hla
    iapply (fupd_wp frame (wpE 𝔻 𝕍 (c.tc : Thread nD τ) none) Set.univ _ _)
    imod (cellsInit_alloc (pinD pcs a) pdats EP phinj p c) $$ [Hce Hg] with ⟨%κ, -, Hinit⟩
    · isplitl [Hce] <;> iassumption
    imodintro
    iapply (wp_customCall_entry_frame pcs a pdats ι EP κ phinj p defs₀ 𝒱₀ (fun _ => fullShare) c Set.univ (fun _ _ => Set.mem_univ _)
        (hbody c) hne none (fun u h => nomatch h) (X := X c) (Y := Y c) (R := scopedRest (pinD pcs a c p).spec c) (I := idleSems0 (pinD pcs a) phinj p (fun _ => ho) c)
        (Entails.of_eq (hsb c)) hin' hout' (k := k c) (Q := fun _ => post (liftTc fin BI.emp) (c.tc : Thread nD τ))) $$ [HL Hinit Ht HX Hid Hsc Hw]
    · isplitl [HL Hinit Ht Hw]
      · unfold PerCore.EntryPre Dat.owesAt owesWithin
        rw [howed₀ c]
        isplitr; · iapply (harr c); iempintro
        isplitl [HL]
        · iexists ∅; isplitr; · ipureintro; rw [Finset.coe_empty]; exact Set.empty_subset _
          iexact HL
        isplitl [Hw]; · iexact Hw
        isplitl [Hinit] <;> iassumption
      isplitr; · iapply (hpf c); iempintro
      isplitl [HX]; · iexact HX
      isplitl [Hid] <;> iassumption
    unfold PerCore.EntryPost Dat.owesAt owesWithin
    rw [howedN c]
    iintro ⟨⟨-, ⟨%W, -, HW⟩⟩, HY, Hss, Hsc⟩
    iapply (hk c (fun _ => post (liftTc fin BI.emp) (c.tc : Thread nD τ)))
    isplitr [Hsc Hss Hop HY HZ HW Hgr]
    · unfold boundary post; simp only [liftTc_tc, fin]
      iintro ⟨⟨-, Hss, -⟩, HT, HO⟩
      isplitr [HO]
      · isplitl [HT] <;> iassumption
      · iexact HO
    isplitl [Hsc Hss Hop]
    · unfold boundary
      isplitl [Hsc]; · iexact Hsc
      isplitl [Hss] <;> iassumption
    isplitl [HY HZ HW]
    · isplitl [HY]; · iexact HY
      isplitl [HZ]; · iexact HZ
      iexists W; iexact HW
    isplitr; · iexact Hla
    iexact Hgr
  · -- after the run: the posts read against a final state
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HT, Hss⟩, HSI⟩
      ihave %hz := (tcScoped_read_pers c s') $$ [Hss HSI]
      · isplitl [Hss] <;> iassumption
      imod (hfin c s') $$ [HT HSI] with ⟨%hy, HSI⟩
      · isplitl [HT] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Run

end Cert.Exchange

end
-- ==== Proof.Talk.lean ====
/-
The protocol that the four exchanges share, over any machine.

Each device has a fixed list of DMA semaphores. Every one of them is credited once in the whole run, by one transfer,
and waited for once, by its own device. So a semaphore is a cell of the rounds library with one round of one duty. The
device that pays the duty of the cell `(c, k)` is the one that `payee k` takes to `c`: the device itself for a local copy
and for the read-out of its own remote copy, another device for the landing of a remote copy. The units of a landing
are owed from the launch on (`fars` lists those cells, in the order in which the program pays them).

`Talk` is this data. The lemmas: the schedule, what is owed and the credit that the launch hands out for it, the three
steps of a kernel body (`wp_far`, `wp_near`, `wp_take`), and the deal of the ghost state before the run (`deal`).
-/
module

public import Idealize.ShloMosaic.Lib.Pipeline.Kit
public import proofs.«01_k».proof.Proof.Start

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- The ghost state: one copy of the rounds library for the pipeline, one for the protocol. -/
abbrev UU (nD : Nat) (τ : Topo) (sig : RefSig) : Type := UR sig nD τ × UR sig nD τ

/-- The protocol of `n` semaphores a device, each credited once. -/
structure Talk (nD : Nat) (sig : RefSig) (n : Nat) where
  /-- The semaphores. -/
  osem : Fin n → SemLoc sig
  osem_inj : Function.Injective osem
  /-- The device whose `k`-th cell a device pays. -/
  payee : Fin n → Dev nD ≃ Dev nD
  /-- The units paid. -/
  amt : Fin n → ℕ
  amt_pos : ∀ k, 0 < amt k
  /-- The level of a cell: a device waits on a cell below all the cells it still has to pay. -/
  lvl : Fin n → ℕ
  /-- The cells that another device pays, in the order in which they are paid. -/
  fars : List (Fin n)
  fars_nodup : fars.Nodup

namespace Talk

variable {n : ℕ} (P : Talk nD sig n)

local notation "𝕄" => MT nD τ sig Unit Val ℕ (UU nD τ sig) ℕ

/-- Device `c`'s `k`-th cell. -/
abbrev cell (c : Dev nD) (k : Fin n) : GSem nD τ sig := ((c.tc : Thread nD τ), P.osem k)

variable (τ) in
theorem cell_inj {c d : Dev nD} {k l : Fin n} (h : (P.cell c k : GSem nD τ sig) = P.cell d l) : c = d ∧ k = l :=
  ⟨congrArg (fun g : GSem nD τ sig => g.1.1) h, P.osem_inj (congrArg Prod.snd h)⟩

variable (τ Val) in
abbrev ER : Emb (UR sig nD τ) (MT nD τ sig Unit Val ℕ (UU nD τ sig) ℕ) := embR
variable (τ Val) in
abbrev EP : Emb (UR sig nD τ) (MT nD τ sig Unit Val ℕ (UU nD τ sig) ℕ) := embL

/-! ## The schedule -/

open Classical in
/-- Reads a value off the cell that a semaphore is, if it is one. -/
def onCell {α : Type} (z : α) (f : Fin n → α) (s : SemLoc sig) : α := if h : ∃ k, P.osem k = s then f h.choose else z

theorem onCell_osem {α : Type} (z : α) (f : Fin n → α) (k : Fin n) : P.onCell z f (P.osem k) = f k := by
  unfold onCell
  rw [dif_pos ⟨k, rfl⟩]
  exact congrArg f (P.osem_inj (Exists.choose_spec (⟨k, rfl⟩ : ∃ l, P.osem l = P.osem k)))

variable (pay : Dev nD → Fin n → sProp (MT nD τ sig Unit Val ℕ (UU nD τ sig) ℕ))

/-- One round of one duty a cell; the payloads `pay`. -/
def sched : Rounds.Schedule (GSem nD τ sig) Unit 𝕄 where
  duties g r := if r = 0 then {()} else ∅
  amount g _ _ := P.onCell 1 P.amt g.2
  payload g _ _ := P.onCell iprop(emp) (pay g.1.1) g.2
  amount_pos g _ _ _ := by
    unfold onCell; split
    · exact P.amt_pos _
    · exact Nat.one_pos
  unitless _ := False

variable {pay}

instance sched_storable [h : ∀ c k, BI.Storable (upEmb : UEmb _ 𝕄) (pay c k)] (g : GSem nD τ sig) (r : ℕ) (d : Unit) :
    BI.Storable (upEmb : UEmb _ 𝕄) ((P.sched pay).payload g r d) := by
  show BI.Storable upEmb (P.onCell iprop(emp) (pay g.1.1) g.2)
  unfold onCell
  split <;> infer_instance

theorem duties_first (g : GSem nD τ sig) : (P.sched pay).duties g 0 = {()} := by dsimp only [sched]; exact if_pos rfl
theorem duties_later (g : GSem nD τ sig) (r : ℕ) (h : 1 ≤ r) : (P.sched pay).duties g r = ∅ := by dsimp only [sched]; exact if_neg (by omega)
theorem amount_cell (c : Dev nD) (k : Fin n) (u : Unit) : (P.sched pay).amount (P.cell c k) 0 u = P.amt k := P.onCell_osem 1 P.amt k
theorem payload_cell (c : Dev nD) (k : Fin n) (u : Unit) : (P.sched pay).payload (P.cell c k) 0 u = pay c k := P.onCell_osem _ (pay c) k
theorem expect_cell (c : Dev nD) (k : Fin n) : (P.sched pay).expect (P.cell c k) 0 = P.amt k := by
  unfold Schedule.expect Schedule.amountOf
  rw [duties_first, Finset.sum_singleton, amount_cell]
theorem rest_cell (c : Dev nD) (k : Fin n) :
    bigSep ((P.sched pay).duties (P.cell c k) 0 \ ∅) (fun u => (P.sched pay).payload (P.cell c k) 0 u) = pay c k := by
  rw [Finset.sdiff_empty, duties_first, bigSep_singleton, payload_cell]

/-! ## What is owed -/

variable (τ) in
/-- What device `c` owes while the cells of `l` are still to be paid. -/
def dues (c : Dev nD) : List (Fin n) → CellTallies nD τ sig Unit
  | [] => 0
  | k :: l => dues c l + tallyAt (P.cell (P.payee k c) k) () (P.amt k)

theorem dues_pos {c : Dev nD} {l : List (Fin n)} {g : GSem nD τ sig} {u : Unit} (h : 0 < P.dues τ c l g u) :
    ∃ k ∈ l, g = P.cell (P.payee k c) k := by
  induction l with
  | nil => exact absurd h (Nat.lt_irrefl 0)
  | cons k l ih =>
    unfold dues at h
    rw [Pi.add_apply, Finsupp.add_apply, tallyAt_apply] at h
    by_cases hg : g = P.cell (P.payee k c) k
    · exact ⟨k, List.mem_cons_self, hg⟩
    · rw [if_neg fun h' => hg h'.1, Nat.add_zero] at h
      obtain ⟨k', hk', e⟩ := ih h
      exact ⟨k', List.mem_cons_of_mem _ hk', e⟩

/-- All that is owed at a cell, over the devices. -/
theorem dues_sum (c : Dev nD) (k : Fin n) : ∀ l : List (Fin n), l.Nodup →
    (∑ d : Dev nD, P.dues τ d l (P.cell c k) ()) = if k ∈ l then P.amt k else 0
  | [], _ => by
    rw [if_neg List.not_mem_nil]
    exact Finset.sum_eq_zero fun d _ => rfl
  | k' :: l, h => by
    have ht : (∑ d : Dev nD, (tallyAt (P.cell (P.payee k' d) k') () (P.amt k') : CellTallies nD τ sig Unit) (P.cell c k) ()) = if k = k' then P.amt k else 0 := by
      by_cases hk : k = k'
      · subst hk
        rw [if_pos rfl, Finset.sum_eq_single ((P.payee k).symm c)]
        · rw [tallyAt_apply, if_pos ⟨by rw [Equiv.apply_symm_apply], rfl⟩]
        · intro d _ hd
          rw [tallyAt_apply, if_neg]
          intro h'
          exact hd (by rw [(P.cell_inj τ h'.1).1, Equiv.symm_apply_apply])
        · exact fun h' => absurd (Finset.mem_univ _) h'
      · rw [if_neg hk]
        exact Finset.sum_eq_zero fun d _ => by rw [tallyAt_apply, if_neg fun h' => hk (P.cell_inj τ h'.1).2]
    obtain ⟨hn, hl⟩ := List.nodup_cons.mp h
    have := dues_sum c k l hl
    unfold dues
    simp only [Pi.add_apply, Finsupp.add_apply]
    rw [Finset.sum_add_distrib, this, ht]
    by_cases hk : k = k'
    · subst hk; rw [if_neg hn, if_pos rfl, if_pos List.mem_cons_self, Nat.zero_add]
    · rw [if_neg hk, Nat.add_zero]
      by_cases hm : k ∈ l
      · rw [if_pos hm, if_pos (List.mem_cons_of_mem _ hm)]
      · rw [if_neg hm, if_neg fun h' => (List.mem_cons.mp h').elim hk hm]

/-- The launch credit of device `c`'s cells: the units that the other devices owe there. -/
theorem creds (c : Dev nD) : (Pipeline.launchCred (fun d => P.dues τ d P.fars) c : sProp 𝕄)
    ⊢ bigSep Finset.univ fun k : Fin n => cred (tallyAt (P.cell c k) () (if k ∈ P.fars then P.amt k else 0)) := by
  unfold Pipeline.launchCred
  refine (bigSep_subset (Finset.subset_univ (Finset.univ.map ⟨P.osem, P.osem_inj⟩))).trans ?_
  rw [bigSep_map]
  refine bigSep_mono fun k _ => show _ ⊢ _ from Entails.of_eq (congrArg cred ?_)
  unfold tallyAt
  refine congrArg _ (Finsupp.ext fun u => ?_)
  cases u
  rw [Pipeline.launchCredit_owing, Finsupp.single_eq_same]
  exact P.dues_sum c k P.fars P.fars_nodup

/-! ## Levels -/

variable (nD τ) in
def L (g : GSem nD τ sig) : Finset Unit := if g.1.2 = .tc then {()} else ∅
def lv (g : GSem nD τ sig) (_ : Unit) : ℕ := P.onCell 0 P.lvl g.2

theorem L_of_ne (g : GSem nD τ sig) (h : g.1.2 ≠ .tc) : L nD τ g = ∅ := if_neg h
theorem L_tc (c : Dev nD) (s : SemLoc sig) : L nD τ ((c.tc : Thread nD τ), s) = {()} := if_pos rfl

/-- A wait on cell `k` while the cells of `l`, all at higher levels, are still to be paid. -/
theorem mayWait (c : Dev nD) (k : Fin n) (l : List (Fin n)) (h : ∀ k' ∈ l, P.lvl k < P.lvl k') :
    (levAts (L nD τ) P.lv : sProp 𝕄) ⊢ MayWait (c.tc : Thread nD τ) (P.osem k) () (P.dues τ c l) :=
  MayOwe.of_cut (L := L nD τ) (lev := P.lv) (P.lvl k)
    (fun p hp => by rw [Finset.mem_singleton.mp hp, L_tc]; exact Finset.mem_singleton_self _)
    (fun g u hg => by
      obtain ⟨k', -, rfl⟩ := P.dues_pos hg
      rw [L_tc]; exact Finset.mem_singleton_self _)
    (fun p hp => by rw [Finset.mem_singleton.mp hp]; exact (P.onCell_osem 0 P.lvl k).le)
    (fun g u hg => by
      obtain ⟨k', hk', rfl⟩ := P.dues_pos hg
      exact (h k' hk').trans_eq (P.onCell_osem 0 P.lvl k').symm)

/-! ## The ghost state -/

variable (pay)

/-- What everybody knows: every cell's invariant, and that its only round is open. -/
def records (K : Dev nD × Fin n → ℕ) : sProp 𝕄 :=
  iprop((bigSep Finset.univ fun x : Dev nD × Fin n => cellInv (ER τ Val) (P.sched pay) (K x) (P.cell x.1 x.2))
    ∗ bigSep Finset.univ fun x : Dev nD × Fin n => reached (ER τ Val) (P.cell x.1 x.2) 0)

instance records_persistent (K : Dev nD × Fin n → ℕ) : BI.Persistent (P.records pay K) := by unfold records; infer_instance

theorem inv_at (K : Dev nD × Fin n → ℕ) (c : Dev nD) (k : Fin n) :
    (P.records pay K : sProp 𝕄) ⊢ cellInv (ER τ Val) (P.sched pay) (K (c, k)) (P.cell c k) := by
  have h : (bigSep Finset.univ fun x : Dev nD × Fin n => cellInv (ER τ Val) (P.sched pay) (K x) (P.cell x.1 x.2) : sProp 𝕄)
      ⊢ cellInv (ER τ Val) (P.sched pay) (K (c, k)) (P.cell c k) := bigSep_elim (Finset.mem_univ (c, k))
  unfold records
  iintro ⟨H, -⟩
  iapply h; iexact H
theorem reached_at (K : Dev nD × Fin n → ℕ) (c : Dev nD) (k : Fin n) :
    (P.records pay K : sProp 𝕄) ⊢ reached (ER τ Val) (P.cell c k) 0 := by
  have h : (bigSep Finset.univ fun x : Dev nD × Fin n => reached (ER τ Val) (P.cell x.1 x.2) 0 : sProp 𝕄)
      ⊢ reached (ER τ Val) (P.cell c k) 0 := bigSep_elim (Finset.mem_univ (c, k))
  unfold records
  iintro ⟨-, H⟩
  iapply h; iexact H

/-- Device `c`'s position at its own cell `k`, the right to pay the cell `k` that it pays, and the credit that the
    launch gives it at its own cell `k`. -/
def hand (c : Dev nD) (k : Fin n) : sProp 𝕄 :=
  iprop(atPos (ER τ Val) (P.cell c k) 0 ∅ 0 ∗ dutyTok (ER τ Val) (P.cell (P.payee k c) k) 0 ()
    ∗ cred (tallyAt (P.cell c k) () (if k ∈ P.fars then P.amt k else 0)))

/-- What device `c` owes, its waits recorded or not. -/
def debt (c : Dev nD) (l : List (Fin n)) : sProp 𝕄 := iprop(∃ W, owes (c.tc : Thread nD τ) (P.dues τ c l) W)

/-- What a device has of the protocol as its kernel starts. -/
def start (c : Dev nD) : sProp 𝕄 :=
  iprop((∃ K, P.records pay K) ∗ levAts (L nD τ) P.lv ∗ bigSep Finset.univ (P.hand (τ := τ) (Val := Val) c))

/-! ## The steps of a kernel body -/

section Steps

variable {pay} {Λ : Labels} {defs : Defs nD τ sig Val Λ} (𝒱 : Variants) (K : Dev nD × Fin n → ℕ)
  [h : ∀ c k, BI.Storable (upEmb : UEmb _ (MT nD τ sig Unit Val ℕ (UU nD τ sig) ℕ)) (pay c k)] (c : Dev nD)
  {sp sp' : Space} {s : Shape} {e : EltTy} {α : Type} {Q : α → sProp (MT nD τ sig Unit Val ℕ (UU nD τ sig) ℕ)}

/-- A remote copy to device `d = payee k₂ c`: it pays the next cell owed, and device `c`'s own read-out cell `k₁`. -/
theorem wp_far (k₁ k₂ : Fin n) (l : List (Fin n)) (h₁ : P.payee k₁ c = c) {sS sem : SemLoc sig} (e₁ : sS = P.osem k₁) (e₂ : sem = P.osem k₂)
    {d : Dev nD} (hd : d = P.payee k₂ c) {src : Memref sig .tc sp s e}
    {dst : Memref sig (Dev.tc d : Thread nD τ).2.kind sp' s e} {hsc : dst.view.ref.isScScratch = false}
    {hsrc : src.view.WordExact} {hdst : dst.view.WordExact} {hsem : DmaTarget.Typed sp sem (.remote (Dev.tc d : Thread nD τ) dst sS hsc)}
    {k : PUnit → Prog (TpuEff nD τ sig Val Λ .tc) α} {q : PosShare TreeShare}
    {fs : Buf Val (src.view.loc (c.tc : Thread nD τ))} {fd : Buf Val (dst.view.loc (Dev.tc d : Thread nD τ))}
    (hN : dst.view.amount sem = P.amt k₂) (hA : P.amt k₁ = P.amt k₂)
    (hpay₁ : (src.view.loc (c.tc : Thread nD τ) ↦[src.view.set]{q} fs) ⊢ pay c k₁)
    (hpay₂ : (dst.view.loc (Dev.tc d : Thread nD τ) ↦[dst.view.set]{fullShare} (dst.view.write Val fd (src.view.read Val fs) Finset.univ)) ⊢ pay d k₂)
    (hr : τ.routes (c.tc : Thread nD τ) (Dev.tc d : Thread nD τ) = true := by routes) :
    iprop(P.records pay K ∗ P.debt c (k₂ :: l)
        ∗ dutyTok (ER τ Val) (P.cell (P.payee k₁ c) k₁) 0 () ∗ dutyTok (ER τ Val) (P.cell (P.payee k₂ c) k₂) 0 ()
        ∗ (src.view.loc (c.tc : Thread nD τ) ↦[src.view.set]{q} fs) ∗ (dst.view.loc (Dev.tc d : Thread nD τ) ↦[dst.view.set]{fullShare} fd))
      ⊢ iprop(((cred (tallyAt (P.cell c k₁) () (P.amt k₁)) ∗ P.debt c l) -∗ wp frame (wpE defs 𝒱 (c.tc : Thread nD τ) none) Set.univ (k ⟨⟩) Q)
          -∗ wp frame (wpE defs 𝒱 (c.tc : Thread nD τ) none) Set.univ (.op (.enqueueDma src (.remote (Dev.tc d : Thread nD τ) dst sS hsc) sem hsrc hdst hsem) k) Q) := by
  subst hd e₁ e₂
  rw [h₁, hA]
  unfold debt
  have hs := fun W => Rounds.wp_send_pointsTo (defs := defs) (W := W) (Γ := PendingWaitsCtx.empty) 𝒱 (ER τ Val) (P.sched pay) (c.tc : Thread nD τ) none (κ₁ := K (c, k₁)) (κ₂ := K (P.payee k₂ c, k₂))
    (r₁ := 0) (r₂ := 0) (d₁ := ()) (d₂ := ()) (q := q) (fs := fs) (fd := fd) (hsrc := hsrc) (hdst := hdst) (hsem := hsem) (k := k) (Q := Q)
    (by rw [P.duties_first]; exact Finset.mem_singleton_self _) (by rw [P.duties_first]; exact Finset.mem_singleton_self _)
    () () (P.amt k₂) hN ((P.amount_cell c k₁ ()).trans hA) (P.amount_cell (P.payee k₂ c) k₂ ()) (P.dues τ c l) rfl
    (hpay₁.trans (Entails.of_eq (P.payload_cell c k₁ ()).symm)) (hpay₂.trans (Entails.of_eq (P.payload_cell (P.payee k₂ c) k₂ ()).symm))
    (Es := Set.univ) hr
  iintro ⟨#HR, ⟨%W, HO⟩, Ht₁, Ht₂, Hs, Hd⟩ Hk
  iapply (hs W) $$ [Hs Hd HO Ht₁ Ht₂]
  · isplitr; · iapply (P.inv_at pay K c k₁); iexact HR
    isplitr; · iapply (P.inv_at pay K (P.payee k₂ c) k₂); iexact HR
    isplitl [Hs]; · iexact Hs
    isplitl [Hd]; · iexact Hd
    isplitl [HO]; · iexact HO
    isplitl [Ht₁]; · iexact Ht₁
    isplitr; · iapply (P.reached_at pay K c k₁); iexact HR
    isplitl [Ht₂]; · iexact Ht₂
    iapply (P.reached_at pay K (P.payee k₂ c) k₂); iexact HR
  iintro ⟨Hc, HO⟩
  iapply Hk
  isplitl [Hc]; · iexact Hc
  iexists W; iexact HO

/-- A copy within device `c`, paying its own cell `k₁`. -/
theorem wp_near (k₁ : Fin n) (h₁ : P.payee k₁ c = c) {sem : SemLoc sig} (e₁ : sem = P.osem k₁) {src : Memref sig .tc sp s e}
    {dst : Memref sig (c.tc : Thread nD τ).2.kind sp' s e} {hsrc : src.view.WordExact} {hdst : dst.view.WordExact} {hsem : DmaTarget.Typed (nD := nD) (τ := τ) sp sem (.here dst)}
    {k : PUnit → Prog (TpuEff nD τ sig Val Λ .tc) α} {q : PosShare TreeShare}
    {fs : Buf Val (src.view.loc (c.tc : Thread nD τ))} {fd : Buf Val (dst.view.loc (c.tc : Thread nD τ))}
    (hN : dst.view.amount sem = P.amt k₁)
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ pay c k₁) :
    iprop(P.records pay K ∗ dutyTok (ER τ Val) (P.cell (P.payee k₁ c) k₁) 0 ()
        ∗ (src.view.loc (c.tc : Thread nD τ) ↦[src.view.set]{q} fs) ∗ (dst.view.loc (c.tc : Thread nD τ) ↦[dst.view.set]{fullShare} fd))
      ⊢ iprop((cred (tallyAt (P.cell c k₁) () (P.amt k₁)) -∗ wp frame (wpE defs 𝒱 (c.tc : Thread nD τ) none) Set.univ (k ⟨⟩) Q)
          -∗ wp frame (wpE defs 𝒱 (c.tc : Thread nD τ) none) Set.univ (.op (.enqueueDma src (.here dst) sem hsrc hdst hsem) k) Q) := by
  subst e₁
  rw [h₁]
  have hs := Rounds.wp_copy_pointsTo (defs := defs) (Γ := PendingWaitsCtx.empty) 𝒱 (ER τ Val) (P.sched pay) (c.tc : Thread nD τ) none (κ := K (c, k₁)) (r := 0) (d := ())
    (q := q) (fs := fs) (fd := fd) (hsrc := hsrc) (hdst := hdst) (hsem := hsem) (k := k) (Q := Q)
    (by rw [P.duties_first]; exact Finset.mem_singleton_self _) () (P.amt k₁) hN (P.amount_cell c k₁ ())
    (hpay.trans (Entails.of_eq (P.payload_cell c k₁ ()).symm)) (Es := Set.univ)
  iintro ⟨#HR, Ht, Hs, Hd⟩ Hk
  iapply hs $$ [Hs Hd Ht]
  · isplitr; · iapply (P.inv_at pay K c k₁); iexact HR
    isplitl [Hs]; · iexact Hs
    isplitl [Hd]; · iexact Hd
    isplitl [Ht]; · iexact Ht
    iapply (P.reached_at pay K c k₁); iexact HR
  iexact Hk

/-- The wait on device `c`'s own cell `k₁`, while the cells of `l` are still to be paid: the payload comes back, and the
    semaphore, at zero, for good. -/
theorem wp_take (k₁ : Fin n) (l : List (Fin n)) (hl : ∀ k' ∈ l, P.lvl k₁ < P.lvl k') {sem : DmaSem sig} (e₁ : SemLoc.dma sem = P.osem k₁)
    {sp'' : Space} {s' : Shape} {src : Memref sig .tc sp'' s' e} {dst : Memref sig .tc sp' s e} {hsrc : src.view.WordExact} {hdst : dst.view.WordExact}
    {k : PUnit → Prog (TpuEff nD τ sig Val Λ .tc) α} (hN : dst.view.dmaCredit = P.amt k₁) :
    iprop(P.records pay K ∗ levAts (L nD τ) P.lv ∗ P.debt c l ∗ cred (tallyAt (P.cell c k₁) () (P.amt k₁)) ∗ atPos (ER τ Val) (P.cell c k₁) 0 ∅ 0)
      ⊢ iprop(((P.debt c l ∗ pay c k₁ ∗ semVal (P.cell c k₁ : GSem nD τ sig) 0) -∗ wp frame (wpE defs 𝒱 (c.tc : Thread nD τ) none) Set.univ (k ⟨⟩) Q)
          -∗ wp frame (wpE defs 𝒱 (c.tc : Thread nD τ) none) Set.univ (.op (.waitDma2 sem src dst hsrc hdst) k) Q) := by
  unfold debt
  have hs := fun W => Rounds.wp_wait_rest_token (defs := defs) (W := W) 𝒱 (ER τ Val) (P.sched pay) (c.tc : Thread nD τ) none (κ := K (c, k₁)) (k := k) (Q := Q)
    (wpE_waitDma2_eq (hsrc := hsrc) (hdst := hdst) (src := src) 𝒱 (c.tc : Thread nD τ) none Set.univ) (Set.mem_univ _) ()
    (O := P.dues τ c l) (R := 0) (m := 0) (T := ∅)
    (by rw [Nat.zero_add, hN]; exact ((congrArg (fun x => (P.sched pay).expect ((c.tc : Thread nD τ), x) 0) e₁).trans (P.expect_cell c k₁)).symm)
  simp only [hN] at hs
  have hpay : bigSep ((P.sched pay).duties ((c.tc : Thread nD τ), SemLoc.dma sem) 0 \ ∅) (fun u => (P.sched pay).payload ((c.tc : Thread nD τ), SemLoc.dma sem) 0 u) = pay c k₁ := by
    rw [e₁]; exact P.rest_cell c k₁
  have hinv := P.inv_at pay K c k₁
  have hmay := P.mayWait (Val := Val) (τ := τ) c k₁ l hl
  have hcell : (P.cell c k₁ : GSem nD τ sig) = ((c.tc : Thread nD τ), SemLoc.dma sem) := by rw [e₁]
  rw [← e₁] at hmay
  rw [hcell] at hinv ⊢
  simp only [hpay] at hs
  iintro ⟨#HR, #HL, ⟨%W, HO⟩, Hc, Hat⟩ Hk
  ihave #HI := hinv $$ HR
  iapply (hs W) $$ [HO Hc Hat]
  · isplitr; · iexact HI
    isplitl [Hc]; · iexact Hc
    isplitl [HO]; · iexact HO
    isplitr; · iapply hmay; iexact HL
    iexact Hat
  iintro ⟨HO, Hat, -, Hp⟩
  imod (Rounds.cell_close (ER τ Val) (P.sched pay) (Set.mem_univ (K (c, k₁))) (fun h => h) (R := 0 + 1) (P.duties_later ((c.tc : Thread nD τ), SemLoc.dma sem))) $$ [Hat] with Hz
  · isplitr; · iexact HI
    iexact Hat
  iapply Hk
  isplitl [HO]; · iexists _; iexact HO
  isplitl [Hp]; · iexact Hp
  iexact Hz

end Steps

/-! ## The ghost state is dealt -/

theorem pair_inj : Function.Injective fun x : Dev nD × Fin n => (P.cell x.1 x.2 : GSem nD τ sig) := fun x y h =>
  Prod.ext (P.cell_inj τ h).1 (P.cell_inj τ h).2

variable (τ) in
def cells : Finset (GSem nD τ sig) := Finset.univ.map ⟨_, P.pair_inj (τ := τ)⟩
variable (τ) in
def toks : Finset (GSem nD τ sig × ℕ × Unit) :=
  Finset.univ.map ⟨fun x : Dev nD × Fin n => (P.cell x.1 x.2, 0, ()), fun _ _ h => P.pair_inj (τ := τ) (congrArg Prod.fst h)⟩

/-- What a device has of the rounds library's launch. -/
def seed (c : Dev nD) : sProp 𝕄 :=
  iprop((bigSep Finset.univ fun k : Fin n => roundState (ER τ Val) (P.sched pay) (P.cell c k) 0)
    ∗ (bigSep Finset.univ fun k : Fin n => reached (ER τ Val) (P.cell c k) 0)
    ∗ (bigSep Finset.univ fun k : Fin n => atPos (ER τ Val) (P.cell c k) 0 ∅ 0)
    ∗ (bigSep Finset.univ fun k : Fin n => dutyTok (ER τ Val) (P.cell c k) 0 ()))

theorem fund : BI.own ((ER τ Val) (initOf (P.cells τ) (P.toks τ))) ⊢ (|==> bigSep Finset.univ (P.seed pay) : sProp 𝕄) := by
  have hX (Φ : GSem nD τ sig → sProp 𝕄) : bigSep (P.cells τ) Φ = bigSep Finset.univ fun c : Dev nD => bigSep Finset.univ fun k : Fin n => Φ (P.cell c k) := by
    unfold cells; rw [bigSep_map, bigSep_univ_prod]; rfl
  have hT : bigSep (P.toks τ) (fun x => (dutyTok (ER τ Val) x.1 x.2.1 x.2.2 : sProp 𝕄))
      = bigSep Finset.univ fun c : Dev nD => bigSep Finset.univ fun k : Fin n => dutyTok (ER τ Val) (P.cell c k) 0 () := by
    unfold toks; rw [bigSep_map, bigSep_univ_prod]; rfl
  have hG : bigSep Finset.univ (P.seed pay) = iprop((bigSep (P.cells τ) fun g => roundState (ER τ Val) (P.sched pay) g 0)
      ∗ (bigSep (P.cells τ) fun g => reached (ER τ Val) g 0) ∗ (bigSep (P.cells τ) fun g => atPos (ER τ Val) g 0 ∅ 0)
      ∗ (bigSep (P.toks τ) fun x => dutyTok (ER τ Val) x.1 x.2.1 x.2.2)) := by
    rw [hX, hX, hX, hT, ← bigSep_sep', ← bigSep_sep', ← bigSep_sep']; rfl
  rw [hG]
  exact Rounds.fund (ER τ Val) (P.sched pay) (P.cells τ) (P.toks τ)

/-- Two nested products in the other order. -/
theorem nest_swap {A B : Type} [Fintype A] [Fintype B] (Φ : A → B → sProp 𝕄) :
    (bigSep Finset.univ fun a => bigSep Finset.univ fun b => Φ a b) = bigSep Finset.univ fun b => bigSep Finset.univ fun a => Φ a b :=
  (bigSep_univ_prod fun x : A × B => Φ x.1 x.2).symm.trans
    ((bigSep_univ_equiv (Equiv.prodComm B A) fun x : A × B => Φ x.1 x.2).trans (bigSep_univ_prod fun x : B × A => Φ x.2 x.1))

/-- The launch: the semaphores at zero become the cells of the protocol, and every device gets its part. -/
theorem deal [h : ∀ c k, BI.Storable (upEmb : UEmb _ 𝕄) (pay c k)] {B H Z : Dev nD → sProp 𝕄}
    (hB : bigSep Finset.univ B ⊢ bigSep Finset.univ fun c => iprop(H c ∗ Z c)) :
    iprop((bigSep Finset.univ fun c : Dev nD => iprop(Pipeline.ownSems0 P.osem c ∗ B c ∗ Pipeline.launchCred (fun d => P.dues τ d P.fars) c ∗ P.seed pay c))
        ∗ levAts (L nD τ) P.lv)
      ⊢ (|={Set.univ}=> bigSep Finset.univ fun c : Dev nD => iprop((P.start pay c ∗ H c) ∗ Z c) : sProp 𝕄) := by
  have hcells : iprop((bigSep Finset.univ fun c : Dev nD => Pipeline.ownSems0 P.osem c)
        ∗ bigSep Finset.univ fun c : Dev nD => bigSep Finset.univ fun k : Fin n => roundState (ER τ Val) (P.sched pay) (P.cell c k) 0)
      ⊢ (|={Set.univ}=> iprop(∃ K : Dev nD × Fin n → ℕ, bigSep Finset.univ fun x : Dev nD × Fin n => cellInv (ER τ Val) (P.sched pay) (K x) (P.cell x.1 x.2)) : sProp 𝕄) := by
    have e : iprop((bigSep Finset.univ fun c : Dev nD => Pipeline.ownSems0 P.osem c)
        ∗ bigSep Finset.univ fun c : Dev nD => bigSep Finset.univ fun k : Fin n => roundState (ER τ Val) (P.sched pay) (P.cell c k) 0)
        = (bigSep Finset.univ fun x : Dev nD × Fin n => iprop(semVal (P.cell x.1 x.2 : GSem nD τ sig) 0 ∗ roundState (ER τ Val) (P.sched pay) (P.cell x.1 x.2) 0) : sProp 𝕄) := by
      rw [bigSep_sep', bigSep_univ_prod, bigSep_univ_prod]; rfl
    rw [e]
    exact ((bigSep_mono fun x _ => (Rounds.body_intro (ER τ Val) (P.sched pay) (P.cell x.1 x.2)).trans inv_alloc).trans (bigSep_fupd _ _)).trans
      (BI.fupd_mono (BI.bigSep_exists_pi Finset.univ (fun (x : Dev nD × Fin n) (κ : ℕ) => cellInv (ER τ Val) (P.sched pay) κ (P.cell x.1 x.2))))
  have htoks : (bigSep Finset.univ fun c : Dev nD => bigSep Finset.univ fun k : Fin n => dutyTok (ER τ Val) (P.cell c k) 0 ())
      = (bigSep Finset.univ fun c : Dev nD => bigSep Finset.univ fun k : Fin n => dutyTok (ER τ Val) (P.cell (P.payee k c) k) 0 () : sProp 𝕄) := by
    refine (nest_swap fun (c : Dev nD) (k : Fin n) => (dutyTok (ER τ Val) (P.cell c k) 0 () : sProp 𝕄)).trans
      (Eq.trans ?_ (nest_swap fun (c : Dev nD) (k : Fin n) => (dutyTok (ER τ Val) (P.cell (P.payee k c) k) 0 () : sProp 𝕄)).symm)
    exact bigSep_congr fun k _ => bigSep_univ_equiv (P.payee k) fun c : Dev nD => dutyTok (ER τ Val) (P.cell c k) 0 ()
  have hhand : iprop((bigSep Finset.univ fun c : Dev nD => bigSep Finset.univ fun k : Fin n => atPos (ER τ Val) (P.cell c k) 0 ∅ 0)
        ∗ (bigSep Finset.univ fun c : Dev nD => bigSep Finset.univ fun k : Fin n => dutyTok (ER τ Val) (P.cell (P.payee k c) k) 0 ())
        ∗ (bigSep Finset.univ fun c : Dev nD => bigSep Finset.univ fun k : Fin n => cred (tallyAt (P.cell c k) () (if k ∈ P.fars then P.amt k else 0))))
      = (bigSep Finset.univ fun c : Dev nD => bigSep Finset.univ (P.hand (τ := τ) (Val := Val) c) : sProp 𝕄) := by
    rw [← bigSep_sep', ← bigSep_sep']
    refine bigSep_congr fun c _ => ?_
    rw [← bigSep_sep', ← bigSep_sep']; rfl
  have hend (K : Dev nD × Fin n → ℕ) : iprop((P.records pay K ∗ levAts (L nD τ) P.lv) ∗ bigSep Finset.univ fun c : Dev nD => iprop((bigSep Finset.univ (P.hand (τ := τ) (Val := Val) c)) ∗ H c ∗ Z c))
      ⊢ (bigSep Finset.univ fun c : Dev nD => iprop((P.start pay c ∗ H c) ∗ Z c) : sProp 𝕄) := by
    refine (sep_mono_left (BI.bigSep_of_persistent (Finset.univ : Finset (Dev nD)) _)).trans ?_
    rw [← bigSep_sep']
    refine bigSep_mono fun c _ => show (iprop((P.records pay K ∗ levAts (L nD τ) P.lv) ∗ (bigSep Finset.univ (P.hand (τ := τ) (Val := Val) c)) ∗ H c ∗ Z c) : sProp 𝕄)
      ⊢ iprop((P.start pay c ∗ H c) ∗ Z c) from ?_
    unfold start
    iintro ⟨⟨#HR, #HL⟩, Hh, HH, HZ⟩
    isplitr [HZ]
    · isplitr [HH]
      · isplitr; · iexists K; iexact HR
        isplitr; · iexact HL
        iexact Hh
      · iexact HH
    · iexact HZ
  have hcr : (bigSep Finset.univ fun c : Dev nD => Pipeline.launchCred (fun d => P.dues τ d P.fars) c)
      ⊢ (bigSep Finset.univ fun c : Dev nD => bigSep Finset.univ fun k : Fin n => cred (tallyAt (P.cell c k) () (if k ∈ P.fars then P.amt k else 0)) : sProp 𝕄) :=
    bigSep_mono fun c _ => P.creds c
  have hst : (bigSep Finset.univ (P.seed pay)) = (iprop((bigSep Finset.univ fun c : Dev nD => bigSep Finset.univ fun k : Fin n => roundState (ER τ Val) (P.sched pay) (P.cell c k) 0)
      ∗ (bigSep Finset.univ fun x : Dev nD × Fin n => reached (ER τ Val) (P.cell x.1 x.2) 0)
      ∗ (bigSep Finset.univ fun c : Dev nD => bigSep Finset.univ fun k : Fin n => atPos (ER τ Val) (P.cell c k) 0 ∅ 0)
      ∗ (bigSep Finset.univ fun c : Dev nD => bigSep Finset.univ fun k : Fin n => dutyTok (ER τ Val) (P.cell c k) 0 ())) : sProp 𝕄) := by
    rw [bigSep_univ_prod, ← bigSep_sep', ← bigSep_sep', ← bigSep_sep']; rfl
  have e : (bigSep Finset.univ fun c : Dev nD => iprop(Pipeline.ownSems0 P.osem c ∗ B c ∗ Pipeline.launchCred (fun d => P.dues τ d P.fars) c ∗ P.seed pay c))
      = (iprop((bigSep Finset.univ fun c : Dev nD => Pipeline.ownSems0 P.osem c) ∗ bigSep Finset.univ B
        ∗ (bigSep Finset.univ fun c : Dev nD => Pipeline.launchCred (fun d => P.dues τ d P.fars) c) ∗ bigSep Finset.univ (P.seed pay)) : sProp 𝕄) := by
    rw [← bigSep_sep', ← bigSep_sep', ← bigSep_sep']
  have hall : iprop((bigSep Finset.univ fun c : Dev nD => bigSep Finset.univ (P.hand (τ := τ) (Val := Val) c)) ∗ bigSep Finset.univ fun c : Dev nD => iprop(H c ∗ Z c))
      = (bigSep Finset.univ fun c : Dev nD => iprop((bigSep Finset.univ (P.hand (τ := τ) (Val := Val) c)) ∗ H c ∗ Z c) : sProp 𝕄) := by
    rw [← bigSep_sep']
  rw [e, hst, htoks]
  iintro ⟨⟨Hs, HB, Hc, Hr, #Hre, Hat, Ht⟩, #HL⟩
  imod hcells $$ [Hs Hr] with ⟨%K, #HI⟩
  · isplitl [Hs] <;> iassumption
  imodintro
  ihave Hc := hcr $$ Hc
  ihave HB := hB $$ HB
  iapply (hend K)
  isplitr
  · isplitr
    · unfold records; isplitr; · iexact HI
      iexact Hre
    · iexact HL
  iapply (Entails.of_eq hall)
  isplitl [Hat Ht Hc]
  · iapply (Entails.of_eq hhand)
    isplitl [Hat]; · iexact Hat
    isplitl [Ht] <;> iassumption
  · iexact HB

end Talk

end Cert.Exchange

end
-- ==== Proof.Launch.lean ====
/-
A program that is one pallas_call of the protocol in `Talk.lean`, without staged windows: from the body's triple at a
symbolic device to the run of the whole mesh.
-/
module

public import proofs.«01_k».proof.Proof.Talk

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Λ₀ : Idealize.SL.Sem.Labels} {n : ℕ}

local notation "𝕄" => MT nD τ sig Unit Val ℕ (UU nD τ sig) ℕ

theorem bigSep_none {I : Type} [Fintype I] [IsEmpty I] (Φ : I → sProp 𝕄) : bigSep Finset.univ Φ = BI.emp := by
  rw [Finset.univ_eq_empty, BI.bigSep_empty]

section Run

variable (P : Talk nD sig n) (cfgs : Fin 1 → Cfg sig Λ₀) [he : ∀ p, IsEmpty (Fin (cfgs p).W)]

/-- The proof data of a call without windows: the assertion before its only point, and the one after it. -/
def dats (X Y : Dev nD → sProp 𝕄) (p : Fin 1) (c : Dev nD) : Dat τ Val Unit ℕ (UU nD τ sig) ℕ (cfgs p) c where
  A w := (he p).elim w
  after w := (he p).elim w
  Φ t := if t.val = 0 then X c else Y c
  q w := (he p).elim w
  owed t := P.dues τ c (if t.val = 0 then P.fars else [])

variable {P cfgs}

theorem dats_first (X Y : Dev nD → sProp 𝕄) (p : Fin 1) (c : Dev nD) (t : Fin ((cfgs p).N + 1)) (ht : t.val = 0) :
    (dats P cfgs X Y p c).Φ t = X c := by dsimp only [dats]; exact if_pos ht
theorem dats_last (X Y : Dev nD → sProp 𝕄) (p : Fin 1) (c : Dev nD) (t : Fin ((cfgs p).N + 1)) (ht : t.val ≠ 0) :
    (dats P cfgs X Y p c).Φ t = Y c := by dsimp only [dats]; exact if_neg ht
theorem owed_first (X Y : Dev nD → sProp 𝕄) (p : Fin 1) (c : Dev nD) (t : Fin ((cfgs p).N + 1)) (ht : t.val = 0) :
    (dats P cfgs X Y p c).owed t = P.dues τ c P.fars := by dsimp only [dats]; rw [if_pos ht]
theorem owed_last (X Y : Dev nD → sProp 𝕄) (p : Fin 1) (c : Dev nD) (t : Fin ((cfgs p).N + 1)) (ht : t.val ≠ 0) :
    (dats P cfgs X Y p c).owed t = P.dues τ c [] := by dsimp only [dats]; rw [if_neg ht]

theorem run_talk [∀ e, Nonempty (Val e)] (hinj : Function.Injective (cellOf (nD := nD) (τ := τ) cfgs)) (hN : (cfgs 0).N = 1)
    (hw : WinFacts (cfgs 0).spec) (ho : OwnSemFacts (cfgs 0).spec P.osem) (defs₀ : Defs nD τ sig Val Λ₀) (𝒱₀ : Variants)
    (pay : Dev nD → Fin n → sProp 𝕄) [h : ∀ c k, BI.Storable (upEmb : UEmb _ 𝕄) (pay c k)]
    (m : (ℓ : Loc nD τ sig) → Buf Val ℓ) (g : Dev nD → PrngReg)
    (main : Dev nD → Prog (TpuEff nD τ sig Val (Pipeline.Sig Λ₀ (Fin 1) fun p => ((cfgs p).toPCfg (Val := Val)).Adm) .tc) PUnit)
    (hmain : ∀ c, main c = .op (.customCall (entry 0) ()) fun _ => pure ⟨⟩)
    (H Z Y : Dev nD → sProp 𝕄)
    (hbufs : (bigSep Finset.univ fun c : Dev nD => unscopedBufs c (fun b => m ((c.tc : Thread nD τ).loc b)))
      ⊢ bigSep Finset.univ fun c : Dev nD => iprop(H c ∗ Z c))
    (hscoped : ∀ c, (scopedRest (cfgs 0).spec c : sProp 𝕄) = BI.emp)
    (hbody : ∀ (c : Dev nD) (t : Fin (cfgs 0).N), iprop((P.start pay c ∗ H c) ∗ P.debt c P.fars)
      ⊢ wp frame (wpE defs₀ 𝒱₀ (c.tc : Thread nD τ) none) Set.univ (defs₀ .tc (cfgs 0).body ((cfgs 0).bodyArgs t ((cfgs 0).slots t)))
          fun _ => iprop((Y c ∗ bigSep Finset.univ fun k => semVal (P.cell c k : GSem nD τ sig) 0) ∗ P.debt c []))
    (QY : Dev nD → MemSt nD τ sig Val → Prop)
    (hread : ∀ c (s' : Phys nD τ sig Val), iprop((Y c ∗ Z c) ∗ SI s') ⊢ |={Set.univ}=> iprop(⌜QY c s'.mem⌝ ∗ SI s'))
    (hsem : ∀ g : SemLoc sig, g.isScoped .tc = true) :
    θ_run (Pipeline.defs (fun p => (cfgs p).toPCfg) defs₀) (onTc main) ⟨m, fun _ => 0, g⟩ fun r => (∀ c, QY c r.2) ∧ r.2.sem = fun _ => 0 := by
  have hz (t : Fin (cfgs 0).N) : t.val = 0 := by have := t.isLt; omega
  have hlast : (Fin.last (cfgs 0).N).val ≠ 0 := by rw [Fin.val_last, hN]; decide
  refine run_exchange (fun p => (cfgs p).toPCfg) (fun _ p => (cfgs p).toPCfg_adm)
    (dats P cfgs (fun c => iprop(P.start pay c ∗ H c)) (fun c => iprop(Y c ∗ bigSep Finset.univ fun k => semVal (P.cell c k : GSem nD τ sig) 0)))
    () hinj 0 hw.to₀ ho (Talk.EP τ Val) defs₀ 𝒱₀ m g main (fun _ _ => pure ⟨⟩) hmain
    (hbody := ?_) (hne := fun w => (he 0).elim w) (hstage := fun w => (he 0).elim w) (harr := ?_) (hpf := ?_)
    (O₀ := fun c => P.dues τ c P.fars) (howed₀ := fun c => rfl) (howedN := ?_) (L := Talk.L nD τ) (lv := P.lv) (hL := Talk.L_of_ne)
    (hwaits := ?_) (G := P.seed pay)
    (u₀ := (initOf (Pipeline.cells cfgs hinj) (Pipeline.launchToks cfgs hinj), initOf (P.cells τ) (P.toks τ))) (hu₀ := ?_)
    (X := fun c => iprop(P.start pay c ∗ H c)) (Y := Y) (Z := Z) (T := fun c => iprop(Y c ∗ Z c)) (hdeal := P.deal pay hbufs)
    (hin := ?_) (hout := ?_) (hk := ?_) (QY := QY) (hfin := hread) (hQ := ?_)
  · intro c t
    dsimp only
    unfold Dat.owesAt owesWithin
    rw [dats_first _ _ _ _ t.castSucc (hz t), owed_first _ _ _ _ t.castSucc (hz t), dats_last _ _ _ _ t.succ (Nat.succ_ne_zero _), owed_last _ _ _ _ t.succ (Nat.succ_ne_zero _)]
    refine (show _ ⊢ iprop((P.start pay c ∗ H c) ∗ P.debt c P.fars) from ?_).trans ((hbody c t).trans (wp_mono _ _ _ fun _ =>
      show iprop((Y c ∗ bigSep Finset.univ fun k => semVal (P.cell c k : GSem nD τ sig) 0) ∗ P.debt c []) ⊢ _ from ?_))
    · unfold Talk.debt
      iintro ⟨HX, ⟨%W, -, HO⟩, -⟩
      isplitl [HX]; · iexact HX
      iexists W; iexact HO
    · unfold Talk.debt
      rw [bigSep_none (I := Fin (cfgs 0).W)]
      iintro ⟨HY, ⟨%W, HO⟩⟩
      isplitl [HY]; · iexact HY
      isplitl [HO]
      · iexists W
        isplitr; · ipureintro; exact fun _ _ => Or.inl trivial
        iexact HO
      · iempintro
  · intro c; exact Entails.of_eq (by unfold Dat.arrays; exact (bigSep_none (I := Fin (cfgs 0).W) _).symm)
  · intro c; exact Entails.of_eq (by unfold prefHeld; exact (bigSep_none (I := Fin 0) _).symm)
  · intro c
    exact owed_last _ _ _ _ (Fin.last _) hlast
  · intro c; exact cellsWaits_intro cfgs _ () 0 c fun w => (he 0).elim w
  · iintro Hu
    ihave H := (ownU_pair _ _) $$ Hu
    icases H with ⟨HP, HX⟩
    imod (P.fund pay) $$ HX with HG
    imodintro
    isplitl [HP] <;> iassumption
  · intro c
    have hsc : (scopedRest (pinD (fun p => (cfgs p).toPCfg (Val := Val)) (fun _ p => (cfgs p).toPCfg_adm) c 0).spec c : sProp 𝕄) = BI.emp := hscoped c
    rw [hsc, dats_first _ _ _ _ 0 (Fin.val_zero _)]
    iintro ⟨HX, -⟩
    iexact HX
  · intro c
    have hsc : (scopedRest (pinD (fun p => (cfgs p).toPCfg (Val := Val)) (fun _ p => (cfgs p).toPCfg_adm) c 0).spec c : sProp 𝕄) = BI.emp := hscoped c
    rw [hsc, dats_last _ _ _ _ (Fin.last _) hlast]
    unfold ownSems0
    iintro ⟨HY, Hz⟩
    isplitl [HY]; · iexact HY
    isplitl [Hz]; · iexact Hz
    iempintro
  · intro c Q
    rw [show (pure ⟨⟩ : Prog (TpuEff nD τ sig Val (Pipeline.Sig Λ₀ (Fin 1) fun p => ((cfgs p).toPCfg (Val := Val)).Adm) .tc) PUnit) = .ret ⟨⟩ from rfl, wp_ret]
    iintro ⟨HQ, Hb, ⟨HY, HZ, HO⟩, -, -⟩
    imodintro
    iapply HQ
    isplitl [Hb]; · iexact Hb
    isplitr [HO]
    · isplitl [HY] <;> iassumption
    · iexact HO
  · intro s hs hz
    exact ⟨hs, funext fun g => hz g (Or.inr (hsem _))⟩

end Run

end Cert.Exchange

end
-- ==== Proof.Pieces.lean ====
/-
Buffers held in pieces: a buffer is cut by a function of its indices (its colour), a copy that lands in a view leaves
the view's elements at the contents that the whole buffer is meant to end with, and a share of a buffer is cut in two.
-/
module

public import proofs.«01_k».proof.Proof.Launch

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The indices of colour `a`. -/
def fibre {I T : Type} [Fintype I] [DecidableEq T] (col : I → T) (a : T) : Finset I := Finset.univ.filter fun i => col i = a

theorem mem_fibre {I T : Type} [Fintype I] [DecidableEq T] {col : I → T} {a : T} {i : I} : i ∈ fibre col a ↔ col i = a := by
  unfold fibre; rw [Finset.mem_filter]; exact ⟨fun h => h.2, fun h => ⟨Finset.mem_univ i, h⟩⟩

variable {nD : Nat} {τ : Topo} {sig : RefSig} {Val : EltTy → Type}

local notation "𝕄" => MT nD τ sig Unit Val ℕ (UU nD τ sig) ℕ

/-- A buffer is its pieces. -/
theorem cut {T : Type} [Fintype T] [DecidableEq T] (ℓ : Loc nD τ sig) (col : Idx ℓ → T) (q : PosShare TreeShare) (f : Buf Val ℓ) :
    (ℓ ↦{q} f : sProp 𝕄) = bigSep Finset.univ fun a => ℓ ↦[fibre col a]{q} f :=
  by
  rw [← pointsTo_biUnion Finset.univ (fibre col) (fun a _ b _ hab =>
      Finset.disjoint_left.mpr fun i hi hj => hab ((mem_fibre.mp hi).symm.trans (mem_fibre.mp hj))),
    Finset.eq_univ_of_forall fun i => Finset.mem_biUnion.mpr ⟨col i, Finset.mem_univ _, mem_fibre.mpr rfl⟩]

/-- The left half of the full share, and the right half. -/
abbrev lhalf : PosShare TreeShare := fullShare.left
abbrev rhalf : PosShare TreeShare := fullShare.right

theorem halves (ℓ : Loc nD τ sig) (I : Finset (Idx ℓ)) (q : PosShare TreeShare) (f : Buf Val ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- A copy that writes `w` through a view: if the contents `g` read as `w` there, the view's elements are at `g`. -/
theorem lands (t : Thread nD τ) {sp : Space} {s : Shape} {e : EltTy} (dst : View sig t.2.kind sp s e) (w : s.Idx → Val e)
    (fd g : Buf Val (dst.loc t)) (q : PosShare TreeShare) (h : dst.read Val g = w) :
    (dst.loc t ↦[dst.set]{q} (dst.write Val fd w Finset.univ) : sProp 𝕄) = dst.loc t ↦[dst.set]{q} g := by
  refine pointsTo_congr fun i hi => ?_
  rw [← h, View.write_read_eq_piecewise]
  exact Finset.piecewise_eq_of_mem _ _ _ hi

/-- Two buffers held whole, read against the memory. -/
theorem read_two (ℓ ℓ' : Loc nD τ sig) (f : Buf Val ℓ) (f' : Buf Val ℓ') (s' : Phys nD τ sig Val) :
    iprop(((ℓ ↦{fullShare} f) ∗ (ℓ' ↦{fullShare} f')) ∗ SI s') ⊢ (iprop(⌜s'.mem.mem ℓ = f ∧ s'.mem.mem ℓ' = f'⌝ ∗ SI s') : sProp 𝕄) := by
  iintro ⟨⟨H, H'⟩, HSI⟩
  icombine HSI H gives %h
  icombine HSI H' gives %h'
  isplitr
  · ipureintro; exact ⟨Buf.eq_of_forall_mem_univ h, Buf.eq_of_forall_mem_univ h'⟩
  · iexact HSI

/-- The buffers that outlive the calls, listed. -/
theorem bufs_list (c : Dev nD) (V : (b : Ref sig .tc) → Buf Val ((c.tc : Thread nD τ).loc b)) (l : List (Ref sig .tc))
    (h : (Finset.univ.filter fun b : Ref sig .tc => ¬ b.isScoped) = l.toFinset) (hl : l.Nodup) :
    (unscopedBufs c V : sProp 𝕄) = bigSepL l fun b => ((c.tc : Thread nD τ).loc b) ↦{fullShare} V b := by
  unfold unscopedBufs; exact bigSep_eq_bigSepL_of_eq l h hl _

/-- A family over the devices is the same family met along a permutation of them. -/
theorem along (σ : Dev nD ≃ Dev nD) (Φ : Dev nD → sProp 𝕄) :
    bigSep Finset.univ Φ ⊢ (bigSep Finset.univ fun c => Φ (σ c) : sProp 𝕄) := Entails.of_eq (by
  exact bigSep_univ_equiv σ Φ)

end Cert.Exchange

end
-- ==== Proof.Swap.lean ====
/-
The exchange of a layer's packed gradients between the two cores of a chip (`pair_swap`): every device copies, for each of
four slabs, the half that belongs to its sibling into the same slab of its sibling's result. The run, at contents, over
any value type of floats.

The cells of a device: k < 4, the read-out of its remote copy k; 4 + k, the landing of its sibling's copy k.
-/
module

public import proofs.«01_k».proof.Proof.Pieces
public import Idealize.ShloMosaic.Lib.ValueLayout
public import proofs.«01_k».proof.Proof.Gen.SwapIdeal
public import proofs.«01_k».proof.Proof.Gen.SwapIdeal.Skeleton
public import proofs.«01_k».proof.Proof.Gen.SwapIdeal.Launch

@[expose] public section

set_option Elab.async false

noncomputable section

namespace Cert.SwapProof

open Cert.SwapIdeal Cert.SwapIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ sig) ℕ

/-- The other core of the chip. -/
def peer (c : Dev nD) : Dev nD := ⟨4 * (c.val / 4) + 2 * (c.val / 2 % 2) + 1 - c.val % 2, by have := c.isLt; unfold nD at *; omega⟩
theorem peer_peer (c : Dev nD) : peer (peer c) = c := by revert c; decide
def swap : Dev nD ≃ Dev nD := ⟨peer, peer, peer_peer, peer_peer⟩
theorem dev1_eq (c : Dev nD) : (⟨k0_dev1 c, k0_dev1_lt c⟩ : Dev nD) = swap c := Fin.ext (k0_dev1_eq c)
theorem dev2_eq (c : Dev nD) : (⟨k0_dev2 c, k0_dev2_lt c⟩ : Dev nD) = swap c := Fin.ext (k0_dev2_eq c)
theorem dev3_eq (c : Dev nD) : (⟨k0_dev3 c, k0_dev3_lt c⟩ : Dev nD) = swap c := Fin.ext (k0_dev3_eq c)
theorem dev4_eq (c : Dev nD) : (⟨k0_dev4 c, k0_dev4_lt c⟩ : Dev nD) = swap c := Fin.ext (k0_dev4_eq c)

/-- A device's core on its chip, and the other core. -/
def core (c : Dev nD) : Fin 2 := ⟨c.val % 2, Nat.mod_lt _ (by decide)⟩
def oth (c : Dev nD) : Fin 2 := ⟨1 - c.val % 2, by omega⟩
theorem core_swap (c : Dev nD) : core (swap c) = oth c := by revert c; decide

abbrev xM : Memref sig .tc .hbm S4x2x13440x512 .f32 := Memref.whole main_arg0
abbrev oM : Memref sig .tc .hbm S4x13440x512 .f32 := Memref.whole main_v1
abbrev xLoc (c : Dev nD) : Loc nD τ sig := (c.tc : Thread nD τ).loc main_arg0
abbrev oLoc (c : Dev nD) : Loc nD τ sig := (c.tc : Thread nD τ).loc main_v1

/-- A slab of the result, and a half of a slab of the argument. -/
abbrev slabV (off : Fin 3 → ℕ) (inb : ∀ a, off a + S1x13440x512.size a ≤ S4x13440x512.size a) : Memref sig .tc .hbm S13440x512 .f32 :=
  (oM.slice (Rect.unit (s := S4x13440x512) off S1x13440x512.size inb) (fun _ => rfl)).squeeze S13440x512 squeezes_S1x13440x512_S13440x512
abbrev halfV (off : Fin 4 → ℕ) (inb : ∀ a, off a + S1x1x13440x512.size a ≤ S4x2x13440x512.size a) : Memref sig .tc .hbm S13440x512 .f32 :=
  (xM.slice (Rect.unit (s := S4x2x13440x512) off S1x1x13440x512.size inb) (fun _ => rfl)).squeeze S13440x512 squeezes_S1x1x13440x512_S13440x512

/-- The slab of an index of the result, and the slab and half of an index of the argument. -/
def slab (i : S4x13440x512.Idx) : Fin 4 := ⟨(i 0).val, (i 0).isLt⟩
def half (i : S4x2x13440x512.Idx) : Fin 4 × Fin 2 := (⟨(i 0).val, (i 0).isLt⟩, ⟨(i 1).val, (i 1).isLt⟩)

theorem slab_set {off : Fin 3 → ℕ} (inb) (a : Fin 4) (h : off = ![a.val, 0, 0]) : (slabV off inb).view.set = fibre slab a := by
  show ((((View.whole main_v1).slice _).reshape _ _)).set = _
  rw [View.set_reshape, View.set_slice_whole]
  subst h
  ext i
  rw [Rect.mem_set_unit, mem_fibre]
  refine ⟨fun h => Fin.ext ?_, fun h => ?_⟩
  · have : a.val ≤ (i 0).val ∧ (i 0).val < a.val + 1 := h 0
    show (i 0).val = a.val
    omega
  · have h0 : (i 0).val = a.val := congrArg Fin.val h
    exact Fin.forall_fin_succ.mpr ⟨⟨h0.ge, by show (i 0).val < a.val + 1; omega⟩, Fin.forall_fin_succ.mpr
      ⟨⟨Nat.zero_le _, by show (i 1).val < 0 + 13440; have : (i 1).val < 13440 := (i 1).isLt; omega⟩, Fin.forall_fin_succ.mpr
        ⟨⟨Nat.zero_le _, by show (i 2).val < 0 + 512; have : (i 2).val < 512 := (i 2).isLt; omega⟩, fun z => z.elim0⟩⟩⟩

theorem half_set {off : Fin 4 → ℕ} (inb) (a : Fin 4 × Fin 2) (h : off = ![a.1.val, a.2.val, 0, 0]) : (halfV off inb).view.set = fibre half a := by
  show ((((View.whole main_arg0).slice _).reshape _ _)).set = _
  rw [View.set_reshape, View.set_slice_whole]
  subst h
  ext i
  rw [Rect.mem_set_unit, mem_fibre]
  refine ⟨fun h => Prod.ext (Fin.ext ?_) (Fin.ext ?_), fun h => ?_⟩
  · have : a.1.val ≤ (i 0).val ∧ (i 0).val < a.1.val + 1 := h 0
    show (i 0).val = a.1.val
    omega
  · have : a.2.val ≤ (i 1).val ∧ (i 1).val < a.2.val + 1 := h 1
    show (i 1).val = a.2.val
    omega
  · have h0 : (i 0).val = a.1.val := congrArg (fun z : Fin 4 × Fin 2 => z.1.val) h
    have h1 : (i 1).val = a.2.val := congrArg (fun z : Fin 4 × Fin 2 => z.2.val) h
    exact Fin.forall_fin_succ.mpr ⟨⟨h0.ge, by show (i 0).val < a.1.val + 1; omega⟩, Fin.forall_fin_succ.mpr
      ⟨⟨h1.ge, by show (i 1).val < a.2.val + 1; omega⟩, Fin.forall_fin_succ.mpr
      ⟨⟨Nat.zero_le _, by show (i 2).val < 0 + 13440; have : (i 2).val < 13440 := (i 2).isLt; omega⟩, Fin.forall_fin_succ.mpr
        ⟨⟨Nat.zero_le _, by show (i 3).val < 0 + 512; have : (i 3).val < 512 := (i 3).isLt; omega⟩, fun z => z.elim0⟩⟩⟩⟩

/-- The coordinates of an element of a slab, and of an element of a half. -/
theorem slab_emb {off : Fin 3 → ℕ} (inb) (a : Fin 4) (h : off = ![a.val, 0, 0]) (x : Fin 13440) (y : Fin 512) :
    ((slabV off inb).view.emb (ix2 x y) : S4x13440x512.Idx) = ix3 a x y := by
  have hr := reshapeEquiv_ix2_1ab (a := 13440) (b := 512) squeezes_S1x13440x512_S13440x512.numel_eq x y
  subst h
  funext b
  refine Fin.ext ?_
  show ![a.val, 0, 0] b + 1 * (Shape.reshapeEquiv squeezes_S1x13440x512_S13440x512.numel_eq (ix2 x y) b).val = _
  rw [hr]
  match b with
  | ⟨0, _⟩ => rfl
  | ⟨1, _⟩ => show 0 + 1 * x.val = x.val; omega
  | ⟨2, _⟩ => show 0 + 1 * y.val = y.val; omega
theorem half_emb {off : Fin 4 → ℕ} (inb) (a : Fin 4 × Fin 2) (h : off = ![a.1.val, a.2.val, 0, 0]) (x : Fin 13440) (y : Fin 512) :
    ((halfV off inb).view.emb (ix2 x y) : S4x2x13440x512.Idx) = ix4 a.1 a.2 x y := by
  have hr := reshapeEquiv_ix2_11ab (a := 13440) (b := 512) squeezes_S1x1x13440x512_S13440x512.numel_eq x y
  subst h
  funext b
  refine Fin.ext ?_
  show ![a.1.val, a.2.val, 0, 0] b + 1 * (Shape.reshapeEquiv squeezes_S1x1x13440x512_S13440x512.numel_eq (ix2 x y) b).val = _
  rw [hr]
  match b with
  | ⟨0, _⟩ => rfl
  | ⟨1, _⟩ => rfl
  | ⟨2, _⟩ => show 0 + 1 * x.val = x.val; omega
  | ⟨3, _⟩ => show 0 + 1 * y.val = y.val; omega

abbrev N : ℕ := (slabV ![0, 0, 0] inb_S4x13440x512_S1x13440x512_0_0_0).view.dmaCredit
theorem slab_credit (off inb) : (slabV off inb).view.dmaCredit = N := rfl
theorem half_credit (off inb) : (halfV off inb).view.dmaCredit = N := rfl

/-- The semaphores of the reads, and those of the landings. -/
abbrev sS (off : Fin 1 → ℕ) (inb : ∀ a, off a + S1.size a ≤ S4.size a) : DmaSem sig :=
  ((cc0_scratch0.slice (Rect.unit (s := S4) off S1.size inb)).squeeze S_ squeezes_S1_S_).sem
abbrev rS (off : Fin 1 → ℕ) (inb : ∀ a, off a + S1.size a ≤ S4.size a) : DmaSem sig :=
  ((cc0_scratch1.slice (Rect.unit (s := S4) off S1.size inb)).squeeze S_ squeezes_S1_S_).sem

/-- The protocol. -/
def talk : Talk nD sig 8 where
  osem := ![.dma (sS ![0] inb_S4_S1_0), .dma (sS ![1] inb_S4_S1_1), .dma (sS ![2] inb_S4_S1_2), .dma (sS ![3] inb_S4_S1_3),
    .dma (rS ![0] inb_S4_S1_0), .dma (rS ![1] inb_S4_S1_1), .dma (rS ![2] inb_S4_S1_2), .dma (rS ![3] inb_S4_S1_3)]
  osem_inj := by decide
  payee := ![Equiv.refl _, Equiv.refl _, Equiv.refl _, Equiv.refl _, swap, swap, swap, swap]
  amt _ := N
  amt_pos _ := View.dmaCredit_pos _ (by decide)
  lvl _ := 0
  fars := [4, 5, 6, 7]
  fars_nodup := by decide

section Contents

variable (m : (ℓ : Loc nD τ sig) → Buf (Elt F) ℓ)

/-- The contents that the result of device `c` ends with: of every slab, the half for `c` that its sibling holds. -/
def fin (c : Dev nD) : Buf (Elt F) (oLoc c) := fun i : S4x13440x512.Idx =>
  (m (xLoc (swap c)) : S4x2x13440x512.Idx → Elt F .f32) (ix4 (i 0) (core c) (i 1) (i 2))

theorem read_fin (c : Dev nD) (k : Fin 4) {off off'} (inb inb') (h : off = ![k.val, 0, 0]) (h' : off' = ![k.val, (oth c).val, 0, 0]) :
    (slabV off inb).view.read (Elt F) (fin m (swap c)) = (halfV off' inb').view.read (Elt F) (m (xLoc c)) := by
  funext i
  have hi : i = ix2 (i 0) (i 1) := eq_ix2 i
  rw [hi]
  show fin m (swap c) ((slabV off inb).view.emb (ix2 (i 0) (i 1))) = m (xLoc c) ((halfV off' inb').view.emb (ix2 (i 0) (i 1)))
  have h1 := slab_emb inb k h (i 0) (i 1)
  have h2 := half_emb inb' (k, oth c) h' (i 0) (i 1)
  rw [h1, h2]
  show (m (xLoc (swap (swap c))) : S4x2x13440x512.Idx → Elt F .f32) (ix4 k (core (swap c)) (i 0) (i 1)) = _
  rw [core_swap, show swap (swap c) = c from peer_peer c]

/-- A half of a slab of the argument, and a slab of a result at contents `f`. -/
def src (c : Dev nD) (a : Fin 4 × Fin 2) : sProp 𝕄 := xLoc c ↦[fibre half a]{fullShare} m (xLoc c)
def out (c : Dev nD) (a : Fin 4) (f : Buf (Elt F) (oLoc c)) : sProp 𝕄 := oLoc c ↦[fibre slab a]{fullShare} f

/-- What is handed over at each cell. -/
def pay (c : Dev nD) : Fin 8 → sProp 𝕄 :=
  ![src m c (0, oth c), src m c (1, oth c), src m c (2, oth c), src m c (3, oth c),
    out c 0 (fin m c), out c 1 (fin m c), out c 2 (fin m c), out c 3 (fin m c)]

instance (c : Dev nD) (a : Fin 4 × Fin 2) : BI.Storable (upEmb : UEmb _ 𝕄) (src m c a) := by unfold src; infer_instance
instance (c : Dev nD) (a : Fin 4) (f : Buf (Elt F) (oLoc c)) : BI.Storable (upEmb : UEmb _ 𝕄) (out c a f) := by unfold out; infer_instance
instance (c : Dev nD) : (k : Fin 8) → BI.Storable (upEmb : UEmb _ 𝕄) (pay m c k)
  | 0 => inferInstanceAs (BI.Storable (upEmb : UEmb _ 𝕄) (src m c (0, oth c)))
  | 1 => inferInstanceAs (BI.Storable (upEmb : UEmb _ 𝕄) (src m c (1, oth c)))
  | 2 => inferInstanceAs (BI.Storable (upEmb : UEmb _ 𝕄) (src m c (2, oth c)))
  | 3 => inferInstanceAs (BI.Storable (upEmb : UEmb _ 𝕄) (src m c (3, oth c)))
  | 4 => inferInstanceAs (BI.Storable (upEmb : UEmb _ 𝕄) (out c 0 (fin m c)))
  | 5 => inferInstanceAs (BI.Storable (upEmb : UEmb _ 𝕄) (out c 1 (fin m c)))
  | 6 => inferInstanceAs (BI.Storable (upEmb : UEmb _ 𝕄) (out c 2 (fin m c)))
  | 7 => inferInstanceAs (BI.Storable (upEmb : UEmb _ 𝕄) (out c 3 (fin m c)))

/-- The halves that a device sends, those that it keeps, and a result. -/
def sent (c : Dev nD) : sProp 𝕄 := iprop(src m c (0, oth c) ∗ src m c (1, oth c) ∗ src m c (2, oth c) ∗ src m c (3, oth c))
def kept (c : Dev nD) : sProp 𝕄 := iprop(src m c (0, core c) ∗ src m c (1, core c) ∗ src m c (2, core c) ∗ src m c (3, core c))
def outs (c : Dev nD) (f : Buf (Elt F) (oLoc c)) : sProp 𝕄 := iprop(out c 0 f ∗ out c 1 f ∗ out c 2 f ∗ out c 3 f)

/-- What a device's kernel starts with, and what it ends with. -/
def H (c : Dev nD) : sProp 𝕄 := iprop(sent m c ∗ kept m c ∗ outs (swap c) (m (oLoc (swap c))))
def Y (c : Dev nD) : sProp 𝕄 := iprop((xLoc c ↦{fullShare} m (xLoc c)) ∗ (oLoc c ↦{fullShare} fin m c))

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem outs_eq (c : Dev nD) (f : Buf (Elt F) (oLoc c)) : (oLoc c ↦{fullShare} f : sProp 𝕄) = outs c f := by
  rw [cut (oLoc c) slab fullShare f, bigSep_four]; rfl

theorem halves_all (c : Dev nD) : (Finset.univ : Finset (Fin 4 × Fin 2))
    = [(0, oth c), (1, oth c), (2, oth c), (3, oth c), (0, core c), (1, core c), (2, core c), (3, core c)].toFinset := by revert c; decide
theorem halves_nodup (c : Dev nD) :
    [((0 : Fin 4), oth c), (1, oth c), (2, oth c), (3, oth c), (0, core c), (1, core c), (2, core c), (3, core c)].Nodup := by revert c; decide

theorem xs_eq (c : Dev nD) : (xLoc c ↦{fullShare} m (xLoc c) : sProp 𝕄) = iprop(sent m c ∗ kept m c) := by
  rw [cut (xLoc c) half fullShare, bigSep_univ_eq_bigSepL _ (halves_all c) (halves_nodup c)]
  unfold sent kept
  exact BI.Entails.antisymm (show iprop(src m c (0, oth c) ∗ src m c (1, oth c) ∗ src m c (2, oth c) ∗ src m c (3, oth c) ∗ src m c (0, core c) ∗ src m c (1, core c) ∗ src m c (2, core c) ∗ src m c (3, core c)) ⊢ _ by
      iintro ⟨H0, H1, H2, H3, K0, K1, K2, K3⟩
      isplitl [H0 H1 H2 H3]
      · isplitl [H0]; · iexact H0
        isplitl [H1]; · iexact H1
        isplitl [H2] <;> iassumption
      · isplitl [K0]; · iexact K0
        isplitl [K1]; · iexact K1
        isplitl [K2] <;> iassumption)
    (show _ ⊢ iprop(src m c (0, oth c) ∗ src m c (1, oth c) ∗ src m c (2, oth c) ∗ src m c (3, oth c) ∗ src m c (0, core c) ∗ src m c (1, core c) ∗ src m c (2, core c) ∗ src m c (3, core c)) by
      iintro ⟨⟨H0, H1, H2, H3⟩, K0, K1, K2, K3⟩
      isplitl [H0]; · iexact H0
      isplitl [H1]; · iexact H1
      isplitl [H2]; · iexact H2
      isplitl [H3]; · iexact H3
      isplitl [K0]; · iexact K0
      isplitl [K1]; · iexact K1
      isplitl [K2] <;> iassumption)

theorem src_eq (c : Dev nD) (a : Fin 4 × Fin 2) {off} (inb) (h : off = ![a.1.val, a.2.val, 0, 0]) :
    ((halfV off inb).view.loc (c.tc : Thread nD τ) ↦[(halfV off inb).view.set]{fullShare} m (xLoc c) : sProp 𝕄) = src m c a := by
  unfold src; rw [half_set inb a h]
theorem out_eq (d : Dev nD) (k : Fin 4) {off} (inb) (h : off = ![k.val, 0, 0]) (f : Buf (Elt F) (oLoc d)) :
    ((slabV off inb).view.loc (d.tc : Thread nD τ) ↦[(slabV off inb).view.set]{fullShare} f : sProp 𝕄) = out d k f := by
  unfold out; rw [slab_set inb k h]
theorem landed (c : Dev nD) (k : Fin 4) {off off'} (inb inb') (h : off = ![k.val, 0, 0]) (h' : off' = ![k.val, (oth c).val, 0, 0]) (f : Buf (Elt F) (oLoc (swap c))) :
    ((slabV off inb).view.loc ((swap c).tc : Thread nD τ) ↦[(slabV off inb).view.set]{fullShare}
      ((slabV off inb).view.write (Elt F) f ((halfV off' inb').view.read (Elt F) (m (xLoc c))) Finset.univ) : sProp 𝕄) = out (swap c) k (fin m (swap c)) := by
  rw [← out_eq _ k inb h]; exact lands ((swap c).tc : Thread nD τ) (slabV off inb).view _ f (fin m (swap c)) fullShare (read_fin m c k inb inb' h h')

abbrev 𝒱₀ : Variants := Variants.none

/-- A remote copy, the device it addresses by any name. -/
theorem step_far (K : Dev nD × Fin 8 → ℕ) (c d : Dev nD) (hd : d = swap c) (k : Fin 4) (k₁ k₂ : Fin 8) (l : List (Fin 8))
    (hk₁ : talk.payee k₁ = Equiv.refl _) (hk₂ : talk.payee k₂ = swap) (hp₁ : pay m c k₁ = src m c (k, oth c)) (hp₂ : pay m (swap c) k₂ = out (swap c) k (fin m (swap c)))
    {s r : DmaSem sig} (e₁ : SemLoc.dma s = talk.osem k₁) (e₂ : SemLoc.dma r = talk.osem k₂)
    {off off'} {inb inb'} (h : off = ![k.val, 0, 0]) (h' : off' = ![k.val, (oth c).val, 0, 0])
    {hsc : (slabV off inb).view.ref.isScScratch = false} {hsrc : (halfV off' inb').view.WordExact} {hdst : (slabV off inb).view.WordExact}
    {hsem : DmaTarget.Typed .hbm (.dma r) (.remote (Dev.tc d : Thread nD τ) (slabV off inb) (.dma s) hsc)}
    {kk : PUnit → Prog (TpuEff nD τ sig (Elt F) Λ₀ .tc) PUnit} {Q : PUnit → sProp 𝕄} :
    iprop(talk.records (pay m) K ∗ talk.debt c (k₂ :: l) ∗ dutyTok (Talk.ER τ (Elt F)) (talk.cell (talk.payee k₁ c) k₁) 0 ()
        ∗ dutyTok (Talk.ER τ (Elt F)) (talk.cell (talk.payee k₂ c) k₂) 0 () ∗ src m c (k, oth c) ∗ out (swap c) k (m (oLoc (swap c))))
      ⊢ iprop(((cred (tallyAt (talk.cell c k₁) () (talk.amt k₁)) ∗ talk.debt c l) -∗ wp frame (wpE (defs₀ (F := F)) 𝒱₀ (c.tc : Thread nD τ) none) Set.univ (kk ⟨⟩) Q)
          -∗ wp frame (wpE (defs₀ (F := F)) 𝒱₀ (c.tc : Thread nD τ) none) Set.univ
            (.op (.enqueueDma (halfV off' inb') (.remote (Dev.tc d : Thread nD τ) (slabV off inb) (.dma s) hsc) (.dma r) hsrc hdst hsem) kk) Q) := by
  subst hd
  rw [← src_eq m c (k, oth c) inb' h', ← out_eq (swap c) k inb h]
  exact talk.wp_far (pay := pay m) 𝒱₀ K c k₁ k₂ l (by rw [hk₁]; rfl) (sS := .dma s) (sem := .dma r) e₁ e₂ (d := swap c) (by rw [hk₂]) (src := halfV off' inb') (dst := slabV off inb)
    (q := fullShare) (fs := m (xLoc c)) (fd := m (oLoc (swap c))) (slab_credit _ _) rfl (by rw [hp₁, src_eq m c (k, oth c) inb' h']) (by
      rw [landed m c k inb inb' h h', ← hp₂])

set_option maxHeartbeats 4000000 in
theorem body (c : Dev nD) :
    iprop((talk.start (pay m) c ∗ H m c) ∗ talk.debt c [4, 5, 6, 7])
      ⊢ wp frame (wpE (defs₀ (F := F)) 𝒱₀ (c.tc : Thread nD τ) none) Set.univ
          (cc0_rs_pair xM (Memref.isWhole_whole _) oM (Memref.isWhole_whole _) cc0_scratch0 cc0_scratch1)
          fun _ => iprop((Y m c ∗ bigSep Finset.univ fun k => semVal (talk.cell c k : GSem nD τ sig) 0) ∗ talk.debt c []) := by
  simp only [cc0_rs_pair_eq_skeleton]; unfold cc0_rs_pair_skel
  simp only [k0_part1_eq_skeleton, k0_part2_eq_skeleton, k0_part3_eq_skeleton, k0_part4_eq_skeleton, k0_part5_eq_skeleton]; unfold k0_part1_skel k0_part2_skel k0_part3_skel k0_part4_skel k0_part5_skel
  simp only [Prog.lift, Prog.bind_op, Prog.bind_ret, Prog.pure_eq_ret, wp_deviceId]
  unfold Talk.start H sent outs
  rw [bigSep_eight, bigSep_eight]
  unfold Talk.hand
  iintro ⟨⟨⟨⟨%K, #HR⟩, #Hlev, ⟨Ha0, Ht0, -⟩, ⟨Ha1, Ht1, -⟩, ⟨Ha2, Ht2, -⟩, ⟨Ha3, Ht3, -⟩, ⟨Ha4, Ht4, Hc4⟩, ⟨Ha5, Ht5, Hc5⟩, ⟨Ha6, Ht6, Hc6⟩, ⟨Ha7, Ht7, Hc7⟩⟩, ⟨Hs0, Hs1, Hs2, Hs3⟩, Hkept, ⟨Ho0, Ho1, Ho2, Ho3⟩⟩, HO⟩
  iapply (step_far m K c _ (dev1_eq c) 0 0 4 [5, 6, 7] rfl rfl rfl rfl rfl rfl rfl (k0_off1_eq c)) $$ [HO Ht0 Ht4 Hs0 Ho0]
  · isplitr; · iexact HR
    isplitl [HO]; · iexact HO
    isplitl [Ht0]; · iexact Ht0
    isplitl [Ht4]; · iexact Ht4
    isplitl [Hs0] <;> iassumption
  iintro ⟨Hc0, HO⟩
  iapply (step_far m K c _ (dev2_eq c) 1 1 5 [6, 7] rfl rfl rfl rfl rfl rfl rfl (k0_off2_eq c)) $$ [HO Ht1 Ht5 Hs1 Ho1]
  · isplitr; · iexact HR
    isplitl [HO]; · iexact HO
    isplitl [Ht1]; · iexact Ht1
    isplitl [Ht5]; · iexact Ht5
    isplitl [Hs1] <;> iassumption
  iintro ⟨Hc1, HO⟩
  iapply (step_far m K c _ (dev3_eq c) 2 2 6 [7] rfl rfl rfl rfl rfl rfl rfl (k0_off3_eq c)) $$ [HO Ht2 Ht6 Hs2 Ho2]
  · isplitr; · iexact HR
    isplitl [HO]; · iexact HO
    isplitl [Ht2]; · iexact Ht2
    isplitl [Ht6]; · iexact Ht6
    isplitl [Hs2] <;> iassumption
  iintro ⟨Hc2, HO⟩
  iapply (step_far m K c _ (dev4_eq c) 3 3 7 [] rfl rfl rfl rfl rfl rfl rfl (k0_off4_eq c)) $$ [HO Ht3 Ht7 Hs3 Ho3]
  · isplitr; · iexact HR
    isplitl [HO]; · iexact HO
    isplitl [Ht3]; · iexact Ht3
    isplitl [Ht7]; · iexact Ht7
    isplitl [Hs3] <;> iassumption
  iintro ⟨Hc3, HO⟩
  iapply (talk.wp_take (pay := pay m) 𝒱₀ K c 0 [] (by simp) rfl (half_credit _ _)) $$ [HO Hc0 Ha0]
  · isplitr; · iexact HR
    isplitr; · iexact Hlev
    isplitl [HO]; · iexact HO
    isplitl [Hc0]; · iexact Hc0
    iexact Ha0
  iintro ⟨HO, Hv0, Hz0⟩
  iapply (talk.wp_take (pay := pay m) 𝒱₀ K c 4 [] (by simp) rfl (slab_credit _ _)) $$ [HO Hc4 Ha4]
  · isplitr; · iexact HR
    isplitr; · iexact Hlev
    isplitl [HO]; · iexact HO
    isplitl [Hc4]; · iexact Hc4
    iexact Ha4
  iintro ⟨HO, Hv4, Hz4⟩
  iapply (talk.wp_take (pay := pay m) 𝒱₀ K c 1 [] (by simp) rfl (half_credit _ _)) $$ [HO Hc1 Ha1]
  · isplitr; · iexact HR
    isplitr; · iexact Hlev
    isplitl [HO]; · iexact HO
    isplitl [Hc1]; · iexact Hc1
    iexact Ha1
  iintro ⟨HO, Hv1, Hz1⟩
  iapply (talk.wp_take (pay := pay m) 𝒱₀ K c 5 [] (by simp) rfl (slab_credit _ _)) $$ [HO Hc5 Ha5]
  · isplitr; · iexact HR
    isplitr; · iexact Hlev
    isplitl [HO]; · iexact HO
    isplitl [Hc5]; · iexact Hc5
    iexact Ha5
  iintro ⟨HO, Hv5, Hz5⟩
  iapply (talk.wp_take (pay := pay m) 𝒱₀ K c 2 [] (by simp) rfl (half_credit _ _)) $$ [HO Hc2 Ha2]
  · isplitr; · iexact HR
    isplitr; · iexact Hlev
    isplitl [HO]; · iexact HO
    isplitl [Hc2]; · iexact Hc2
    iexact Ha2
  iintro ⟨HO, Hv2, Hz2⟩
  iapply (talk.wp_take (pay := pay m) 𝒱₀ K c 6 [] (by simp) rfl (slab_credit _ _)) $$ [HO Hc6 Ha6]
  · isplitr; · iexact HR
    isplitr; · iexact Hlev
    isplitl [HO]; · iexact HO
    isplitl [Hc6]; · iexact Hc6
    iexact Ha6
  iintro ⟨HO, Hv6, Hz6⟩
  iapply (talk.wp_take (pay := pay m) 𝒱₀ K c 3 [] (by simp) rfl (half_credit _ _)) $$ [HO Hc3 Ha3]
  · isplitr; · iexact HR
    isplitr; · iexact Hlev
    isplitl [HO]; · iexact HO
    isplitl [Hc3]; · iexact Hc3
    iexact Ha3
  iintro ⟨HO, Hv3, Hz3⟩
  iapply (talk.wp_take (pay := pay m) 𝒱₀ K c 7 [] (by simp) rfl (slab_credit _ _)) $$ [HO Hc7 Ha7]
  · isplitr; · iexact HR
    isplitr; · iexact Hlev
    isplitl [HO]; · iexact HO
    isplitl [Hc7]; · iexact Hc7
    iexact Ha7
  iintro ⟨HO, Hv7, Hz7⟩
  rw [wp_ret]
  imodintro
  isplitr [HO]
  · isplitr [Hz0 Hz1 Hz2 Hz3 Hz4 Hz5 Hz6 Hz7]
    · unfold Y
      rw [xs_eq, outs_eq]
      unfold sent outs
      isplitl [Hv0 Hv1 Hv2 Hv3 Hkept]
      · isplitr [Hkept]
        · isplitl [Hv0]; · iapply (show pay m c 0 ⊢ src m c (0, oth c) from entails_refl _); iexact Hv0
          isplitl [Hv1]; · iapply (show pay m c 1 ⊢ src m c (1, oth c) from entails_refl _); iexact Hv1
          isplitl [Hv2]; · iapply (show pay m c 2 ⊢ src m c (2, oth c) from entails_refl _); iexact Hv2
          iapply (show pay m c 3 ⊢ src m c (3, oth c) from entails_refl _); iexact Hv3
        · iexact Hkept
      · isplitl [Hv4]; · iapply (show pay m c 4 ⊢ out c 0 (fin m c) from entails_refl _); iexact Hv4
        isplitl [Hv5]; · iapply (show pay m c 5 ⊢ out c 1 (fin m c) from entails_refl _); iexact Hv5
        isplitl [Hv6]; · iapply (show pay m c 6 ⊢ out c 2 (fin m c) from entails_refl _); iexact Hv6
        iapply (show pay m c 7 ⊢ out c 3 (fin m c) from entails_refl _); iexact Hv7
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6] <;> iassumption
  · iexact HO

theorem deal_bufs :
    (bigSep Finset.univ fun c : Dev nD => unscopedBufs c (fun b => m ((c.tc : Thread nD τ).loc b)))
      ⊢ (bigSep Finset.univ fun c : Dev nD => iprop(H m c ∗ BI.emp) : sProp 𝕄) := by
  have h₁ : (bigSep Finset.univ fun c : Dev nD => unscopedBufs c (fun b => m ((c.tc : Thread nD τ).loc b)))
      ⊢ (bigSep Finset.univ fun c : Dev nD => iprop((sent m c ∗ kept m c) ∗ outs c (m (oLoc c))) : sProp 𝕄) :=
    bigSep_mono fun c _ => by
      rw [bufs_list c _ [main_arg0, main_v1] (by decide) (by decide)]
      refine (show iprop((xLoc c ↦{fullShare} m (xLoc c)) ∗ (oLoc c ↦{fullShare} m (oLoc c))) ⊢ _ from ?_)
      rw [← xs_eq, ← outs_eq]
  have h₂ : (bigSep Finset.univ fun c : Dev nD => iprop((sent m c ∗ kept m c) ∗ outs (swap c) (m (oLoc (swap c)))))
      ⊢ (bigSep Finset.univ fun c : Dev nD => iprop(H m c ∗ BI.emp) : sProp 𝕄) :=
    bigSep_mono fun c _ => by
      unfold H
      refine (show iprop((sent m c ∗ kept m c) ∗ outs (swap c) (m (oLoc (swap c)))) ⊢ _ from ?_)
      iintro ⟨⟨Hs, Hk⟩, Ho⟩
      isplitl
      · isplitl [Hs]; · iexact Hs
        isplitl [Hk] <;> iassumption
      · iempintro
  have h₃ := along (Val := Elt F) swap fun c => outs c (m (oLoc c))
  refine h₁.trans ((show _ ⊢ _ from ?_).trans h₂)
  rw [bigSep_sep']
  iintro ⟨Ha, Hb⟩
  iapply (Entails.of_eq (bigSep_sep' (M := 𝕄) _ _ _).symm)
  isplitl [Ha]; · iexact Ha
  iapply h₃; iexact Hb

/-- The run: every device ends with its argument as it was and its result at `fin`, all counters zero. -/
theorem run_main (g : Dev nD → PrngReg) :
    θ_run (defs (F := F)) (onTc (τ := τ) (main (F := F))) ⟨m, fun _ => 0, g⟩ fun r =>
      (∀ c : Dev nD, r.2.mem (xLoc c) = m (xLoc c) ∧ r.2.mem (oLoc c) = fin m c) ∧ r.2.sem = fun _ => 0 := by
  have he : ∀ p : Fin 1, IsEmpty (Fin (cfgs p).W) := fun _ => inferInstanceAs (IsEmpty (Fin 0))
  exact run_talk (P := talk) (cfgs := cfgs) (he := he) cellOf_inj N_0 winFacts0 (by decide) (defs₀ (F := F)) 𝒱₀ (pay m) m g main (fun c => rfl)
    (H m) (fun _ => BI.emp) (Y m) (deal_bufs m) (fun c => scopedRest0_eq c) (fun c t => body m c)
    (fun c s => s.mem (xLoc c) = m (xLoc c) ∧ s.mem (oLoc c) = fin m c)
    (fun c s' => by
      have h := read_two (Val := Elt F) (xLoc c) (oLoc c) (m (xLoc c)) (fin m c) s'
      unfold Y
      iintro ⟨⟨HY, -⟩, HSI⟩
      imodintro
      iapply h
      isplitl [HY] <;> iassumption)
    (by decide)

end Contents

end Cert.SwapProof

end
-- ==== Proof.SwapClaims.lean ====
/-
The claims of the exchange of packed gradients between the two cores of a chip: the frames, and that the devices' results are the blocks of the
reference's.
-/
module

public import proofs.«01_k».proof.Defs
public import proofs.«01_k».proof.Proof.Swap
public import proofs.«01_k».proof.Proof.Gen.Swap
public import proofs.«01_k».proof.Proof.Gen.SwapRef
public import proofs.«01_k».proof.Proof.Gen.SwapRefIdeal
public import proofs.«01_k».proof.Proof.Gen.SwapRefIdeal.Run
public import Idealize.ShloMosaic.Lib.Pipeline.Value
public import Idealize.ShloMosaic.Lib.ValueIdxRank6

@[expose] public section

set_option Elab.async false

noncomputable section

namespace Cert.SwapProof

open Idealize.ShloMosaic
open Idealize.ShloMosaic.TcCoe
open Idealize.SL.Sem
open Idealize.ShloMosaic.ValueIdx

theorem frame_bits : Cert.quiescent_Swap := fun m g _ =>
  (θ_run Cert.SwapIdeal.defs _ _).mono (fun _ h => ⟨fun c => (h.1 c).1, h.2⟩) (run_main (F := Bits) m g)

theorem frame_ideal : Cert.quiescent_SwapIdeal := fun m g _ =>
  (θ_run Cert.SwapIdeal.defs _ _).mono (fun _ h => ⟨fun c => (h.1 c).1, h.2⟩) (run_main (F := Ideal) m g)

theorem frame_ref_bits : Cert.quiescent_SwapRef := fun m g _ =>
  (θ_run Cert.SwapRefIdeal.defs _ _).mono (fun r h => ⟨fun c => (h c).2, sem_eq_zero_of_no_sems (by decide) r.2⟩)
    (Cert.SwapRefIdeal.Value.run (F := Bits) m g)

theorem frame_ref : Cert.quiescent_SwapRefIdeal := fun m g _ =>
  (θ_run Cert.SwapRefIdeal.defs _ _).mono (fun r h => ⟨fun c => (h c).2, sem_eq_zero_of_no_sems (by decide) r.2⟩)
    (Cert.SwapRefIdeal.Value.run (F := Ideal) m g)

open Cert.SwapRefIdeal (S4x2x4x2x13440x512 S4x1x4x1x13440x512 S4x1x4x13440x512 S4x4x13440x512 S4x2x4x13440x512 S32x13440x512 S32x2x13440x512)
open Cert.SwapIdeal (S4x13440x512)

/-- One of the two pieces that the reference joins: core `e`'s half of what the devices of core `b` hold. -/
def piece {α : Type} (off : Fin 6 → ℕ) (X : S4x2x4x2x13440x512.Idx → α) (h : S4x2x4x2x13440x512.Slices off S4x1x4x1x13440x512) : S4x1x4x13440x512.Idx → α :=
  broadcastInDim S4x1x4x13440x512 ![0, 2, 3, 4] Cert.SwapRefIdeal.Gen.bcast_S4x4x13440x512_S4x1x4x13440x512_0_2_3_4
    (shapeCast S4x4x13440x512 (extractStridedSlice S4x1x4x1x13440x512 off X h) Cert.SwapRefIdeal.Gen.shapeCasts_S4x1x4x1x13440x512_S4x4x13440x512)

theorem piece_apply {α : Type} {off : Fin 6 → ℕ} (b e : Fin 2) (X : S4x2x4x2x13440x512.Idx → α) (h) (ho : off = ![0, b.val, 0, e.val, 0, 0])
    (q k : Fin 4) (x : Fin 13440) (y : Fin 512) : piece off X h (ix5 q 0 k x y) = X (ix6 q b k e x y) := by
  subst ho
  unfold piece
  rw [broadcastInDim_apply ![0, 2, 3, 4] _ _ (ix5 q 0 k x y) (ix4 q k x y) (fun a => by
    match a with
    | ⟨0, _⟩ => rfl
    | ⟨1, _⟩ => rfl
    | ⟨2, _⟩ => rfl
    | ⟨3, _⟩ => rfl)]
  rw [shapeCast_apply _ _ (ix4 q k x y) (ix6 q 0 k 0 x y) (by
    rw [Shape.rowMajor_val_six, Shape.rowMajor_val_four]
    show ((((q.val * 1 + 0) * 4 + k.val) * 1 + 0) * 13440 + x.val) * 512 + y.val = ((q.val * 4 + k.val) * 13440 + x.val) * 512 + y.val
    ring)]
  exact extractStridedSlice_apply _ X h (ix6 q 0 k 0 x y) (ix6 q b k e x y) (fun a => by
    match a with
    | ⟨0, _⟩ => show q.val = 0 + q.val; omega
    | ⟨1, _⟩ => rfl
    | ⟨2, _⟩ => show k.val = 0 + k.val; omega
    | ⟨3, _⟩ => rfl
    | ⟨4, _⟩ => show x.val = 0 + x.val; omega
    | ⟨5, _⟩ => show y.val = 0 + y.val; omega)

/-- What the reference computes. -/
def joined {α : Type} (X : S32x2x13440x512.Idx → α) : S32x13440x512.Idx → α :=
  shapeCast S32x13440x512 (concatenate S4x2x4x13440x512 1
    [⟨S4x1x4x13440x512, piece ![0, 1, 0, 0, 0, 0] (shapeCast S4x2x4x2x13440x512 X Cert.SwapRefIdeal.Gen.shapeCasts_S32x2x13440x512_S4x2x4x2x13440x512)
      Cert.SwapRefIdeal.Gen.slices_S4x2x4x2x13440x512_S4x1x4x1x13440x512_0_1_0_0_0_0⟩,
     ⟨S4x1x4x13440x512, piece ![0, 0, 0, 1, 0, 0] (shapeCast S4x2x4x2x13440x512 X Cert.SwapRefIdeal.Gen.shapeCasts_S32x2x13440x512_S4x2x4x2x13440x512)
      Cert.SwapRefIdeal.Gen.slices_S4x2x4x2x13440x512_S4x1x4x1x13440x512_0_0_0_1_0_0⟩]
    Cert.SwapRefIdeal.Gen.concatenates_S4x1x4x13440x512_S4x1x4x13440x512_S4x2x4x13440x512_d1) Cert.SwapRefIdeal.Gen.shapeCasts_S4x2x4x13440x512_S32x13440x512

theorem cast_apply {α : Type} (X : S32x2x13440x512.Idx → α) (q k : Fin 4) (b e : Fin 2) (x : Fin 13440) (y : Fin 512) (r : Fin 32)
    (hr : r.val = (q.val * 2 + b.val) * 4 + k.val) :
    shapeCast S4x2x4x2x13440x512 X Cert.SwapRefIdeal.Gen.shapeCasts_S32x2x13440x512_S4x2x4x2x13440x512 (ix6 q b k e x y) = X (ix4 r e x y) :=
  shapeCast_apply X _ _ _ (by
    rw [Shape.rowMajor_val_six, Shape.rowMajor_val_four]
    show ((r.val * 2 + e.val) * 13440 + x.val) * 512 + y.val = ((((q.val * 2 + b.val) * 4 + k.val) * 2 + e.val) * 13440 + x.val) * 512 + y.val
    rw [hr])

theorem uncast_apply {α : Type} (X : S4x2x4x13440x512.Idx → α) (q k : Fin 4) (e : Fin 2) (x : Fin 13440) (y : Fin 512) (r : Fin 32)
    (hr : r.val = (q.val * 2 + e.val) * 4 + k.val) :
    shapeCast S32x13440x512 X Cert.SwapRefIdeal.Gen.shapeCasts_S4x2x4x13440x512_S32x13440x512 (ix3 r x y) = X (ix5 q e k x y) :=
  shapeCast_apply X _ _ _ (by
    rw [Shape.rowMajor_val_five, Shape.rowMajor_val_three]
    show (((q.val * 2 + e.val) * 4 + k.val) * 13440 + x.val) * 512 + y.val = (r.val * 13440 + x.val) * 512 + y.val
    rw [hr])

/-- Its rows of chip `q`'s core `e` are that core's halves of what the other core of the chip holds. -/
theorem joined_zero {α : Type} (X : S32x2x13440x512.Idx → α) (q k : Fin 4) (x : Fin 13440) (y : Fin 512) (r r' : Fin 32)
    (hr : r.val = (q.val * 2 + 0) * 4 + k.val) (hr' : r'.val = (q.val * 2 + 1) * 4 + k.val) : joined X (ix3 r x y) = X (ix4 r' 0 x y) := by
  unfold joined
  refine (uncast_apply _ q k 0 x y r hr).trans ?_
  refine (concatenate_pair_apply_left (t := S4x2x4x13440x512) (s₁ := S4x1x4x13440x512) (s₂ := S4x1x4x13440x512) 1 _ _ _ (ix5 q (0 : Fin 2) k x y) rfl
    (ix5 q (0 : Fin 1) k x y) (fun a => by
      match a with
      | ⟨0, _⟩ => rfl
      | ⟨1, _⟩ => rfl
      | ⟨2, _⟩ => rfl
      | ⟨3, _⟩ => rfl
      | ⟨4, _⟩ => rfl)).trans ?_
  exact (piece_apply 1 0 _ _ rfl q k x y).trans (cast_apply X q k 1 0 x y r' hr')
theorem joined_one {α : Type} (X : S32x2x13440x512.Idx → α) (q k : Fin 4) (x : Fin 13440) (y : Fin 512) (r r' : Fin 32)
    (hr : r.val = (q.val * 2 + 1) * 4 + k.val) (hr' : r'.val = (q.val * 2 + 0) * 4 + k.val) : joined X (ix3 r x y) = X (ix4 r' 1 x y) := by
  unfold joined
  refine (uncast_apply _ q k 1 x y r hr).trans ?_
  refine (concatenate_pair_apply_right (t := S4x2x4x13440x512) (s₁ := S4x1x4x13440x512) (s₂ := S4x1x4x13440x512) 1 _ _ _ (ix5 q (1 : Fin 2) k x y) rfl rfl
    (ix5 q (0 : Fin 1) k x y) (fun a h => by
      match a, h with
      | ⟨0, _⟩, _ => rfl
      | ⟨1, _⟩, h => exact absurd rfl h
      | ⟨2, _⟩, _ => rfl
      | ⟨3, _⟩, _ => rfl
      | ⟨4, _⟩, _ => rfl) rfl).trans ?_
  exact (piece_apply 0 1 _ _ rfl q k x y).trans (cast_apply X q k 0 1 x y r' hr')

/-- Where an element of a device's block is in the whole array. -/
theorem res_idx (ht : Layout.Tiles ⟨3, ![4, 13440, 512]⟩ ⟨3, ![32, 13440, 512]⟩ 0 8) (c : Fin 8) (i : S4x13440x512.Idx) (r : Fin 32)
    (hr : r.val = c.val * 4 + (i 0).val) : ht.idx c i = ix3 r (i 1) (i 2) := by
  funext a
  match a with
  | ⟨0, _⟩ => refine Fin.ext ?_; show c.val * 4 + (i 0).val = r.val; exact hr.symm
  | ⟨1, _⟩ => rfl
  | ⟨2, _⟩ => rfl
theorem arg_idx (ht : Layout.Tiles ⟨4, ![4, 2, 13440, 512]⟩ ⟨4, ![32, 2, 13440, 512]⟩ 0 8) (c : Fin 8) (i : S4x13440x512.Idx) (r : Fin 32)
    (hr : r.val = (swap c).val * 4 + (i 0).val) : ht.idx (swap c) (ix4 (i 0) (core c) (i 1) (i 2)) = ix4 r (core c) (i 1) (i 2) := by
  funext a
  match a with
  | ⟨0, _⟩ => refine Fin.ext ?_; show (swap c).val * 4 + (i 0).val = r.val; exact hr.symm
  | ⟨1, _⟩ => rfl
  | ⟨2, _⟩ => rfl
  | ⟨3, _⟩ => rfl

theorem block_val {α : Type} (X : S32x2x13440x512.Idx → α) (Y : S32x13440x512.Idx → α) (c : Fin 8) (i : S4x13440x512.Idx)
    (ht : Layout.Tiles ⟨4, ![4, 2, 13440, 512]⟩ ⟨4, ![32, 2, 13440, 512]⟩ 0 8) (ht' : Layout.Tiles ⟨3, ![4, 13440, 512]⟩ ⟨3, ![32, 13440, 512]⟩ 0 8)
    (h : X (ht.idx (swap c) (ix4 (i 0) (core c) (i 1) (i 2))) = Y (ht'.idx c i)) :
    (Layout.block ⟨4, ![4, 2, 13440, 512]⟩ ⟨4, ![32, 2, 13440, 512]⟩ 0 8 (swap c) X) (ix4 (i 0) (core c) (i 1) (i 2))
      = (Layout.block ⟨3, ![4, 13440, 512]⟩ ⟨3, ![32, 13440, 512]⟩ 0 8 c Y : S4x13440x512.Idx → α) i := h

theorem cases_core {α : Type} (c : Fin 8) (i : S4x13440x512.Idx) (X : S32x2x13440x512.Idx → α) (Y : S32x13440x512.Idx → α) (r r' : Fin 32)
    (h0 : c.val % 2 = 0 → Y (ix3 r (i 1) (i 2)) = X (ix4 r' 0 (i 1) (i 2))) (h1 : c.val % 2 = 1 → Y (ix3 r (i 1) (i 2)) = X (ix4 r' 1 (i 1) (i 2))) :
    X (ix4 r' (core c) (i 1) (i 2)) = Y (ix3 r (i 1) (i 2)) := by
  rcases (show c.val % 2 = 0 ∨ c.val % 2 = 1 by omega) with h | h
  · rw [show core c = 0 from Fin.ext h]
    exact (h0 h).symm
  · rw [show core c = 1 from Fin.ext h]
    exact (h1 h).symm

theorem swap_val (c : Fin 8) : (swap c).val = c.val / 2 * 2 + (1 - c.val % 2) := by revert c; decide

/-- A device's result, as a block of the reference's. -/
theorem fin_blocks {α : Type} (X : S32x2x13440x512.Idx → α) (c : Fin 8) :
    (fun i : S4x13440x512.Idx => (Layout.block ⟨4, ![4, 2, 13440, 512]⟩ ⟨4, ![32, 2, 13440, 512]⟩ 0 8 (swap c) X) (ix4 (i 0) (core c) (i 1) (i 2)))
      = Layout.block ⟨3, ![4, 13440, 512]⟩ ⟨3, ![32, 13440, 512]⟩ 0 8 c (joined X) := by
  funext i
  have hi : (i 0).val < 4 := (i 0).isLt
  have hc : c.val < 8 := c.isLt
  have hs := swap_val c
  obtain ⟨q, hq⟩ : ∃ q : Fin 4, q.val = c.val / 2 := ⟨⟨c.val / 2, by omega⟩, rfl⟩
  obtain ⟨k, hk⟩ : ∃ k : Fin 4, k.val = (i 0).val := ⟨⟨(i 0).val, hi⟩, rfl⟩
  obtain ⟨r, hr⟩ : ∃ r : Fin 32, r.val = c.val * 4 + (i 0).val := ⟨⟨c.val * 4 + (i 0).val, by omega⟩, rfl⟩
  obtain ⟨r', hr'⟩ : ∃ r : Fin 32, r.val = (swap c).val * 4 + (i 0).val := ⟨⟨(swap c).val * 4 + (i 0).val, by omega⟩, rfl⟩
  refine block_val X (joined X) c i (by decide) (by decide) ?_
  rw [arg_idx _ c i r' hr', res_idx _ c i r hr]
  refine cases_core c i X (joined X) r r' (fun h => ?_) (fun h => ?_)
  · exact joined_zero X q k (i 1) (i 2) r r' (by omega) (by omega)
  · exact joined_one X q k (i 1) (i 2) r r' (by omega) (by omega)

/-- The value claim at any value type of floats. -/
theorem value {F : FTy → Type} [FloatOps F] (m : (ℓ : Loc Cert.SwapIdeal.nD Cert.SwapIdeal.τ Cert.SwapIdeal.sig) → Buf (Elt F) ℓ)
    (g : Dev Cert.SwapIdeal.nD → PrngReg)
    (m' : (ℓ : Loc Cert.SwapRefIdeal.nD Cert.SwapRefIdeal.τ Cert.SwapRefIdeal.sig) → Buf (Elt F) ℓ) (g' : Dev Cert.SwapRefIdeal.nD → PrngReg)
    (hm : ∀ c : Dev Cert.SwapIdeal.nD, m (xLoc c) = Layout.block ⟨4, ![4, 2, 13440, 512]⟩ ⟨4, ![32, 2, 13440, 512]⟩ 0 8 c
      (m' (((0 : Dev Cert.SwapRefIdeal.nD).tc : Thread Cert.SwapRefIdeal.nD Cert.SwapRefIdeal.τ).loc Cert.SwapRefIdeal.main_arg0))) :
    ∃ v0 : Buf (Elt F) (((0 : Dev Cert.SwapRefIdeal.nD).tc : Thread Cert.SwapRefIdeal.nD Cert.SwapRefIdeal.τ).loc Cert.SwapRefIdeal.main_v8),
      θ_run (Cert.SwapIdeal.defs (F := F)) (onTc (τ := Cert.SwapIdeal.τ) (Cert.SwapIdeal.main (F := F))) ⟨m, fun _ => 0, g⟩ (fun r =>
        ∀ c : Dev Cert.SwapIdeal.nD,
          r.2.mem (oLoc c) = Layout.block ⟨3, ![4, 13440, 512]⟩ ⟨3, ![32, 13440, 512]⟩ 0 8 c v0
          ∧ r.2.mem (xLoc c) = m (xLoc c))
      ∧ θ_run (Cert.SwapRefIdeal.defs (F := F)) (onTc (τ := Cert.SwapRefIdeal.τ) (Cert.SwapRefIdeal.main (F := F))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0)
            = m' (((0 : Dev Cert.SwapRefIdeal.nD).tc : Thread Cert.SwapRefIdeal.nD Cert.SwapRefIdeal.τ).loc Cert.SwapRefIdeal.main_arg0)) := by
  refine ⟨_, (θ_run Cert.SwapIdeal.defs _ _).mono (fun r h c => ⟨(h.1 c).2.trans ?_, (h.1 c).1⟩) (run_main m g),
    (θ_run Cert.SwapRefIdeal.defs _ _).mono (fun _ h => h 0) (Cert.SwapRefIdeal.Value.run m' g')⟩
  refine Eq.trans ?_ (fin_blocks _ c)
  funext i
  unfold fin
  exact congrFun (hm (swap c)) _

theorem value_ideal : Cert.algebraic_SwapIdeal_SwapRefIdeal := fun m g m' g' _ hm => value (F := Ideal) m g m' g' hm

theorem value_bits : Cert.bitexact_Swap_SwapRef := fun m g m' g' _ hm => value (F := Bits) m g m' g' hm

end Cert.SwapProof

end
-- ==== Proof.AllToAll.lean ====
/-
The all-to-all between the four chips (`chip_all_to_all`): every device copies its own slab in place and slab `q` of its
argument into its own slab of the result of the device of chip `q` that has the same core. The run, at contents, over any
value type of floats.

The chips other than a device's own, in the order in which the kernel takes them, are those that differ in `y`, in `x`,
and in both. The cells of a device: k < 3, the read-out of its copy k; 3 + k, the landing of the copy from its peer k;
6, its own copy.
-/
module

public import proofs.«01_k».proof.Proof.Pieces
public import Idealize.ShloMosaic.Lib.ValueLayout
public import proofs.«01_k».proof.Proof.Gen.AllToAllIdeal
public import proofs.«01_k».proof.Proof.Gen.AllToAllIdeal.Skeleton
public import proofs.«01_k».proof.Proof.Gen.AllToAllIdeal.Launch

@[expose] public section

set_option Elab.async false

noncomputable section

namespace Cert.AllToAllProof

open Cert.AllToAllIdeal Cert.AllToAllIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ sig) ℕ

/-- The device of the same core on the chip that differs in `y`, in `x`, in both. -/
def peerY (c : Dev nD) : Dev nD := ⟨(4 * (c.val / 4) + (c.val % 2) + 2) - 2 * ((c.val / 2) % 2), by have := c.isLt; unfold nD at *; omega⟩
def peerX (c : Dev nD) : Dev nD := ⟨(2 * ((c.val / 2) % 2) + (c.val % 2) + 4) - 4 * (c.val / 4), by have := c.isLt; unfold nD at *; omega⟩
def peerXY (c : Dev nD) : Dev nD := ⟨((c.val % 2) + 6) - (4 * (c.val / 4) + 2 * ((c.val / 2) % 2)), by have := c.isLt; unfold nD at *; omega⟩
def acrossY : Dev nD ≃ Dev nD := ⟨peerY, peerY, by decide, by decide⟩
def acrossX : Dev nD ≃ Dev nD := ⟨peerX, peerX, by decide, by decide⟩
def acrossXY : Dev nD ≃ Dev nD := ⟨peerXY, peerXY, by decide, by decide⟩
theorem dev1_eq (c : Dev nD) : (⟨k0_dev1 c, k0_dev1_lt c⟩ : Dev nD) = acrossY c := Fin.ext (k0_dev1_eq c)
theorem dev2_eq (c : Dev nD) : (⟨k0_dev2 c, k0_dev2_lt c⟩ : Dev nD) = acrossX c := Fin.ext (k0_dev2_eq c)
theorem dev3_eq (c : Dev nD) : (⟨k0_dev3 c, k0_dev3_lt c⟩ : Dev nD) = acrossXY c := Fin.ext (k0_dev3_eq c)

/-- A device's chip, and the device of chip `q` that has its core. -/
def chip (c : Dev nD) : Fin 4 := ⟨c.val / 2, by have := c.isLt; unfold nD at *; omega⟩
def mate (c : Dev nD) (q : Fin 4) : Dev nD := ⟨2 * q.val + c.val % 2, by unfold nD; omega⟩
theorem mate_chip (c : Dev nD) : mate c (chip c) = c := by revert c; decide
theorem mate_Y (c : Dev nD) : mate (acrossY c) (chip c) = c := by revert c; decide
theorem mate_X (c : Dev nD) : mate (acrossX c) (chip c) = c := by revert c; decide
theorem mate_XY (c : Dev nD) : mate (acrossXY c) (chip c) = c := by revert c; decide
theorem chip_YY (c : Dev nD) : chip (acrossY (acrossY c)) = chip c := by revert c; decide
theorem chip_XX (c : Dev nD) : chip (acrossX (acrossX c)) = chip c := by revert c; decide
theorem chip_XYXY (c : Dev nD) : chip (acrossXY (acrossXY c)) = chip c := by revert c; decide

/-- The offsets that the kernel computes. -/
theorem off1_eq (c : Dev nD) : k0_off1 c = ![(chip c).val, 0, 0] := by
  rw [k0_off1_eq, show 2 * (c.val / 4) + ((c.val / 2) % 2) = (chip c).val by revert c; decide]
theorem off2_eq (c : Dev nD) : k0_off2 c = ![(chip (acrossY c)).val, 0, 0] := by
  rw [k0_off2_eq, show (2 * (c.val / 4) + 1) - ((c.val / 2) % 2) = (chip (acrossY c)).val by revert c; decide]
theorem off3_eq (c : Dev nD) : k0_off3 c = ![(chip (acrossX c)).val, 0, 0] := by
  rw [k0_off3_eq, show (((c.val / 2) % 2) + 2) - 2 * (c.val / 4) = (chip (acrossX c)).val by revert c; decide]
theorem off4_eq (c : Dev nD) : k0_off4 c = ![(chip (acrossXY c)).val, 0, 0] := by
  rw [k0_off4_eq, show 3 - (2 * (c.val / 4) + ((c.val / 2) % 2)) = (chip (acrossXY c)).val by revert c; decide]

abbrev xM : Memref sig .tc .hbm S4x13440x512 .f32 := Memref.whole main_arg0
abbrev oM : Memref sig .tc .hbm S4x13440x512 .f32 := Memref.whole main_v1
abbrev xLoc (c : Dev nD) : Loc nD τ sig := (c.tc : Thread nD τ).loc main_arg0
abbrev oLoc (c : Dev nD) : Loc nD τ sig := (c.tc : Thread nD τ).loc main_v1

/-- A slab of the result, and of the argument. -/
abbrev slabV (off : Fin 3 → ℕ) (inb : ∀ a, off a + S1x13440x512.size a ≤ S4x13440x512.size a) : Memref sig .tc .hbm S13440x512 .f32 :=
  (oM.slice (Rect.unit (s := S4x13440x512) off S1x13440x512.size inb) (fun _ => rfl)).squeeze S13440x512 squeezes_S1x13440x512_S13440x512
abbrev partV (off : Fin 3 → ℕ) (inb : ∀ a, off a + S1x13440x512.size a ≤ S4x13440x512.size a) : Memref sig .tc .hbm S13440x512 .f32 :=
  (xM.slice (Rect.unit (s := S4x13440x512) off S1x13440x512.size inb) (fun _ => rfl)).squeeze S13440x512 squeezes_S1x13440x512_S13440x512

/-- The slab of an index. -/
def slab (i : S4x13440x512.Idx) : Fin 4 := ⟨(i 0).val, (i 0).isLt⟩

theorem slab_set {off : Fin 3 → ℕ} (inb) (a : Fin 4) (h : off = ![a.val, 0, 0]) : (slabV off inb).view.set = fibre slab a := by
  show ((((View.whole main_v1).slice _).reshape _ _)).set = _
  rw [View.set_reshape, View.set_slice_whole]
  subst h
  ext i
  rw [Rect.mem_set_unit, mem_fibre]
  refine ⟨fun h => Fin.ext ?_, fun h => ?_⟩
  · have : a.val ≤ (i 0).val ∧ (i 0).val < a.val + 1 := h 0
    show (i 0).val = a.val
    omega
  · have h0 : (i 0).val = a.val := congrArg Fin.val h
    exact Fin.forall_fin_succ.mpr ⟨⟨h0.ge, by show (i 0).val < a.val + 1; omega⟩, Fin.forall_fin_succ.mpr
      ⟨⟨Nat.zero_le _, by show (i 1).val < 0 + 13440; have : (i 1).val < 13440 := (i 1).isLt; omega⟩, Fin.forall_fin_succ.mpr
        ⟨⟨Nat.zero_le _, by show (i 2).val < 0 + 512; have : (i 2).val < 512 := (i 2).isLt; omega⟩, fun z => z.elim0⟩⟩⟩

theorem part_set {off : Fin 3 → ℕ} (inb) (a : Fin 4) (h : off = ![a.val, 0, 0]) : (partV off inb).view.set = fibre slab a := by
  show ((((View.whole main_arg0).slice _).reshape _ _)).set = _
  rw [View.set_reshape, View.set_slice_whole]
  subst h
  ext i
  rw [Rect.mem_set_unit, mem_fibre]
  refine ⟨fun h => Fin.ext ?_, fun h => ?_⟩
  · have : a.val ≤ (i 0).val ∧ (i 0).val < a.val + 1 := h 0
    show (i 0).val = a.val
    omega
  · have h0 : (i 0).val = a.val := congrArg Fin.val h
    exact Fin.forall_fin_succ.mpr ⟨⟨h0.ge, by show (i 0).val < a.val + 1; omega⟩, Fin.forall_fin_succ.mpr
      ⟨⟨Nat.zero_le _, by show (i 1).val < 0 + 13440; have : (i 1).val < 13440 := (i 1).isLt; omega⟩, Fin.forall_fin_succ.mpr
        ⟨⟨Nat.zero_le _, by show (i 2).val < 0 + 512; have : (i 2).val < 512 := (i 2).isLt; omega⟩, fun z => z.elim0⟩⟩⟩

/-- The coordinates of an element of a slab. -/
theorem slab_emb {off : Fin 3 → ℕ} (inb) (a : Fin 4) (h : off = ![a.val, 0, 0]) (x : Fin 13440) (y : Fin 512) :
    ((slabV off inb).view.emb (ix2 x y) : S4x13440x512.Idx) = ix3 a x y := by
  have hr := reshapeEquiv_ix2_1ab (a := 13440) (b := 512) squeezes_S1x13440x512_S13440x512.numel_eq x y
  subst h
  funext b
  refine Fin.ext ?_
  show ![a.val, 0, 0] b + 1 * (Shape.reshapeEquiv squeezes_S1x13440x512_S13440x512.numel_eq (ix2 x y) b).val = _
  rw [hr]
  match b with
  | ⟨0, _⟩ => rfl
  | ⟨1, _⟩ => show 0 + 1 * x.val = x.val; omega
  | ⟨2, _⟩ => show 0 + 1 * y.val = y.val; omega
theorem part_emb {off : Fin 3 → ℕ} (inb) (a : Fin 4) (h : off = ![a.val, 0, 0]) (x : Fin 13440) (y : Fin 512) :
    ((partV off inb).view.emb (ix2 x y) : S4x13440x512.Idx) = ix3 a x y := by
  have hr := reshapeEquiv_ix2_1ab (a := 13440) (b := 512) squeezes_S1x13440x512_S13440x512.numel_eq x y
  subst h
  funext b
  refine Fin.ext ?_
  show ![a.val, 0, 0] b + 1 * (Shape.reshapeEquiv squeezes_S1x13440x512_S13440x512.numel_eq (ix2 x y) b).val = _
  rw [hr]
  match b with
  | ⟨0, _⟩ => rfl
  | ⟨1, _⟩ => show 0 + 1 * x.val = x.val; omega
  | ⟨2, _⟩ => show 0 + 1 * y.val = y.val; omega

abbrev N : ℕ := (slabV (k0_off1 0) (k0_off1_inb 0)).view.dmaCredit
theorem slab_credit (off inb) : (slabV off inb).view.dmaCredit = N := rfl
theorem part_credit (off inb) : (partV off inb).view.dmaCredit = N := rfl

/-- The semaphores of the reads, and those of the landings. -/
abbrev sS (off : Fin 1 → ℕ) (inb : ∀ a, off a + S1.size a ≤ S3.size a) : DmaSem sig :=
  ((cc0_scratch0.slice (Rect.unit (s := S3) off S1.size inb)).squeeze S_ squeezes_S1_S_).sem
abbrev rS (off : Fin 1 → ℕ) (inb : ∀ a, off a + S1.size a ≤ S3.size a) : DmaSem sig :=
  ((cc0_scratch1.slice (Rect.unit (s := S3) off S1.size inb)).squeeze S_ squeezes_S1_S_).sem

/-- The protocol. -/
def talk : Talk nD sig 7 where
  osem := ![.dma (sS ![0] inb_S3_S1_0), .dma (sS ![1] inb_S3_S1_1), .dma (sS ![2] inb_S3_S1_2),
    .dma (rS ![0] inb_S3_S1_0), .dma (rS ![1] inb_S3_S1_1), .dma (rS ![2] inb_S3_S1_2), .dma cc0_scratch2.sem]
  osem_inj := by decide
  payee := ![Equiv.refl _, Equiv.refl _, Equiv.refl _, acrossY, acrossX, acrossXY, Equiv.refl _]
  amt _ := N
  amt_pos _ := View.dmaCredit_pos _ (by decide)
  lvl _ := 0
  fars := [3, 4, 5]
  fars_nodup := by decide

section Contents

variable (m : (ℓ : Loc nD τ sig) → Buf (Elt F) ℓ)

/-- The contents that the result of device `c` ends with: slab `q` is the slab for `c`'s chip of the device of chip `q`. -/
def fin (c : Dev nD) : Buf (Elt F) (oLoc c) := fun i : S4x13440x512.Idx =>
  (m (xLoc (mate c (slab i))) : S4x13440x512.Idx → Elt F .f32) (ix3 (chip c) (i 1) (i 2))

theorem read_fin (c d : Dev nD) (hd : mate d (chip c) = c) {off off'} (inb inb') (h : off = ![(chip c).val, 0, 0]) (h' : off' = ![(chip d).val, 0, 0]) :
    (slabV off inb).view.read (Elt F) (fin m d) = (partV off' inb').view.read (Elt F) (m (xLoc c)) := by
  funext i
  have hi : i = ix2 (i 0) (i 1) := eq_ix2 i
  rw [hi]
  show fin m d ((slabV off inb).view.emb (ix2 (i 0) (i 1))) = m (xLoc c) ((partV off' inb').view.emb (ix2 (i 0) (i 1)))
  have h1 := slab_emb inb (chip c) h (i 0) (i 1)
  have h2 := part_emb inb' (chip d) h' (i 0) (i 1)
  rw [h1, h2]
  show (m (xLoc (mate d (chip c))) : S4x13440x512.Idx → Elt F .f32) (ix3 (chip d) (i 0) (i 1)) = _
  rw [hd]

/-- A slab of the argument, and a slab of a result at contents `f`. -/
def src (c : Dev nD) (a : Fin 4) : sProp 𝕄 := xLoc c ↦[fibre slab a]{fullShare} m (xLoc c)
def out (c : Dev nD) (a : Fin 4) (f : Buf (Elt F) (oLoc c)) : sProp 𝕄 := oLoc c ↦[fibre slab a]{fullShare} f

/-- What is handed over at each cell. -/
def pay (c : Dev nD) : Fin 7 → sProp 𝕄 :=
  ![src m c (chip (acrossY c)), src m c (chip (acrossX c)), src m c (chip (acrossXY c)),
    out c (chip (acrossY c)) (fin m c), out c (chip (acrossX c)) (fin m c), out c (chip (acrossXY c)) (fin m c),
    iprop(out c (chip c) (fin m c) ∗ src m c (chip c))]

instance (c : Dev nD) (a : Fin 4) : BI.Storable (upEmb : UEmb _ 𝕄) (src m c a) := by unfold src; infer_instance
instance (c : Dev nD) (a : Fin 4) (f : Buf (Elt F) (oLoc c)) : BI.Storable (upEmb : UEmb _ 𝕄) (out c a f) := by unfold out; infer_instance
instance (c : Dev nD) : (k : Fin 7) → BI.Storable (upEmb : UEmb _ 𝕄) (pay m c k)
  | 0 => inferInstanceAs (BI.Storable (upEmb : UEmb _ 𝕄) (src m c _))
  | 1 => inferInstanceAs (BI.Storable (upEmb : UEmb _ 𝕄) (src m c _))
  | 2 => inferInstanceAs (BI.Storable (upEmb : UEmb _ 𝕄) (src m c _))
  | 3 => inferInstanceAs (BI.Storable (upEmb : UEmb _ 𝕄) (out c _ (fin m c)))
  | 4 => inferInstanceAs (BI.Storable (upEmb : UEmb _ 𝕄) (out c _ (fin m c)))
  | 5 => inferInstanceAs (BI.Storable (upEmb : UEmb _ 𝕄) (out c _ (fin m c)))
  | 6 => inferInstanceAs (BI.Storable (upEmb : UEmb _ 𝕄) (iprop(out c (chip c) (fin m c) ∗ src m c (chip c))))

/-- An argument and a result, by slabs: the own one and those of the three peers. -/
def srcs (c : Dev nD) : sProp 𝕄 := iprop(src m c (chip c) ∗ src m c (chip (acrossY c)) ∗ src m c (chip (acrossX c)) ∗ src m c (chip (acrossXY c)))
def outs (c : Dev nD) (f : Buf (Elt F) (oLoc c)) : sProp 𝕄 :=
  iprop(out c (chip c) f ∗ out c (chip (acrossY c)) f ∗ out c (chip (acrossX c)) f ∗ out c (chip (acrossXY c)) f)

/-- What a device's kernel starts with, and what it ends with. -/
def H (c : Dev nD) : sProp 𝕄 := iprop(srcs m c ∗ out c (chip c) (m (oLoc c)) ∗ out (acrossY c) (chip c) (m (oLoc (acrossY c)))
  ∗ out (acrossX c) (chip c) (m (oLoc (acrossX c))) ∗ out (acrossXY c) (chip c) (m (oLoc (acrossXY c))))
def Y (c : Dev nD) : sProp 𝕄 := iprop((xLoc c ↦{fullShare} m (xLoc c)) ∗ (oLoc c ↦{fullShare} fin m c))

theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem slabs_all (c : Dev nD) : (Finset.univ : Finset (Fin 4)) = [chip c, chip (acrossY c), chip (acrossX c), chip (acrossXY c)].toFinset := by revert c; decide
theorem slabs_nodup (c : Dev nD) : [chip c, chip (acrossY c), chip (acrossX c), chip (acrossXY c)].Nodup := by revert c; decide

theorem outs_eq (c : Dev nD) (f : Buf (Elt F) (oLoc c)) : (oLoc c ↦{fullShare} f : sProp 𝕄) = outs c f := by
  rw [cut (oLoc c) slab fullShare f, bigSep_univ_eq_bigSepL _ (slabs_all c) (slabs_nodup c)]; rfl
theorem srcs_eq (c : Dev nD) : (xLoc c ↦{fullShare} m (xLoc c) : sProp 𝕄) = srcs m c := by
  rw [cut (xLoc c) slab fullShare, bigSep_univ_eq_bigSepL _ (slabs_all c) (slabs_nodup c)]; rfl

theorem src_eq (c : Dev nD) (a : Fin 4) {off} (inb) (h : off = ![a.val, 0, 0]) :
    ((partV off inb).view.loc (c.tc : Thread nD τ) ↦[(partV off inb).view.set]{fullShare} m (xLoc c) : sProp 𝕄) = src m c a := by
  unfold src; rw [part_set inb a h]
theorem out_eq (d : Dev nD) (k : Fin 4) {off} (inb) (h : off = ![k.val, 0, 0]) (f : Buf (Elt F) (oLoc d)) :
    ((slabV off inb).view.loc (d.tc : Thread nD τ) ↦[(slabV off inb).view.set]{fullShare} f : sProp 𝕄) = out d k f := by
  unfold out; rw [slab_set inb k h]
theorem landed (c d : Dev nD) (hd : mate d (chip c) = c) {off off'} (inb inb') (h : off = ![(chip c).val, 0, 0]) (h' : off' = ![(chip d).val, 0, 0]) (f : Buf (Elt F) (oLoc d)) :
    ((slabV off inb).view.loc (d.tc : Thread nD τ) ↦[(slabV off inb).view.set]{fullShare}
      ((slabV off inb).view.write (Elt F) f ((partV off' inb').view.read (Elt F) (m (xLoc c))) Finset.univ) : sProp 𝕄) = out d (chip c) (fin m d) := by
  rw [← out_eq _ (chip c) inb h]; exact lands (d.tc : Thread nD τ) (slabV off inb).view _ f (fin m d) fullShare (read_fin m c d hd inb inb' h h')

abbrev 𝒱₀ : Variants := Variants.none

/-- A remote copy to the device `σ c`, addressed by any name. -/
theorem step_far (K : Dev nD × Fin 7 → ℕ) (c d : Dev nD) (σ : Dev nD ≃ Dev nD) (hd : d = σ c) (hm : mate (σ c) (chip c) = c) (k₁ k₂ : Fin 7) (l : List (Fin 7))
    (hk₁ : talk.payee k₁ = Equiv.refl _) (hk₂ : talk.payee k₂ = σ) (hp₁ : pay m c k₁ = src m c (chip (σ c))) (hp₂ : pay m (σ c) k₂ = out (σ c) (chip c) (fin m (σ c)))
    {s r : DmaSem sig} (e₁ : SemLoc.dma s = talk.osem k₁) (e₂ : SemLoc.dma r = talk.osem k₂)
    {off off'} {inb inb'} (h : off = ![(chip c).val, 0, 0]) (h' : off' = ![(chip (σ c)).val, 0, 0])
    {hsc : (slabV off inb).view.ref.isScScratch = false} {hsrc : (partV off' inb').view.WordExact} {hdst : (slabV off inb).view.WordExact}
    {hsem : DmaTarget.Typed .hbm (.dma r) (.remote (Dev.tc d : Thread nD τ) (slabV off inb) (.dma s) hsc)}
    {kk : PUnit → Prog (TpuEff nD τ sig (Elt F) Λ₀ .tc) PUnit} {Q : PUnit → sProp 𝕄} :
    iprop(talk.records (pay m) K ∗ talk.debt c (k₂ :: l) ∗ dutyTok (Talk.ER τ (Elt F)) (talk.cell (talk.payee k₁ c) k₁) 0 ()
        ∗ dutyTok (Talk.ER τ (Elt F)) (talk.cell (talk.payee k₂ c) k₂) 0 () ∗ src m c (chip (σ c)) ∗ out (σ c) (chip c) (m (oLoc (σ c))))
      ⊢ iprop(((cred (tallyAt (talk.cell c k₁) () (talk.amt k₁)) ∗ talk.debt c l) -∗ wp frame (wpE (defs₀ (F := F)) 𝒱₀ (c.tc : Thread nD τ) none) Set.univ (kk ⟨⟩) Q)
          -∗ wp frame (wpE (defs₀ (F := F)) 𝒱₀ (c.tc : Thread nD τ) none) Set.univ
            (.op (.enqueueDma (partV off' inb') (.remote (Dev.tc d : Thread nD τ) (slabV off inb) (.dma s) hsc) (.dma r) hsrc hdst hsem) kk) Q) := by
  subst hd
  rw [← src_eq m c (chip (σ c)) inb' h', ← out_eq (σ c) (chip c) inb h]
  exact talk.wp_far (pay := pay m) 𝒱₀ K c k₁ k₂ l (by rw [hk₁]; rfl) (sS := .dma s) (sem := .dma r) e₁ e₂ (d := σ c) (by rw [hk₂]) (src := partV off' inb') (dst := slabV off inb)
    (q := fullShare) (fs := m (xLoc c)) (fd := m (oLoc (σ c))) (slab_credit _ _) rfl (by rw [hp₁, src_eq m c (chip (σ c)) inb' h']) (by
      rw [landed m c (σ c) hm inb inb' h h', ← hp₂])

theorem pay_Y (c : Dev nD) : pay m (acrossY c) 3 = out (acrossY c) (chip c) (fin m (acrossY c)) := by
  show out (acrossY c) (chip (acrossY (acrossY c))) _ = _; rw [chip_YY]
theorem pay_X (c : Dev nD) : pay m (acrossX c) 4 = out (acrossX c) (chip c) (fin m (acrossX c)) := by
  show out (acrossX c) (chip (acrossX (acrossX c))) _ = _; rw [chip_XX]
theorem pay_XY (c : Dev nD) : pay m (acrossXY c) 5 = out (acrossXY c) (chip c) (fin m (acrossXY c)) := by
  show out (acrossXY c) (chip (acrossXY (acrossXY c))) _ = _; rw [chip_XYXY]

set_option maxHeartbeats 4000000 in
theorem body (c : Dev nD) :
    iprop((talk.start (pay m) c ∗ H m c) ∗ talk.debt c [3, 4, 5])
      ⊢ wp frame (wpE (defs₀ (F := F)) 𝒱₀ (c.tc : Thread nD τ) none) Set.univ
          (cc0_rs_a2a xM (Memref.isWhole_whole _) oM (Memref.isWhole_whole _) cc0_scratch0 cc0_scratch1 cc0_scratch2)
          fun _ => iprop((Y m c ∗ bigSep Finset.univ fun k => semVal (talk.cell c k : GSem nD τ sig) 0) ∗ talk.debt c []) := by
  simp only [cc0_rs_a2a_eq_skeleton]; unfold cc0_rs_a2a_skel
  simp only [k0_part1_eq_skeleton, k0_part2_eq_skeleton, k0_part3_eq_skeleton, k0_part4_eq_skeleton]; unfold k0_part1_skel k0_part2_skel k0_part3_skel k0_part4_skel
  simp only [Prog.lift, Prog.bind_op, Prog.bind_ret, Prog.pure_eq_ret, wp_deviceId]
  unfold Talk.start H srcs
  rw [bigSep_seven, bigSep_seven]
  unfold Talk.hand
  iintro ⟨⟨⟨⟨%K, #HR⟩, #Hlev, ⟨Ha0, Ht0, -⟩, ⟨Ha1, Ht1, -⟩, ⟨Ha2, Ht2, -⟩, ⟨Ha3, Ht3, Hc3⟩, ⟨Ha4, Ht4, Hc4⟩, ⟨Ha5, Ht5, Hc5⟩, ⟨Ha6, Ht6, -⟩⟩, ⟨Hs, Hs0, Hs1, Hs2⟩, Ho, Ho0, Ho1, Ho2⟩, HO⟩
  -- the own slab
  ihave Hs := (Entails.of_eq (src_eq m c (chip c) (k0_off1_inb c) (off1_eq c)).symm) $$ Hs
  ihave Ho := (Entails.of_eq (out_eq c (chip c) (k0_off1_inb c) (off1_eq c) (m (oLoc c))).symm) $$ Ho
  iapply (talk.wp_near (pay := pay m) 𝒱₀ K c 6 rfl (sem := .dma cc0_scratch2.sem) rfl (src := partV _ (k0_off1_inb c)) (dst := slabV _ (k0_off1_inb c)) (q := fullShare) (fs := m (xLoc c)) (fd := m (oLoc c)) (slab_credit _ _) (by
    rw [landed m c c (mate_chip c) _ _ (off1_eq c) (off1_eq c), src_eq m c (chip c) _ (off1_eq c)]; exact entails_refl _)) $$ [Ht6 Hs Ho]
  · isplitr; · iexact HR
    isplitl [Ht6]; · iexact Ht6
    isplitl [Hs] <;> iassumption
  iintro Hc6
  -- the remote copies
  iapply (step_far m K c _ acrossY (dev1_eq c) (mate_Y c) 0 3 [4, 5] rfl rfl rfl (pay_Y m c) rfl rfl (off1_eq c) (off2_eq c)) $$ [HO Ht0 Ht3 Hs0 Ho0]
  · isplitr; · iexact HR
    isplitl [HO]; · iexact HO
    isplitl [Ht0]; · iexact Ht0
    isplitl [Ht3]; · iexact Ht3
    isplitl [Hs0] <;> iassumption
  iintro ⟨Hc0, HO⟩
  iapply (step_far m K c _ acrossX (dev2_eq c) (mate_X c) 1 4 [5] rfl rfl rfl (pay_X m c) rfl rfl (off1_eq c) (off3_eq c)) $$ [HO Ht1 Ht4 Hs1 Ho1]
  · isplitr; · iexact HR
    isplitl [HO]; · iexact HO
    isplitl [Ht1]; · iexact Ht1
    isplitl [Ht4]; · iexact Ht4
    isplitl [Hs1] <;> iassumption
  iintro ⟨Hc1, HO⟩
  iapply (step_far m K c _ acrossXY (dev3_eq c) (mate_XY c) 2 5 [] rfl rfl rfl (pay_XY m c) rfl rfl (off1_eq c) (off4_eq c)) $$ [HO Ht2 Ht5 Hs2 Ho2]
  · isplitr; · iexact HR
    isplitl [HO]; · iexact HO
    isplitl [Ht2]; · iexact Ht2
    isplitl [Ht5]; · iexact Ht5
    isplitl [Hs2] <;> iassumption
  iintro ⟨Hc2, HO⟩
  -- the waits
  iapply (talk.wp_take (pay := pay m) 𝒱₀ K c 3 [] (by simp) rfl (slab_credit _ _)) $$ [HO Hc3 Ha3]
  · isplitr; · iexact HR
    isplitr; · iexact Hlev
    isplitl [HO]; · iexact HO
    isplitl [Hc3]; · iexact Hc3
    iexact Ha3
  iintro ⟨HO, Hv3, Hz3⟩
  iapply (talk.wp_take (pay := pay m) 𝒱₀ K c 4 [] (by simp) rfl (slab_credit _ _)) $$ [HO Hc4 Ha4]
  · isplitr; · iexact HR
    isplitr; · iexact Hlev
    isplitl [HO]; · iexact HO
    isplitl [Hc4]; · iexact Hc4
    iexact Ha4
  iintro ⟨HO, Hv4, Hz4⟩
  iapply (talk.wp_take (pay := pay m) 𝒱₀ K c 5 [] (by simp) rfl (slab_credit _ _)) $$ [HO Hc5 Ha5]
  · isplitr; · iexact HR
    isplitr; · iexact Hlev
    isplitl [HO]; · iexact HO
    isplitl [Hc5]; · iexact Hc5
    iexact Ha5
  iintro ⟨HO, Hv5, Hz5⟩
  iapply (talk.wp_take (pay := pay m) 𝒱₀ K c 0 [] (by simp) rfl (part_credit _ _)) $$ [HO Hc0 Ha0]
  · isplitr; · iexact HR
    isplitr; · iexact Hlev
    isplitl [HO]; · iexact HO
    isplitl [Hc0]; · iexact Hc0
    iexact Ha0
  iintro ⟨HO, Hv0, Hz0⟩
  iapply (talk.wp_take (pay := pay m) 𝒱₀ K c 1 [] (by simp) rfl (part_credit _ _)) $$ [HO Hc1 Ha1]
  · isplitr; · iexact HR
    isplitr; · iexact Hlev
    isplitl [HO]; · iexact HO
    isplitl [Hc1]; · iexact Hc1
    iexact Ha1
  iintro ⟨HO, Hv1, Hz1⟩
  iapply (talk.wp_take (pay := pay m) 𝒱₀ K c 2 [] (by simp) rfl (part_credit _ _)) $$ [HO Hc2 Ha2]
  · isplitr; · iexact HR
    isplitr; · iexact Hlev
    isplitl [HO]; · iexact HO
    isplitl [Hc2]; · iexact Hc2
    iexact Ha2
  iintro ⟨HO, Hv2, Hz2⟩
  iapply (talk.wp_take (pay := pay m) 𝒱₀ K c 6 [] (by simp) rfl (slab_credit _ _)) $$ [HO Hc6 Ha6]
  · isplitr; · iexact HR
    isplitr; · iexact Hlev
    isplitl [HO]; · iexact HO
    isplitl [Hc6]; · iexact Hc6
    iexact Ha6
  iintro ⟨HO, Hv6, Hz6⟩
  rw [wp_ret]
  imodintro
  ihave Hv6 := (show pay m c 6 ⊢ iprop(out c (chip c) (fin m c) ∗ src m c (chip c)) from entails_refl _) $$ Hv6
  icases Hv6 with ⟨Hvo, Hvs⟩
  isplitr [HO]
  · isplitr [Hz0 Hz1 Hz2 Hz3 Hz4 Hz5 Hz6]
    · unfold Y
      rw [srcs_eq, outs_eq]
      unfold srcs outs
      isplitl [Hvs Hv0 Hv1 Hv2]
      · isplitl [Hvs]; · iexact Hvs
        isplitl [Hv0]; · iapply (show pay m c 0 ⊢ src m c (chip (acrossY c)) from entails_refl _); iexact Hv0
        isplitl [Hv1]; · iapply (show pay m c 1 ⊢ src m c (chip (acrossX c)) from entails_refl _); iexact Hv1
        iapply (show pay m c 2 ⊢ src m c (chip (acrossXY c)) from entails_refl _); iexact Hv2
      · isplitl [Hvo]; · iexact Hvo
        isplitl [Hv3]; · iapply (show pay m c 3 ⊢ out c (chip (acrossY c)) (fin m c) from entails_refl _); iexact Hv3
        isplitl [Hv4]; · iapply (show pay m c 4 ⊢ out c (chip (acrossX c)) (fin m c) from entails_refl _); iexact Hv4
        iapply (show pay m c 5 ⊢ out c (chip (acrossXY c)) (fin m c) from entails_refl _); iexact Hv5
    · isplitl [Hz0]; · iexact Hz0
      isplitl [Hz1]; · iexact Hz1
      isplitl [Hz2]; · iexact Hz2
      isplitl [Hz3]; · iexact Hz3
      isplitl [Hz4]; · iexact Hz4
      isplitl [Hz5] <;> iassumption
  · iexact HO

/-- The slab that a device writes of the result of its peer, dealt out by the peer's own name for it. -/
theorem deal_Y : (bigSep Finset.univ fun c : Dev nD => out c (chip (acrossY c)) (m (oLoc c)))
    ⊢ (bigSep Finset.univ fun c : Dev nD => out (acrossY c) (chip c) (m (oLoc (acrossY c))) : sProp 𝕄) :=
  (along (Val := Elt F) acrossY fun c => out c (chip (acrossY c)) (m (oLoc c))).trans (Entails.of_eq (by simp only [chip_YY]))
theorem deal_X : (bigSep Finset.univ fun c : Dev nD => out c (chip (acrossX c)) (m (oLoc c)))
    ⊢ (bigSep Finset.univ fun c : Dev nD => out (acrossX c) (chip c) (m (oLoc (acrossX c))) : sProp 𝕄) :=
  (along (Val := Elt F) acrossX fun c => out c (chip (acrossX c)) (m (oLoc c))).trans (Entails.of_eq (by simp only [chip_XX]))
theorem deal_XY : (bigSep Finset.univ fun c : Dev nD => out c (chip (acrossXY c)) (m (oLoc c)))
    ⊢ (bigSep Finset.univ fun c : Dev nD => out (acrossXY c) (chip c) (m (oLoc (acrossXY c))) : sProp 𝕄) :=
  (along (Val := Elt F) acrossXY fun c => out c (chip (acrossXY c)) (m (oLoc c))).trans (Entails.of_eq (by simp only [chip_XYXY]))

theorem deal_bufs :
    (bigSep Finset.univ fun c : Dev nD => unscopedBufs c (fun b => m ((c.tc : Thread nD τ).loc b)))
      ⊢ (bigSep Finset.univ fun c : Dev nD => iprop(H m c ∗ BI.emp) : sProp 𝕄) := by
  have h₁ : (bigSep Finset.univ fun c : Dev nD => unscopedBufs c (fun b => m ((c.tc : Thread nD τ).loc b)))
      ⊢ (bigSep Finset.univ fun c : Dev nD => iprop(srcs m c ∗ outs c (m (oLoc c))) : sProp 𝕄) :=
    bigSep_mono fun c _ => by
      rw [bufs_list c _ [main_arg0, main_v1] (by decide) (by decide), ← srcs_eq, ← outs_eq]
      exact entails_refl (iprop((xLoc c ↦{fullShare} m (xLoc c)) ∗ (oLoc c ↦{fullShare} m (oLoc c))) : sProp 𝕄)
  have h₂ : (bigSep Finset.univ fun c : Dev nD => H m c) ⊢ (bigSep Finset.univ fun c : Dev nD => iprop(H m c ∗ BI.emp) : sProp 𝕄) :=
    bigSep_mono fun c _ => by
      refine (show H m c ⊢ _ from ?_)
      iintro HH
      isplitl; · iexact HH
      iempintro
  refine h₁.trans ((show (bigSep Finset.univ fun c : Dev nD => iprop(srcs m c ∗ outs c (m (oLoc c))) : sProp 𝕄) ⊢ (bigSep Finset.univ fun c : Dev nD => H m c : sProp 𝕄) from ?_).trans h₂)
  unfold H outs
  have e₁ := bigSep_sep' (M := 𝕄) (Finset.univ : Finset (Dev nD)) (fun c => srcs m c) (fun c => iprop(out c (chip c) (m (oLoc c)) ∗ out c (chip (acrossY c)) (m (oLoc c)) ∗ out c (chip (acrossX c)) (m (oLoc c)) ∗ out c (chip (acrossXY c)) (m (oLoc c))))
  have e₂ := bigSep_sep' (M := 𝕄) (Finset.univ : Finset (Dev nD)) (fun c => out c (chip c) (m (oLoc c))) (fun c => iprop(out c (chip (acrossY c)) (m (oLoc c)) ∗ out c (chip (acrossX c)) (m (oLoc c)) ∗ out c (chip (acrossXY c)) (m (oLoc c))))
  have e₃ := bigSep_sep' (M := 𝕄) (Finset.univ : Finset (Dev nD)) (fun c => out c (chip (acrossY c)) (m (oLoc c))) (fun c => iprop(out c (chip (acrossX c)) (m (oLoc c)) ∗ out c (chip (acrossXY c)) (m (oLoc c))))
  have e₄ := bigSep_sep' (M := 𝕄) (Finset.univ : Finset (Dev nD)) (fun c => out c (chip (acrossX c)) (m (oLoc c))) (fun c => out c (chip (acrossXY c)) (m (oLoc c)))
  rw [e₁, e₂, e₃, e₄]
  iintro ⟨Ha, Hb, H1, H2, H3⟩
  iapply (Entails.of_eq (bigSep_sep' (M := 𝕄) _ _ _).symm)
  isplitl [Ha]; · iexact Ha
  iapply (Entails.of_eq (bigSep_sep' (M := 𝕄) _ _ _).symm)
  isplitl [Hb]; · iexact Hb
  iapply (Entails.of_eq (bigSep_sep' (M := 𝕄) _ _ _).symm)
  isplitl [H1]; · iapply (deal_Y m); iexact H1
  iapply (Entails.of_eq (bigSep_sep' (M := 𝕄) _ _ _).symm)
  isplitl [H2]; · iapply (deal_X m); iexact H2
  iapply (deal_XY m); iexact H3

/-- The run: every device ends with its argument as it was and its result at `fin`, all counters zero. -/
theorem run_main (g : Dev nD → PrngReg) :
    θ_run (defs (F := F)) (onTc (τ := τ) (main (F := F))) ⟨m, fun _ => 0, g⟩ fun r =>
      (∀ c : Dev nD, r.2.mem (xLoc c) = m (xLoc c) ∧ r.2.mem (oLoc c) = fin m c) ∧ r.2.sem = fun _ => 0 := by
  have he : ∀ p : Fin 1, IsEmpty (Fin (cfgs p).W) := fun _ => inferInstanceAs (IsEmpty (Fin 0))
  exact run_talk (P := talk) (cfgs := cfgs) (he := he) cellOf_inj N_0 winFacts0 (by decide) (defs₀ (F := F)) 𝒱₀ (pay m) m g main (fun c => rfl)
    (H m) (fun _ => BI.emp) (Y m) (deal_bufs m) (fun c => scopedRest0_eq c) (fun c t => body m c)
    (fun c s => s.mem (xLoc c) = m (xLoc c) ∧ s.mem (oLoc c) = fin m c)
    (fun c s' => by
      have h := read_two (Val := Elt F) (xLoc c) (oLoc c) (m (xLoc c)) (fin m c) s'
      unfold Y
      iintro ⟨⟨HY, -⟩, HSI⟩
      imodintro
      iapply h
      isplitl [HY] <;> iassumption)
    (by decide)

end Contents

end Cert.AllToAllProof

end
-- ==== Proof.AllToAllClaims.lean ====
/-
The claims of the all-to-all between the chips: the frames, and that the devices' results are the blocks of the
reference's.
-/
module

public import proofs.«01_k».proof.Defs
public import proofs.«01_k».proof.Proof.AllToAll
public import proofs.«01_k».proof.Proof.Gen.AllToAll
public import proofs.«01_k».proof.Proof.Gen.AllToAllRef
public import proofs.«01_k».proof.Proof.Gen.AllToAllRefIdeal
public import proofs.«01_k».proof.Proof.Gen.AllToAllRefIdeal.Run
public import Idealize.ShloMosaic.Lib.Pipeline.Value

@[expose] public section

set_option Elab.async false

noncomputable section

namespace Cert.AllToAllProof

open Idealize.ShloMosaic
open Idealize.ShloMosaic.TcCoe
open Idealize.SL.Sem
open Idealize.ShloMosaic.ValueIdx

theorem frame_bits : Cert.quiescent_AllToAll := fun m g _ =>
  (θ_run Cert.AllToAllIdeal.defs _ _).mono (fun _ h => ⟨fun c => (h.1 c).1, h.2⟩) (run_main (F := Bits) m g)

theorem frame_ideal : Cert.quiescent_AllToAllIdeal := fun m g _ =>
  (θ_run Cert.AllToAllIdeal.defs _ _).mono (fun _ h => ⟨fun c => (h.1 c).1, h.2⟩) (run_main (F := Ideal) m g)

theorem frame_ref_bits : Cert.quiescent_AllToAllRef := fun m g _ =>
  (θ_run Cert.AllToAllRefIdeal.defs _ _).mono (fun r h => ⟨fun c => (h c).2, sem_eq_zero_of_no_sems (by decide) r.2⟩)
    (Cert.AllToAllRefIdeal.Value.run (F := Bits) m g)

theorem frame_ref : Cert.quiescent_AllToAllRefIdeal := fun m g _ =>
  (θ_run Cert.AllToAllRefIdeal.defs _ _).mono (fun r h => ⟨fun c => (h c).2, sem_eq_zero_of_no_sems (by decide) r.2⟩)
    (Cert.AllToAllRefIdeal.Value.run (F := Ideal) m g)

open Cert.AllToAllRefIdeal (S4x2x4x13440x512 S32x13440x512)
open Cert.AllToAllIdeal (S4x13440x512)

/-- What the reference computes. -/
def moved {α : Type} (X : S32x13440x512.Idx → α) : S32x13440x512.Idx → α :=
  shapeCast S32x13440x512 (transpose S4x2x4x13440x512 [2, 1, 0, 3, 4]
    (shapeCast S4x2x4x13440x512 X Cert.AllToAllRefIdeal.Gen.shapeCasts_S32x13440x512_S4x2x4x13440x512)
    Cert.AllToAllRefIdeal.Gen.transposes_S4x2x4x13440x512_S4x2x4x13440x512_2_1_0_3_4)
    Cert.AllToAllRefIdeal.Gen.shapeCasts_S4x2x4x13440x512_S32x13440x512

/-- Row `q` of the block of chip `p`'s core `e` is row `p` of the block of chip `q`'s core `e`. -/
theorem moved_apply {α : Type} (X : S32x13440x512.Idx → α) (p q : Fin 4) (e : Fin 2) (x : Fin 13440) (y : Fin 512) (r r' : Fin 32)
    (hr : r.val = (p.val * 2 + e.val) * 4 + q.val) (hr' : r'.val = (q.val * 2 + e.val) * 4 + p.val) : moved X (ix3 r x y) = X (ix3 r' x y) := by
  unfold moved
  refine (shapeCast_apply _ _ _ (ix5 p e q x y) (by
    rw [Shape.rowMajor_val_five, Shape.rowMajor_val_three]
    show (((p.val * 2 + e.val) * 4 + q.val) * 13440 + x.val) * 512 + y.val = (r.val * 13440 + x.val) * 512 + y.val
    rw [hr])).trans ?_
  refine (transpose_apply _ _ _ (ix5 p e q x y) (ix5 q e p x y) (fun a => by
    match a with
    | ⟨0, _⟩ => rfl
    | ⟨1, _⟩ => rfl
    | ⟨2, _⟩ => rfl
    | ⟨3, _⟩ => rfl
    | ⟨4, _⟩ => rfl)).trans ?_
  exact shapeCast_apply X _ _ _ (by
    rw [Shape.rowMajor_val_five, Shape.rowMajor_val_three]
    show (r'.val * 13440 + x.val) * 512 + y.val = (((q.val * 2 + e.val) * 4 + p.val) * 13440 + x.val) * 512 + y.val
    rw [hr'])

/-- Where an element of a device's block is in the whole array. -/
theorem res_idx (ht : Layout.Tiles ⟨3, ![4, 13440, 512]⟩ ⟨3, ![32, 13440, 512]⟩ 0 8) (c : Fin 8) (i : S4x13440x512.Idx) (r : Fin 32)
    (hr : r.val = c.val * 4 + (i 0).val) : ht.idx c i = ix3 r (i 1) (i 2) := by
  funext a
  match a with
  | ⟨0, _⟩ => refine Fin.ext ?_; show c.val * 4 + (i 0).val = r.val; exact hr.symm
  | ⟨1, _⟩ => rfl
  | ⟨2, _⟩ => rfl
theorem arg_idx (ht : Layout.Tiles ⟨3, ![4, 13440, 512]⟩ ⟨3, ![32, 13440, 512]⟩ 0 8) (c d : Fin 8) (i : S4x13440x512.Idx) (r : Fin 32)
    (hr : r.val = d.val * 4 + (chip c).val) : ht.idx d (ix3 (chip c) (i 1) (i 2)) = ix3 r (i 1) (i 2) := by
  funext a
  match a with
  | ⟨0, _⟩ => refine Fin.ext ?_; show d.val * 4 + (chip c).val = r.val; exact hr.symm
  | ⟨1, _⟩ => rfl
  | ⟨2, _⟩ => rfl

theorem block_val {α : Type} (X Y : S32x13440x512.Idx → α) (c d : Fin 8) (i : S4x13440x512.Idx)
    (ht : Layout.Tiles ⟨3, ![4, 13440, 512]⟩ ⟨3, ![32, 13440, 512]⟩ 0 8) (h : X (ht.idx d (ix3 (chip c) (i 1) (i 2))) = Y (ht.idx c i)) :
    (Layout.block ⟨3, ![4, 13440, 512]⟩ ⟨3, ![32, 13440, 512]⟩ 0 8 d X) (ix3 (chip c) (i 1) (i 2))
      = (Layout.block ⟨3, ![4, 13440, 512]⟩ ⟨3, ![32, 13440, 512]⟩ 0 8 c Y : S4x13440x512.Idx → α) i := h

/-- A device's result, as a block of the reference's. -/
theorem fin_blocks {α : Type} (X : S32x13440x512.Idx → α) (c : Fin 8) :
    (fun i : S4x13440x512.Idx => (Layout.block ⟨3, ![4, 13440, 512]⟩ ⟨3, ![32, 13440, 512]⟩ 0 8 (mate c (slab i)) X) (ix3 (chip c) (i 1) (i 2)))
      = Layout.block ⟨3, ![4, 13440, 512]⟩ ⟨3, ![32, 13440, 512]⟩ 0 8 c (moved X) := by
  funext i
  have hc : c.val < 8 := c.isLt
  have hm : (mate c (slab i)).val = 2 * (slab i).val + c.val % 2 := rfl
  have hs : (slab i).val = (i 0).val := rfl
  have hp : (chip c).val = c.val / 2 := rfl
  obtain ⟨e, he⟩ : ∃ e : Fin 2, e.val = c.val % 2 := ⟨⟨c.val % 2, by omega⟩, rfl⟩
  have hi := (slab i).isLt
  obtain ⟨r, hr⟩ : ∃ r : Fin 32, r.val = c.val * 4 + (i 0).val := ⟨⟨c.val * 4 + (i 0).val, by omega⟩, rfl⟩
  obtain ⟨r', hr'⟩ : ∃ r : Fin 32, r.val = (mate c (slab i)).val * 4 + (chip c).val := ⟨⟨(mate c (slab i)).val * 4 + (chip c).val, by omega⟩, rfl⟩
  refine block_val X (moved X) c (mate c (slab i)) i (by decide) ?_
  rw [arg_idx _ c (mate c (slab i)) i r' hr', res_idx _ c i r hr]
  exact (moved_apply X (chip c) (slab i) e (i 1) (i 2) r r' (by omega) (by omega)).symm

/-- The value claim at any value type of floats. -/
theorem value {F : FTy → Type} [FloatOps F] (m : (ℓ : Loc Cert.AllToAllIdeal.nD Cert.AllToAllIdeal.τ Cert.AllToAllIdeal.sig) → Buf (Elt F) ℓ)
    (g : Dev Cert.AllToAllIdeal.nD → PrngReg)
    (m' : (ℓ : Loc Cert.AllToAllRefIdeal.nD Cert.AllToAllRefIdeal.τ Cert.AllToAllRefIdeal.sig) → Buf (Elt F) ℓ) (g' : Dev Cert.AllToAllRefIdeal.nD → PrngReg)
    (hm : ∀ c : Dev Cert.AllToAllIdeal.nD, m (xLoc c) = Layout.block ⟨3, ![4, 13440, 512]⟩ ⟨3, ![32, 13440, 512]⟩ 0 8 c
      (m' (((0 : Dev Cert.AllToAllRefIdeal.nD).tc : Thread Cert.AllToAllRefIdeal.nD Cert.AllToAllRefIdeal.τ).loc Cert.AllToAllRefIdeal.main_arg0))) :
    ∃ v0 : Buf (Elt F) (((0 : Dev Cert.AllToAllRefIdeal.nD).tc : Thread Cert.AllToAllRefIdeal.nD Cert.AllToAllRefIdeal.τ).loc Cert.AllToAllRefIdeal.main_v2),
      θ_run (Cert.AllToAllIdeal.defs (F := F)) (onTc (τ := Cert.AllToAllIdeal.τ) (Cert.AllToAllIdeal.main (F := F))) ⟨m, fun _ => 0, g⟩ (fun r =>
        ∀ c : Dev Cert.AllToAllIdeal.nD,
          r.2.mem (oLoc c) = Layout.block ⟨3, ![4, 13440, 512]⟩ ⟨3, ![32, 13440, 512]⟩ 0 8 c v0
          ∧ r.2.mem (xLoc c) = m (xLoc c))
      ∧ θ_run (Cert.AllToAllRefIdeal.defs (F := F)) (onTc (τ := Cert.AllToAllRefIdeal.τ) (Cert.AllToAllRefIdeal.main (F := F))) ⟨m', fun _ => 0, g'⟩ (fun r =>
          r.2.mem (((0 : Dev Cert.AllToAllRefIdeal.nD).tc : Thread Cert.AllToAllRefIdeal.nD Cert.AllToAllRefIdeal.τ).loc Cert.AllToAllRefIdeal.main_v2) = v0
          ∧ r.2.mem (((0 : Dev Cert.AllToAllRefIdeal.nD).tc : Thread Cert.AllToAllRefIdeal.nD Cert.AllToAllRefIdeal.τ).loc Cert.AllToAllRefIdeal.main_arg0)
            = m' (((0 : Dev Cert.AllToAllRefIdeal.nD).tc : Thread Cert.AllToAllRefIdeal.nD Cert.AllToAllRefIdeal.τ).loc Cert.AllToAllRefIdeal.main_arg0)) := by
  refine ⟨_, (θ_run Cert.AllToAllIdeal.defs _ _).mono (fun r h c => ⟨(h.1 c).2.trans ?_, (h.1 c).1⟩) (run_main m g),
    (θ_run Cert.AllToAllRefIdeal.defs _ _).mono (fun _ h => h 0) (Cert.AllToAllRefIdeal.Value.run m' g')⟩
  refine Eq.trans ?_ (fin_blocks _ c)
  funext i
  unfold fin
  exact congrFun (hm (mate c (slab i))) _

theorem value_ideal : Cert.algebraic_AllToAllIdeal_AllToAllRefIdeal := fun m g m' g' _ hm => value (F := Ideal) m g m' g' hm

theorem value_bits : Cert.bitexact_AllToAll_AllToAllRef := fun m g m' g' _ hm => value (F := Bits) m g m' g' hm

end Cert.AllToAllProof

end
-- ==== Proof.Pair.lean ====
/-
The exchange of the two cores of a chip (`pair_gather`): every device copies its half into its slab of its own result and
into the same slab of its sibling's. The run, at contents, over any value type of floats.

The cells of a device: 0, the read-out of its remote copy; 1, the landing of its sibling's; 2, its local copy. The two
copies read the same buffer, each at half a share of it.
-/
module

public import proofs.«01_k».proof.Proof.Pieces
public import proofs.«01_k».proof.Proof.Gen.PairIdeal
public import proofs.«01_k».proof.Proof.Gen.PairIdeal.Skeleton
public import proofs.«01_k».proof.Proof.Gen.PairIdeal.Launch

@[expose] public section

set_option Elab.async false

noncomputable section

namespace Cert.PairProof

open Cert.PairIdeal Cert.PairIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ

/-- The other core of the chip. -/
def peer (c : Dev nD) : Dev nD := ⟨4 * (c.val / 4) + 2 * (c.val / 2 % 2) + 1 - c.val % 2, by have := c.isLt; unfold nD at *; omega⟩
theorem peer_peer (c : Dev nD) : peer (peer c) = c := by revert c; decide
def swap : Dev nD ≃ Dev nD := ⟨peer, peer, peer_peer, peer_peer⟩
theorem dev1_eq (c : Dev nD) : (⟨k0_dev1 c, k0_dev1_lt c⟩ : Dev nD) = swap c := Fin.ext (k0_dev1_eq c)

/-- A device's core on its chip, and the device at a core of the chip of `c`. -/
def core (c : Dev nD) : Fin 2 := ⟨c.val % 2, Nat.mod_lt _ (by decide)⟩
def mate (c : Dev nD) (a : Fin 2) : Dev nD := ⟨2 * (c.val / 2) + a.val, by have := c.isLt; have := a.isLt; unfold nD at *; omega⟩
theorem mate_core (c : Dev nD) : mate c (core c) = c := by revert c; decide
theorem mate_peer (c : Dev nD) : mate (swap c) (core c) = c := by revert c; decide

abbrev xM : Memref sig .tc .hbm S13440x512 .f32 := Memref.whole main_arg0
abbrev oM : Memref sig .tc .hbm S2x13440x512 .f32 := Memref.whole main_v1
abbrev xLoc (c : Dev nD) : Loc nD τ sig := (c.tc : Thread nD τ).loc main_arg0
abbrev oLoc (c : Dev nD) : Loc nD τ sig := (c.tc : Thread nD τ).loc main_v1

/-- The slabs of the result, as the kernel writes them: its own core's, and the other's. -/
abbrev mine (c : Dev nD) : Memref sig .tc .hbm S13440x512 .f32 :=
  (oM.slice (Rect.unit (s := S2x13440x512) (k0_off1 c) S1x13440x512.size (k0_off1_inb c)) (fun _ => rfl)).squeeze S13440x512 squeezes_S1x13440x512_S13440x512
abbrev other (c : Dev nD) : Memref sig .tc .hbm S13440x512 .f32 :=
  (oM.slice (Rect.unit (s := S2x13440x512) (k0_off2 c) S1x13440x512.size (k0_off2_inb c)) (fun _ => rfl)).squeeze S13440x512 squeezes_S1x13440x512_S13440x512

/-- The slab of an index of the result. -/
def slab (i : S2x13440x512.Idx) : Fin 2 := ⟨(i 0).val, (i 0).isLt⟩

theorem set_slab (off : Fin 3 → ℕ) (inb) (a : Fin 2) (h : off = ![a.val, 0, 0]) :
    (Rect.unit (s := S2x13440x512) off S1x13440x512.size inb).set = fibre slab a := by
  subst h
  ext i
  rw [Rect.mem_set_unit, mem_fibre]
  refine ⟨fun h => Fin.ext ?_, fun h => ?_⟩
  · have : a.val ≤ (i 0).val ∧ (i 0).val < a.val + 1 := h 0
    show (i 0).val = a.val
    omega
  · have h0 : (i 0).val = a.val := congrArg Fin.val h
    exact Fin.forall_fin_succ.mpr ⟨⟨h0.ge, by show (i 0).val < a.val + 1; omega⟩, Fin.forall_fin_succ.mpr
      ⟨⟨Nat.zero_le _, by show (i 1).val < 0 + 13440; have : (i 1).val < 13440 := (i 1).isLt; omega⟩, Fin.forall_fin_succ.mpr
        ⟨⟨Nat.zero_le _, by show (i 2).val < 0 + 512; have : (i 2).val < 512 := (i 2).isLt; omega⟩, fun z => z.elim0⟩⟩⟩

theorem mine_set (c : Dev nD) : (mine c).view.set = fibre slab (core c) := by
  show ((((View.whole main_v1).slice _).reshape _ _)).set = _
  rw [View.set_reshape, View.set_slice_whole]
  exact set_slab _ _ _ (k0_off1_eq c)

abbrev N : ℕ := xM.view.dmaCredit
theorem mine_credit (c : Dev nD) : (mine c).view.dmaCredit = N := rfl
theorem other_credit (c : Dev nD) : (other c).view.dmaCredit = N := rfl

/-- The protocol. -/
def talk : Talk nD sig 3 where
  osem := ![.dma cc0_scratch0.sem, .dma cc0_scratch1.sem, .dma cc0_scratch2.sem]
  osem_inj := by decide
  payee := ![Equiv.refl _, swap, Equiv.refl _]
  amt _ := N
  amt_pos _ := View.dmaCredit_pos _ (by decide)
  lvl _ := 0
  fars := [1]
  fars_nodup := by decide

section Contents

variable (m : (ℓ : Loc nD τ sig) → Buf (Elt F) ℓ)

/-- The contents that the result of device `c` ends with: slab `a` is the half of core `a` of its chip. -/
def fin (c : Dev nD) : Buf (Elt F) (oLoc c) := fun i : S2x13440x512.Idx =>
  (m (xLoc (mate c (slab i))) : S13440x512.Idx → Elt F .f32) (fun a => i a.succ)

theorem read_fin (c d : Dev nD) (h : mate d (core c) = c) :
    (mine c).view.read (Elt F) (fin m d) = xM.view.read (Elt F) (m (xLoc c)) := by
  funext i
  have hr := Shape.reshapeEquiv_cons_one (n := 2) (d := ![13440, 512]) squeezes_S1x13440x512_S13440x512.numel_eq i
  have hs : slab ((mine c).view.emb i) = core c := mem_fibre.mp (by rw [← mine_set]; exact View.emb_mem_set _ i)
  show (m (xLoc (mate d (slab ((mine c).view.emb i)))) : S13440x512.Idx → Elt F .f32) (fun a => (mine c).view.emb i a.succ) = m (xLoc c) i
  rw [hs, h]
  congr 1
  funext a
  refine Fin.ext ?_
  show k0_off1 c a.succ + 1 * (Shape.reshapeEquiv squeezes_S1x13440x512_S13440x512.numel_eq i a.succ).val = (i a).val
  rw [hr, k0_off1_eq]
  fin_cases a <;> (simp; rfl)

/-- A half share of the own half, and a slab of a result at contents `f`. -/
def src (c : Dev nD) (q : PosShare TreeShare) : sProp 𝕄 := xLoc c ↦{q} m (xLoc c)
def out (c : Dev nD) (a : Fin 2) (f : Buf (Elt F) (oLoc c)) : sProp 𝕄 := oLoc c ↦[fibre slab a]{fullShare} f

/-- What is handed over at each cell. -/
def pay (c : Dev nD) : Fin 3 → sProp 𝕄 :=
  ![src m c lhalf, out c (core (peer c)) (fin m c), iprop(out c (core c) (fin m c) ∗ src m c rhalf)]

instance (c : Dev nD) (q : PosShare TreeShare) : BI.Storable (upEmb : UEmb _ 𝕄) (src m c q) := by unfold src; infer_instance
instance (c : Dev nD) (a : Fin 2) (f : Buf (Elt F) (oLoc c)) : BI.Storable (upEmb : UEmb _ 𝕄) (out c a f) := by unfold out; infer_instance
instance (c : Dev nD) : (k : Fin 3) → BI.Storable (upEmb : UEmb _ 𝕄) (pay m c k)
  | 0 => inferInstanceAs (BI.Storable (upEmb : UEmb _ 𝕄) (src m c lhalf))
  | 1 => inferInstanceAs (BI.Storable (upEmb : UEmb _ 𝕄) (out c (core (peer c)) (fin m c)))
  | 2 => inferInstanceAs (BI.Storable (upEmb : UEmb _ 𝕄) iprop(out c (core c) (fin m c) ∗ src m c rhalf))

/-- What a device's kernel starts with, and what it ends with. -/
def H (c : Dev nD) : sProp 𝕄 :=
  iprop(src m c lhalf ∗ src m c rhalf ∗ out c (core c) (m (oLoc c)) ∗ out (swap c) (core c) (m (oLoc (swap c))))
def Y (c : Dev nD) : sProp 𝕄 := iprop((xLoc c ↦{fullShare} m (xLoc c)) ∗ (oLoc c ↦{fullShare} fin m c))

theorem bigSep_two (Φ : Fin 2 → sProp 𝕄) : bigSep Finset.univ Φ = iprop(Φ 0 ∗ Φ 1) := bigSep_univ_eq_bigSepL [0, 1] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

/-- The result is its two slabs: the own core's and the other's. -/
theorem out_both (c : Dev nD) (f : Buf (Elt F) (oLoc c)) :
    (oLoc c ↦{fullShare} f : sProp 𝕄) ⊣⊢ iprop(out c (core c) f ∗ out c (core (peer c)) f) := by
  rw [cut (oLoc c) slab fullShare f, bigSep_two]
  have h : (core c = 0 ∧ core (peer c) = 1) ∨ (core c = 1 ∧ core (peer c) = 0) := by clear f; revert c; decide
  unfold out
  rcases h with ⟨h, h'⟩ | ⟨h, h'⟩ <;> rw [h, h']
  · constructor
    · iintro ⟨H0, H1⟩; isplitl [H1] <;> iassumption
    · iintro ⟨H0, H1⟩; isplitl [H1] <;> iassumption

theorem src_eq (c : Dev nD) (q : PosShare TreeShare) : (xM.view.loc (c.tc : Thread nD τ) ↦[xM.view.set]{q} m (xLoc c) : sProp 𝕄) = src m c q := by
  unfold src; rw [show xM.view.set = Finset.univ from View.set_whole _]
theorem out_eq (c d : Dev nD) (f : Buf (Elt F) (oLoc d)) :
    ((mine c).view.loc (d.tc : Thread nD τ) ↦[(mine c).view.set]{fullShare} f : sProp 𝕄) = out d (core c) f := by
  unfold out; rw [mine_set]
theorem landed (c d : Dev nD) (h : mate d (core c) = c) (f : Buf (Elt F) (oLoc d)) :
    ((mine c).view.loc (d.tc : Thread nD τ) ↦[(mine c).view.set]{fullShare}
      ((mine c).view.write (Elt F) f (xM.view.read (Elt F) (m (xLoc c))) Finset.univ) : sProp 𝕄) = out d (core c) (fin m d) := by
  rw [← out_eq]; exact lands (d.tc : Thread nD τ) (mine c).view _ f (fin m d) fullShare (read_fin m c d h)

abbrev 𝒱₀ : Variants := Variants.none

/-- The remote copy, the device it addresses by any name. -/
theorem step_far (K : Dev nD × Fin 3 → ℕ) (c d : Dev nD) (hd : d = swap c) {hsc : (mine c).view.ref.isScScratch = false}
    {hsrc : xM.view.WordExact} {hdst : (mine c).view.WordExact}
    {hsem : DmaTarget.Typed .hbm (.dma cc0_scratch1.sem) (.remote (Dev.tc d : Thread nD τ) (mine c) (.dma cc0_scratch0.sem) hsc)}
    {k : PUnit → Prog (TpuEff nD τ sig (Elt F) Λ₀ .tc) PUnit} {Q : PUnit → sProp 𝕄} :
    iprop(talk.records (pay m) K ∗ talk.debt c [1] ∗ dutyTok (Talk.ER τ (Elt F)) (talk.cell (talk.payee 0 c) 0) 0 ()
        ∗ dutyTok (Talk.ER τ (Elt F)) (talk.cell (talk.payee 1 c) 1) 0 () ∗ src m c lhalf ∗ out (swap c) (core c) (m (oLoc (swap c))))
      ⊢ iprop(((cred (tallyAt (talk.cell c 0) () (talk.amt 0)) ∗ talk.debt c []) -∗ wp frame (wpE (defs₀ (F := F)) 𝒱₀ (c.tc : Thread nD τ) none) Set.univ (k ⟨⟩) Q)
          -∗ wp frame (wpE (defs₀ (F := F)) 𝒱₀ (c.tc : Thread nD τ) none) Set.univ
            (.op (.enqueueDma xM (.remote (Dev.tc d : Thread nD τ) (mine c) (.dma cc0_scratch0.sem) hsc) (.dma cc0_scratch1.sem) hsrc hdst hsem) k) Q) := by
  subst hd
  rw [← src_eq m c lhalf, ← out_eq c (swap c)]
  exact talk.wp_far (pay := pay m) 𝒱₀ K c 0 1 [] rfl (sS := .dma cc0_scratch0.sem) (sem := .dma cc0_scratch1.sem) rfl rfl (d := swap c) rfl (src := xM) (dst := mine c)
    (q := lhalf) (fs := m (xLoc c)) (fd := m (oLoc (swap c))) (mine_credit c) rfl (by rw [src_eq]; exact entails_refl _) (by
      rw [landed m c (swap c) (mate_peer c)]
      show _ ⊢ out (swap c) (core (peer (peer c))) (fin m (swap c))
      rw [peer_peer])

set_option maxHeartbeats 1000000 in
theorem body (c : Dev nD) :
    iprop((talk.start (pay m) c ∗ H m c) ∗ talk.debt c [1])
      ⊢ wp frame (wpE (defs₀ (F := F)) 𝒱₀ (c.tc : Thread nD τ) none) Set.univ
          (cc0_rs_gather xM (Memref.isWhole_whole _) oM (Memref.isWhole_whole _) cc0_scratch0 cc0_scratch1 cc0_scratch2)
          fun _ => iprop((Y m c ∗ bigSep Finset.univ fun k => semVal (talk.cell c k : GSem nD τ sig) 0) ∗ talk.debt c []) := by
  simp only [cc0_rs_gather_eq_skeleton]; unfold cc0_rs_gather_skel
  simp only [k0_part1_eq_skeleton]; unfold k0_part1_skel
  simp only [Prog.lift, Prog.bind_op, Prog.bind_ret, Prog.pure_eq_ret, wp_deviceId]
  unfold Talk.start H
  rw [bigSep_three, bigSep_three]
  unfold Talk.hand
  iintro ⟨⟨⟨⟨%K, #HR⟩, #Hlev, ⟨Ha0, Ht0, -⟩, ⟨Ha1, Ht1, Hc1⟩, ⟨Ha2, Ht2, -⟩⟩, Hl, Hr, Ho, Hp⟩, HO⟩
  -- the local copy
  ihave Hr := (Entails.of_eq (src_eq m c rhalf).symm) $$ Hr
  ihave Ho := (Entails.of_eq (out_eq c c (m (oLoc c))).symm) $$ Ho
  iapply (talk.wp_near (pay := pay m) 𝒱₀ K c 2 rfl (sem := .dma cc0_scratch2.sem) rfl (src := xM) (dst := mine c) (q := rhalf) (fs := m (xLoc c)) (fd := m (oLoc c)) (mine_credit c) (by
    rw [landed m c c (mate_core c), src_eq]; exact entails_refl _)) $$ [Ht2 Hr Ho]
  · isplitr; · iexact HR
    isplitl [Ht2]; · iexact Ht2
    isplitl [Hr] <;> iassumption
  iintro Hc2
  -- the remote copy
  iapply (step_far m K c _ (dev1_eq c)) $$ [HO Ht0 Ht1 Hl Hp]
  · isplitr; · iexact HR
    isplitl [HO]; · iexact HO
    isplitl [Ht0]; · iexact Ht0
    isplitl [Ht1]; · iexact Ht1
    isplitl [Hl] <;> iassumption
  iintro ⟨Hc0, HO⟩
  -- the waits
  iapply (talk.wp_take (pay := pay m) 𝒱₀ K c 1 [] (by simp) rfl (other_credit c)) $$ [HO Hc1 Ha1]
  · isplitr; · iexact HR
    isplitr; · iexact Hlev
    isplitl [HO]; · iexact HO
    isplitl [Hc1]; · iexact Hc1
    iexact Ha1
  iintro ⟨HO, Hv1, Hz1⟩
  iapply (talk.wp_take (pay := pay m) 𝒱₀ K c 0 [] (by simp) rfl rfl) $$ [HO Hc0 Ha0]
  · isplitr; · iexact HR
    isplitr; · iexact Hlev
    isplitl [HO]; · iexact HO
    isplitl [Hc0]; · iexact Hc0
    iexact Ha0
  iintro ⟨HO, Hv0, Hz0⟩
  iapply (talk.wp_take (pay := pay m) 𝒱₀ K c 2 [] (by simp) rfl (mine_credit c)) $$ [HO Hc2 Ha2]
  · isplitr; · iexact HR
    isplitr; · iexact Hlev
    isplitl [HO]; · iexact HO
    isplitl [Hc2]; · iexact Hc2
    iexact Ha2
  iintro ⟨HO, Hv2, Hz2⟩
  rw [wp_ret]
  imodintro
  isplitr [HO]
  · isplitl [Hv0 Hv1 Hv2]
    · unfold Y
      ihave Hv2 := (show pay m c 2 ⊢ iprop(out c (core c) (fin m c) ∗ src m c rhalf) from entails_refl _) $$ Hv2
      icases Hv2 with ⟨Ho, Hr⟩
      ihave Hl := (show pay m c 0 ⊢ src m c lhalf from entails_refl _) $$ Hv0
      ihave Hp := (show pay m c 1 ⊢ out c (core (peer c)) (fin m c) from entails_refl _) $$ Hv1
      isplitl [Hl Hr]
      · rw [halves]; unfold src; isplitl [Hl] <;> iassumption
      · iapply (out_both c (fin m c)).2; isplitl [Ho] <;> iassumption
    · isplitl [Hz0]; · iexact Hz0
      isplitl [Hz1] <;> iassumption
  · iexact HO

theorem deal_bufs :
    (bigSep Finset.univ fun c : Dev nD => unscopedBufs c (fun b => m ((c.tc : Thread nD τ).loc b)))
      ⊢ (bigSep Finset.univ fun c : Dev nD => iprop(H m c ∗ BI.emp) : sProp 𝕄) := by
  have h₁ : (bigSep Finset.univ fun c : Dev nD => unscopedBufs c (fun b => m ((c.tc : Thread nD τ).loc b)))
      ⊢ (bigSep Finset.univ fun c : Dev nD => iprop((src m c lhalf ∗ src m c rhalf ∗ out c (core c) (m (oLoc c))) ∗ out c (core (peer c)) (m (oLoc c))) : sProp 𝕄) :=
    bigSep_mono fun c _ => by
      rw [bufs_list c _ [main_arg0, main_v1] (by decide) (by decide)]
      refine (show iprop((xLoc c ↦{fullShare} m (xLoc c)) ∗ (oLoc c ↦{fullShare} m (oLoc c))) ⊢ _ from ?_)
      rw [halves (xLoc c)]
      unfold src
      iintro ⟨⟨Hl, Hr⟩, Ho⟩
      ihave Ho := (out_both c (m (oLoc c))).1 $$ Ho
      icases Ho with ⟨Ho, Hp⟩
      isplitr [Hp]
      · isplitl [Hl]; · iexact Hl
        isplitl [Hr] <;> iassumption
      · iexact Hp
  have h₂ : (bigSep Finset.univ fun c : Dev nD => iprop((src m c lhalf ∗ src m c rhalf ∗ out c (core c) (m (oLoc c))) ∗ out (swap c) (core (peer (swap c))) (m (oLoc (swap c)))))
      ⊢ (bigSep Finset.univ fun c : Dev nD => iprop(H m c ∗ BI.emp) : sProp 𝕄) :=
    bigSep_mono fun c _ => by
      unfold H
      rw [show core (peer (swap c)) = core c from congrArg core (peer_peer c)]
      refine (show iprop((src m c lhalf ∗ src m c rhalf ∗ out c (core c) (m (oLoc c))) ∗ out (swap c) (core c) (m (oLoc (swap c)))) ⊢ _ from ?_)
      iintro ⟨⟨Hl, Hr, Ho⟩, Hp⟩
      isplitl
      · isplitl [Hl]; · iexact Hl
        isplitl [Hr]; · iexact Hr
        isplitl [Ho] <;> iassumption
      · iempintro
  have h₃ := along (Val := Elt F) swap fun c => out c (core (peer c)) (m (oLoc c))
  refine h₁.trans ((show _ ⊢ _ from ?_).trans h₂)
  rw [bigSep_sep']
  iintro ⟨Ha, Hb⟩
  iapply (Entails.of_eq (bigSep_sep' (M := 𝕄) _ _ _).symm)
  isplitl [Ha]; · iexact Ha
  iapply h₃; iexact Hb

/-- The run: every device ends with its argument as it was and its result at `fin`, all counters zero. -/
theorem run_main (g : Dev nD → PrngReg) :
    θ_run (defs (F := F)) (onTc (τ := τ) (main (F := F))) ⟨m, fun _ => 0, g⟩ fun r =>
      (∀ c : Dev nD, r.2.mem (xLoc c) = m (xLoc c) ∧ r.2.mem (oLoc c) = fin m c) ∧ r.2.sem = fun _ => 0 := by
  have he : ∀ p : Fin 1, IsEmpty (Fin (cfgs p).W) := fun _ => inferInstanceAs (IsEmpty (Fin 0))
  exact run_talk (P := talk) (cfgs := cfgs) (he := he) cellOf_inj N_0 winFacts0 (by decide) (defs₀ (F := F)) 𝒱₀ (pay m) m g main (fun c => rfl)
    (H m) (fun _ => BI.emp) (Y m) (deal_bufs m) (fun c => scopedRest0_eq c) (fun c t => body m c)
    (fun c s => s.mem (xLoc c) = m (xLoc c) ∧ s.mem (oLoc c) = fin m c)
    (fun c s' => by
      have h := read_two (Val := Elt F) (xLoc c) (oLoc c) (m (xLoc c)) (fin m c) s'
      unfold Y
      iintro ⟨⟨HY, -⟩, HSI⟩
      imodintro
      iapply h
      isplitl [HY] <;> iassumption)
    (by decide)

end Contents

end Cert.PairProof

end
-- ==== Proof.PairClaims.lean ====
/-
The claims of the exchange of the two cores of a chip: the frames, and that the devices' results are the blocks of the
reference's.
-/
module

public import proofs.«01_k».proof.Defs
public import proofs.«01_k».proof.Proof.Pair
public import proofs.«01_k».proof.Proof.Gen.Pair
public import proofs.«01_k».proof.Proof.Gen.PairRef
public import proofs.«01_k».proof.Proof.Gen.PairRefIdeal
public import proofs.«01_k».proof.Proof.Gen.PairRefIdeal.Run
public import Idealize.ShloMosaic.Lib.Pipeline.Value

@[expose] public section

set_option Elab.async false

noncomputable section

namespace Cert.PairProof

open Idealize.ShloMosaic
open Idealize.ShloMosaic.TcCoe
open Idealize.SL.Sem

theorem frame_bits : Cert.quiescent_Pair := fun m g _ =>
  (θ_run Cert.PairIdeal.defs _ _).mono (fun _ h => ⟨fun c => (h.1 c).1, h.2⟩) (run_main (F := Bits) m g)

theorem frame_ideal : Cert.quiescent_PairIdeal := fun m g _ =>
  (θ_run Cert.PairIdeal.defs _ _).mono (fun _ h => ⟨fun c => (h.1 c).1, h.2⟩) (run_main (F := Ideal) m g)

theorem frame_ref_bits : Cert.quiescent_PairRef := fun m g _ =>
  (θ_run Cert.PairRefIdeal.defs _ _).mono (fun r h => ⟨fun c => (h c).2, sem_eq_zero_of_no_sems (by decide) r.2⟩)
    (Cert.PairRefIdeal.Value.run (F := Bits) m g)

theorem frame_ref : Cert.quiescent_PairRefIdeal := fun m g _ =>
  (θ_run Cert.PairRefIdeal.defs _ _).mono (fun r h => ⟨fun c => (h c).2, sem_eq_zero_of_no_sems (by decide) r.2⟩)
    (Cert.PairRefIdeal.Value.run (F := Ideal) m g)

/-- The two slabs of a device's result are the two rows of its chip's block of the reference's result. -/
theorem fin_blocks {α : Type} (X : (⟨2, ![107520, 512]⟩ : Shape).Idx → α) (h : (⟨2, ![107520, 512]⟩ : Shape).ShapeCasts ⟨3, ![8, 13440, 512]⟩)
    (c : Fin 8) :
    (fun i : (⟨3, ![2, 13440, 512]⟩ : Shape).Idx => (Layout.block ⟨2, ![13440, 512]⟩ ⟨2, ![107520, 512]⟩ 0 8 (mate c (slab i)) X) (fun a => i a.succ))
      = Layout.blockN ⟨3, ![2, 13440, 512]⟩ ⟨3, ![8, 13440, 512]⟩ (Layout.meshBlock [2, 2, 2] ![[0, 1], [], []] c)
          (shapeCast ⟨3, ![8, 13440, 512]⟩ X h) := by
  funext i
  have ht : Layout.Tiles ⟨2, ![13440, 512]⟩ ⟨2, ![107520, 512]⟩ 0 8 := by decide
  rw [Layout.blockN_apply]
  refine (shapeCast_apply X h _ (ht.idx (mate c (slab i)) (fun a => i a.succ)) ?_).symm
  rw [Shape.rowMajor_val_three, Shape.rowMajor_val_two]
  have hc : Layout.meshLin [2, 2, 2] c.val [0, 1] = c.val / 2 := by revert c; decide
  show ((2 * (c.val / 2) + (i 0).val) * 13440 + (i 1).val) * 512 + (i 2).val
    = ((Layout.meshLin [2, 2, 2] c.val [0, 1] * 2 + (i 0).val) * 13440 + (0 * 13440 + (i 1).val)) * 512 + (0 * 512 + (i 2).val)
  rw [hc]; ring

/-- The value claim at any value type of floats. -/
theorem value {F : FTy → Type} [FloatOps F] (m : (ℓ : Loc Cert.PairIdeal.nD Cert.PairIdeal.τ Cert.PairIdeal.sig) → Buf (Elt F) ℓ)
    (g : Dev Cert.PairIdeal.nD → PrngReg)
    (m' : (ℓ : Loc Cert.PairRefIdeal.nD Cert.PairRefIdeal.τ Cert.PairRefIdeal.sig) → Buf (Elt F) ℓ) (g' : Dev Cert.PairRefIdeal.nD → PrngReg)
    (hm : ∀ c : Dev Cert.PairIdeal.nD, m (xLoc c) = Layout.block ⟨2, ![13440, 512]⟩ ⟨2, ![107520, 512]⟩ 0 8 c
      (m' (((0 : Dev Cert.PairRefIdeal.nD).tc : Thread Cert.PairRefIdeal.nD Cert.PairRefIdeal.τ).loc Cert.PairRefIdeal.main_arg0))) :
    ∃ v0 : Buf (Elt F) (((0 : Dev Cert.PairRefIdeal.nD).tc : Thread Cert.PairRefIdeal.nD Cert.PairRefIdeal.τ).loc Cert.PairRefIdeal.main_v0),
      θ_run (Cert.PairIdeal.defs (F := F)) (onTc (τ := Cert.PairIdeal.τ) (Cert.PairIdeal.main (F := F))) ⟨m, fun _ => 0, g⟩ (fun r =>
        ∀ c : Dev Cert.PairIdeal.nD,
          r.2.mem (oLoc c) = Layout.blockN ⟨3, ![2, 13440, 512]⟩ ⟨3, ![8, 13440, 512]⟩ (Layout.meshBlock [2, 2, 2] ![[0, 1], [], []] c) v0
          ∧ r.2.mem (xLoc c) = m (xLoc c))
      ∧ θ_run (Cert.PairRefIdeal.defs (F := F)) (onTc (τ := Cert.PairRefIdeal.τ) (Cert.PairRefIdeal.main (F := F))) ⟨m', fun _ => 0, g'⟩ (fun r =>
          r.2.mem (((0 : Dev Cert.PairRefIdeal.nD).tc : Thread Cert.PairRefIdeal.nD Cert.PairRefIdeal.τ).loc Cert.PairRefIdeal.main_v0) = v0
          ∧ r.2.mem (((0 : Dev Cert.PairRefIdeal.nD).tc : Thread Cert.PairRefIdeal.nD Cert.PairRefIdeal.τ).loc Cert.PairRefIdeal.main_arg0)
            = m' (((0 : Dev Cert.PairRefIdeal.nD).tc : Thread Cert.PairRefIdeal.nD Cert.PairRefIdeal.τ).loc Cert.PairRefIdeal.main_arg0)) := by
  refine ⟨_, (θ_run Cert.PairIdeal.defs _ _).mono (fun r h c => ⟨(h.1 c).2.trans ?_, (h.1 c).1⟩) (run_main m g),
    (θ_run Cert.PairRefIdeal.defs _ _).mono (fun _ h => h 0) (Cert.PairRefIdeal.Value.run m' g')⟩
  rw [← fin_blocks]
  funext i
  unfold fin
  exact congrFun (hm (mate c (slab i))) _

theorem value_ideal : Cert.algebraic_PairIdeal_PairRefIdeal := fun m g m' g' _ hm => value (F := Ideal) m g m' g' hm

theorem value_bits : Cert.bitexact_Pair_PairRef := fun m g m' g' _ hm => value (F := Bits) m g m' g' hm

end Cert.PairProof

end
-- ==== Proof.Gather.lean ====
/-
The gathering of a layer's parameters (`all_gather_shards`): every device copies its chip's rows in place, sends the half
of them that belongs to its core to the device of the same core on each of the other three chips, and passes on to the
other core of its chip every half that it receives. The run, at contents, over any value type of floats.

A block of the result is named by the device whose half it is. The cells of a device: j < 3, the read-out of its copy to
its peer j; 3 + j, that of the block of peer j that it passes on; 6 + j, the landing of the block of peer j; 9 + j, the
landing of the block that its sibling passes on, whose owner is the sibling's peer j; 12, its own rows.
-/
module

public import proofs.«01_k».proof.Proof.Pieces
public import Idealize.ShloMosaic.Lib.ValueLayout
public import proofs.«01_k».proof.Proof.Gen.GatherIdeal
public import proofs.«01_k».proof.Proof.Gen.GatherIdeal.Skeleton
public import proofs.«01_k».proof.Proof.Gen.GatherIdeal.Launch

@[expose] public section

set_option Elab.async false

noncomputable section

namespace Cert.GatherProof

open Cert.GatherIdeal Cert.GatherIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ sig) ℕ

/-- The device of the same core on the chip that differs in `y`, in `x`, in both. -/
def peerY (c : Dev nD) : Dev nD := ⟨(4 * (c.val / 4) + (c.val % 2) + 2) - 2 * ((c.val / 2) % 2), by have := c.isLt; unfold nD at *; omega⟩
def peerX (c : Dev nD) : Dev nD := ⟨(2 * ((c.val / 2) % 2) + (c.val % 2) + 4) - 4 * (c.val / 4), by have := c.isLt; unfold nD at *; omega⟩
def peerXY (c : Dev nD) : Dev nD := ⟨((c.val % 2) + 6) - (4 * (c.val / 4) + 2 * ((c.val / 2) % 2)), by have := c.isLt; unfold nD at *; omega⟩
def acrossY : Dev nD ≃ Dev nD := ⟨peerY, peerY, by decide, by decide⟩
def acrossX : Dev nD ≃ Dev nD := ⟨peerX, peerX, by decide, by decide⟩
def acrossXY : Dev nD ≃ Dev nD := ⟨peerXY, peerXY, by decide, by decide⟩
def peer (c : Dev nD) : Dev nD := ⟨4 * (c.val / 4) + 2 * (c.val / 2 % 2) + 1 - c.val % 2, by have := c.isLt; unfold nD at *; omega⟩
/-- The other core of the chip. -/
def swap : Dev nD ≃ Dev nD := ⟨peer, peer, by decide, by decide⟩
theorem dev1_eq (c : Dev nD) : (⟨k0_dev1 c, k0_dev1_lt c⟩ : Dev nD) = acrossX c := Fin.ext (k0_dev1_eq c)
theorem dev2_eq (c : Dev nD) : (⟨k0_dev2 c, k0_dev2_lt c⟩ : Dev nD) = acrossY c := Fin.ext (k0_dev2_eq c)
theorem dev3_eq (c : Dev nD) : (⟨k0_dev3 c, k0_dev3_lt c⟩ : Dev nD) = acrossXY c := Fin.ext (k0_dev3_eq c)
theorem dev4_eq (c : Dev nD) : (⟨k0_dev4 c, k0_dev4_lt c⟩ : Dev nD) = swap c := Fin.ext (k0_dev4_eq c)
theorem dev5_eq (c : Dev nD) : (⟨k0_dev5 c, k0_dev5_lt c⟩ : Dev nD) = swap c := Fin.ext (k0_dev5_eq c)
theorem dev6_eq (c : Dev nD) : (⟨k0_dev6 c, k0_dev6_lt c⟩ : Dev nD) = swap c := Fin.ext (k0_dev6_eq c)

/-- A device's chip and core. -/
def chip (c : Dev nD) : Fin 4 := ⟨c.val / 2, by have := c.isLt; unfold nD at *; omega⟩
def core (c : Dev nD) : Fin 2 := ⟨c.val % 2, Nat.mod_lt _ (by decide)⟩
def oth (c : Dev nD) : Fin 2 := ⟨1 - c.val % 2, by omega⟩
/-- The device whose argument block `b` of the result of device `c` comes from: of the own chip, itself. -/
def holder (c b : Dev nD) : Dev nD := if chip b = chip c then c else b
theorem swap_swap (c : Dev nD) : swap (swap c) = c := by revert c; decide
theorem twice_X (c : Dev nD) : acrossX (acrossX c) = c := by revert c; decide
theorem holder_X (c : Dev nD) : holder (acrossX c) c = c := by revert c; decide
theorem held_X (c : Dev nD) : holder (swap c) (acrossX c) = holder c (acrossX c) := by revert c; decide
theorem twice_Y (c : Dev nD) : acrossY (acrossY c) = c := by revert c; decide
theorem holder_Y (c : Dev nD) : holder (acrossY c) c = c := by revert c; decide
theorem held_Y (c : Dev nD) : holder (swap c) (acrossY c) = holder c (acrossY c) := by revert c; decide
theorem twice_XY (c : Dev nD) : acrossXY (acrossXY c) = c := by revert c; decide
theorem holder_XY (c : Dev nD) : holder (acrossXY c) c = c := by revert c; decide
theorem held_XY (c : Dev nD) : holder (swap c) (acrossXY c) = holder c (acrossXY c) := by revert c; decide

/-- The offsets that the kernel computes. -/
theorem off1_eq (c : Dev nD) : k0_off1 c = ![26880 * (chip c).val, 0] := by
  rw [k0_off1_eq, show 53760 * (c.val / 4) + 26880 * ((c.val / 2) % 2) = 26880 * (chip c).val by revert c; decide]
theorem off3_eq (c : Dev nD) : k0_off3 c = ![13440 * (core c).val, 0] := k0_off3_eq c
theorem off2_eq (c : Dev nD) : k0_off2 c = ![13440 * c.val, 0] := by
  rw [k0_off2_eq, show 53760 * (c.val / 4) + 26880 * ((c.val / 2) % 2) + 13440 * (c.val % 2) = 13440 * c.val by revert c; decide]
theorem off4_eq (c : Dev nD) : k0_off4 c = ![13440 * (acrossX c).val, 0] := by
  rw [k0_off4_eq, show (26880 * ((c.val / 2) % 2) + 13440 * (c.val % 2) + 53760) - 53760 * (c.val / 4) = 13440 * (acrossX c).val by revert c; decide]
theorem off5_eq (c : Dev nD) : k0_off5 c = ![13440 * (acrossY c).val, 0] := by
  rw [k0_off5_eq, show (53760 * (c.val / 4) + 13440 * (c.val % 2) + 26880) - 26880 * ((c.val / 2) % 2) = 13440 * (acrossY c).val by revert c; decide]
theorem off6_eq (c : Dev nD) : k0_off6 c = ![13440 * (acrossXY c).val, 0] := by
  rw [k0_off6_eq, show (13440 * (c.val % 2) + 80640) - (53760 * (c.val / 4) + 26880 * ((c.val / 2) % 2)) = 13440 * (acrossXY c).val by revert c; decide]
theorem off7_eq (c : Dev nD) : k0_off7 c = ![13440 * (acrossX (swap c)).val, 0] := by
  rw [k0_off7_eq, show (26880 * ((c.val / 2) % 2) + 67200) - (53760 * (c.val / 4) + 13440 * (c.val % 2)) = 13440 * (acrossX (swap c)).val by revert c; decide]
theorem off8_eq (c : Dev nD) : k0_off8 c = ![13440 * (acrossY (swap c)).val, 0] := by
  rw [k0_off8_eq, show (53760 * (c.val / 4) + 40320) - (26880 * ((c.val / 2) % 2) + 13440 * (c.val % 2)) = 13440 * (acrossY (swap c)).val by revert c; decide]
theorem off9_eq (c : Dev nD) : k0_off9 c = ![13440 * (acrossXY (swap c)).val, 0] := by
  rw [k0_off9_eq, show 94080 - (53760 * (c.val / 4) + 26880 * ((c.val / 2) % 2) + 13440 * (c.val % 2)) = 13440 * (acrossXY (swap c)).val by revert c; decide]

abbrev xM : Memref sig .tc .hbm S26880x512 .bf16 := Memref.whole main_arg0
abbrev oM : Memref sig .tc .hbm S107520x512 .bf16 := Memref.whole main_v1
abbrev xLoc (c : Dev nD) : Loc nD τ sig := (c.tc : Thread nD τ).loc main_arg0
abbrev oLoc (c : Dev nD) : Loc nD τ sig := (c.tc : Thread nD τ).loc main_v1

/-- A block of the result, a chip's rows of it, and a half of the argument. -/
abbrev blkV (off : Fin 2 → ℕ) (inb : ∀ a, off a + S13440x512.size a ≤ S107520x512.size a) : Memref sig .tc .hbm S13440x512 .bf16 :=
  oM.slice (Rect.unit (s := S107520x512) off S13440x512.size inb) (fun _ => rfl)
abbrev ownV (off : Fin 2 → ℕ) (inb : ∀ a, off a + S26880x512.size a ≤ S107520x512.size a) : Memref sig .tc .hbm S26880x512 .bf16 :=
  oM.slice (Rect.unit (s := S107520x512) off S26880x512.size inb) (fun _ => rfl)
abbrev halfV (off : Fin 2 → ℕ) (inb : ∀ a, off a + S13440x512.size a ≤ S26880x512.size a) : Memref sig .tc .hbm S13440x512 .bf16 :=
  xM.slice (Rect.unit (s := S26880x512) off S13440x512.size inb) (fun _ => rfl)

/-- The block and the chip of an index of the result, and its row in the argument; the half of an index of the argument. -/
def block (i : S107520x512.Idx) : Dev nD := ⟨(i 0).val / 13440, by have : (i 0).val < 107520 := (i 0).isLt; unfold nD; omega⟩
def rowsOf (i : S107520x512.Idx) : Fin 4 := ⟨(i 0).val / 26880, by have : (i 0).val < 107520 := (i 0).isLt; omega⟩
def pos (i : S107520x512.Idx) : Fin 26880 := ⟨(i 0).val % 26880, Nat.mod_lt _ (by decide)⟩
def half (i : S26880x512.Idx) : Fin 2 := ⟨(i 0).val / 13440, by have : (i 0).val < 26880 := (i 0).isLt; omega⟩
theorem chip_block (i : S107520x512.Idx) : chip (block i) = rowsOf i := Fin.ext (by show (i 0).val / 13440 / 2 = (i 0).val / 26880; omega)

theorem blk_set {off : Fin 2 → ℕ} (inb) (a : Dev nD) (h : off = ![13440 * a.val, 0]) : (blkV off inb).view.set = fibre block a := by
  show (((View.whole main_v1).slice _)).set = _
  rw [View.set_slice_whole]
  subst h
  ext i
  rw [Rect.mem_set_unit, mem_fibre]
  refine ⟨fun h => Fin.ext ?_, fun h => ?_⟩
  · have : 13440 * a.val ≤ (i 0).val ∧ (i 0).val < 13440 * a.val + 13440 := h 0
    show (i 0).val / 13440 = a.val
    omega
  · have h0 : (i 0).val / 13440 = a.val := congrArg Fin.val h
    exact Fin.forall_fin_succ.mpr ⟨⟨by show 13440 * a.val ≤ (i 0).val; omega, by show (i 0).val < 13440 * a.val + 13440; omega⟩, Fin.forall_fin_succ.mpr
      ⟨⟨Nat.zero_le _, by show (i 1).val < 0 + 512; have : (i 1).val < 512 := (i 1).isLt; omega⟩, fun z => z.elim0⟩⟩

theorem own_set {off : Fin 2 → ℕ} (inb) (a : Fin 4) (h : off = ![26880 * a.val, 0]) : (ownV off inb).view.set = fibre rowsOf a := by
  show (((View.whole main_v1).slice _)).set = _
  rw [View.set_slice_whole]
  subst h
  ext i
  rw [Rect.mem_set_unit, mem_fibre]
  refine ⟨fun h => Fin.ext ?_, fun h => ?_⟩
  · have : 26880 * a.val ≤ (i 0).val ∧ (i 0).val < 26880 * a.val + 26880 := h 0
    show (i 0).val / 26880 = a.val
    omega
  · have h0 : (i 0).val / 26880 = a.val := congrArg Fin.val h
    exact Fin.forall_fin_succ.mpr ⟨⟨by show 26880 * a.val ≤ (i 0).val; omega, by show (i 0).val < 26880 * a.val + 26880; omega⟩, Fin.forall_fin_succ.mpr
      ⟨⟨Nat.zero_le _, by show (i 1).val < 0 + 512; have : (i 1).val < 512 := (i 1).isLt; omega⟩, fun z => z.elim0⟩⟩

theorem half_set {off : Fin 2 → ℕ} (inb) (a : Fin 2) (h : off = ![13440 * a.val, 0]) : (halfV off inb).view.set = fibre half a := by
  show (((View.whole main_arg0).slice _)).set = _
  rw [View.set_slice_whole]
  subst h
  ext i
  rw [Rect.mem_set_unit, mem_fibre]
  refine ⟨fun h => Fin.ext ?_, fun h => ?_⟩
  · have : 13440 * a.val ≤ (i 0).val ∧ (i 0).val < 13440 * a.val + 13440 := h 0
    show (i 0).val / 13440 = a.val
    omega
  · have h0 : (i 0).val / 13440 = a.val := congrArg Fin.val h
    exact Fin.forall_fin_succ.mpr ⟨⟨by show 13440 * a.val ≤ (i 0).val; omega, by show (i 0).val < 13440 * a.val + 13440; omega⟩, Fin.forall_fin_succ.mpr
      ⟨⟨Nat.zero_le _, by show (i 1).val < 0 + 512; have : (i 1).val < 512 := (i 1).isLt; omega⟩, fun z => z.elim0⟩⟩

/-- The coordinates of an element of a block, of a chip's rows, of a half. -/
theorem blk_emb {off : Fin 2 → ℕ} (inb) (a : Dev nD) (h : off = ![13440 * a.val, 0]) (i : S13440x512.Idx) :
    block ((blkV off inb).view.emb i : S107520x512.Idx) = a
    ∧ (pos ((blkV off inb).view.emb i : S107520x512.Idx)).val = 13440 * (core a).val + (i 0).val ∧ ((blkV off inb).view.emb i : S107520x512.Idx) 1 = i 1 := by
  subst h
  have hi : (i 0).val < 13440 := (i 0).isLt
  refine ⟨Fin.ext ?_, ?_, Fin.ext ?_⟩
  · show (13440 * a.val + 1 * (i 0).val) / 13440 = a.val; omega
  · show (13440 * a.val + 1 * (i 0).val) % 26880 = 13440 * (a.val % 2) + (i 0).val; omega
  · show 0 + 1 * (i 1).val = (i 1).val; omega
theorem own_emb {off : Fin 2 → ℕ} (inb) (a : Fin 4) (h : off = ![26880 * a.val, 0]) (i : S26880x512.Idx) :
    rowsOf ((ownV off inb).view.emb i : S107520x512.Idx) = a ∧ pos ((ownV off inb).view.emb i : S107520x512.Idx) = i 0 ∧ ((ownV off inb).view.emb i : S107520x512.Idx) 1 = i 1 := by
  subst h
  have hi : (i 0).val < 26880 := (i 0).isLt
  refine ⟨Fin.ext ?_, Fin.ext ?_, Fin.ext ?_⟩
  · show (26880 * a.val + 1 * (i 0).val) / 26880 = a.val; omega
  · show (26880 * a.val + 1 * (i 0).val) % 26880 = (i 0).val; omega
  · show 0 + 1 * (i 1).val = (i 1).val; omega
theorem half_emb {off : Fin 2 → ℕ} (inb) (a : Fin 2) (h : off = ![13440 * a.val, 0]) (i : S13440x512.Idx) (r : Fin 26880) (hr : r.val = 13440 * a.val + (i 0).val) :
    ((halfV off inb).view.emb i : S26880x512.Idx) = ix2 r (i 1) := by
  subst h
  funext b
  match b with
  | ⟨0, _⟩ => refine Fin.ext ?_; show 13440 * a.val + 1 * (i 0).val = r.val; omega
  | ⟨1, _⟩ => refine Fin.ext ?_; show 0 + 1 * (i 1).val = (i 1).val; omega

abbrev N : ℕ := (blkV (k0_off2 0) (k0_off2_inb 0)).view.dmaCredit
abbrev N₂ : ℕ := (ownV (k0_off1 0) (k0_off1_inb 0)).view.dmaCredit
theorem blk_credit (off inb) : (blkV off inb).view.dmaCredit = N := rfl
theorem own_credit (off inb) : (ownV off inb).view.dmaCredit = N₂ := rfl
theorem half_credit (off inb) : (halfV off inb).view.dmaCredit = N := rfl

/-- The semaphores of the reads, and those of the landings. -/
abbrev sS (off : Fin 1 → ℕ) (inb : ∀ a, off a + S1.size a ≤ S6.size a) : DmaSem sig :=
  ((cc0_scratch0.slice (Rect.unit (s := S6) off S1.size inb)).squeeze S_ squeezes_S1_S_).sem
abbrev rS (off : Fin 1 → ℕ) (inb : ∀ a, off a + S1.size a ≤ S6.size a) : DmaSem sig :=
  ((cc0_scratch1.slice (Rect.unit (s := S6) off S1.size inb)).squeeze S_ squeezes_S1_S_).sem

/-- The protocol: a landing that a device passes on is below the landings of what is passed on. -/
def talk : Talk nD sig 13 where
  osem := ![.dma (sS ![0] inb_S6_S1_0), .dma (sS ![1] inb_S6_S1_1), .dma (sS ![2] inb_S6_S1_2), .dma (sS ![3] inb_S6_S1_3), .dma (sS ![4] inb_S6_S1_4), .dma (sS ![5] inb_S6_S1_5), .dma (rS ![0] inb_S6_S1_0), .dma (rS ![1] inb_S6_S1_1), .dma (rS ![2] inb_S6_S1_2), .dma (rS ![3] inb_S6_S1_3), .dma (rS ![4] inb_S6_S1_4), .dma (rS ![5] inb_S6_S1_5), .dma cc0_scratch2.sem]
  osem_inj := by decide
  payee := ![Equiv.refl _, Equiv.refl _, Equiv.refl _, Equiv.refl _, Equiv.refl _, Equiv.refl _, acrossX, acrossY, acrossXY, swap, swap, swap, Equiv.refl _]
  amt := ![N, N, N, N, N, N, N, N, N, N, N, N, N₂]
  amt_pos k := by
    have h : 0 < N := View.dmaCredit_pos _ (by decide)
    have h₂ : 0 < N₂ := View.dmaCredit_pos _ (by decide)
    revert k
    refine Fin.forall_fin_succ.mpr ⟨h, ?_⟩
    refine Fin.forall_fin_succ.mpr ⟨h, ?_⟩
    refine Fin.forall_fin_succ.mpr ⟨h, ?_⟩
    refine Fin.forall_fin_succ.mpr ⟨h, ?_⟩
    refine Fin.forall_fin_succ.mpr ⟨h, ?_⟩
    refine Fin.forall_fin_succ.mpr ⟨h, ?_⟩
    refine Fin.forall_fin_succ.mpr ⟨h, ?_⟩
    refine Fin.forall_fin_succ.mpr ⟨h, ?_⟩
    refine Fin.forall_fin_succ.mpr ⟨h, ?_⟩
    refine Fin.forall_fin_succ.mpr ⟨h, ?_⟩
    refine Fin.forall_fin_succ.mpr ⟨h, ?_⟩
    refine Fin.forall_fin_succ.mpr ⟨h, ?_⟩
    exact Fin.forall_fin_succ.mpr ⟨h₂, fun z => z.elim0⟩
  lvl := ![0, 0, 0, 0, 0, 0, 0, 0, 0, 1, 1, 1, 0]
  fars := [6, 7, 8, 9, 10, 11]
  fars_nodup := by decide

section Contents

variable (m : (ℓ : Loc nD τ sig) → Buf (Elt F) ℓ)

/-- An element of a device's argument. -/
def arg (d : Dev nD) (r : Fin 26880) (y : Fin 512) : Elt F .bf16 := (m (xLoc d) : S26880x512.Idx → Elt F .bf16) (ix2 r y)

/-- The contents that the result of device `c` ends with. -/
def fin (c : Dev nD) : Buf (Elt F) (oLoc c) := fun i : S107520x512.Idx => arg m (holder c (block i)) (pos i) (i 1)

theorem read_sent (c d : Dev nD) (hd : holder d c = c) {off off'} (inb inb') (h : off = ![13440 * c.val, 0]) (h' : off' = ![13440 * (core c).val, 0]) :
    (blkV off inb).view.read (Elt F) (fin m d) = (halfV off' inb').view.read (Elt F) (m (xLoc c)) := by
  funext i
  obtain ⟨h1, h2, h3⟩ := blk_emb inb c h i
  show arg m (holder d (block ((blkV off inb).view.emb i))) (pos ((blkV off inb).view.emb i)) (((blkV off inb).view.emb i : S107520x512.Idx) 1)
    = (m (xLoc c) : S26880x512.Idx → Elt F .bf16) ((halfV off' inb').view.emb i)
  rw [h1, h3, hd, half_emb inb' (core c) h' i _ h2]; rfl
theorem read_passed (c d b : Dev nD) (hd : holder d b = holder c b) {off off'} (inb inb') (h : off = ![13440 * b.val, 0]) (h' : off' = ![13440 * b.val, 0]) :
    (blkV off inb).view.read (Elt F) (fin m d) = (blkV off' inb').view.read (Elt F) (fin m c) := by
  subst h'
  subst h
  funext i
  obtain ⟨h1, h2, h3⟩ := blk_emb inb b rfl i
  show arg m (holder d (block ((blkV _ inb).view.emb i))) (pos ((blkV _ inb).view.emb i)) (((blkV _ inb).view.emb i : S107520x512.Idx) 1)
    = arg m (holder c (block ((blkV _ inb).view.emb i))) (pos ((blkV _ inb).view.emb i)) (((blkV _ inb).view.emb i : S107520x512.Idx) 1)
  rw [h1, hd]
theorem read_own (c : Dev nD) {off} (inb) (h : off = ![26880 * (chip c).val, 0]) :
    (ownV off inb).view.read (Elt F) (fin m c) = xM.view.read (Elt F) (m (xLoc c)) := by
  funext i
  obtain ⟨h1, h2, h3⟩ := own_emb inb (chip c) h i
  show arg m (holder c (block ((ownV off inb).view.emb i))) (pos ((ownV off inb).view.emb i)) (((ownV off inb).view.emb i : S107520x512.Idx) 1)
    = (m (xLoc c) : S26880x512.Idx → Elt F .bf16) i
  have h4 : holder c (block ((ownV off inb).view.emb i)) = c := by unfold holder; rw [if_pos ((chip_block _).trans h1)]
  rw [h4, h2, h3]
  unfold arg
  exact congrArg _ (eq_ix2 i).symm

/-- The shares of the argument: of the copy in place, and of the three that are sent. -/
abbrev q₀ : PosShare TreeShare := fullShare.left
abbrev q₁ : PosShare TreeShare := fullShare.right.left
abbrev q₂ : PosShare TreeShare := fullShare.right.right.left
abbrev q₃ : PosShare TreeShare := fullShare.right.right.right

/-- The argument and a half of it, and a block of a result and the own rows at contents `f`. -/
def whole (c : Dev nD) (q : PosShare TreeShare) : sProp 𝕄 := xLoc c ↦{q} m (xLoc c)
def src (c : Dev nD) (a : Fin 2) (q : PosShare TreeShare) : sProp 𝕄 := xLoc c ↦[fibre half a]{q} m (xLoc c)
def out (c b : Dev nD) (f : Buf (Elt F) (oLoc c)) : sProp 𝕄 := oLoc c ↦[fibre block b]{fullShare} f
def own (c : Dev nD) (f : Buf (Elt F) (oLoc c)) : sProp 𝕄 := oLoc c ↦[fibre rowsOf (chip c)]{fullShare} f

instance (c : Dev nD) (q) : BI.Storable (upEmb : UEmb _ 𝕄) (whole m c q) := by unfold whole; infer_instance
instance (c : Dev nD) (a : Fin 2) (q) : BI.Storable (upEmb : UEmb _ 𝕄) (src m c a q) := by unfold src; infer_instance
instance (c b : Dev nD) (f : Buf (Elt F) (oLoc c)) : BI.Storable (upEmb : UEmb _ 𝕄) (out c b f) := by unfold out; infer_instance
instance (c : Dev nD) (f : Buf (Elt F) (oLoc c)) : BI.Storable (upEmb : UEmb _ 𝕄) (own c f) := by unfold own; infer_instance

/-- What is handed over at each cell. -/
def pay (c : Dev nD) : Fin 13 → sProp 𝕄 :=
  ![src m c (core c) q₁, src m c (core c) q₂, src m c (core c) q₃,
    out c (acrossX c) (fin m c), out c (acrossY c) (fin m c), out c (acrossXY c) (fin m c),
    out c (acrossX c) (fin m c), out c (acrossY c) (fin m c), out c (acrossXY c) (fin m c),
    out c (acrossX (swap c)) (fin m c), out c (acrossY (swap c)) (fin m c), out c (acrossXY (swap c)) (fin m c),
    iprop(own c (fin m c) ∗ whole m c q₀)]

instance (c : Dev nD) : (k : Fin 13) → BI.Storable (upEmb : UEmb _ 𝕄) (pay m c k)
  | 0 => inferInstanceAs (BI.Storable (upEmb : UEmb _ 𝕄) (src m c _ _))
  | 1 => inferInstanceAs (BI.Storable (upEmb : UEmb _ 𝕄) (src m c _ _))
  | 2 => inferInstanceAs (BI.Storable (upEmb : UEmb _ 𝕄) (src m c _ _))
  | 3 => inferInstanceAs (BI.Storable (upEmb : UEmb _ 𝕄) (out c _ (fin m c)))
  | 4 => inferInstanceAs (BI.Storable (upEmb : UEmb _ 𝕄) (out c _ (fin m c)))
  | 5 => inferInstanceAs (BI.Storable (upEmb : UEmb _ 𝕄) (out c _ (fin m c)))
  | 6 => inferInstanceAs (BI.Storable (upEmb : UEmb _ 𝕄) (out c _ (fin m c)))
  | 7 => inferInstanceAs (BI.Storable (upEmb : UEmb _ 𝕄) (out c _ (fin m c)))
  | 8 => inferInstanceAs (BI.Storable (upEmb : UEmb _ 𝕄) (out c _ (fin m c)))
  | 9 => inferInstanceAs (BI.Storable (upEmb : UEmb _ 𝕄) (out c _ (fin m c)))
  | 10 => inferInstanceAs (BI.Storable (upEmb : UEmb _ 𝕄) (out c _ (fin m c)))
  | 11 => inferInstanceAs (BI.Storable (upEmb : UEmb _ 𝕄) (out c _ (fin m c)))
  | 12 => inferInstanceAs (BI.Storable (upEmb : UEmb _ 𝕄) (iprop(own c (fin m c) ∗ whole m c q₀)))

/-- The argument at its shares: the copy in place, the halves that are sent, those that are kept. -/
def kept (c : Dev nD) : sProp 𝕄 := iprop(src m c (oth c) q₁ ∗ src m c (oth c) q₂ ∗ src m c (oth c) q₃)
def args (c : Dev nD) : sProp 𝕄 := iprop(whole m c q₀ ∗ src m c (core c) q₁ ∗ src m c (core c) q₂ ∗ src m c (core c) q₃ ∗ kept m c)
/-- A result: the own rows, the blocks that the peers send, the blocks that the sibling passes on. -/
def outs (c : Dev nD) (f : Buf (Elt F) (oLoc c)) : sProp 𝕄 :=
  iprop(own c f ∗ out c (acrossX c) f ∗ out c (acrossY c) f ∗ out c (acrossXY c) f
    ∗ out c (acrossX (swap c)) f ∗ out c (acrossY (swap c)) f ∗ out c (acrossXY (swap c)) f)

/-- What a device's kernel starts with, and what it ends with. -/
def H (c : Dev nD) : sProp 𝕄 := iprop(args m c ∗ own c (m (oLoc c))
  ∗ out (acrossX c) c (m (oLoc (acrossX c))) ∗ out (acrossY c) c (m (oLoc (acrossY c))) ∗ out (acrossXY c) c (m (oLoc (acrossXY c)))
  ∗ out (swap c) (acrossX c) (m (oLoc (swap c))) ∗ out (swap c) (acrossY c) (m (oLoc (swap c))) ∗ out (swap c) (acrossXY c) (m (oLoc (swap c))))
def Y (c : Dev nD) : sProp 𝕄 := iprop((xLoc c ↦{fullShare} m (xLoc c)) ∗ (oLoc c ↦{fullShare} fin m c))

theorem bigSep_thirteen (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- The part of device `c`'s result that a block is in. -/
def part (c b : Dev nD) : Fin 7 :=
  if chip b = chip c then 0 else if b = acrossX c then 1 else if b = acrossY c then 2 else if b = acrossXY c then 3
    else if b = acrossX (swap c) then 4 else if b = acrossY (swap c) then 5 else 6
theorem part_own (c b : Dev nD) : part c b = 0 ↔ chip b = chip c := by revert c b; decide
theorem part_1 (c b : Dev nD) : part c b = 1 ↔ b = acrossX c := by revert c b; decide
theorem part_2 (c b : Dev nD) : part c b = 2 ↔ b = acrossY c := by revert c b; decide
theorem part_3 (c b : Dev nD) : part c b = 3 ↔ b = acrossXY c := by revert c b; decide
theorem part_4 (c b : Dev nD) : part c b = 4 ↔ b = acrossX (swap c) := by revert c b; decide
theorem part_5 (c b : Dev nD) : part c b = 5 ↔ b = acrossY (swap c) := by revert c b; decide
theorem part_6 (c b : Dev nD) : part c b = 6 ↔ b = acrossXY (swap c) := by revert c b; decide

theorem outs_eq (c : Dev nD) (f : Buf (Elt F) (oLoc c)) : (oLoc c ↦{fullShare} f : sProp 𝕄) = outs c f := by
  have hb (k : Fin 7) (b : Dev nD) (h : ∀ b', part c b' = k ↔ b' = b) : fibre (fun i => part c (block i)) k = fibre block b := by
    ext i; rw [mem_fibre, mem_fibre]; exact h _
  have h0 : fibre (fun i => part c (block i)) 0 = fibre rowsOf (chip c) := by
    ext i; rw [mem_fibre, mem_fibre, ← chip_block]; exact part_own c _
  rw [cut (oLoc c) (fun i => part c (block i)) fullShare f, bigSep_univ_eq_bigSepL [0, 1, 2, 3, 4, 5, 6] (by decide) (by decide)]
  unfold outs own out
  rw [← h0, ← hb 1 _ (part_1 c), ← hb 2 _ (part_2 c), ← hb 3 _ (part_3 c), ← hb 4 _ (part_4 c), ← hb 5 _ (part_5 c), ← hb 6 _ (part_6 c)]
  rfl

theorem core_all (c : Dev nD) : (Finset.univ : Finset (Fin 2)) = [core c, oth c].toFinset := by revert c; decide
theorem core_nodup (c : Dev nD) : [core c, oth c].Nodup := by revert c; decide
theorem whole_eq (c : Dev nD) (q) : whole m c q = iprop(src m c (core c) q ∗ src m c (oth c) q) := by
  unfold whole; rw [cut (xLoc c) half q, bigSep_univ_eq_bigSepL _ (core_all c) (core_nodup c)]; rfl
theorem args_eq (c : Dev nD) : (xLoc c ↦{fullShare} m (xLoc c) : sProp 𝕄) = args m c := by
  have e₀ : (xLoc c ↦{fullShare} m (xLoc c) : sProp 𝕄) = iprop(whole m c q₀ ∗ whole m c fullShare.right) := halves _ _ _ _
  have e₁ : whole m c fullShare.right = iprop(whole m c q₁ ∗ whole m c fullShare.right.right) := halves _ _ _ _
  have e₂ : whole m c fullShare.right.right = iprop(whole m c q₂ ∗ whole m c q₃) := halves _ _ _ _
  rw [e₀, e₁, e₂, whole_eq m c q₁, whole_eq m c q₂, whole_eq m c q₃]
  unfold args kept
  exact BI.Entails.antisymm (show iprop(whole m c q₀ ∗ (src m c (core c) q₁ ∗ src m c (oth c) q₁) ∗ (src m c (core c) q₂ ∗ src m c (oth c) q₂) ∗ src m c (core c) q₃ ∗ src m c (oth c) q₃) ⊢ _ by
      iintro ⟨H0, ⟨H1, K1⟩, ⟨H2, K2⟩, H3, K3⟩
      isplitl [H0]; · iexact H0
      isplitl [H1]; · iexact H1
      isplitl [H2]; · iexact H2
      isplitl [H3]; · iexact H3
      isplitl [K1]; · iexact K1
      isplitl [K2] <;> iassumption)
    (show _ ⊢ iprop(whole m c q₀ ∗ (src m c (core c) q₁ ∗ src m c (oth c) q₁) ∗ (src m c (core c) q₂ ∗ src m c (oth c) q₂) ∗ src m c (core c) q₃ ∗ src m c (oth c) q₃) by
      iintro ⟨H0, H1, H2, H3, K1, K2, K3⟩
      isplitl [H0]; · iexact H0
      isplitl [H1 K1]; · isplitl [H1] <;> iassumption
      isplitl [H2 K2]; · isplitl [H2] <;> iassumption
      isplitl [H3] <;> iassumption)

theorem src_eq (c : Dev nD) (a : Fin 2) (q) {off} (inb) (h : off = ![13440 * a.val, 0]) :
    ((halfV off inb).view.loc (c.tc : Thread nD τ) ↦[(halfV off inb).view.set]{q} m (xLoc c) : sProp 𝕄) = src m c a q := by
  unfold src; rw [half_set inb a h]
theorem out_eq (d b : Dev nD) {off} (inb) (h : off = ![13440 * b.val, 0]) (f : Buf (Elt F) (oLoc d)) :
    ((blkV off inb).view.loc (d.tc : Thread nD τ) ↦[(blkV off inb).view.set]{fullShare} f : sProp 𝕄) = out d b f := by
  unfold out; rw [blk_set inb b h]
theorem own_eq (d : Dev nD) {off} (inb) (h : off = ![26880 * (chip d).val, 0]) (f : Buf (Elt F) (oLoc d)) :
    ((ownV off inb).view.loc (d.tc : Thread nD τ) ↦[(ownV off inb).view.set]{fullShare} f : sProp 𝕄) = own d f := by
  unfold own; rw [own_set inb (chip d) h]
theorem whole_view (c : Dev nD) (q) : (xM.view.loc (c.tc : Thread nD τ) ↦[xM.view.set]{q} m (xLoc c) : sProp 𝕄) = whole m c q := by
  unfold whole; rw [show xM.view.set = Finset.univ from View.set_whole main_arg0]

theorem landed_sent (c d : Dev nD) (hd : holder d c = c) {off off'} (inb inb') (h : off = ![13440 * c.val, 0]) (h' : off' = ![13440 * (core c).val, 0]) (f : Buf (Elt F) (oLoc d)) :
    ((blkV off inb).view.loc (d.tc : Thread nD τ) ↦[(blkV off inb).view.set]{fullShare}
      ((blkV off inb).view.write (Elt F) f ((halfV off' inb').view.read (Elt F) (m (xLoc c))) Finset.univ) : sProp 𝕄) = out d c (fin m d) := by
  rw [← out_eq _ c inb h]; exact lands (d.tc : Thread nD τ) (blkV off inb).view _ f (fin m d) fullShare (read_sent m c d hd inb inb' h h')
theorem landed_passed (c d b : Dev nD) (hd : holder d b = holder c b) {off off'} (inb inb') (h : off = ![13440 * b.val, 0]) (h' : off' = ![13440 * b.val, 0]) (f : Buf (Elt F) (oLoc d)) :
    ((blkV off inb).view.loc (d.tc : Thread nD τ) ↦[(blkV off inb).view.set]{fullShare}
      ((blkV off inb).view.write (Elt F) f ((blkV off' inb').view.read (Elt F) (fin m c)) Finset.univ) : sProp 𝕄) = out d b (fin m d) := by
  rw [← out_eq _ b inb h]; exact lands (d.tc : Thread nD τ) (blkV off inb).view _ f (fin m d) fullShare (read_passed m c d b hd inb inb' h h')
theorem landed_own (c : Dev nD) {off} (inb) (h : off = ![26880 * (chip c).val, 0]) (f : Buf (Elt F) (oLoc c)) :
    ((ownV off inb).view.loc (c.tc : Thread nD τ) ↦[(ownV off inb).view.set]{fullShare}
      ((ownV off inb).view.write (Elt F) f (xM.view.read (Elt F) (m (xLoc c))) Finset.univ) : sProp 𝕄) = own c (fin m c) := by
  rw [← own_eq _ inb h]; exact lands (c.tc : Thread nD τ) (ownV off inb).view _ f (fin m c) fullShare (read_own m c inb h)

abbrev 𝒱₀ : Variants := Variants.none

/-- The own half, sent to the device `σ c`, addressed by any name. -/
theorem step_send (K : Dev nD × Fin 13 → ℕ) (c d : Dev nD) (σ : Dev nD ≃ Dev nD) (hd : d = σ c) (hm : holder (σ c) c = c) (q : PosShare TreeShare) (k₁ k₂ : Fin 13) (l : List (Fin 13))
    (hk₁ : talk.payee k₁ = Equiv.refl _) (hk₂ : talk.payee k₂ = σ) (hN : N = talk.amt k₂) (hA : talk.amt k₁ = talk.amt k₂)
    (hp₁ : pay m c k₁ = src m c (core c) q) (hp₂ : pay m (σ c) k₂ = out (σ c) c (fin m (σ c)))
    {s r : DmaSem sig} (e₁ : SemLoc.dma s = talk.osem k₁) (e₂ : SemLoc.dma r = talk.osem k₂)
    {off off'} {inb inb'} (h : off = ![13440 * c.val, 0]) (h' : off' = ![13440 * (core c).val, 0])
    {hsc : (blkV off inb).view.ref.isScScratch = false} {hsrc : (halfV off' inb').view.WordExact} {hdst : (blkV off inb).view.WordExact}
    {hsem : DmaTarget.Typed .hbm (.dma r) (.remote (Dev.tc d : Thread nD τ) (blkV off inb) (.dma s) hsc)}
    {kk : PUnit → Prog (TpuEff nD τ sig (Elt F) Λ₀ .tc) PUnit} {Q : PUnit → sProp 𝕄} :
    iprop(talk.records (pay m) K ∗ talk.debt c (k₂ :: l) ∗ dutyTok (Talk.ER τ (Elt F)) (talk.cell (talk.payee k₁ c) k₁) 0 ()
        ∗ dutyTok (Talk.ER τ (Elt F)) (talk.cell (talk.payee k₂ c) k₂) 0 () ∗ src m c (core c) q ∗ out (σ c) c (m (oLoc (σ c))))
      ⊢ iprop(((cred (tallyAt (talk.cell c k₁) () (talk.amt k₁)) ∗ talk.debt c l) -∗ wp frame (wpE (defs₀ (F := F)) 𝒱₀ (c.tc : Thread nD τ) none) Set.univ (kk ⟨⟩) Q)
          -∗ wp frame (wpE (defs₀ (F := F)) 𝒱₀ (c.tc : Thread nD τ) none) Set.univ
            (.op (.enqueueDma (halfV off' inb') (.remote (Dev.tc d : Thread nD τ) (blkV off inb) (.dma s) hsc) (.dma r) hsrc hdst hsem) kk) Q) := by
  subst hd
  rw [← src_eq m c (core c) q inb' h', ← out_eq (σ c) c inb h]
  exact talk.wp_far (pay := pay m) 𝒱₀ K c k₁ k₂ l (by rw [hk₁]; rfl) (sS := .dma s) (sem := .dma r) e₁ e₂ (d := σ c) (by rw [hk₂]) (src := halfV off' inb') (dst := blkV off inb)
    (q := q) (fs := m (xLoc c)) (fd := m (oLoc (σ c))) ((blk_credit off inb).trans hN) hA (by rw [hp₁, src_eq m c (core c) q inb' h']) (by
      rw [landed_sent m c (σ c) hm inb inb' h h', ← hp₂])

/-- A block that has landed, passed on to the other core, addressed by any name. -/
theorem step_pass (K : Dev nD × Fin 13 → ℕ) (c d b : Dev nD) (hd : d = swap c) (hm : holder (swap c) b = holder c b) (k₁ k₂ : Fin 13) (l : List (Fin 13))
    (hk₁ : talk.payee k₁ = Equiv.refl _) (hk₂ : talk.payee k₂ = swap) (hN : N = talk.amt k₂) (hA : talk.amt k₁ = talk.amt k₂)
    (hp₁ : pay m c k₁ = out c b (fin m c)) (hp₂ : pay m (swap c) k₂ = out (swap c) b (fin m (swap c)))
    {s r : DmaSem sig} (e₁ : SemLoc.dma s = talk.osem k₁) (e₂ : SemLoc.dma r = talk.osem k₂)
    {off off'} {inb inb'} (h : off = ![13440 * b.val, 0]) (h' : off' = ![13440 * b.val, 0])
    {hsc : (blkV off inb).view.ref.isScScratch = false} {hsrc : (blkV off' inb').view.WordExact} {hdst : (blkV off inb).view.WordExact}
    {hsem : DmaTarget.Typed .hbm (.dma r) (.remote (Dev.tc d : Thread nD τ) (blkV off inb) (.dma s) hsc)}
    {kk : PUnit → Prog (TpuEff nD τ sig (Elt F) Λ₀ .tc) PUnit} {Q : PUnit → sProp 𝕄} :
    iprop(talk.records (pay m) K ∗ talk.debt c (k₂ :: l) ∗ dutyTok (Talk.ER τ (Elt F)) (talk.cell (talk.payee k₁ c) k₁) 0 ()
        ∗ dutyTok (Talk.ER τ (Elt F)) (talk.cell (talk.payee k₂ c) k₂) 0 () ∗ out c b (fin m c) ∗ out (swap c) b (m (oLoc (swap c))))
      ⊢ iprop(((cred (tallyAt (talk.cell c k₁) () (talk.amt k₁)) ∗ talk.debt c l) -∗ wp frame (wpE (defs₀ (F := F)) 𝒱₀ (c.tc : Thread nD τ) none) Set.univ (kk ⟨⟩) Q)
          -∗ wp frame (wpE (defs₀ (F := F)) 𝒱₀ (c.tc : Thread nD τ) none) Set.univ
            (.op (.enqueueDma (blkV off' inb') (.remote (Dev.tc d : Thread nD τ) (blkV off inb) (.dma s) hsc) (.dma r) hsrc hdst hsem) kk) Q) := by
  subst hd
  rw [← out_eq c b inb' h', ← out_eq (swap c) b inb h]
  exact talk.wp_far (pay := pay m) 𝒱₀ K c k₁ k₂ l (by rw [hk₁]; rfl) (sS := .dma s) (sem := .dma r) e₁ e₂ (d := swap c) (by rw [hk₂]) (src := blkV off' inb') (dst := blkV off inb)
    (q := fullShare) (fs := fin m c) (fd := m (oLoc (swap c))) ((blk_credit off inb).trans hN) hA (by rw [hp₁, out_eq c b inb' h']) (by
      rw [landed_passed m c (swap c) b hm inb inb' h h', ← hp₂])

theorem pay_X (c : Dev nD) : pay m (acrossX c) 6 = out (acrossX c) c (fin m (acrossX c)) := by
  show out (acrossX c) (acrossX (acrossX c)) _ = _; rw [twice_X]
theorem pass_X (c : Dev nD) : pay m (swap c) 9 = out (swap c) (acrossX c) (fin m (swap c)) := by
  show out (swap c) (acrossX (swap (swap c))) _ = _; rw [swap_swap]
theorem pay_Y (c : Dev nD) : pay m (acrossY c) 7 = out (acrossY c) c (fin m (acrossY c)) := by
  show out (acrossY c) (acrossY (acrossY c)) _ = _; rw [twice_Y]
theorem pass_Y (c : Dev nD) : pay m (swap c) 10 = out (swap c) (acrossY c) (fin m (swap c)) := by
  show out (swap c) (acrossY (swap (swap c))) _ = _; rw [swap_swap]
theorem pay_XY (c : Dev nD) : pay m (acrossXY c) 8 = out (acrossXY c) c (fin m (acrossXY c)) := by
  show out (acrossXY c) (acrossXY (acrossXY c)) _ = _; rw [twice_XY]
theorem pass_XY (c : Dev nD) : pay m (swap c) 11 = out (swap c) (acrossXY c) (fin m (swap c)) := by
  show out (swap c) (acrossXY (swap (swap c))) _ = _; rw [swap_swap]
set_option maxHeartbeats 8000000 in
theorem body (c : Dev nD) :
    iprop((talk.start (pay m) c ∗ H m c) ∗ talk.debt c [6, 7, 8, 9, 10, 11])
      ⊢ wp frame (wpE (defs₀ (F := F)) 𝒱₀ (c.tc : Thread nD τ) none) Set.univ
          (cc0_ag xM (Memref.isWhole_whole _) oM (Memref.isWhole_whole _) cc0_scratch0 cc0_scratch1 cc0_scratch2)
          fun _ => iprop((Y m c ∗ bigSep Finset.univ fun k => semVal (talk.cell c k : GSem nD τ sig) 0) ∗ talk.debt c []) := by
  simp only [cc0_ag_eq_skeleton]; unfold cc0_ag_skel
  simp only [k0_part1_eq_skeleton, k0_part2_eq_skeleton, k0_part3_eq_skeleton, k0_part4_eq_skeleton, k0_part5_eq_skeleton, k0_part6_eq_skeleton, k0_part7_eq_skeleton]; unfold k0_part1_skel k0_part2_skel k0_part3_skel k0_part4_skel k0_part5_skel k0_part6_skel k0_part7_skel
  simp only [Prog.lift, Prog.bind_op, Prog.bind_ret, Prog.pure_eq_ret, wp_deviceId]
  unfold Talk.start H args
  rw [bigSep_thirteen, bigSep_thirteen]
  unfold Talk.hand
  iintro ⟨⟨⟨⟨%K, #HR⟩, #Hlev, ⟨Ha0, Ht0, -⟩, ⟨Ha1, Ht1, -⟩, ⟨Ha2, Ht2, -⟩, ⟨Ha3, Ht3, -⟩, ⟨Ha4, Ht4, -⟩, ⟨Ha5, Ht5, -⟩, ⟨Ha6, Ht6, Hc6⟩, ⟨Ha7, Ht7, Hc7⟩, ⟨Ha8, Ht8, Hc8⟩, ⟨Ha9, Ht9, Hc9⟩, ⟨Ha10, Ht10, Hc10⟩, ⟨Ha11, Ht11, Hc11⟩, ⟨Ha12, Ht12, -⟩⟩, ⟨Hs, Hs0, Hs1, Hs2, Hkept⟩, Ho, Ho0, Ho1, Ho2, Hp0, Hp1, Hp2⟩, HO⟩
  -- the own rows
  ihave Hs := (Entails.of_eq (whole_view m c q₀).symm) $$ Hs
  ihave Ho := (Entails.of_eq (own_eq c (k0_off1_inb c) (off1_eq c) (m (oLoc c))).symm) $$ Ho
  iapply (talk.wp_near (pay := pay m) 𝒱₀ K c 12 rfl (sem := .dma cc0_scratch2.sem) rfl (src := xM) (dst := ownV _ (k0_off1_inb c)) (q := q₀) (fs := m (xLoc c)) (fd := m (oLoc c)) (own_credit _ _) (by
    rw [landed_own m c _ (off1_eq c), whole_view m c q₀]; exact entails_refl _)) $$ [Ht12 Hs Ho]
  · isplitr; · iexact HR
    isplitl [Ht12]; · iexact Ht12
    isplitl [Hs] <;> iassumption
  iintro Hc12
  -- the own half to the three other chips
  iapply (step_send m K c _ acrossX (dev1_eq c) (holder_X c) _ 0 6 [7, 8, 9, 10, 11] rfl rfl rfl rfl rfl (pay_X m c) rfl rfl (off2_eq c) (off3_eq c)) $$ [HO Ht0 Ht6 Hs0 Ho0]
  · isplitr; · iexact HR
    isplitl [HO]; · iexact HO
    isplitl [Ht0]; · iexact Ht0
    isplitl [Ht6]; · iexact Ht6
    isplitl [Hs0] <;> iassumption
  iintro ⟨Hc0, HO⟩
  iapply (step_send m K c _ acrossY (dev2_eq c) (holder_Y c) _ 1 7 [8, 9, 10, 11] rfl rfl rfl rfl rfl (pay_Y m c) rfl rfl (off2_eq c) (off3_eq c)) $$ [HO Ht1 Ht7 Hs1 Ho1]
  · isplitr; · iexact HR
    isplitl [HO]; · iexact HO
    isplitl [Ht1]; · iexact Ht1
    isplitl [Ht7]; · iexact Ht7
    isplitl [Hs1] <;> iassumption
  iintro ⟨Hc1, HO⟩
  iapply (step_send m K c _ acrossXY (dev3_eq c) (holder_XY c) _ 2 8 [9, 10, 11] rfl rfl rfl rfl rfl (pay_XY m c) rfl rfl (off2_eq c) (off3_eq c)) $$ [HO Ht2 Ht8 Hs2 Ho2]
  · isplitr; · iexact HR
    isplitl [HO]; · iexact HO
    isplitl [Ht2]; · iexact Ht2
    isplitl [Ht8]; · iexact Ht8
    isplitl [Hs2] <;> iassumption
  iintro ⟨Hc2, HO⟩
  -- what arrives is passed on
  iapply (talk.wp_take (pay := pay m) 𝒱₀ K c 6 [9, 10, 11] (by decide) rfl (blk_credit _ _)) $$ [HO Hc6 Ha6]
  · isplitr; · iexact HR
    isplitr; · iexact Hlev
    isplitl [HO]; · iexact HO
    isplitl [Hc6]; · iexact Hc6
    iexact Ha6
  iintro ⟨HO, Hv6, Hz6⟩
  ihave Hv6 := (show pay m c 6 ⊢ out c (acrossX c) (fin m c) from entails_refl _) $$ Hv6
  iapply (step_pass m K c _ (acrossX c) (dev4_eq c) (held_X c) 3 9 [10, 11] rfl rfl rfl rfl rfl (pass_X m c) rfl rfl (off4_eq c) (off4_eq c)) $$ [HO Ht3 Ht9 Hv6 Hp0]
  · isplitr; · iexact HR
    isplitl [HO]; · iexact HO
    isplitl [Ht3]; · iexact Ht3
    isplitl [Ht9]; · iexact Ht9
    isplitl [Hv6] <;> iassumption
  iintro ⟨Hc3, HO⟩
  iapply (talk.wp_take (pay := pay m) 𝒱₀ K c 7 [10, 11] (by decide) rfl (blk_credit _ _)) $$ [HO Hc7 Ha7]
  · isplitr; · iexact HR
    isplitr; · iexact Hlev
    isplitl [HO]; · iexact HO
    isplitl [Hc7]; · iexact Hc7
    iexact Ha7
  iintro ⟨HO, Hv7, Hz7⟩
  ihave Hv7 := (show pay m c 7 ⊢ out c (acrossY c) (fin m c) from entails_refl _) $$ Hv7
  iapply (step_pass m K c _ (acrossY c) (dev5_eq c) (held_Y c) 4 10 [11] rfl rfl rfl rfl rfl (pass_Y m c) rfl rfl (off5_eq c) (off5_eq c)) $$ [HO Ht4 Ht10 Hv7 Hp1]
  · isplitr; · iexact HR
    isplitl [HO]; · iexact HO
    isplitl [Ht4]; · iexact Ht4
    isplitl [Ht10]; · iexact Ht10
    isplitl [Hv7] <;> iassumption
  iintro ⟨Hc4, HO⟩
  iapply (talk.wp_take (pay := pay m) 𝒱₀ K c 8 [11] (by decide) rfl (blk_credit _ _)) $$ [HO Hc8 Ha8]
  · isplitr; · iexact HR
    isplitr; · iexact Hlev
    isplitl [HO]; · iexact HO
    isplitl [Hc8]; · iexact Hc8
    iexact Ha8
  iintro ⟨HO, Hv8, Hz8⟩
  ihave Hv8 := (show pay m c 8 ⊢ out c (acrossXY c) (fin m c) from entails_refl _) $$ Hv8
  iapply (step_pass m K c _ (acrossXY c) (dev6_eq c) (held_XY c) 5 11 [] rfl rfl rfl rfl rfl (pass_XY m c) rfl rfl (off6_eq c) (off6_eq c)) $$ [HO Ht5 Ht11 Hv8 Hp2]
  · isplitr; · iexact HR
    isplitl [HO]; · iexact HO
    isplitl [Ht5]; · iexact Ht5
    isplitl [Ht11]; · iexact Ht11
    isplitl [Hv8] <;> iassumption
  iintro ⟨Hc5, HO⟩
  -- the waits
  iapply (talk.wp_take (pay := pay m) 𝒱₀ K c 9 [] (by decide) rfl (blk_credit _ _)) $$ [HO Hc9 Ha9]
  · isplitr; · iexact HR
    isplitr; · iexact Hlev
    isplitl [HO]; · iexact HO
    isplitl [Hc9]; · iexact Hc9
    iexact Ha9
  iintro ⟨HO, Hv9, Hz9⟩
  iapply (talk.wp_take (pay := pay m) 𝒱₀ K c 10 [] (by decide) rfl (blk_credit _ _)) $$ [HO Hc10 Ha10]
  · isplitr; · iexact HR
    isplitr; · iexact Hlev
    isplitl [HO]; · iexact HO
    isplitl [Hc10]; · iexact Hc10
    iexact Ha10
  iintro ⟨HO, Hv10, Hz10⟩
  iapply (talk.wp_take (pay := pay m) 𝒱₀ K c 11 [] (by decide) rfl (blk_credit _ _)) $$ [HO Hc11 Ha11]
  · isplitr; · iexact HR
    isplitr; · iexact Hlev
    isplitl [HO]; · iexact HO
    isplitl [Hc11]; · iexact Hc11
    iexact Ha11
  iintro ⟨HO, Hv11, Hz11⟩
  iapply (talk.wp_take (pay := pay m) 𝒱₀ K c 0 [] (by decide) rfl (half_credit _ _)) $$ [HO Hc0 Ha0]
  · isplitr; · iexact HR
    isplitr; · iexact Hlev
    isplitl [HO]; · iexact HO
    isplitl [Hc0]; · iexact Hc0
    iexact Ha0
  iintro ⟨HO, Hv0, Hz0⟩
  iapply (talk.wp_take (pay := pay m) 𝒱₀ K c 1 [] (by decide) rfl (half_credit _ _)) $$ [HO Hc1 Ha1]
  · isplitr; · iexact HR
    isplitr; · iexact Hlev
    isplitl [HO]; · iexact HO
    isplitl [Hc1]; · iexact Hc1
    iexact Ha1
  iintro ⟨HO, Hv1, Hz1⟩
  iapply (talk.wp_take (pay := pay m) 𝒱₀ K c 2 [] (by decide) rfl (half_credit _ _)) $$ [HO Hc2 Ha2]
  · isplitr; · iexact HR
    isplitr; · iexact Hlev
    isplitl [HO]; · iexact HO
    isplitl [Hc2]; · iexact Hc2
    iexact Ha2
  iintro ⟨HO, Hv2, Hz2⟩
  iapply (talk.wp_take (pay := pay m) 𝒱₀ K c 3 [] (by decide) rfl (blk_credit _ _)) $$ [HO Hc3 Ha3]
  · isplitr; · iexact HR
    isplitr; · iexact Hlev
    isplitl [HO]; · iexact HO
    isplitl [Hc3]; · iexact Hc3
    iexact Ha3
  iintro ⟨HO, Hv3, Hz3⟩
  iapply (talk.wp_take (pay := pay m) 𝒱₀ K c 4 [] (by decide) rfl (blk_credit _ _)) $$ [HO Hc4 Ha4]
  · isplitr; · iexact HR
    isplitr; · iexact Hlev
    isplitl [HO]; · iexact HO
    isplitl [Hc4]; · iexact Hc4
    iexact Ha4
  iintro ⟨HO, Hv4, Hz4⟩
  iapply (talk.wp_take (pay := pay m) 𝒱₀ K c 5 [] (by decide) rfl (blk_credit _ _)) $$ [HO Hc5 Ha5]
  · isplitr; · iexact HR
    isplitr; · iexact Hlev
    isplitl [HO]; · iexact HO
    isplitl [Hc5]; · iexact Hc5
    iexact Ha5
  iintro ⟨HO, Hv5, Hz5⟩
  iapply (talk.wp_take (pay := pay m) 𝒱₀ K c 12 [] (by decide) rfl (own_credit _ _)) $$ [HO Hc12 Ha12]
  · isplitr; · iexact HR
    isplitr; · iexact Hlev
    isplitl [HO]; · iexact HO
    isplitl [Hc12]; · iexact Hc12
    iexact Ha12
  iintro ⟨HO, Hv12, Hz12⟩
  rw [wp_ret]
  imodintro
  ihave Hv0 := (show pay m c 0 ⊢ src m c (core c) q₁ from entails_refl _) $$ Hv0
  ihave Hv1 := (show pay m c 1 ⊢ src m c (core c) q₂ from entails_refl _) $$ Hv1
  ihave Hv2 := (show pay m c 2 ⊢ src m c (core c) q₃ from entails_refl _) $$ Hv2
  ihave Hv3 := (show pay m c 3 ⊢ out c (acrossX c) (fin m c) from entails_refl _) $$ Hv3
  ihave Hv4 := (show pay m c 4 ⊢ out c (acrossY c) (fin m c) from entails_refl _) $$ Hv4
  ihave Hv5 := (show pay m c 5 ⊢ out c (acrossXY c) (fin m c) from entails_refl _) $$ Hv5
  ihave Hv9 := (show pay m c 9 ⊢ out c (acrossX (swap c)) (fin m c) from entails_refl _) $$ Hv9
  ihave Hv10 := (show pay m c 10 ⊢ out c (acrossY (swap c)) (fin m c) from entails_refl _) $$ Hv10
  ihave Hv11 := (show pay m c 11 ⊢ out c (acrossXY (swap c)) (fin m c) from entails_refl _) $$ Hv11
  ihave Hv12 := (show pay m c 12 ⊢ iprop(own c (fin m c) ∗ whole m c q₀) from entails_refl _) $$ Hv12
  icases Hv12 with ⟨Hvo, Hvs⟩
  isplitr [HO]
  · isplitr [Hz0 Hz1 Hz2 Hz3 Hz4 Hz5 Hz6 Hz7 Hz8 Hz9 Hz10 Hz11 Hz12]
    · unfold Y
      rw [args_eq, outs_eq]
      unfold args outs
      isplitl [Hvs Hv0 Hv1 Hv2 Hkept]
      · isplitl [Hvs]; · iexact Hvs
        isplitl [Hv0]; · iexact Hv0
        isplitl [Hv1]; · iexact Hv1
        isplitl [Hv2]; · iexact Hv2
        iexact Hkept
      · isplitl [Hvo]; · iexact Hvo
        isplitl [Hv3]; · iexact Hv3
        isplitl [Hv4]; · iexact Hv4
        isplitl [Hv5]; · iexact Hv5
        isplitl [Hv9]; · iexact Hv9
        isplitl [Hv10]; · iexact Hv10
        iexact Hv11
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      iexact Hz12
  · iexact HO

/-- The blocks that a device writes of other devices' results, dealt out by the names that those have for them. -/
theorem deal_X : (bigSep Finset.univ fun c : Dev nD => out c (acrossX c) (m (oLoc c)))
    ⊢ (bigSep Finset.univ fun c : Dev nD => out (acrossX c) c (m (oLoc (acrossX c))) : sProp 𝕄) :=
  (along (Val := Elt F) acrossX fun c => out c (acrossX c) (m (oLoc c))).trans (Entails.of_eq (by simp only [twice_X]))
theorem hand_X : (bigSep Finset.univ fun c : Dev nD => out c (acrossX (swap c)) (m (oLoc c)))
    ⊢ (bigSep Finset.univ fun c : Dev nD => out (swap c) (acrossX c) (m (oLoc (swap c))) : sProp 𝕄) :=
  (along (Val := Elt F) swap fun c => out c (acrossX (swap c)) (m (oLoc c))).trans (Entails.of_eq (by simp only [swap_swap]))
theorem deal_Y : (bigSep Finset.univ fun c : Dev nD => out c (acrossY c) (m (oLoc c)))
    ⊢ (bigSep Finset.univ fun c : Dev nD => out (acrossY c) c (m (oLoc (acrossY c))) : sProp 𝕄) :=
  (along (Val := Elt F) acrossY fun c => out c (acrossY c) (m (oLoc c))).trans (Entails.of_eq (by simp only [twice_Y]))
theorem hand_Y : (bigSep Finset.univ fun c : Dev nD => out c (acrossY (swap c)) (m (oLoc c)))
    ⊢ (bigSep Finset.univ fun c : Dev nD => out (swap c) (acrossY c) (m (oLoc (swap c))) : sProp 𝕄) :=
  (along (Val := Elt F) swap fun c => out c (acrossY (swap c)) (m (oLoc c))).trans (Entails.of_eq (by simp only [swap_swap]))
theorem deal_XY : (bigSep Finset.univ fun c : Dev nD => out c (acrossXY c) (m (oLoc c)))
    ⊢ (bigSep Finset.univ fun c : Dev nD => out (acrossXY c) c (m (oLoc (acrossXY c))) : sProp 𝕄) :=
  (along (Val := Elt F) acrossXY fun c => out c (acrossXY c) (m (oLoc c))).trans (Entails.of_eq (by simp only [twice_XY]))
theorem hand_XY : (bigSep Finset.univ fun c : Dev nD => out c (acrossXY (swap c)) (m (oLoc c)))
    ⊢ (bigSep Finset.univ fun c : Dev nD => out (swap c) (acrossXY c) (m (oLoc (swap c))) : sProp 𝕄) :=
  (along (Val := Elt F) swap fun c => out c (acrossXY (swap c)) (m (oLoc c))).trans (Entails.of_eq (by simp only [swap_swap]))

theorem deal_bufs :
    (bigSep Finset.univ fun c : Dev nD => unscopedBufs c (fun b => m ((c.tc : Thread nD τ).loc b)))
      ⊢ (bigSep Finset.univ fun c : Dev nD => iprop(H m c ∗ BI.emp) : sProp 𝕄) := by
  have h₁ : (bigSep Finset.univ fun c : Dev nD => unscopedBufs c (fun b => m ((c.tc : Thread nD τ).loc b)))
      ⊢ (bigSep Finset.univ fun c : Dev nD => iprop(args m c ∗ outs c (m (oLoc c))) : sProp 𝕄) :=
    bigSep_mono fun c _ => by
      rw [bufs_list c _ [main_arg0, main_v1] (by decide) (by decide), ← args_eq, ← outs_eq]
      exact entails_refl (iprop((xLoc c ↦{fullShare} m (xLoc c)) ∗ (oLoc c ↦{fullShare} m (oLoc c))) : sProp 𝕄)
  have h₂ : (bigSep Finset.univ fun c : Dev nD => H m c) ⊢ (bigSep Finset.univ fun c : Dev nD => iprop(H m c ∗ BI.emp) : sProp 𝕄) :=
    bigSep_mono fun c _ => by
      refine (show H m c ⊢ _ from ?_)
      iintro HH
      isplitl; · iexact HH
      iempintro
  refine h₁.trans ((show (bigSep Finset.univ fun c : Dev nD => iprop(args m c ∗ outs c (m (oLoc c))) : sProp 𝕄) ⊢ (bigSep Finset.univ fun c : Dev nD => H m c : sProp 𝕄) from ?_).trans h₂)
  unfold H outs
  have e0 := bigSep_sep' (M := 𝕄) (Finset.univ : Finset (Dev nD)) (fun c => args m c) (fun c => iprop(own c (m (oLoc c)) ∗ out c (acrossX c) (m (oLoc c)) ∗ out c (acrossY c) (m (oLoc c)) ∗ out c (acrossXY c) (m (oLoc c)) ∗ out c (acrossX (swap c)) (m (oLoc c)) ∗ out c (acrossY (swap c)) (m (oLoc c)) ∗ out c (acrossXY (swap c)) (m (oLoc c))))
  have e1 := bigSep_sep' (M := 𝕄) (Finset.univ : Finset (Dev nD)) (fun c => own c (m (oLoc c))) (fun c => iprop(out c (acrossX c) (m (oLoc c)) ∗ out c (acrossY c) (m (oLoc c)) ∗ out c (acrossXY c) (m (oLoc c)) ∗ out c (acrossX (swap c)) (m (oLoc c)) ∗ out c (acrossY (swap c)) (m (oLoc c)) ∗ out c (acrossXY (swap c)) (m (oLoc c))))
  have e2 := bigSep_sep' (M := 𝕄) (Finset.univ : Finset (Dev nD)) (fun c => out c (acrossX c) (m (oLoc c))) (fun c => iprop(out c (acrossY c) (m (oLoc c)) ∗ out c (acrossXY c) (m (oLoc c)) ∗ out c (acrossX (swap c)) (m (oLoc c)) ∗ out c (acrossY (swap c)) (m (oLoc c)) ∗ out c (acrossXY (swap c)) (m (oLoc c))))
  have e3 := bigSep_sep' (M := 𝕄) (Finset.univ : Finset (Dev nD)) (fun c => out c (acrossY c) (m (oLoc c))) (fun c => iprop(out c (acrossXY c) (m (oLoc c)) ∗ out c (acrossX (swap c)) (m (oLoc c)) ∗ out c (acrossY (swap c)) (m (oLoc c)) ∗ out c (acrossXY (swap c)) (m (oLoc c))))
  have e4 := bigSep_sep' (M := 𝕄) (Finset.univ : Finset (Dev nD)) (fun c => out c (acrossXY c) (m (oLoc c))) (fun c => iprop(out c (acrossX (swap c)) (m (oLoc c)) ∗ out c (acrossY (swap c)) (m (oLoc c)) ∗ out c (acrossXY (swap c)) (m (oLoc c))))
  have e5 := bigSep_sep' (M := 𝕄) (Finset.univ : Finset (Dev nD)) (fun c => out c (acrossX (swap c)) (m (oLoc c))) (fun c => iprop(out c (acrossY (swap c)) (m (oLoc c)) ∗ out c (acrossXY (swap c)) (m (oLoc c))))
  have e6 := bigSep_sep' (M := 𝕄) (Finset.univ : Finset (Dev nD)) (fun c => out c (acrossY (swap c)) (m (oLoc c))) (fun c => iprop(out c (acrossXY (swap c)) (m (oLoc c))))
  rw [e0, e1, e2, e3, e4, e5, e6]
  iintro ⟨Ha, Hb, H1, H2, H3, P1, P2, P3⟩
  iapply (Entails.of_eq (bigSep_sep' (M := 𝕄) _ _ _).symm)
  isplitl [Ha]; · iexact Ha
  iapply (Entails.of_eq (bigSep_sep' (M := 𝕄) _ _ _).symm)
  isplitl [Hb]; · iexact Hb
  iapply (Entails.of_eq (bigSep_sep' (M := 𝕄) _ _ _).symm)
  isplitl [H1]; · iapply (deal_X m); iexact H1
  iapply (Entails.of_eq (bigSep_sep' (M := 𝕄) _ _ _).symm)
  isplitl [H2]; · iapply (deal_Y m); iexact H2
  iapply (Entails.of_eq (bigSep_sep' (M := 𝕄) _ _ _).symm)
  isplitl [H3]; · iapply (deal_XY m); iexact H3
  iapply (Entails.of_eq (bigSep_sep' (M := 𝕄) _ _ _).symm)
  isplitl [P1]; · iapply (hand_X m); iexact P1
  iapply (Entails.of_eq (bigSep_sep' (M := 𝕄) _ _ _).symm)
  isplitl [P2]; · iapply (hand_Y m); iexact P2
  iapply (hand_XY m); iexact P3

/-- The run: every device ends with its argument as it was and its result at `fin`, all counters zero. -/
theorem run_main (g : Dev nD → PrngReg) :
    θ_run (defs (F := F)) (onTc (τ := τ) (main (F := F))) ⟨m, fun _ => 0, g⟩ fun r =>
      (∀ c : Dev nD, r.2.mem (xLoc c) = m (xLoc c) ∧ r.2.mem (oLoc c) = fin m c) ∧ r.2.sem = fun _ => 0 := by
  have he : ∀ p : Fin 1, IsEmpty (Fin (cfgs p).W) := fun _ => inferInstanceAs (IsEmpty (Fin 0))
  exact run_talk (P := talk) (cfgs := cfgs) (he := he) cellOf_inj N_0 winFacts0 (by decide) (defs₀ (F := F)) 𝒱₀ (pay m) m g main (fun c => rfl)
    (H m) (fun _ => BI.emp) (Y m) (deal_bufs m) (fun c => scopedRest0_eq c) (fun c t => body m c)
    (fun c s => s.mem (xLoc c) = m (xLoc c) ∧ s.mem (oLoc c) = fin m c)
    (fun c s' => by
      have h := read_two (Val := Elt F) (xLoc c) (oLoc c) (m (xLoc c)) (fin m c) s'
      unfold Y
      iintro ⟨⟨HY, -⟩, HSI⟩
      imodintro
      iapply h
      isplitl [HY] <;> iassumption)
    (by decide)

end Contents

end Cert.GatherProof

end
-- ==== Proof.GatherClaims.lean ====
/-
The claims of the gathering: the frames, and that every device ends with the whole array. The reference is the array
itself: it runs no operation.
-/
module

public import proofs.«01_k».proof.Defs
public import proofs.«01_k».proof.Proof.Gather
public import proofs.«01_k».proof.Proof.Gen.Gather
public import proofs.«01_k».proof.Proof.Gen.GatherRef
public import proofs.«01_k».proof.Proof.Gen.GatherRefIdeal
public import Idealize.ShloMosaic.Lib.StableHlo.Run
public import Idealize.ShloMosaic.Lib.Pipeline.Value

@[expose] public section

set_option Elab.async false

noncomputable section

namespace Cert.GatherProof

open Idealize.ShloMosaic
open Idealize.ShloMosaic.TcCoe
open Idealize.SL.Sem
open Idealize.ShloMosaic.ValueIdx
open Idealize.ShloMosaic.StableHlo

/-- The reference's run: nothing happens. -/
theorem run_ref {F : FTy → Type} [FloatOps F] (m : (ℓ : Loc Cert.GatherRefIdeal.nD Cert.GatherRefIdeal.τ Cert.GatherRefIdeal.sig) → Buf (Elt F) ℓ)
    (ρ : Dev Cert.GatherRefIdeal.nD → PrngReg) :
    θ_run Cert.GatherRefIdeal.defs (onTc (τ := Cert.GatherRefIdeal.τ) (Cert.GatherRefIdeal.main (F := F))) ⟨m, fun _ => 0, ρ⟩ fun r =>
      ∀ c : Dev Cert.GatherRefIdeal.nD, r.2.mem ((c.tc : Thread Cert.GatherRefIdeal.nD Cert.GatherRefIdeal.τ).loc Cert.GatherRefIdeal.main_arg0)
        = m ((c.tc : Thread Cert.GatherRefIdeal.nD Cert.GatherRefIdeal.τ).loc Cert.GatherRefIdeal.main_arg0) :=
  (θ_run Cert.GatherRefIdeal.defs _ _).mono (fun _ h c => h c Cert.GatherRefIdeal.main_arg0)
    (run_seq (by decide) (by decide) Cert.GatherRefIdeal.defs Cert.GatherRefIdeal.main (fun _ => []) (fun _ => rfl) (fun _ => trivial) m ρ)

theorem frame_bits : Cert.quiescent_Gather := fun m g _ =>
  (θ_run Cert.GatherIdeal.defs _ _).mono (fun _ h => ⟨fun c => (h.1 c).1, h.2⟩) (run_main (F := Bits) m g)

theorem frame_ideal : Cert.quiescent_GatherIdeal := fun m g _ =>
  (θ_run Cert.GatherIdeal.defs _ _).mono (fun _ h => ⟨fun c => (h.1 c).1, h.2⟩) (run_main (F := Ideal) m g)

theorem frame_ref_bits : Cert.quiescent_GatherRef := fun m g _ =>
  (θ_run Cert.GatherRefIdeal.defs _ _).mono (fun r h => ⟨fun c => h c, sem_eq_zero_of_no_sems (by decide) r.2⟩)
    (run_ref (F := Bits) m g)

theorem frame_ref : Cert.quiescent_GatherRefIdeal := fun m g _ =>
  (θ_run Cert.GatherRefIdeal.defs _ _).mono (fun r h => ⟨fun c => h c, sem_eq_zero_of_no_sems (by decide) r.2⟩)
    (run_ref (F := Ideal) m g)

/-- Where an element of a device's argument is in the whole array. -/
theorem arg_idx (ht : Layout.TilesN ⟨2, ![26880, 512]⟩ ⟨2, ![107520, 512]⟩ fun b => Layout.cutSize [2, 2, 2] ((![[0, 1], []] : Fin 2 → List ℕ) b)) (d : Fin 8)
    (i : Cert.GatherIdeal.S107520x512.Idx) (hd : chip d = rowsOf i) :
    ht.idx (Layout.meshBlock [2, 2, 2] ![[0, 1], []] d) (ix2 (pos i) (i 1)) = i := by
  have hc : Layout.meshLin [2, 2, 2] d.val [0, 1] = (chip d).val := by clear hd; revert d; decide
  funext a
  match a with
  | ⟨0, _⟩ =>
    refine Fin.ext ?_
    show Layout.meshLin [2, 2, 2] d.val [0, 1] * 26880 + (i 0).val % 26880 = (i 0).val
    rw [hc, hd]
    show (i 0).val / 26880 * 26880 + (i 0).val % 26880 = (i 0).val
    omega
  | ⟨1, _⟩ =>
    refine Fin.ext ?_
    show 0 * 512 + (i 1).val = (i 1).val
    omega

theorem holder_chip (c b : Dev Cert.GatherIdeal.nD) : chip (holder c b) = chip b := by revert c b; decide

/-- A device's result is the whole array. -/
theorem fin_whole {α : Type} (X : Cert.GatherIdeal.S107520x512.Idx → α) (c : Fin 8) :
    (fun i : Cert.GatherIdeal.S107520x512.Idx =>
      (Layout.blockN ⟨2, ![26880, 512]⟩ ⟨2, ![107520, 512]⟩ (Layout.meshBlock [2, 2, 2] ![[0, 1], []] (holder c (block i))) X) (ix2 (pos i) (i 1))) = X := by
  funext i
  exact congrArg X (arg_idx (by decide) _ i ((holder_chip c (block i)).trans (chip_block i)))

/-- The value claim at any value type of floats. -/
theorem value {F : FTy → Type} [FloatOps F] (m : (ℓ : Loc Cert.GatherIdeal.nD Cert.GatherIdeal.τ Cert.GatherIdeal.sig) → Buf (Elt F) ℓ)
    (g : Dev Cert.GatherIdeal.nD → PrngReg)
    (m' : (ℓ : Loc Cert.GatherRefIdeal.nD Cert.GatherRefIdeal.τ Cert.GatherRefIdeal.sig) → Buf (Elt F) ℓ) (g' : Dev Cert.GatherRefIdeal.nD → PrngReg)
    (hm : ∀ c : Dev Cert.GatherIdeal.nD, m (xLoc c) = Layout.blockN ⟨2, ![26880, 512]⟩ ⟨2, ![107520, 512]⟩ (Layout.meshBlock [2, 2, 2] ![[0, 1], []] c)
      (m' (((0 : Dev Cert.GatherRefIdeal.nD).tc : Thread Cert.GatherRefIdeal.nD Cert.GatherRefIdeal.τ).loc Cert.GatherRefIdeal.main_arg0))) :
    ∃ v0 : Buf (Elt F) (((0 : Dev Cert.GatherRefIdeal.nD).tc : Thread Cert.GatherRefIdeal.nD Cert.GatherRefIdeal.τ).loc Cert.GatherRefIdeal.main_arg0),
      θ_run (Cert.GatherIdeal.defs (F := F)) (onTc (τ := Cert.GatherIdeal.τ) (Cert.GatherIdeal.main (F := F))) ⟨m, fun _ => 0, g⟩ (fun r =>
        ∀ c : Dev Cert.GatherIdeal.nD, r.2.mem (oLoc c) = v0 ∧ r.2.mem (xLoc c) = m (xLoc c))
      ∧ θ_run (Cert.GatherRefIdeal.defs (F := F)) (onTc (τ := Cert.GatherRefIdeal.τ) (Cert.GatherRefIdeal.main (F := F))) ⟨m', fun _ => 0, g'⟩ (fun r =>
          r.2.mem (((0 : Dev Cert.GatherRefIdeal.nD).tc : Thread Cert.GatherRefIdeal.nD Cert.GatherRefIdeal.τ).loc Cert.GatherRefIdeal.main_arg0) = v0
          ∧ r.2.mem (((0 : Dev Cert.GatherRefIdeal.nD).tc : Thread Cert.GatherRefIdeal.nD Cert.GatherRefIdeal.τ).loc Cert.GatherRefIdeal.main_arg0)
            = m' (((0 : Dev Cert.GatherRefIdeal.nD).tc : Thread Cert.GatherRefIdeal.nD Cert.GatherRefIdeal.τ).loc Cert.GatherRefIdeal.main_arg0)) := by
  refine ⟨m' (((0 : Dev Cert.GatherRefIdeal.nD).tc : Thread Cert.GatherRefIdeal.nD Cert.GatherRefIdeal.τ).loc Cert.GatherRefIdeal.main_arg0),
    (θ_run Cert.GatherIdeal.defs _ _).mono (fun r h c => ⟨(h.1 c).2.trans ?_, (h.1 c).1⟩) (run_main m g),
    (θ_run Cert.GatherRefIdeal.defs _ _).mono (fun _ h => ⟨h 0, h 0⟩) (run_ref m' g')⟩
  refine Eq.trans ?_ (fin_whole (m' (((0 : Dev Cert.GatherRefIdeal.nD).tc : Thread Cert.GatherRefIdeal.nD Cert.GatherRefIdeal.τ).loc Cert.GatherRefIdeal.main_arg0)
    : Cert.GatherIdeal.S107520x512.Idx → Elt F .bf16) c)
  funext i
  unfold fin arg
  exact congrFun (hm (holder c (block i))) _

theorem value_ideal : Cert.algebraic_GatherIdeal_GatherRefIdeal := fun m g m' g' _ hm => value (F := Ideal) m g m' g' hm

theorem value_bits : Cert.bitexact_Gather_GatherRef := fun m g m' g' _ hm => value (F := Bits) m g m' g' hm

end Cert.GatherProof

end
-- ==== Proof.SumsClaims.lean ====
/-
The two additions of the exchange of the gradients: of a chip's own part and the one that landed, and of the four chips'
parts. The kernel's run is read over the whole array, and compared with the reference's sum.
-/
module

public import proofs.«01_k».proof.Defs
public import proofs.«01_k».proof.Proof.Gen.Add.Frame
public import proofs.«01_k».proof.Proof.Gen.AddIdeal.Value
public import proofs.«01_k».proof.Proof.Gen.AddRef
public import proofs.«01_k».proof.Proof.Gen.AddRefIdeal.Run
public import proofs.«01_k».proof.Proof.Gen.Sum.Frame
public import proofs.«01_k».proof.Proof.Gen.SumIdeal.Value
public import proofs.«01_k».proof.Proof.Gen.SumRefIdeal.Run
public import Idealize.ShloMosaic.Lib.IdealHost
public import Idealize.ShloMosaic.Lib.Pointwise.Reduce

@[expose] public section

set_option Elab.async false

noncomputable section

open Idealize.ShloMosaic
open Idealize.ShloMosaic.TcCoe
open Idealize.SL.Sem

namespace Cert.AddProof

theorem frame_bits : Cert.quiescent_Add := fun m g _ => Cert.Add.Gen.frame m g

theorem frame_ideal : Cert.quiescent_AddIdeal := fun m g _ => Cert.AddIdeal.Gen.frame m g

theorem frame_ref_bits : Cert.quiescent_AddRef := fun m g _ =>
  (θ_run Cert.AddRefIdeal.defs _ _).mono (fun r h => ⟨fun c => (h c).2, sem_eq_zero_of_no_sems (by decide) r.2⟩)
    (Cert.AddRefIdeal.Value.run (F := Bits) m g)

theorem frame_ref : Cert.quiescent_AddRefIdeal := fun m g _ =>
  (θ_run Cert.AddRefIdeal.defs _ _).mono (fun r h => ⟨fun c => (h c).2, sem_eq_zero_of_no_sems (by decide) r.2⟩)
    (Cert.AddRefIdeal.Value.run (F := Ideal) m g)

/-- Two arrays added whole are added at every index. -/
theorem add_eq {F : FTy → Type} [FloatOps F] {s : Shape} {x y x' y' : FVec F s .f32} (hx : x' = x) (hy : y' = y) :
    addf x' y' = fun i => FloatOps.addf (x i) (y i) := by
  subst hx hy; rfl

/-- The value claim at any value type of floats. -/
theorem value {F : FTy → Type} [FloatOps F] (m : (ℓ : Loc Cert.AddIdeal.nD Cert.AddIdeal.τ Cert.AddIdeal.sig) → Buf (Elt F) ℓ)
    (g : Dev Cert.AddIdeal.nD → PrngReg)
    (m' : (ℓ : Loc Cert.AddRefIdeal.nD Cert.AddRefIdeal.τ Cert.AddRefIdeal.sig) → Buf (Elt F) ℓ) (g' : Dev Cert.AddRefIdeal.nD → PrngReg)
    (hm : ∀ c : Dev Cert.AddIdeal.nD,
      m' ((c.tc : Thread Cert.AddRefIdeal.nD Cert.AddRefIdeal.τ).loc Cert.AddRefIdeal.main_arg0)
        = m ((c.tc : Thread Cert.AddIdeal.nD Cert.AddIdeal.τ).loc Cert.AddIdeal.main_arg0)
      ∧ m' ((c.tc : Thread Cert.AddRefIdeal.nD Cert.AddRefIdeal.τ).loc Cert.AddRefIdeal.main_arg1)
        = m ((c.tc : Thread Cert.AddIdeal.nD Cert.AddIdeal.τ).loc Cert.AddIdeal.main_arg1)) :
    ∃ v0 : (c : Dev Cert.AddIdeal.nD) → Buf (Elt F) ((c.tc : Thread Cert.AddIdeal.nD Cert.AddIdeal.τ).loc Cert.AddIdeal.main_v0),
      θ_run (Cert.AddIdeal.defs (F := F)) (onTc (τ := Cert.AddIdeal.τ) (Cert.AddIdeal.main (F := F))) ⟨m, fun _ => 0, g⟩ (fun r =>
        ∀ c : Dev Cert.AddIdeal.nD,
          r.2.mem ((c.tc : Thread Cert.AddIdeal.nD Cert.AddIdeal.τ).loc Cert.AddIdeal.main_v0) = v0 c
          ∧ r.2.mem ((c.tc : Thread Cert.AddIdeal.nD Cert.AddIdeal.τ).loc Cert.AddIdeal.main_arg0)
            = m ((c.tc : Thread Cert.AddIdeal.nD Cert.AddIdeal.τ).loc Cert.AddIdeal.main_arg0)
          ∧ r.2.mem ((c.tc : Thread Cert.AddIdeal.nD Cert.AddIdeal.τ).loc Cert.AddIdeal.main_arg1)
            = m ((c.tc : Thread Cert.AddIdeal.nD Cert.AddIdeal.τ).loc Cert.AddIdeal.main_arg1))
      ∧ θ_run (Cert.AddRefIdeal.defs (F := F)) (onTc (τ := Cert.AddRefIdeal.τ) (Cert.AddRefIdeal.main (F := F))) ⟨m', fun _ => 0, g'⟩ (fun r =>
        ∀ c : Dev Cert.AddRefIdeal.nD,
          r.2.mem ((c.tc : Thread Cert.AddRefIdeal.nD Cert.AddRefIdeal.τ).loc Cert.AddRefIdeal.main_v0) = v0 c
          ∧ r.2.mem ((c.tc : Thread Cert.AddRefIdeal.nD Cert.AddRefIdeal.τ).loc Cert.AddRefIdeal.main_arg0)
            = m' ((c.tc : Thread Cert.AddRefIdeal.nD Cert.AddRefIdeal.τ).loc Cert.AddRefIdeal.main_arg0)
          ∧ r.2.mem ((c.tc : Thread Cert.AddRefIdeal.nD Cert.AddRefIdeal.τ).loc Cert.AddRefIdeal.main_arg1)
            = m' ((c.tc : Thread Cert.AddRefIdeal.nD Cert.AddRefIdeal.τ).loc Cert.AddRefIdeal.main_arg1)) :=
  ⟨_, Cert.AddIdeal.Value.run m g,
    (θ_run Cert.AddRefIdeal.defs _ _).mono (fun _ h c => ⟨(h c).1.trans (add_eq (hm c).1 (hm c).2), (h c).2⟩)
      (Cert.AddRefIdeal.Value.run m' g')⟩

theorem value_ideal : Cert.algebraic_AddIdeal_AddRefIdeal := fun m g m' g' _ hm => value (F := Ideal) m g m' g' hm

/-- The kernel's body table is the idealized kernel's, at the same value type. -/
theorem defs₀_eq : Cert.Add.defs₀ (F := Bits) = Cert.AddIdeal.defs₀ (F := Bits) :=
  congrArg Defs.onTc (funext fun l => match l with
    | 0 => funext fun _ => rfl
    | ⟨_ + 1, h⟩ => absurd h (Nat.not_lt.2 (Nat.le_add_left _ _)))

theorem defs_eq : Cert.Add.defs (F := Bits) = Cert.AddIdeal.defs (F := Bits) :=
  congrArg (Pipeline.defs (Cert.AddIdeal.pcfgs (F := Bits))) defs₀_eq

theorem value_bits : Cert.bitexact_Add_AddRef := fun m g m' g' _ hm => by
  have h := value (F := Bits) m g m' g' hm
  rw [← defs_eq] at h
  exact h

end Cert.AddProof

namespace Cert.SumProof

open Cert.SumIdeal Cert.SumIdeal.Gen Cert.SumIdeal.Value

theorem frame_bits : Cert.quiescent_Sum := fun m g _ => Cert.Sum.Gen.frame m g

theorem frame_ideal : Cert.quiescent_SumIdeal := fun m g _ => Cert.SumIdeal.Gen.frame m g

theorem frame_ref : Cert.quiescent_SumRefIdeal := fun m g _ =>
  (θ_run Cert.SumRefIdeal.defs _ _).mono (fun r h => ⟨fun c => (h c).2, sem_eq_zero_of_no_sems (by decide) r.2⟩)
    (Cert.SumRefIdeal.Value.run m g)

variable (m : (ℓ : Loc nD τ sig) → Buf (Elt Ideal) ℓ)

/-- The index of chip `k`'s part under an index of the sum. -/
def at_ (k : Fin 4) (i : S13440x512.Idx) : S4x13440x512.Idx :=
  fun a => match a with | ⟨0, _⟩ => k | ⟨1, _⟩ => ⟨(i 0).val, (i 0).isLt⟩ | ⟨2, _⟩ => ⟨(i 1).val, (i 1).isLt⟩

/-- The four parts added from the first to the last. -/
abbrev total (x : FVec Ideal S4x13440x512 .f32) : FVec Ideal S13440x512 .f32 := fun i =>
  FloatOps.addf (FloatOps.addf (FloatOps.addf (x (at_ 0 i)) (x (at_ 1 i))) (x (at_ 2 i))) (x (at_ 3 i))

/-- Point `t` reads all four parts of the rows that it writes, and writes block `t`. -/
theorem rows : ∀ t : Fin cfg0.N, win0_0.index t (0 : Fin 3) = 0 ∧ win0_0.index t (1 : Fin 3) = win0_1.index t (0 : Fin 2)
    ∧ win0_0.index t (2 : Fin 3) = 0 ∧ win0_1.index t (1 : Fin 2) = 0 ∧ win0_1.index t (0 : Fin 2) = t.val :=
  (by decide +kernel : ∀ t : Fin grid0.N, _)

/-- Where the block that point `t` reads has part `k` of row `j` of the block that it writes. -/
theorem place (t : Fin cfg0.N) (j : S128x512.Idx) (k : Fin 4) (y : S4x128x512.Idx) (h0 : (y 0).val = k.val) (h1 : (y 1).val = (j 0).val)
    (h2 : (y 2).val = (j 1).val) : ((cfg0.win 0).blk t).view.emb y = at_ k (((cfg0.win 1).blk t).view.emb j) := by
  obtain ⟨e0, e1, e2, e3, e4⟩ := rows t
  funext a; apply Fin.ext
  match a with
  | ⟨0, _⟩ => show win0_0.index t (0 : Fin 3) * 4 + 1 * (y 0).val = k.val; omega
  | ⟨1, _⟩ => show win0_0.index t (1 : Fin 3) * 128 + 1 * (y 1).val = win0_1.index t (0 : Fin 2) * 128 + 1 * (j 0).val; omega
  | ⟨2, _⟩ => show win0_0.index t (2 : Fin 3) * 512 + 1 * (y 2).val = win0_1.index t (1 : Fin 2) * 512 + 1 * (j 1).val; omega

/-- What point `t` writes back is block `t` of the sum of the four parts. -/
theorem flushed (c : Dev nD) (t : Fin cfg0.N) :
    (dats m 0 c).flushed 1 t = ((cfg0.win 1).blk t).view.read (Elt Ideal) (total (V m c main_arg0)) := by
  rw [flushed1]
  unfold out0_1
  funext j
  refine (canon1_eq (View.ld (iblk m c 0 t) r0_0) (View.ld (iblk m c 0 t) r0_1) (View.ld (iblk m c 0 t) r0_2)
    (View.ld (iblk m c 0 t) r0_3) j).trans ?_
  have h : ∀ (k : Fin 4) (y : S4x128x512.Idx), (y 0).val = k.val → (y 1).val = (j 0).val → (y 2).val = (j 1).val →
      iblk m c 0 t y = V m c main_arg0 (at_ k (((cfg0.win 1).blk t).view.emb j)) :=
    fun k y h0 h1 h2 => congrArg (V m c main_arg0) (place t j k y h0 h1 h2)
  show FloatOps.addf (F := Ideal) (φ := .f32) (FloatOps.addf (F := Ideal) (φ := .f32) (FloatOps.addf (F := Ideal) (φ := .f32)
      (iblk m c 0 t (r0_0.idx (ix1_0 j))) (iblk m c 0 t (r0_1.idx (ix1_1 j)))) (iblk m c 0 t (r0_2.idx (ix1_2 j))))
      (iblk m c 0 t (r0_3.idx (ix1_3 j))) = total (V m c main_arg0) (((cfg0.win 1).blk t).view.emb j)
  rw [h 0 (r0_0.idx (ix1_0 j)) rfl (by show 0 + 1 * (j 0).val = _; omega) (by show 0 + 1 * (j 1).val = _; omega)]
  rw [h 1 (r0_1.idx (ix1_1 j)) rfl (by show 0 + 1 * (j 0).val = _; omega) (by show 0 + 1 * (j 1).val = _; omega)]
  rw [h 2 (r0_2.idx (ix1_2 j)) rfl (by show 0 + 1 * (j 0).val = _; omega) (by show 0 + 1 * (j 1).val = _; omega)]
  rw [h 3 (r0_3.idx (ix1_3 j)) rfl (by show 0 + 1 * (j 0).val = _; omega) (by show 0 + 1 * (j 1).val = _; omega)]

/-- Every index of the sum is in the block of the point of its rows. -/
theorem covered (i : S13440x512.Idx) : ∃ t : Fin cfg0.N, (cfg0.win 1).flush t = true ∧ i ∈ ((cfg0.win 1).blk t).view.set := by
  have hi0 : (i 0).val < 13440 := (i 0).isLt
  have hi1 : (i 1).val < 512 := (i 1).isLt
  have hN : cfg0.N = 105 := by decide
  let t : Fin cfg0.N := ⟨(i 0).val / 128, by omega⟩
  obtain ⟨e0, e1, e2, e3, e4⟩ := rows t
  have e4' : win0_1.index t (0 : Fin 2) = (i 0).val / 128 := e4
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 512 ≤ (i 1).val ∧ (i 1).val < win0_1.index t (1 : Fin 2) * 512 + 512; omega

/-- After the run the whole array is the sum of the four parts. -/
theorem final (c : Dev nD) : (dats m 0 c).arrAt 1 cfg0.N = total (m ((c : Thread nD τ).loc main_arg0)) :=
  (dats m 0 c).arrAt_eq_of_cover 1 _ (fun t _ => flushed m c t) covered

/-- The reference's sum over the chips is the four parts added from the first to the last. -/
theorem reduce_eq (h : (⟨3, ![4, 13440, 512]⟩ : Shape).ReducesTo [0] ⟨2, ![13440, 512]⟩) (hu : 0 < (⟨0, ![]⟩ : Shape).numel)
    {x x' : FVec Ideal ⟨3, ![4, 13440, 512]⟩ .f32} (hx : x' = x) :
    Host.reduceAdd x' (constant (F := Ideal) ⟨0, ![]⟩ .f32 0x00000000#32) h hu = total x := by
  subst hx
  funext i
  rw [ValueIdx.hostReduceAdd_apply, Ideal.hostReduceAdd_r3_a0, Fin.sum_univ_four]
  have hz : (constant (F := Ideal) ⟨0, ![]⟩ .f32 0x00000000#32) (Shape.Idx.first hu) = (0 : EReal) := by
    show Ideal.ofBits .f32 0x00000000#32 = 0
    simp [Ideal.ofBits, Ideal.ieee]
  rw [hz, zero_add]
  have hi : ∀ k : Fin 4, ValueIdx.ix3 k ⟨(i 0).val, (i 0).isLt⟩ ⟨(i 1).val, (i 1).isLt⟩ = at_ k i := fun k => by
    funext a
    match a with
    | ⟨0, _⟩ => rfl
    | ⟨1, _⟩ => rfl
    | ⟨2, _⟩ => rfl
  show _ = x' (at_ 0 i) + x' (at_ 1 i) + x' (at_ 2 i) + x' (at_ 3 i)
  rw [← hi 0, ← hi 1, ← hi 2, ← hi 3]; rfl

theorem value : Cert.algebraic_SumIdeal_SumRefIdeal := fun m g m' g' _ hm =>
  ⟨_, (θ_run Cert.SumIdeal.defs _ _).mono (fun _ h c => ⟨(h c).1.trans (final m c), (h c).2⟩) (run_blocks m g),
    (θ_run Cert.SumRefIdeal.defs _ _).mono (fun _ h c => ⟨(h c).1.trans (reduce_eq _ _ (hm c)), (h c).2⟩)
      (Cert.SumRefIdeal.Value.run m' g')⟩

end Cert.SumProof

end
-- ==== Proof.AdamWClaims.lean ====
/-
The update of the weights: the generated runs of the kernel's call and of the reference, put side by side. The three
lemmas at the top hold at every shape, and each call uses them.
-/
module

public import proofs.«01_k».proof.Defs
public import proofs.«01_k».proof.Proof.Gen.AdamWNorm.Frame
public import proofs.«01_k».proof.Proof.Gen.AdamWNormIdeal.Value
public import proofs.«01_k».proof.Proof.Gen.AdamWNormRefIdeal.Run
public import proofs.«01_k».proof.Proof.Gen.AdamWFinal.Frame
public import proofs.«01_k».proof.Proof.Gen.AdamWFinalIdeal.Value
public import proofs.«01_k».proof.Proof.Gen.AdamWFinalRefIdeal.Run
public import proofs.«01_k».proof.Proof.Gen.AdamWChannel.Frame
public import proofs.«01_k».proof.Proof.Gen.AdamWChannelIdeal.Value
public import proofs.«01_k».proof.Proof.Gen.AdamWChannelRefIdeal.Run
public import proofs.«01_k».proof.Proof.Gen.AdamWConvA.Frame
public import proofs.«01_k».proof.Proof.Gen.AdamWConvAIdeal.Value
public import proofs.«01_k».proof.Proof.Gen.AdamWConvARefIdeal.Run
public import proofs.«01_k».proof.Proof.Gen.AdamWConvB.Frame
public import proofs.«01_k».proof.Proof.Gen.AdamWConvBIdeal.Value
public import proofs.«01_k».proof.Proof.Gen.AdamWConvBRefIdeal.Run
public import proofs.«01_k».proof.Proof.Gen.AdamWGate.Frame
public import proofs.«01_k».proof.Proof.Gen.AdamWGateIdeal.Value
public import proofs.«01_k».proof.Proof.Gen.AdamWGateRefIdeal.Run
public import proofs.«01_k».proof.Proof.Gen.AdamWIn.Frame
public import proofs.«01_k».proof.Proof.Gen.AdamWInIdeal.Value
public import proofs.«01_k».proof.Proof.Gen.AdamWInRefIdeal.Run
public import proofs.«01_k».proof.Proof.Gen.AdamWOut.Frame
public import proofs.«01_k».proof.Proof.Gen.AdamWOutIdeal.Value
public import proofs.«01_k».proof.Proof.Gen.AdamWOutRefIdeal.Run
public import proofs.«01_k».proof.Proof.Gen.AdamWQkv.Frame
public import proofs.«01_k».proof.Proof.Gen.AdamWQkvIdeal.Value
public import proofs.«01_k».proof.Proof.Gen.AdamWQkvRefIdeal.Run
public import proofs.«01_k».proof.Proof.Gen.AdamWMlp.Frame
public import proofs.«01_k».proof.Proof.Gen.AdamWMlpIdeal.Value
public import proofs.«01_k».proof.Proof.Gen.AdamWMlpRefIdeal.Run
public import proofs.«01_k».proof.Proof.Gen.AdamWProj.Frame
public import proofs.«01_k».proof.Proof.Gen.AdamWProjIdeal.Value
public import proofs.«01_k».proof.Proof.Gen.AdamWProjRefIdeal.Run
public import proofs.«01_k».proof.Proof.Gen.AdamWPle.Frame
public import proofs.«01_k».proof.Proof.Gen.AdamWPleIdeal.Value
public import proofs.«01_k».proof.Proof.Gen.AdamWPleRefIdeal.Run

@[expose] public section

set_option Elab.async false

noncomputable section

open Idealize.ShloMosaic
open Idealize.ShloMosaic.TcCoe
open Idealize.SL.Sem

namespace Cert.AdamWProof

/-- An array with one value at every index, as the host makes it out of a scalar literal. -/
abbrev full (s : Shape) (b : BitVec 32) (h : (⟨0, ![]⟩ : Shape).BroadcastsInDim s ![]) : FVec Ideal s .f32 :=
  broadcastInDim s ![] h (constant (F := Ideal) ⟨0, ![]⟩ .f32 b)

/-- The first moment, computed over whole arrays, is the call's value at every index. -/
theorem first {s : Shape} (h : (⟨0, ![]⟩ : Shape).BroadcastsInDim s ![]) {g m g' m' : FVec Ideal s .f32} (hg : g' = g) (hm : m' = m) :
    addf (mulf (full s 0x3F666666#32 h) m') (mulf (full s 0x3DCCCCCD#32 h) g')
      = fun i => FloatOps.addf (FloatOps.mulf (Scalar.ofBits .f32 0x3F666666#32) (m i)) (FloatOps.mulf (Scalar.ofBits .f32 0x3DCCCCCD#32) (g i)) := by
  subst hg hm; rfl

/-- The second moment, computed over whole arrays, is the call's value at every index. -/
theorem second {s : Shape} (h : (⟨0, ![]⟩ : Shape).BroadcastsInDim s ![]) {g v g' v' : FVec Ideal s .f32} (hg : g' = g) (hv : v' = v) :
    addf (mulf (full s 0x3F7FBE77#32 h) v') (mulf (full s 0x3A83126F#32 h) (mulf g' g'))
      = fun i => FloatOps.addf (FloatOps.mulf (Scalar.ofBits .f32 0x3F7FBE77#32) (v i))
          (FloatOps.mulf (Scalar.ofBits .f32 0x3A83126F#32) (FloatOps.mulf (g i) (g i))) := by
  subst hg hv; rfl

/-- The step, computed over whole arrays with the host's quotient and root, is the call's value at every index, with the
kernel's quotient and root: over the extended reals these are the same functions. -/
theorem step {s : Shape} (h : (⟨0, ![]⟩ : Shape).BroadcastsInDim s ![]) {w g m v w' g' m' v' : FVec Ideal s .f32}
    (hw : w' = w) (hg : g' = g) (hm : m' = m) (hv : v' = v) :
    mulf (full s 0xBA83126F#32 h)
        (addf (Host.divf (Host.divf (addf (mulf (full s 0x3F666666#32 h) m') (mulf (full s 0x3DCCCCCD#32 h) g')) (full s 0x3F26BD02#32 h))
            (addf (Host.sqrt (Host.divf (addf (mulf (full s 0x3F7FBE77#32 h) v') (mulf (full s 0x3A83126F#32 h) (mulf g' g')))
              (full s 0x3C231ACC#32 h))) (full s 0x322BCC77#32 h)))
          (mulf (full s 0x3C23D70A#32 h) w'))
      = fun i => FloatOps.mulf (Scalar.ofBits .f32 0xBA83126F#32)
          (FloatOps.addf (FloatOps.divf (FloatOps.divf (FloatOps.addf (FloatOps.mulf (Scalar.ofBits .f32 0x3F666666#32) (m i))
                (FloatOps.mulf (Scalar.ofBits .f32 0x3DCCCCCD#32) (g i))) (Scalar.ofBits .f32 0x3F26BD02#32))
              (FloatOps.addf (FloatOps.sqrt (FloatOps.divf (FloatOps.addf (FloatOps.mulf (Scalar.ofBits .f32 0x3F7FBE77#32) (v i))
                (FloatOps.mulf (Scalar.ofBits .f32 0x3A83126F#32) (FloatOps.mulf (g i) (g i)))) (Scalar.ofBits .f32 0x3C231ACC#32)))
                (Scalar.ofBits .f32 0x322BCC77#32)))
            (FloatOps.mulf (Scalar.ofBits .f32 0x3C23D70A#32) (w i))) := by
  subst hw hg hm hv; rfl

end Cert.AdamWProof

/-! ### The norm weights -/

namespace Cert.AdamWNormProof

open Cert.AdamWProof

theorem frame_bits : Cert.quiescent_AdamWNorm := fun m g _ => Cert.AdamWNorm.Gen.frame m g

theorem frame_ideal : Cert.quiescent_AdamWNormIdeal := fun m g _ => Cert.AdamWNormIdeal.Gen.frame m g

theorem frame_ref : Cert.quiescent_AdamWNormRefIdeal := fun m g _ =>
  (θ_run Cert.AdamWNormRefIdeal.defs _ _).mono (fun r h => ⟨fun c => (h c).2.2.2, sem_eq_zero_of_no_sems (by decide) r.2⟩)
    (Cert.AdamWNormRefIdeal.Value.run m g)

theorem value : Cert.algebraic_AdamWNormIdeal_AdamWNormRefIdeal := fun m g m' g' _ hm =>
  ⟨_, _, _, Cert.AdamWNormIdeal.Value.run m g,
    (θ_run Cert.AdamWNormRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWNormRefIdeal.Value.run m' g')⟩

end Cert.AdamWNormProof

/-! ### The final norm weight -/

namespace Cert.AdamWFinalProof

open Cert.AdamWProof

theorem frame_bits : Cert.quiescent_AdamWFinal := fun m g _ => Cert.AdamWFinal.Gen.frame m g

theorem frame_ideal : Cert.quiescent_AdamWFinalIdeal := fun m g _ => Cert.AdamWFinalIdeal.Gen.frame m g

theorem frame_ref : Cert.quiescent_AdamWFinalRefIdeal := fun m g _ =>
  (θ_run Cert.AdamWFinalRefIdeal.defs _ _).mono (fun r h => ⟨fun c => (h c).2.2.2, sem_eq_zero_of_no_sems (by decide) r.2⟩)
    (Cert.AdamWFinalRefIdeal.Value.run m g)

theorem value : Cert.algebraic_AdamWFinalIdeal_AdamWFinalRefIdeal := fun m g m' g' _ hm =>
  ⟨_, _, _, Cert.AdamWFinalIdeal.Value.run m g,
    (θ_run Cert.AdamWFinalRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWFinalRefIdeal.Value.run m' g')⟩

end Cert.AdamWFinalProof

/-! ### The per-channel vectors of the gates -/

namespace Cert.AdamWChannelProof

open Cert.AdamWProof

theorem frame_bits : Cert.quiescent_AdamWChannel := fun m g _ => Cert.AdamWChannel.Gen.frame m g

theorem frame_ideal : Cert.quiescent_AdamWChannelIdeal := fun m g _ => Cert.AdamWChannelIdeal.Gen.frame m g

theorem frame_ref : Cert.quiescent_AdamWChannelRefIdeal := fun m g _ =>
  (θ_run Cert.AdamWChannelRefIdeal.defs _ _).mono (fun r h => ⟨fun c => (h c).2.2.2, sem_eq_zero_of_no_sems (by decide) r.2⟩)
    (Cert.AdamWChannelRefIdeal.Value.run m g)

theorem value : Cert.algebraic_AdamWChannelIdeal_AdamWChannelRefIdeal := fun m g m' g' _ hm =>
  ⟨_, _, _, Cert.AdamWChannelIdeal.Value.run m g,
    (θ_run Cert.AdamWChannelRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWChannelRefIdeal.Value.run m' g')⟩

end Cert.AdamWChannelProof

/-! ### The first convolution's weights -/

namespace Cert.AdamWConvAProof

open Cert.AdamWProof

theorem frame_bits : Cert.quiescent_AdamWConvA := fun m g _ => Cert.AdamWConvA.Gen.frame m g

theorem frame_ideal : Cert.quiescent_AdamWConvAIdeal := fun m g _ => Cert.AdamWConvAIdeal.Gen.frame m g

theorem frame_ref : Cert.quiescent_AdamWConvARefIdeal := fun m g _ =>
  (θ_run Cert.AdamWConvARefIdeal.defs _ _).mono (fun r h => ⟨fun c => (h c).2.2.2, sem_eq_zero_of_no_sems (by decide) r.2⟩)
    (Cert.AdamWConvARefIdeal.Value.run m g)

theorem value : Cert.algebraic_AdamWConvAIdeal_AdamWConvARefIdeal := fun m g m' g' _ hm =>
  ⟨_, _, _, Cert.AdamWConvAIdeal.Value.run m g,
    (θ_run Cert.AdamWConvARefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWConvARefIdeal.Value.run m' g')⟩

end Cert.AdamWConvAProof

/-! ### The second convolution's weights -/

namespace Cert.AdamWConvBProof

open Cert.AdamWProof

theorem frame_bits : Cert.quiescent_AdamWConvB := fun m g _ => Cert.AdamWConvB.Gen.frame m g

theorem frame_ideal : Cert.quiescent_AdamWConvBIdeal := fun m g _ => Cert.AdamWConvBIdeal.Gen.frame m g

theorem frame_ref : Cert.quiescent_AdamWConvBRefIdeal := fun m g _ =>
  (θ_run Cert.AdamWConvBRefIdeal.defs _ _).mono (fun r h => ⟨fun c => (h c).2.2.2, sem_eq_zero_of_no_sems (by decide) r.2⟩)
    (Cert.AdamWConvBRefIdeal.Value.run m g)

theorem value : Cert.algebraic_AdamWConvBIdeal_AdamWConvBRefIdeal := fun m g m' g' _ hm =>
  ⟨_, _, _, Cert.AdamWConvBIdeal.Value.run m g,
    (θ_run Cert.AdamWConvBRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWConvBRefIdeal.Value.run m' g')⟩

end Cert.AdamWConvBProof

/-! ### The gate projections -/

namespace Cert.AdamWGateProof

open Cert.AdamWProof

theorem frame_bits : Cert.quiescent_AdamWGate := fun m g _ => Cert.AdamWGate.Gen.frame m g

theorem frame_ideal : Cert.quiescent_AdamWGateIdeal := fun m g _ => Cert.AdamWGateIdeal.Gen.frame m g

theorem frame_ref : Cert.quiescent_AdamWGateRefIdeal := fun m g _ =>
  (θ_run Cert.AdamWGateRefIdeal.defs _ _).mono (fun r h => ⟨fun c => (h c).2.2.2, sem_eq_zero_of_no_sems (by decide) r.2⟩)
    (Cert.AdamWGateRefIdeal.Value.run m g)

theorem value : Cert.algebraic_AdamWGateIdeal_AdamWGateRefIdeal := fun m g m' g' _ hm =>
  ⟨_, _, _, Cert.AdamWGateIdeal.Value.run m g,
    (θ_run Cert.AdamWGateRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWGateRefIdeal.Value.run m' g')⟩

end Cert.AdamWGateProof

/-! ### The input projections -/

namespace Cert.AdamWInProof

open Cert.AdamWProof

theorem frame_bits : Cert.quiescent_AdamWIn := fun m g _ => Cert.AdamWIn.Gen.frame m g

theorem frame_ideal : Cert.quiescent_AdamWInIdeal := fun m g _ => Cert.AdamWInIdeal.Gen.frame m g

theorem frame_ref : Cert.quiescent_AdamWInRefIdeal := fun m g _ =>
  (θ_run Cert.AdamWInRefIdeal.defs _ _).mono (fun r h => ⟨fun c => (h c).2.2.2, sem_eq_zero_of_no_sems (by decide) r.2⟩)
    (Cert.AdamWInRefIdeal.Value.run m g)

theorem value : Cert.algebraic_AdamWInIdeal_AdamWInRefIdeal := fun m g m' g' _ hm =>
  ⟨_, _, _, Cert.AdamWInIdeal.Value.run m g,
    (θ_run Cert.AdamWInRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWInRefIdeal.Value.run m' g')⟩

end Cert.AdamWInProof

/-! ### The output projections -/

namespace Cert.AdamWOutProof

open Cert.AdamWProof

theorem frame_bits : Cert.quiescent_AdamWOut := fun m g _ => Cert.AdamWOut.Gen.frame m g

theorem frame_ideal : Cert.quiescent_AdamWOutIdeal := fun m g _ => Cert.AdamWOutIdeal.Gen.frame m g

theorem frame_ref : Cert.quiescent_AdamWOutRefIdeal := fun m g _ =>
  (θ_run Cert.AdamWOutRefIdeal.defs _ _).mono (fun r h => ⟨fun c => (h c).2.2.2, sem_eq_zero_of_no_sems (by decide) r.2⟩)
    (Cert.AdamWOutRefIdeal.Value.run m g)

theorem value : Cert.algebraic_AdamWOutIdeal_AdamWOutRefIdeal := fun m g m' g' _ hm =>
  ⟨_, _, _, Cert.AdamWOutIdeal.Value.run m g,
    (θ_run Cert.AdamWOutRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWOutRefIdeal.Value.run m' g')⟩

end Cert.AdamWOutProof

/-! ### The projections to queries, keys and values -/

namespace Cert.AdamWQkvProof

open Cert.AdamWProof

theorem frame_bits : Cert.quiescent_AdamWQkv := fun m g _ => Cert.AdamWQkv.Gen.frame m g

theorem frame_ideal : Cert.quiescent_AdamWQkvIdeal := fun m g _ => Cert.AdamWQkvIdeal.Gen.frame m g

theorem frame_ref : Cert.quiescent_AdamWQkvRefIdeal := fun m g _ =>
  (θ_run Cert.AdamWQkvRefIdeal.defs _ _).mono (fun r h => ⟨fun c => (h c).2.2.2, sem_eq_zero_of_no_sems (by decide) r.2⟩)
    (Cert.AdamWQkvRefIdeal.Value.run m g)

theorem value : Cert.algebraic_AdamWQkvIdeal_AdamWQkvRefIdeal := fun m g m' g' _ hm =>
  ⟨_, _, _, Cert.AdamWQkvIdeal.Value.run m g,
    (θ_run Cert.AdamWQkvRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWQkvRefIdeal.Value.run m' g')⟩

end Cert.AdamWQkvProof

/-! ### The multilayer perceptron's matrices -/

namespace Cert.AdamWMlpProof

open Cert.AdamWProof

theorem frame_bits : Cert.quiescent_AdamWMlp := fun m g _ => Cert.AdamWMlp.Gen.frame m g

theorem frame_ideal : Cert.quiescent_AdamWMlpIdeal := fun m g _ => Cert.AdamWMlpIdeal.Gen.frame m g

theorem frame_ref : Cert.quiescent_AdamWMlpRefIdeal := fun m g _ =>
  (θ_run Cert.AdamWMlpRefIdeal.defs _ _).mono (fun r h => ⟨fun c => (h c).2.2.2, sem_eq_zero_of_no_sems (by decide) r.2⟩)
    (Cert.AdamWMlpRefIdeal.Value.run m g)

theorem value : Cert.algebraic_AdamWMlpIdeal_AdamWMlpRefIdeal := fun m g m' g' _ hm =>
  ⟨_, _, _, Cert.AdamWMlpIdeal.Value.run m g,
    (θ_run Cert.AdamWMlpRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWMlpRefIdeal.Value.run m' g')⟩

end Cert.AdamWMlpProof

/-! ### The per-layer projections -/

namespace Cert.AdamWProjProof

open Cert.AdamWProof

theorem frame_bits : Cert.quiescent_AdamWProj := fun m g _ => Cert.AdamWProj.Gen.frame m g

theorem frame_ideal : Cert.quiescent_AdamWProjIdeal := fun m g _ => Cert.AdamWProjIdeal.Gen.frame m g

theorem frame_ref : Cert.quiescent_AdamWProjRefIdeal := fun m g _ =>
  (θ_run Cert.AdamWProjRefIdeal.defs _ _).mono (fun r h => ⟨fun c => (h c).2.2.2, sem_eq_zero_of_no_sems (by decide) r.2⟩)
    (Cert.AdamWProjRefIdeal.Value.run m g)

theorem value : Cert.algebraic_AdamWProjIdeal_AdamWProjRefIdeal := fun m g m' g' _ hm =>
  ⟨_, _, _, Cert.AdamWProjIdeal.Value.run m g,
    (θ_run Cert.AdamWProjRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWProjRefIdeal.Value.run m' g')⟩

end Cert.AdamWProjProof

/-! ### The per-layer embeddings -/

namespace Cert.AdamWPleProof

open Cert.AdamWProof

theorem frame_bits : Cert.quiescent_AdamWPle := fun m g _ => Cert.AdamWPle.Gen.frame m g

theorem frame_ideal : Cert.quiescent_AdamWPleIdeal := fun m g _ => Cert.AdamWPleIdeal.Gen.frame m g

theorem frame_ref : Cert.quiescent_AdamWPleRefIdeal := fun m g _ =>
  (θ_run Cert.AdamWPleRefIdeal.defs _ _).mono (fun r h => ⟨fun c => (h c).2.2.2, sem_eq_zero_of_no_sems (by decide) r.2⟩)
    (Cert.AdamWPleRefIdeal.Value.run m g)

theorem value : Cert.algebraic_AdamWPleIdeal_AdamWPleRefIdeal := fun m g m' g' _ hm =>
  ⟨_, _, _, Cert.AdamWPleIdeal.Value.run m g,
    (θ_run Cert.AdamWPleRefIdeal.defs _ _).mono (fun _ h c =>
      have ⟨h0, h1, h2, h3⟩ := h c
      have ⟨w, d, a, v⟩ := hm c
      ⟨h0.trans (step _ w d a v), h1.trans (first _ d a), h2.trans (second _ d v), h3⟩)
      (Cert.AdamWPleRefIdeal.Value.run m' g')⟩

end Cert.AdamWPleProof

end
-- ==== Proof.Products.lean ====
/-
  What the matrix products' calls have in common. Every call walks over the tiles of its result; for each of them it
  resets a scratch to zero, adds to it the products of the tiles along the contracted axis, one per point, and writes the
  scratch back at the last of them. So a tile ends holding the sum over the whole contracted axis. The operands are read
  here at natural numbers, so that a place is plain arithmetic whatever the extents.
-/
module

public import Idealize.ShloMosaic.PureOps.Ideal.Laws
public import Idealize.ShloMosaic.Lib.Pipeline.Value
public import Idealize.ShloMosaic.Lib.MatmulPlain
public import Idealize.ShloMosaic.Lib.StackMember
public import Idealize.ShloMosaic.Lib.Pointwise.Contract
public import Idealize.ShloMosaic.Lib.WholeRead

@[expose] public section

noncomputable section

namespace Cert.Products

open Idealize.ShloMosaic hiding ix2 ix3 eq_ix2 eq_ix3
open Idealize.ShloMosaic.ValueIdx

/-- A matrix at two natural numbers: zero outside. -/
def at2 {M N : ℕ} (x : (⟨2, ![M, N]⟩ : Shape).Idx → EReal) (r c : ℕ) : EReal :=
  if h : r < M ∧ c < N then x (ix2 ⟨r, h.1⟩ ⟨c, h.2⟩) else 0

/-- A stack of matrices at three natural numbers: zero outside. -/
def at3 {L M N : ℕ} (x : (⟨3, ![L, M, N]⟩ : Shape).Idx → EReal) (l r c : ℕ) : EReal :=
  if h : l < L ∧ r < M ∧ c < N then x (ix3 ⟨l, h.1⟩ ⟨r, h.2.1⟩ ⟨c, h.2.2⟩) else 0

theorem at2_eq {M N : ℕ} (x : (⟨2, ![M, N]⟩ : Shape).Idx → EReal) (i : (⟨2, ![M, N]⟩ : Shape).Idx) {r c : ℕ}
    (hr : (i 0).val = r) (hc : (i 1).val = c) : x i = at2 x r c := by
  subst hr; subst hc
  have h : (i 0).val < M ∧ (i 1).val < N := ⟨idx2_lt0 i, idx2_lt1 i⟩
  rw [at2, dif_pos h]
  exact congrArg x (eq_ix2 i)

theorem at3_eq {L M N : ℕ} (x : (⟨3, ![L, M, N]⟩ : Shape).Idx → EReal) (i : (⟨3, ![L, M, N]⟩ : Shape).Idx) {l r c : ℕ}
    (hl : (i 0).val = l) (hr : (i 1).val = r) (hc : (i 2).val = c) : x i = at3 x l r c := by
  subst hl; subst hr; subst hc
  have h : (i 0).val < L ∧ (i 1).val < M ∧ (i 2).val < N := ⟨(i 0).isLt, (i 1).isLt, (i 2).isLt⟩
  rw [at3, dif_pos h]
  exact congrArg x (eq_ix3 i)

/-- A scratch that is reset at the multiples of `J` and grows by a tile's part of a sum at every point holds, after a
    point, the sum over the tiles up to it. -/
theorem fold {N J T : ℕ} {α : Type} (hJ : 0 < J) (f : (n : ℕ) → n < N → α → EReal) (g : ℕ → α → ℕ → EReal)
    (h0 : ∀ (n : ℕ) (h : n < N) (j : α), n % J = 0 → f n h j = ∑ k : Fin T, g (n / J) j (n % J * T + k.val))
    (hs : ∀ (n : ℕ) (h : n < N) (j : α), ¬n % J = 0 →
      f n h j = f (n - 1) (Nat.lt_of_le_of_lt (Nat.sub_le _ _) h) j + ∑ k : Fin T, g (n / J) j (n % J * T + k.val)) :
    ∀ (n : ℕ) (h : n < N) (j : α), f n h j = ∑ k ∈ Finset.range ((n % J + 1) * T), g (n / J) j k := by
  intro n
  induction n using Nat.strong_induction_on with
  | _ n ih =>
    intro h j
    have tile : ∀ (q s : ℕ), ∑ k : Fin T, g q j (s * T + k.val) = ∑ k ∈ Finset.range T, g q j (s * T + k) := fun q s =>
      Fin.sum_univ_eq_sum_range (fun k => g q j (s * T + k)) T
    by_cases hn : n % J = 0
    · rw [h0 n h j hn, tile, hn]
      simp
    · have hp : 0 < n := Nat.pos_of_ne_zero fun e => hn (by rw [e]; exact Nat.zero_mod J)
      have hd := Nat.div_add_mod n J
      have hl := Nat.mod_lt n hJ
      have e : n - 1 = J * (n / J) + (n % J - 1) := by omega
      have hm : (n - 1) % J = n % J - 1 := by
        rw [e, Nat.mul_add_mod, Nat.mod_eq_of_lt (by omega)]
      have hq : (n - 1) / J = n / J := by
        rw [e, Nat.mul_add_div hJ, Nat.div_eq_of_lt (Nat.lt_of_le_of_lt (Nat.sub_le _ _) hl), Nat.add_zero]
      rw [hs n h j hn, ih (n - 1) (by omega) _ j, hm, hq, tile, Nat.sub_add_cancel (by omega), Nat.add_mul, Nat.one_mul,
        Finset.sum_range_add]

/-- A coordinate of a block's place: the block's number times its extent, and the coordinate in it. -/
theorem place {n a b r : ℕ} (h : n = a) : n * b + 1 * r = a * b + r := by rw [h, Nat.one_mul]

theorem place_unit {n a : ℕ} (h : n = a) : n * 1 + 1 * 0 = a := by rw [h, Nat.mul_one, Nat.mul_zero, Nat.add_zero]

/-- The block of columns, and the column in it, of a place along the whole axis that is cut into tiles of `T`, `r` to a
    block. -/
theorem column {r T s : ℕ} (hT : 0 < T) (hr : 0 < r) (k : Fin T) :
    s / r = (s * T + k.val) / (r * T) ∧ s % r * T + k.val = (s * T + k.val) % (r * T) := by
  have hk := k.isLt
  have e : s * T + k.val = r * T * (s / r) + (s % r * T + k.val) := by
    conv_lhs => rw [← Nat.div_add_mod s r]
    ring
  have hl : s % r * T + k.val < r * T := by
    have h := Nat.mul_le_mul_right T (Nat.succ_le_of_lt (Nat.mod_lt s hr))
    rw [Nat.succ_mul] at h
    omega
  rw [e]
  exact ⟨by rw [Nat.mul_add_div (Nat.mul_pos hr hT), Nat.div_eq_of_lt hl, Nat.add_zero],
    by rw [Nat.mul_add_mod, Nat.mod_eq_of_lt hl]⟩

theorem off2 : (![0, 0] : Fin 2 → ℕ) = fun _ => 0 := by decide

theorem off3 : (![0, 0, 0] : Fin 3 → ℕ) = fun _ => 0 := by decide

/-- A scratch that goes from point to point, reset at the multiples of `J`, to which every point adds the products of two
    blocks along a tile of the contracted axis: after a point it holds the sum over the tiles up to it. `L` and `R` are
    the places in the blocks of the factors of an entry's product, `gx` and `gy` the factors along the whole axis. -/
theorem walk {N J T : ℕ} {A B S : Type} (hJ : 0 < J) (f : (n : ℕ) → n < N → S → EReal) (zero : S → EReal)
    (step : (S → EReal) → (A → EReal) → (B → EReal) → S → EReal) (x : Fin N → A → EReal) (y : Fin N → B → EReal)
    (L : S → Fin T → A) (R : S → Fin T → B) (gx gy : ℕ → S → ℕ → EReal) (hz : ∀ j, zero j = 0)
    (hstep : ∀ acc a b j, step acc a b j = acc j + ∑ k : Fin T, a (L j k) * b (R j k))
    (first : ∀ t : Fin N, t.val % J = 0 → f t.val t.isLt = step zero (x t) (y t))
    (next : ∀ t : Fin N, ¬t.val % J = 0 →
      f t.val t.isLt = step (f (t.val - 1) (Nat.lt_of_le_of_lt (Nat.sub_le _ _) t.isLt)) (x t) (y t))
    (hx : ∀ t j k, x t (L j k) = gx (t.val / J) j (t.val % J * T + k.val))
    (hy : ∀ t j k, y t (R j k) = gy (t.val / J) j (t.val % J * T + k.val)) (n : ℕ) (h : n < N) (j : S) :
    f n h j = ∑ k ∈ Finset.range ((n % J + 1) * T), gx (n / J) j k * gy (n / J) j k :=
  fold hJ f (fun q j k => gx q j k * gy q j k)
    (fun n h j h0 => by
      rw [first ⟨n, h⟩ h0, hstep, hz, zero_add]
      exact Finset.sum_congr rfl fun k _ => congrArg₂ _ (hx ⟨n, h⟩ j k) (hy ⟨n, h⟩ j k))
    (fun n h j h0 => by
      rw [next ⟨n, h⟩ h0, hstep]
      exact congrArg _ (Finset.sum_congr rfl fun k _ => congrArg₂ _ (hx ⟨n, h⟩ j k) (hy ⟨n, h⟩ j k))) n h j

/-- A load of a whole buffer reads what the buffer holds. -/
theorem loaded {sig : RefSig} {κ : Kind} {sp : Space} {S : Shape} {e : EltTy} {Val : EltTy → Type} {M : Memref sig κ sp S e}
    (hM : M.IsWhole) {off : Fin S.rank → ℕ} (h : off = fun _ => 0) (inb : ∀ a, off a + S.size a ≤ S.size a) (x : S.Idx → Val e) :
    View.readAt Val M.view (Rect.unit off S.size inb).toLoadRect (hM.unread x) = x := by
  rw [View.readAt_eq_ld, View.ld_unit_zero h, hM.read_unread]

theorem zero_word : Ideal.ofBits .f32 0x00000000#32 = 0 := by simp [Ideal.ofBits, Ideal.ieee]

/-- One tile's part of a product: rows of the left operand by columns of the right one. -/
theorem plain {M K N : ℕ} (d : DotDims ⟨2, ![M, K]⟩ ⟨2, ![K, N]⟩ ⟨2, ![M, N]⟩) (hd : d = DotDims.plain M K N)
    (h : (⟨2, ![M, N]⟩ : Shape).ShapeCasts ⟨2, ![M, N]⟩) (hw : (⟨3, ![1, K, N]⟩ : Shape).ShapeCasts ⟨2, ![K, N]⟩)
    (acc : FVec Ideal ⟨2, ![M, N]⟩ .f32) (x : FVec Ideal ⟨2, ![M, K]⟩ .bf16) (w : FVec Ideal ⟨3, ![1, K, N]⟩ .bf16)
    (j : (⟨2, ![M, N]⟩ : Shape).Idx) :
    shapeCast ⟨2, ![M, N]⟩ (addf acc (matmul d none x (shapeCast ⟨2, ![K, N]⟩ w hw) (constant ⟨2, ![M, N]⟩ .f32 0x00000000#32))) h j
      = acc j + ∑ k : Fin K, x (ix2 (j 0) k) * w (ix3 0 k (j 1)) := by
  subst hd
  rw [shapeCast_self]
  obtain ⟨r, c, rfl⟩ : ∃ (r : Fin M) (c : Fin N), j = ix2 r c := ⟨j 0, j 1, eq_ix2 j⟩
  show acc (ix2 r c) + FloatOps.matmul (DotDims.plain M K N) none x (shapeCast ⟨2, ![K, N]⟩ w hw) (constant ⟨2, ![M, N]⟩ .f32 0x00000000#32) (ix2 r c) = _
  rw [Ideal.matmul_plain_apply]
  have hz : (constant (F := Ideal) ⟨2, ![M, N]⟩ .f32 0x00000000#32) (ix2 r c) = (0 : EReal) := zero_word
  rw [hz, zero_add]
  refine congrArg _ (Finset.sum_congr rfl fun k _ => congrArg _ ?_)
  rw [shapeCast_dropUnit_apply]
  exact congrArg w (by funext a; match a with | ⟨0, _⟩ => rfl | ⟨1, _⟩ => rfl | ⟨2, _⟩ => rfl)

/-- One tile's part of a product with a transposed right operand: rows by rows. -/
theorem turned {M K N : ℕ} (d : DotDims ⟨2, ![M, K]⟩ ⟨2, ![N, K]⟩ ⟨2, ![M, N]⟩) (hd : d = DotDims.transposedRhs M K N)
    (h : (⟨2, ![M, N]⟩ : Shape).ShapeCasts ⟨2, ![M, N]⟩) (hw : (⟨3, ![1, N, K]⟩ : Shape).ShapeCasts ⟨2, ![N, K]⟩)
    (acc : FVec Ideal ⟨2, ![M, N]⟩ .f32) (x : FVec Ideal ⟨2, ![M, K]⟩ .bf16) (w : FVec Ideal ⟨3, ![1, N, K]⟩ .bf16)
    (j : (⟨2, ![M, N]⟩ : Shape).Idx) :
    shapeCast ⟨2, ![M, N]⟩ (addf acc (matmul d none x (shapeCast ⟨2, ![N, K]⟩ w hw) (constant ⟨2, ![M, N]⟩ .f32 0x00000000#32))) h j
      = acc j + ∑ k : Fin K, x (ix2 (j 0) k) * w (ix3 0 (j 1) k) := by
  subst hd
  rw [shapeCast_self]
  obtain ⟨r, c, rfl⟩ : ∃ (r : Fin M) (c : Fin N), j = ix2 r c := ⟨j 0, j 1, eq_ix2 j⟩
  show acc (ix2 r c) + FloatOps.matmul (DotDims.transposedRhs M K N) none x (shapeCast ⟨2, ![N, K]⟩ w hw) (constant ⟨2, ![M, N]⟩ .f32 0x00000000#32) (ix2 r c) = _
  rw [Ideal.matmul_transposedRhs_apply]
  have hz : (constant (F := Ideal) ⟨2, ![M, N]⟩ .f32 0x00000000#32) (ix2 r c) = (0 : EReal) := zero_word
  rw [hz, zero_add]
  refine congrArg _ (Finset.sum_congr rfl fun k _ => congrArg _ ?_)
  rw [shapeCast_dropUnit_apply]
  exact congrArg w (by funext a; match a with | ⟨0, _⟩ => rfl | ⟨1, _⟩ => rfl | ⟨2, _⟩ => rfl)

/-- One tile's part of a product with a transposed left operand: columns by columns. -/
theorem crossed {M K N : ℕ} (d : DotDims ⟨2, ![K, M]⟩ ⟨2, ![K, N]⟩ ⟨2, ![M, N]⟩) (hc : d.lhsContracting = [0]) (hl : d.lhsNonContracting = [1])
    (hr : d.rhsContracting = [0]) (hn : d.rhsNonContracting = [1]) (hb : d.lhsBatch = []) (hb' : d.rhsBatch = [])
    (h : (⟨2, ![M, N]⟩ : Shape).ShapeCasts ⟨2, ![M, N]⟩)
    (acc : FVec Ideal ⟨2, ![M, N]⟩ .f32) (x : FVec Ideal ⟨2, ![K, M]⟩ .bf16) (w : FVec Ideal ⟨2, ![K, N]⟩ .bf16)
    (j : (⟨2, ![M, N]⟩ : Shape).Idx) :
    shapeCast ⟨2, ![M, N]⟩ (addf acc (matmul d none x w (constant ⟨2, ![M, N]⟩ .f32 0x00000000#32))) h j
      = acc j + ∑ k : Fin K, x (ix2 k (j 0)) * w (ix2 k (j 1)) := by
  obtain ⟨lc, rc, ln, rn, lb, rb, wf⟩ := d
  subst hc hl hr hn hb hb'
  rw [shapeCast_self]
  show acc j + Ideal.matmul _ x w (constant (F := Ideal) ⟨2, ![M, N]⟩ .f32 0x00000000#32) j = _
  rw [Ideal.matmul_apply₁_of _ rfl (K := K) rfl x w _ j (fun k => ix2 k (j 0)) (fun k => ix2 k (j 1))
    (fun k => by funext a; match a with | ⟨0, _⟩ => rfl | ⟨1, _⟩ => rfl)
    (fun k => by funext a; match a with | ⟨0, _⟩ => rfl | ⟨1, _⟩ => rfl)]
  have hz : (constant (F := Ideal) ⟨2, ![M, N]⟩ .f32 0x00000000#32) j = (0 : EReal) := zero_word
  rw [hz, zero_add]

/-! ## The references -/

/-- The product of a matrix with the whole weight of the chips' blocks of its columns. -/
def nn {M G K N : ℕ} (D : ℕ) (x : (⟨2, ![M, K]⟩ : Shape).Idx → EReal) (w : (⟨3, ![G, K, N]⟩ : Shape).Idx → EReal) :
    (⟨2, ![M, D]⟩ : Shape).Idx → EReal :=
  fun i => ∑ k ∈ Finset.range K, at2 x (i 0).val k * at3 w ((i 1).val / N) k ((i 1).val % N)

/-- The product of a matrix with the transposed whole weight. -/
def nt {M G K N D : ℕ} (x : (⟨2, ![M, D]⟩ : Shape).Idx → EReal) (w : (⟨3, ![G, K, N]⟩ : Shape).Idx → EReal) :
    (⟨2, ![M, K]⟩ : Shape).Idx → EReal :=
  fun i => ∑ k ∈ Finset.range D, at2 x (i 0).val k * at3 w (k / N) (i 1).val (k % N)

/-- The product of a transposed matrix with another, in the chips' blocks of its columns. -/
def tn {M K D : ℕ} (G N : ℕ) (x : (⟨2, ![K, M]⟩ : Shape).Idx → EReal) (y : (⟨2, ![K, D]⟩ : Shape).Idx → EReal) :
    (⟨3, ![G, M, N]⟩ : Shape).Idx → EReal :=
  fun i => ∑ k ∈ Finset.range K, at2 x k (i 1).val * at2 y k ((i 0).val * N + (i 2).val)

/-- The whole weight of the chips' blocks of its columns: column `c` is the block `c / N`'s column `c % N`. -/
theorem columns {G K N D : ℕ} (hN : 0 < N) (hD : D = G * N) (w : (⟨3, ![G, K, N]⟩ : Shape).Idx → EReal)
    (h : (⟨3, ![G, K, N]⟩ : Shape).Transposes [1, 0, 2] ⟨3, ![K, G, N]⟩) (h' : (⟨3, ![K, G, N]⟩ : Shape).ShapeCasts ⟨2, ![K, D]⟩)
    (r : Fin K) (c : Fin D) :
    shapeCast ⟨2, ![K, D]⟩ (transpose ⟨3, ![K, G, N]⟩ [1, 0, 2] w h) h' (ix2 r c) = at3 w (c.val / N) r.val (c.val % N) := by
  have hg : c.val / N < G := (Nat.div_lt_iff_lt_mul hN).2 (hD ▸ c.isLt)
  have hc := Nat.div_add_mod c.val N
  rw [shapeCast_apply _ h' (ix2 r c) (ix3 r ⟨c.val / N, hg⟩ ⟨c.val % N, Nat.mod_lt _ hN⟩) (by
    rw [Shape.rowMajor_val_three, Shape.rowMajor_val_two]
    show (r.val * G + c.val / N) * N + c.val % N = r.val * D + c.val
    have e : r.val * D = r.val * G * N := by rw [hD, Nat.mul_assoc]
    rw [e, Nat.add_mul, Nat.add_assoc, Nat.mul_comm (c.val / N), hc])]
  rw [transpose_apply _ w h _ (ix3 ⟨c.val / N, hg⟩ r ⟨c.val % N, Nat.mod_lt _ hN⟩) (by
    intro b
    match b with
    | ⟨0, _⟩ => rfl
    | ⟨1, _⟩ => rfl
    | ⟨2, _⟩ => rfl)]
  exact at3_eq w _ rfl rfl rfl

/-- The product with the whole weight. -/
theorem nn_reference {M G K N D : ℕ} (hN : 0 < N) (hD : D = G * N) (d : DotDims ⟨2, ![M, K]⟩ ⟨2, ![K, D]⟩ ⟨2, ![M, D]⟩)
    (hd : d = DotDims.plain M K D) (x : FVec Ideal ⟨2, ![M, K]⟩ .bf16) (w : FVec Ideal ⟨3, ![G, K, N]⟩ .bf16)
    (h : (⟨3, ![G, K, N]⟩ : Shape).Transposes [1, 0, 2] ⟨3, ![K, G, N]⟩) (h' : (⟨3, ![K, G, N]⟩ : Shape).ShapeCasts ⟨2, ![K, D]⟩)
    (hx : FTy.bf16.bits < FTy.f32.bits) :
    Host.dotGeneral d none (extf .f32 x hx) (extf .f32 (shapeCast ⟨2, ![K, D]⟩ (transpose ⟨3, ![K, G, N]⟩ [1, 0, 2] w h) h') hx)
      = nn D x w := by
  subst hd
  funext i
  obtain ⟨r, c, rfl⟩ : ∃ (r : Fin M) (c : Fin D), i = ix2 r c := ⟨i 0, i 1, eq_ix2 i⟩
  rw [StackMember.dotGeneral_plain_apply]
  refine Eq.trans ?_ (Fin.sum_univ_eq_sum_range (fun k => at2 x r.val k * at3 w (c.val / N) k (c.val % N)) _)
  exact Finset.sum_congr rfl fun k _ => congrArg₂ _ (at2_eq x _ rfl rfl) (columns hN hD w h h' k c)

/-- The product with the transposed whole weight. -/
theorem nt_reference {M G K N D : ℕ} (hN : 0 < N) (hD : D = G * N) (d : DotDims ⟨2, ![M, D]⟩ ⟨2, ![D, K]⟩ ⟨2, ![M, K]⟩)
    (hd : d = DotDims.plain M D K) (x : FVec Ideal ⟨2, ![M, D]⟩ .bf16) (w : FVec Ideal ⟨3, ![G, K, N]⟩ .bf16)
    (h : (⟨3, ![G, K, N]⟩ : Shape).Transposes [1, 0, 2] ⟨3, ![K, G, N]⟩) (h' : (⟨3, ![K, G, N]⟩ : Shape).ShapeCasts ⟨2, ![K, D]⟩)
    (ht : (⟨2, ![K, D]⟩ : Shape).Transposes [1, 0] ⟨2, ![D, K]⟩) (hx : FTy.bf16.bits < FTy.f32.bits) :
    Host.dotGeneral d none (extf .f32 x hx) (transpose ⟨2, ![D, K]⟩ [1, 0]
        (extf .f32 (shapeCast ⟨2, ![K, D]⟩ (transpose ⟨3, ![K, G, N]⟩ [1, 0, 2] w h) h') hx) ht)
      = nt x w := by
  subst hd
  funext i
  obtain ⟨r, c, rfl⟩ : ∃ (r : Fin M) (c : Fin K), i = ix2 r c := ⟨i 0, i 1, eq_ix2 i⟩
  rw [StackMember.dotGeneral_plain_apply]
  refine Eq.trans ?_ (Fin.sum_univ_eq_sum_range (fun k => at2 x r.val k * at3 w (k / N) c.val (k % N)) _)
  refine Finset.sum_congr rfl fun k _ => congrArg₂ _ (at2_eq x _ rfl rfl) ?_
  rw [transpose_apply _ _ ht (ix2 k c) (ix2 c k) (by
    intro b
    match b with
    | ⟨0, _⟩ => rfl
    | ⟨1, _⟩ => rfl)]
  exact columns hN hD w h h' c k

/-- The product of the transposed first operand, cut into the chips' blocks of its columns. -/
theorem tn_reference {M G K N D : ℕ} (hD : D = G * N) (d : DotDims ⟨2, ![M, K]⟩ ⟨2, ![K, D]⟩ ⟨2, ![M, D]⟩)
    (hd : d = DotDims.plain M K D) (x : FVec Ideal ⟨2, ![K, M]⟩ .bf16) (y : FVec Ideal ⟨2, ![K, D]⟩ .bf16)
    (ht : (⟨2, ![K, M]⟩ : Shape).Transposes [1, 0] ⟨2, ![M, K]⟩) (h' : (⟨2, ![M, D]⟩ : Shape).ShapeCasts ⟨3, ![M, G, N]⟩)
    (h : (⟨3, ![M, G, N]⟩ : Shape).Transposes [1, 0, 2] ⟨3, ![G, M, N]⟩) (hx : FTy.bf16.bits < FTy.f32.bits) :
    transpose ⟨3, ![G, M, N]⟩ [1, 0, 2] (shapeCast ⟨3, ![M, G, N]⟩
        (Host.dotGeneral d none (transpose ⟨2, ![M, K]⟩ [1, 0] (extf .f32 x hx) ht) (extf .f32 y hx)) h') h
      = tn G N x y := by
  subst hd
  funext i
  obtain ⟨g, r, c, rfl⟩ : ∃ (g : Fin G) (r : Fin M) (c : Fin N), i = ix3 g r c := ⟨i 0, i 1, i 2, eq_ix3 i⟩
  have hc : g.val * N + c.val < D := by
    have := Nat.mul_le_mul_right N (Nat.succ_le_of_lt g.isLt)
    rw [hD]; have := c.isLt; rw [Nat.succ_mul] at *; omega
  rw [transpose_apply _ _ h (ix3 g r c) (ix3 r g c) (by
    intro b
    match b with
    | ⟨0, _⟩ => rfl
    | ⟨1, _⟩ => rfl
    | ⟨2, _⟩ => rfl)]
  rw [shapeCast_apply _ h' (ix3 r g c) (ix2 r ⟨g.val * N + c.val, hc⟩) (by
    rw [Shape.rowMajor_val_three, Shape.rowMajor_val_two]
    show r.val * D + (g.val * N + c.val) = (r.val * G + g.val) * N + c.val
    rw [hD, Nat.add_mul, Nat.mul_assoc, Nat.add_assoc])]
  rw [StackMember.dotGeneral_plain_apply]
  refine Eq.trans ?_ (Fin.sum_univ_eq_sum_range (fun k => at2 x k r.val * at2 y k (g.val * N + c.val)) _)
  refine Finset.sum_congr rfl fun k _ => congrArg₂ _ ?_ (at2_eq y _ rfl rfl)
  rw [transpose_apply _ _ ht (ix2 r k) (ix2 k r) (by
    intro b
    match b with
    | ⟨0, _⟩ => rfl
    | ⟨1, _⟩ => rfl)]
  exact at2_eq x _ rfl rfl

end Cert.Products

end
-- ==== Proof.NnClaims.lean ====
/-
  The products of an array of activations by a gathered weight, in the forward pass. Each kernel's run is read tile by
  tile, and compared with the reference's one product.
-/
module

public import proofs.«01_k».proof.Defs
public import proofs.«01_k».proof.Proof.Products
public import proofs.«01_k».proof.Proof.Gen.NnIn.Frame
public import proofs.«01_k».proof.Proof.Gen.NnInIdeal.Value
public import proofs.«01_k».proof.Proof.Gen.NnInRefIdeal.Run
public import proofs.«01_k».proof.Proof.Gen.NnSquare.Frame
public import proofs.«01_k».proof.Proof.Gen.NnSquareIdeal.Value
public import proofs.«01_k».proof.Proof.Gen.NnSquareRefIdeal.Run
public import proofs.«01_k».proof.Proof.Gen.NnQkv.Frame
public import proofs.«01_k».proof.Proof.Gen.NnQkvIdeal.Value
public import proofs.«01_k».proof.Proof.Gen.NnQkvRefIdeal.Run
public import proofs.«01_k».proof.Proof.Gen.NnUp.Frame
public import proofs.«01_k».proof.Proof.Gen.NnUpIdeal.Value
public import proofs.«01_k».proof.Proof.Gen.NnUpRefIdeal.Run
public import proofs.«01_k».proof.Proof.Gen.NnDown.Frame
public import proofs.«01_k».proof.Proof.Gen.NnDownIdeal.Value
public import proofs.«01_k».proof.Proof.Gen.NnDownRefIdeal.Run

@[expose] public section

set_option Elab.async false

noncomputable section

open Idealize.ShloMosaic
open Idealize.ShloMosaic.TcCoe
open Idealize.SL.Sem

namespace Cert.NnInProof

open Cert.NnInIdeal Cert.NnInIdeal.Gen Cert.NnInIdeal.Value

theorem frame_bits : Cert.quiescent_NnIn := fun m g _ => Cert.NnIn.Gen.frame m g

theorem frame_ideal : Cert.quiescent_NnInIdeal := fun m g _ => Cert.NnInIdeal.Gen.frame m g

theorem frame_ref : Cert.quiescent_NnInRefIdeal := fun m g _ =>
  (θ_run Cert.NnInRefIdeal.defs _ _).mono (fun r h => ⟨fun c => (h c).2, sem_eq_zero_of_no_sems (by decide) r.2⟩)
    (Cert.NnInRefIdeal.Value.run (F := Ideal) m g)

variable (m : (ℓ : Loc nD τ sig) → Buf (Elt Ideal) ℓ)

/-- The scratch after the first point of a tile. -/
theorem first (c : Dev nD) (t : Fin cfg0.N) (h : t.val % 2 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 2 = 0) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h (by omega)]; dsimp only; unfold sout0_B_0
  rw [View.read_writes_junk_eq_canon]
  refine (View.canon_cons_unit_zero (by decide) _ _ _).trans ?_
  exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 2 = 1) :
    (outsAt0 m c t.val t.isLt).1 = (outsAt0 m c t.val t.isLt).2 := by
  rw [next m c t (by omega), outsAt0_B m c t (by omega) h]; dsimp only; unfold out0_B_2
  rw [View.read_writes_junk_eq_canon]
  refine (View.canon_cons_unit_zero (by decide) _ _ _).trans ?_
  refine (View.readCov_unit_zero _ Products.off2 _ _).trans ?_
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 2 / 4 ∧ win0_0.index t (1 : Fin 2) = t.val % 2
    ∧ win0_1.index t (0 : Fin 3) = t.val / 2 % 4 / 1 ∧ win0_1.index t (1 : Fin 3) = t.val % 2
    ∧ win0_1.index t (2 : Fin 3) = t.val / 2 % 4 % 1 := by decide +kernel

/-- The scratch after a point: the sum over the tiles up to it. -/
theorem state (c : Dev nD) (n : ℕ) (h : n < cfg0.N) (j : S1024x1024.Idx) :
    (outsAt0 m c n h).2 j = ∑ k ∈ Finset.range ((n % 2 + 1) * 1024), Products.at2 (V m c main_arg0) (n / 2 / 4 * 1024 + (j 0).val) k
      * Products.at3 (V m c main_arg1) (n / 2 % 4 / 1) k (n / 2 % 4 % 1 * 1024 + (j 1).val) :=
  Products.walk (A := S1024x1024.Idx) (B := S1x1024x1024.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 k (j 1))
    (fun q (j : S1024x1024.Idx) k => Products.at2 (V m c main_arg0) (q / 4 * 1024 + (j 0).val) k)
    (fun q (j : S1024x1024.Idx) k => Products.at3 (V m c main_arg1) (q % 4 / 1) k (q % 4 % 1 * 1024 + (j 1).val))
    (fun _ => Products.zero_word) (Products.plain _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 k (j 1)))
      (Products.place_unit (places t).2.2.1) (Products.place (places t).2.2.2.1) (Products.place (places t).2.2.2.2)) n h j

/-- The array after the run is the product. -/
theorem final (c : Dev nD) : G2 m c = Products.nn 4096 (V m c main_arg0) (V m c main_arg1) := by
  funext i
  have h0 : (i 0).val < 8192 := (i 0).isLt
  have h1 : (i 1).val < 4096 := (i 1).isLt
  have e : pt2Of i = 2 * (4 * ((i 0).val / 1024) + (i 1).val / 1024) + 1 := by unfold pt2Of run2Of; omega
  have hp : pt2Of i < cfg0.N := by rw [e, show cfg0.N = 64 from N_0]; omega
  have hq : pt2Of i % 2 = 1 := by rw [e]; omega
  have hr : pt2Of i / 2 / 4 * 1024 + (i 0).val % 1024 = (i 0).val := by rw [e]; omega
  have hb : pt2Of i / 2 % 4 / 1 = (i 1).val / 1024 := by rw [e]; omega
  have hc : pt2Of i / 2 % 4 % 1 * 1024 + (i 1).val % 1024 = (i 1).val % 1024 := by rw [e]; omega
  unfold G2
  rw [dif_pos hp, ← outsAt0_sweep m c _ hp, last m c ⟨pt2Of i, hp⟩ hq]
  refine (state m c (pt2Of i) hp _).trans ?_
  rw [hq]
  refine Finset.sum_congr rfl fun k _ => congrArg₂ _ (congrArg (Products.at2 (V m c main_arg0) · k) hr) ?_
  exact congrArg₂ (Products.at3 (V m c main_arg1) · k ·) hb hc

theorem value : Cert.algebraic_NnInIdeal_NnInRefIdeal := fun m g m' g' _ hm =>
  ⟨_, (θ_run Cert.NnInIdeal.defs _ _).mono (fun _ h c => ⟨(h c).1.trans (final m c), (h c).2⟩) (run m g),
    (θ_run Cert.NnInRefIdeal.defs _ _).mono (fun _ h c => ⟨(h c).1.trans
      ((Products.nn_reference (by decide) rfl _ rfl _ _ _ _ _).trans (congrArg₂ (Products.nn 4096) (hm c).1 (hm c).2)), (h c).2⟩)
      (Cert.NnInRefIdeal.Value.run m' g')⟩

end Cert.NnInProof

namespace Cert.NnSquareProof

open Cert.NnSquareIdeal Cert.NnSquareIdeal.Gen Cert.NnSquareIdeal.Value

theorem frame_bits : Cert.quiescent_NnSquare := fun m g _ => Cert.NnSquare.Gen.frame m g

theorem frame_ideal : Cert.quiescent_NnSquareIdeal := fun m g _ => Cert.NnSquareIdeal.Gen.frame m g

theorem frame_ref : Cert.quiescent_NnSquareRefIdeal := fun m g _ =>
  (θ_run Cert.NnSquareRefIdeal.defs _ _).mono (fun r h => ⟨fun c => (h c).2, sem_eq_zero_of_no_sems (by decide) r.2⟩)
    (Cert.NnSquareRefIdeal.Value.run (F := Ideal) m g)

variable (m : (ℓ : Loc nD τ sig) → Buf (Elt Ideal) ℓ)

/-- The scratch after the first point of a tile. -/
theorem first (c : Dev nD) (t : Fin cfg0.N) (h : t.val % 2 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 2 = 0) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h (by omega)]; dsimp only; unfold sout0_B_0
  rw [View.read_writes_junk_eq_canon]
  refine (View.canon_cons_unit_zero (by decide) _ _ _).trans ?_
  exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 2 = 1) :
    (outsAt0 m c t.val t.isLt).1 = (outsAt0 m c t.val t.isLt).2 := by
  rw [next m c t (by omega), outsAt0_B m c t (by omega) h]; dsimp only; unfold out0_B_2
  rw [View.read_writes_junk_eq_canon]
  refine (View.canon_cons_unit_zero (by decide) _ _ _).trans ?_
  refine (View.readCov_unit_zero _ Products.off2 _ _).trans ?_
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 2 / 2 ∧ win0_0.index t (1 : Fin 2) = t.val % 2
    ∧ win0_1.index t (0 : Fin 3) = t.val / 2 % 2 / 2 ∧ win0_1.index t (1 : Fin 3) = t.val % 2
    ∧ win0_1.index t (2 : Fin 3) = t.val / 2 % 2 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 2 + 1) * 1024), Products.at2 (V m c main_arg0) (n / 2 / 2 * 1024 + (j 0).val) k
      * Products.at3 (V m c main_arg1) (n / 2 % 2 / 2) k (n / 2 % 2 % 2 * 1024 + (j 1).val) :=
  Products.walk (A := S1024x1024.Idx) (B := S1x1024x1024.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 k (j 1))
    (fun q (j : S1024x1024.Idx) k => Products.at2 (V m c main_arg0) (q / 2 * 1024 + (j 0).val) k)
    (fun q (j : S1024x1024.Idx) k => Products.at3 (V m c main_arg1) (q % 2 / 2) k (q % 2 % 2 * 1024 + (j 1).val))
    (fun _ => Products.zero_word) (Products.plain _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 k (j 1)))
      (Products.place_unit (places t).2.2.1) (Products.place (places t).2.2.2.1) (Products.place (places t).2.2.2.2)) n h j

/-- The array after the run is the product. -/
theorem final (c : Dev nD) : G2 m c = Products.nn 2048 (V m c main_arg0) (V m c main_arg1) := by
  funext i
  have h0 : (i 0).val < 8192 := (i 0).isLt
  have h1 : (i 1).val < 2048 := (i 1).isLt
  have e : pt2Of i = 2 * (2 * ((i 0).val / 1024) + (i 1).val / 1024) + 1 := by unfold pt2Of run2Of; omega
  have hp : pt2Of i < cfg0.N := by rw [e, show cfg0.N = 32 from N_0]; omega
  have hq : pt2Of i % 2 = 1 := by rw [e]; omega
  have hr : pt2Of i / 2 / 2 * 1024 + (i 0).val % 1024 = (i 0).val := by rw [e]; omega
  have hb : pt2Of i / 2 % 2 / 2 = (i 1).val / 2048 := by rw [e]; omega
  have hc : pt2Of i / 2 % 2 % 2 * 1024 + (i 1).val % 1024 = (i 1).val % 2048 := by rw [e]; omega
  unfold G2
  rw [dif_pos hp, ← outsAt0_sweep m c _ hp, last m c ⟨pt2Of i, hp⟩ hq]
  refine (state m c (pt2Of i) hp _).trans ?_
  rw [hq]
  refine Finset.sum_congr rfl fun k _ => congrArg₂ _ (congrArg (Products.at2 (V m c main_arg0) · k) hr) ?_
  exact congrArg₂ (Products.at3 (V m c main_arg1) · k ·) hb hc

theorem value : Cert.algebraic_NnSquareIdeal_NnSquareRefIdeal := fun m g m' g' _ hm =>
  ⟨_, (θ_run Cert.NnSquareIdeal.defs _ _).mono (fun _ h c => ⟨(h c).1.trans (final m c), (h c).2⟩) (run m g),
    (θ_run Cert.NnSquareRefIdeal.defs _ _).mono (fun _ h c => ⟨(h c).1.trans
      ((Products.nn_reference (by decide) rfl _ rfl _ _ _ _ _).trans (congrArg₂ (Products.nn 2048) (hm c).1 (hm c).2)), (h c).2⟩)
      (Cert.NnSquareRefIdeal.Value.run m' g')⟩

end Cert.NnSquareProof

namespace Cert.NnQkvProof

open Cert.NnQkvIdeal Cert.NnQkvIdeal.Gen Cert.NnQkvIdeal.Value

theorem frame_bits : Cert.quiescent_NnQkv := fun m g _ => Cert.NnQkv.Gen.frame m g

theorem frame_ideal : Cert.quiescent_NnQkvIdeal := fun m g _ => Cert.NnQkvIdeal.Gen.frame m g

theorem frame_ref : Cert.quiescent_NnQkvRefIdeal := fun m g _ =>
  (θ_run Cert.NnQkvRefIdeal.defs _ _).mono (fun r h => ⟨fun c => (h c).2, sem_eq_zero_of_no_sems (by decide) r.2⟩)
    (Cert.NnQkvRefIdeal.Value.run (F := Ideal) m g)

variable (m : (ℓ : Loc nD τ sig) → Buf (Elt Ideal) ℓ)

/-- The scratch after the first point of a tile. -/
theorem first (c : Dev nD) (t : Fin cfg0.N) (h : t.val % 2 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 2 = 0) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h (by omega)]; dsimp only; unfold sout0_B_0
  rw [View.read_writes_junk_eq_canon]
  refine (View.canon_cons_unit_zero (by decide) _ _ _).trans ?_
  exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 2 = 1) :
    (outsAt0 m c t.val t.isLt).1 = k0_pay3 (outsAt0 m c t.val t.isLt).2 := by
  rw [next m c t (by omega), outsAt0_B m c t (by omega) h]; dsimp only; unfold out0_B_2
  rw [View.read_writes_junk_eq_canon]
  refine (View.canon_cons_unit_zero (by decide) _ _ _).trans ?_
  refine congrArg k0_pay3 ((View.readCov_unit_zero _ Products.off2 _ _).trans ?_)
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 2 / 8 ∧ win0_0.index t (1 : Fin 2) = t.val % 2
    ∧ win0_1.index t (0 : Fin 3) = t.val / 2 % 8 / 2 ∧ win0_1.index t (1 : Fin 3) = t.val % 2
    ∧ win0_1.index t (2 : Fin 3) = t.val / 2 % 8 % 2 := by decide +kernel

/-- The scratch after a point: the sum over the tiles up to it. -/
theorem state (c : Dev nD) (n : ℕ) (h : n < cfg0.N) (j : S1024x768.Idx) :
    (outsAt0 m c n h).2 j = ∑ k ∈ Finset.range ((n % 2 + 1) * 1024), Products.at2 (V m c main_arg0) (n / 2 / 8 * 1024 + (j 0).val) k
      * Products.at3 (V m c main_arg1) (n / 2 % 8 / 2) k (n / 2 % 8 % 2 * 768 + (j 1).val) :=
  Products.walk (A := S1024x1024.Idx) (B := S1x1024x768.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 k (j 1))
    (fun q (j : S1024x768.Idx) k => Products.at2 (V m c main_arg0) (q / 8 * 1024 + (j 0).val) k)
    (fun q (j : S1024x768.Idx) k => Products.at3 (V m c main_arg1) (q % 8 / 2) k (q % 8 % 2 * 768 + (j 1).val))
    (fun _ => Products.zero_word) (Products.plain _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 k (j 1)))
      (Products.place_unit (places t).2.2.1) (Products.place (places t).2.2.2.1) (Products.place (places t).2.2.2.2)) n h j

/-- The array after the run is the product. -/
theorem final (c : Dev nD) : G2 m c = Products.nn 6144 (V m c main_arg0) (V m c main_arg1) := by
  funext i
  have h0 : (i 0).val < 8192 := (i 0).isLt
  have h1 : (i 1).val < 6144 := (i 1).isLt
  have e : pt2Of i = 2 * (8 * ((i 0).val / 1024) + (i 1).val / 768) + 1 := by unfold pt2Of run2Of; omega
  have hp : pt2Of i < cfg0.N := by rw [e, show cfg0.N = 128 from N_0]; omega
  have hq : pt2Of i % 2 = 1 := by rw [e]; omega
  have hr : pt2Of i / 2 / 8 * 1024 + (i 0).val % 1024 = (i 0).val := by rw [e]; omega
  have hb : pt2Of i / 2 % 8 / 2 = (i 1).val / 1536 := by rw [e]; omega
  have hc : pt2Of i / 2 % 8 % 2 * 768 + (i 1).val % 768 = (i 1).val % 1536 := by rw [e]; omega
  unfold G2
  rw [dif_pos hp, ← outsAt0_sweep m c _ hp, last m c ⟨pt2Of i, hp⟩ hq]
  refine (state m c (pt2Of i) hp _).trans ?_
  rw [hq]
  refine Finset.sum_congr rfl fun k _ => congrArg₂ _ (congrArg (Products.at2 (V m c main_arg0) · k) hr) ?_
  exact congrArg₂ (Products.at3 (V m c main_arg1) · k ·) hb hc

theorem value : Cert.algebraic_NnQkvIdeal_NnQkvRefIdeal := fun m g m' g' _ hm =>
  ⟨_, (θ_run Cert.NnQkvIdeal.defs _ _).mono (fun _ h c => ⟨(h c).1.trans (final m c), (h c).2⟩) (run m g),
    (θ_run Cert.NnQkvRefIdeal.defs _ _).mono (fun _ h c => ⟨(h c).1.trans
      ((Products.nn_reference (by decide) rfl _ rfl _ _ _ _ _).trans (congrArg₂ (Products.nn 6144) (hm c).1 (hm c).2)), (h c).2⟩)
      (Cert.NnQkvRefIdeal.Value.run m' g')⟩

end Cert.NnQkvProof

namespace Cert.NnUpProof

open Cert.NnUpIdeal Cert.NnUpIdeal.Gen Cert.NnUpIdeal.Value

theorem frame_bits : Cert.quiescent_NnUp := fun m g _ => Cert.NnUp.Gen.frame m g

theorem frame_ideal : Cert.quiescent_NnUpIdeal := fun m g _ => Cert.NnUpIdeal.Gen.frame m g

theorem frame_ref : Cert.quiescent_NnUpRefIdeal := fun m g _ =>
  (θ_run Cert.NnUpRefIdeal.defs _ _).mono (fun r h => ⟨fun c => (h c).2, sem_eq_zero_of_no_sems (by decide) r.2⟩)
    (Cert.NnUpRefIdeal.Value.run (F := Ideal) m g)

variable (m : (ℓ : Loc nD τ sig) → Buf (Elt Ideal) ℓ)

/-- The scratch after the first point of a tile. -/
theorem first (c : Dev nD) (t : Fin cfg0.N) (h : t.val % 2 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 2 = 0) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h (by omega)]; dsimp only; unfold sout0_B_0
  rw [View.read_writes_junk_eq_canon]
  refine (View.canon_cons_unit_zero (by decide) _ _ _).trans ?_
  exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 2 = 1) :
    (outsAt0 m c t.val t.isLt).1 = (outsAt0 m c t.val t.isLt).2 := by
  rw [next m c t (by omega), outsAt0_B m c t (by omega) h]; dsimp only; unfold out0_B_2
  rw [View.read_writes_junk_eq_canon]
  refine (View.canon_cons_unit_zero (by decide) _ _ _).trans ?_
  refine (View.readCov_unit_zero _ Products.off2 _ _).trans ?_
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 2 / 8 ∧ win0_0.index t (1 : Fin 2) = t.val % 2
    ∧ win0_1.index t (0 : Fin 3) = t.val / 2 % 8 / 2 ∧ win0_1.index t (1 : Fin 3) = t.val % 2
    ∧ win0_1.index t (2 : Fin 3) = t.val / 2 % 8 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 2 + 1) * 1024), Products.at2 (V m c main_arg0) (n / 2 / 8 * 1024 + (j 0).val) k
      * Products.at3 (V m c main_arg1) (n / 2 % 8 / 2) k (n / 2 % 8 % 2 * 1024 + (j 1).val) :=
  Products.walk (A := S1024x1024.Idx) (B := S1x1024x1024.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 k (j 1))
    (fun q (j : S1024x1024.Idx) k => Products.at2 (V m c main_arg0) (q / 8 * 1024 + (j 0).val) k)
    (fun q (j : S1024x1024.Idx) k => Products.at3 (V m c main_arg1) (q % 8 / 2) k (q % 8 % 2 * 1024 + (j 1).val))
    (fun _ => Products.zero_word) (Products.plain _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 k (j 1)))
      (Products.place_unit (places t).2.2.1) (Products.place (places t).2.2.2.1) (Products.place (places t).2.2.2.2)) n h j

/-- The array after the run is the product. -/
theorem final (c : Dev nD) : G2 m c = Products.nn 8192 (V m c main_arg0) (V m c main_arg1) := by
  funext i
  have h0 : (i 0).val < 8192 := (i 0).isLt
  have h1 : (i 1).val < 8192 := (i 1).isLt
  have e : pt2Of i = 2 * (8 * ((i 0).val / 1024) + (i 1).val / 1024) + 1 := by unfold pt2Of run2Of; omega
  have hp : pt2Of i < cfg0.N := by rw [e, show cfg0.N = 128 from N_0]; omega
  have hq : pt2Of i % 2 = 1 := by rw [e]; omega
  have hr : pt2Of i / 2 / 8 * 1024 + (i 0).val % 1024 = (i 0).val := by rw [e]; omega
  have hb : pt2Of i / 2 % 8 / 2 = (i 1).val / 2048 := by rw [e]; omega
  have hc : pt2Of i / 2 % 8 % 2 * 1024 + (i 1).val % 1024 = (i 1).val % 2048 := by rw [e]; omega
  unfold G2
  rw [dif_pos hp, ← outsAt0_sweep m c _ hp, last m c ⟨pt2Of i, hp⟩ hq]
  refine (state m c (pt2Of i) hp _).trans ?_
  rw [hq]
  refine Finset.sum_congr rfl fun k _ => congrArg₂ _ (congrArg (Products.at2 (V m c main_arg0) · k) hr) ?_
  exact congrArg₂ (Products.at3 (V m c main_arg1) · k ·) hb hc

theorem value : Cert.algebraic_NnUpIdeal_NnUpRefIdeal := fun m g m' g' _ hm =>
  ⟨_, (θ_run Cert.NnUpIdeal.defs _ _).mono (fun _ h c => ⟨(h c).1.trans (final m c), (h c).2⟩) (run m g),
    (θ_run Cert.NnUpRefIdeal.defs _ _).mono (fun _ h c => ⟨(h c).1.trans
      ((Products.nn_reference (by decide) rfl _ rfl _ _ _ _ _).trans (congrArg₂ (Products.nn 8192) (hm c).1 (hm c).2)), (h c).2⟩)
      (Cert.NnUpRefIdeal.Value.run m' g')⟩

end Cert.NnUpProof

namespace Cert.NnDownProof

open Cert.NnDownIdeal Cert.NnDownIdeal.Gen Cert.NnDownIdeal.Value

theorem frame_bits : Cert.quiescent_NnDown := fun m g _ => Cert.NnDown.Gen.frame m g

theorem frame_ideal : Cert.quiescent_NnDownIdeal := fun m g _ => Cert.NnDownIdeal.Gen.frame m g

theorem frame_ref : Cert.quiescent_NnDownRefIdeal := fun m g _ =>
  (θ_run Cert.NnDownRefIdeal.defs _ _).mono (fun r h => ⟨fun c => (h c).2, sem_eq_zero_of_no_sems (by decide) r.2⟩)
    (Cert.NnDownRefIdeal.Value.run (F := Ideal) m g)

variable (m : (ℓ : Loc nD τ sig) → Buf (Elt Ideal) ℓ)

/-- The scratch after the first point of a tile. -/
theorem first (c : Dev nD) (t : Fin cfg0.N) (h : t.val % 8 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 8 = 7
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 8 = 7) :
    (outsAt0 m c t.val t.isLt).1 = (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine (View.readCov_unit_zero _ Products.off2 _ _).trans ?_
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 8 / 2 ∧ win0_0.index t (1 : Fin 2) = t.val % 8
    ∧ win0_1.index t (0 : Fin 3) = t.val / 8 % 2 / 2 ∧ win0_1.index t (1 : Fin 3) = t.val % 8
    ∧ win0_1.index t (2 : Fin 3) = t.val / 8 % 2 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 8 + 1) * 1024), Products.at2 (V m c main_arg0) (n / 8 / 2 * 1024 + (j 0).val) k
      * Products.at3 (V m c main_arg1) (n / 8 % 2 / 2) k (n / 8 % 2 % 2 * 1024 + (j 1).val) :=
  Products.walk (A := S1024x1024.Idx) (B := S1x1024x1024.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 k (j 1))
    (fun q (j : S1024x1024.Idx) k => Products.at2 (V m c main_arg0) (q / 2 * 1024 + (j 0).val) k)
    (fun q (j : S1024x1024.Idx) k => Products.at3 (V m c main_arg1) (q % 2 / 2) k (q % 2 % 2 * 1024 + (j 1).val))
    (fun _ => Products.zero_word) (Products.plain _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 k (j 1)))
      (Products.place_unit (places t).2.2.1) (Products.place (places t).2.2.2.1) (Products.place (places t).2.2.2.2)) n h j

/-- The array after the run is the product. -/
theorem final (c : Dev nD) : G2 m c = Products.nn 2048 (V m c main_arg0) (V m c main_arg1) := by
  funext i
  have h0 : (i 0).val < 8192 := (i 0).isLt
  have h1 : (i 1).val < 2048 := (i 1).isLt
  have e : pt2Of i = 8 * (2 * ((i 0).val / 1024) + (i 1).val / 1024) + 7 := by unfold pt2Of run2Of; omega
  have hp : pt2Of i < cfg0.N := by rw [e, show cfg0.N = 128 from N_0]; omega
  have hq : pt2Of i % 8 = 7 := by rw [e]; omega
  have hr : pt2Of i / 8 / 2 * 1024 + (i 0).val % 1024 = (i 0).val := by rw [e]; omega
  have hb : pt2Of i / 8 % 2 / 2 = (i 1).val / 2048 := by rw [e]; omega
  have hc : pt2Of i / 8 % 2 % 2 * 1024 + (i 1).val % 1024 = (i 1).val % 2048 := by rw [e]; omega
  unfold G2
  rw [dif_pos hp, ← outsAt0_sweep m c _ hp, last m c ⟨pt2Of i, hp⟩ hq]
  refine (state m c (pt2Of i) hp _).trans ?_
  rw [hq]
  refine Finset.sum_congr rfl fun k _ => congrArg₂ _ (congrArg (Products.at2 (V m c main_arg0) · k) hr) ?_
  exact congrArg₂ (Products.at3 (V m c main_arg1) · k ·) hb hc

theorem value : Cert.algebraic_NnDownIdeal_NnDownRefIdeal := fun m g m' g' _ hm =>
  ⟨_, (θ_run Cert.NnDownIdeal.defs _ _).mono (fun _ h c => ⟨(h c).1.trans (final m c), (h c).2⟩) (run m g),
    (θ_run Cert.NnDownRefIdeal.defs _ _).mono (fun _ h c => ⟨(h c).1.trans
      ((Products.nn_reference (by decide) rfl _ rfl _ _ _ _ _).trans (congrArg₂ (Products.nn 2048) (hm c).1 (hm c).2)), (h c).2⟩)
      (Cert.NnDownRefIdeal.Value.run m' g')⟩

end Cert.NnDownProof

end
-- ==== Proof.NtClaims.lean ====
/-
  The products of an array of cotangents by a transposed gathered weight, in the backward pass. Each kernel's run is read
  tile by tile, and compared with the reference's one product.
-/
module

public import proofs.«01_k».proof.Defs
public import proofs.«01_k».proof.Proof.Products
public import proofs.«01_k».proof.Proof.Gen.NtIn.Frame
public import proofs.«01_k».proof.Proof.Gen.NtInIdeal.Value
public import proofs.«01_k».proof.Proof.Gen.NtInRefIdeal.Run
public import proofs.«01_k».proof.Proof.Gen.NtSquare.Frame
public import proofs.«01_k».proof.Proof.Gen.NtSquareIdeal.Value
public import proofs.«01_k».proof.Proof.Gen.NtSquareRefIdeal.Run
public import proofs.«01_k».proof.Proof.Gen.NtQkv.Frame
public import proofs.«01_k».proof.Proof.Gen.NtQkvIdeal.Value
public import proofs.«01_k».proof.Proof.Gen.NtQkvRefIdeal.Run
public import proofs.«01_k».proof.Proof.Gen.NtUp.Frame
public import proofs.«01_k».proof.Proof.Gen.NtUpIdeal.Value
public import proofs.«01_k».proof.Proof.Gen.NtUpRefIdeal.Run
public import proofs.«01_k».proof.Proof.Gen.NtDown.Frame
public import proofs.«01_k».proof.Proof.Gen.NtDownIdeal.Value
public import proofs.«01_k».proof.Proof.Gen.NtDownRefIdeal.Run
public import proofs.«01_k».proof.Proof.Gen.NtAttn.Frame
public import proofs.«01_k».proof.Proof.Gen.NtAttnIdeal.Value
public import proofs.«01_k».proof.Proof.Gen.NtAttnRefIdeal.Run

@[expose] public section

set_option Elab.async false

noncomputable section

open Idealize.ShloMosaic
open Idealize.ShloMosaic.TcCoe
open Idealize.SL.Sem

namespace Cert.NtInProof

open Cert.NtInIdeal Cert.NtInIdeal.Gen Cert.NtInIdeal.Value

theorem frame_bits : Cert.quiescent_NtIn := fun m g _ => Cert.NtIn.Gen.frame m g

theorem frame_ideal : Cert.quiescent_NtInIdeal := fun m g _ => Cert.NtInIdeal.Gen.frame m g

theorem frame_ref : Cert.quiescent_NtInRefIdeal := fun m g _ =>
  (θ_run Cert.NtInRefIdeal.defs _ _).mono (fun r h => ⟨fun c => (h c).2, sem_eq_zero_of_no_sems (by decide) r.2⟩)
    (Cert.NtInRefIdeal.Value.run (F := Ideal) m g)

variable (m : (ℓ : Loc nD τ sig) → Buf (Elt Ideal) ℓ)

/-- The scratch after the first point of a tile. -/
theorem first (c : Dev nD) (t : Fin cfg0.N) (h : t.val % 4 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 4 = 3
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 4 = 3) :
    (outsAt0 m c t.val t.isLt).1 = (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine (View.readCov_unit_zero _ Products.off2 _ _).trans ?_
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 4 / 2 ∧ win0_0.index t (1 : Fin 2) = t.val % 4
    ∧ win0_1.index t (0 : Fin 3) = t.val % 4 / 1 ∧ win0_1.index t (1 : Fin 3) = t.val / 4 % 2
    ∧ win0_1.index t (2 : Fin 3) = t.val % 4 % 1 := by decide +kernel

/-- The scratch after a point: the sum over the tiles up to it. -/
theorem state (c : Dev nD) (n : ℕ) (h : n < cfg0.N) (j : S1024x1024.Idx) :
    (outsAt0 m c n h).2 j = ∑ k ∈ Finset.range ((n % 4 + 1) * 1024), Products.at2 (V m c main_arg0) (n / 4 / 2 * 1024 + (j 0).val) k
      * Products.at3 (V m c main_arg1) (k / 1024) (n / 4 % 2 * 1024 + (j 1).val) (k % 1024) :=
  Products.walk (A := S1024x1024.Idx) (B := S1x1024x1024.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 (j 1) k)
    (fun q (j : S1024x1024.Idx) k => Products.at2 (V m c main_arg0) (q / 2 * 1024 + (j 0).val) k)
    (fun q (j : S1024x1024.Idx) k => Products.at3 (V m c main_arg1) (k / 1024) (q % 2 * 1024 + (j 1).val) (k % 1024))
    (fun _ => Products.zero_word) (Products.turned _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 (j 1) k))
      (Products.place_unit ((places t).2.2.1.trans (Products.column (T := 1024) (by decide) (by decide) k).1)) (Products.place (places t).2.2.2.1)
      ((Products.place (places t).2.2.2.2).trans (Products.column (r := 1) (T := 1024) (by decide) (by decide) k).2)) n h j

/-- The array after the run is the product. -/
theorem final (c : Dev nD) : G2 m c = Products.nt (V m c main_arg0) (V m c main_arg1) := by
  funext i
  have h0 : (i 0).val < 8192 := (i 0).isLt
  have h1 : (i 1).val < 2048 := (i 1).isLt
  have e : pt2Of i = 4 * (2 * ((i 0).val / 1024) + (i 1).val / 1024) + 3 := by unfold pt2Of run2Of; omega
  have hp : pt2Of i < cfg0.N := by rw [e, show cfg0.N = 64 from N_0]; omega
  have hq : pt2Of i % 4 = 3 := by rw [e]; omega
  have hr : pt2Of i / 4 / 2 * 1024 + (i 0).val % 1024 = (i 0).val := by rw [e]; omega
  have hc : pt2Of i / 4 % 2 * 1024 + (i 1).val % 1024 = (i 1).val := by rw [e]; omega
  unfold G2
  rw [dif_pos hp, ← outsAt0_sweep m c _ hp, last m c ⟨pt2Of i, hp⟩ hq]
  refine (state m c (pt2Of i) hp _).trans ?_
  rw [hq]
  exact Finset.sum_congr rfl fun k _ => congrArg₂ _ (congrArg (Products.at2 (V m c main_arg0) · k) hr)
    (congrArg (Products.at3 (V m c main_arg1) (k / 1024) · (k % 1024)) hc)

theorem value : Cert.algebraic_NtInIdeal_NtInRefIdeal := fun m g m' g' _ hm =>
  ⟨_, (θ_run Cert.NtInIdeal.defs _ _).mono (fun _ h c => ⟨(h c).1.trans (final m c), (h c).2⟩) (run m g),
    (θ_run Cert.NtInRefIdeal.defs _ _).mono (fun _ h c => ⟨(h c).1.trans
      ((Products.nt_reference (M := 8192) (G := 4) (K := 2048) (N := 1024) (D := 4096) (by decide) rfl _ rfl _ _ _ _ _ _).trans (congrArg₂ Products.nt (hm c).1 (hm c).2)), (h c).2⟩)
      (Cert.NtInRefIdeal.Value.run m' g')⟩

end Cert.NtInProof

namespace Cert.NtSquareProof

open Cert.NtSquareIdeal Cert.NtSquareIdeal.Gen Cert.NtSquareIdeal.Value

theorem frame_bits : Cert.quiescent_NtSquare := fun m g _ => Cert.NtSquare.Gen.frame m g

theorem frame_ideal : Cert.quiescent_NtSquareIdeal := fun m g _ => Cert.NtSquareIdeal.Gen.frame m g

theorem frame_ref : Cert.quiescent_NtSquareRefIdeal := fun m g _ =>
  (θ_run Cert.NtSquareRefIdeal.defs _ _).mono (fun r h => ⟨fun c => (h c).2, sem_eq_zero_of_no_sems (by decide) r.2⟩)
    (Cert.NtSquareRefIdeal.Value.run (F := Ideal) m g)

variable (m : (ℓ : Loc nD τ sig) → Buf (Elt Ideal) ℓ)

/-- The scratch after the first point of a tile. -/
theorem first (c : Dev nD) (t : Fin cfg0.N) (h : t.val % 2 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 2 = 0) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h (by omega)]; dsimp only; unfold sout0_B_0
  rw [View.read_writes_junk_eq_canon]
  refine (View.canon_cons_unit_zero (by decide) _ _ _).trans ?_
  exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 2 = 1) :
    (outsAt0 m c t.val t.isLt).1 = (outsAt0 m c t.val t.isLt).2 := by
  rw [next m c t (by omega), outsAt0_B m c t (by omega) h]; dsimp only; unfold out0_B_2
  rw [View.read_writes_junk_eq_canon]
  refine (View.canon_cons_unit_zero (by decide) _ _ _).trans ?_
  refine (View.readCov_unit_zero _ Products.off2 _ _).trans ?_
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 2 / 2 ∧ win0_0.index t (1 : Fin 2) = t.val % 2
    ∧ win0_1.index t (0 : Fin 3) = t.val % 2 / 2 ∧ win0_1.index t (1 : Fin 3) = t.val / 2 % 2
    ∧ win0_1.index t (2 : Fin 3) = t.val % 2 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 2 + 1) * 1024), Products.at2 (V m c main_arg0) (n / 2 / 2 * 1024 + (j 0).val) k
      * Products.at3 (V m c main_arg1) (k / 2048) (n / 2 % 2 * 1024 + (j 1).val) (k % 2048) :=
  Products.walk (A := S1024x1024.Idx) (B := S1x1024x1024.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 (j 1) k)
    (fun q (j : S1024x1024.Idx) k => Products.at2 (V m c main_arg0) (q / 2 * 1024 + (j 0).val) k)
    (fun q (j : S1024x1024.Idx) k => Products.at3 (V m c main_arg1) (k / 2048) (q % 2 * 1024 + (j 1).val) (k % 2048))
    (fun _ => Products.zero_word) (Products.turned _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 (j 1) k))
      (Products.place_unit ((places t).2.2.1.trans (Products.column (T := 1024) (by decide) (by decide) k).1)) (Products.place (places t).2.2.2.1)
      ((Products.place (places t).2.2.2.2).trans (Products.column (r := 2) (T := 1024) (by decide) (by decide) k).2)) n h j

/-- The array after the run is the product. -/
theorem final (c : Dev nD) : G2 m c = Products.nt (V m c main_arg0) (V m c main_arg1) := by
  funext i
  have h0 : (i 0).val < 8192 := (i 0).isLt
  have h1 : (i 1).val < 2048 := (i 1).isLt
  have e : pt2Of i = 2 * (2 * ((i 0).val / 1024) + (i 1).val / 1024) + 1 := by unfold pt2Of run2Of; omega
  have hp : pt2Of i < cfg0.N := by rw [e, show cfg0.N = 32 from N_0]; omega
  have hq : pt2Of i % 2 = 1 := by rw [e]; omega
  have hr : pt2Of i / 2 / 2 * 1024 + (i 0).val % 1024 = (i 0).val := by rw [e]; omega
  have hc : pt2Of i / 2 % 2 * 1024 + (i 1).val % 1024 = (i 1).val := by rw [e]; omega
  unfold G2
  rw [dif_pos hp, ← outsAt0_sweep m c _ hp, last m c ⟨pt2Of i, hp⟩ hq]
  refine (state m c (pt2Of i) hp _).trans ?_
  rw [hq]
  exact Finset.sum_congr rfl fun k _ => congrArg₂ _ (congrArg (Products.at2 (V m c main_arg0) · k) hr)
    (congrArg (Products.at3 (V m c main_arg1) (k / 2048) · (k % 2048)) hc)

theorem value : Cert.algebraic_NtSquareIdeal_NtSquareRefIdeal := fun m g m' g' _ hm =>
  ⟨_, (θ_run Cert.NtSquareIdeal.defs _ _).mono (fun _ h c => ⟨(h c).1.trans (final m c), (h c).2⟩) (run m g),
    (θ_run Cert.NtSquareRefIdeal.defs _ _).mono (fun _ h c => ⟨(h c).1.trans
      ((Products.nt_reference (M := 8192) (G := 1) (K := 2048) (N := 2048) (D := 2048) (by decide) rfl _ rfl _ _ _ _ _ _).trans (congrArg₂ Products.nt (hm c).1 (hm c).2)), (h c).2⟩)
      (Cert.NtSquareRefIdeal.Value.run m' g')⟩

end Cert.NtSquareProof

namespace Cert.NtQkvProof

open Cert.NtQkvIdeal Cert.NtQkvIdeal.Gen Cert.NtQkvIdeal.Value

theorem frame_bits : Cert.quiescent_NtQkv := fun m g _ => Cert.NtQkv.Gen.frame m g

theorem frame_ideal : Cert.quiescent_NtQkvIdeal := fun m g _ => Cert.NtQkvIdeal.Gen.frame m g

theorem frame_ref : Cert.quiescent_NtQkvRefIdeal := fun m g _ =>
  (θ_run Cert.NtQkvRefIdeal.defs _ _).mono (fun r h => ⟨fun c => (h c).2, sem_eq_zero_of_no_sems (by decide) r.2⟩)
    (Cert.NtQkvRefIdeal.Value.run (F := Ideal) m g)

variable (m : (ℓ : Loc nD τ sig) → Buf (Elt Ideal) ℓ)

/-- The scratch after the first point of a tile. -/
theorem first (c : Dev nD) (t : Fin cfg0.N) (h : t.val % 8 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 8 = 7
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 8 = 7) :
    (outsAt0 m c t.val t.isLt).1 = (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine (View.readCov_unit_zero _ Products.off2 _ _).trans ?_
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 8 / 2 ∧ win0_0.index t (1 : Fin 2) = t.val % 8
    ∧ win0_1.index t (0 : Fin 3) = t.val % 8 / 2 ∧ win0_1.index t (1 : Fin 3) = t.val / 8 % 2
    ∧ win0_1.index t (2 : Fin 3) = t.val % 8 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 8 + 1) * 768), Products.at2 (V m c main_arg0) (n / 8 / 2 * 1024 + (j 0).val) k
      * Products.at3 (V m c main_arg1) (k / 1536) (n / 8 % 2 * 1024 + (j 1).val) (k % 1536) :=
  Products.walk (A := S1024x768.Idx) (B := S1x1024x768.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 (j 1) k)
    (fun q (j : S1024x1024.Idx) k => Products.at2 (V m c main_arg0) (q / 2 * 1024 + (j 0).val) k)
    (fun q (j : S1024x1024.Idx) k => Products.at3 (V m c main_arg1) (k / 1536) (q % 2 * 1024 + (j 1).val) (k % 1536))
    (fun _ => Products.zero_word) (Products.turned _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 (j 1) k))
      (Products.place_unit ((places t).2.2.1.trans (Products.column (T := 768) (by decide) (by decide) k).1)) (Products.place (places t).2.2.2.1)
      ((Products.place (places t).2.2.2.2).trans (Products.column (r := 2) (T := 768) (by decide) (by decide) k).2)) n h j

/-- The array after the run is the product. -/
theorem final (c : Dev nD) : G2 m c = Products.nt (V m c main_arg0) (V m c main_arg1) := by
  funext i
  have h0 : (i 0).val < 8192 := (i 0).isLt
  have h1 : (i 1).val < 2048 := (i 1).isLt
  have e : pt2Of i = 8 * (2 * ((i 0).val / 1024) + (i 1).val / 1024) + 7 := by unfold pt2Of run2Of; omega
  have hp : pt2Of i < cfg0.N := by rw [e, show cfg0.N = 128 from N_0]; omega
  have hq : pt2Of i % 8 = 7 := by rw [e]; omega
  have hr : pt2Of i / 8 / 2 * 1024 + (i 0).val % 1024 = (i 0).val := by rw [e]; omega
  have hc : pt2Of i / 8 % 2 * 1024 + (i 1).val % 1024 = (i 1).val := by rw [e]; omega
  unfold G2
  rw [dif_pos hp, ← outsAt0_sweep m c _ hp, last m c ⟨pt2Of i, hp⟩ hq]
  refine (state m c (pt2Of i) hp _).trans ?_
  rw [hq]
  exact Finset.sum_congr rfl fun k _ => congrArg₂ _ (congrArg (Products.at2 (V m c main_arg0) · k) hr)
    (congrArg (Products.at3 (V m c main_arg1) (k / 1536) · (k % 1536)) hc)

theorem value : Cert.algebraic_NtQkvIdeal_NtQkvRefIdeal := fun m g m' g' _ hm =>
  ⟨_, (θ_run Cert.NtQkvIdeal.defs _ _).mono (fun _ h c => ⟨(h c).1.trans (final m c), (h c).2⟩) (run m g),
    (θ_run Cert.NtQkvRefIdeal.defs _ _).mono (fun _ h c => ⟨(h c).1.trans
      ((Products.nt_reference (M := 8192) (G := 4) (K := 2048) (N := 1536) (D := 6144) (by decide) rfl _ rfl _ _ _ _ _ _).trans (congrArg₂ Products.nt (hm c).1 (hm c).2)), (h c).2⟩)
      (Cert.NtQkvRefIdeal.Value.run m' g')⟩

end Cert.NtQkvProof

namespace Cert.NtUpProof

open Cert.NtUpIdeal Cert.NtUpIdeal.Gen Cert.NtUpIdeal.Value

theorem frame_bits : Cert.quiescent_NtUp := fun m g _ => Cert.NtUp.Gen.frame m g

theorem frame_ideal : Cert.quiescent_NtUpIdeal := fun m g _ => Cert.NtUpIdeal.Gen.frame m g

theorem frame_ref : Cert.quiescent_NtUpRefIdeal := fun m g _ =>
  (θ_run Cert.NtUpRefIdeal.defs _ _).mono (fun r h => ⟨fun c => (h c).2, sem_eq_zero_of_no_sems (by decide) r.2⟩)
    (Cert.NtUpRefIdeal.Value.run (F := Ideal) m g)

variable (m : (ℓ : Loc nD τ sig) → Buf (Elt Ideal) ℓ)

/-- The scratch after the first point of a tile. -/
theorem first (c : Dev nD) (t : Fin cfg0.N) (h : t.val % 8 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 8 = 7
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 8 = 7) :
    (outsAt0 m c t.val t.isLt).1 = (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine (View.readCov_unit_zero _ Products.off2 _ _).trans ?_
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 8 / 2 ∧ win0_0.index t (1 : Fin 2) = t.val % 8
    ∧ win0_1.index t (0 : Fin 3) = t.val % 8 / 2 ∧ win0_1.index t (1 : Fin 3) = t.val / 8 % 2
    ∧ win0_1.index t (2 : Fin 3) = t.val % 8 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 8 + 1) * 1024), Products.at2 (V m c main_arg0) (n / 8 / 2 * 1024 + (j 0).val) k
      * Products.at3 (V m c main_arg1) (k / 2048) (n / 8 % 2 * 1024 + (j 1).val) (k % 2048) :=
  Products.walk (A := S1024x1024.Idx) (B := S1x1024x1024.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 (j 1) k)
    (fun q (j : S1024x1024.Idx) k => Products.at2 (V m c main_arg0) (q / 2 * 1024 + (j 0).val) k)
    (fun q (j : S1024x1024.Idx) k => Products.at3 (V m c main_arg1) (k / 2048) (q % 2 * 1024 + (j 1).val) (k % 2048))
    (fun _ => Products.zero_word) (Products.turned _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 (j 1) k))
      (Products.place_unit ((places t).2.2.1.trans (Products.column (T := 1024) (by decide) (by decide) k).1)) (Products.place (places t).2.2.2.1)
      ((Products.place (places t).2.2.2.2).trans (Products.column (r := 2) (T := 1024) (by decide) (by decide) k).2)) n h j

/-- The array after the run is the product. -/
theorem final (c : Dev nD) : G2 m c = Products.nt (V m c main_arg0) (V m c main_arg1) := by
  funext i
  have h0 : (i 0).val < 8192 := (i 0).isLt
  have h1 : (i 1).val < 2048 := (i 1).isLt
  have e : pt2Of i = 8 * (2 * ((i 0).val / 1024) + (i 1).val / 1024) + 7 := by unfold pt2Of run2Of; omega
  have hp : pt2Of i < cfg0.N := by rw [e, show cfg0.N = 128 from N_0]; omega
  have hq : pt2Of i % 8 = 7 := by rw [e]; omega
  have hr : pt2Of i / 8 / 2 * 1024 + (i 0).val % 1024 = (i 0).val := by rw [e]; omega
  have hc : pt2Of i / 8 % 2 * 1024 + (i 1).val % 1024 = (i 1).val := by rw [e]; omega
  unfold G2
  rw [dif_pos hp, ← outsAt0_sweep m c _ hp, last m c ⟨pt2Of i, hp⟩ hq]
  refine (state m c (pt2Of i) hp _).trans ?_
  rw [hq]
  exact Finset.sum_congr rfl fun k _ => congrArg₂ _ (congrArg (Products.at2 (V m c main_arg0) · k) hr)
    (congrArg (Products.at3 (V m c main_arg1) (k / 2048) · (k % 2048)) hc)

theorem value : Cert.algebraic_NtUpIdeal_NtUpRefIdeal := fun m g m' g' _ hm =>
  ⟨_, (θ_run Cert.NtUpIdeal.defs _ _).mono (fun _ h c => ⟨(h c).1.trans (final m c), (h c).2⟩) (run m g),
    (θ_run Cert.NtUpRefIdeal.defs _ _).mono (fun _ h c => ⟨(h c).1.trans
      ((Products.nt_reference (M := 8192) (G := 4) (K := 2048) (N := 2048) (D := 8192) (by decide) rfl _ rfl _ _ _ _ _ _).trans (congrArg₂ Products.nt (hm c).1 (hm c).2)), (h c).2⟩)
      (Cert.NtUpRefIdeal.Value.run m' g')⟩

end Cert.NtUpProof

namespace Cert.NtDownProof

open Cert.NtDownIdeal Cert.NtDownIdeal.Gen Cert.NtDownIdeal.Value

theorem frame_bits : Cert.quiescent_NtDown := fun m g _ => Cert.NtDown.Gen.frame m g

theorem frame_ideal : Cert.quiescent_NtDownIdeal := fun m g _ => Cert.NtDownIdeal.Gen.frame m g

theorem frame_ref : Cert.quiescent_NtDownRefIdeal := fun m g _ =>
  (θ_run Cert.NtDownRefIdeal.defs _ _).mono (fun r h => ⟨fun c => (h c).2, sem_eq_zero_of_no_sems (by decide) r.2⟩)
    (Cert.NtDownRefIdeal.Value.run (F := Ideal) m g)

variable (m : (ℓ : Loc nD τ sig) → Buf (Elt Ideal) ℓ)

/-- The scratch after the first point of a tile. -/
theorem first (c : Dev nD) (t : Fin cfg0.N) (h : t.val % 2 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 2 = 0) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h (by omega)]; dsimp only; unfold sout0_B_0
  rw [View.read_writes_junk_eq_canon]
  refine (View.canon_cons_unit_zero (by decide) _ _ _).trans ?_
  exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 2 = 1) :
    (outsAt0 m c t.val t.isLt).1 = (outsAt0 m c t.val t.isLt).2 := by
  rw [next m c t (by omega), outsAt0_B m c t (by omega) h]; dsimp only; unfold out0_B_2
  rw [View.read_writes_junk_eq_canon]
  refine (View.canon_cons_unit_zero (by decide) _ _ _).trans ?_
  refine (View.readCov_unit_zero _ Products.off2 _ _).trans ?_
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 2 / 8 ∧ win0_0.index t (1 : Fin 2) = t.val % 2
    ∧ win0_1.index t (0 : Fin 3) = t.val % 2 / 2 ∧ win0_1.index t (1 : Fin 3) = t.val / 2 % 8
    ∧ win0_1.index t (2 : Fin 3) = t.val % 2 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 2 + 1) * 1024), Products.at2 (V m c main_arg0) (n / 2 / 8 * 1024 + (j 0).val) k
      * Products.at3 (V m c main_arg1) (k / 2048) (n / 2 % 8 * 1024 + (j 1).val) (k % 2048) :=
  Products.walk (A := S1024x1024.Idx) (B := S1x1024x1024.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 (j 1) k)
    (fun q (j : S1024x1024.Idx) k => Products.at2 (V m c main_arg0) (q / 8 * 1024 + (j 0).val) k)
    (fun q (j : S1024x1024.Idx) k => Products.at3 (V m c main_arg1) (k / 2048) (q % 8 * 1024 + (j 1).val) (k % 2048))
    (fun _ => Products.zero_word) (Products.turned _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 (j 1) k))
      (Products.place_unit ((places t).2.2.1.trans (Products.column (T := 1024) (by decide) (by decide) k).1)) (Products.place (places t).2.2.2.1)
      ((Products.place (places t).2.2.2.2).trans (Products.column (r := 2) (T := 1024) (by decide) (by decide) k).2)) n h j

/-- The array after the run is the product. -/
theorem final (c : Dev nD) : G2 m c = Products.nt (V m c main_arg0) (V m c main_arg1) := by
  funext i
  have h0 : (i 0).val < 8192 := (i 0).isLt
  have h1 : (i 1).val < 8192 := (i 1).isLt
  have e : pt2Of i = 2 * (8 * ((i 0).val / 1024) + (i 1).val / 1024) + 1 := by unfold pt2Of run2Of; omega
  have hp : pt2Of i < cfg0.N := by rw [e, show cfg0.N = 128 from N_0]; omega
  have hq : pt2Of i % 2 = 1 := by rw [e]; omega
  have hr : pt2Of i / 2 / 8 * 1024 + (i 0).val % 1024 = (i 0).val := by rw [e]; omega
  have hc : pt2Of i / 2 % 8 * 1024 + (i 1).val % 1024 = (i 1).val := by rw [e]; omega
  unfold G2
  rw [dif_pos hp, ← outsAt0_sweep m c _ hp, last m c ⟨pt2Of i, hp⟩ hq]
  refine (state m c (pt2Of i) hp _).trans ?_
  rw [hq]
  exact Finset.sum_congr rfl fun k _ => congrArg₂ _ (congrArg (Products.at2 (V m c main_arg0) · k) hr)
    (congrArg (Products.at3 (V m c main_arg1) (k / 2048) · (k % 2048)) hc)

theorem value : Cert.algebraic_NtDownIdeal_NtDownRefIdeal := fun m g m' g' _ hm =>
  ⟨_, (θ_run Cert.NtDownIdeal.defs _ _).mono (fun _ h c => ⟨(h c).1.trans (final m c), (h c).2⟩) (run m g),
    (θ_run Cert.NtDownRefIdeal.defs _ _).mono (fun _ h c => ⟨(h c).1.trans
      ((Products.nt_reference (M := 8192) (G := 1) (K := 8192) (N := 2048) (D := 2048) (by decide) rfl _ rfl _ _ _ _ _ _).trans (congrArg₂ Products.nt (hm c).1 (hm c).2)), (h c).2⟩)
      (Cert.NtDownRefIdeal.Value.run m' g')⟩

end Cert.NtDownProof

namespace Cert.NtAttnProof

open Cert.NtAttnIdeal Cert.NtAttnIdeal.Gen Cert.NtAttnIdeal.Value

theorem frame_bits : Cert.quiescent_NtAttn := fun m g _ => Cert.NtAttn.Gen.frame m g

theorem frame_ideal : Cert.quiescent_NtAttnIdeal := fun m g _ => Cert.NtAttnIdeal.Gen.frame m g

theorem frame_ref : Cert.quiescent_NtAttnRefIdeal := fun m g _ =>
  (θ_run Cert.NtAttnRefIdeal.defs _ _).mono (fun r h => ⟨fun c => (h c).2, sem_eq_zero_of_no_sems (by decide) r.2⟩)
    (Cert.NtAttnRefIdeal.Value.run (F := Ideal) m g)

variable (m : (ℓ : Loc nD τ sig) → Buf (Elt Ideal) ℓ)

/-- The scratch after the first point of a tile. -/
theorem first (c : Dev nD) (t : Fin cfg0.N) (h : t.val % 2 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off3 _ _)

/-- The scratch after a further point of a tile. -/
theorem next (c : Dev nD) (t : Fin cfg0.N) (h : ¬t.val % 2 = 0) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h (by omega)]; dsimp only; unfold sout0_B_0
  rw [View.read_writes_junk_eq_canon]
  refine (View.canon_cons_unit_zero (by decide) _ _ _).trans ?_
  exact congr (congrArg₂ k0_pay2 (Products.loaded _ Products.off2 _ _) (Products.loaded _ Products.off2 _ _)) (Products.loaded _ Products.off3 _ _)

/-- What the last point of a tile writes back. -/
theorem last (c : Dev nD) (t : Fin cfg0.N) (h : t.val % 2 = 1) :
    (outsAt0 m c t.val t.isLt).1 = k0_pay3 (outsAt0 m c t.val t.isLt).2 := by
  rw [next m c t (by omega), outsAt0_B m c t (by omega) h]; dsimp only; unfold out0_B_2
  rw [View.read_writes_junk_eq_canon]
  refine (View.canon_cons_unit_zero (by decide) _ _ _).trans ?_
  refine congrArg k0_pay3 ((View.readCov_unit_zero _ Products.off2 _ _).trans ?_)
  exact congr (congrArg₂ k0_pay2 (Products.loaded _ Products.off2 _ _) (Products.loaded _ Products.off2 _ _)) (Products.loaded _ Products.off3 _ _)

/-- Where the blocks of a point lie. -/
theorem places : ∀ t : Fin cfg0.N, win0_0.index t (0 : Fin 2) = t.val / 2 / 2 ∧ win0_0.index t (1 : Fin 2) = t.val % 2
    ∧ win0_1.index t (0 : Fin 3) = t.val % 2 / 2 ∧ win0_1.index t (1 : Fin 3) = t.val / 2 % 2
    ∧ win0_1.index t (2 : Fin 3) = t.val % 2 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 2 + 1) * 1024), Products.at2 (V m c main_arg0) (n / 2 / 2 * 1024 + (j 0).val) k
      * Products.at3 (V m c main_arg1) (k / 2048) (n / 2 % 2 * 1024 + (j 1).val) (k % 2048) :=
  Products.walk (A := S1024x1024.Idx) (B := S1x1024x1024.Idx) (by decide) (fun n h => (outsAt0 m c n h).2) (k0_pay1 (F := Ideal))
    (k0_pay2 (F := Ideal)) (iblk m c 0) (iblk m c 1) (fun j k => ValueIdx.ix2 (j 0) k) (fun j k => ValueIdx.ix3 0 (j 1) k)
    (fun q (j : S1024x1024.Idx) k => Products.at2 (V m c main_arg0) (q / 2 * 1024 + (j 0).val) k)
    (fun q (j : S1024x1024.Idx) k => Products.at3 (V m c main_arg1) (k / 2048) (q % 2 * 1024 + (j 1).val) (k % 2048))
    (fun _ => Products.zero_word) (Products.turned _ rfl _ _) (first m c) (next m c)
    (fun t j k => Products.at2_eq (V m c main_arg0) (((cfg0.win 0).blk t).view.emb (ValueIdx.ix2 (j 0) k))
      (Products.place (places t).1) (Products.place (places t).2.1))
    (fun t j k => Products.at3_eq (V m c main_arg1) (((cfg0.win 1).blk t).view.emb (ValueIdx.ix3 0 (j 1) k))
      (Products.place_unit ((places t).2.2.1.trans (Products.column (T := 1024) (by decide) (by decide) k).1)) (Products.place (places t).2.2.2.1)
      ((Products.place (places t).2.2.2.2).trans (Products.column (r := 2) (T := 1024) (by decide) (by decide) k).2)) n h j

/-- The array after the run is the product. -/
theorem final (c : Dev nD) : G2 m c = Products.nt (V m c main_arg0) (V m c main_arg1) := by
  funext i
  have h0 : (i 0).val < 8192 := (i 0).isLt
  have h1 : (i 1).val < 2048 := (i 1).isLt
  have e : pt2Of i = 2 * (2 * ((i 0).val / 1024) + (i 1).val / 1024) + 1 := by unfold pt2Of run2Of; omega
  have hp : pt2Of i < cfg0.N := by rw [e, show cfg0.N = 32 from N_0]; omega
  have hq : pt2Of i % 2 = 1 := by rw [e]; omega
  have hr : pt2Of i / 2 / 2 * 1024 + (i 0).val % 1024 = (i 0).val := by rw [e]; omega
  have hc : pt2Of i / 2 % 2 * 1024 + (i 1).val % 1024 = (i 1).val := by rw [e]; omega
  unfold G2
  rw [dif_pos hp, ← outsAt0_sweep m c _ hp, last m c ⟨pt2Of i, hp⟩ hq]
  refine (state m c (pt2Of i) hp _).trans ?_
  rw [hq]
  exact Finset.sum_congr rfl fun k _ => congrArg₂ _ (congrArg (Products.at2 (V m c main_arg0) · k) hr)
    (congrArg (Products.at3 (V m c main_arg1) (k / 2048) · (k % 2048)) hc)

theorem value : Cert.algebraic_NtAttnIdeal_NtAttnRefIdeal := fun m g m' g' _ hm =>
  ⟨_, (θ_run Cert.NtAttnIdeal.defs _ _).mono (fun _ h c => ⟨(h c).1.trans (final m c), (h c).2⟩) (run m g),
    (θ_run Cert.NtAttnRefIdeal.defs _ _).mono (fun _ h c => ⟨(h c).1.trans
      ((Products.nt_reference (M := 8192) (G := 1) (K := 2048) (N := 2048) (D := 2048) (by decide) rfl _ rfl _ _ _ _ _ _).trans (congrArg₂ Products.nt (hm c).1 (hm c).2)), (h c).2⟩)
      (Cert.NtAttnRefIdeal.Value.run m' g')⟩

end Cert.NtAttnProof

end
-- ==== Proof.TnClaims.lean ====
/-
  The products of a transposed array of activations by an array of cotangents: the gradients of the eight large weights,
  before the chips exchange them. Each kernel's run is read tile by tile, and compared with the reference's one product.
-/
module

public import proofs.«01_k».proof.Defs
public import proofs.«01_k».proof.Proof.Products
public import proofs.«01_k».proof.Proof.Gen.TnIn.Frame
public import proofs.«01_k».proof.Proof.Gen.TnInIdeal.Value
public import proofs.«01_k».proof.Proof.Gen.TnInRefIdeal.Run
public import proofs.«01_k».proof.Proof.Gen.TnSquare.Frame
public import proofs.«01_k».proof.Proof.Gen.TnSquareIdeal.Value
public import proofs.«01_k».proof.Proof.Gen.TnSquareRefIdeal.Run
public import proofs.«01_k».proof.Proof.Gen.TnQkv.Frame
public import proofs.«01_k».proof.Proof.Gen.TnQkvIdeal.Value
public import proofs.«01_k».proof.Proof.Gen.TnQkvRefIdeal.Run
public import proofs.«01_k».proof.Proof.Gen.TnUp.Frame
public import proofs.«01_k».proof.Proof.Gen.TnUpIdeal.Value
public import proofs.«01_k».proof.Proof.Gen.TnUpRefIdeal.Run
public import proofs.«01_k».proof.Proof.Gen.TnDown.Frame
public import proofs.«01_k».proof.Proof.Gen.TnDownIdeal.Value
public import proofs.«01_k».proof.Proof.Gen.TnDownRefIdeal.Run
public import proofs.«01_k».proof.Proof.Gen.TnProj.Frame
public import proofs.«01_k».proof.Proof.Gen.TnProjIdeal.Value
public import proofs.«01_k».proof.Proof.Gen.TnProjRefIdeal.Run

@[expose] public section

set_option Elab.async false

noncomputable section

open Idealize.ShloMosaic
open Idealize.ShloMosaic.TcCoe
open Idealize.SL.Sem

namespace Cert.TnInProof

open Cert.TnInIdeal Cert.TnInIdeal.Gen Cert.TnInIdeal.Value

theorem frame_bits : Cert.quiescent_TnIn := fun m g _ => Cert.TnIn.Gen.frame m g

theorem frame_ideal : Cert.quiescent_TnInIdeal := fun m g _ => Cert.TnInIdeal.Gen.frame m g

theorem frame_ref : Cert.quiescent_TnInRefIdeal := fun m g _ =>
  (θ_run Cert.TnInRefIdeal.defs _ _).mono (fun r h => ⟨fun c => (h c).2, sem_eq_zero_of_no_sems (by decide) r.2⟩)
    (Cert.TnInRefIdeal.Value.run (F := Ideal) m g)

variable (m : (ℓ : Loc nD τ sig) → Buf (Elt Ideal) ℓ)

/-- The scratch after the first point of a tile. -/
theorem first (c : Dev nD) (t : Fin cfg0.N) (h : t.val % 8 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off2 _ _)

/-- The scratch after a further point of a tile. -/
theorem next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 8 = 7
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off2 _ _)

/-- What the last point of a tile writes back. -/
theorem last (c : Dev nD) (t : Fin cfg0.N) (h : t.val % 8 = 7) :
    (outsAt0 m c t.val t.isLt).1 = k0_pay3 (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine congrArg k0_pay3 ((View.readCov_unit_zero _ Products.off2 _ _).trans ?_)
  exact congr (congrArg₂ k0_pay2 (Products.loaded _ Products.off2 _ _) (Products.loaded _ Products.off2 _ _)) (Products.loaded _ Products.off2 _ _)

/-- Where the blocks of a point lie. -/
theorem places : ∀ t : Fin cfg0.N, win0_0.index t (0 : Fin 2) = t.val % 8 ∧ win0_0.index t (1 : Fin 2) = t.val / 8 / 4
    ∧ win0_1.index t (0 : Fin 2) = t.val % 8 ∧ win0_1.index t (1 : Fin 2) = t.val / 8 % 4 := by decide +kernel

/-- The scratch after a point: the sum over the tiles up to it. -/
theorem state (c : Dev nD) (n : ℕ) (h : n < cfg0.N) (j : S1024x1024.Idx) :
    (outsAt0 m c n h).2 j = ∑ k ∈ Finset.range ((n % 8 + 1) * 1024),
      Products.at2 (V m c main_arg0) k (n / 8 / 4 * 1024 + (j 0).val) * Products.at2 (V m c main_arg1) k (n / 8 % 4 * 1024 + (j 1).val) :=
  Products.walk (A := S1024x1024.Idx) (B := S1024x1024.Idx) (by decide) (fun n h => (outsAt0 m c n h).2) (k0_pay1 (F := Ideal))
    (k0_pay2 (F := Ideal)) (iblk m c 0) (iblk m c 1) (fun j k => ValueIdx.ix2 k (j 0)) (fun j k => ValueIdx.ix2 k (j 1))
    (fun q (j : S1024x1024.Idx) k => Products.at2 (V m c main_arg0) k (q / 4 * 1024 + (j 0).val))
    (fun q (j : S1024x1024.Idx) k => Products.at2 (V m c main_arg1) k (q % 4 * 1024 + (j 1).val))
    (fun _ => Products.zero_word) (Products.crossed _ rfl rfl rfl rfl rfl rfl _) (first m c) (next m c)
    (fun t j k => Products.at2_eq (V m c main_arg0) (((cfg0.win 0).blk t).view.emb (ValueIdx.ix2 k (j 0)))
      (Products.place (places t).1) (Products.place (places t).2.1))
    (fun t j k => Products.at2_eq (V m c main_arg1) (((cfg0.win 1).blk t).view.emb (ValueIdx.ix2 k (j 1)))
      (Products.place (places t).2.2.1) (Products.place (places t).2.2.2)) n h j

/-- The array after the run is the product. -/
theorem final (c : Dev nD) : G2 m c = Products.tn 4 1024 (V m c main_arg0) (V m c main_arg1) := by
  funext i
  have h0 : (i 0).val < 4 := (i 0).isLt
  have h1 : (i 1).val < 2048 := (i 1).isLt
  have h2 : (i 2).val < 1024 := (i 2).isLt
  have e : pt2Of i = 8 * (4 * ((i 1).val / 1024) + (i 0).val) + 7 := by unfold pt2Of run2Of; omega
  have hp : pt2Of i < cfg0.N := by rw [e, show cfg0.N = 64 from N_0]; omega
  have hq : pt2Of i % 8 = 7 := by rw [e]; omega
  have hr : pt2Of i / 8 / 4 * 1024 + (i 1).val % 1024 = (i 1).val := by rw [e]; omega
  have hc : pt2Of i / 8 % 4 * 1024 + (i 2).val % 1024 = (i 0).val * 1024 + (i 2).val := by rw [e]; omega
  unfold G2
  rw [dif_pos hp, ← outsAt0_sweep m c _ hp, last m c ⟨pt2Of i, hp⟩ hq]
  refine (shapeCast_addUnit_apply _ _ _ _).trans ((state m c (pt2Of i) hp _).trans ?_)
  rw [hq]
  exact Finset.sum_congr rfl fun k _ => congrArg₂ _ (congrArg _ hr) (congrArg _ hc)

theorem value : Cert.algebraic_TnInIdeal_TnInRefIdeal := fun m g m' g' _ hm =>
  ⟨_, (θ_run Cert.TnInIdeal.defs _ _).mono (fun _ h c => ⟨(h c).1.trans (final m c), (h c).2⟩) (run m g),
    (θ_run Cert.TnInRefIdeal.defs _ _).mono (fun _ h c => ⟨(h c).1.trans
      ((Products.tn_reference rfl _ rfl _ _ _ _ _ _).trans (congrArg₂ (Products.tn 4 1024) (hm c).1 (hm c).2)), (h c).2⟩)
      (Cert.TnInRefIdeal.Value.run m' g')⟩

end Cert.TnInProof

namespace Cert.TnSquareProof

open Cert.TnSquareIdeal Cert.TnSquareIdeal.Gen Cert.TnSquareIdeal.Value

theorem frame_bits : Cert.quiescent_TnSquare := fun m g _ => Cert.TnSquare.Gen.frame m g

theorem frame_ideal : Cert.quiescent_TnSquareIdeal := fun m g _ => Cert.TnSquareIdeal.Gen.frame m g

theorem frame_ref : Cert.quiescent_TnSquareRefIdeal := fun m g _ =>
  (θ_run Cert.TnSquareRefIdeal.defs _ _).mono (fun r h => ⟨fun c => (h c).2, sem_eq_zero_of_no_sems (by decide) r.2⟩)
    (Cert.TnSquareRefIdeal.Value.run (F := Ideal) m g)

variable (m : (ℓ : Loc nD τ sig) → Buf (Elt Ideal) ℓ)

/-- The scratch after the first point of a tile. -/
theorem first (c : Dev nD) (t : Fin cfg0.N) (h : t.val % 8 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off2 _ _)

/-- The scratch after a further point of a tile. -/
theorem next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 8 = 7
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off2 _ _)

/-- What the last point of a tile writes back. -/
theorem last (c : Dev nD) (t : Fin cfg0.N) (h : t.val % 8 = 7) :
    (outsAt0 m c t.val t.isLt).1 = k0_pay3 (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine congrArg k0_pay3 ((View.readCov_unit_zero _ Products.off2 _ _).trans ?_)
  exact congr (congrArg₂ k0_pay2 (Products.loaded _ Products.off2 _ _) (Products.loaded _ Products.off2 _ _)) (Products.loaded _ Products.off2 _ _)

/-- Where the blocks of a point lie. -/
theorem places : ∀ t : Fin cfg0.N, win0_0.index t (0 : Fin 2) = t.val % 8 ∧ win0_0.index t (1 : Fin 2) = t.val / 8 / 2
    ∧ win0_1.index t (0 : Fin 2) = t.val % 8 ∧ win0_1.index t (1 : Fin 2) = t.val / 8 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 8 + 1) * 1024),
      Products.at2 (V m c main_arg0) k (n / 8 / 2 * 1024 + (j 0).val) * Products.at2 (V m c main_arg1) k (n / 8 % 2 * 1024 + (j 1).val) :=
  Products.walk (A := S1024x1024.Idx) (B := S1024x1024.Idx) (by decide) (fun n h => (outsAt0 m c n h).2) (k0_pay1 (F := Ideal))
    (k0_pay2 (F := Ideal)) (iblk m c 0) (iblk m c 1) (fun j k => ValueIdx.ix2 k (j 0)) (fun j k => ValueIdx.ix2 k (j 1))
    (fun q (j : S1024x1024.Idx) k => Products.at2 (V m c main_arg0) k (q / 2 * 1024 + (j 0).val))
    (fun q (j : S1024x1024.Idx) k => Products.at2 (V m c main_arg1) k (q % 2 * 1024 + (j 1).val))
    (fun _ => Products.zero_word) (Products.crossed _ rfl rfl rfl rfl rfl rfl _) (first m c) (next m c)
    (fun t j k => Products.at2_eq (V m c main_arg0) (((cfg0.win 0).blk t).view.emb (ValueIdx.ix2 k (j 0)))
      (Products.place (places t).1) (Products.place (places t).2.1))
    (fun t j k => Products.at2_eq (V m c main_arg1) (((cfg0.win 1).blk t).view.emb (ValueIdx.ix2 k (j 1)))
      (Products.place (places t).2.2.1) (Products.place (places t).2.2.2)) n h j

/-- The array after the run is the product. -/
theorem final (c : Dev nD) : G2 m c = Products.tn 1 2048 (V m c main_arg0) (V m c main_arg1) := by
  funext i
  have h0 : (i 0).val < 1 := (i 0).isLt
  have h1 : (i 1).val < 2048 := (i 1).isLt
  have h2 : (i 2).val < 2048 := (i 2).isLt
  have e : pt2Of i = 8 * (2 * ((i 1).val / 1024) + (i 2).val / 1024) + 7 := by unfold pt2Of run2Of; omega
  have hp : pt2Of i < cfg0.N := by rw [e, show cfg0.N = 32 from N_0]; omega
  have hq : pt2Of i % 8 = 7 := by rw [e]; omega
  have hr : pt2Of i / 8 / 2 * 1024 + (i 1).val % 1024 = (i 1).val := by rw [e]; omega
  have hc : pt2Of i / 8 % 2 * 1024 + (i 2).val % 1024 = (i 0).val * 2048 + (i 2).val := by rw [e]; omega
  unfold G2
  rw [dif_pos hp, ← outsAt0_sweep m c _ hp, last m c ⟨pt2Of i, hp⟩ hq]
  refine (shapeCast_addUnit_apply _ _ _ _).trans ((state m c (pt2Of i) hp _).trans ?_)
  rw [hq]
  exact Finset.sum_congr rfl fun k _ => congrArg₂ _ (congrArg _ hr) (congrArg _ hc)

theorem value : Cert.algebraic_TnSquareIdeal_TnSquareRefIdeal := fun m g m' g' _ hm =>
  ⟨_, (θ_run Cert.TnSquareIdeal.defs _ _).mono (fun _ h c => ⟨(h c).1.trans (final m c), (h c).2⟩) (run m g),
    (θ_run Cert.TnSquareRefIdeal.defs _ _).mono (fun _ h c => ⟨(h c).1.trans
      ((Products.tn_reference rfl _ rfl _ _ _ _ _ _).trans (congrArg₂ (Products.tn 1 2048) (hm c).1 (hm c).2)), (h c).2⟩)
      (Cert.TnSquareRefIdeal.Value.run m' g')⟩

end Cert.TnSquareProof

namespace Cert.TnQkvProof

open Cert.TnQkvIdeal Cert.TnQkvIdeal.Gen Cert.TnQkvIdeal.Value

theorem frame_bits : Cert.quiescent_TnQkv := fun m g _ => Cert.TnQkv.Gen.frame m g

theorem frame_ideal : Cert.quiescent_TnQkvIdeal := fun m g _ => Cert.TnQkvIdeal.Gen.frame m g

theorem frame_ref : Cert.quiescent_TnQkvRefIdeal := fun m g _ =>
  (θ_run Cert.TnQkvRefIdeal.defs _ _).mono (fun r h => ⟨fun c => (h c).2, sem_eq_zero_of_no_sems (by decide) r.2⟩)
    (Cert.TnQkvRefIdeal.Value.run (F := Ideal) m g)

variable (m : (ℓ : Loc nD τ sig) → Buf (Elt Ideal) ℓ)

/-- The scratch after the first point of a tile. -/
theorem first (c : Dev nD) (t : Fin cfg0.N) (h : t.val % 8 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off2 _ _)

/-- The scratch after a further point of a tile. -/
theorem next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 8 = 7
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off2 _ _)

/-- What the last point of a tile writes back. -/
theorem last (c : Dev nD) (t : Fin cfg0.N) (h : t.val % 8 = 7) :
    (outsAt0 m c t.val t.isLt).1 = k0_pay3 (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine congrArg k0_pay3 ((View.readCov_unit_zero _ Products.off2 _ _).trans ?_)
  exact congr (congrArg₂ k0_pay2 (Products.loaded _ Products.off2 _ _) (Products.loaded _ Products.off2 _ _)) (Products.loaded _ Products.off2 _ _)

/-- Where the blocks of a point lie. -/
theorem places : ∀ t : Fin cfg0.N, win0_0.index t (0 : Fin 2) = t.val % 8 ∧ win0_0.index t (1 : Fin 2) = t.val / 8 / 8
    ∧ win0_1.index t (0 : Fin 2) = t.val % 8 ∧ win0_1.index t (1 : Fin 2) = t.val / 8 % 8
    ∧ win0_2.index t (0 : Fin 3) = t.val / 8 % 8 / 2 ∧ win0_2.index t (1 : Fin 3) = t.val / 8 / 8
    ∧ win0_2.index t (2 : Fin 3) = t.val / 8 % 8 % 2 := by decide +kernel

/-- The scratch after a point: the sum over the tiles up to it. -/
theorem state (c : Dev nD) (n : ℕ) (h : n < cfg0.N) (j : S1024x768.Idx) :
    (outsAt0 m c n h).2 j = ∑ k ∈ Finset.range ((n % 8 + 1) * 1024),
      Products.at2 (V m c main_arg0) k (n / 8 / 8 * 1024 + (j 0).val) * Products.at2 (V m c main_arg1) k (n / 8 % 8 * 768 + (j 1).val) :=
  Products.walk (A := S1024x1024.Idx) (B := S1024x768.Idx) (by decide) (fun n h => (outsAt0 m c n h).2) (k0_pay1 (F := Ideal))
    (k0_pay2 (F := Ideal)) (iblk m c 0) (iblk m c 1) (fun j k => ValueIdx.ix2 k (j 0)) (fun j k => ValueIdx.ix2 k (j 1))
    (fun q (j : S1024x768.Idx) k => Products.at2 (V m c main_arg0) k (q / 8 * 1024 + (j 0).val))
    (fun q (j : S1024x768.Idx) k => Products.at2 (V m c main_arg1) k (q % 8 * 768 + (j 1).val))
    (fun _ => Products.zero_word) (Products.crossed _ rfl rfl rfl rfl rfl rfl _) (first m c) (next m c)
    (fun t j k => Products.at2_eq (V m c main_arg0) (((cfg0.win 0).blk t).view.emb (ValueIdx.ix2 k (j 0)))
      (Products.place (places t).1) (Products.place (places t).2.1))
    (fun t j k => Products.at2_eq (V m c main_arg1) (((cfg0.win 1).blk t).view.emb (ValueIdx.ix2 k (j 1)))
      (Products.place (places t).2.2.1) (Products.place (places t).2.2.2.1)) n h j

/-- What the last point of a tile writes back is its block of the product. -/
theorem flushed (c : Dev nD) (t : Fin cfg0.N) (hf : (cfg0.win 2).flush t = true) :
    (dats m 0 c).flushed 2 t = ((cfg0.win 2).blk t).view.read (Elt Ideal) (Products.tn 4 1536 (V m c main_arg0) (V m c main_arg1)) := by
  have hq : t.val % 8 = 7 := (flush0_2 t).mp hf
  obtain ⟨-, -, -, -, p0, p1, p2⟩ := places t
  obtain ⟨G, hG⟩ : ∃ G : S4x2048x1536.Idx → EReal, G = Products.tn 4 1536 (V m c main_arg0) (V m c main_arg1) := ⟨_, rfl⟩
  rw [flushed2, last m c t hq, ← hG]
  funext y
  have h0 : (y 0).val < 1 := (y 0).isLt
  refine (shapeCast_addUnit_apply _ (outsAt0 m c t.val t.isLt).2 _ ((cfg0.win 2).xinj (grid0.coords t) y)).trans
    ((state m c t.val t.isLt _).trans ?_)
  rw [hq]
  show _ = G (((cfg0.win 2).blk t).view.emb y)
  rw [hG]
  refine Finset.sum_congr rfl fun k _ => congrArg₂ _ (congrArg _ ?_) (congrArg _ ?_)
  · show t.val / 8 / 8 * 1024 + (y 1).val = win0_2.index t (1 : Fin 3) * 1024 + 1 * (y 1).val
    rw [p1, Nat.one_mul]
  · show t.val / 8 % 8 * 768 + (y 2).val = (win0_2.index t (0 : Fin 3) * 1 + 1 * (y 0).val) * 1536 + (win0_2.index t (2 : Fin 3) * 768 + 1 * (y 2).val)
    rw [p0, p2]; omega

/-- Every index of the result is in the block of the last point of its tile. -/
theorem covered (i : S4x2048x1536.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1536 := (i 2).isLt
  let t : Fin cfg0.N := ⟨8 * (8 * ((i 1).val / 1024) + (2 * (i 0).val + (i 2).val / 768)) + 7, by rw [show cfg0.N = 128 from N_0]; omega⟩
  have e : t.val = 8 * (8 * ((i 1).val / 1024) + (2 * (i 0).val + (i 2).val / 768)) + 7 := rfl
  obtain ⟨-, -, -, -, p0, p1, p2⟩ := places t
  rw [e] at p0 p1 p2
  refine ⟨t, (flush0_2 t).mpr (by rw [e]; omega), ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 768 ≤ (i 2).val ∧ (i 2).val < win0_2.index t (2 : Fin 3) * 768 + 768; omega

/-- The array after the run is the product. -/
theorem final (c : Dev nD) : (dats m 0 c).arrAt 2 cfg0.N = Products.tn 4 1536 (V m c main_arg0) (V m c main_arg1) :=
  (dats m 0 c).arrAt_eq_of_cover 2 _ (flushed m c) covered

theorem value : Cert.algebraic_TnQkvIdeal_TnQkvRefIdeal := fun m g m' g' _ hm =>
  ⟨_, (θ_run Cert.TnQkvIdeal.defs _ _).mono (fun _ h c => ⟨(h c).1.trans (final m c), (h c).2⟩) (run_blocks m g),
    (θ_run Cert.TnQkvRefIdeal.defs _ _).mono (fun _ h c => ⟨(h c).1.trans
      ((Products.tn_reference rfl _ rfl _ _ _ _ _ _).trans (congrArg₂ (Products.tn 4 1536) (hm c).1 (hm c).2)), (h c).2⟩)
      (Cert.TnQkvRefIdeal.Value.run m' g')⟩

end Cert.TnQkvProof

namespace Cert.TnUpProof

open Cert.TnUpIdeal Cert.TnUpIdeal.Gen Cert.TnUpIdeal.Value

theorem frame_bits : Cert.quiescent_TnUp := fun m g _ => Cert.TnUp.Gen.frame m g

theorem frame_ideal : Cert.quiescent_TnUpIdeal := fun m g _ => Cert.TnUpIdeal.Gen.frame m g

theorem frame_ref : Cert.quiescent_TnUpRefIdeal := fun m g _ =>
  (θ_run Cert.TnUpRefIdeal.defs _ _).mono (fun r h => ⟨fun c => (h c).2, sem_eq_zero_of_no_sems (by decide) r.2⟩)
    (Cert.TnUpRefIdeal.Value.run (F := Ideal) m g)

variable (m : (ℓ : Loc nD τ sig) → Buf (Elt Ideal) ℓ)

/-- The scratch after the first point of a tile. -/
theorem first (c : Dev nD) (t : Fin cfg0.N) (h : t.val % 8 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off2 _ _)

/-- The scratch after a further point of a tile. -/
theorem next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 8 = 7
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off2 _ _)

/-- What the last point of a tile writes back. -/
theorem last (c : Dev nD) (t : Fin cfg0.N) (h : t.val % 8 = 7) :
    (outsAt0 m c t.val t.isLt).1 = k0_pay3 (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine congrArg k0_pay3 ((View.readCov_unit_zero _ Products.off2 _ _).trans ?_)
  exact congr (congrArg₂ k0_pay2 (Products.loaded _ Products.off2 _ _) (Products.loaded _ Products.off2 _ _)) (Products.loaded _ Products.off2 _ _)

/-- Where the blocks of a point lie. -/
theorem places : ∀ t : Fin cfg0.N, win0_0.index t (0 : Fin 2) = t.val % 8 ∧ win0_0.index t (1 : Fin 2) = t.val / 8 / 8
    ∧ win0_1.index t (0 : Fin 2) = t.val % 8 ∧ win0_1.index t (1 : Fin 2) = t.val / 8 % 8
    ∧ win0_2.index t (0 : Fin 3) = t.val / 8 % 8 / 2 ∧ win0_2.index t (1 : Fin 3) = t.val / 8 / 8
    ∧ win0_2.index t (2 : Fin 3) = t.val / 8 % 8 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 8 + 1) * 1024),
      Products.at2 (V m c main_arg0) k (n / 8 / 8 * 1024 + (j 0).val) * Products.at2 (V m c main_arg1) k (n / 8 % 8 * 1024 + (j 1).val) :=
  Products.walk (A := S1024x1024.Idx) (B := S1024x1024.Idx) (by decide) (fun n h => (outsAt0 m c n h).2) (k0_pay1 (F := Ideal))
    (k0_pay2 (F := Ideal)) (iblk m c 0) (iblk m c 1) (fun j k => ValueIdx.ix2 k (j 0)) (fun j k => ValueIdx.ix2 k (j 1))
    (fun q (j : S1024x1024.Idx) k => Products.at2 (V m c main_arg0) k (q / 8 * 1024 + (j 0).val))
    (fun q (j : S1024x1024.Idx) k => Products.at2 (V m c main_arg1) k (q % 8 * 1024 + (j 1).val))
    (fun _ => Products.zero_word) (Products.crossed _ rfl rfl rfl rfl rfl rfl _) (first m c) (next m c)
    (fun t j k => Products.at2_eq (V m c main_arg0) (((cfg0.win 0).blk t).view.emb (ValueIdx.ix2 k (j 0)))
      (Products.place (places t).1) (Products.place (places t).2.1))
    (fun t j k => Products.at2_eq (V m c main_arg1) (((cfg0.win 1).blk t).view.emb (ValueIdx.ix2 k (j 1)))
      (Products.place (places t).2.2.1) (Products.place (places t).2.2.2.1)) n h j

/-- What the last point of a tile writes back is its block of the product. -/
theorem flushed (c : Dev nD) (t : Fin cfg0.N) (hf : (cfg0.win 2).flush t = true) :
    (dats m 0 c).flushed 2 t = ((cfg0.win 2).blk t).view.read (Elt Ideal) (Products.tn 4 2048 (V m c main_arg0) (V m c main_arg1)) := by
  have hq : t.val % 8 = 7 := (flush0_2 t).mp hf
  obtain ⟨-, -, -, -, p0, p1, p2⟩ := places t
  obtain ⟨G, hG⟩ : ∃ G : S4x2048x2048.Idx → EReal, G = Products.tn 4 2048 (V m c main_arg0) (V m c main_arg1) := ⟨_, rfl⟩
  rw [flushed2, last m c t hq, ← hG]
  funext y
  have h0 : (y 0).val < 1 := (y 0).isLt
  refine (shapeCast_addUnit_apply _ (outsAt0 m c t.val t.isLt).2 _ ((cfg0.win 2).xinj (grid0.coords t) y)).trans
    ((state m c t.val t.isLt _).trans ?_)
  rw [hq]
  show _ = G (((cfg0.win 2).blk t).view.emb y)
  rw [hG]
  refine Finset.sum_congr rfl fun k _ => congrArg₂ _ (congrArg _ ?_) (congrArg _ ?_)
  · show t.val / 8 / 8 * 1024 + (y 1).val = win0_2.index t (1 : Fin 3) * 1024 + 1 * (y 1).val
    rw [p1, Nat.one_mul]
  · show t.val / 8 % 8 * 1024 + (y 2).val = (win0_2.index t (0 : Fin 3) * 1 + 1 * (y 0).val) * 2048 + (win0_2.index t (2 : Fin 3) * 1024 + 1 * (y 2).val)
    rw [p0, p2]; omega

/-- Every index of the result is in the block of the last point of its tile. -/
theorem covered (i : S4x2048x2048.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 2048 := (i 2).isLt
  let t : Fin cfg0.N := ⟨8 * (8 * ((i 1).val / 1024) + (2 * (i 0).val + (i 2).val / 1024)) + 7, by rw [show cfg0.N = 128 from N_0]; omega⟩
  have e : t.val = 8 * (8 * ((i 1).val / 1024) + (2 * (i 0).val + (i 2).val / 1024)) + 7 := rfl
  obtain ⟨-, -, -, -, p0, p1, p2⟩ := places t
  rw [e] at p0 p1 p2
  refine ⟨t, (flush0_2 t).mpr (by rw [e]; omega), ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The array after the run is the product. -/
theorem final (c : Dev nD) : (dats m 0 c).arrAt 2 cfg0.N = Products.tn 4 2048 (V m c main_arg0) (V m c main_arg1) :=
  (dats m 0 c).arrAt_eq_of_cover 2 _ (flushed m c) covered

theorem value : Cert.algebraic_TnUpIdeal_TnUpRefIdeal := fun m g m' g' _ hm =>
  ⟨_, (θ_run Cert.TnUpIdeal.defs _ _).mono (fun _ h c => ⟨(h c).1.trans (final m c), (h c).2⟩) (run_blocks m g),
    (θ_run Cert.TnUpRefIdeal.defs _ _).mono (fun _ h c => ⟨(h c).1.trans
      ((Products.tn_reference rfl _ rfl _ _ _ _ _ _).trans (congrArg₂ (Products.tn 4 2048) (hm c).1 (hm c).2)), (h c).2⟩)
      (Cert.TnUpRefIdeal.Value.run m' g')⟩

end Cert.TnUpProof

namespace Cert.TnDownProof

open Cert.TnDownIdeal Cert.TnDownIdeal.Gen Cert.TnDownIdeal.Value

theorem frame_bits : Cert.quiescent_TnDown := fun m g _ => Cert.TnDown.Gen.frame m g

theorem frame_ideal : Cert.quiescent_TnDownIdeal := fun m g _ => Cert.TnDownIdeal.Gen.frame m g

theorem frame_ref : Cert.quiescent_TnDownRefIdeal := fun m g _ =>
  (θ_run Cert.TnDownRefIdeal.defs _ _).mono (fun r h => ⟨fun c => (h c).2, sem_eq_zero_of_no_sems (by decide) r.2⟩)
    (Cert.TnDownRefIdeal.Value.run (F := Ideal) m g)

variable (m : (ℓ : Loc nD τ sig) → Buf (Elt Ideal) ℓ)

/-- The scratch after the first point of a tile. -/
theorem first (c : Dev nD) (t : Fin cfg0.N) (h : t.val % 8 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off2 _ _)

/-- The scratch after a further point of a tile. -/
theorem next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 8 = 7
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off2 _ _)

/-- What the last point of a tile writes back. -/
theorem last (c : Dev nD) (t : Fin cfg0.N) (h : t.val % 8 = 7) :
    (outsAt0 m c t.val t.isLt).1 = k0_pay3 (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine congrArg k0_pay3 ((View.readCov_unit_zero _ Products.off2 _ _).trans ?_)
  exact congr (congrArg₂ k0_pay2 (Products.loaded _ Products.off2 _ _) (Products.loaded _ Products.off2 _ _)) (Products.loaded _ Products.off2 _ _)

/-- Where the blocks of a point lie. -/
theorem places : ∀ t : Fin cfg0.N, win0_0.index t (0 : Fin 2) = t.val % 8 ∧ win0_0.index t (1 : Fin 2) = t.val / 8 / 2
    ∧ win0_1.index t (0 : Fin 2) = t.val % 8 ∧ win0_1.index t (1 : Fin 2) = t.val / 8 % 2 := by decide +kernel

/-- The scratch after a point: the sum over the tiles up to it. -/
theorem state (c : Dev nD) (n : ℕ) (h : n < cfg0.N) (j : S1024x1024.Idx) :
    (outsAt0 m c n h).2 j = ∑ k ∈ Finset.range ((n % 8 + 1) * 1024),
      Products.at2 (V m c main_arg0) k (n / 8 / 2 * 1024 + (j 0).val) * Products.at2 (V m c main_arg1) k (n / 8 % 2 * 1024 + (j 1).val) :=
  Products.walk (A := S1024x1024.Idx) (B := S1024x1024.Idx) (by decide) (fun n h => (outsAt0 m c n h).2) (k0_pay1 (F := Ideal))
    (k0_pay2 (F := Ideal)) (iblk m c 0) (iblk m c 1) (fun j k => ValueIdx.ix2 k (j 0)) (fun j k => ValueIdx.ix2 k (j 1))
    (fun q (j : S1024x1024.Idx) k => Products.at2 (V m c main_arg0) k (q / 2 * 1024 + (j 0).val))
    (fun q (j : S1024x1024.Idx) k => Products.at2 (V m c main_arg1) k (q % 2 * 1024 + (j 1).val))
    (fun _ => Products.zero_word) (Products.crossed _ rfl rfl rfl rfl rfl rfl _) (first m c) (next m c)
    (fun t j k => Products.at2_eq (V m c main_arg0) (((cfg0.win 0).blk t).view.emb (ValueIdx.ix2 k (j 0)))
      (Products.place (places t).1) (Products.place (places t).2.1))
    (fun t j k => Products.at2_eq (V m c main_arg1) (((cfg0.win 1).blk t).view.emb (ValueIdx.ix2 k (j 1)))
      (Products.place (places t).2.2.1) (Products.place (places t).2.2.2)) n h j

/-- The array after the run is the product. -/
theorem final (c : Dev nD) : G2 m c = Products.tn 1 2048 (V m c main_arg0) (V m c main_arg1) := by
  funext i
  have h0 : (i 0).val < 1 := (i 0).isLt
  have h1 : (i 1).val < 8192 := (i 1).isLt
  have h2 : (i 2).val < 2048 := (i 2).isLt
  have e : pt2Of i = 8 * (2 * ((i 1).val / 1024) + (i 2).val / 1024) + 7 := by unfold pt2Of run2Of; omega
  have hp : pt2Of i < cfg0.N := by rw [e, show cfg0.N = 128 from N_0]; omega
  have hq : pt2Of i % 8 = 7 := by rw [e]; omega
  have hr : pt2Of i / 8 / 2 * 1024 + (i 1).val % 1024 = (i 1).val := by rw [e]; omega
  have hc : pt2Of i / 8 % 2 * 1024 + (i 2).val % 1024 = (i 0).val * 2048 + (i 2).val := by rw [e]; omega
  unfold G2
  rw [dif_pos hp, ← outsAt0_sweep m c _ hp, last m c ⟨pt2Of i, hp⟩ hq]
  refine (shapeCast_addUnit_apply _ _ _ _).trans ((state m c (pt2Of i) hp _).trans ?_)
  rw [hq]
  exact Finset.sum_congr rfl fun k _ => congrArg₂ _ (congrArg _ hr) (congrArg _ hc)

theorem value : Cert.algebraic_TnDownIdeal_TnDownRefIdeal := fun m g m' g' _ hm =>
  ⟨_, (θ_run Cert.TnDownIdeal.defs _ _).mono (fun _ h c => ⟨(h c).1.trans (final m c), (h c).2⟩) (run m g),
    (θ_run Cert.TnDownRefIdeal.defs _ _).mono (fun _ h c => ⟨(h c).1.trans
      ((Products.tn_reference rfl _ rfl _ _ _ _ _ _).trans (congrArg₂ (Products.tn 1 2048) (hm c).1 (hm c).2)), (h c).2⟩)
      (Cert.TnDownRefIdeal.Value.run m' g')⟩

end Cert.TnDownProof

namespace Cert.TnProjProof

open Cert.TnProjIdeal Cert.TnProjIdeal.Gen Cert.TnProjIdeal.Value

theorem frame_bits : Cert.quiescent_TnProj := fun m g _ => Cert.TnProj.Gen.frame m g

theorem frame_ideal : Cert.quiescent_TnProjIdeal := fun m g _ => Cert.TnProjIdeal.Gen.frame m g

theorem frame_ref : Cert.quiescent_TnProjRefIdeal := fun m g _ =>
  (θ_run Cert.TnProjRefIdeal.defs _ _).mono (fun r h => ⟨fun c => (h c).2, sem_eq_zero_of_no_sems (by decide) r.2⟩)
    (Cert.TnProjRefIdeal.Value.run (F := Ideal) m g)

variable (m : (ℓ : Loc nD τ sig) → Buf (Elt Ideal) ℓ)

/-- The scratch after the first point of a tile. -/
theorem first (c : Dev nD) (t : Fin cfg0.N) (h : t.val % 8 = 0) :
    (outsAt0 m c t.val t.isLt).2 = k0_pay2 k0_pay1 (iblk m c 0 t) (iblk m c 1 t) := by
  rw [outsAt0_A m c t h (by omega)]; dsimp only; unfold sout0_A_0
  rw [View.read_writes_junk_eq_canon]
  refine (View.canon_cons_unit_zero (by decide) _ _ _).trans ?_
  exact congr (congrArg₂ k0_pay2 (View.readCov_unit_zero _ Products.off2 _ _) (Products.loaded _ Products.off2 _ _)) (Products.loaded _ Products.off2 _ _)

/-- The scratch after a further point of a tile. -/
theorem next (c : Dev nD) (t : Fin cfg0.N) (h : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h' : t.val % 8 = 7
  on_goal 1 => rw [outsAt0_C m c t h h']; dsimp only; unfold sout0_C_0
  on_goal 2 => rw [outsAt0_B m c t h h']; dsimp only; unfold sout0_B_0
  all_goals
    rw [View.read_writes_junk_eq_canon]
    refine (View.canon_cons_unit_zero (by decide) _ _ _).trans ?_
    exact congr (congrArg₂ k0_pay2 (Products.loaded _ Products.off2 _ _) (Products.loaded _ Products.off2 _ _)) (Products.loaded _ Products.off2 _ _)

/-- What the last point of a tile writes back. -/
theorem last (c : Dev nD) (t : Fin cfg0.N) (h : t.val % 8 = 7) :
    (outsAt0 m c t.val t.isLt).1 = k0_pay3 (outsAt0 m c t.val t.isLt).2 := by
  rw [next m c t (by omega), outsAt0_C m c t (by omega) h]; dsimp only; unfold out0_C_2
  rw [View.read_writes_junk_eq_canon]
  refine (View.canon_cons_unit_zero (by decide) _ _ _).trans ?_
  refine congrArg k0_pay3 ((View.readCov_unit_zero _ Products.off2 _ _).trans ?_)
  exact congr (congrArg₂ k0_pay2 (Products.loaded _ Products.off2 _ _) (Products.loaded _ Products.off2 _ _)) (Products.loaded _ Products.off2 _ _)

/-- Where the blocks of a point lie. -/
theorem places : ∀ t : Fin cfg0.N, win0_0.index t (0 : Fin 2) = t.val % 8 ∧ win0_0.index t (1 : Fin 2) = t.val / 8 / 4
    ∧ win0_1.index t (0 : Fin 2) = t.val % 8 ∧ win0_1.index t (1 : Fin 2) = t.val / 8 % 4 := by decide +kernel

/-- The scratch after a point: the sum over the tiles up to it. -/
theorem state (c : Dev nD) (n : ℕ) (h : n < cfg0.N) (j : S256x512.Idx) :
    (outsAt0 m c n h).2 j = ∑ k ∈ Finset.range ((n % 8 + 1) * 1024),
      Products.at2 (V m c main_arg0) k (n / 8 / 4 * 256 + (j 0).val) * Products.at2 (V m c main_arg1) k (n / 8 % 4 * 512 + (j 1).val) :=
  Products.walk (A := S1024x256.Idx) (B := S1024x512.Idx) (by decide) (fun n h => (outsAt0 m c n h).2) (k0_pay1 (F := Ideal))
    (k0_pay2 (F := Ideal)) (iblk m c 0) (iblk m c 1) (fun j k => ValueIdx.ix2 k (j 0)) (fun j k => ValueIdx.ix2 k (j 1))
    (fun q (j : S256x512.Idx) k => Products.at2 (V m c main_arg0) k (q / 4 * 256 + (j 0).val))
    (fun q (j : S256x512.Idx) k => Products.at2 (V m c main_arg1) k (q % 4 * 512 + (j 1).val))
    (fun _ => Products.zero_word) (Products.crossed _ rfl rfl rfl rfl rfl rfl _) (first m c) (next m c)
    (fun t j k => Products.at2_eq (V m c main_arg0) (((cfg0.win 0).blk t).view.emb (ValueIdx.ix2 k (j 0)))
      (Products.place (places t).1) (Products.place (places t).2.1))
    (fun t j k => Products.at2_eq (V m c main_arg1) (((cfg0.win 1).blk t).view.emb (ValueIdx.ix2 k (j 1)))
      (Products.place (places t).2.2.1) (Products.place (places t).2.2.2)) n h j

/-- The array after the run is the product. -/
theorem final (c : Dev nD) : G2 m c = Products.tn 4 512 (V m c main_arg0) (V m c main_arg1) := by
  funext i
  have h0 : (i 0).val < 4 := (i 0).isLt
  have h1 : (i 1).val < 256 := (i 1).isLt
  have h2 : (i 2).val < 512 := (i 2).isLt
  have e : pt2Of i = 8 * (4 * ((i 1).val / 256) + (i 0).val) + 7 := by unfold pt2Of run2Of; omega
  have hp : pt2Of i < cfg0.N := by rw [e, show cfg0.N = 32 from N_0]; omega
  have hq : pt2Of i % 8 = 7 := by rw [e]; omega
  have hr : pt2Of i / 8 / 4 * 256 + (i 1).val % 256 = (i 1).val := by rw [e]; omega
  have hc : pt2Of i / 8 % 4 * 512 + (i 2).val % 512 = (i 0).val * 512 + (i 2).val := by rw [e]; omega
  unfold G2
  rw [dif_pos hp, ← outsAt0_sweep m c _ hp, last m c ⟨pt2Of i, hp⟩ hq]
  refine (shapeCast_addUnit_apply _ _ _ _).trans ((state m c (pt2Of i) hp _).trans ?_)
  rw [hq]
  exact Finset.sum_congr rfl fun k _ => congrArg₂ _ (congrArg _ hr) (congrArg _ hc)

theorem value : Cert.algebraic_TnProjIdeal_TnProjRefIdeal := fun m g m' g' _ hm =>
  ⟨_, (θ_run Cert.TnProjIdeal.defs _ _).mono (fun _ h c => ⟨(h c).1.trans (final m c), (h c).2⟩) (run m g),
    (θ_run Cert.TnProjRefIdeal.defs _ _).mono (fun _ h c => ⟨(h c).1.trans
      ((Products.tn_reference rfl _ rfl _ _ _ _ _ _).trans (congrArg₂ (Products.tn 4 512) (hm c).1 (hm c).2)), (h c).2⟩)
      (Cert.TnProjRefIdeal.Value.run m' g')⟩

end Cert.TnProjProof

end
-- ==== Proof.Rows.lean ====
/-
  The mathematics of a row under the root-mean-square norm, as the backward calls of the norms and the loss head use it:
  a row is a function of its place among 2048, and each of those calls does the same to every row of its arrays. Beside
  what a row gives, the calls add up over all rows what each gives to the norm's weight; they do so block by block, into
  a staged row that is set to zero at the first block.
-/
module

public import proofs.«01_k».proof.Proof.Products
public import Idealize.ShloMosaic.Lib.Pointwise

@[expose] public section

noncomputable section

namespace Cert.Rows

open Idealize.ShloMosaic hiding ix2 ix3 eq_ix2 eq_ix3
open Idealize.ShloMosaic.ValueIdx

/-- A row's extent. -/
abbrev width : EReal := Ideal.ofBits .f32 0x45000000#32

/-- One half. -/
abbrev half : EReal := Ideal.ofBits .f32 0x3F000000#32

/-- A row's mean square, and the norm's small constant. -/
def spread (x : Fin 2048 → EReal) : EReal := Ideal.div (∑ k, x k * x k) width + Ideal.ofBits .f32 0x358637BD#32

/-- A row over its root mean square. -/
def unit (x : Fin 2048 → EReal) (l : Fin 2048) : EReal := x l * Ideal.rsqrt (spread x)

/-- What a row `x` under the weight `g`, with `y` coming back for its norm, gets back through its mean square. -/
def pull (x y g : Fin 2048 → EReal) : EReal :=
  ∑ _ : Fin 1, Ideal.div ((∑ k, x k * (y k * g k))
    * (Ideal.ofBits .f32 0xBF000000#32 * Ideal.div (Ideal.rsqrt (spread x)) (spread x))) width

/-- What the row gets back, added to `d`. -/
def back (d : EReal) (x y g : Fin 2048 → EReal) (l : Fin 2048) : EReal :=
  d + y l * g l * Ideal.rsqrt (spread x) + x l * pull x y g + pull x y g * x l

theorem back_zero (x y g : Fin 2048 → EReal) (l : Fin 2048) :
    back 0 x y g l = y l * g l * Ideal.rsqrt (spread x) + x l * pull x y g + pull x y g * x l := by
  unfold back
  rw [zero_add]

theorem back_congr {d d' : EReal} {x x' y y' g g' : Fin 2048 → EReal} {l l' : Fin 2048} (hd : d = d') (hx : x = x') (hy : y = y')
    (hg : g = g') (hl : l = l') : back d x y g l = back d' x' y' g' l' := by
  subst hd; subst hx; subst hy; subst hg; subst hl; rfl

/-- The row over its root mean square, times the weight. -/
def normed (x g : Fin 2048 → EReal) (l : Fin 2048) : EReal := unit x l * g l

theorem normed_congr {x x' g g' : Fin 2048 → EReal} {l l' : Fin 2048} (hx : x = x') (hg : g = g') (hl : l = l') :
    normed x g l = normed x' g' l' := by
  subst hx; subst hg; subst hl; rfl

/-- The row's part of what the weight gets back. -/
def gain (x y : Fin 2048 → EReal) (l : Fin 2048) : EReal := unit x l * y l

/-- The normed row's distance from the row `t`. -/
def miss (x g t : Fin 2048 → EReal) (l : Fin 2048) : EReal := unit x l * g l - t l

/-- The mean of the squares of a row's distances. -/
def missed (x g t : Fin 2048 → EReal) : EReal := Ideal.div (∑ k, miss x g t k * miss x g t k) width

/-- The derivative of half that mean by a distance, without the distance's own two. -/
abbrev rate : EReal := Ideal.div half width

/-- What comes back for the normed row from the loss. -/
def pulled (x g t : Fin 2048 → EReal) (l : Fin 2048) : EReal :=
  rate * (Ideal.ofBits .f32 0x40000000#32 * miss x g t l)

/-- The sum of two rows. -/
def plus (x y : Fin 2048 → EReal) : Fin 2048 → EReal := fun k => x k + y k

/-- Row `r` of a matrix. -/
def row {M : ℕ} (x : (⟨2, ![M, 2048]⟩ : Shape).Idx → EReal) (r : Fin M) : Fin 2048 → EReal := fun k => x (ix2 r k)

/-- Row `r` of a matrix, at a natural number. -/
def rowAt {M : ℕ} (x : (⟨2, ![M, 2048]⟩ : Shape).Idx → EReal) (r : ℕ) : Fin 2048 → EReal := fun k => Products.at2 x r k.val

theorem row_eq {M : ℕ} (x : (⟨2, ![M, 2048]⟩ : Shape).Idx → EReal) (r : Fin M) : row x r = rowAt x r.val :=
  funext fun _ => Products.at2_eq x _ rfl rfl

/-- A row that is read through places of the matrix. -/
theorem row_through {M : ℕ} (x : (⟨2, ![M, 2048]⟩ : Shape).Idx → EReal) (e : Fin 2048 → (⟨2, ![M, 2048]⟩ : Shape).Idx) {r : ℕ}
    (h0 : ∀ k, (e k 0).val = r) (h1 : ∀ k, (e k 1).val = k.val) : (fun k => x (e k)) = rowAt x r :=
  funext fun k => Products.at2_eq x (e k) (h0 k) (h1 k)

/-- A coordinate in a block that starts at the axis' start. -/
theorem inside {n b r : ℕ} (h : n = 0) : n * b + 1 * r = r := by rw [h, Nat.zero_mul, Nat.zero_add, Nat.one_mul]

/-- A sum over all the rows, and over the rows' numbers. -/
theorem all (M : ℕ) (G : ℕ → EReal) : ∑ r : Fin M, G r.val = ∑ r ∈ Finset.range M, G r := Fin.sum_univ_eq_sum_range G M

/-- A staged row that is set to zero at the first of 64 blocks and to which each block adds its 128 rows' parts: after a
    block it holds the sum of the parts of the rows so far. -/
theorem staged {N : ℕ} {S : Type} (f : (n : ℕ) → n < N → S → EReal) (p : Fin N → S → EReal) (G : ℕ → S → EReal)
    (hN : N = 64) (hp : ∀ t j, p t j = ∑ k : Fin 128, G (t.val * 128 + k.val) j)
    (first : ∀ (t : Fin N) (j : S), t.val % 64 = 0 → f t.val t.isLt j = 0 + p t j)
    (next : ∀ (t : Fin N) (j : S), ¬t.val % 64 = 0 →
      f t.val t.isLt j = f (t.val - 1) (Nat.lt_of_le_of_lt (Nat.sub_le _ _) t.isLt) j + p t j) (n : ℕ) (h : n < N) (j : S) :
    f n h j = ∑ k ∈ Finset.range ((n % 64 + 1) * 128), G k j := by
  have hm : ∀ n, n < N → n % 64 = n := fun n h => Nat.mod_eq_of_lt (hN ▸ h)
  exact Products.fold (J := 64) (T := 128) (by decide) f (fun _ j k => G k j)
    (fun n h j h0 => by rw [first ⟨n, h⟩ j h0, hp, zero_add, hm n h])
    (fun n h j h0 => by rw [next ⟨n, h⟩ j h0, hp, hm n h]) n h j

theorem two_word : Ideal.ofBits .f32 0x40000000#32 = 1 + 1 := by
  rw [one_add_one_eq_two]
  simp [Ideal.ofBits, Ideal.ieee]
  norm_num
  rw [← EReal.coe_mul]
  norm_num
  rfl

theorem half_word : half = ((1 / 2 : ℝ) : EReal) := by
  unfold half
  simp [Ideal.ofBits, Ideal.ieee]
  norm_num
  rw [← EReal.coe_mul]
  norm_num

/-- What comes back for a distance, added up from the square's two factors. -/
theorem pulled_eq (x g t : Fin 2048 → EReal) (l : Fin 2048) :
    miss x g t l * (∑ _ : Fin 1, rate) + (∑ _ : Fin 1, rate) * miss x g t l = pulled x g t l := by
  unfold pulled
  rw [Fin.sum_univ_one, two_word, mul_left_comm, EReal.right_distrib_of_nonneg zero_le_one zero_le_one, one_mul, mul_comm _ rate]

/-- One half of a sum is the sum of the halves. -/
theorem halves (n : ℕ) (f : ℕ → EReal) : half * ∑ r ∈ Finset.range n, f r = ∑ r ∈ Finset.range n, half * f r := by
  have h0 : 0 ≤ half := by rw [half_word]; exact EReal.coe_nonneg.2 (by norm_num)
  have ht : half ≠ ⊤ := by rw [half_word]; exact EReal.coe_ne_top _
  induction n with
  | zero => simp
  | succ n ih => rw [Finset.sum_range_succ, Finset.sum_range_succ, EReal.left_distrib_of_nonneg_of_ne_top h0 ht, ih]

end Cert.Rows

end
-- ==== Proof.RowsClaims.lean ====
/-
  The backward calls of the norms. Each goes over 64 blocks of 128 rows; it writes what every row gets back at the row's
  place, and adds what the rows give to the norm's weight into a staged row. The frames of their programs, and the values
  of their idealized programs against the idealized references.
-/
module

public import proofs.«01_k».proof.Defs
public import proofs.«01_k».proof.Proof.Rows
public import proofs.«01_k».proof.Proof.Gen.NormBack.Frame
public import proofs.«01_k».proof.Proof.Gen.NormBackIdeal.Value
public import proofs.«01_k».proof.Proof.Gen.NormBackRefIdeal.Run
public import proofs.«01_k».proof.Proof.Gen.AddNormBack.Frame
public import proofs.«01_k».proof.Proof.Gen.AddNormBackIdeal.Value
public import proofs.«01_k».proof.Proof.Gen.AddNormBackRefIdeal.Run

@[expose] public section

set_option Elab.async false

noncomputable section

open Idealize.ShloMosaic
open Idealize.ShloMosaic.TcCoe
open Idealize.SL.Sem

namespace Cert.NormBackProof

open Cert.NormBackIdeal Cert.NormBackIdeal.Gen Cert.NormBackIdeal.Value

theorem frame_bits : Cert.quiescent_NormBack := fun m g _ => Cert.NormBack.Gen.frame m g

theorem frame_ideal : Cert.quiescent_NormBackIdeal := fun m g _ => Cert.NormBackIdeal.Gen.frame m g

theorem frame_ref : Cert.quiescent_NormBackRefIdeal := fun m g _ =>
  (θ_run Cert.NormBackRefIdeal.defs _ _).mono (fun r h => ⟨fun c => (h c).2.2, sem_eq_zero_of_no_sems (by decide) r.2⟩)
    (Cert.NormBackRefIdeal.Value.run (F := Ideal) m g)

/-- What the rows get back. -/
def backs (h : S8192x2048.Idx → EReal) (g : S1x2048.Idx → EReal) (c a : S8192x2048.Idx → EReal) : S8192x2048.Idx → EReal := fun i =>
  Rows.back 0 (Rows.rowAt h (i 0).val) (Rows.rowAt c (i 0).val) (Rows.rowAt g 0) (i 1) + a i

/-- What the weight gets back. -/
def gains (h c : S8192x2048.Idx → EReal) : S1x2048.Idx → EReal := fun i =>
  ∑ r ∈ Finset.range 8192, Rows.gain (Rows.rowAt h r) (Rows.rowAt c r) (i 1)

theorem backs_rows (h : S8192x2048.Idx → EReal) (g : S1x2048.Idx → EReal) (c a : S8192x2048.Idx → EReal) (i : S8192x2048.Idx) :
    backs h g c a i = Rows.back 0 (Rows.row h (i 0)) (Rows.row c (i 0)) (Rows.row g (0 : Fin 1)) (i 1) + a i :=
  congrArg (· + a i) (Rows.back_congr rfl (Rows.row_eq h _).symm (Rows.row_eq c _).symm (Rows.row_eq g (0 : Fin 1)).symm rfl)

theorem gains_rows (h c : S8192x2048.Idx → EReal) (i : S1x2048.Idx) :
    gains h c i = ∑ r : Fin 8192, Rows.gain (Rows.row h r) (Rows.row c r) (i 1) := by
  refine (Rows.all 8192 fun r => Rows.gain (Rows.rowAt h r) (Rows.rowAt c r) (i 1)).symm.trans (Finset.sum_congr rfl fun r _ => ?_)
  rw [Rows.row_eq h, Rows.row_eq c]

/-- What the rows of a block get back. -/
theorem block_backs (h : Vec Ideal S128x2048 .f32) (g : Vec Ideal S1x2048 .f32) (c a : Vec Ideal S128x2048 .f32) (j : S128x2048.Idx) :
    k0_pay6 (F := Ideal) h g c a j = Rows.back 0 (Rows.row h (j 0)) (Rows.row c (j 0)) (Rows.row g 0) (j 1) + a j := by
  obtain ⟨r, l, rfl⟩ : ∃ (r : Fin 128) (l : Fin 2048), j = ValueIdx.ix2 r l := ⟨j 0, j 1, ValueIdx.eq_ix2 j⟩
  pointwise [k0_pay6, k0_pay3, k0_pay4]
  exact congrArg (· + _) (Rows.back_zero (Rows.row _ r) (Rows.row _ r) (Rows.row _ (0 : Fin 1)) l).symm

/-- A block's part of what the weight gets back. -/
theorem block_gains (h c : Vec Ideal S128x2048 .f32) (j : S1x2048.Idx) :
    k0_pay5 (F := Ideal) h c j = ∑ r : Fin 128, Rows.gain (Rows.row h r) (Rows.row c r) (j 1) := by
  pointwise [k0_pay5, k0_pay3, k0_pay4]
  rfl

/-- The staged row after a block. -/
theorem added (p s : FVec Ideal S1x2048 .f32) (j : S1x2048.Idx) : k0_pay2 (F := Ideal) p s j = s j + p j := by
  pointwise [k0_pay2]

variable (m : (ℓ : Loc nD τ sig) → Buf (Elt Ideal) ℓ)

/-- Where the blocks of a point lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) := by decide +kernel

theorem row0 (c : Dev nD) (t : Fin cfg0.N) (r : Fin 128) : Rows.row (iblk m c 0 t) r = Rows.rowAt (V m c main_arg0) (t.val * 128 + r.val) :=
  Rows.row_through (V m c main_arg0) (fun k => ((cfg0.win 0).blk t).view.emb (ValueIdx.ix2 r k)) (fun _ => Products.place (places t).1.1)
    (fun _ => Rows.inside (places t).1.2)

theorem row1 (c : Dev nD) (t : Fin cfg0.N) : Rows.row (iblk m c 1 t) (0 : Fin 1) = Rows.rowAt (V m c main_arg1) 0 :=
  Rows.row_through (V m c main_arg1) (fun k => ((cfg0.win 1).blk t).view.emb (ValueIdx.ix2 0 k)) (fun _ => Rows.inside (places t).2.1.1)
    (fun _ => Rows.inside (places t).2.1.2)

theorem row2 (c : Dev nD) (t : Fin cfg0.N) (r : Fin 128) : Rows.row (iblk m c 2 t) r = Rows.rowAt (V m c main_arg2) (t.val * 128 + r.val) :=
  Rows.row_through (V m c main_arg2) (fun k => ((cfg0.win 2).blk t).view.emb (ValueIdx.ix2 r k)) (fun _ => Products.place (places t).2.2.1.1)
    (fun _ => Rows.inside (places t).2.2.1.2)

/-- What a point writes at its rows' places. -/
theorem written (c : Dev nD) (t : Fin cfg0.N) :
    (outsAt0 m c t.val t.isLt).1 = k0_pay6 (F := Ideal) (iblk m c 0 t) (iblk m c 1 t) (iblk m c 2 t) (iblk m c 3 t) := by
  by_cases h : t.val % 64 = 0
  on_goal 1 => rw [outsAt0_A m c t h]; dsimp only; unfold out0_A_4
  on_goal 2 => rw [outsAt0_B m c t h]; dsimp only; unfold out0_B_4
  all_goals
    rw [View.read_writes_junk_eq_canon]
    refine (View.canon_unit_zero (by decide) _ _).trans ?_
    exact congr (congr (congrArg₂ k0_pay6 (Products.loaded _ Products.off2 _ _) (Products.loaded _ Products.off2 _ _))
      (Products.loaded _ Products.off2 _ _)) (Products.loaded _ Products.off2 _ _)

/-- The staged row after the first block. -/
theorem first (c : Dev nD) (t : Fin cfg0.N) (h : t.val % 64 = 0) :
    (outsAt0 m c t.val t.isLt).2 = k0_pay2 (F := Ideal) (k0_pay5 (iblk m c 0 t) (iblk m c 2 t)) (k0_pay1 (F := Ideal)) := by
  rw [outsAt0_A m c t h]; dsimp only; unfold out0_A_5
  rw [View.read_writes_junk_eq_canon]
  refine (View.canon_cons_unit_zero (by decide) _ _ _).trans ?_
  exact congrArg₂ k0_pay2 (congrArg₂ k0_pay5 (Products.loaded _ Products.off2 _ _) (Products.loaded _ Products.off2 _ _))
    (View.readCov_unit_zero _ Products.off2 _ _)

/-- The staged row after a further block. -/
theorem next (c : Dev nD) (t : Fin cfg0.N) (h : ¬t.val % 64 = 0) :
    (outsAt0 m c t.val t.isLt).2 = k0_pay2 (F := Ideal) (k0_pay5 (iblk m c 0 t) (iblk m c 2 t))
      (outsAt0 m c (t.val - 1) (Nat.lt_of_le_of_lt (Nat.sub_le _ _) t.isLt)).2 := by
  rw [outsAt0_B m c t h]; dsimp only; unfold out0_B_5
  rw [View.read_writes_junk_eq_canon]
  refine (View.canon_unit_zero (by decide) _ _).trans ?_
  exact congrArg₂ k0_pay2 (congrArg₂ k0_pay5 (Products.loaded _ Products.off2 _ _) (Products.loaded _ Products.off2 _ _))
    (Products.loaded _ Products.off2 _ _)

/-- The staged row after a block: the sum over the rows so far. -/
theorem state (c : Dev nD) (n : ℕ) (h : n < cfg0.N) (j : S1x2048.Idx) :
    (outsAt0 m c n h).2 j = ∑ k ∈ Finset.range ((n % 64 + 1) * 128),
      Rows.gain (Rows.rowAt (V m c main_arg0) k) (Rows.rowAt (V m c main_arg2) k) (j 1) :=
  Rows.staged (fun n h => (outsAt0 m c n h).2) (fun t j => k0_pay5 (F := Ideal) (iblk m c 0 t) (iblk m c 2 t) j)
    (fun k (j : S1x2048.Idx) => Rows.gain (Rows.rowAt (V m c main_arg0) k) (Rows.rowAt (V m c main_arg2) k) (j 1)) N_0
    (fun t j => (block_gains _ _ j).trans (Finset.sum_congr rfl fun k _ => by rw [row0, row2]))
    (fun t j h => (congrFun (first m c t h) j).trans ((added _ _ j).trans (congrArg (· + _) Products.zero_word)))
    (fun t j h => (congrFun (next m c t h) j).trans (added _ _ j)) n h j

theorem flushed_rows (c : Dev nD) (t : Fin cfg0.N) (hf : (cfg0.win 4).flush t = true) :
    (dats m 0 c).flushed 4 t = ((cfg0.win 4).blk t).view.read (Elt Ideal)
      (backs (V m c main_arg0) (V m c main_arg1) (V m c main_arg2) (V m c main_arg3)) := by
  obtain ⟨-, -, -, p3, p4, -⟩ := places t
  obtain ⟨G, hG⟩ : ∃ G : S8192x2048.Idx → EReal,
    G = backs (V m c main_arg0) (V m c main_arg1) (V m c main_arg2) (V m c main_arg3) := ⟨_, rfl⟩
  rw [flushed4, written, ← hG]
  funext y
  refine (block_backs _ _ _ _ ((cfg0.win 4).xinj (grid0.coords t) y)).trans ?_
  show _ = G (((cfg0.win 4).blk t).view.emb y)
  rw [hG]
  have e0 : (((cfg0.win 4).blk t).view.emb y 0).val = t.val * 128 + (y 0).val := Products.place p4.1
  have e1 : (((cfg0.win 4).blk t).view.emb y 1).val = (y 1).val := Rows.inside p4.2
  refine congrArg₂ (· + ·) (Rows.back_congr rfl ((row0 m c t _).trans (congrArg _ e0.symm)) ((row2 m c t _).trans (congrArg _ e0.symm))
    (row1 m c t) (Fin.ext e1.symm)) ?_
  exact (Products.at2_eq (V m c main_arg3) (((cfg0.win 3).blk t).view.emb _) (Products.place p3.1) (Rows.inside p3.2)).trans
    (Products.at2_eq (V m c main_arg3) _ e0 e1).symm

theorem covered_rows (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  let t : Fin cfg0.N := ⟨(i 0).val / 128, by rw [show cfg0.N = 64 from N_0]; omega⟩
  obtain ⟨-, -, -, -, ⟨p0, p1⟩, -⟩ := places t
  have e : t.val = (i 0).val / 128 := rfl
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 2048 ≤ (i 1).val ∧ (i 1).val < win0_4.index t (1 : Fin 2) * 2048 + 2048; omega

theorem flushed_sum (c : Dev nD) (t : Fin cfg0.N) (hf : (cfg0.win 5).flush t = true) :
    (dats m 0 c).flushed 5 t = ((cfg0.win 5).blk t).view.read (Elt Ideal) (gains (V m c main_arg0) (V m c main_arg2)) := by
  have hq : t.val % 64 = 63 := (flush0_5 t).mp hf
  obtain ⟨-, -, -, -, -, p5⟩ := places t
  obtain ⟨G, hG⟩ : ∃ G : S1x2048.Idx → EReal, G = gains (V m c main_arg0) (V m c main_arg2) := ⟨_, rfl⟩
  rw [flushed5, ← hG]
  funext y
  refine (state m c t.val t.isLt ((cfg0.win 5).xinj (grid0.coords t) y)).trans ?_
  show _ = G (((cfg0.win 5).blk t).view.emb y)
  rw [hG, hq]
  have e1 : (((cfg0.win 5).blk t).view.emb y 1).val = (y 1).val := Rows.inside p5.2
  exact Finset.sum_congr rfl fun k _ => congrArg _ (Fin.ext e1.symm)

theorem covered_sum (i : S1x2048.Idx) : ∃ t : Fin cfg0.N, (cfg0.win 5).flush t = true ∧ i ∈ ((cfg0.win 5).blk t).view.set := by
  have h0 : (i 0).val < 1 := (i 0).isLt
  have h1 : (i 1).val < 2048 := (i 1).isLt
  let t : Fin cfg0.N := ⟨63, by rw [show cfg0.N = 64 from N_0]; omega⟩
  obtain ⟨-, -, -, -, -, ⟨p0, p1⟩⟩ := places t
  refine ⟨t, (flush0_5 t).mpr rfl, ?_⟩
  show i ∈ ((View.whole main_v0_1).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 2048 ≤ (i 1).val ∧ (i 1).val < win0_5.index t (1 : Fin 2) * 2048 + 2048; omega

theorem value : Cert.algebraic_NormBackIdeal_NormBackRefIdeal := fun m g m' g' _ hm =>
  ⟨fun c => backs (V m c main_arg0) (V m c main_arg1) (V m c main_arg2) (V m c main_arg3),
    fun c => gains (V m c main_arg0) (V m c main_arg2),
    (θ_run Cert.NormBackIdeal.defs _ _).mono (fun _ h c =>
      ⟨(h c).1.trans ((dats m 0 c).arrAt_eq_of_cover 4 _ (flushed_rows m c) covered_rows),
        (h c).2.1.trans ((dats m 0 c).arrAt_eq_of_cover 5 _ (flushed_sum m c) covered_sum), (h c).2.2⟩) (run_blocks m g),
    (θ_run Cert.NormBackRefIdeal.defs _ _).mono (fun _ h c => ⟨(h c).1.trans (by
        obtain ⟨h0, h1, h2, h3⟩ := hm c
        funext j
        refine Eq.trans ?_ (backs_rows _ _ _ _ j).symm
        obtain ⟨r, l, rfl⟩ : ∃ (r : Fin 8192) (l : Fin 2048), j = ValueIdx.ix2 r l := ⟨j 0, j 1, ValueIdx.eq_ix2 j⟩
        pointwise
        rw [h0, h1, h2, h3]
        exact congrArg (· + _) (Rows.back_zero (Rows.row _ r) (Rows.row _ r) (Rows.row _ (0 : Fin 1)) l).symm),
      (h c).2.1.trans (by
        obtain ⟨h0, h1, h2, h3⟩ := hm c
        funext j
        refine Eq.trans ?_ (gains_rows _ _ j).symm
        pointwise
        rw [h0, h2]
        rfl), (h c).2.2⟩)
      (Cert.NormBackRefIdeal.Value.run m' g')⟩

end Cert.NormBackProof

namespace Cert.AddNormBackProof

open Cert.AddNormBackIdeal Cert.AddNormBackIdeal.Gen Cert.AddNormBackIdeal.Value

theorem frame_bits : Cert.quiescent_AddNormBack := fun m g _ => Cert.AddNormBack.Gen.frame m g

theorem frame_ideal : Cert.quiescent_AddNormBackIdeal := fun m g _ => Cert.AddNormBackIdeal.Gen.frame m g

theorem frame_ref : Cert.quiescent_AddNormBackRefIdeal := fun m g _ =>
  (θ_run Cert.AddNormBackRefIdeal.defs _ _).mono (fun r h => ⟨fun c => (h c).2.2.2, sem_eq_zero_of_no_sems (by decide) r.2⟩)
    (Cert.AddNormBackRefIdeal.Value.run (F := Ideal) m g)

/-- What the rows of both summands get back. -/
def backs (h x : S8192x2048.Idx → EReal) (g : S1x2048.Idx → EReal) (d c : S8192x2048.Idx → EReal) : S8192x2048.Idx → EReal := fun i =>
  Rows.back (d i) (Rows.plus (Rows.rowAt h (i 0).val) (Rows.rowAt x (i 0).val)) (Rows.rowAt c (i 0).val) (Rows.rowAt g 0) (i 1)

/-- What the weight gets back. -/
def gains (h x c : S8192x2048.Idx → EReal) : S1x2048.Idx → EReal := fun i =>
  ∑ r ∈ Finset.range 8192, Rows.gain (Rows.plus (Rows.rowAt h r) (Rows.rowAt x r)) (Rows.rowAt c r) (i 1)

theorem backs_rows (h x : S8192x2048.Idx → EReal) (g : S1x2048.Idx → EReal) (d c : S8192x2048.Idx → EReal) (i : S8192x2048.Idx) :
    backs h x g d c i
      = Rows.back (d i) (Rows.plus (Rows.row h (i 0)) (Rows.row x (i 0))) (Rows.row c (i 0)) (Rows.row g (0 : Fin 1)) (i 1) :=
  Rows.back_congr rfl (congrArg₂ Rows.plus (Rows.row_eq h _).symm (Rows.row_eq x _).symm) (Rows.row_eq c _).symm
    (Rows.row_eq g (0 : Fin 1)).symm rfl

theorem gains_rows (h x c : S8192x2048.Idx → EReal) (i : S1x2048.Idx) :
    gains h x c i = ∑ r : Fin 8192, Rows.gain (Rows.plus (Rows.row h r) (Rows.row x r)) (Rows.row c r) (i 1) := by
  refine (Rows.all 8192 fun r => Rows.gain (Rows.plus (Rows.rowAt h r) (Rows.rowAt x r)) (Rows.rowAt c r) (i 1)).symm.trans
    (Finset.sum_congr rfl fun r _ => ?_)
  rw [Rows.row_eq h, Rows.row_eq x, Rows.row_eq c]

/-- What the rows of a block get back. -/
theorem block_backs (h x : Vec Ideal S128x2048 .f32) (g : Vec Ideal S1x2048 .f32) (d c : Vec Ideal S128x2048 .f32) (j : S128x2048.Idx) :
    k0_pay8 (F := Ideal) h x g d c j
      = Rows.back (d j) (Rows.plus (Rows.row h (j 0)) (Rows.row x (j 0))) (Rows.row c (j 0)) (Rows.row g (0 : Fin 1)) (j 1) := by
  obtain ⟨r, l, rfl⟩ : ∃ (r : Fin 128) (l : Fin 2048), j = ValueIdx.ix2 r l := ⟨j 0, j 1, ValueIdx.eq_ix2 j⟩
  pointwise [k0_pay8, k0_pay4, k0_pay5, k0_pay6]
  rfl

/-- A block's part of what the weight gets back. -/
theorem block_gains (h x c : Vec Ideal S128x2048 .f32) (j : S1x2048.Idx) :
    k0_pay7 (F := Ideal) h x c j = ∑ r : Fin 128, Rows.gain (Rows.plus (Rows.row h r) (Rows.row x r)) (Rows.row c r) (j 1) := by
  pointwise [k0_pay7, k0_pay4, k0_pay5, k0_pay6]
  rfl

/-- The staged row after a block. -/
theorem added (p s : FVec Ideal S1x2048 .f32) (j : S1x2048.Idx) : k0_pay3 (F := Ideal) p s j = s j + p j := by
  pointwise [k0_pay3]

variable (m : (ℓ : Loc nD τ sig) → Buf (Elt Ideal) ℓ)

/-- Where the blocks of a point lie. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0) := by decide +kernel

theorem row0 (c : Dev nD) (t : Fin cfg0.N) (r : Fin 128) : Rows.row (iblk m c 0 t) r = Rows.rowAt (V m c main_arg0) (t.val * 128 + r.val) :=
  Rows.row_through (V m c main_arg0) (fun k => ((cfg0.win 0).blk t).view.emb (ValueIdx.ix2 r k)) (fun _ => Products.place (places t).1.1)
    (fun _ => Rows.inside (places t).1.2)

theorem row1 (c : Dev nD) (t : Fin cfg0.N) (r : Fin 128) : Rows.row (iblk m c 1 t) r = Rows.rowAt (V m c main_arg1) (t.val * 128 + r.val) :=
  Rows.row_through (V m c main_arg1) (fun k => ((cfg0.win 1).blk t).view.emb (ValueIdx.ix2 r k)) (fun _ => Products.place (places t).2.1.1)
    (fun _ => Rows.inside (places t).2.1.2)

theorem row2 (c : Dev nD) (t : Fin cfg0.N) : Rows.row (iblk m c 2 t) (0 : Fin 1) = Rows.rowAt (V m c main_arg2) 0 :=
  Rows.row_through (V m c main_arg2) (fun k => ((cfg0.win 2).blk t).view.emb (ValueIdx.ix2 0 k)) (fun _ => Rows.inside (places t).2.2.1.1)
    (fun _ => Rows.inside (places t).2.2.1.2)

theorem row4 (c : Dev nD) (t : Fin cfg0.N) (r : Fin 128) : Rows.row (iblk m c 4 t) r = Rows.rowAt (V m c main_arg4) (t.val * 128 + r.val) :=
  Rows.row_through (V m c main_arg4) (fun k => ((cfg0.win 4).blk t).view.emb (ValueIdx.ix2 r k)) (fun _ => Products.place (places t).2.2.2.2.1.1)
    (fun _ => Rows.inside (places t).2.2.2.2.1.2)

/-- What a point loads. -/
theorem load0 (c : Dev nD) (t : Fin cfg0.N) : View.readAt (Elt Ideal) (ms0_0 t).view
    (Rect.unit (s := S128x2048) ![0, 0] S128x2048.size inb_S128x2048_S128x2048_0_0).toLoadRect ((hs0_0 t).unread (iblk m c 0 t)) = iblk m c 0 t :=
  Products.loaded (hs0_0 t) Products.off2 inb_S128x2048_S128x2048_0_0 (iblk m c 0 t)

theorem load1 (c : Dev nD) (t : Fin cfg0.N) : View.readAt (Elt Ideal) (ms0_1 t).view
    (Rect.unit (s := S128x2048) ![0, 0] S128x2048.size inb_S128x2048_S128x2048_0_0).toLoadRect ((hs0_1 t).unread (iblk m c 1 t)) = iblk m c 1 t :=
  Products.loaded (hs0_1 t) Products.off2 inb_S128x2048_S128x2048_0_0 (iblk m c 1 t)

theorem load2 (c : Dev nD) (t : Fin cfg0.N) : View.readAt (Elt Ideal) (ms0_2 t).view
    (Rect.unit (s := S1x2048) ![0, 0] S1x2048.size inb_S1x2048_S1x2048_0_0).toLoadRect ((hs0_2 t).unread (iblk m c 2 t)) = iblk m c 2 t :=
  Products.loaded (hs0_2 t) Products.off2 inb_S1x2048_S1x2048_0_0 (iblk m c 2 t)

theorem load3 (c : Dev nD) (t : Fin cfg0.N) : View.readAt (Elt Ideal) (ms0_3 t).view
    (Rect.unit (s := S128x2048) ![0, 0] S128x2048.size inb_S128x2048_S128x2048_0_0).toLoadRect ((hs0_3 t).unread (iblk m c 3 t)) = iblk m c 3 t :=
  Products.loaded (hs0_3 t) Products.off2 inb_S128x2048_S128x2048_0_0 (iblk m c 3 t)

theorem load4 (c : Dev nD) (t : Fin cfg0.N) : View.readAt (Elt Ideal) (ms0_4 t).view
    (Rect.unit (s := S128x2048) ![0, 0] S128x2048.size inb_S128x2048_S128x2048_0_0).toLoadRect ((hs0_4 t).unread (iblk m c 4 t)) = iblk m c 4 t :=
  Products.loaded (hs0_4 t) Products.off2 inb_S128x2048_S128x2048_0_0 (iblk m c 4 t)

/-- What a point writes at its rows' places. -/
theorem written (c : Dev nD) (t : Fin cfg0.N) :
    (outsAt0 m c t.val t.isLt).1
      = k0_pay8 (F := Ideal) (iblk m c 0 t) (iblk m c 1 t) (iblk m c 2 t) (iblk m c 3 t) (iblk m c 4 t) := by
  have e := congr (congr (congr (congrArg₂ (k0_pay8 (F := Ideal)) (load0 m c t) (load1 m c t)) (load2 m c t)) (load3 m c t)) (load4 m c t)
  by_cases h : t.val % 64 = 0
  on_goal 1 => rw [outsAt0_A m c t h]; unfold out0_A_5
  on_goal 2 => rw [outsAt0_B m c t h]; unfold out0_B_5
  all_goals
    rw [View.read_writes_junk_eq_canon]
    refine Eq.trans ?_ ((View.canon_unit_zero (off := ![0, 0]) (by decide) inb_S128x2048_S128x2048_0_0 _).trans e)
    sl_kernel_rfl

/-- What it writes for the second summand. -/
theorem written' (c : Dev nD) (t : Fin cfg0.N) :
    (outsAt0 m c t.val t.isLt).2.1
      = k0_pay1 (F := Ideal) (k0_pay8 (F := Ideal) (iblk m c 0 t) (iblk m c 1 t) (iblk m c 2 t) (iblk m c 3 t) (iblk m c 4 t)) := by
  have e := congrArg (k0_pay1 (F := Ideal)) (congr (congr (congr (congrArg₂ (k0_pay8 (F := Ideal)) (load0 m c t) (load1 m c t)) (load2 m c t)) (load3 m c t)) (load4 m c t))
  by_cases h : t.val % 64 = 0
  on_goal 1 => rw [outsAt0_A m c t h]; unfold out0_A_6
  on_goal 2 => rw [outsAt0_B m c t h]; unfold out0_B_6
  all_goals
    rw [View.read_writes_junk_eq_canon]
    refine Eq.trans ?_ ((View.canon_unit_zero (off := ![0, 0]) (by decide) inb_S128x2048_S128x2048_0_0 _).trans e)
    sl_kernel_rfl

/-- The staged row after the first block. -/
theorem first (c : Dev nD) (t : Fin cfg0.N) (h : t.val % 64 = 0) :
    (outsAt0 m c t.val t.isLt).2.2 = k0_pay3 (F := Ideal) (k0_pay7 (iblk m c 0 t) (iblk m c 1 t) (iblk m c 4 t)) (k0_pay2 (F := Ideal)) := by
  have e := congrArg₂ (k0_pay3 (F := Ideal)) (congr (congrArg₂ (k0_pay7 (F := Ideal)) (load0 m c t) (load1 m c t)) (load4 m c t))
    (View.readCov_unit_zero (Val := Elt Ideal) (ms0_7 t).view Products.off2 inb_S1x2048_S1x2048_0_0 (k0_pay2 (F := Ideal)))
  rw [outsAt0_A m c t h]; unfold out0_A_7
  rw [View.read_writes_junk_eq_canon]
  refine Eq.trans ?_ ((View.canon_cons_unit_zero (off := ![0, 0]) (by decide) inb_S1x2048_S1x2048_0_0 _
    [⟨Rect.unit (s := S1x2048) ![0, 0] S1x2048.size inb_S1x2048_S1x2048_0_0, k0_pay2 (F := Ideal)⟩]).trans e)
  sl_kernel_rfl

/-- The staged row after a further block. -/
theorem next (c : Dev nD) (t : Fin cfg0.N) (h : ¬t.val % 64 = 0) :
    (outsAt0 m c t.val t.isLt).2.2 = k0_pay3 (F := Ideal) (k0_pay7 (iblk m c 0 t) (iblk m c 1 t) (iblk m c 4 t))
      (outsAt0 m c (t.val - 1) (Nat.lt_of_le_of_lt (Nat.sub_le _ _) t.isLt)).2.2 := by
  have e := congrArg₂ (k0_pay3 (F := Ideal)) (congr (congrArg₂ (k0_pay7 (F := Ideal)) (load0 m c t) (load1 m c t)) (load4 m c t))
    (Products.loaded (Val := Elt Ideal) (hs0_7 t) Products.off2 inb_S1x2048_S1x2048_0_0
      (outsAt0 m c (t.val - 1) (Nat.lt_of_le_of_lt (Nat.sub_le _ _) t.isLt)).2.2)
  rw [outsAt0_B m c t h]; unfold out0_B_7
  rw [View.read_writes_junk_eq_canon]
  refine Eq.trans ?_ ((View.canon_unit_zero (off := ![0, 0]) (by decide) inb_S1x2048_S1x2048_0_0 _).trans e)
  sl_kernel_rfl

/-- The staged row after a block: the sum over the rows so far. -/
theorem state (c : Dev nD) (n : ℕ) (h : n < cfg0.N) (j : S1x2048.Idx) :
    (outsAt0 m c n h).2.2 j = ∑ k ∈ Finset.range ((n % 64 + 1) * 128),
      Rows.gain (Rows.plus (Rows.rowAt (V m c main_arg0) k) (Rows.rowAt (V m c main_arg1) k)) (Rows.rowAt (V m c main_arg4) k) (j 1) :=
  Rows.staged (fun n h => (outsAt0 m c n h).2.2) (fun t j => k0_pay7 (F := Ideal) (iblk m c 0 t) (iblk m c 1 t) (iblk m c 4 t) j)
    (fun k (j : S1x2048.Idx) =>
      Rows.gain (Rows.plus (Rows.rowAt (V m c main_arg0) k) (Rows.rowAt (V m c main_arg1) k)) (Rows.rowAt (V m c main_arg4) k) (j 1)) N_0
    (fun t j => (block_gains _ _ _ j).trans (Finset.sum_congr rfl fun k _ => by rw [row0, row1, row4]))
    (fun t j h => (congrFun (first m c t h) j).trans ((added _ _ j).trans (congrArg (· + _) Products.zero_word)))
    (fun t j h => (congrFun (next m c t h) j).trans (added _ _ j)) n h j

/-- A row's place in an output's block gets what the row gets back. -/
theorem block_rows (c : Dev nD) (t : Fin cfg0.N) (j : S128x2048.Idx) (i : S8192x2048.Idx) (e0 : (i 0).val = t.val * 128 + (j 0).val)
    (e1 : (i 1).val = (j 1).val) :
    k0_pay8 (F := Ideal) (iblk m c 0 t) (iblk m c 1 t) (iblk m c 2 t) (iblk m c 3 t) (iblk m c 4 t) j
      = backs (V m c main_arg0) (V m c main_arg1) (V m c main_arg2) (V m c main_arg3) (V m c main_arg4) i :=
  (block_backs _ _ _ _ _ j).trans (Rows.back_congr
    ((Products.at2_eq (V m c main_arg3) (((cfg0.win 3).blk t).view.emb j) (Products.place (places t).2.2.2.1.1)
      (Rows.inside (places t).2.2.2.1.2)).trans (Products.at2_eq (V m c main_arg3) i e0 e1).symm)
    (congrArg₂ Rows.plus ((row0 m c t _).trans (congrArg _ e0.symm)) ((row1 m c t _).trans (congrArg _ e0.symm)))
    ((row4 m c t _).trans (congrArg _ e0.symm)) (row2 m c t) (Fin.ext e1.symm))

theorem flushed_rows (c : Dev nD) (t : Fin cfg0.N) (hf : (cfg0.win 5).flush t = true) :
    (dats m 0 c).flushed 5 t = ((cfg0.win 5).blk t).view.read (Elt Ideal)
      (backs (V m c main_arg0) (V m c main_arg1) (V m c main_arg2) (V m c main_arg3) (V m c main_arg4)) := by
  obtain ⟨-, -, -, -, -, p, -⟩ := places t
  rw [flushed5, written]
  exact funext fun y => block_rows m c t ((cfg0.win 5).xinj (grid0.coords t) y) (((cfg0.win 5).blk t).view.emb y)
    (Products.place p.1) (Rows.inside p.2)

theorem flushed_rows' (c : Dev nD) (t : Fin cfg0.N) (hf : (cfg0.win 6).flush t = true) :
    (dats m 0 c).flushed 6 t = ((cfg0.win 6).blk t).view.read (Elt Ideal)
      (backs (V m c main_arg0) (V m c main_arg1) (V m c main_arg2) (V m c main_arg3) (V m c main_arg4)) := by
  obtain ⟨-, -, -, -, -, -, p, -⟩ := places t
  rw [flushed6, written']
  exact funext fun y => block_rows m c t ((cfg0.win 6).xinj (grid0.coords t) y) (((cfg0.win 6).blk t).view.emb y)
    (Products.place p.1) (Rows.inside p.2)

theorem covered_rows (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  let t : Fin cfg0.N := ⟨(i 0).val / 128, by rw [show cfg0.N = 64 from N_0]; omega⟩
  obtain ⟨-, -, -, -, -, ⟨p0, p1⟩, -⟩ := places t
  have e : t.val = (i 0).val / 128 := rfl
  refine ⟨t, flush0_5 t, ?_⟩
  show i ∈ ((View.whole main_v0_0).slice (win0_5.rect t)).set
  rw [View.set_slice_whole, Rect.mem_set_unit]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 2048 ≤ (i 1).val ∧ (i 1).val < win0_5.index t (1 : Fin 2) * 2048 + 2048; omega

theorem covered_rows' (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  let t : Fin cfg0.N := ⟨(i 0).val / 128, by rw [show cfg0.N = 64 from N_0]; omega⟩
  obtain ⟨-, -, -, -, -, -, ⟨p0, p1⟩, -⟩ := places t
  have e : t.val = (i 0).val / 128 := rfl
  refine ⟨t, flush0_6 t, ?_⟩
  show i ∈ ((View.whole main_v0_1).slice (win0_6.rect t)).set
  rw [View.set_slice_whole, Rect.mem_set_unit]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 2048 ≤ (i 1).val ∧ (i 1).val < win0_6.index t (1 : Fin 2) * 2048 + 2048; omega

theorem flushed_sum (c : Dev nD) (t : Fin cfg0.N) (hf : (cfg0.win 7).flush t = true) :
    (dats m 0 c).flushed 7 t = ((cfg0.win 7).blk t).view.read (Elt Ideal) (gains (V m c main_arg0) (V m c main_arg1) (V m c main_arg4)) := by
  have hq : t.val % 64 = 63 := (flush0_7 t).mp hf
  obtain ⟨-, -, -, -, -, -, -, p⟩ := places t
  obtain ⟨G, hG⟩ : ∃ G : S1x2048.Idx → EReal, G = gains (V m c main_arg0) (V m c main_arg1) (V m c main_arg4) := ⟨_, rfl⟩
  rw [flushed7, ← hG]
  funext y
  refine (state m c t.val t.isLt ((cfg0.win 7).xinj (grid0.coords t) y)).trans ?_
  show _ = G (((cfg0.win 7).blk t).view.emb y)
  rw [hG, hq]
  have e1 : (((cfg0.win 7).blk t).view.emb y 1).val = (y 1).val := Rows.inside p.2
  exact Finset.sum_congr rfl fun k _ => congrArg _ (Fin.ext e1.symm)

theorem covered_sum (i : S1x2048.Idx) : ∃ t : Fin cfg0.N, (cfg0.win 7).flush t = true ∧ i ∈ ((cfg0.win 7).blk t).view.set := by
  have h0 : (i 0).val < 1 := (i 0).isLt
  have h1 : (i 1).val < 2048 := (i 1).isLt
  let t : Fin cfg0.N := ⟨63, by rw [show cfg0.N = 64 from N_0]; omega⟩
  obtain ⟨-, -, -, -, -, -, -, ⟨p0, p1⟩⟩ := places t
  refine ⟨t, (flush0_7 t).mpr rfl, ?_⟩
  show i ∈ ((View.whole main_v0_2).slice (win0_7.rect t)).set
  rw [View.set_slice_whole, Rect.mem_set_unit]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 2048 ≤ (i 1).val ∧ (i 1).val < win0_7.index t (1 : Fin 2) * 2048 + 2048; omega

theorem value : Cert.algebraic_AddNormBackIdeal_AddNormBackRefIdeal := fun m g m' g' _ hm =>
  ⟨fun c => backs (V m c main_arg0) (V m c main_arg1) (V m c main_arg2) (V m c main_arg3) (V m c main_arg4),
    fun c => backs (V m c main_arg0) (V m c main_arg1) (V m c main_arg2) (V m c main_arg3) (V m c main_arg4),
    fun c => gains (V m c main_arg0) (V m c main_arg1) (V m c main_arg4),
    (θ_run Cert.AddNormBackIdeal.defs _ _).mono (fun _ h c =>
      ⟨(h c).1.trans ((dats m 0 c).arrAt_eq_of_cover 5 _ (flushed_rows m c) covered_rows),
        (h c).2.1.trans ((dats m 0 c).arrAt_eq_of_cover 6 _ (flushed_rows' m c) covered_rows'),
        (h c).2.2.1.trans ((dats m 0 c).arrAt_eq_of_cover 7 _ (flushed_sum m c) covered_sum), (h c).2.2.2⟩) (run_blocks m g),
    (θ_run Cert.AddNormBackRefIdeal.defs _ _).mono (fun _ h c => ⟨(h c).1.trans (by
        obtain ⟨h0, h1, h2, h3, h4⟩ := hm c
        funext j
        refine Eq.trans ?_ (backs_rows _ _ _ _ _ j).symm
        obtain ⟨r, l, rfl⟩ : ∃ (r : Fin 8192) (l : Fin 2048), j = ValueIdx.ix2 r l := ⟨j 0, j 1, ValueIdx.eq_ix2 j⟩
        pointwise [Cert.AddNormBackRefIdeal.Value.res_main_v35]
        rw [h0, h1, h2, h3, h4]
        rfl),
      (h c).2.1.trans (by
        obtain ⟨h0, h1, h2, h3, h4⟩ := hm c
        funext j
        refine Eq.trans ?_ (backs_rows _ _ _ _ _ j).symm
        obtain ⟨r, l, rfl⟩ : ∃ (r : Fin 8192) (l : Fin 2048), j = ValueIdx.ix2 r l := ⟨j 0, j 1, ValueIdx.eq_ix2 j⟩
        pointwise [Cert.AddNormBackRefIdeal.Value.res_main_v36]
        rw [h0, h1, h2, h3, h4]
        rfl),
      (h c).2.2.1.trans (by
        obtain ⟨h0, h1, h2, h3, h4⟩ := hm c
        funext j
        refine Eq.trans ?_ (gains_rows _ _ _ j).symm
        pointwise
        rw [h0, h1, h4]
        rfl), (h c).2.2.2⟩)
      (Cert.AddNormBackRefIdeal.Value.run m' g')⟩

end Cert.AddNormBackProof
-- ==== Proof.LossClaims.lean ====
/-
  The loss head. It goes over 64 blocks of 128 rows; it writes what every row gets back at the row's place, and adds what
  the rows give to the loss and to the norm's weight into staged rows. The frames of its program, and the value of its
  idealized program against the idealized reference.
-/
module

public import proofs.«01_k».proof.Defs
public import proofs.«01_k».proof.Proof.Rows
public import proofs.«01_k».proof.Proof.Gen.LossHead.Frame
public import proofs.«01_k».proof.Proof.Gen.LossHeadIdeal.Value
public import proofs.«01_k».proof.Proof.Gen.LossHeadRefIdeal.Run

@[expose] public section

set_option Elab.async false

noncomputable section

open Idealize.ShloMosaic
open Idealize.ShloMosaic.TcCoe
open Idealize.SL.Sem

namespace Cert.LossHeadProof

open Cert.LossHeadIdeal Cert.LossHeadIdeal.Gen Cert.LossHeadIdeal.Value

theorem frame_bits : Cert.quiescent_LossHead := fun m g _ => Cert.LossHead.Gen.frame m g

theorem frame_ideal : Cert.quiescent_LossHeadIdeal := fun m g _ => Cert.LossHeadIdeal.Gen.frame m g

theorem frame_ref : Cert.quiescent_LossHeadRefIdeal := fun m g _ =>
  (θ_run Cert.LossHeadRefIdeal.defs _ _).mono (fun r h => ⟨fun c => (h c).2.2.2, sem_eq_zero_of_no_sems (by decide) r.2⟩)
    (Cert.LossHeadRefIdeal.Value.run (F := Ideal) m g)

/-- The loss, in every lane. -/
def loss (h y : S8192x2048.Idx → EReal) (g : S1x2048.Idx → EReal) : S1x128.Idx → EReal := fun _ =>
  ∑ r ∈ Finset.range 8192, Rows.half * Rows.missed (Rows.rowAt h r) (Rows.rowAt g 0) (Rows.rowAt y r)

/-- What the rows get back. -/
def backs (h y : S8192x2048.Idx → EReal) (g : S1x2048.Idx → EReal) : S8192x2048.Idx → EReal := fun i =>
  Rows.back 0 (Rows.rowAt h (i 0).val) (Rows.pulled (Rows.rowAt h (i 0).val) (Rows.rowAt g 0) (Rows.rowAt y (i 0).val)) (Rows.rowAt g 0) (i 1)

/-- What the weight gets back. -/
def gains (h y : S8192x2048.Idx → EReal) (g : S1x2048.Idx → EReal) : S1x2048.Idx → EReal := fun i =>
  ∑ r ∈ Finset.range 8192, Rows.gain (Rows.rowAt h r) (Rows.pulled (Rows.rowAt h r) (Rows.rowAt g 0) (Rows.rowAt y r)) (i 1)

theorem loss_rows (h y : S8192x2048.Idx → EReal) (g : S1x2048.Idx → EReal) (i : S1x128.Idx) :
    loss h y g i = Rows.half * ∑ r : Fin 8192, Rows.missed (Rows.row h r) (Rows.row g (0 : Fin 1)) (Rows.row y r) := by
  refine (Rows.halves 8192 fun r => Rows.missed (Rows.rowAt h r) (Rows.rowAt g 0) (Rows.rowAt y r)).symm.trans (congrArg _ ?_)
  refine (Rows.all 8192 fun r => Rows.missed (Rows.rowAt h r) (Rows.rowAt g 0) (Rows.rowAt y r)).symm.trans
    (Finset.sum_congr rfl fun r _ => ?_)
  rw [Rows.row_eq h, Rows.row_eq y, Rows.row_eq g]
  rfl

theorem backs_rows (h y : S8192x2048.Idx → EReal) (g : S1x2048.Idx → EReal) (i : S8192x2048.Idx) :
    backs h y g i = Rows.back 0 (Rows.row h (i 0)) (Rows.pulled (Rows.row h (i 0)) (Rows.row g (0 : Fin 1)) (Rows.row y (i 0)))
      (Rows.row g (0 : Fin 1)) (i 1) :=
  Rows.back_congr rfl (Rows.row_eq h _).symm
    (congr (congrArg₂ Rows.pulled (Rows.row_eq h _).symm (Rows.row_eq g (0 : Fin 1)).symm) (Rows.row_eq y _).symm)
    (Rows.row_eq g (0 : Fin 1)).symm rfl

theorem gains_rows (h y : S8192x2048.Idx → EReal) (g : S1x2048.Idx → EReal) (i : S1x2048.Idx) :
    gains h y g i
      = ∑ r : Fin 8192, Rows.gain (Rows.row h r) (Rows.pulled (Rows.row h r) (Rows.row g (0 : Fin 1)) (Rows.row y r)) (i 1) := by
  refine (Rows.all 8192 fun r => Rows.gain (Rows.rowAt h r) (Rows.pulled (Rows.rowAt h r) (Rows.rowAt g 0) (Rows.rowAt y r)) (i 1)).symm.trans
    (Finset.sum_congr rfl fun r _ => ?_)
  rw [Rows.row_eq h, Rows.row_eq y, Rows.row_eq g]
  rfl

/-- The staged loss after a block. -/
theorem block_loss (y h : Vec Ideal S128x2048 .f32) (g : Vec Ideal S1x2048 .f32) (s : Vec Ideal S1x128 .f32) (j : S1x128.Idx) :
    k0_pay4 (F := Ideal) (k0_pay11 y h g) s j
      = s j + ∑ r : Fin 128, Rows.half * Rows.missed (Rows.row h r) (Rows.row g (0 : Fin 1)) (Rows.row y r) := by
  pointwise [k0_pay4, k0_pay6, k0_pay7, k0_pay9, k0_pay10, k0_pay11]
  rfl

/-- What the rows of a block get back. -/
theorem block_backs (y h : Vec Ideal S128x2048 .f32) (g : Vec Ideal S1x2048 .f32) (j : S128x2048.Idx) :
    k0_pay1 (F := Ideal) h (k0_pay7 h) (k0_pay8 h) (k0_pay12 y h g) (k0_pay14 g) j
      = Rows.back 0 (Rows.row h (j 0)) (Rows.pulled (Rows.row h (j 0)) (Rows.row g (0 : Fin 1)) (Rows.row y (j 0)))
          (Rows.row g (0 : Fin 1)) (j 1) := by
  obtain ⟨r, l, rfl⟩ : ∃ (r : Fin 128) (l : Fin 2048), j = ValueIdx.ix2 r l := ⟨j 0, j 1, ValueIdx.eq_ix2 j⟩
  pointwise [k0_pay1, k0_pay6, k0_pay7, k0_pay8, k0_pay9, k0_pay10, k0_pay12, k0_pay14]
  refine Eq.trans ?_ (Rows.back_congr rfl rfl (funext fun k => Rows.pulled_eq (Rows.row h r) (Rows.row g (0 : Fin 1)) (Rows.row y r) k) rfl rfl)
  exact (Rows.back_zero (Rows.row h r) (fun k => Rows.miss (Rows.row h r) (Rows.row g (0 : Fin 1)) (Rows.row y r) k * (∑ _ : Fin 1, Rows.rate)
    + (∑ _ : Fin 1, Rows.rate) * Rows.miss (Rows.row h r) (Rows.row g (0 : Fin 1)) (Rows.row y r) k) (Rows.row g (0 : Fin 1)) l).symm

/-- A block's part of what the weight gets back. -/
theorem block_gains (y h : Vec Ideal S128x2048 .f32) (g : Vec Ideal S1x2048 .f32) (j : S1x2048.Idx) :
    k0_pay13 (F := Ideal) y h g j
      = ∑ r : Fin 128, Rows.gain (Rows.row h r) (Rows.pulled (Rows.row h r) (Rows.row g (0 : Fin 1)) (Rows.row y r)) (j 1) := by
  pointwise [k0_pay6, k0_pay7, k0_pay9, k0_pay10, k0_pay12, k0_pay13]
  exact Finset.sum_congr rfl fun r _ => congrArg (_ * ·) (Rows.pulled_eq (Rows.row h r) (Rows.row g (0 : Fin 1)) (Rows.row y r) (j 1))

/-- The staged row after a block. -/
theorem added (p s : FVec Ideal S1x2048 .f32) (j : S1x2048.Idx) : k0_pay5 (F := Ideal) p s j = s j + p j := by
  pointwise [k0_pay5]

variable (m : (ℓ : Loc nD τ sig) → Buf (Elt Ideal) ℓ)

/-- Where the blocks of a point lie. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) := by decide +kernel

theorem row0 (c : Dev nD) (t : Fin cfg0.N) (r : Fin 128) : Rows.row (iblk m c 0 t) r = Rows.rowAt (V m c main_arg0) (t.val * 128 + r.val) :=
  Rows.row_through (V m c main_arg0) (fun k => ((cfg0.win 0).blk t).view.emb (ValueIdx.ix2 r k)) (fun _ => Products.place (places t).1.1)
    (fun _ => Rows.inside (places t).1.2)

theorem row1 (c : Dev nD) (t : Fin cfg0.N) (r : Fin 128) : Rows.row (iblk m c 1 t) r = Rows.rowAt (V m c main_arg1) (t.val * 128 + r.val) :=
  Rows.row_through (V m c main_arg1) (fun k => ((cfg0.win 1).blk t).view.emb (ValueIdx.ix2 r k)) (fun _ => Products.place (places t).2.1.1)
    (fun _ => Rows.inside (places t).2.1.2)

theorem row2 (c : Dev nD) (t : Fin cfg0.N) : Rows.row (iblk m c 2 t) (0 : Fin 1) = Rows.rowAt (V m c main_arg2) 0 :=
  Rows.row_through (V m c main_arg2) (fun k => ((cfg0.win 2).blk t).view.emb (ValueIdx.ix2 0 k)) (fun _ => Rows.inside (places t).2.2.1.1)
    (fun _ => Rows.inside (places t).2.2.1.2)

/-- What a point loads. -/
theorem load0 (c : Dev nD) (t : Fin cfg0.N) : View.readAt (Elt Ideal) (ms0_0 t).view
    (Rect.unit (s := S128x2048) ![0, 0] S128x2048.size inb_S128x2048_S128x2048_0_0).toLoadRect ((hs0_0 t).unread (iblk m c 0 t)) = iblk m c 0 t :=
  Products.loaded (hs0_0 t) Products.off2 inb_S128x2048_S128x2048_0_0 (iblk m c 0 t)

theorem load1 (c : Dev nD) (t : Fin cfg0.N) : View.readAt (Elt Ideal) (ms0_1 t).view
    (Rect.unit (s := S128x2048) ![0, 0] S128x2048.size inb_S128x2048_S128x2048_0_0).toLoadRect ((hs0_1 t).unread (iblk m c 1 t)) = iblk m c 1 t :=
  Products.loaded (hs0_1 t) Products.off2 inb_S128x2048_S128x2048_0_0 (iblk m c 1 t)

theorem load2 (c : Dev nD) (t : Fin cfg0.N) : View.readAt (Elt Ideal) (ms0_2 t).view
    (Rect.unit (s := S1x2048) ![0, 0] S1x2048.size inb_S1x2048_S1x2048_0_0).toLoadRect ((hs0_2 t).unread (iblk m c 2 t)) = iblk m c 2 t :=
  Products.loaded (hs0_2 t) Products.off2 inb_S1x2048_S1x2048_0_0 (iblk m c 2 t)

/-- What a point writes at its rows' places. -/
theorem written (c : Dev nD) (t : Fin cfg0.N) :
    (outsAt0 m c t.val t.isLt).2.1 = k0_pay1 (F := Ideal) (iblk m c 0 t) (k0_pay7 (iblk m c 0 t)) (k0_pay8 (iblk m c 0 t))
      (k0_pay12 (iblk m c 1 t) (iblk m c 0 t) (iblk m c 2 t)) (k0_pay14 (iblk m c 2 t)) := by
  have e := congr (congr (congr (congrArg₂ (k0_pay1 (F := Ideal)) (load0 m c t) (congrArg (k0_pay7 (F := Ideal)) (load0 m c t)))
    (congrArg (k0_pay8 (F := Ideal)) (load0 m c t))) (congr (congrArg₂ (k0_pay12 (F := Ideal)) (load1 m c t) (load0 m c t)) (load2 m c t)))
    (congrArg (k0_pay14 (F := Ideal)) (load2 m c t))
  by_cases h : t.val % 64 = 0
  on_goal 1 => rw [outsAt0_A m c t h]; unfold out0_A_4
  on_goal 2 => rw [outsAt0_B m c t h]; unfold out0_B_4
  all_goals
    rw [View.read_writes_junk_eq_canon]
    refine Eq.trans ?_ ((View.canon_unit_zero (off := ![0, 0]) (by decide) inb_S128x2048_S128x2048_0_0 _).trans e)
    sl_kernel_rfl

/-- The staged loss after the first block. -/
theorem first_loss (c : Dev nD) (t : Fin cfg0.N) (h : t.val % 64 = 0) :
    (outsAt0 m c t.val t.isLt).1 = k0_pay4 (F := Ideal) (k0_pay11 (iblk m c 1 t) (iblk m c 0 t) (iblk m c 2 t)) (k0_pay2 (F := Ideal)) := by
  have e := congrArg₂ (k0_pay4 (F := Ideal)) (congr (congrArg₂ (k0_pay11 (F := Ideal)) (load1 m c t) (load0 m c t)) (load2 m c t))
    (View.readCov_unit_zero (Val := Elt Ideal) (ms0_3 t).view Products.off2 inb_S1x128_S1x128_0_0 (k0_pay2 (F := Ideal)))
  rw [outsAt0_A m c t h]; unfold out0_A_3
  rw [View.read_writes_junk_eq_canon]
  refine Eq.trans ?_ ((View.canon_cons_unit_zero (off := ![0, 0]) (by decide) inb_S1x128_S1x128_0_0 _
    [⟨Rect.unit (s := S1x128) ![0, 0] S1x128.size inb_S1x128_S1x128_0_0, k0_pay2 (F := Ideal)⟩]).trans e)
  sl_kernel_rfl

/-- The staged loss after a further block. -/
theorem next_loss (c : Dev nD) (t : Fin cfg0.N) (h : ¬t.val % 64 = 0) :
    (outsAt0 m c t.val t.isLt).1 = k0_pay4 (F := Ideal) (k0_pay11 (iblk m c 1 t) (iblk m c 0 t) (iblk m c 2 t))
      (outsAt0 m c (t.val - 1) (Nat.lt_of_le_of_lt (Nat.sub_le _ _) t.isLt)).1 := by
  have e := congrArg₂ (k0_pay4 (F := Ideal)) (congr (congrArg₂ (k0_pay11 (F := Ideal)) (load1 m c t) (load0 m c t)) (load2 m c t))
    (Products.loaded (Val := Elt Ideal) (hs0_3 t) Products.off2 inb_S1x128_S1x128_0_0
      (outsAt0 m c (t.val - 1) (Nat.lt_of_le_of_lt (Nat.sub_le _ _) t.isLt)).1)
  rw [outsAt0_B m c t h]; unfold out0_B_3
  rw [View.read_writes_junk_eq_canon]
  refine Eq.trans ?_ ((View.canon_unit_zero (off := ![0, 0]) (by decide) inb_S1x128_S1x128_0_0 _).trans e)
  sl_kernel_rfl

/-- The staged row after the first block. -/
theorem first (c : Dev nD) (t : Fin cfg0.N) (h : t.val % 64 = 0) :
    (outsAt0 m c t.val t.isLt).2.2 = k0_pay5 (F := Ideal) (k0_pay13 (iblk m c 1 t) (iblk m c 0 t) (iblk m c 2 t)) (k0_pay3 (F := Ideal)) := by
  have e := congrArg₂ (k0_pay5 (F := Ideal)) (congr (congrArg₂ (k0_pay13 (F := Ideal)) (load1 m c t) (load0 m c t)) (load2 m c t))
    (View.readCov_unit_zero (Val := Elt Ideal) (ms0_5 t).view Products.off2 inb_S1x2048_S1x2048_0_0 (k0_pay3 (F := Ideal)))
  rw [outsAt0_A m c t h]; unfold out0_A_5
  rw [View.read_writes_junk_eq_canon]
  refine Eq.trans ?_ ((View.canon_cons_unit_zero (off := ![0, 0]) (by decide) inb_S1x2048_S1x2048_0_0 _
    [⟨Rect.unit (s := S1x2048) ![0, 0] S1x2048.size inb_S1x2048_S1x2048_0_0, k0_pay3 (F := Ideal)⟩]).trans e)
  sl_kernel_rfl

/-- The staged row after a further block. -/
theorem next (c : Dev nD) (t : Fin cfg0.N) (h : ¬t.val % 64 = 0) :
    (outsAt0 m c t.val t.isLt).2.2 = k0_pay5 (F := Ideal) (k0_pay13 (iblk m c 1 t) (iblk m c 0 t) (iblk m c 2 t))
      (outsAt0 m c (t.val - 1) (Nat.lt_of_le_of_lt (Nat.sub_le _ _) t.isLt)).2.2 := by
  have e := congrArg₂ (k0_pay5 (F := Ideal)) (congr (congrArg₂ (k0_pay13 (F := Ideal)) (load1 m c t) (load0 m c t)) (load2 m c t))
    (Products.loaded (Val := Elt Ideal) (hs0_5 t) Products.off2 inb_S1x2048_S1x2048_0_0
      (outsAt0 m c (t.val - 1) (Nat.lt_of_le_of_lt (Nat.sub_le _ _) t.isLt)).2.2)
  rw [outsAt0_B m c t h]; unfold out0_B_5
  rw [View.read_writes_junk_eq_canon]
  refine Eq.trans ?_ ((View.canon_unit_zero (off := ![0, 0]) (by decide) inb_S1x2048_S1x2048_0_0 _).trans e)
  sl_kernel_rfl

/-- The staged loss after a block: the sum over the rows so far. -/
theorem state_loss (c : Dev nD) (n : ℕ) (h : n < cfg0.N) (j : S1x128.Idx) :
    (outsAt0 m c n h).1 j = ∑ k ∈ Finset.range ((n % 64 + 1) * 128),
      Rows.half * Rows.missed (Rows.rowAt (V m c main_arg0) k) (Rows.rowAt (V m c main_arg2) 0) (Rows.rowAt (V m c main_arg1) k) :=
  Rows.staged (fun n h => (outsAt0 m c n h).1) (fun t (_ : S1x128.Idx) => ∑ r : Fin 128,
      Rows.half * Rows.missed (Rows.row (iblk m c 0 t) r) (Rows.row (iblk m c 2 t) (0 : Fin 1)) (Rows.row (iblk m c 1 t) r))
    (fun k (_ : S1x128.Idx) =>
      Rows.half * Rows.missed (Rows.rowAt (V m c main_arg0) k) (Rows.rowAt (V m c main_arg2) 0) (Rows.rowAt (V m c main_arg1) k)) N_0
    (fun t j => Finset.sum_congr rfl fun k _ => by rw [row0, row1, row2])
    (fun t j h => (congrFun (first_loss m c t h) j).trans ((block_loss _ _ _ _ j).trans (congrArg (· + _) Products.zero_word)))
    (fun t j h => (congrFun (next_loss m c t h) j).trans (block_loss _ _ _ _ j)) n h j

/-- The staged row after a block: the sum over the rows so far. -/
theorem state (c : Dev nD) (n : ℕ) (h : n < cfg0.N) (j : S1x2048.Idx) :
    (outsAt0 m c n h).2.2 j = ∑ k ∈ Finset.range ((n % 64 + 1) * 128), Rows.gain (Rows.rowAt (V m c main_arg0) k)
      (Rows.pulled (Rows.rowAt (V m c main_arg0) k) (Rows.rowAt (V m c main_arg2) 0) (Rows.rowAt (V m c main_arg1) k)) (j 1) :=
  Rows.staged (fun n h => (outsAt0 m c n h).2.2) (fun t j => k0_pay13 (F := Ideal) (iblk m c 1 t) (iblk m c 0 t) (iblk m c 2 t) j)
    (fun k (j : S1x2048.Idx) => Rows.gain (Rows.rowAt (V m c main_arg0) k)
      (Rows.pulled (Rows.rowAt (V m c main_arg0) k) (Rows.rowAt (V m c main_arg2) 0) (Rows.rowAt (V m c main_arg1) k)) (j 1)) N_0
    (fun t j => (block_gains _ _ _ j).trans (Finset.sum_congr rfl fun k _ => by rw [row0, row1, row2]))
    (fun t j h => (congrFun (first m c t h) j).trans ((added _ _ j).trans (congrArg (· + _) Products.zero_word)))
    (fun t j h => (congrFun (next m c t h) j).trans (added _ _ j)) n h j

theorem flushed_loss (c : Dev nD) (t : Fin cfg0.N) (hf : (cfg0.win 3).flush t = true) :
    (dats m 0 c).flushed 3 t = ((cfg0.win 3).blk t).view.read (Elt Ideal) (loss (V m c main_arg0) (V m c main_arg1) (V m c main_arg2)) := by
  have hq : t.val % 64 = 63 := (flush0_3 t).mp hf
  obtain ⟨G, hG⟩ : ∃ G : S1x128.Idx → EReal, G = loss (V m c main_arg0) (V m c main_arg1) (V m c main_arg2) := ⟨_, rfl⟩
  rw [flushed3, ← hG]
  funext y
  refine (state_loss m c t.val t.isLt ((cfg0.win 3).xinj (grid0.coords t) y)).trans ?_
  show _ = G (((cfg0.win 3).blk t).view.emb y)
  rw [hG, hq]
  rfl

theorem covered_loss (i : S1x128.Idx) : ∃ t : Fin cfg0.N, (cfg0.win 3).flush t = true ∧ i ∈ ((cfg0.win 3).blk t).view.set := by
  have h0 : (i 0).val < 1 := (i 0).isLt
  have h1 : (i 1).val < 128 := (i 1).isLt
  let t : Fin cfg0.N := ⟨63, by rw [show cfg0.N = 64 from N_0]; omega⟩
  obtain ⟨-, -, -, ⟨p0, p1⟩, -⟩ := places t
  refine ⟨t, (flush0_3 t).mpr rfl, ?_⟩
  show i ∈ ((View.whole main_v0_0).slice (win0_3.rect t)).set
  rw [View.set_slice_whole, Rect.mem_set_unit]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 128 ≤ (i 1).val ∧ (i 1).val < win0_3.index t (1 : Fin 2) * 128 + 128; omega

theorem flushed_rows (c : Dev nD) (t : Fin cfg0.N) (hf : (cfg0.win 4).flush t = true) :
    (dats m 0 c).flushed 4 t = ((cfg0.win 4).blk t).view.read (Elt Ideal) (backs (V m c main_arg0) (V m c main_arg1) (V m c main_arg2)) := by
  obtain ⟨-, -, -, -, p, -⟩ := places t
  obtain ⟨G, hG⟩ : ∃ G : S8192x2048.Idx → EReal, G = backs (V m c main_arg0) (V m c main_arg1) (V m c main_arg2) := ⟨_, rfl⟩
  rw [flushed4, written, ← hG]
  funext y
  refine (block_backs _ _ _ ((cfg0.win 4).xinj (grid0.coords t) y)).trans ?_
  show _ = G (((cfg0.win 4).blk t).view.emb y)
  rw [hG]
  have e0 : (((cfg0.win 4).blk t).view.emb y 0).val = t.val * 128 + (y 0).val := Products.place p.1
  have e1 : (((cfg0.win 4).blk t).view.emb y 1).val = (y 1).val := Rows.inside p.2
  have r0 := (row0 m c t ((cfg0.win 4).xinj (grid0.coords t) y 0)).trans (congrArg _ e0.symm)
  have r1 := (row1 m c t ((cfg0.win 4).xinj (grid0.coords t) y 0)).trans (congrArg _ e0.symm)
  exact Rows.back_congr rfl r0 (congr (congrArg₂ Rows.pulled r0 (row2 m c t)) r1) (row2 m c t) (Fin.ext e1.symm)

theorem covered_rows (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  let t : Fin cfg0.N := ⟨(i 0).val / 128, by rw [show cfg0.N = 64 from N_0]; omega⟩
  obtain ⟨-, -, -, -, ⟨p0, p1⟩, -⟩ := places t
  have e : t.val = (i 0).val / 128 := rfl
  refine ⟨t, flush0_4 t, ?_⟩
  show i ∈ ((View.whole main_v0_1).slice (win0_4.rect t)).set
  rw [View.set_slice_whole, Rect.mem_set_unit]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 2048 ≤ (i 1).val ∧ (i 1).val < win0_4.index t (1 : Fin 2) * 2048 + 2048; omega

theorem flushed_sum (c : Dev nD) (t : Fin cfg0.N) (hf : (cfg0.win 5).flush t = true) :
    (dats m 0 c).flushed 5 t = ((cfg0.win 5).blk t).view.read (Elt Ideal) (gains (V m c main_arg0) (V m c main_arg1) (V m c main_arg2)) := by
  have hq : t.val % 64 = 63 := (flush0_5 t).mp hf
  obtain ⟨-, -, -, -, -, p⟩ := places t
  obtain ⟨G, hG⟩ : ∃ G : S1x2048.Idx → EReal, G = gains (V m c main_arg0) (V m c main_arg1) (V m c main_arg2) := ⟨_, rfl⟩
  rw [flushed5, ← hG]
  funext y
  refine (state m c t.val t.isLt ((cfg0.win 5).xinj (grid0.coords t) y)).trans ?_
  show _ = G (((cfg0.win 5).blk t).view.emb y)
  rw [hG, hq]
  have e1 : (((cfg0.win 5).blk t).view.emb y 1).val = (y 1).val := Rows.inside p.2
  exact Finset.sum_congr rfl fun k _ => congrArg _ (Fin.ext e1.symm)

theorem covered_sum (i : S1x2048.Idx) : ∃ t : Fin cfg0.N, (cfg0.win 5).flush t = true ∧ i ∈ ((cfg0.win 5).blk t).view.set := by
  have h0 : (i 0).val < 1 := (i 0).isLt
  have h1 : (i 1).val < 2048 := (i 1).isLt
  let t : Fin cfg0.N := ⟨63, by rw [show cfg0.N = 64 from N_0]; omega⟩
  obtain ⟨-, -, -, -, -, ⟨p0, p1⟩⟩ := places t
  refine ⟨t, (flush0_5 t).mpr rfl, ?_⟩
  show i ∈ ((View.whole main_v0_2).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 2048 ≤ (i 1).val ∧ (i 1).val < win0_5.index t (1 : Fin 2) * 2048 + 2048; omega

theorem value : Cert.algebraic_LossHeadIdeal_LossHeadRefIdeal := fun m g m' g' _ hm =>
  ⟨fun c => loss (V m c main_arg0) (V m c main_arg1) (V m c main_arg2), fun c => backs (V m c main_arg0) (V m c main_arg1) (V m c main_arg2), fun c => gains (V m c main_arg0) (V m c main_arg1) (V m c main_arg2),
    (θ_run Cert.LossHeadIdeal.defs _ _).mono (fun _ h c =>
      ⟨(h c).1.trans ((dats m 0 c).arrAt_eq_of_cover 3 _ (flushed_loss m c) covered_loss),
        (h c).2.1.trans ((dats m 0 c).arrAt_eq_of_cover 4 _ (flushed_rows m c) covered_rows),
        (h c).2.2.1.trans ((dats m 0 c).arrAt_eq_of_cover 5 _ (flushed_sum m c) covered_sum), (h c).2.2.2⟩) (run_blocks m g),
    (θ_run Cert.LossHeadRefIdeal.defs _ _).mono (fun _ h c => ⟨(h c).1.trans (by
        obtain ⟨h0, h1, h2⟩ := hm c
        funext j
        refine Eq.trans ?_ (loss_rows _ _ _ j).symm
        pointwise
        rw [h0, h1, h2]
        rfl),
      (h c).2.1.trans (by
        obtain ⟨h0, h1, h2⟩ := hm c
        funext j
        refine Eq.trans ?_ (backs_rows _ _ _ j).symm
        obtain ⟨r, l, rfl⟩ : ∃ (r : Fin 8192) (l : Fin 2048), j = ValueIdx.ix2 r l := ⟨j 0, j 1, ValueIdx.eq_ix2 j⟩
        pointwise [Cert.LossHeadRefIdeal.Value.res_main_v48]
        rw [h0, h1, h2]
        exact (Rows.back_zero (Rows.row _ r) (Rows.pulled (Rows.row _ r) (Rows.row _ (0 : Fin 1)) (Rows.row _ r)) (Rows.row _ (0 : Fin 1)) l).symm),
      (h c).2.2.1.trans (by
        obtain ⟨h0, h1, h2⟩ := hm c
        funext j
        refine Eq.trans ?_ (gains_rows _ _ _ j).symm
        pointwise
        rw [h0, h1, h2]
        rfl), (h c).2.2.2⟩)
      (Cert.LossHeadRefIdeal.Value.run m' g')⟩

end Cert.LossHeadProof

end
-- ==== Proof.HeadsClaims.lean ====
/-
  The backward weights of the recurrence's gates: for each of the eight heads, the product over the rows of the gate's
  input with the gate's cotangent. The call goes over the heads and, for each, over eight blocks of rows, and adds each
  block's part to the head's block of the result, which stays staged meanwhile. The frames of its programs, and the value
  of its idealized program against the idealized reference.
-/
module

public import proofs.«01_k».proof.Defs
public import proofs.«01_k».proof.Proof.Products
public import proofs.«01_k».proof.Proof.Gen.HeadsBack.Frame
public import proofs.«01_k».proof.Proof.Gen.HeadsBackIdeal.Value
public import proofs.«01_k».proof.Proof.Gen.HeadsBackRefIdeal.Run
public import Idealize.ShloMosaic.Lib.Pointwise

@[expose] public section

set_option Elab.async false

noncomputable section

open Idealize.ShloMosaic
open Idealize.ShloMosaic.TcCoe
open Idealize.SL.Sem

namespace Cert.HeadsBackProof

open Cert.HeadsBackIdeal Cert.HeadsBackIdeal.Gen Cert.HeadsBackIdeal.Value

theorem frame_bits : Cert.quiescent_HeadsBack := fun m g _ => Cert.HeadsBack.Gen.frame m g

theorem frame_ideal : Cert.quiescent_HeadsBackIdeal := fun m g _ => Cert.HeadsBackIdeal.Gen.frame m g

theorem frame_ref : Cert.quiescent_HeadsBackRefIdeal := fun m g _ =>
  (θ_run Cert.HeadsBackRefIdeal.defs _ _).mono (fun r h => ⟨fun c => (h c).2, sem_eq_zero_of_no_sems (by decide) r.2⟩)
    (Cert.HeadsBackRefIdeal.Value.run (F := Ideal) m g)

/-- The products over the rows, head by head. -/
def heads (x y : S8192x1024.Idx → EReal) : S8x128x128.Idx → EReal := fun i =>
  ∑ k ∈ Finset.range 8192, Products.at2 x k ((i 0).val * 128 + (i 1).val) * Products.at2 y k ((i 0).val * 128 + (i 2).val)

/-- One block's part. -/
theorem part (acc : FVec Ideal S1x128x128 .f32) (x : FVec Ideal S1024x128 .f32) (y : FVec Ideal S1024x128 .bf16) (j : S1x128x128.Idx) :
    k0_pay2 acc x y j = acc j + ∑ k : Fin 1024, x (ValueIdx.ix2 k (j 1)) * y (ValueIdx.ix2 k (j 2)) := by
  pointwise [k0_pay2]
  rfl

/-- The reference's product is the heads' products. -/
theorem reference (x : FVec Ideal S8192x1024 .f32) (y : FVec Ideal S8192x1024 .bf16) :
    Host.dotGeneral Cert.HeadsBackRefIdeal.dot_S8192x8x128_S8192x8x128_S8x128x128_0_0_2_2_1_1 none
      (shapeCast _ x Cert.HeadsBackRefIdeal.Gen.shapeCasts_S8192x1024_S8192x8x128)
      (shapeCast _ (extf .f32 y Cert.HeadsBackRefIdeal.Gen.bitsLt_bf16_f32) Cert.HeadsBackRefIdeal.Gen.shapeCasts_S8192x1024_S8192x8x128)
      = heads x y := by
  funext i
  pointwise
  refine (Finset.sum_congr rfl fun k _ => congrArg₂ _ (Products.at2_eq x _ rfl rfl) (Products.at2_eq y _ rfl rfl)).trans ?_
  exact Fin.sum_univ_eq_sum_range (fun k =>
    Products.at2 x k ((i 0).val * 128 + (i 1).val) * Products.at2 y k ((i 0).val * 128 + (i 2).val)) 8192

variable (m : (ℓ : Loc nD τ sig) → Buf (Elt Ideal) ℓ)

/-- Where the blocks of a point lie. -/
theorem places : ∀ t : Fin cfg0.N, win0_0.index t (0 : Fin 2) = t.val % 8 ∧ win0_0.index t (1 : Fin 2) = t.val / 8
    ∧ win0_1.index t (0 : Fin 2) = t.val % 8 ∧ win0_1.index t (1 : Fin 2) = t.val / 8 := by decide +kernel

/-- The staged block after a point: the sum over the blocks of rows up to it. -/
theorem state (c : Dev nD) (n : ℕ) (h : n < cfg0.N) (j : S1x128x128.Idx) :
    outsAt0 m c n h j = ∑ k ∈ Finset.range ((n % 8 + 1) * 1024),
      Products.at2 (V m c main_arg0) k (n / 8 * 128 + (j 1).val) * Products.at2 (V m c main_arg1) k (n / 8 * 128 + (j 2).val) :=
  Products.walk (A := S1024x128.Idx) (B := S1024x128.Idx) (by decide) (outsAt0 m c) (k0_pay1 (F := Ideal))
    (k0_pay2 (F := Ideal)) (iblk m c 0) (iblk m c 1) (fun j k => ValueIdx.ix2 k (j 1)) (fun j k => ValueIdx.ix2 k (j 2))
    (fun q (j : S1x128x128.Idx) k => Products.at2 (V m c main_arg0) k (q * 128 + (j 1).val))
    (fun q (j : S1x128x128.Idx) k => Products.at2 (V m c main_arg1) k (q * 128 + (j 2).val))
    (fun _ => Products.zero_word) part
    (fun t h => by rw [outsAt0_A m c t (by omega)]; exact out_A_2_eq ..)
    (fun t h => by rw [outsAt0_B m c t (by omega)]; exact out_B_2_eq ..)
    (fun t j k => Products.at2_eq (V m c main_arg0) (((cfg0.win 0).blk t).view.emb (ValueIdx.ix2 k (j 1)))
      (Products.place (places t).1) (Products.place (places t).2.1))
    (fun t j k => Products.at2_eq (V m c main_arg1) (((cfg0.win 1).blk t).view.emb (ValueIdx.ix2 k (j 2)))
      (Products.place (places t).2.2.1) (Products.place (places t).2.2.2)) n h j

/-- The array after the run holds the heads' products. -/
theorem final (c : Dev nD) : G2 m c = heads (V m c main_arg0) (V m c main_arg1) := by
  funext i
  have h0 : (i 0).val < 8 := (i 0).isLt
  have h1 : (i 1).val < 128 := (i 1).isLt
  have h2 : (i 2).val < 128 := (i 2).isLt
  have e : run2Of i = (i 0).val := by unfold run2Of; omega
  have hp : 8 * run2Of i + 7 < cfg0.N := by rw [e, show cfg0.N = 64 from N_0]; omega
  have hq : (8 * run2Of i + 7) % 8 = 7 := by omega
  have hr : (8 * run2Of i + 7) / 8 = run2Of i := by omega
  have fold : ∀ (b k b' k' : ℕ) (h : b + k < cfg0.N) (h' : b' + k' < cfg0.N), b = b' → k = k' →
      Pipeline.accAt (reset2 m c) (step2 m c) b k h = Pipeline.accAt (reset2 m c) (step2 m c) b' k' h' := by
    intro b k b' k' h h' hb hk
    subst hb; subst hk; rfl
  unfold G2
  rw [dif_pos hp]
  refine (congrFun ((fold _ _ _ _ hp _ (by rw [hr]) hq.symm).trans (outsAt_2_eq m c ⟨8 * run2Of i + 7, hp⟩).symm) _).trans
    ((state m c _ hp _).trans ?_)
  rw [hq, hr, e]
  refine Finset.sum_congr rfl fun k _ => congrArg₂ _ (congrArg _ (congrArg _ ?_)) (congrArg _ (congrArg _ ?_))
  · exact Nat.mod_eq_of_lt h1
  · exact Nat.mod_eq_of_lt h2

theorem value : Cert.algebraic_HeadsBackIdeal_HeadsBackRefIdeal := fun m g m' g' _ hm =>
  ⟨_, (θ_run Cert.HeadsBackIdeal.defs _ _).mono (fun _ h c => ⟨(h c).1.trans (final m c), (h c).2⟩) (run m g),
    (θ_run Cert.HeadsBackRefIdeal.defs _ _).mono (fun _ h c => ⟨(h c).1.trans
      ((reference _ _).trans (congrArg₂ heads (hm c).1 (hm c).2)), (h c).2⟩)
      (Cert.HeadsBackRefIdeal.Value.run m' g')⟩

end Cert.HeadsBackProof

end
-- ==== Proof.ForwardClaims.lean ====
/-
  The forward calls of the norms and of the squared rectifier. A point of the grid does a block of rows, each from its own
  row of the arguments. The frames of their programs, and the values of their idealized programs against the idealized
  references.
-/
module

public import proofs.«01_k».proof.Defs
public import proofs.«01_k».proof.Proof.Rows
public import proofs.«01_k».proof.Proof.Gen.NormForward.Frame
public import proofs.«01_k».proof.Proof.Gen.NormForwardIdeal.Value
public import proofs.«01_k».proof.Proof.Gen.NormForwardRefIdeal.Run
public import proofs.«01_k».proof.Proof.Gen.AddNormForward.Frame
public import proofs.«01_k».proof.Proof.Gen.AddNormForwardIdeal.Value
public import proofs.«01_k».proof.Proof.Gen.AddNormForwardRefIdeal.Run
public import proofs.«01_k».proof.Proof.Gen.SquareForward.Frame
public import proofs.«01_k».proof.Proof.Gen.SquareForwardIdeal.Value
public import proofs.«01_k».proof.Proof.Gen.SquareForwardRefIdeal.Run

@[expose] public section

set_option Elab.async false

noncomputable section

open Idealize.ShloMosaic
open Idealize.ShloMosaic.TcCoe
open Idealize.SL.Sem

namespace Cert.NormForwardProof

open Cert.NormForwardIdeal Cert.NormForwardIdeal.Gen Cert.NormForwardIdeal.Value

theorem frame_bits : Cert.quiescent_NormForward := fun m g _ => Cert.NormForward.Gen.frame m g

theorem frame_ideal : Cert.quiescent_NormForwardIdeal := fun m g _ => Cert.NormForwardIdeal.Gen.frame m g

theorem frame_ref : Cert.quiescent_NormForwardRefIdeal := fun m g _ =>
  (θ_run Cert.NormForwardRefIdeal.defs _ _).mono (fun r h => ⟨fun c => (h c).2, sem_eq_zero_of_no_sems (by decide) r.2⟩)
    (Cert.NormForwardRefIdeal.Value.run (F := Ideal) m g)

/-- The normed rows. -/
def normed (h : S8192x2048.Idx → EReal) (g : S1x2048.Idx → EReal) : S8192x2048.Idx → EReal := fun i =>
  Rows.normed (Rows.rowAt h (i 0).val) (Rows.rowAt g 0) (i 1)

theorem normed_rows (h : S8192x2048.Idx → EReal) (g : S1x2048.Idx → EReal) (i : S8192x2048.Idx) :
    normed h g i = Rows.normed (Rows.row h (i 0)) (Rows.row g (0 : Fin 1)) (i 1) :=
  Rows.normed_congr (Rows.row_eq h _).symm (Rows.row_eq g (0 : Fin 1)).symm rfl

/-- A block's normed rows. -/
theorem block (h : Vec Ideal S128x2048 .f32) (g : Vec Ideal S1x2048 .f32) (j : S128x2048.Idx) :
    k0_pay1 (F := Ideal) h g j = Rows.normed (Rows.row h (j 0)) (Rows.row g (0 : Fin 1)) (j 1) := by
  obtain ⟨r, l, rfl⟩ : ∃ (r : Fin 128) (l : Fin 2048), j = ValueIdx.ix2 r l := ⟨j 0, j 1, ValueIdx.eq_ix2 j⟩
  pointwise [k0_pay1]
  rfl

variable (m : (ℓ : Loc nD τ sig) → Buf (Elt Ideal) ℓ)

/-- Where the blocks of a point lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) := by decide +kernel

theorem row0 (c : Dev nD) (t : Fin cfg0.N) (r : Fin 128) : Rows.row (iblk m c 0 t) r = Rows.rowAt (V m c main_arg0) (t.val * 128 + r.val) :=
  Rows.row_through (V m c main_arg0) (fun k => ((cfg0.win 0).blk t).view.emb (ValueIdx.ix2 r k)) (fun _ => Products.place (places t).1.1)
    (fun _ => Rows.inside (places t).1.2)

theorem row1 (c : Dev nD) (t : Fin cfg0.N) : Rows.row (iblk m c 1 t) (0 : Fin 1) = Rows.rowAt (V m c main_arg1) 0 :=
  Rows.row_through (V m c main_arg1) (fun k => ((cfg0.win 1).blk t).view.emb (ValueIdx.ix2 0 k)) (fun _ => Rows.inside (places t).2.1.1)
    (fun _ => Rows.inside (places t).2.1.2)

theorem written (c : Dev nD) (t : Fin cfg0.N) : out0_2 (iblk m c 0 t) (iblk m c 1 t) = k0_pay1 (F := Ideal) (iblk m c 0 t) (iblk m c 1 t) := by
  unfold out0_2
  exact (View.canon_unit_zero Products.off2 _ _).trans
    (congrArg₂ (k0_pay1 (F := Ideal)) (View.ld_unit_zero Products.off2 _ _) (View.ld_unit_zero Products.off2 _ _))

theorem flushed (c : Dev nD) (t : Fin cfg0.N) (hf : (cfg0.win 2).flush t = true) :
    (dats m 0 c).flushed 2 t = ((cfg0.win 2).blk t).view.read (Elt Ideal) (normed (V m c main_arg0) (V m c main_arg1)) := by
  obtain ⟨-, -, p⟩ := places t
  obtain ⟨G, hG⟩ : ∃ G : S8192x2048.Idx → EReal, G = normed (V m c main_arg0) (V m c main_arg1) := ⟨_, rfl⟩
  rw [flushed2, written, ← hG]
  funext y
  refine (block _ _ ((cfg0.win 2).xinj (grid0.coords t) y)).trans ?_
  show _ = G (((cfg0.win 2).blk t).view.emb y)
  rw [hG]
  have e0 : (((cfg0.win 2).blk t).view.emb y 0).val = t.val * 128 + (y 0).val := Products.place p.1
  have e1 : (((cfg0.win 2).blk t).view.emb y 1).val = (y 1).val := Rows.inside p.2
  exact Rows.normed_congr ((row0 m c t _).trans (congrArg _ e0.symm)) (row1 m c t) (Fin.ext e1.symm)

theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  let t : Fin cfg0.N := ⟨(i 0).val / 128, by rw [show cfg0.N = 64 from N_0]; omega⟩
  obtain ⟨-, -, p0, p1⟩ := places t
  have e : t.val = (i 0).val / 128 := rfl
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 2048 ≤ (i 1).val ∧ (i 1).val < win0_2.index t (1 : Fin 2) * 2048 + 2048; omega

theorem value : Cert.algebraic_NormForwardIdeal_NormForwardRefIdeal := fun m g m' g' _ hm =>
  ⟨fun c => normed (V m c main_arg0) (V m c main_arg1),
    (θ_run Cert.NormForwardIdeal.defs _ _).mono (fun _ h c =>
      ⟨(h c).1.trans ((dats m 0 c).arrAt_eq_of_cover 2 _ (flushed m c) covered), (h c).2⟩) (run_blocks m g),
    (θ_run Cert.NormForwardRefIdeal.defs _ _).mono (fun _ h c => ⟨(h c).1.trans (by
        obtain ⟨h0, h1⟩ := hm c
        funext j
        refine Eq.trans ?_ (normed_rows _ _ j).symm
        obtain ⟨r, l, rfl⟩ : ∃ (r : Fin 8192) (l : Fin 2048), j = ValueIdx.ix2 r l := ⟨j 0, j 1, ValueIdx.eq_ix2 j⟩
        pointwise
        rw [h0, h1]
        rfl), (h c).2⟩)
      (Cert.NormForwardRefIdeal.Value.run m' g')⟩

end Cert.NormForwardProof

namespace Cert.AddNormForwardProof

open Cert.AddNormForwardIdeal Cert.AddNormForwardIdeal.Gen Cert.AddNormForwardIdeal.Value

theorem frame_bits : Cert.quiescent_AddNormForward := fun m g _ => Cert.AddNormForward.Gen.frame m g

theorem frame_ideal : Cert.quiescent_AddNormForwardIdeal := fun m g _ => Cert.AddNormForwardIdeal.Gen.frame m g

theorem frame_ref : Cert.quiescent_AddNormForwardRefIdeal := fun m g _ =>
  (θ_run Cert.AddNormForwardRefIdeal.defs _ _).mono (fun r h => ⟨fun c => (h c).2.2, sem_eq_zero_of_no_sems (by decide) r.2⟩)
    (Cert.AddNormForwardRefIdeal.Value.run (F := Ideal) m g)

/-- The sums. -/
def sums (h x : S8192x2048.Idx → EReal) : S8192x2048.Idx → EReal := fun i => h i + x i

/-- The normed rows of the sums. -/
def normed (h x : S8192x2048.Idx → EReal) (g : S1x2048.Idx → EReal) : S8192x2048.Idx → EReal := fun i =>
  Rows.normed (Rows.plus (Rows.rowAt h (i 0).val) (Rows.rowAt x (i 0).val)) (Rows.rowAt g 0) (i 1)

theorem normed_rows (h x : S8192x2048.Idx → EReal) (g : S1x2048.Idx → EReal) (i : S8192x2048.Idx) :
    normed h x g i = Rows.normed (Rows.plus (Rows.row h (i 0)) (Rows.row x (i 0))) (Rows.row g (0 : Fin 1)) (i 1) :=
  Rows.normed_congr (congrArg₂ Rows.plus (Rows.row_eq h _).symm (Rows.row_eq x _).symm) (Rows.row_eq g (0 : Fin 1)).symm rfl

theorem block_sums (h x : Vec Ideal S128x2048 .f32) (j : S128x2048.Idx) : k0_pay1 (F := Ideal) h x j = h j + x j := by
  pointwise [k0_pay1]

/-- A block's normed rows. -/
theorem block (h x : Vec Ideal S128x2048 .f32) (g : Vec Ideal S1x2048 .f32) (j : S128x2048.Idx) :
    k0_pay2 (F := Ideal) h x g j = Rows.normed (Rows.plus (Rows.row h (j 0)) (Rows.row x (j 0))) (Rows.row g (0 : Fin 1)) (j 1) := by
  obtain ⟨r, l, rfl⟩ : ∃ (r : Fin 128) (l : Fin 2048), j = ValueIdx.ix2 r l := ⟨j 0, j 1, ValueIdx.eq_ix2 j⟩
  pointwise [k0_pay2, k0_pay1]
  rfl

variable (m : (ℓ : Loc nD τ sig) → Buf (Elt Ideal) ℓ)

/-- Where the blocks of a point lie. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) := by decide +kernel

theorem row0 (c : Dev nD) (t : Fin cfg0.N) (r : Fin 128) : Rows.row (iblk m c 0 t) r = Rows.rowAt (V m c main_arg0) (t.val * 128 + r.val) :=
  Rows.row_through (V m c main_arg0) (fun k => ((cfg0.win 0).blk t).view.emb (ValueIdx.ix2 r k)) (fun _ => Products.place (places t).1.1)
    (fun _ => Rows.inside (places t).1.2)

theorem row1 (c : Dev nD) (t : Fin cfg0.N) (r : Fin 128) : Rows.row (iblk m c 1 t) r = Rows.rowAt (V m c main_arg1) (t.val * 128 + r.val) :=
  Rows.row_through (V m c main_arg1) (fun k => ((cfg0.win 1).blk t).view.emb (ValueIdx.ix2 r k)) (fun _ => Products.place (places t).2.1.1)
    (fun _ => Rows.inside (places t).2.1.2)

theorem row2 (c : Dev nD) (t : Fin cfg0.N) : Rows.row (iblk m c 2 t) (0 : Fin 1) = Rows.rowAt (V m c main_arg2) 0 :=
  Rows.row_through (V m c main_arg2) (fun k => ((cfg0.win 2).blk t).view.emb (ValueIdx.ix2 0 k)) (fun _ => Rows.inside (places t).2.2.1.1)
    (fun _ => Rows.inside (places t).2.2.1.2)

theorem written_sums (c : Dev nD) (t : Fin cfg0.N) :
    out0_3 (iblk m c 0 t) (iblk m c 1 t) (iblk m c 2 t) = k0_pay1 (F := Ideal) (iblk m c 0 t) (iblk m c 1 t) := by
  unfold out0_3
  exact (View.canon_unit_zero Products.off2 _ _).trans
    (congrArg₂ (k0_pay1 (F := Ideal)) (View.ld_unit_zero Products.off2 _ _) (View.ld_unit_zero Products.off2 _ _))

theorem written (c : Dev nD) (t : Fin cfg0.N) : out0_4 (iblk m c 0 t) (iblk m c 1 t) (iblk m c 2 t)
    = k0_pay2 (F := Ideal) (iblk m c 0 t) (iblk m c 1 t) (iblk m c 2 t) := by
  unfold out0_4
  exact (View.canon_unit_zero Products.off2 _ _).trans
    (congr (congrArg₂ (k0_pay2 (F := Ideal)) (View.ld_unit_zero Products.off2 _ _) (View.ld_unit_zero Products.off2 _ _))
      (View.ld_unit_zero Products.off2 _ _))

theorem flushed_sums (c : Dev nD) (t : Fin cfg0.N) (hf : (cfg0.win 3).flush t = true) :
    (dats m 0 c).flushed 3 t = ((cfg0.win 3).blk t).view.read (Elt Ideal) (sums (V m c main_arg0) (V m c main_arg1)) := by
  obtain ⟨l0, l1, -, p, -⟩ := places t
  obtain ⟨G, hG⟩ : ∃ G : S8192x2048.Idx → EReal, G = sums (V m c main_arg0) (V m c main_arg1) := ⟨_, rfl⟩
  rw [flushed3, written_sums, ← hG]
  funext y
  refine (block_sums _ _ ((cfg0.win 3).xinj (grid0.coords t) y)).trans ?_
  show _ = G (((cfg0.win 3).blk t).view.emb y)
  rw [hG]
  have e0 : (((cfg0.win 3).blk t).view.emb y 0).val = t.val * 128 + (y 0).val := Products.place p.1
  have e1 : (((cfg0.win 3).blk t).view.emb y 1).val = (y 1).val := Rows.inside p.2
  have at0 := (Products.at2_eq (V m c main_arg0) (((cfg0.win 0).blk t).view.emb y) (Products.place l0.1) (Rows.inside l0.2)).trans
    (Products.at2_eq (V m c main_arg0) (((cfg0.win 3).blk t).view.emb y) e0 e1).symm
  have at1 := (Products.at2_eq (V m c main_arg1) (((cfg0.win 1).blk t).view.emb y) (Products.place l1.1) (Rows.inside l1.2)).trans
    (Products.at2_eq (V m c main_arg1) (((cfg0.win 3).blk t).view.emb y) e0 e1).symm
  exact congrArg₂ (· + ·) at0 at1

theorem covered_sums (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  let t : Fin cfg0.N := ⟨(i 0).val / 128, by rw [show cfg0.N = 64 from N_0]; omega⟩
  obtain ⟨-, -, -, ⟨p0, p1⟩, -⟩ := places t
  have e : t.val = (i 0).val / 128 := rfl
  refine ⟨t, flush0_3 t, ?_⟩
  show i ∈ ((View.whole main_v0_0).slice (win0_3.rect t)).set
  rw [View.set_slice_whole, Rect.mem_set_unit]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 2048 ≤ (i 1).val ∧ (i 1).val < win0_3.index t (1 : Fin 2) * 2048 + 2048; omega

theorem flushed (c : Dev nD) (t : Fin cfg0.N) (hf : (cfg0.win 4).flush t = true) :
    (dats m 0 c).flushed 4 t = ((cfg0.win 4).blk t).view.read (Elt Ideal) (normed (V m c main_arg0) (V m c main_arg1) (V m c main_arg2)) := by
  obtain ⟨-, -, -, -, p⟩ := places t
  obtain ⟨G, hG⟩ : ∃ G : S8192x2048.Idx → EReal, G = normed (V m c main_arg0) (V m c main_arg1) (V m c main_arg2) := ⟨_, rfl⟩
  rw [flushed4, written, ← hG]
  funext y
  refine (block _ _ _ ((cfg0.win 4).xinj (grid0.coords t) y)).trans ?_
  show _ = G (((cfg0.win 4).blk t).view.emb y)
  rw [hG]
  have e0 : (((cfg0.win 4).blk t).view.emb y 0).val = t.val * 128 + (y 0).val := Products.place p.1
  have e1 : (((cfg0.win 4).blk t).view.emb y 1).val = (y 1).val := Rows.inside p.2
  exact Rows.normed_congr (congrArg₂ Rows.plus ((row0 m c t _).trans (congrArg _ e0.symm)) ((row1 m c t _).trans (congrArg _ e0.symm)))
    (row2 m c t) (Fin.ext e1.symm)

theorem covered (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  let t : Fin cfg0.N := ⟨(i 0).val / 128, by rw [show cfg0.N = 64 from N_0]; omega⟩
  obtain ⟨-, -, -, -, p0, p1⟩ := places t
  have e : t.val = (i 0).val / 128 := rfl
  refine ⟨t, flush0_4 t, ?_⟩
  show i ∈ ((View.whole main_v0_1).slice (win0_4.rect t)).set
  rw [View.set_slice_whole, Rect.mem_set_unit]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 2048 ≤ (i 1).val ∧ (i 1).val < win0_4.index t (1 : Fin 2) * 2048 + 2048; omega

theorem value : Cert.algebraic_AddNormForwardIdeal_AddNormForwardRefIdeal := fun m g m' g' _ hm =>
  ⟨fun c => sums (V m c main_arg0) (V m c main_arg1), fun c => normed (V m c main_arg0) (V m c main_arg1) (V m c main_arg2),
    (θ_run Cert.AddNormForwardIdeal.defs _ _).mono (fun _ h c =>
      ⟨(h c).1.trans ((dats m 0 c).arrAt_eq_of_cover 3 _ (flushed_sums m c) covered_sums),
        (h c).2.1.trans ((dats m 0 c).arrAt_eq_of_cover 4 _ (flushed m c) covered), (h c).2.2⟩) (run_blocks m g),
    (θ_run Cert.AddNormForwardRefIdeal.defs _ _).mono (fun _ h c => ⟨(h c).1.trans (by
        obtain ⟨h0, h1, h2⟩ := hm c
        funext j
        pointwise
        rw [h0, h1]
        rfl),
      (h c).2.1.trans (by
        obtain ⟨h0, h1, h2⟩ := hm c
        funext j
        refine Eq.trans ?_ (normed_rows _ _ _ j).symm
        obtain ⟨r, l, rfl⟩ : ∃ (r : Fin 8192) (l : Fin 2048), j = ValueIdx.ix2 r l := ⟨j 0, j 1, ValueIdx.eq_ix2 j⟩
        pointwise
        rw [h0, h1, h2]
        rfl), (h c).2.2⟩)
      (Cert.AddNormForwardRefIdeal.Value.run m' g')⟩

end Cert.AddNormForwardProof

namespace Cert.SquareForwardProof

open Cert.SquareForwardIdeal Cert.SquareForwardIdeal.Gen Cert.SquareForwardIdeal.Value

theorem frame_bits : Cert.quiescent_SquareForward := fun m g _ => Cert.SquareForward.Gen.frame m g

theorem frame_ideal : Cert.quiescent_SquareForwardIdeal := fun m g _ => Cert.SquareForwardIdeal.Gen.frame m g

theorem frame_ref : Cert.quiescent_SquareForwardRefIdeal := fun m g _ =>
  (θ_run Cert.SquareForwardRefIdeal.defs _ _).mono (fun r h => ⟨fun c => (h c).2, sem_eq_zero_of_no_sems (by decide) r.2⟩)
    (Cert.SquareForwardRefIdeal.Value.run (F := Ideal) m g)

theorem value : Cert.algebraic_SquareForwardIdeal_SquareForwardRefIdeal := fun m g m' g' _ hm =>
  ⟨fun c => G1 (V m c main_arg0),
    (θ_run Cert.SquareForwardIdeal.defs _ _).mono (fun _ h c =>
      ⟨(h c).1.trans ((dats m 0 c).arrAt_eq_of_cover 1 _ (fun t _ => flushed1_eq m c t) fun i => (covered_iff1 i).2
        ⟨Nat.zero_le _, (i 0).isLt, Nat.zero_le _, (i 1).isLt⟩), (h c).2⟩) (run_blocks m g),
    (θ_run Cert.SquareForwardRefIdeal.defs _ _).mono (fun _ h c => ⟨(h c).1.trans (by
        have h0 := hm c
        rw [h0]
        rfl), (h c).2⟩)
      (Cert.SquareForwardRefIdeal.Value.run m' g')⟩

end Cert.SquareForwardProof

end
-- ==== Proof.ConvClaims.lean ====
/-
  The backward pass of the causal convolution to its weights.
-/
module

public import proofs.«01_k».proof.Defs
public import proofs.«01_k».proof.Proof.Products
public import proofs.«01_k».proof.Proof.Rows
public import proofs.«01_k».proof.Proof.Gen.ConvBack.Frame
public import proofs.«01_k».proof.Proof.Gen.ConvBackIdeal.Value
public import proofs.«01_k».proof.Proof.Gen.ConvBackRefIdeal.Run
public import Idealize.ShloMosaic.Lib.Pointwise
public import Idealize.ShloMosaic.Lib.WritesUnit
public import Idealize.ShloMosaic.Lib.KernelVsHost

@[expose] public section

set_option Elab.async false

noncomputable section

open Idealize.ShloMosaic hiding ix2 ix3 eq_ix2 eq_ix3
open Idealize.ShloMosaic.ValueIdx
open Idealize.ShloMosaic.TcCoe
open Idealize.SL.Sem

namespace Cert.ConvBackProof

open Cert.ConvBackIdeal Cert.ConvBackIdeal.Gen Cert.ConvBackIdeal.Value

/-- Row `r` of a stack of tiles, at a tile's place. -/
abbrev tile {L : ℕ} (x : (⟨3, ![L, 8, 128]⟩ : Shape).Idx → EReal) (r : ℕ) (j : S8x128.Idx) : EReal :=
  Products.at3 x r (j 0).val (j 1).val

/-- One trip's part of a tap. -/
theorem tapped (acc : FVec Ideal S8x128 .f32) (x y : FVec Ideal S8x8x128 .f32) (j : S8x128.Idx) :
    k0_pay5 acc x y j = acc j + ∑ r : Fin 8, x (ix3 r (j 0) (j 1)) * y (ix3 r (j 0) (j 1)) := by
  pointwise [k0_pay5]
  rfl

/-- One trip's part of the offset. -/
theorem summed (acc : FVec Ideal S8x128 .f32) (x : FVec Ideal S8x8x128 .f32) (j : S8x128.Idx) :
    k0_pay14 acc x j = acc j + ∑ r : Fin 8, x (ix3 r (j 0) (j 1)) := by
  pointwise [k0_pay14]
  rfl

/-- What the loop carries: the four taps' sums and the offset's. -/
abbrev Carried : Type := FVec Ideal S8x128 .f32 × FVec Ideal S8x128 .f32 × FVec Ideal S8x128 .f32 × FVec Ideal S8x128 .f32 × FVec Ideal S8x128 .f32

/-- A tap's sum. -/
def tap (a : Carried) : Fin 4 → FVec Ideal S8x128 .f32 := ![a.1, a.2.1, a.2.2.1, a.2.2.2.1]

/-- Eight rows loaded from row `o` of a staged stack. -/
theorem rows_loaded {κ : Kind} {sp : Space} {L : ℕ} {M : Memref sig κ sp ⟨3, ![L, 8, 128]⟩ .f32} (X : BufTy.Contents (Elt Ideal) M.view.ty)
    {off : Fin 3 → ℕ} {o : ℕ} (h : off = ![o, 0, 0]) (inb : ∀ a, off a + S8x8x128.size a ≤ (⟨3, ![L, 8, 128]⟩ : Shape).size a)
    (r : Fin 8) (j : S8x128.Idx) :
    View.readAt (Elt Ideal) M.view (Rect.unit (s := ⟨3, ![L, 8, 128]⟩) off S8x8x128.size inb).toLoadRect X (ix3 r (j 0) (j 1))
      = tile (M.view.read (Elt Ideal) X) (o + r.val) j := by
  subst h
  refine Products.at3_eq (M.view.read (Elt Ideal) X) _ ?_ ?_ ?_
  · show o + 1 * r.val = _
    rw [Nat.one_mul]
  · show 0 + 1 * (j 0).val = _
    rw [Nat.one_mul, Nat.zero_add]
  · show 0 + 1 * (j 1).val = _
    rw [Nat.one_mul, Nat.zero_add]

section Loop

variable (c : Dev nD) (i : grid0.Coords) (arg1 : Memref sig .tc .vmem S256x8x128 .f32) (harg1 : arg1.IsWhole)
  (arg2 : Memref sig .tc .vmem S256x8x128 .f32) (harg2 : arg2.IsWhole) (arg3 : Memref sig .tc .vmem S32x8x128 .f32) (harg3 : arg3.IsWhole)
  (arg4 : Memref sig .tc .vmem S4x8x128 .f32) (harg4 : arg4.IsWhole) (arg5 : Memref sig .tc .vmem S8x128 .f32) (harg5 : arg5.IsWhole)
  (arg6 : Memref sig .tc .vmem S288x8x128 .f32) (harg6 : arg6.IsWhole)
  (X1 : BufTy.Contents (Elt Ideal) arg1.view.ty) (X6 : BufTy.Contents (Elt Ideal) arg6.view.ty)

/-- What the loop carries before a trip. -/
abbrev carried (n : ℕ) : Carried :=
  st_k0_t1 (F := Ideal) Variants.none c none i arg1 harg1 arg2 harg2 arg3 harg3 arg4 harg4 arg5 harg5 arg6 harg6 X1 X6
    (k0_pay12 (F := Ideal), k0_pay12 (F := Ideal), k0_pay12 (F := Ideal), k0_pay12 (F := Ideal), k0_pay12 (F := Ideal)) n

/-- One trip. -/
theorem trip (k : Fin k0_t1_loop.trips) (acc : Carried) :
    (trip_k0_t1 (F := Ideal) Variants.none c none i arg1 harg1 arg2 harg2 arg3 harg3 arg4 harg4 arg5 harg5 arg6 harg6 X1 X6 k).1 acc
      = (k0_pay5 acc.1 (View.readAt (Elt Ideal) arg1.view (Rect.unit (s := S256x8x128) (k0_off1 k) S8x8x128.size (k0_off1_inb k)).toLoadRect X1)
            (View.readAt (Elt Ideal) arg6.view (Rect.unit (s := S288x8x128) (k0_off2 k 0#32) S8x8x128.size (k0_off2_inb k 0)).toLoadRect X6),
          k0_pay6 acc.2.1 (View.readAt (Elt Ideal) arg1.view (Rect.unit (s := S256x8x128) (k0_off1 k) S8x8x128.size (k0_off1_inb k)).toLoadRect X1)
            (View.readAt (Elt Ideal) arg6.view (Rect.unit (s := S288x8x128) (k0_off2 k 1#32) S8x8x128.size (k0_off2_inb k 1)).toLoadRect X6),
          k0_pay7 acc.2.2.1 (View.readAt (Elt Ideal) arg1.view (Rect.unit (s := S256x8x128) (k0_off1 k) S8x8x128.size (k0_off1_inb k)).toLoadRect X1)
            (View.readAt (Elt Ideal) arg6.view (Rect.unit (s := S288x8x128) (k0_off2 k 2#32) S8x8x128.size (k0_off2_inb k 2)).toLoadRect X6),
          k0_pay13 acc.2.2.2.1 (View.readAt (Elt Ideal) arg1.view (Rect.unit (s := S256x8x128) (k0_off1 k) S8x8x128.size (k0_off1_inb k)).toLoadRect X1)
            (View.readAt (Elt Ideal) arg6.view (Rect.unit (s := S288x8x128) (k0_off2 k 3#32) S8x8x128.size (k0_off2_inb k 3)).toLoadRect X6),
          k0_pay14 acc.2.2.2.2 (View.readAt (Elt Ideal) arg1.view (Rect.unit (s := S256x8x128) (k0_off1 k) S8x8x128.size (k0_off1_inb k)).toLoadRect X1)) := by
  sl_kernel_rfl

/-- One trip, at a tap. -/
theorem trip_tap (k : Fin k0_t1_loop.trips) (acc : Carried) (q : Fin 4) (j : S8x128.Idx) :
    tap ((trip_k0_t1 (F := Ideal) Variants.none c none i arg1 harg1 arg2 harg2 arg3 harg3 arg4 harg4 arg5 harg5 arg6 harg6 X1 X6 k).1 acc) q j
      = tap acc q j + ∑ r : Fin 8, tile (arg1.view.read (Elt Ideal) X1) (8 * k.val + r.val) j
          * tile (arg6.view.read (Elt Ideal) X6) (8 * k.val + q.val + 29 + r.val) j := by
  have e : tap ((trip_k0_t1 (F := Ideal) Variants.none c none i arg1 harg1 arg2 harg2 arg3 harg3 arg4 harg4 arg5 harg5 arg6 harg6 X1 X6 k).1 acc) q
      = k0_pay5 (tap acc q) (View.readAt (Elt Ideal) arg1.view (Rect.unit (s := S256x8x128) (k0_off1 k) S8x8x128.size (k0_off1_inb k)).toLoadRect X1)
            (View.readAt (Elt Ideal) arg6.view (Rect.unit (s := S288x8x128) (k0_off2 k (BitVec.ofNat 32 q.val)) S8x8x128.size (k0_off2_inb k q)).toLoadRect X6) := by
    rw [trip]
    fin_cases q <;> rfl
  rw [e, tapped]
  exact congrArg _ (Finset.sum_congr rfl fun r _ => congrArg₂ _ (rows_loaded X1 (k0_off1_eq k) _ r j) (rows_loaded X6 (k0_off2_eq k q) _ r j))

/-- One trip, at the offset. -/
theorem trip_offset (k : Fin k0_t1_loop.trips) (acc : Carried) (j : S8x128.Idx) :
    ((trip_k0_t1 (F := Ideal) Variants.none c none i arg1 harg1 arg2 harg2 arg3 harg3 arg4 harg4 arg5 harg5 arg6 harg6 X1 X6 k).1 acc).2.2.2.2 j
      = acc.2.2.2.2 j + ∑ r : Fin 8, tile (arg1.view.read (Elt Ideal) X1) (8 * k.val + r.val) j := by
  rw [trip]
  exact (summed _ _ _).trans (congrArg _ (Finset.sum_congr rfl fun r _ => rows_loaded X1 (k0_off1_eq k) _ r j))

/-- A sum that grows by eight terms a trip. -/
theorem grown (f : ℕ → EReal) (g : ℕ → EReal) (hz : f 0 = 0) (hs : ∀ n < 32, f (n + 1) = f n + ∑ r : Fin 8, g (8 * n + r.val)) :
    f 32 = ∑ s ∈ Finset.range 256, g s := by
  have all : ∀ n ≤ 32, f n = ∑ s ∈ Finset.range (8 * n), g s := by
    intro n
    induction n with
    | zero => intro _; simpa using hz
    | succ n ih =>
      intro hn
      rw [hs n (by omega), ih (by omega), Nat.mul_succ, Finset.sum_range_add, Fin.sum_univ_eq_sum_range (fun r => g (8 * n + r)) 8]
  exact all 32 le_rfl

/-- What the loop leaves of a tap. -/
theorem looped_tap (q : Fin 4) (j : S8x128.Idx) :
    tap (carried c i arg1 harg1 arg2 harg2 arg3 harg3 arg4 harg4 arg5 harg5 arg6 harg6 X1 X6 32) q j
      = ∑ s ∈ Finset.range 256, tile (arg1.view.read (Elt Ideal) X1) s j * tile (arg6.view.read (Elt Ideal) X6) (s + q.val + 29) j := by
  refine grown (fun n => tap (carried c i arg1 harg1 arg2 harg2 arg3 harg3 arg4 harg4 arg5 harg5 arg6 harg6 X1 X6 n) q j)
    (fun s => tile (arg1.view.read (Elt Ideal) X1) s j * tile (arg6.view.read (Elt Ideal) X6) (s + q.val + 29) j) ?_ fun n hn => ?_
  · show tap (carried c i arg1 harg1 arg2 harg2 arg3 harg3 arg4 harg4 arg5 harg5 arg6 harg6 X1 X6 0) q j = 0
    unfold carried
    rw [st_k0_t1_zero]
    fin_cases q <;> exact Products.zero_word
  · have h : n < k0_t1_loop.trips := lt_of_lt_of_eq hn (by decide)
    refine (congrArg (fun a => tap a q j) (st_k0_t1_succ (F := Ideal) Variants.none c none i arg1 harg1 arg2 harg2 arg3 harg3 arg4 harg4 arg5 harg5
      arg6 harg6 X1 X6 _ ⟨n, h⟩)).trans ((trip_tap c i arg1 harg1 arg2 harg2 arg3 harg3 arg4 harg4 arg5 harg5 arg6 harg6 X1 X6 ⟨n, h⟩ _ q j).trans ?_)
    refine congrArg _ (Finset.sum_congr rfl fun r _ => congrArg _ (congrArg (fun z => tile _ z j) ?_))
    show 8 * n + q.val + 29 + r.val = 8 * n + r.val + q.val + 29
    omega

/-- What the loop leaves of the offset. -/
theorem looped_offset (j : S8x128.Idx) :
    (carried c i arg1 harg1 arg2 harg2 arg3 harg3 arg4 harg4 arg5 harg5 arg6 harg6 X1 X6 32).2.2.2.2 j
      = ∑ s ∈ Finset.range 256, tile (arg1.view.read (Elt Ideal) X1) s j := by
  refine grown (fun n => (carried c i arg1 harg1 arg2 harg2 arg3 harg3 arg4 harg4 arg5 harg5 arg6 harg6 X1 X6 n).2.2.2.2 j)
    (fun s => tile (arg1.view.read (Elt Ideal) X1) s j) ?_ fun n hn => ?_
  · exact Products.zero_word
  · have h : n < k0_t1_loop.trips := lt_of_lt_of_eq hn (by decide)
    exact (congrArg (fun a => a.2.2.2.2 j) (st_k0_t1_succ (F := Ideal) Variants.none c none i arg1 harg1 arg2 harg2 arg3 harg3 arg4 harg4 arg5 harg5
      arg6 harg6 X1 X6 _ ⟨n, h⟩)).trans (trip_offset c i arg1 harg1 arg2 harg2 arg3 harg3 arg4 harg4 arg5 harg5 arg6 harg6 X1 X6 ⟨n, h⟩ _ j)

end Loop

/-! What a stack holds after stores of slabs of rows. -/

section Slabs

variable {L n p : ℕ} (inb : ∀ a, (![p, 0, 0] : Fin 3 → ℕ) a + (![n, 8, 128] : Fin 3 → ℕ) a ≤ (⟨3, ![L, 8, 128]⟩ : Shape).size a)
  (w : (⟨3, ![n, 8, 128]⟩ : Shape).Idx → Elt Ideal .f32) (rest : List (View.Piece (Elt Ideal) ⟨3, ![L, 8, 128]⟩ .f32))
  (y : (⟨3, ![L, 8, 128]⟩ : Shape).Idx)

/-- Outside the last slab, what was stored before. -/
theorem slab_out (h : (y 0).val < p ∨ p + n ≤ (y 0).val) :
    View.canon (⟨Rect.unit (s := ⟨3, ![L, 8, 128]⟩) ![p, 0, 0] ![n, 8, 128] inb, w⟩ :: rest) y = View.canon rest y := by
  refine View.canon_cons_of_not_mem _ _ ?_
  intro hm
  have hm : y ∈ (Rect.unit (s := ⟨3, ![L, 8, 128]⟩) ![p, 0, 0] ![n, 8, 128] inb).set := hm
  rw [Rect.mem_set_unit] at hm
  have h1 : p ≤ (y 0).val := (hm 0).1
  have h2 : (y 0).val < p + n := (hm 0).2
  omega

/-- Inside the last slab, its row. -/
theorem slab_in (r : Fin n) (h : (y 0).val = p + r.val) :
    View.canon (⟨Rect.unit (s := ⟨3, ![L, 8, 128]⟩) ![p, 0, 0] ![n, 8, 128] inb, w⟩ :: rest) y = w (ix3 r (y 1) (y 2)) := by
  have e : (Rect.unit (s := ⟨3, ![L, 8, 128]⟩) ![p, 0, 0] ![n, 8, 128] inb).emb (ix3 r (y 1) (y 2)) = y := by
    funext a
    apply Fin.ext
    match a with
    | ⟨0, _⟩ => show p + 1 * r.val = (y 0).val; omega
    | ⟨1, _⟩ => show 0 + 1 * (y 1).val = (y 1).val; omega
    | ⟨2, _⟩ => show 0 + 1 * (y 2).val = (y 2).val; omega
  have := View.canon_cons_emb (Val := Elt Ideal) (Rect.unit (s := ⟨3, ![L, 8, 128]⟩) ![p, 0, 0] ![n, 8, 128] inb) w rest (ix3 r (y 1) (y 2))
  rwa [e] at this

end Slabs

/-- The rows of the taps after the four stores of a point. -/
theorem taps_read (w : Fin 4 → FVec Ideal S1x8x128 .f32) (rest : List (View.Piece (Elt Ideal) S4x8x128 .f32)) (y : S4x8x128.Idx) :
    View.canon (⟨Rect.unit (s := S4x8x128) ![3, 0, 0] S1x8x128.size inb_S4x8x128_S1x8x128_3_0_0, w 3⟩
      :: ⟨Rect.unit (s := S4x8x128) ![2, 0, 0] S1x8x128.size inb_S4x8x128_S1x8x128_2_0_0, w 2⟩
      :: ⟨Rect.unit (s := S4x8x128) ![1, 0, 0] S1x8x128.size inb_S4x8x128_S1x8x128_1_0_0, w 1⟩
      :: ⟨Rect.unit (s := S4x8x128) ![0, 0, 0] S1x8x128.size inb_S4x8x128_S1x8x128_0_0_0, w 0⟩ :: rest) y
      = w (y 0) (ix3 0 (y 1) (y 2)) := by
  have h : (y 0).val < 4 := (y 0).isLt
  have out : ∀ {p : ℕ} (inb) (v : FVec Ideal S1x8x128 .f32) (l), ((y 0).val < p ∨ p + 1 ≤ (y 0).val) →
      View.canon (⟨Rect.unit (s := S4x8x128) ![p, 0, 0] S1x8x128.size inb, v⟩ :: l) y = View.canon l y :=
    fun inb v l h => slab_out (L := 4) (n := 1) inb v l y h
  have hit : ∀ {p : ℕ} (inb) (q : Fin 4) (l), (y 0).val = p → q.val = p →
      View.canon (⟨Rect.unit (s := S4x8x128) ![p, 0, 0] S1x8x128.size inb, w q⟩ :: l) y = w (y 0) (ix3 0 (y 1) (y 2)) :=
    fun inb q l h hq => (slab_in (L := 4) (n := 1) inb (w q) l y 0 h).trans
      (congrFun (congrArg w (Fin.ext (hq.trans h.symm))) _)
  rcases (by omega : (y 0).val = 3 ∨ (y 0).val = 2 ∨ (y 0).val = 1 ∨ (y 0).val = 0) with e | e | e | e
  · exact hit _ 3 _ e rfl
  · exact (out _ _ _ (by omega)).trans (hit _ 2 _ e rfl)
  · exact (out _ _ _ (by omega)).trans ((out _ _ _ (by omega)).trans (hit _ 1 _ e rfl))
  · exact (out _ _ _ (by omega)).trans ((out _ _ _ (by omega)).trans ((out _ _ _ (by omega)).trans (hit _ 0 _ e rfl)))

/-- A tap's row, after its store: what it held and the loop's sum. -/
theorem tap_added (a : FVec Ideal S8x128 .f32) (v : Vec Ideal S1x8x128 .f32) (j : S8x128.Idx) :
    k0_pay15 (F := Ideal) a v (ix3 0 (j 0) (j 1)) = v (ix3 0 (j 0) (j 1)) + a j := by
  obtain ⟨p, q, rfl⟩ : ∃ (p : Fin 8) (q : Fin 128), j = ix2 p q := ⟨j 0, j 1, eq_ix2 j⟩
  pointwise [k0_pay15]
  rfl

theorem offset_added (a : FVec Ideal S8x128 .f32) (v : Vec Ideal S8x128 .f32) (j : S8x128.Idx) :
    k0_pay4 (F := Ideal) a v j = v j + a j := by
  obtain ⟨p, q, rfl⟩ : ∃ (p : Fin 8) (q : Fin 128), j = ix2 p q := ⟨j 0, j 1, eq_ix2 j⟩
  pointwise [k0_pay4]

section Point

variable (c : Dev nD) (i : grid0.Coords) (arg1 : Memref sig .tc .vmem S256x8x128 .f32) (harg1 : arg1.IsWhole)
  (arg2 : Memref sig .tc .vmem S256x8x128 .f32) (harg2 : arg2.IsWhole) (arg3 : Memref sig .tc .vmem S32x8x128 .f32) (harg3 : arg3.IsWhole)
  (arg4 : Memref sig .tc .vmem S4x8x128 .f32) (harg4 : arg4.IsWhole) (arg5 : Memref sig .tc .vmem S8x128 .f32) (harg5 : arg5.IsWhole)
  (arg6 : Memref sig .tc .vmem S288x8x128 .f32) (harg6 : arg6.IsWhole)
  (x0 x1 : Vec Ideal S256x8x128 .f32) (x2 : Vec Ideal S32x8x128 .f32)

/-- The stores that fill the window: the halo's rows, then the block's. -/
abbrev filled : List (View.Piece (Elt Ideal) S288x8x128 .f32) :=
  kernelRun0_B.sl.HS0_2 (F := Ideal) c i arg2 harg2 arg3 harg3 x1 x2

/-- What the loop leaves at a point. -/
abbrev left : Carried :=
  carried c i arg1 harg1 arg2 harg2 arg3 harg3 arg4 harg4 arg5 harg5 arg6 harg6 (harg1.unread x0)
    (arg6.view.writes (Elt Ideal) arg6.view.junk (filled c i arg2 harg2 arg3 harg3 x1 x2)) 32

/-- A tap of it. -/
theorem left_tap (q : Fin 4) (j : S8x128.Idx) :
    tap (left c i arg1 harg1 arg2 harg2 arg3 harg3 arg4 harg4 arg5 harg5 arg6 harg6 x0 x1 x2) q j
      = ∑ s ∈ Finset.range 256, tile x0 s j * tile (View.canon (filled c i arg2 harg2 arg3 harg3 x1 x2)) (s + q.val + 29) j := by
  refine (looped_tap c i arg1 harg1 arg2 harg2 arg3 harg3 arg4 harg4 arg5 harg5 arg6 harg6 _ _ q j).trans ?_
  rw [harg1.read_unread, View.read_writes_junk_eq_canon]

theorem left_offset (j : S8x128.Idx) :
    (left c i arg1 harg1 arg2 harg2 arg3 harg3 arg4 harg4 arg5 harg5 arg6 harg6 x0 x1 x2).2.2.2.2 j
      = ∑ s ∈ Finset.range 256, tile x0 s j := by
  refine (looped_offset c i arg1 harg1 arg2 harg2 arg3 harg3 arg4 harg4 arg5 harg5 arg6 harg6 _ _ j).trans ?_
  rw [harg1.read_unread]

/-- The window's rows: the halo's first 32, none at the first point, then the block's 256. -/
theorem window_halo (s : ℕ) (h : s < 32) (j : S8x128.Idx) :
    tile (View.canon (filled c i arg2 harg2 arg3 harg3 x1 x2)) s j
      = Scalar.select (Scalar.cmpi .sgt (BitVec.ofNat 32 (i 0).val) 0#32) (tile x2 s j) 0 := by
  have hs : s < 288 := by omega
  refine (Products.at3_eq (View.canon (filled c i arg2 harg2 arg3 harg3 x1 x2)) (ix3 (⟨s, hs⟩ : Fin 288) (j 0) (j 1)) rfl rfl rfl).symm.trans ?_
  refine (slab_out (L := 288) (n := 256) inb_S288x8x128_S256x8x128_32_0_0 _ _ _ (Or.inl h)).trans ?_
  refine (slab_in (L := 288) (n := 32) inb_S288x8x128_S32x8x128_0_0_0 _ _ _ ⟨s, h⟩ (Nat.zero_add s).symm).trans ?_
  rw [Products.loaded (Val := Elt Ideal) harg3 (funext fun a => by fin_cases a <;> rfl)]
  have e : ∀ v : Vec Ideal S32x8x128 .f32, k0_pay10 (F := Ideal) i v = Scalar.select (Scalar.cmpi .sgt (BitVec.ofNat 32 (i 0).val) 0#32) v
      (fun _ => Ideal.ofBits .f32 0x00000000#32) := fun v => shapeCast_id _ _
  refine (congrFun (e x2) _).trans ?_
  unfold Scalar.select
  split
  · exact Products.at3_eq x2 _ rfl rfl rfl
  · exact Products.zero_word

theorem window_block (s : ℕ) (h : 32 ≤ s) (hs : s < 288) (j : S8x128.Idx) :
    tile (View.canon (filled c i arg2 harg2 arg3 harg3 x1 x2)) s j = tile x1 (s - 32) j := by
  refine (Products.at3_eq (View.canon (filled c i arg2 harg2 arg3 harg3 x1 x2)) (ix3 (⟨s, hs⟩ : Fin 288) (j 0) (j 1)) rfl rfl rfl).symm.trans ?_
  refine (slab_in (L := 288) (n := 256) inb_S288x8x128_S256x8x128_32_0_0 _ _ _ ⟨s - 32, by omega⟩ ?_).trans ?_
  · show s = 32 + (s - 32)
    omega
  rw [Products.loaded (Val := Elt Ideal) harg2 (funext fun a => by fin_cases a <;> rfl)]
  have e : ∀ v : Vec Ideal S256x8x128 .f32, k0_pay11 (F := Ideal) v = v := fun v => shapeCast_id _ _
  exact (congrFun (e x1) _).trans (Products.at3_eq x1 _ rfl rfl rfl)

/-- The stores of the taps at the first point. -/
theorem stores_first (hc : cond0_0 i) :
    (kernelRun0_A (F := Ideal) c i arg1 harg1 arg2 harg2 arg3 harg3 arg4 harg4 arg5 harg5 arg6 harg6 hc x0 x1 x2).1
      = (fun w : Fin 4 → FVec Ideal S1x8x128 .f32 =>
          (⟨Rect.unit (s := S4x8x128) ![3, 0, 0] S1x8x128.size inb_S4x8x128_S1x8x128_3_0_0, w 3⟩
          :: ⟨Rect.unit (s := S4x8x128) ![2, 0, 0] S1x8x128.size inb_S4x8x128_S1x8x128_2_0_0, w 2⟩
          :: ⟨Rect.unit (s := S4x8x128) ![1, 0, 0] S1x8x128.size inb_S4x8x128_S1x8x128_1_0_0, w 1⟩
          :: ⟨Rect.unit (s := S4x8x128) ![0, 0, 0] S1x8x128.size inb_S4x8x128_S1x8x128_0_0_0, w 0⟩
          :: kernelRun0_A.sl.H3_1 : List (View.Piece (Elt Ideal) S4x8x128 .f32)))
        (fun q => k0_pay15 (tap (left c i arg1 harg1 arg2 harg2 arg3 harg3 arg4 harg4 arg5 harg5 arg6 harg6 x0 x1 x2) q)
          ((![kernelRun0_A.sl.v17 c arg4,
            kernelRun0_A.sl.v23 c i arg1 harg1 arg2 harg2 arg3 harg3 arg4 harg4 arg5 harg5 arg6 harg6 x0 x1 x2,
            kernelRun0_A.sl.v29 c i arg1 harg1 arg2 harg2 arg3 harg3 arg4 harg4 arg5 harg5 arg6 harg6 x0 x1 x2,
            kernelRun0_A.sl.v35 c i arg1 harg1 arg2 harg2 arg3 harg3 arg4 harg4 arg5 harg5 arg6 harg6 x0 x1 x2]
            : Fin 4 → Vec Ideal S1x8x128 .f32) q)) := by
  sl_kernel_rfl

/-- The stores of the taps at a later point. -/
theorem stores_next (hc : ¬cond0_0 i) (y3 : Vec Ideal S4x8x128 .f32) (y4 : Vec Ideal S8x128 .f32) :
    (kernelRun0_B (F := Ideal) c i arg1 harg1 arg2 harg2 arg3 harg3 arg4 harg4 arg5 harg5 arg6 harg6 hc x0 x1 x2 y3 y4).1
      = (fun w : Fin 4 → FVec Ideal S1x8x128 .f32 =>
          (⟨Rect.unit (s := S4x8x128) ![3, 0, 0] S1x8x128.size inb_S4x8x128_S1x8x128_3_0_0, w 3⟩
          :: ⟨Rect.unit (s := S4x8x128) ![2, 0, 0] S1x8x128.size inb_S4x8x128_S1x8x128_2_0_0, w 2⟩
          :: ⟨Rect.unit (s := S4x8x128) ![1, 0, 0] S1x8x128.size inb_S4x8x128_S1x8x128_1_0_0, w 1⟩
          :: ⟨Rect.unit (s := S4x8x128) ![0, 0, 0] S1x8x128.size inb_S4x8x128_S1x8x128_0_0_0, w 0⟩
          :: [] : List (View.Piece (Elt Ideal) S4x8x128 .f32)))
        (fun q => k0_pay15 (tap (left c i arg1 harg1 arg2 harg2 arg3 harg3 arg4 harg4 arg5 harg5 arg6 harg6 x0 x1 x2) q)
          ((![View.readAt (Elt Ideal) arg4.view (Rect.unit (s := S4x8x128) ![0, 0, 0] S1x8x128.size inb_S4x8x128_S1x8x128_0_0_0).toLoadRect (harg4.unread y3),
            View.readAt (Elt Ideal) arg4.view (Rect.unit (s := S4x8x128) ![1, 0, 0] S1x8x128.size inb_S4x8x128_S1x8x128_1_0_0).toLoadRect (harg4.unread y3),
            View.readAt (Elt Ideal) arg4.view (Rect.unit (s := S4x8x128) ![2, 0, 0] S1x8x128.size inb_S4x8x128_S1x8x128_2_0_0).toLoadRect (harg4.unread y3),
            View.readAt (Elt Ideal) arg4.view (Rect.unit (s := S4x8x128) ![3, 0, 0] S1x8x128.size inb_S4x8x128_S1x8x128_3_0_0).toLoadRect (harg4.unread y3)]
            : Fin 4 → Vec Ideal S1x8x128 .f32) q)) := by
  sl_kernel_rfl

/-- The first point's taps: the loop's sums. -/
theorem taps_first (hc : cond0_0 i) (y : S4x8x128.Idx) :
    out0_A_3 (F := Ideal) c i arg1 harg1 arg2 harg2 arg3 harg3 arg4 harg4 arg5 harg5 arg6 harg6 hc x0 x1 x2 y
      = 0 + tap (left c i arg1 harg1 arg2 harg2 arg3 harg3 arg4 harg4 arg5 harg5 arg6 harg6 x0 x1 x2) (y 0) (ix2 (y 1) (y 2)) := by
  unfold out0_A_3
  rw [View.read_writes_junk_eq_canon]
  refine (congrFun (congrArg View.canon (stores_first c i arg1 harg1 arg2 harg2 arg3 harg3 arg4 harg4 arg5 harg5 arg6 harg6 x0 x1 x2 hc)) y).trans ?_
  refine (taps_read (fun q => k0_pay15 _ _) _ y).trans ?_
  refine (tap_added _ _ (ix2 (y 1) (y 2))).trans ?_
  refine congrArg (fun z : EReal => z + _) ?_
  obtain ⟨q, hq⟩ : ∃ q : Fin 4, q = y 0 := ⟨y 0, rfl⟩
  rw [← hq]
  have out : ∀ {p : ℕ} (inb) (v : FVec Ideal S1x8x128 .f32) (l) (z : S4x8x128.Idx), ((z 0).val < p ∨ p + 1 ≤ (z 0).val) →
      View.canon (⟨Rect.unit (s := S4x8x128) ![p, 0, 0] S1x8x128.size inb, v⟩ :: l) z = View.canon l z :=
    fun inb v l z h => slab_out (L := 4) (n := 1) inb v l z h
  have e : kernelRun0_A.sl.H3_1 (F := Ideal)
      = [⟨Rect.unit (s := S4x8x128) ![0, 0, 0] S4x8x128.size inb_S4x8x128_S4x8x128_0_0_0, k0_pay8 (F := Ideal)⟩] := by
    sl_kernel_rfl
  have zero : ∀ z : S4x8x128.Idx, View.canon (kernelRun0_A.sl.H3_1 (F := Ideal)) z = 0 := fun z => by
    rw [e]
    refine (congrFun (View.canon_unit_zero (Val := Elt Ideal) (e := .f32) (off := ![0, 0, 0]) (by decide) inb_S4x8x128_S4x8x128_0_0_0 (k0_pay8 (F := Ideal))) z).trans ?_
    exact Products.zero_word
  fin_cases q
  · refine (congrFun (View.readCov_eq_canon' (Val := Elt Ideal) arg4.view _ _) _).trans ?_
    exact zero _
  · refine (congrFun (View.readCov_eq_canon' (Val := Elt Ideal) arg4.view _ _) _).trans ?_
    exact (out _ _ _ _ (Or.inr le_rfl)).trans (zero _)
  · refine (congrFun (View.readCov_eq_canon' (Val := Elt Ideal) arg4.view _ _) _).trans ?_
    exact (out _ _ _ _ (Or.inr (show (1 + 1 : ℕ) ≤ 2 by decide))).trans ((out _ _ _ _ (Or.inr (show (0 + 1 : ℕ) ≤ 2 by decide))).trans (zero _))
  · refine (congrFun (View.readCov_eq_canon' (Val := Elt Ideal) arg4.view _ _) _).trans ?_
    exact (out _ _ _ _ (Or.inr (show (2 + 1 : ℕ) ≤ 3 by decide))).trans ((out _ _ _ _ (Or.inr (show (1 + 1 : ℕ) ≤ 3 by decide))).trans ((out _ _ _ _ (Or.inr (show (0 + 1 : ℕ) ≤ 3 by decide))).trans (zero _)))

/-- A later point's taps: what the point before left, and the loop's sums. -/
theorem taps_next (hc : ¬cond0_0 i) (y3 : Vec Ideal S4x8x128 .f32) (y4 : Vec Ideal S8x128 .f32) (y : S4x8x128.Idx) :
    out0_B_3 (F := Ideal) c i arg1 harg1 arg2 harg2 arg3 harg3 arg4 harg4 arg5 harg5 arg6 harg6 hc x0 x1 x2 y3 y4 y
      = y3 y + tap (left c i arg1 harg1 arg2 harg2 arg3 harg3 arg4 harg4 arg5 harg5 arg6 harg6 x0 x1 x2) (y 0) (ix2 (y 1) (y 2)) := by
  unfold out0_B_3
  rw [View.read_writes_junk_eq_canon]
  refine (congrFun (congrArg View.canon (stores_next c i arg1 harg1 arg2 harg2 arg3 harg3 arg4 harg4 arg5 harg5 arg6 harg6 x0 x1 x2 hc y3 y4)) y).trans ?_
  refine (taps_read (fun q => k0_pay15 _ _) _ y).trans ?_
  refine (tap_added _ _ (ix2 (y 1) (y 2))).trans ?_
  refine congrArg (fun z : EReal => z + _) ?_
  have one : ∀ (q : Fin 4) (inb : ∀ a, (![q.val, 0, 0] : Fin 3 → ℕ) a + S1x8x128.size a ≤ S4x8x128.size a), q = y 0 →
      View.readAt (Elt Ideal) arg4.view (Rect.unit (s := S4x8x128) ![q.val, 0, 0] S1x8x128.size inb).toLoadRect (harg4.unread y3)
        (ix3 0 (y 1) (y 2)) = y3 y := by
    intro q inb hq
    rw [View.readAt_eq_ld, harg4.read_unread]
    refine congrArg y3 (funext fun a => Fin.ext ?_)
    match a with
    | ⟨0, _⟩ => show q.val + 1 * 0 = (y 0).val; rw [hq]; rfl
    | ⟨1, _⟩ => show 0 + 1 * (y 1).val = (y 1).val; omega
    | ⟨2, _⟩ => show 0 + 1 * (y 2).val = (y 2).val; omega
  obtain ⟨q, hq⟩ : ∃ q : Fin 4, q = y 0 := ⟨y 0, rfl⟩
  rw [← hq]
  fin_cases q
  · exact one 0 inb_S4x8x128_S1x8x128_0_0_0 hq
  · exact one 1 inb_S4x8x128_S1x8x128_1_0_0 hq
  · exact one 2 inb_S4x8x128_S1x8x128_2_0_0 hq
  · exact one 3 inb_S4x8x128_S1x8x128_3_0_0 hq

/-- The first point's offset. -/
theorem offset_first (hc : cond0_0 i) (j : S8x128.Idx) :
    out0_A_4 (F := Ideal) c i arg1 harg1 arg2 harg2 arg3 harg3 arg4 harg4 arg5 harg5 arg6 harg6 hc x0 x1 x2 j
      = 0 + (left c i arg1 harg1 arg2 harg2 arg3 harg3 arg4 harg4 arg5 harg5 arg6 harg6 x0 x1 x2).2.2.2.2 j := by
  have e : (kernelRun0_A (F := Ideal) c i arg1 harg1 arg2 harg2 arg3 harg3 arg4 harg4 arg5 harg5 arg6 harg6 hc x0 x1 x2).2.1
      = [⟨Rect.unit (s := S8x128) ![0, 0] S8x128.size inb_S8x128_S8x128_0_0,
          k0_pay4 (left c i arg1 harg1 arg2 harg2 arg3 harg3 arg4 harg4 arg5 harg5 arg6 harg6 x0 x1 x2).2.2.2.2
            (View.readCov arg5.view [⟨Rect.unit (s := S8x128) ![0, 0] S8x128.size inb_S8x128_S8x128_0_0, k0_pay9 (F := Ideal)⟩]
              (Rect.unit (s := S8x128) ![0, 0] S8x128.size inb_S8x128_S8x128_0_0).toLoadRect)⟩,
        ⟨Rect.unit (s := S8x128) ![0, 0] S8x128.size inb_S8x128_S8x128_0_0, k0_pay9 (F := Ideal)⟩] := by
    sl_kernel_rfl
  unfold out0_A_4
  rw [View.read_writes_junk_eq_canon]
  refine (congrFun (congrArg View.canon e) j).trans ?_
  refine (congrFun (View.canon_cons_unit_zero (Val := Elt Ideal) (off := ![0, 0]) (by decide) inb_S8x128_S8x128_0_0 _ _) j).trans ?_
  refine (offset_added _ _ j).trans ?_
  refine congrArg (· + _) ((congrFun (View.readCov_unit_zero (Val := Elt Ideal) arg5.view (off := ![0, 0]) (by decide) inb_S8x128_S8x128_0_0
    (k0_pay9 (F := Ideal))) j).trans ?_)
  exact Products.zero_word

/-- A later point's offset. -/
theorem offset_next (hc : ¬cond0_0 i) (y3 : Vec Ideal S4x8x128 .f32) (y4 : Vec Ideal S8x128 .f32) (j : S8x128.Idx) :
    out0_B_4 (F := Ideal) c i arg1 harg1 arg2 harg2 arg3 harg3 arg4 harg4 arg5 harg5 arg6 harg6 hc x0 x1 x2 y3 y4 j
      = y4 j + (left c i arg1 harg1 arg2 harg2 arg3 harg3 arg4 harg4 arg5 harg5 arg6 harg6 x0 x1 x2).2.2.2.2 j := by
  have e : (kernelRun0_B (F := Ideal) c i arg1 harg1 arg2 harg2 arg3 harg3 arg4 harg4 arg5 harg5 arg6 harg6 hc x0 x1 x2 y3 y4).2.1
      = [⟨Rect.unit (s := S8x128) ![0, 0] S8x128.size inb_S8x128_S8x128_0_0,
          k0_pay4 (left c i arg1 harg1 arg2 harg2 arg3 harg3 arg4 harg4 arg5 harg5 arg6 harg6 x0 x1 x2).2.2.2.2
            (View.readAt (Elt Ideal) arg5.view (Rect.unit (s := S8x128) ![0, 0] S8x128.size inb_S8x128_S8x128_0_0).toLoadRect (harg5.unread y4))⟩] := by
    sl_kernel_rfl
  unfold out0_B_4
  rw [View.read_writes_junk_eq_canon]
  refine (congrFun (congrArg View.canon e) j).trans ((congrFun (View.canon_unit_zero (off := ![0, 0]) (by decide) inb_S8x128_S8x128_0_0 _) j).trans
    ((offset_added _ _ j).trans ?_))
  exact congrArg (· + _) (congrFun (Products.loaded (Val := Elt Ideal) harg5 Products.off2 inb_S8x128_S8x128_0_0 y4) j)

end Point

/-- The places of an input before the current row; nothing before the first. -/
def past (x : S8192x8x128.Idx → EReal) (u : ℕ) (j : S8x128.Idx) : EReal := if u < 32 then 0 else tile x (u - 32) j

/-- What the taps get back: the products of the cotangent's rows and the input's shifted rows, summed over the rows. -/
def taps (d x : S8192x8x128.Idx → EReal) : S4x8x128.Idx → EReal := fun y =>
  ∑ u ∈ Finset.range 8192, tile d u (ix2 (y 1) (y 2)) * past x (u + (y 0).val + 29) (ix2 (y 1) (y 2))

/-- What the offset gets back: the sum of the cotangent's rows. -/
def offset (d : S8192x8x128.Idx → EReal) : S8x128.Idx → EReal := fun j => ∑ u ∈ Finset.range 8192, tile d u j

variable (m : (ℓ : Loc nD τ sig) → Buf (Elt Ideal) ℓ)

/-- Where the blocks of a point lie. -/
theorem places : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val * 8 - 1 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0) := by decide +kernel

/-- Whether a point has rows before its own. -/
theorem later : ∀ t : Fin cfg0.N, Scalar.cmpi .sgt (BitVec.ofNat 32 ((grid0.coords t) 0).val) 0#32 = if t.val = 0 then 0#1 else 1#1 := by
  decide +kernel

/-- The rows of a point's blocks. -/
theorem rows_d (c : Dev nD) (t : Fin cfg0.N) (s : ℕ) (h : s < 256) (j : S8x128.Idx) :
    tile (iblk m c 0 t) s j = tile (V m c main_arg0) (t.val * 256 + s) j := by
  obtain ⟨⟨p, q, r⟩, -⟩ := places t
  exact (Products.at3_eq (iblk m c 0 t) (ix3 (⟨s, h⟩ : Fin 256) (j 0) (j 1)) rfl rfl rfl).symm.trans
    (Products.at3_eq (V m c main_arg0) (((cfg0.win 0).blk t).view.emb (ix3 (⟨s, h⟩ : Fin 256) (j 0) (j 1)))
      (Products.place p) (Rows.inside q) (Rows.inside r))

theorem rows_x (c : Dev nD) (t : Fin cfg0.N) (s : ℕ) (h : s < 256) (j : S8x128.Idx) :
    tile (iblk m c 1 t) s j = tile (V m c main_arg1) (t.val * 256 + s) j := by
  obtain ⟨-, ⟨p, q, r⟩, -⟩ := places t
  exact (Products.at3_eq (iblk m c 1 t) (ix3 (⟨s, h⟩ : Fin 256) (j 0) (j 1)) rfl rfl rfl).symm.trans
    (Products.at3_eq (V m c main_arg1) (((cfg0.win 1).blk t).view.emb (ix3 (⟨s, h⟩ : Fin 256) (j 0) (j 1)))
      (Products.place p) (Rows.inside q) (Rows.inside r))

theorem rows_halo (c : Dev nD) (t : Fin cfg0.N) (s : ℕ) (h : s < 32) (j : S8x128.Idx) :
    tile (iblk m c 2 t) s j = tile (V m c main_arg1) ((t.val * 8 - 1) * 32 + s) j := by
  obtain ⟨-, -, ⟨p, q, r⟩, -⟩ := places t
  exact (Products.at3_eq (iblk m c 2 t) (ix3 (⟨s, h⟩ : Fin 32) (j 0) (j 1)) rfl rfl rfl).symm.trans
    (Products.at3_eq (V m c main_arg1) (((cfg0.win 2).blk t).view.emb (ix3 (⟨s, h⟩ : Fin 32) (j 0) (j 1)))
      (Products.place p) (Rows.inside q) (Rows.inside r))

/-- A point's window holds the input's rows from 32 before its own. -/
theorem window (c : Dev nD) (t : Fin cfg0.N) (s : ℕ) (h : s < 288) (j : S8x128.Idx) :
    tile (View.canon (filled c (grid0.coords t) (ms0_1 t) (hs0_1 t) (ms0_2 t) (hs0_2 t) (iblk m c 1 t) (iblk m c 2 t))) s j
      = past (V m c main_arg1) (t.val * 256 + s) j := by
  by_cases h32 : s < 32
  · refine (window_halo c (grid0.coords t) (ms0_1 t) (hs0_1 t) (ms0_2 t) (hs0_2 t) (iblk m c 1 t) (iblk m c 2 t) s h32 j).trans ?_
    rw [later t, rows_halo m c t s h32 j]
    by_cases h0 : t.val = 0
    · rw [if_pos h0, past, if_pos (by omega)]
      rfl
    · rw [if_neg h0, past, if_neg (by omega)]
      show tile (V m c main_arg1) ((t.val * 8 - 1) * 32 + s) j = _
      rw [show (t.val * 8 - 1) * 32 + s = t.val * 256 + s - 32 by omega]
  · refine (window_block c (grid0.coords t) (ms0_1 t) (hs0_1 t) (ms0_2 t) (hs0_2 t) (iblk m c 1 t) (iblk m c 2 t) s (by omega) h j).trans ?_
    rw [rows_x m c t (s - 32) (by omega) j, past, if_neg (by omega), show t.val * 256 + s - 32 = t.val * 256 + (s - 32) by omega]

/-- A point's part of the taps. -/
theorem part_taps (c : Dev nD) (t : Fin cfg0.N) (q : Fin 4) (j : S8x128.Idx) :
    tap (left c (grid0.coords t) (ms0_0 t) (hs0_0 t) (ms0_1 t) (hs0_1 t) (ms0_2 t) (hs0_2 t) (ms0_3 t) (hs0_3 t) (ms0_4 t) (hs0_4 t)
      scM0_0 (Memref.isWhole_whole _) (iblk m c 0 t) (iblk m c 1 t) (iblk m c 2 t)) q j
      = ∑ k : Fin 256, tile (V m c main_arg0) (t.val * 256 + k.val) j * past (V m c main_arg1) (t.val * 256 + k.val + q.val + 29) j := by
  refine (left_tap _ _ _ _ _ _ _ _ _ _ _ _ _ _ _ _ _ q j).trans ?_
  refine Eq.trans ?_ (Fin.sum_univ_eq_sum_range (fun k => tile (V m c main_arg0) (t.val * 256 + k) j
    * past (V m c main_arg1) (t.val * 256 + k + q.val + 29) j) 256).symm
  refine Finset.sum_congr rfl fun k hk => ?_
  have hk : k < 256 := Finset.mem_range.mp hk
  have hq := q.isLt
  refine congrArg₂ (· * ·) (rows_d m c t k hk j) ((window m c t (k + q.val + 29) (by omega) j).trans ?_)
  rw [show t.val * 256 + (k + q.val + 29) = t.val * 256 + k + q.val + 29 by omega]

/-- A point's part of the offset. -/
theorem part_offset (c : Dev nD) (t : Fin cfg0.N) (j : S8x128.Idx) :
    (left c (grid0.coords t) (ms0_0 t) (hs0_0 t) (ms0_1 t) (hs0_1 t) (ms0_2 t) (hs0_2 t) (ms0_3 t) (hs0_3 t) (ms0_4 t) (hs0_4 t)
      scM0_0 (Memref.isWhole_whole _) (iblk m c 0 t) (iblk m c 1 t) (iblk m c 2 t)).2.2.2.2 j
      = ∑ k : Fin 256, tile (V m c main_arg0) (t.val * 256 + k.val) j := by
  refine (left_offset _ _ _ _ _ _ _ _ _ _ _ _ _ _ _ _ _ j).trans ?_
  refine Eq.trans ?_ (Fin.sum_univ_eq_sum_range (fun k => tile (V m c main_arg0) (t.val * 256 + k) j) 256).symm
  exact Finset.sum_congr rfl fun k hk => rows_d m c t k (Finset.mem_range.mp hk) j

theorem count (n : ℕ) (h : n < cfg0.N) : n % 32 = n := Nat.mod_eq_of_lt (lt_of_lt_of_eq h N_0)

/-- The taps after the first point. -/
theorem first_taps (c : Dev nD) (t : Fin cfg0.N) (h : t.val % 32 = 0) (y : S4x8x128.Idx) :
    (outsAt0 m c t.val t.isLt).1 y = ∑ k : Fin 256, tile (V m c main_arg0) (t.val * 256 + k.val) (ix2 (y 1) (y 2))
      * past (V m c main_arg1) (t.val * 256 + k.val + (y 0).val + 29) (ix2 (y 1) (y 2)) := by
  rw [outsAt0_A m c t h]
  dsimp only
  refine (taps_first c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) (iblk m c 2 t) ((hcond0_0 t).mpr h) y).trans ?_
  exact (zero_add _).trans (part_taps m c t (y 0) (ix2 (y 1) (y 2)))

/-- The taps after a later point. -/
theorem next_taps (c : Dev nD) (t : Fin cfg0.N) (h : ¬t.val % 32 = 0) (y : S4x8x128.Idx) :
    (outsAt0 m c t.val t.isLt).1 y = (outsAt0 m c (t.val - 1) (Nat.lt_of_le_of_lt (Nat.sub_le _ _) t.isLt)).1 y
      + ∑ k : Fin 256, tile (V m c main_arg0) (t.val * 256 + k.val) (ix2 (y 1) (y 2))
        * past (V m c main_arg1) (t.val * 256 + k.val + (y 0).val + 29) (ix2 (y 1) (y 2)) := by
  rw [outsAt0_B m c t h]
  dsimp only
  refine (taps_next c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) (iblk m c 2 t) (fun h' => h ((hcond0_0 t).mp h'))
    (outsAt0 m c (t.val - 1) (Nat.lt_of_le_of_lt (Nat.sub_le _ _) t.isLt)).1
    (outsAt0 m c (t.val - 1) (Nat.lt_of_le_of_lt (Nat.sub_le _ _) t.isLt)).2 y).trans ?_
  exact congrArg (fun z : EReal => _ + z) (part_taps m c t (y 0) (ix2 (y 1) (y 2)))

/-- The offset after the first point. -/
theorem first_offset (c : Dev nD) (t : Fin cfg0.N) (h : t.val % 32 = 0) (j : S8x128.Idx) :
    (outsAt0 m c t.val t.isLt).2 j = ∑ k : Fin 256, tile (V m c main_arg0) (t.val * 256 + k.val) j := by
  rw [outsAt0_A m c t h]
  dsimp only
  refine (offset_first c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) (iblk m c 2 t) ((hcond0_0 t).mpr h) j).trans ?_
  exact (zero_add _).trans (part_offset m c t j)

/-- The offset after a later point. -/
theorem next_offset (c : Dev nD) (t : Fin cfg0.N) (h : ¬t.val % 32 = 0) (j : S8x128.Idx) :
    (outsAt0 m c t.val t.isLt).2 j = (outsAt0 m c (t.val - 1) (Nat.lt_of_le_of_lt (Nat.sub_le _ _) t.isLt)).2 j
      + ∑ k : Fin 256, tile (V m c main_arg0) (t.val * 256 + k.val) j := by
  rw [outsAt0_B m c t h]
  dsimp only
  refine (offset_next c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) (iblk m c 2 t) (fun h' => h ((hcond0_0 t).mp h'))
    (outsAt0 m c (t.val - 1) (Nat.lt_of_le_of_lt (Nat.sub_le _ _) t.isLt)).1
    (outsAt0 m c (t.val - 1) (Nat.lt_of_le_of_lt (Nat.sub_le _ _) t.isLt)).2 j).trans ?_
  exact congrArg (fun z : EReal => _ + z) (part_offset m c t j)

/-- The taps after a point: the sum over the rows so far. -/
theorem state_taps (c : Dev nD) (n : ℕ) (h : n < cfg0.N) (y : S4x8x128.Idx) :
    (outsAt0 m c n h).1 y = ∑ u ∈ Finset.range ((n % 32 + 1) * 256),
      tile (V m c main_arg0) u (ix2 (y 1) (y 2)) * past (V m c main_arg1) (u + (y 0).val + 29) (ix2 (y 1) (y 2)) := by
  refine Products.fold (J := 32) (T := 256) (by decide) (fun n h (y : S4x8x128.Idx) => (outsAt0 m c n h).1 y)
    (fun _ (y : S4x8x128.Idx) u => tile (V m c main_arg0) u (ix2 (y 1) (y 2)) * past (V m c main_arg1) (u + (y 0).val + 29) (ix2 (y 1) (y 2)))
    (fun n h y hn => ?_) (fun n h y hn => ?_) n h y
  · rw [count n h]
    exact first_taps m c ⟨n, h⟩ hn y
  · rw [count n h]
    exact next_taps m c ⟨n, h⟩ hn y

/-- The offset after a point. -/
theorem state_offset (c : Dev nD) (n : ℕ) (h : n < cfg0.N) (j : S8x128.Idx) :
    (outsAt0 m c n h).2 j = ∑ u ∈ Finset.range ((n % 32 + 1) * 256), tile (V m c main_arg0) u j := by
  refine Products.fold (J := 32) (T := 256) (by decide) (fun n h (j : S8x128.Idx) => (outsAt0 m c n h).2 j)
    (fun _ (j : S8x128.Idx) u => tile (V m c main_arg0) u j) (fun n h j hn => ?_) (fun n h j hn => ?_) n h j
  · rw [count n h]
    exact first_offset m c ⟨n, h⟩ hn j
  · rw [count n h]
    exact next_offset m c ⟨n, h⟩ hn j

theorem flushed_taps (c : Dev nD) (t : Fin cfg0.N) (hf : (cfg0.win 3).flush t = true) :
    (dats m 0 c).flushed 3 t = ((cfg0.win 3).blk t).view.read (Elt Ideal) (taps (V m c main_arg0) (V m c main_arg1)) := by
  have hq : t.val % 32 = 31 := (flush0_3 t).mp hf
  obtain ⟨-, -, -, p, -⟩ := places t
  obtain ⟨G, hG⟩ : ∃ G : S4x8x128.Idx → EReal, G = taps (V m c main_arg0) (V m c main_arg1) := ⟨_, rfl⟩
  rw [flushed3, ← hG]
  funext y
  have e : ((cfg0.win 3).xinj (grid0.coords t) y) = ((cfg0.win 3).blk t).view.emb y := by
    funext a
    apply Fin.ext
    match a with
    | ⟨0, _⟩ => exact (Rows.inside p.1).symm
    | ⟨1, _⟩ => exact (Rows.inside p.2.1).symm
    | ⟨2, _⟩ => exact (Rows.inside p.2.2).symm
  refine (state_taps m c t.val t.isLt ((cfg0.win 3).xinj (grid0.coords t) y)).trans ?_
  show _ = G (((cfg0.win 3).blk t).view.emb y)
  rw [hG, hq, ← e]
  rfl

theorem covered_taps (i : S4x8x128.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 128 := (i 2).isLt
  let t : Fin cfg0.N := ⟨31, by rw [show cfg0.N = 32 from N_0]; omega⟩
  obtain ⟨-, -, -, ⟨p0, p1, p2⟩, -⟩ := places t
  refine ⟨t, (flush0_3 t).mpr rfl, ?_⟩
  show i ∈ ((View.whole main_v0_0).slice (win0_3.rect t)).set
  rw [View.set_slice_whole, Rect.mem_set_unit]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

theorem flushed_offset (c : Dev nD) (t : Fin cfg0.N) (hf : (cfg0.win 4).flush t = true) :
    (dats m 0 c).flushed 4 t = ((cfg0.win 4).blk t).view.read (Elt Ideal) (offset (V m c main_arg0)) := by
  have hq : t.val % 32 = 31 := (flush0_4 t).mp hf
  obtain ⟨-, -, -, -, p⟩ := places t
  obtain ⟨G, hG⟩ : ∃ G : S8x128.Idx → EReal, G = offset (V m c main_arg0) := ⟨_, rfl⟩
  rw [flushed4, ← hG]
  funext y
  have e : ((cfg0.win 4).xinj (grid0.coords t) y) = ((cfg0.win 4).blk t).view.emb y := by
    funext a
    apply Fin.ext
    match a with
    | ⟨0, _⟩ => exact (Rows.inside p.1).symm
    | ⟨1, _⟩ => exact (Rows.inside p.2).symm
  refine (state_offset m c t.val t.isLt ((cfg0.win 4).xinj (grid0.coords t) y)).trans ?_
  show _ = G (((cfg0.win 4).blk t).view.emb y)
  rw [hG, hq, ← e]
  rfl

theorem covered_offset (i : S8x128.Idx) : ∃ t : Fin cfg0.N, (cfg0.win 4).flush t = true ∧ i ∈ ((cfg0.win 4).blk t).view.set := by
  have h0 : (i 0).val < 8 := (i 0).isLt
  have h1 : (i 1).val < 128 := (i 1).isLt
  let t : Fin cfg0.N := ⟨31, by rw [show cfg0.N = 32 from N_0]; omega⟩
  obtain ⟨-, -, -, -, ⟨p0, p1⟩⟩ := places t
  refine ⟨t, (flush0_4 t).mpr rfl, ?_⟩
  show i ∈ ((View.whole main_v0_1).slice (win0_4.rect t)).set
  rw [View.set_slice_whole, Rect.mem_set_unit]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

section Reference

open Cert.ConvBackRefIdeal (S_ S8195x8x128)

/-- The padded input's rows from the `k`-th. -/
theorem shifted (x : S8192x8x128.Idx → EReal) (v : S_.Idx → EReal) (hv : ∀ i, v i = 0) (k : Fin 4) (hu : 0 < S_.numel)
    (hp : S8192x8x128.Pads ![3, 0, 0] ![0, 0, 0] ![0, 0, 0] S8195x8x128) (hs : S8195x8x128.Slices ![k.val, 0, 0] S8192x8x128)
    (u : Fin 8192) (a : Fin 8) (b : Fin 128) :
    extractStridedSlice S8192x8x128 ![k.val, 0, 0] (pad S8195x8x128 ![3, 0, 0] ![0, 0, 0] ![0, 0, 0] x v hp hu) hs (ix3 u a b)
      = past x (u.val + k.val + 29) (ix2 a b) := by
  have hk := k.isLt
  have hl := u.isLt
  by_cases h : 3 ≤ k.val + u.val
  · refine (pad_apply_of_inside _ _ _ x v hp hu _ (ix3 (⟨k.val + u.val - 3, by omega⟩ : Fin 8192) a b) fun d => ?_).trans ?_
    · match d with
      | ⟨0, _⟩ => show k.val + u.val = 3 + (k.val + u.val - 3) * (0 + 1); omega
      | ⟨1, _⟩ => show 0 + a.val = 0 + a.val * (0 + 1); omega
      | ⟨2, _⟩ => show 0 + b.val = 0 + b.val * (0 + 1); omega
    · rw [past, if_neg (by omega)]
      refine Products.at3_eq x _ ?_ rfl rfl
      show k.val + u.val - 3 = u.val + k.val + 29 - 32
      omega
  · refine (pad_apply_of_not_inside _ _ _ x v hp hu _ (0 : Fin 3) fun hd => h ?_).trans ?_
    · exact hd.1
    · rw [past, if_pos (by omega)]
      exact hv _

/-- A sum over the rows. -/
theorem reduced (w : FVec Ideal S8192x8x128 .f32) (hr : S8192x8x128.ReducesTo [0] S8x128) (hu : 0 < S_.numel) (a : Fin 8) (b : Fin 128) :
    Host.reduceAdd w (constant S_ .f32 0x00000000#32) hr hu (ix2 a b) = ∑ r : Fin 8192, w (ix3 r a b) := by
  pointwise
  rfl

/-- Four rows of tiles put together, the `k`-th of them `G`. -/
theorem stacked (f0 f1 f2 f3 : S8x128.Idx → EReal) (hb : S8x128.BroadcastsInDim S1x8x128 (![1, 2] : Fin 2 → Fin S1x8x128.rank))
    (hc : Shape.Concatenates [S1x8x128, S1x8x128, S1x8x128, S1x8x128] S4x8x128 0) (a : Fin 8) (b : Fin 128) (G : Fin 4 → EReal)
    (h0 : f0 (ix2 a b) = G 0) (h1 : f1 (ix2 a b) = G 1) (h2 : f2 (ix2 a b) = G 2) (h3 : f3 (ix2 a b) = G 3) (k : Fin 4) :
    concatenate S4x8x128 0
      [⟨S1x8x128, broadcastInDim S1x8x128 ![1, 2] hb f0⟩, ⟨S1x8x128, broadcastInDim S1x8x128 ![1, 2] hb f1⟩,
        ⟨S1x8x128, broadcastInDim S1x8x128 ![1, 2] hb f2⟩, ⟨S1x8x128, broadcastInDim S1x8x128 ![1, 2] hb f3⟩]
      hc (ix3 k a b) = G k := by
  fin_cases k
  on_goal 1 => refine Eq.trans ?_ h0
  on_goal 2 => refine Eq.trans ?_ h1
  on_goal 3 => refine Eq.trans ?_ h2
  on_goal 4 => refine Eq.trans ?_ h3
  all_goals
    pointwise
    rfl

/-- A tap's sum. -/
theorem summed_tap (d x : FVec Ideal S8192x8x128 .f32) (v : FVec Ideal S_ .f32) (hv : ∀ i, v i = 0) (hu : 0 < S_.numel)
    (hp : S8192x8x128.Pads ![3, 0, 0] ![0, 0, 0] ![0, 0, 0] S8195x8x128) (hr : S8192x8x128.ReducesTo [0] S8x128) (a : Fin 8) (b : Fin 128)
    (k : Fin 4) (n : ℕ) (hn : n = k.val) (hs : S8195x8x128.Slices ![n, 0, 0] S8192x8x128) :
    Host.reduceAdd (mulf d (extractStridedSlice S8192x8x128 ![n, 0, 0] (pad S8195x8x128 ![3, 0, 0] ![0, 0, 0] ![0, 0, 0] x v hp hu) hs))
      (constant S_ .f32 0x00000000#32) hr hu (ix2 a b) = taps d x (ix3 k a b) := by
  subst hn
  refine (reduced _ hr hu a b).trans ?_
  refine Eq.trans (Finset.sum_congr rfl fun u _ => ?_) (Rows.all 8192 fun u => tile d u (ix2 a b) * past x (u + k.val + 29) (ix2 a b))
  exact congrArg₂ (· * ·) (Products.at3_eq d _ rfl rfl rfl) (shifted x v hv k hu hp hs u a b)

/-- The reference's sums are the taps. -/
theorem taps_reference (d x : FVec Ideal S8192x8x128 .f32) (hu : 0 < S_.numel)
    (hp : S8192x8x128.Pads ![3, 0, 0] ![0, 0, 0] ![0, 0, 0] S8195x8x128)
    (hs0 : S8195x8x128.Slices ![0, 0, 0] S8192x8x128) (hs1 : S8195x8x128.Slices ![1, 0, 0] S8192x8x128)
    (hs2 : S8195x8x128.Slices ![2, 0, 0] S8192x8x128) (hs3 : S8195x8x128.Slices ![3, 0, 0] S8192x8x128)
    (hr : S8192x8x128.ReducesTo [0] S8x128) (hb : S8x128.BroadcastsInDim S1x8x128 (![1, 2] : Fin 2 → Fin S1x8x128.rank))
    (hc : Shape.Concatenates [S1x8x128, S1x8x128, S1x8x128, S1x8x128] S4x8x128 0) :
    concatenate S4x8x128 0
      [⟨S1x8x128, broadcastInDim S1x8x128 ![1, 2] hb (Host.reduceAdd (mulf d (extractStridedSlice S8192x8x128 ![0, 0, 0]
          (pad S8195x8x128 ![3, 0, 0] ![0, 0, 0] ![0, 0, 0] x (sitofp .f32 (constantI S_ 32 0#32)) hp hu) hs0)) (constant S_ .f32 0x00000000#32) hr hu)⟩,
        ⟨S1x8x128, broadcastInDim S1x8x128 ![1, 2] hb (Host.reduceAdd (mulf d (extractStridedSlice S8192x8x128 ![1, 0, 0]
          (pad S8195x8x128 ![3, 0, 0] ![0, 0, 0] ![0, 0, 0] x (sitofp .f32 (constantI S_ 32 0#32)) hp hu) hs1)) (constant S_ .f32 0x00000000#32) hr hu)⟩,
        ⟨S1x8x128, broadcastInDim S1x8x128 ![1, 2] hb (Host.reduceAdd (mulf d (extractStridedSlice S8192x8x128 ![2, 0, 0]
          (pad S8195x8x128 ![3, 0, 0] ![0, 0, 0] ![0, 0, 0] x (sitofp .f32 (constantI S_ 32 0#32)) hp hu) hs2)) (constant S_ .f32 0x00000000#32) hr hu)⟩,
        ⟨S1x8x128, broadcastInDim S1x8x128 ![1, 2] hb (Host.reduceAdd (mulf d (extractStridedSlice S8192x8x128 ![3, 0, 0]
          (pad S8195x8x128 ![3, 0, 0] ![0, 0, 0] ![0, 0, 0] x (sitofp .f32 (constantI S_ 32 0#32)) hp hu) hs3)) (constant S_ .f32 0x00000000#32) hr hu)⟩]
      hc = taps d x := by
  have zero : ∀ i, (sitofp (F := Ideal) .f32 (constantI S_ 32 0#32)) i = 0 := fun i => by
    show (((0#32 : BitVec 32).toInt : ℝ) : EReal) = 0
    simp
  funext y
  obtain ⟨k, a, b, rfl⟩ : ∃ (k : Fin 4) (a : Fin 8) (b : Fin 128), y = ix3 k a b := ⟨y 0, y 1, y 2, eq_ix3 y⟩
  exact stacked _ _ _ _ hb hc a b (fun k => taps d x (ix3 k a b)) (summed_tap d x _ zero hu hp hr a b 0 0 rfl hs0)
    (summed_tap d x _ zero hu hp hr a b 1 1 rfl hs1) (summed_tap d x _ zero hu hp hr a b 2 2 rfl hs2)
    (summed_tap d x _ zero hu hp hr a b 3 3 rfl hs3) k

/-- The reference's sum is the offset. -/
theorem offset_reference (d : FVec Ideal S8192x8x128 .f32) (hr : S8192x8x128.ReducesTo [0] S8x128) (hu : 0 < S_.numel) :
    Host.reduceAdd d (constant S_ .f32 0x00000000#32) hr hu = offset d := by
  funext j
  obtain ⟨a, b, rfl⟩ : ∃ (a : Fin 8) (b : Fin 128), j = ix2 a b := ⟨j 0, j 1, eq_ix2 j⟩
  refine (reduced d hr hu a b).trans ?_
  refine Eq.trans (Finset.sum_congr rfl fun u _ => ?_) (Rows.all 8192 fun u => tile d u (ix2 a b))
  exact Products.at3_eq d _ rfl rfl rfl

end Reference

theorem frame_bits : Cert.quiescent_ConvBack := fun m g _ => Cert.ConvBack.Gen.frame m g

theorem frame_ideal : Cert.quiescent_ConvBackIdeal := fun m g _ => Cert.ConvBackIdeal.Gen.frame m g

theorem frame_ref : Cert.quiescent_ConvBackRefIdeal := fun m g _ =>
  (θ_run Cert.ConvBackRefIdeal.defs _ _).mono (fun r h => ⟨fun c => (h c).2.2, sem_eq_zero_of_no_sems (by decide) r.2⟩)
    (Cert.ConvBackRefIdeal.Value.run (F := Ideal) m g)

theorem value : Cert.algebraic_ConvBackIdeal_ConvBackRefIdeal := fun m g m' g' _ hm =>
  ⟨fun c => taps (V m c main_arg0) (V m c main_arg1), fun c => offset (V m c main_arg0),
    (θ_run Cert.ConvBackIdeal.defs _ _).mono (fun _ h c =>
      ⟨(h c).1.trans ((dats m 0 c).arrAt_eq_of_cover 3 _ (flushed_taps m c) covered_taps),
        (h c).2.1.trans ((dats m 0 c).arrAt_eq_of_cover 4 _ (flushed_offset m c) covered_offset), (h c).2.2⟩) (run_blocks m g),
    (θ_run Cert.ConvBackRefIdeal.defs _ _).mono (fun _ h c => ⟨(h c).1.trans (by
        obtain ⟨h0, h1⟩ := hm c
        rw [h0, h1]
        exact taps_reference (V m c main_arg0) (V m c main_arg1) _ _ _ _ _ _ _ _ _),
      (h c).2.1.trans (by
        obtain ⟨h0, h1⟩ := hm c
        rw [h0]
        exact offset_reference (V m c main_arg0) _ _), (h c).2.2⟩)
      (Cert.ConvBackRefIdeal.Value.run m' g')⟩

end Cert.ConvBackProof

end
-- ==== Proof.lean ====
/- The proof of the certificate's claims. -/
module

public import proofs.«01_k».proof.Defs
public import proofs.«01_k».proof.Proof.Gen.Swap
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapRef
public import proofs.«01_k».proof.Proof.Gen.SwapRefIdeal
public import proofs.«01_k».proof.Proof.Gen.SwapRefIdeal.Run
public import proofs.«01_k».proof.Proof.Gen.AllToAll
public import proofs.«01_k».proof.Proof.Gen.AllToAllIdeal
public import proofs.«01_k».proof.Proof.Gen.AllToAllIdeal.Skeleton
public import proofs.«01_k».proof.Proof.Gen.AllToAllIdeal.Launch
public import proofs.«01_k».proof.Proof.Gen.AllToAllRef
public import proofs.«01_k».proof.Proof.Gen.AllToAllRefIdeal
public import proofs.«01_k».proof.Proof.Gen.AllToAllRefIdeal.Run
public import proofs.«01_k».proof.Proof.Gen.Pair
public import proofs.«01_k».proof.Proof.Gen.PairIdeal
public import proofs.«01_k».proof.Proof.Gen.PairIdeal.Skeleton
public import proofs.«01_k».proof.Proof.Gen.PairIdeal.Launch
public import proofs.«01_k».proof.Proof.Gen.PairRef
public import proofs.«01_k».proof.Proof.Gen.PairRefIdeal
public import proofs.«01_k».proof.Proof.Gen.PairRefIdeal.Run
public import proofs.«01_k».proof.Proof.Gen.Gather
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherRef
public import proofs.«01_k».proof.Proof.Gen.GatherRefIdeal
public import proofs.«01_k».proof.Proof.Gen.Add
public import proofs.«01_k».proof.Proof.Gen.AddIdeal
public import proofs.«01_k».proof.Proof.Gen.AddRef
public import proofs.«01_k».proof.Proof.Gen.AddRefIdeal
public import proofs.«01_k».proof.Proof.Gen.AddIdeal.Value
public import proofs.«01_k».proof.Proof.Gen.AddRefIdeal.Run
public import proofs.«01_k».proof.Proof.Gen.Sum
public import proofs.«01_k».proof.Proof.Gen.SumIdeal
public import proofs.«01_k».proof.Proof.Gen.SumRefIdeal
public import proofs.«01_k».proof.Proof.Gen.SumIdeal.Value
public import proofs.«01_k».proof.Proof.Gen.SumRefIdeal.Run
public import proofs.«01_k».proof.Proof.Gen.AdamWNorm
public import proofs.«01_k».proof.Proof.Gen.AdamWNormIdeal
public import proofs.«01_k».proof.Proof.Gen.AdamWNormRefIdeal
public import proofs.«01_k».proof.Proof.Gen.AdamWNormIdeal.Value
public import proofs.«01_k».proof.Proof.Gen.AdamWNormRefIdeal.Run
public import proofs.«01_k».proof.Proof.Gen.AdamWFinal
public import proofs.«01_k».proof.Proof.Gen.AdamWFinalIdeal
public import proofs.«01_k».proof.Proof.Gen.AdamWFinalRefIdeal
public import proofs.«01_k».proof.Proof.Gen.AdamWFinalIdeal.Value
public import proofs.«01_k».proof.Proof.Gen.AdamWFinalRefIdeal.Run
public import proofs.«01_k».proof.Proof.Gen.AdamWChannel
public import proofs.«01_k».proof.Proof.Gen.AdamWChannelIdeal
public import proofs.«01_k».proof.Proof.Gen.AdamWChannelRefIdeal
public import proofs.«01_k».proof.Proof.Gen.AdamWChannelIdeal.Value
public import proofs.«01_k».proof.Proof.Gen.AdamWChannelRefIdeal.Run
public import proofs.«01_k».proof.Proof.Gen.AdamWConvA
public import proofs.«01_k».proof.Proof.Gen.AdamWConvAIdeal
public import proofs.«01_k».proof.Proof.Gen.AdamWConvARefIdeal
public import proofs.«01_k».proof.Proof.Gen.AdamWConvAIdeal.Value
public import proofs.«01_k».proof.Proof.Gen.AdamWConvARefIdeal.Run
public import proofs.«01_k».proof.Proof.Gen.AdamWConvB
public import proofs.«01_k».proof.Proof.Gen.AdamWConvBIdeal
public import proofs.«01_k».proof.Proof.Gen.AdamWConvBRefIdeal
public import proofs.«01_k».proof.Proof.Gen.AdamWConvBIdeal.Value
public import proofs.«01_k».proof.Proof.Gen.AdamWConvBRefIdeal.Run
public import proofs.«01_k».proof.Proof.Gen.AdamWGate
public import proofs.«01_k».proof.Proof.Gen.AdamWGateIdeal
public import proofs.«01_k».proof.Proof.Gen.AdamWGateRefIdeal
public import proofs.«01_k».proof.Proof.Gen.AdamWGateIdeal.Value
public import proofs.«01_k».proof.Proof.Gen.AdamWGateRefIdeal.Run
public import proofs.«01_k».proof.Proof.Gen.AdamWIn
public import proofs.«01_k».proof.Proof.Gen.AdamWInIdeal
public import proofs.«01_k».proof.Proof.Gen.AdamWInRefIdeal
public import proofs.«01_k».proof.Proof.Gen.AdamWInIdeal.Value
public import proofs.«01_k».proof.Proof.Gen.AdamWInRefIdeal.Run
public import proofs.«01_k».proof.Proof.Gen.AdamWOut
public import proofs.«01_k».proof.Proof.Gen.AdamWOutIdeal
public import proofs.«01_k».proof.Proof.Gen.AdamWOutRefIdeal
public import proofs.«01_k».proof.Proof.Gen.AdamWOutIdeal.Value
public import proofs.«01_k».proof.Proof.Gen.AdamWOutRefIdeal.Run
public import proofs.«01_k».proof.Proof.Gen.AdamWQkv
public import proofs.«01_k».proof.Proof.Gen.AdamWQkvIdeal
public import proofs.«01_k».proof.Proof.Gen.AdamWQkvRefIdeal
public import proofs.«01_k».proof.Proof.Gen.AdamWQkvIdeal.Value
public import proofs.«01_k».proof.Proof.Gen.AdamWQkvRefIdeal.Run
public import proofs.«01_k».proof.Proof.Gen.AdamWMlp
public import proofs.«01_k».proof.Proof.Gen.AdamWMlpIdeal
public import proofs.«01_k».proof.Proof.Gen.AdamWMlpRefIdeal
public import proofs.«01_k».proof.Proof.Gen.AdamWMlpIdeal.Value
public import proofs.«01_k».proof.Proof.Gen.AdamWMlpRefIdeal.Run
public import proofs.«01_k».proof.Proof.Gen.AdamWProj
public import proofs.«01_k».proof.Proof.Gen.AdamWProjIdeal
public import proofs.«01_k».proof.Proof.Gen.AdamWProjRefIdeal
public import proofs.«01_k».proof.Proof.Gen.AdamWProjIdeal.Value
public import proofs.«01_k».proof.Proof.Gen.AdamWProjRefIdeal.Run
public import proofs.«01_k».proof.Proof.Gen.AdamWPle
public import proofs.«01_k».proof.Proof.Gen.AdamWPleIdeal
public import proofs.«01_k».proof.Proof.Gen.AdamWPleRefIdeal
public import proofs.«01_k».proof.Proof.Gen.AdamWPleIdeal.Value
public import proofs.«01_k».proof.Proof.Gen.AdamWPleRefIdeal.Run
public import proofs.«01_k».proof.Proof.SwapClaims
public import proofs.«01_k».proof.Proof.AllToAllClaims
public import proofs.«01_k».proof.Proof.PairClaims
public import proofs.«01_k».proof.Proof.GatherClaims
public import proofs.«01_k».proof.Proof.SumsClaims
public import proofs.«01_k».proof.Proof.AdamWClaims
public import proofs.«01_k».proof.Proof.NnClaims
public import proofs.«01_k».proof.Proof.NtClaims
public import proofs.«01_k».proof.Proof.TnClaims
public import proofs.«01_k».proof.Proof.RowsClaims
public import proofs.«01_k».proof.Proof.LossClaims
public import proofs.«01_k».proof.Proof.HeadsClaims
public import proofs.«01_k».proof.Proof.ForwardClaims
public import proofs.«01_k».proof.Proof.ConvClaims

@[expose] public section

/-- The four exchanges of a layer, the two additions between them, the updates of the weights, the products, the loss, the norms, the
squared rectifier and the backward calls of the norms, of the gates' weights and of a convolution's weights: frames,
then per call that the ideal program is the kernel, and its values. -/
theorem Cert.Proof.claim : Cert.Claim :=
  ⟨Cert.Swap.Gen.facts, Cert.SwapIdeal.Gen.facts, Cert.SwapRefIdeal.Gen.facts, Cert.SwapRef.Gen.facts,
    Cert.AllToAll.Gen.facts, Cert.AllToAllIdeal.Gen.facts, Cert.AllToAllRefIdeal.Gen.facts, Cert.AllToAllRef.Gen.facts,
    Cert.Pair.Gen.facts, Cert.PairIdeal.Gen.facts, Cert.PairRefIdeal.Gen.facts, Cert.PairRef.Gen.facts,
    Cert.Gather.Gen.facts, Cert.GatherIdeal.Gen.facts, Cert.GatherRefIdeal.Gen.facts, Cert.GatherRef.Gen.facts,
    Cert.Add.Gen.facts, Cert.AddIdeal.Gen.facts, Cert.AddRefIdeal.Gen.facts, Cert.AddRef.Gen.facts,
    Cert.Sum.Gen.facts, Cert.SumIdeal.Gen.facts, Cert.SumRefIdeal.Gen.facts,
    Cert.AdamWNorm.Gen.facts, Cert.AdamWNormIdeal.Gen.facts, Cert.AdamWNormRefIdeal.Gen.facts,
    Cert.AdamWFinal.Gen.facts, Cert.AdamWFinalIdeal.Gen.facts, Cert.AdamWFinalRefIdeal.Gen.facts,
    Cert.AdamWChannel.Gen.facts, Cert.AdamWChannelIdeal.Gen.facts, Cert.AdamWChannelRefIdeal.Gen.facts,
    Cert.AdamWConvA.Gen.facts, Cert.AdamWConvAIdeal.Gen.facts, Cert.AdamWConvARefIdeal.Gen.facts,
    Cert.AdamWConvB.Gen.facts, Cert.AdamWConvBIdeal.Gen.facts, Cert.AdamWConvBRefIdeal.Gen.facts,
    Cert.AdamWGate.Gen.facts, Cert.AdamWGateIdeal.Gen.facts, Cert.AdamWGateRefIdeal.Gen.facts,
    Cert.AdamWIn.Gen.facts, Cert.AdamWInIdeal.Gen.facts, Cert.AdamWInRefIdeal.Gen.facts,
    Cert.AdamWOut.Gen.facts, Cert.AdamWOutIdeal.Gen.facts, Cert.AdamWOutRefIdeal.Gen.facts,
    Cert.AdamWQkv.Gen.facts, Cert.AdamWQkvIdeal.Gen.facts, Cert.AdamWQkvRefIdeal.Gen.facts,
    Cert.AdamWMlp.Gen.facts, Cert.AdamWMlpIdeal.Gen.facts, Cert.AdamWMlpRefIdeal.Gen.facts,
    Cert.AdamWProj.Gen.facts, Cert.AdamWProjIdeal.Gen.facts, Cert.AdamWProjRefIdeal.Gen.facts,
    Cert.AdamWPle.Gen.facts, Cert.AdamWPleIdeal.Gen.facts, Cert.AdamWPleRefIdeal.Gen.facts,
    Cert.NnIn.Gen.facts, Cert.NnInIdeal.Gen.facts, Cert.NnInRefIdeal.Gen.facts,
    Cert.NtIn.Gen.facts, Cert.NtInIdeal.Gen.facts, Cert.NtInRefIdeal.Gen.facts,
    Cert.TnIn.Gen.facts, Cert.TnInIdeal.Gen.facts, Cert.TnInRefIdeal.Gen.facts,
    Cert.NnSquare.Gen.facts, Cert.NnSquareIdeal.Gen.facts, Cert.NnSquareRefIdeal.Gen.facts,
    Cert.NtSquare.Gen.facts, Cert.NtSquareIdeal.Gen.facts, Cert.NtSquareRefIdeal.Gen.facts,
    Cert.TnSquare.Gen.facts, Cert.TnSquareIdeal.Gen.facts, Cert.TnSquareRefIdeal.Gen.facts,
    Cert.NnQkv.Gen.facts, Cert.NnQkvIdeal.Gen.facts, Cert.NnQkvRefIdeal.Gen.facts,
    Cert.NtQkv.Gen.facts, Cert.NtQkvIdeal.Gen.facts, Cert.NtQkvRefIdeal.Gen.facts,
    Cert.TnQkv.Gen.facts, Cert.TnQkvIdeal.Gen.facts, Cert.TnQkvRefIdeal.Gen.facts,
    Cert.NnUp.Gen.facts, Cert.NnUpIdeal.Gen.facts, Cert.NnUpRefIdeal.Gen.facts,
    Cert.NtUp.Gen.facts, Cert.NtUpIdeal.Gen.facts, Cert.NtUpRefIdeal.Gen.facts,
    Cert.TnUp.Gen.facts, Cert.TnUpIdeal.Gen.facts, Cert.TnUpRefIdeal.Gen.facts,
    Cert.NnDown.Gen.facts, Cert.NnDownIdeal.Gen.facts, Cert.NnDownRefIdeal.Gen.facts,
    Cert.NtDown.Gen.facts, Cert.NtDownIdeal.Gen.facts, Cert.NtDownRefIdeal.Gen.facts,
    Cert.TnDown.Gen.facts, Cert.TnDownIdeal.Gen.facts, Cert.TnDownRefIdeal.Gen.facts,
    Cert.TnProj.Gen.facts, Cert.TnProjIdeal.Gen.facts, Cert.TnProjRefIdeal.Gen.facts,
    Cert.NtAttn.Gen.facts, Cert.NtAttnIdeal.Gen.facts, Cert.NtAttnRefIdeal.Gen.facts,
    Cert.NormBack.Gen.facts, Cert.NormBackIdeal.Gen.facts, Cert.NormBackRefIdeal.Gen.facts,
    Cert.AddNormBack.Gen.facts, Cert.AddNormBackIdeal.Gen.facts, Cert.AddNormBackRefIdeal.Gen.facts,
    Cert.LossHead.Gen.facts, Cert.LossHeadIdeal.Gen.facts, Cert.LossHeadRefIdeal.Gen.facts,
    Cert.HeadsBack.Gen.facts, Cert.HeadsBackIdeal.Gen.facts, Cert.HeadsBackRefIdeal.Gen.facts,
    Cert.NormForward.Gen.facts, Cert.NormForwardIdeal.Gen.facts, Cert.NormForwardRefIdeal.Gen.facts,
    Cert.AddNormForward.Gen.facts, Cert.AddNormForwardIdeal.Gen.facts, Cert.AddNormForwardRefIdeal.Gen.facts,
    Cert.SquareForward.Gen.facts, Cert.SquareForwardIdeal.Gen.facts, Cert.SquareForwardRefIdeal.Gen.facts,
    Cert.ConvBack.Gen.facts, Cert.ConvBackIdeal.Gen.facts, Cert.ConvBackRefIdeal.Gen.facts,
    Cert.SwapProof.frame_bits, Cert.SwapProof.frame_ideal, Cert.SwapProof.frame_ref, Cert.SwapProof.frame_ref_bits,
    Cert.AllToAllProof.frame_bits, Cert.AllToAllProof.frame_ideal, Cert.AllToAllProof.frame_ref, Cert.AllToAllProof.frame_ref_bits,
    Cert.PairProof.frame_bits, Cert.PairProof.frame_ideal, Cert.PairProof.frame_ref, Cert.PairProof.frame_ref_bits,
    Cert.GatherProof.frame_bits, Cert.GatherProof.frame_ideal, Cert.GatherProof.frame_ref, Cert.GatherProof.frame_ref_bits,
    Cert.AddProof.frame_bits, Cert.AddProof.frame_ideal, Cert.AddProof.frame_ref, Cert.AddProof.frame_ref_bits,
    Cert.SumProof.frame_bits, Cert.SumProof.frame_ideal, Cert.SumProof.frame_ref,
    Cert.AdamWNormProof.frame_bits, Cert.AdamWNormProof.frame_ideal, Cert.AdamWNormProof.frame_ref,
    Cert.AdamWFinalProof.frame_bits, Cert.AdamWFinalProof.frame_ideal, Cert.AdamWFinalProof.frame_ref,
    Cert.AdamWChannelProof.frame_bits, Cert.AdamWChannelProof.frame_ideal, Cert.AdamWChannelProof.frame_ref,
    Cert.AdamWConvAProof.frame_bits, Cert.AdamWConvAProof.frame_ideal, Cert.AdamWConvAProof.frame_ref,
    Cert.AdamWConvBProof.frame_bits, Cert.AdamWConvBProof.frame_ideal, Cert.AdamWConvBProof.frame_ref,
    Cert.AdamWGateProof.frame_bits, Cert.AdamWGateProof.frame_ideal, Cert.AdamWGateProof.frame_ref,
    Cert.AdamWInProof.frame_bits, Cert.AdamWInProof.frame_ideal, Cert.AdamWInProof.frame_ref,
    Cert.AdamWOutProof.frame_bits, Cert.AdamWOutProof.frame_ideal, Cert.AdamWOutProof.frame_ref,
    Cert.AdamWQkvProof.frame_bits, Cert.AdamWQkvProof.frame_ideal, Cert.AdamWQkvProof.frame_ref,
    Cert.AdamWMlpProof.frame_bits, Cert.AdamWMlpProof.frame_ideal, Cert.AdamWMlpProof.frame_ref,
    Cert.AdamWProjProof.frame_bits, Cert.AdamWProjProof.frame_ideal, Cert.AdamWProjProof.frame_ref,
    Cert.AdamWPleProof.frame_bits, Cert.AdamWPleProof.frame_ideal, Cert.AdamWPleProof.frame_ref,
    Cert.NnInProof.frame_bits, Cert.NnInProof.frame_ideal, Cert.NnInProof.frame_ref,
    Cert.NtInProof.frame_bits, Cert.NtInProof.frame_ideal, Cert.NtInProof.frame_ref,
    Cert.TnInProof.frame_bits, Cert.TnInProof.frame_ideal, Cert.TnInProof.frame_ref,
    Cert.NnSquareProof.frame_bits, Cert.NnSquareProof.frame_ideal, Cert.NnSquareProof.frame_ref,
    Cert.NtSquareProof.frame_bits, Cert.NtSquareProof.frame_ideal, Cert.NtSquareProof.frame_ref,
    Cert.TnSquareProof.frame_bits, Cert.TnSquareProof.frame_ideal, Cert.TnSquareProof.frame_ref,
    Cert.NnQkvProof.frame_bits, Cert.NnQkvProof.frame_ideal, Cert.NnQkvProof.frame_ref,
    Cert.NtQkvProof.frame_bits, Cert.NtQkvProof.frame_ideal, Cert.NtQkvProof.frame_ref,
    Cert.TnQkvProof.frame_bits, Cert.TnQkvProof.frame_ideal, Cert.TnQkvProof.frame_ref,
    Cert.NnUpProof.frame_bits, Cert.NnUpProof.frame_ideal, Cert.NnUpProof.frame_ref,
    Cert.NtUpProof.frame_bits, Cert.NtUpProof.frame_ideal, Cert.NtUpProof.frame_ref,
    Cert.TnUpProof.frame_bits, Cert.TnUpProof.frame_ideal, Cert.TnUpProof.frame_ref,
    Cert.NnDownProof.frame_bits, Cert.NnDownProof.frame_ideal, Cert.NnDownProof.frame_ref,
    Cert.NtDownProof.frame_bits, Cert.NtDownProof.frame_ideal, Cert.NtDownProof.frame_ref,
    Cert.TnDownProof.frame_bits, Cert.TnDownProof.frame_ideal, Cert.TnDownProof.frame_ref,
    Cert.TnProjProof.frame_bits, Cert.TnProjProof.frame_ideal, Cert.TnProjProof.frame_ref,
    Cert.NtAttnProof.frame_bits, Cert.NtAttnProof.frame_ideal, Cert.NtAttnProof.frame_ref,
    Cert.NormBackProof.frame_bits, Cert.NormBackProof.frame_ideal, Cert.NormBackProof.frame_ref,
    Cert.AddNormBackProof.frame_bits, Cert.AddNormBackProof.frame_ideal, Cert.AddNormBackProof.frame_ref,
    Cert.LossHeadProof.frame_bits, Cert.LossHeadProof.frame_ideal, Cert.LossHeadProof.frame_ref,
    Cert.HeadsBackProof.frame_bits, Cert.HeadsBackProof.frame_ideal, Cert.HeadsBackProof.frame_ref,
    Cert.NormForwardProof.frame_bits, Cert.NormForwardProof.frame_ideal, Cert.NormForwardProof.frame_ref,
    Cert.AddNormForwardProof.frame_bits, Cert.AddNormForwardProof.frame_ideal, Cert.AddNormForwardProof.frame_ref,
    Cert.SquareForwardProof.frame_bits, Cert.SquareForwardProof.frame_ideal, Cert.SquareForwardProof.frame_ref,
    Cert.ConvBackProof.frame_bits, Cert.ConvBackProof.frame_ideal, Cert.ConvBackProof.frame_ref,
    trivial, Cert.SwapProof.value_ideal, Cert.SwapProof.value_bits,
    trivial, Cert.AllToAllProof.value_ideal, Cert.AllToAllProof.value_bits,
    trivial, Cert.PairProof.value_ideal, Cert.PairProof.value_bits,
    trivial, Cert.GatherProof.value_ideal, Cert.GatherProof.value_bits,
    trivial, Cert.AddProof.value_ideal, Cert.AddProof.value_bits,
    trivial, Cert.SumProof.value,
    trivial, Cert.AdamWNormProof.value,
    trivial, Cert.AdamWFinalProof.value,
    trivial, Cert.AdamWChannelProof.value,
    trivial, Cert.AdamWConvAProof.value,
    trivial, Cert.AdamWConvBProof.value,
    trivial, Cert.AdamWGateProof.value,
    trivial, Cert.AdamWInProof.value,
    trivial, Cert.AdamWOutProof.value,
    trivial, Cert.AdamWQkvProof.value,
    trivial, Cert.AdamWMlpProof.value,
    trivial, Cert.AdamWProjProof.value,
    trivial, Cert.AdamWPleProof.value,
    trivial, Cert.NnInProof.value,
    trivial, Cert.NtInProof.value,
    trivial, Cert.TnInProof.value,
    trivial, Cert.NnSquareProof.value,
    trivial, Cert.NtSquareProof.value,
    trivial, Cert.TnSquareProof.value,
    trivial, Cert.NnQkvProof.value,
    trivial, Cert.NtQkvProof.value,
    trivial, Cert.TnQkvProof.value,
    trivial, Cert.NnUpProof.value,
    trivial, Cert.NtUpProof.value,
    trivial, Cert.TnUpProof.value,
    trivial, Cert.NnDownProof.value,
    trivial, Cert.NtDownProof.value,
    trivial, Cert.TnDownProof.value,
    trivial, Cert.TnProjProof.value,
    trivial, Cert.NtAttnProof.value,
    trivial, Cert.NormBackProof.value,
    trivial, Cert.AddNormBackProof.value,
    trivial, Cert.LossHeadProof.value,
    trivial, Cert.HeadsBackProof.value,
    trivial, Cert.NormForwardProof.value,
    trivial, Cert.AddNormForwardProof.value,
    trivial, Cert.SquareForwardProof.value,
    trivial, Cert.ConvBackProof.value⟩

end
